-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_finite [hPre_conv_finite : Cert.Pre_conv_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).2.2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).2.2.2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6)) (m ((c.tc : Thread Cert.ConvKernelIdeal.nD Cert.ConvKernelIdeal.τ).loc Cert.ConvKernelIdeal.main_arg7))).2.2.2.2.2 = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_finite [hPre_conv_finite : Cert.Pre_conv_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).2.2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).2.2.2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6)) (m ((c.tc : Thread Cert.ConvReferenceIdeal.nD Cert.ConvReferenceIdeal.τ).loc Cert.ConvReferenceIdeal.main_arg7))).2.2.2.2.2 = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvKernelIdeal_qkv_finite [hPre_qkv_finite : Cert.Pre_qkv_finite.Facts] (m : (ℓ : Loc Cert.QkvKernelIdeal.nD Cert.QkvKernelIdeal.τ Cert.QkvKernelIdeal.sig) → Buf (Elt Ideal) ℓ) : Prop :=
  ∀ c : Dev Cert.QkvKernelIdeal.nD,
    (Cert.Pre_qkv_finite.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3))).1 = (fun _ => 1#1)
    ∧ (Cert.Pre_qkv_finite.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3))).2.1 = (fun _ => 1#1)
    ∧ (Cert.Pre_qkv_finite.fn (F := Ideal) (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3))).2.2 = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_qkv_finite [hPre_qkv_finite : Cert.Pre_qkv_finite.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3))).1 = (fun _ => 1#1)
    ∧ (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3))).2.1 = (fun _ => 1#1)
    ∧ (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3))).2.2 = (fun _ => 1#1)

def Pre_ScalKernel (m : (ℓ : Loc Cert.ScalKernel.nD Cert.ScalKernel.τ Cert.ScalKernel.sig) → Buf (Elt Bits) ℓ) : Prop :=
  True

def Pre_ScalKernelIdeal (m : (ℓ : Loc Cert.ScalKernelIdeal.nD Cert.ScalKernelIdeal.τ Cert.ScalKernelIdeal.sig) → Buf (Elt Ideal) ℓ) : Prop :=
  True

def Pre_ScalKernelIdeal_scal_finite [hPre_scal_finite : Cert.Pre_scal_finite.Facts] (m : (ℓ : Loc Cert.ScalKernelIdeal.nD Cert.ScalKernelIdeal.τ Cert.ScalKernelIdeal.sig) → Buf (Elt Ideal) ℓ) : Prop :=
  ∀ c : Dev Cert.ScalKernelIdeal.nD,
    (Cert.Pre_scal_finite.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).1 = (fun _ => 1#1)
    ∧ (Cert.Pre_scal_finite.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2 = (fun _ => 1#1)

def Pre_ScalKernelIdeal_scal_small [hPre_scal_small : Cert.Pre_scal_small.Facts] (m : (ℓ : Loc Cert.ScalKernelIdeal.nD Cert.ScalKernelIdeal.τ Cert.ScalKernelIdeal.sig) → Buf (Elt Ideal) ℓ) : Prop :=
  ∀ c : Dev Cert.ScalKernelIdeal.nD,
    (Cert.Pre_scal_small.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).1 = (fun _ => 1#1)
    ∧ (Cert.Pre_scal_small.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2.1 = (fun _ => 1#1)
    ∧ (Cert.Pre_scal_small.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2.2.1 = (fun _ => 1#1)
    ∧ (Cert.Pre_scal_small.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2.2.2 = (fun _ => 1#1)

def Pre_ScalReferenceIdeal (m : (ℓ : Loc Cert.ScalReferenceIdeal.nD Cert.ScalReferenceIdeal.τ Cert.ScalReferenceIdeal.sig) → Buf (Elt Ideal) ℓ) : Prop :=
  True

def Pre_ScalReferenceIdeal_scal_finite [hPre_scal_finite : Cert.Pre_scal_finite.Facts] (m : (ℓ : Loc Cert.ScalReferenceIdeal.nD Cert.ScalReferenceIdeal.τ Cert.ScalReferenceIdeal.sig) → Buf (Elt Ideal) ℓ) : Prop :=
  ∀ c : Dev Cert.ScalReferenceIdeal.nD,
    (Cert.Pre_scal_finite.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).1 = (fun _ => 1#1)
    ∧ (Cert.Pre_scal_finite.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).2 = (fun _ => 1#1)

def Pre_ScalReferenceIdeal_scal_small [hPre_scal_small : Cert.Pre_scal_small.Facts] (m : (ℓ : Loc Cert.ScalReferenceIdeal.nD Cert.ScalReferenceIdeal.τ Cert.ScalReferenceIdeal.sig) → Buf (Elt Ideal) ℓ) : Prop :=
  ∀ c : Dev Cert.ScalReferenceIdeal.nD,
    (Cert.Pre_scal_small.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).1 = (fun _ => 1#1)
    ∧ (Cert.Pre_scal_small.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).2.1 = (fun _ => 1#1)
    ∧ (Cert.Pre_scal_small.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).2.2.1 = (fun _ => 1#1)
    ∧ (Cert.Pre_scal_small.fn (F := Ideal) (m ((c.tc : Thread Cert.ScalReferenceIdeal.nD Cert.ScalReferenceIdeal.τ).loc Cert.ScalReferenceIdeal.main_arg0)) (m ((c.tc : Thread Cert.ScalReferenceIdeal.nD Cert.ScalReferenceIdeal.τ).loc Cert.ScalReferenceIdeal.main_arg1)) (m ((c.tc : Thread Cert.ScalReferenceIdeal.nD Cert.ScalReferenceIdeal.τ).loc Cert.ScalReferenceIdeal.main_arg2)) (m ((c.tc : Thread Cert.ScalReferenceIdeal.nD Cert.ScalReferenceIdeal.τ).loc Cert.ScalReferenceIdeal.main_arg3)) (m ((c.tc : Thread Cert.ScalReferenceIdeal.nD Cert.ScalReferenceIdeal.τ).loc Cert.ScalReferenceIdeal.main_arg4)) (m ((c.tc : Thread Cert.ScalReferenceIdeal.nD Cert.ScalReferenceIdeal.τ).loc Cert.ScalReferenceIdeal.main_arg5)) (m ((c.tc : Thread Cert.ScalReferenceIdeal.nD Cert.ScalReferenceIdeal.τ).loc Cert.ScalReferenceIdeal.main_arg6)) (m ((c.tc : Thread Cert.ScalReferenceIdeal.nD Cert.ScalReferenceIdeal.τ).loc Cert.ScalReferenceIdeal.main_arg7))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_FgateKernel (m : (ℓ : Loc Cert.FgateKernel.nD Cert.FgateKernel.τ Cert.FgateKernel.sig) → Buf (Elt Bits) ℓ) : Prop :=
  True

def Pre_FgateKernelIdeal (m : (ℓ : Loc Cert.FgateKernelIdeal.nD Cert.FgateKernelIdeal.τ Cert.FgateKernelIdeal.sig) → Buf (Elt Ideal) ℓ) : Prop :=
  True

def Pre_FgateReferenceIdeal (m : (ℓ : Loc Cert.FgateReferenceIdeal.nD Cert.FgateReferenceIdeal.τ Cert.FgateReferenceIdeal.sig) → Buf (Elt Ideal) ℓ) : Prop :=
  True

def Pre_FconvKernel (m : (ℓ : Loc Cert.FconvKernel.nD Cert.FconvKernel.τ Cert.FconvKernel.sig) → Buf (Elt Bits) ℓ) : Prop :=
  True

def Pre_FconvKernelIdeal (m : (ℓ : Loc Cert.FconvKernelIdeal.nD Cert.FconvKernelIdeal.τ Cert.FconvKernelIdeal.sig) → Buf (Elt Ideal) ℓ) : Prop :=
  True

def Pre_FconvReferenceIdeal (m : (ℓ : Loc Cert.FconvReferenceIdeal.nD Cert.FconvReferenceIdeal.τ Cert.FconvReferenceIdeal.sig) → Buf (Elt Ideal) ℓ) : Prop :=
  True

def Pre_FqkvKernel (m : (ℓ : Loc Cert.FqkvKernel.nD Cert.FqkvKernel.τ Cert.FqkvKernel.sig) → Buf (Elt Bits) ℓ) : Prop :=
  True

def Pre_FqkvKernelIdeal (m : (ℓ : Loc Cert.FqkvKernelIdeal.nD Cert.FqkvKernelIdeal.τ Cert.FqkvKernelIdeal.sig) → Buf (Elt Ideal) ℓ) : Prop :=
  True

def Pre_FqkvReferenceIdeal (m : (ℓ : Loc Cert.FqkvReferenceIdeal.nD Cert.FqkvReferenceIdeal.τ Cert.FqkvReferenceIdeal.sig) → Buf (Elt Ideal) ℓ) : Prop :=
  True

def Pre_FscalKernel (m : (ℓ : Loc Cert.FscalKernel.nD Cert.FscalKernel.τ Cert.FscalKernel.sig) → Buf (Elt Bits) ℓ) : Prop :=
  True

def Pre_FscalKernelIdeal (m : (ℓ : Loc Cert.FscalKernelIdeal.nD Cert.FscalKernelIdeal.τ Cert.FscalKernelIdeal.sig) → Buf (Elt Ideal) ℓ) : Prop :=
  True

def Pre_FscalKernelIdeal_fscal_small [hPre_fscal_small : Cert.Pre_fscal_small.Facts] (m : (ℓ : Loc Cert.FscalKernelIdeal.nD Cert.FscalKernelIdeal.τ Cert.FscalKernelIdeal.sig) → Buf (Elt Ideal) ℓ) : Prop :=
  ∀ c : Dev Cert.FscalKernelIdeal.nD,
    (Cert.Pre_fscal_small.fn (F := Ideal) (m ((c.tc : Thread Cert.FscalKernelIdeal.nD Cert.FscalKernelIdeal.τ).loc Cert.FscalKernelIdeal.main_arg0)) (m ((c.tc : Thread Cert.FscalKernelIdeal.nD Cert.FscalKernelIdeal.τ).loc Cert.FscalKernelIdeal.main_arg1)) (m ((c.tc : Thread Cert.FscalKernelIdeal.nD Cert.FscalKernelIdeal.τ).loc Cert.FscalKernelIdeal.main_arg2)) (m ((c.tc : Thread Cert.FscalKernelIdeal.nD Cert.FscalKernelIdeal.τ).loc Cert.FscalKernelIdeal.main_arg3))) = (fun _ => 1#1)

def Pre_FscalReferenceIdeal (m : (ℓ : Loc Cert.FscalReferenceIdeal.nD Cert.FscalReferenceIdeal.τ Cert.FscalReferenceIdeal.sig) → Buf (Elt Ideal) ℓ) : Prop :=
  True

def Pre_FscalReferenceIdeal_fscal_small [hPre_fscal_small : Cert.Pre_fscal_small.Facts] (m : (ℓ : Loc Cert.FscalReferenceIdeal.nD Cert.FscalReferenceIdeal.τ Cert.FscalReferenceIdeal.sig) → Buf (Elt Ideal) ℓ) : Prop :=
  ∀ c : Dev Cert.FscalReferenceIdeal.nD,
    (Cert.Pre_fscal_small.fn (F := Ideal) (m ((c.tc : Thread Cert.FscalReferenceIdeal.nD Cert.FscalReferenceIdeal.τ).loc Cert.FscalReferenceIdeal.main_arg0)) (m ((c.tc : Thread Cert.FscalReferenceIdeal.nD Cert.FscalReferenceIdeal.τ).loc Cert.FscalReferenceIdeal.main_arg1)) (m ((c.tc : Thread Cert.FscalReferenceIdeal.nD Cert.FscalReferenceIdeal.τ).loc Cert.FscalReferenceIdeal.main_arg2)) (m ((c.tc : Thread Cert.FscalReferenceIdeal.nD Cert.FscalReferenceIdeal.τ).loc Cert.FscalReferenceIdeal.main_arg3))) = (fun _ => 1#1)

def Pre_FprojKernel (m : (ℓ : Loc Cert.FprojKernel.nD Cert.FprojKernel.τ Cert.FprojKernel.sig) → Buf (Elt Bits) ℓ) : Prop :=
  True

def Pre_FprojKernelIdeal (m : (ℓ : Loc Cert.FprojKernelIdeal.nD Cert.FprojKernelIdeal.τ Cert.FprojKernelIdeal.sig) → Buf (Elt Ideal) ℓ) : Prop :=
  True

def Pre_FprojReferenceIdeal (m : (ℓ : Loc Cert.FprojReferenceIdeal.nD Cert.FprojReferenceIdeal.τ Cert.FprojReferenceIdeal.sig) → Buf (Elt Ideal) ℓ) : Prop :=
  True

def Pre_GdnKernel (m : (ℓ : Loc Cert.GdnKernel.nD Cert.GdnKernel.τ Cert.GdnKernel.sig) → Buf (Elt Bits) ℓ) : Prop :=
  True

def Pre_GdnKernelIdeal (m : (ℓ : Loc Cert.GdnKernelIdeal.nD Cert.GdnKernelIdeal.τ Cert.GdnKernelIdeal.sig) → Buf (Elt Ideal) ℓ) : Prop :=
  True

def Pre_TnKernel (m : (ℓ : Loc Cert.TnKernel.nD Cert.TnKernel.τ Cert.TnKernel.sig) → Buf (Elt Bits) ℓ) : Prop :=
  True

def Pre_TnKernelIdeal (m : (ℓ : Loc Cert.TnKernelIdeal.nD Cert.TnKernelIdeal.τ Cert.TnKernelIdeal.sig) → Buf (Elt Ideal) ℓ) : Prop :=
  True

def Pre_TnReferenceIdeal (m : (ℓ : Loc Cert.TnReferenceIdeal.nD Cert.TnReferenceIdeal.τ Cert.TnReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_PackKernel (m : (ℓ : Loc Cert.PackKernel.nD Cert.PackKernel.τ Cert.PackKernel.sig) → Buf (Elt Bits) ℓ) : Prop :=
  True

def Pre_PackKernelIdeal (m : (ℓ : Loc Cert.PackKernelIdeal.nD Cert.PackKernelIdeal.τ Cert.PackKernelIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def Pre_BlocksKernel (m : (ℓ : Loc Cert.BlocksKernel.nD Cert.BlocksKernel.τ Cert.BlocksKernel.sig) → Buf (Elt Bits) ℓ) : Prop :=
  True

def Pre_BlocksKernelIdeal (m : (ℓ : Loc Cert.BlocksKernelIdeal.nD Cert.BlocksKernelIdeal.τ Cert.BlocksKernelIdeal.sig) → Buf (Elt Ideal) ℓ) : Prop :=
  True

def Pre_BlocksReferenceIdeal (m : (ℓ : Loc Cert.BlocksReferenceIdeal.nD Cert.BlocksReferenceIdeal.τ Cert.BlocksReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6)
      ∧ r.2.mem ((c.tc : Thread Cert.ConvKernel.nD Cert.ConvKernel.τ).loc Cert.ConvKernel.main_arg7) = m ((c.tc : Thread Cert.ConvKernel.nD Cert.ConvKernel.τ).loc Cert.ConvKernel.main_arg7))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ r.2.sem = fun _ => 0)

def quiescent_ConvKernelIdeal_pre_conv_finite [hConvKernelIdeal : Cert.ConvKernelIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_ConvReferenceIdeal_pre_conv_finite [hConvReferenceIdeal : Cert.ConvReferenceIdeal.Facts] [hPre_conv_finite : Cert.Pre_conv_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3))
      ∧ r.2.sem = fun _ => 0)

def quiescent_QkvKernelIdeal_pre_qkv_finite [hQkvKernelIdeal : Cert.QkvKernelIdeal.Facts] [hPre_qkv_finite : Cert.Pre_qkv_finite.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal_qkv_finite m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_QkvReferenceIdeal_pre_qkv_finite [hQkvReferenceIdeal : Cert.QkvReferenceIdeal.Facts] [hPre_qkv_finite : Cert.Pre_qkv_finite.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_qkv_finite m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_ScalKernel [hScalKernel : Cert.ScalKernel.Facts] : Prop :=
  ∀ (m : (ℓ : Loc Cert.ScalKernel.nD Cert.ScalKernel.τ Cert.ScalKernel.sig) → Buf (Elt Bits) ℓ) (g : Dev Cert.ScalKernel.nD → PrngReg), Pre_ScalKernel m →
    θ_run (Cert.ScalKernel.defs (F := Bits)) (onTc (τ := Cert.ScalKernel.τ) (Cert.ScalKernel.main (F := Bits))) ⟨m, fun _ => 0, g⟩ (fun r => (∀ c : Dev Cert.ScalKernel.nD,
      r.2.mem ((c.tc : Thread Cert.ScalKernel.nD Cert.ScalKernel.τ).loc Cert.ScalKernel.main_arg0) = m ((c.tc : Thread Cert.ScalKernel.nD Cert.ScalKernel.τ).loc Cert.ScalKernel.main_arg0)
      ∧ r.2.mem ((c.tc : Thread Cert.ScalKernel.nD Cert.ScalKernel.τ).loc Cert.ScalKernel.main_arg1) = m ((c.tc : Thread Cert.ScalKernel.nD Cert.ScalKernel.τ).loc Cert.ScalKernel.main_arg1)
      ∧ r.2.mem ((c.tc : Thread Cert.ScalKernel.nD Cert.ScalKernel.τ).loc Cert.ScalKernel.main_arg2) = m ((c.tc : Thread Cert.ScalKernel.nD Cert.ScalKernel.τ).loc Cert.ScalKernel.main_arg2)
      ∧ r.2.mem ((c.tc : Thread Cert.ScalKernel.nD Cert.ScalKernel.τ).loc Cert.ScalKernel.main_arg3) = m ((c.tc : Thread Cert.ScalKernel.nD Cert.ScalKernel.τ).loc Cert.ScalKernel.main_arg3)
      ∧ r.2.mem ((c.tc : Thread Cert.ScalKernel.nD Cert.ScalKernel.τ).loc Cert.ScalKernel.main_arg4) = m ((c.tc : Thread Cert.ScalKernel.nD Cert.ScalKernel.τ).loc Cert.ScalKernel.main_arg4)
      ∧ r.2.mem ((c.tc : Thread Cert.ScalKernel.nD Cert.ScalKernel.τ).loc Cert.ScalKernel.main_arg5) = m ((c.tc : Thread Cert.ScalKernel.nD Cert.ScalKernel.τ).loc Cert.ScalKernel.main_arg5)
      ∧ r.2.mem ((c.tc : Thread Cert.ScalKernel.nD Cert.ScalKernel.τ).loc Cert.ScalKernel.main_arg6) = m ((c.tc : Thread Cert.ScalKernel.nD Cert.ScalKernel.τ).loc Cert.ScalKernel.main_arg6)
      ∧ r.2.mem ((c.tc : Thread Cert.ScalKernel.nD Cert.ScalKernel.τ).loc Cert.ScalKernel.main_arg7) = m ((c.tc : Thread Cert.ScalKernel.nD Cert.ScalKernel.τ).loc Cert.ScalKernel.main_arg7))
      ∧ r.2.sem = fun _ => 0)

def quiescent_ScalKernelIdeal [hScalKernelIdeal : Cert.ScalKernelIdeal.Facts] : Prop :=
  ∀ (m : (ℓ : Loc Cert.ScalKernelIdeal.nD Cert.ScalKernelIdeal.τ Cert.ScalKernelIdeal.sig) → Buf (Elt Ideal) ℓ) (g : Dev Cert.ScalKernelIdeal.nD → PrngReg), Pre_ScalKernelIdeal m →
    θ_run (Cert.ScalKernelIdeal.defs (F := Ideal)) (onTc (τ := Cert.ScalKernelIdeal.τ) (Cert.ScalKernelIdeal.main (F := Ideal))) ⟨m, fun _ => 0, g⟩ (fun r => (∀ c : Dev Cert.ScalKernelIdeal.nD,
      r.2.mem ((c.tc : Thread Cert.ScalKernelIdeal.nD Cert.ScalKernelIdeal.τ).loc Cert.ScalKernelIdeal.main_arg0) = m ((c.tc : Thread Cert.ScalKernelIdeal.nD Cert.ScalKernelIdeal.τ).loc Cert.ScalKernelIdeal.main_arg0)
      ∧ r.2.mem ((c.tc : Thread Cert.ScalKernelIdeal.nD Cert.ScalKernelIdeal.τ).loc Cert.ScalKernelIdeal.main_arg1) = m ((c.tc : Thread Cert.ScalKernelIdeal.nD Cert.ScalKernelIdeal.τ).loc Cert.ScalKernelIdeal.main_arg1)
      ∧ r.2.mem ((c.tc : Thread Cert.ScalKernelIdeal.nD Cert.ScalKernelIdeal.τ).loc Cert.ScalKernelIdeal.main_arg2) = m ((c.tc : Thread Cert.ScalKernelIdeal.nD Cert.ScalKernelIdeal.τ).loc Cert.ScalKernelIdeal.main_arg2)
      ∧ r.2.mem ((c.tc : Thread Cert.ScalKernelIdeal.nD Cert.ScalKernelIdeal.τ).loc Cert.ScalKernelIdeal.main_arg3) = m ((c.tc : Thread Cert.ScalKernelIdeal.nD Cert.ScalKernelIdeal.τ).loc Cert.ScalKernelIdeal.main_arg3)
      ∧ r.2.mem ((c.tc : Thread Cert.ScalKernelIdeal.nD Cert.ScalKernelIdeal.τ).loc Cert.ScalKernelIdeal.main_arg4) = m ((c.tc : Thread Cert.ScalKernelIdeal.nD Cert.ScalKernelIdeal.τ).loc Cert.ScalKernelIdeal.main_arg4)
      ∧ r.2.mem ((c.tc : Thread Cert.ScalKernelIdeal.nD Cert.ScalKernelIdeal.τ).loc Cert.ScalKernelIdeal.main_arg5) = m ((c.tc : Thread Cert.ScalKernelIdeal.nD Cert.ScalKernelIdeal.τ).loc Cert.ScalKernelIdeal.main_arg5)
      ∧ r.2.mem ((c.tc : Thread Cert.ScalKernelIdeal.nD Cert.ScalKernelIdeal.τ).loc Cert.ScalKernelIdeal.main_arg6) = m ((c.tc : Thread Cert.ScalKernelIdeal.nD Cert.ScalKernelIdeal.τ).loc Cert.ScalKernelIdeal.main_arg6)
      ∧ r.2.mem ((c.tc : Thread Cert.ScalKernelIdeal.nD Cert.ScalKernelIdeal.τ).loc Cert.ScalKernelIdeal.main_arg7) = m ((c.tc : Thread Cert.ScalKernelIdeal.nD Cert.ScalKernelIdeal.τ).loc Cert.ScalKernelIdeal.main_arg7))
      ∧ r.2.sem = fun _ => 0)

def quiescent_ScalKernelIdeal_pre_scal_finite [hScalKernelIdeal : Cert.ScalKernelIdeal.Facts] [hPre_scal_finite : Cert.Pre_scal_finite.Facts] : Prop :=
  ∀ (m : (ℓ : Loc Cert.ScalKernelIdeal.nD Cert.ScalKernelIdeal.τ Cert.ScalKernelIdeal.sig) → Buf (Elt Ideal) ℓ) (g : Dev Cert.ScalKernelIdeal.nD → PrngReg), Pre_ScalKernelIdeal_scal_finite m →
    θ_run (Cert.ScalKernelIdeal.defs (F := Ideal)) (onTc (τ := Cert.ScalKernelIdeal.τ) (Cert.ScalKernelIdeal.main (F := Ideal))) ⟨m, fun _ => 0, g⟩ (fun r => (∀ c : Dev Cert.ScalKernelIdeal.nD,
      r.2.mem ((c.tc : Thread Cert.ScalKernelIdeal.nD Cert.ScalKernelIdeal.τ).loc Cert.ScalKernelIdeal.main_arg0) = m ((c.tc : Thread Cert.ScalKernelIdeal.nD Cert.ScalKernelIdeal.τ).loc Cert.ScalKernelIdeal.main_arg0)
      ∧ r.2.mem ((c.tc : Thread Cert.ScalKernelIdeal.nD Cert.ScalKernelIdeal.τ).loc Cert.ScalKernelIdeal.main_arg1) = m ((c.tc : Thread Cert.ScalKernelIdeal.nD Cert.ScalKernelIdeal.τ).loc Cert.ScalKernelIdeal.main_arg1)
      ∧ r.2.mem ((c.tc : Thread Cert.ScalKernelIdeal.nD Cert.ScalKernelIdeal.τ).loc Cert.ScalKernelIdeal.main_arg2) = m ((c.tc : Thread Cert.ScalKernelIdeal.nD Cert.ScalKernelIdeal.τ).loc Cert.ScalKernelIdeal.main_arg2)
      ∧ r.2.mem ((c.tc : Thread Cert.ScalKernelIdeal.nD Cert.ScalKernelIdeal.τ).loc Cert.ScalKernelIdeal.main_arg3) = m ((c.tc : Thread Cert.ScalKernelIdeal.nD Cert.ScalKernelIdeal.τ).loc Cert.ScalKernelIdeal.main_arg3)
      ∧ r.2.mem ((c.tc : Thread Cert.ScalKernelIdeal.nD Cert.ScalKernelIdeal.τ).loc Cert.ScalKernelIdeal.main_arg4) = m ((c.tc : Thread Cert.ScalKernelIdeal.nD Cert.ScalKernelIdeal.τ).loc Cert.ScalKernelIdeal.main_arg4)
      ∧ r.2.mem ((c.tc : Thread Cert.ScalKernelIdeal.nD Cert.ScalKernelIdeal.τ).loc Cert.ScalKernelIdeal.main_arg5) = m ((c.tc : Thread Cert.ScalKernelIdeal.nD Cert.ScalKernelIdeal.τ).loc Cert.ScalKernelIdeal.main_arg5)
      ∧ r.2.mem ((c.tc : Thread Cert.ScalKernelIdeal.nD Cert.ScalKernelIdeal.τ).loc Cert.ScalKernelIdeal.main_arg6) = m ((c.tc : Thread Cert.ScalKernelIdeal.nD Cert.ScalKernelIdeal.τ).loc Cert.ScalKernelIdeal.main_arg6)
      ∧ r.2.mem ((c.tc : Thread Cert.ScalKernelIdeal.nD Cert.ScalKernelIdeal.τ).loc Cert.ScalKernelIdeal.main_arg7) = m ((c.tc : Thread Cert.ScalKernelIdeal.nD Cert.ScalKernelIdeal.τ).loc Cert.ScalKernelIdeal.main_arg7))
      ∧ r.2.sem = fun _ => 0)

def quiescent_ScalKernelIdeal_pre_scal_small [hScalKernelIdeal : Cert.ScalKernelIdeal.Facts] [hPre_scal_small : Cert.Pre_scal_small.Facts] : Prop :=
  ∀ (m : (ℓ : Loc Cert.ScalKernelIdeal.nD Cert.ScalKernelIdeal.τ Cert.ScalKernelIdeal.sig) → Buf (Elt Ideal) ℓ) (g : Dev Cert.ScalKernelIdeal.nD → PrngReg), Pre_ScalKernelIdeal_scal_small m →
    θ_run (Cert.ScalKernelIdeal.defs (F := Ideal)) (onTc (τ := Cert.ScalKernelIdeal.τ) (Cert.ScalKernelIdeal.main (F := Ideal))) ⟨m, fun _ => 0, g⟩ (fun r => (∀ c : Dev Cert.ScalKernelIdeal.nD,
      r.2.mem ((c.tc : Thread Cert.ScalKernelIdeal.nD Cert.ScalKernelIdeal.τ).loc Cert.ScalKernelIdeal.main_arg0) = m ((c.tc : Thread Cert.ScalKernelIdeal.nD Cert.ScalKernelIdeal.τ).loc Cert.ScalKernelIdeal.main_arg0)
      ∧ r.2.mem ((c.tc : Thread Cert.ScalKernelIdeal.nD Cert.ScalKernelIdeal.τ).loc Cert.ScalKernelIdeal.main_arg1) = m ((c.tc : Thread Cert.ScalKernelIdeal.nD Cert.ScalKernelIdeal.τ).loc Cert.ScalKernelIdeal.main_arg1)
      ∧ r.2.mem ((c.tc : Thread Cert.ScalKernelIdeal.nD Cert.ScalKernelIdeal.τ).loc Cert.ScalKernelIdeal.main_arg2) = m ((c.tc : Thread Cert.ScalKernelIdeal.nD Cert.ScalKernelIdeal.τ).loc Cert.ScalKernelIdeal.main_arg2)
      ∧ r.2.mem ((c.tc : Thread Cert.ScalKernelIdeal.nD Cert.ScalKernelIdeal.τ).loc Cert.ScalKernelIdeal.main_arg3) = m ((c.tc : Thread Cert.ScalKernelIdeal.nD Cert.ScalKernelIdeal.τ).loc Cert.ScalKernelIdeal.main_arg3)
      ∧ r.2.mem ((c.tc : Thread Cert.ScalKernelIdeal.nD Cert.ScalKernelIdeal.τ).loc Cert.ScalKernelIdeal.main_arg4) = m ((c.tc : Thread Cert.ScalKernelIdeal.nD Cert.ScalKernelIdeal.τ).loc Cert.ScalKernelIdeal.main_arg4)
      ∧ r.2.mem ((c.tc : Thread Cert.ScalKernelIdeal.nD Cert.ScalKernelIdeal.τ).loc Cert.ScalKernelIdeal.main_arg5) = m ((c.tc : Thread Cert.ScalKernelIdeal.nD Cert.ScalKernelIdeal.τ).loc Cert.ScalKernelIdeal.main_arg5)
      ∧ r.2.mem ((c.tc : Thread Cert.ScalKernelIdeal.nD Cert.ScalKernelIdeal.τ).loc Cert.ScalKernelIdeal.main_arg6) = m ((c.tc : Thread Cert.ScalKernelIdeal.nD Cert.ScalKernelIdeal.τ).loc Cert.ScalKernelIdeal.main_arg6)
      ∧ r.2.mem ((c.tc : Thread Cert.ScalKernelIdeal.nD Cert.ScalKernelIdeal.τ).loc Cert.ScalKernelIdeal.main_arg7) = m ((c.tc : Thread Cert.ScalKernelIdeal.nD Cert.ScalKernelIdeal.τ).loc Cert.ScalKernelIdeal.main_arg7))
      ∧ r.2.sem = fun _ => 0)

def quiescent_ScalReferenceIdeal [hScalReferenceIdeal : Cert.ScalReferenceIdeal.Facts] : Prop :=
  ∀ (m : (ℓ : Loc Cert.ScalReferenceIdeal.nD Cert.ScalReferenceIdeal.τ Cert.ScalReferenceIdeal.sig) → Buf (Elt Ideal) ℓ) (g : Dev Cert.ScalReferenceIdeal.nD → PrngReg), Pre_ScalReferenceIdeal m →
    θ_run (Cert.ScalReferenceIdeal.defs (F := Ideal)) (onTc (τ := Cert.ScalReferenceIdeal.τ) (Cert.ScalReferenceIdeal.main (F := Ideal))) ⟨m, fun _ => 0, g⟩ (fun r => (∀ c : Dev Cert.ScalReferenceIdeal.nD,
      r.2.mem ((c.tc : Thread Cert.ScalReferenceIdeal.nD Cert.ScalReferenceIdeal.τ).loc Cert.ScalReferenceIdeal.main_arg0) = m ((c.tc : Thread Cert.ScalReferenceIdeal.nD Cert.ScalReferenceIdeal.τ).loc Cert.ScalReferenceIdeal.main_arg0)
      ∧ r.2.mem ((c.tc : Thread Cert.ScalReferenceIdeal.nD Cert.ScalReferenceIdeal.τ).loc Cert.ScalReferenceIdeal.main_arg1) = m ((c.tc : Thread Cert.ScalReferenceIdeal.nD Cert.ScalReferenceIdeal.τ).loc Cert.ScalReferenceIdeal.main_arg1)
      ∧ r.2.mem ((c.tc : Thread Cert.ScalReferenceIdeal.nD Cert.ScalReferenceIdeal.τ).loc Cert.ScalReferenceIdeal.main_arg2) = m ((c.tc : Thread Cert.ScalReferenceIdeal.nD Cert.ScalReferenceIdeal.τ).loc Cert.ScalReferenceIdeal.main_arg2)
      ∧ r.2.mem ((c.tc : Thread Cert.ScalReferenceIdeal.nD Cert.ScalReferenceIdeal.τ).loc Cert.ScalReferenceIdeal.main_arg3) = m ((c.tc : Thread Cert.ScalReferenceIdeal.nD Cert.ScalReferenceIdeal.τ).loc Cert.ScalReferenceIdeal.main_arg3)
      ∧ r.2.mem ((c.tc : Thread Cert.ScalReferenceIdeal.nD Cert.ScalReferenceIdeal.τ).loc Cert.ScalReferenceIdeal.main_arg4) = m ((c.tc : Thread Cert.ScalReferenceIdeal.nD Cert.ScalReferenceIdeal.τ).loc Cert.ScalReferenceIdeal.main_arg4)
      ∧ r.2.mem ((c.tc : Thread Cert.ScalReferenceIdeal.nD Cert.ScalReferenceIdeal.τ).loc Cert.ScalReferenceIdeal.main_arg5) = m ((c.tc : Thread Cert.ScalReferenceIdeal.nD Cert.ScalReferenceIdeal.τ).loc Cert.ScalReferenceIdeal.main_arg5)
      ∧ r.2.mem ((c.tc : Thread Cert.ScalReferenceIdeal.nD Cert.ScalReferenceIdeal.τ).loc Cert.ScalReferenceIdeal.main_arg6) = m ((c.tc : Thread Cert.ScalReferenceIdeal.nD Cert.ScalReferenceIdeal.τ).loc Cert.ScalReferenceIdeal.main_arg6)
      ∧ r.2.mem ((c.tc : Thread Cert.ScalReferenceIdeal.nD Cert.ScalReferenceIdeal.τ).loc Cert.ScalReferenceIdeal.main_arg7) = m ((c.tc : Thread Cert.ScalReferenceIdeal.nD Cert.ScalReferenceIdeal.τ).loc Cert.ScalReferenceIdeal.main_arg7))
      ∧ r.2.sem = fun _ => 0)

def quiescent_ScalReferenceIdeal_pre_scal_finite [hScalReferenceIdeal : Cert.ScalReferenceIdeal.Facts] [hPre_scal_finite : Cert.Pre_scal_finite.Facts] : Prop :=
  ∀ (m : (ℓ : Loc Cert.ScalReferenceIdeal.nD Cert.ScalReferenceIdeal.τ Cert.ScalReferenceIdeal.sig) → Buf (Elt Ideal) ℓ) (g : Dev Cert.ScalReferenceIdeal.nD → PrngReg), Pre_ScalReferenceIdeal_scal_finite m →
    θ_run (Cert.ScalReferenceIdeal.defs (F := Ideal)) (onTc (τ := Cert.ScalReferenceIdeal.τ) (Cert.ScalReferenceIdeal.main (F := Ideal))) ⟨m, fun _ => 0, g⟩ (fun r => (∀ c : Dev Cert.ScalReferenceIdeal.nD,
      r.2.mem ((c.tc : Thread Cert.ScalReferenceIdeal.nD Cert.ScalReferenceIdeal.τ).loc Cert.ScalReferenceIdeal.main_arg0) = m ((c.tc : Thread Cert.ScalReferenceIdeal.nD Cert.ScalReferenceIdeal.τ).loc Cert.ScalReferenceIdeal.main_arg0)
      ∧ r.2.mem ((c.tc : Thread Cert.ScalReferenceIdeal.nD Cert.ScalReferenceIdeal.τ).loc Cert.ScalReferenceIdeal.main_arg1) = m ((c.tc : Thread Cert.ScalReferenceIdeal.nD Cert.ScalReferenceIdeal.τ).loc Cert.ScalReferenceIdeal.main_arg1)
      ∧ r.2.mem ((c.tc : Thread Cert.ScalReferenceIdeal.nD Cert.ScalReferenceIdeal.τ).loc Cert.ScalReferenceIdeal.main_arg2) = m ((c.tc : Thread Cert.ScalReferenceIdeal.nD Cert.ScalReferenceIdeal.τ).loc Cert.ScalReferenceIdeal.main_arg2)
      ∧ r.2.mem ((c.tc : Thread Cert.ScalReferenceIdeal.nD Cert.ScalReferenceIdeal.τ).loc Cert.ScalReferenceIdeal.main_arg3) = m ((c.tc : Thread Cert.ScalReferenceIdeal.nD Cert.ScalReferenceIdeal.τ).loc Cert.ScalReferenceIdeal.main_arg3)
      ∧ r.2.mem ((c.tc : Thread Cert.ScalReferenceIdeal.nD Cert.ScalReferenceIdeal.τ).loc Cert.ScalReferenceIdeal.main_arg4) = m ((c.tc : Thread Cert.ScalReferenceIdeal.nD Cert.ScalReferenceIdeal.τ).loc Cert.ScalReferenceIdeal.main_arg4)
      ∧ r.2.mem ((c.tc : Thread Cert.ScalReferenceIdeal.nD Cert.ScalReferenceIdeal.τ).loc Cert.ScalReferenceIdeal.main_arg5) = m ((c.tc : Thread Cert.ScalReferenceIdeal.nD Cert.ScalReferenceIdeal.τ).loc Cert.ScalReferenceIdeal.main_arg5)
      ∧ r.2.mem ((c.tc : Thread Cert.ScalReferenceIdeal.nD Cert.ScalReferenceIdeal.τ).loc Cert.ScalReferenceIdeal.main_arg6) = m ((c.tc : Thread Cert.ScalReferenceIdeal.nD Cert.ScalReferenceIdeal.τ).loc Cert.ScalReferenceIdeal.main_arg6)
      ∧ r.2.mem ((c.tc : Thread Cert.ScalReferenceIdeal.nD Cert.ScalReferenceIdeal.τ).loc Cert.ScalReferenceIdeal.main_arg7) = m ((c.tc : Thread Cert.ScalReferenceIdeal.nD Cert.ScalReferenceIdeal.τ).loc Cert.ScalReferenceIdeal.main_arg7))
      ∧ r.2.sem = fun _ => 0)

def quiescent_ScalReferenceIdeal_pre_scal_small [hScalReferenceIdeal : Cert.ScalReferenceIdeal.Facts] [hPre_scal_small : Cert.Pre_scal_small.Facts] : Prop :=
  ∀ (m : (ℓ : Loc Cert.ScalReferenceIdeal.nD Cert.ScalReferenceIdeal.τ Cert.ScalReferenceIdeal.sig) → Buf (Elt Ideal) ℓ) (g : Dev Cert.ScalReferenceIdeal.nD → PrngReg), Pre_ScalReferenceIdeal_scal_small m →
    θ_run (Cert.ScalReferenceIdeal.defs (F := Ideal)) (onTc (τ := Cert.ScalReferenceIdeal.τ) (Cert.ScalReferenceIdeal.main (F := Ideal))) ⟨m, fun _ => 0, g⟩ (fun r => (∀ c : Dev Cert.ScalReferenceIdeal.nD,
      r.2.mem ((c.tc : Thread Cert.ScalReferenceIdeal.nD Cert.ScalReferenceIdeal.τ).loc Cert.ScalReferenceIdeal.main_arg0) = m ((c.tc : Thread Cert.ScalReferenceIdeal.nD Cert.ScalReferenceIdeal.τ).loc Cert.ScalReferenceIdeal.main_arg0)
      ∧ r.2.mem ((c.tc : Thread Cert.ScalReferenceIdeal.nD Cert.ScalReferenceIdeal.τ).loc Cert.ScalReferenceIdeal.main_arg1) = m ((c.tc : Thread Cert.ScalReferenceIdeal.nD Cert.ScalReferenceIdeal.τ).loc Cert.ScalReferenceIdeal.main_arg1)
      ∧ r.2.mem ((c.tc : Thread Cert.ScalReferenceIdeal.nD Cert.ScalReferenceIdeal.τ).loc Cert.ScalReferenceIdeal.main_arg2) = m ((c.tc : Thread Cert.ScalReferenceIdeal.nD Cert.ScalReferenceIdeal.τ).loc Cert.ScalReferenceIdeal.main_arg2)
      ∧ r.2.mem ((c.tc : Thread Cert.ScalReferenceIdeal.nD Cert.ScalReferenceIdeal.τ).loc Cert.ScalReferenceIdeal.main_arg3) = m ((c.tc : Thread Cert.ScalReferenceIdeal.nD Cert.ScalReferenceIdeal.τ).loc Cert.ScalReferenceIdeal.main_arg3)
      ∧ r.2.mem ((c.tc : Thread Cert.ScalReferenceIdeal.nD Cert.ScalReferenceIdeal.τ).loc Cert.ScalReferenceIdeal.main_arg4) = m ((c.tc : Thread Cert.ScalReferenceIdeal.nD Cert.ScalReferenceIdeal.τ).loc Cert.ScalReferenceIdeal.main_arg4)
      ∧ r.2.mem ((c.tc : Thread Cert.ScalReferenceIdeal.nD Cert.ScalReferenceIdeal.τ).loc Cert.ScalReferenceIdeal.main_arg5) = m ((c.tc : Thread Cert.ScalReferenceIdeal.nD Cert.ScalReferenceIdeal.τ).loc Cert.ScalReferenceIdeal.main_arg5)
      ∧ r.2.mem ((c.tc : Thread Cert.ScalReferenceIdeal.nD Cert.ScalReferenceIdeal.τ).loc Cert.ScalReferenceIdeal.main_arg6) = m ((c.tc : Thread Cert.ScalReferenceIdeal.nD Cert.ScalReferenceIdeal.τ).loc Cert.ScalReferenceIdeal.main_arg6)
      ∧ r.2.mem ((c.tc : Thread Cert.ScalReferenceIdeal.nD Cert.ScalReferenceIdeal.τ).loc Cert.ScalReferenceIdeal.main_arg7) = m ((c.tc : Thread Cert.ScalReferenceIdeal.nD Cert.ScalReferenceIdeal.τ).loc Cert.ScalReferenceIdeal.main_arg7))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_FgateKernel [hFgateKernel : Cert.FgateKernel.Facts] : Prop :=
  ∀ (m : (ℓ : Loc Cert.FgateKernel.nD Cert.FgateKernel.τ Cert.FgateKernel.sig) → Buf (Elt Bits) ℓ) (g : Dev Cert.FgateKernel.nD → PrngReg), Pre_FgateKernel m →
    θ_run (Cert.FgateKernel.defs (F := Bits)) (onTc (τ := Cert.FgateKernel.τ) (Cert.FgateKernel.main (F := Bits))) ⟨m, fun _ => 0, g⟩ (fun r => (∀ c : Dev Cert.FgateKernel.nD,
      r.2.mem ((c.tc : Thread Cert.FgateKernel.nD Cert.FgateKernel.τ).loc Cert.FgateKernel.main_arg0) = m ((c.tc : Thread Cert.FgateKernel.nD Cert.FgateKernel.τ).loc Cert.FgateKernel.main_arg0)
      ∧ r.2.mem ((c.tc : Thread Cert.FgateKernel.nD Cert.FgateKernel.τ).loc Cert.FgateKernel.main_arg1) = m ((c.tc : Thread Cert.FgateKernel.nD Cert.FgateKernel.τ).loc Cert.FgateKernel.main_arg1)
      ∧ r.2.mem ((c.tc : Thread Cert.FgateKernel.nD Cert.FgateKernel.τ).loc Cert.FgateKernel.main_arg2) = m ((c.tc : Thread Cert.FgateKernel.nD Cert.FgateKernel.τ).loc Cert.FgateKernel.main_arg2))
      ∧ r.2.sem = fun _ => 0)

def quiescent_FgateKernelIdeal [hFgateKernelIdeal : Cert.FgateKernelIdeal.Facts] : Prop :=
  ∀ (m : (ℓ : Loc Cert.FgateKernelIdeal.nD Cert.FgateKernelIdeal.τ Cert.FgateKernelIdeal.sig) → Buf (Elt Ideal) ℓ) (g : Dev Cert.FgateKernelIdeal.nD → PrngReg), Pre_FgateKernelIdeal m →
    θ_run (Cert.FgateKernelIdeal.defs (F := Ideal)) (onTc (τ := Cert.FgateKernelIdeal.τ) (Cert.FgateKernelIdeal.main (F := Ideal))) ⟨m, fun _ => 0, g⟩ (fun r => (∀ c : Dev Cert.FgateKernelIdeal.nD,
      r.2.mem ((c.tc : Thread Cert.FgateKernelIdeal.nD Cert.FgateKernelIdeal.τ).loc Cert.FgateKernelIdeal.main_arg0) = m ((c.tc : Thread Cert.FgateKernelIdeal.nD Cert.FgateKernelIdeal.τ).loc Cert.FgateKernelIdeal.main_arg0)
      ∧ r.2.mem ((c.tc : Thread Cert.FgateKernelIdeal.nD Cert.FgateKernelIdeal.τ).loc Cert.FgateKernelIdeal.main_arg1) = m ((c.tc : Thread Cert.FgateKernelIdeal.nD Cert.FgateKernelIdeal.τ).loc Cert.FgateKernelIdeal.main_arg1)
      ∧ r.2.mem ((c.tc : Thread Cert.FgateKernelIdeal.nD Cert.FgateKernelIdeal.τ).loc Cert.FgateKernelIdeal.main_arg2) = m ((c.tc : Thread Cert.FgateKernelIdeal.nD Cert.FgateKernelIdeal.τ).loc Cert.FgateKernelIdeal.main_arg2))
      ∧ r.2.sem = fun _ => 0)

def quiescent_FgateReferenceIdeal [hFgateReferenceIdeal : Cert.FgateReferenceIdeal.Facts] : Prop :=
  ∀ (m : (ℓ : Loc Cert.FgateReferenceIdeal.nD Cert.FgateReferenceIdeal.τ Cert.FgateReferenceIdeal.sig) → Buf (Elt Ideal) ℓ) (g : Dev Cert.FgateReferenceIdeal.nD → PrngReg), Pre_FgateReferenceIdeal m →
    θ_run (Cert.FgateReferenceIdeal.defs (F := Ideal)) (onTc (τ := Cert.FgateReferenceIdeal.τ) (Cert.FgateReferenceIdeal.main (F := Ideal))) ⟨m, fun _ => 0, g⟩ (fun r => (∀ c : Dev Cert.FgateReferenceIdeal.nD,
      r.2.mem ((c.tc : Thread Cert.FgateReferenceIdeal.nD Cert.FgateReferenceIdeal.τ).loc Cert.FgateReferenceIdeal.main_arg0) = m ((c.tc : Thread Cert.FgateReferenceIdeal.nD Cert.FgateReferenceIdeal.τ).loc Cert.FgateReferenceIdeal.main_arg0)
      ∧ r.2.mem ((c.tc : Thread Cert.FgateReferenceIdeal.nD Cert.FgateReferenceIdeal.τ).loc Cert.FgateReferenceIdeal.main_arg1) = m ((c.tc : Thread Cert.FgateReferenceIdeal.nD Cert.FgateReferenceIdeal.τ).loc Cert.FgateReferenceIdeal.main_arg1)
      ∧ r.2.mem ((c.tc : Thread Cert.FgateReferenceIdeal.nD Cert.FgateReferenceIdeal.τ).loc Cert.FgateReferenceIdeal.main_arg2) = m ((c.tc : Thread Cert.FgateReferenceIdeal.nD Cert.FgateReferenceIdeal.τ).loc Cert.FgateReferenceIdeal.main_arg2))
      ∧ r.2.sem = fun _ => 0)

def quiescent_FconvKernel [hFconvKernel : Cert.FconvKernel.Facts] : Prop :=
  ∀ (m : (ℓ : Loc Cert.FconvKernel.nD Cert.FconvKernel.τ Cert.FconvKernel.sig) → Buf (Elt Bits) ℓ) (g : Dev Cert.FconvKernel.nD → PrngReg), Pre_FconvKernel m →
    θ_run (Cert.FconvKernel.defs (F := Bits)) (onTc (τ := Cert.FconvKernel.τ) (Cert.FconvKernel.main (F := Bits))) ⟨m, fun _ => 0, g⟩ (fun r => (∀ c : Dev Cert.FconvKernel.nD,
      r.2.mem ((c.tc : Thread Cert.FconvKernel.nD Cert.FconvKernel.τ).loc Cert.FconvKernel.main_arg0) = m ((c.tc : Thread Cert.FconvKernel.nD Cert.FconvKernel.τ).loc Cert.FconvKernel.main_arg0)
      ∧ r.2.mem ((c.tc : Thread Cert.FconvKernel.nD Cert.FconvKernel.τ).loc Cert.FconvKernel.main_arg1) = m ((c.tc : Thread Cert.FconvKernel.nD Cert.FconvKernel.τ).loc Cert.FconvKernel.main_arg1)
      ∧ r.2.mem ((c.tc : Thread Cert.FconvKernel.nD Cert.FconvKernel.τ).loc Cert.FconvKernel.main_arg2) = m ((c.tc : Thread Cert.FconvKernel.nD Cert.FconvKernel.τ).loc Cert.FconvKernel.main_arg2)
      ∧ r.2.mem ((c.tc : Thread Cert.FconvKernel.nD Cert.FconvKernel.τ).loc Cert.FconvKernel.main_arg3) = m ((c.tc : Thread Cert.FconvKernel.nD Cert.FconvKernel.τ).loc Cert.FconvKernel.main_arg3)
      ∧ r.2.mem ((c.tc : Thread Cert.FconvKernel.nD Cert.FconvKernel.τ).loc Cert.FconvKernel.main_arg4) = m ((c.tc : Thread Cert.FconvKernel.nD Cert.FconvKernel.τ).loc Cert.FconvKernel.main_arg4)
      ∧ r.2.mem ((c.tc : Thread Cert.FconvKernel.nD Cert.FconvKernel.τ).loc Cert.FconvKernel.main_arg5) = m ((c.tc : Thread Cert.FconvKernel.nD Cert.FconvKernel.τ).loc Cert.FconvKernel.main_arg5)
      ∧ r.2.mem ((c.tc : Thread Cert.FconvKernel.nD Cert.FconvKernel.τ).loc Cert.FconvKernel.main_arg6) = m ((c.tc : Thread Cert.FconvKernel.nD Cert.FconvKernel.τ).loc Cert.FconvKernel.main_arg6))
      ∧ r.2.sem = fun _ => 0)

def quiescent_FconvKernelIdeal [hFconvKernelIdeal : Cert.FconvKernelIdeal.Facts] : Prop :=
  ∀ (m : (ℓ : Loc Cert.FconvKernelIdeal.nD Cert.FconvKernelIdeal.τ Cert.FconvKernelIdeal.sig) → Buf (Elt Ideal) ℓ) (g : Dev Cert.FconvKernelIdeal.nD → PrngReg), Pre_FconvKernelIdeal m →
    θ_run (Cert.FconvKernelIdeal.defs (F := Ideal)) (onTc (τ := Cert.FconvKernelIdeal.τ) (Cert.FconvKernelIdeal.main (F := Ideal))) ⟨m, fun _ => 0, g⟩ (fun r => (∀ c : Dev Cert.FconvKernelIdeal.nD,
      r.2.mem ((c.tc : Thread Cert.FconvKernelIdeal.nD Cert.FconvKernelIdeal.τ).loc Cert.FconvKernelIdeal.main_arg0) = m ((c.tc : Thread Cert.FconvKernelIdeal.nD Cert.FconvKernelIdeal.τ).loc Cert.FconvKernelIdeal.main_arg0)
      ∧ r.2.mem ((c.tc : Thread Cert.FconvKernelIdeal.nD Cert.FconvKernelIdeal.τ).loc Cert.FconvKernelIdeal.main_arg1) = m ((c.tc : Thread Cert.FconvKernelIdeal.nD Cert.FconvKernelIdeal.τ).loc Cert.FconvKernelIdeal.main_arg1)
      ∧ r.2.mem ((c.tc : Thread Cert.FconvKernelIdeal.nD Cert.FconvKernelIdeal.τ).loc Cert.FconvKernelIdeal.main_arg2) = m ((c.tc : Thread Cert.FconvKernelIdeal.nD Cert.FconvKernelIdeal.τ).loc Cert.FconvKernelIdeal.main_arg2)
      ∧ r.2.mem ((c.tc : Thread Cert.FconvKernelIdeal.nD Cert.FconvKernelIdeal.τ).loc Cert.FconvKernelIdeal.main_arg3) = m ((c.tc : Thread Cert.FconvKernelIdeal.nD Cert.FconvKernelIdeal.τ).loc Cert.FconvKernelIdeal.main_arg3)
      ∧ r.2.mem ((c.tc : Thread Cert.FconvKernelIdeal.nD Cert.FconvKernelIdeal.τ).loc Cert.FconvKernelIdeal.main_arg4) = m ((c.tc : Thread Cert.FconvKernelIdeal.nD Cert.FconvKernelIdeal.τ).loc Cert.FconvKernelIdeal.main_arg4)
      ∧ r.2.mem ((c.tc : Thread Cert.FconvKernelIdeal.nD Cert.FconvKernelIdeal.τ).loc Cert.FconvKernelIdeal.main_arg5) = m ((c.tc : Thread Cert.FconvKernelIdeal.nD Cert.FconvKernelIdeal.τ).loc Cert.FconvKernelIdeal.main_arg5)
      ∧ r.2.mem ((c.tc : Thread Cert.FconvKernelIdeal.nD Cert.FconvKernelIdeal.τ).loc Cert.FconvKernelIdeal.main_arg6) = m ((c.tc : Thread Cert.FconvKernelIdeal.nD Cert.FconvKernelIdeal.τ).loc Cert.FconvKernelIdeal.main_arg6))
      ∧ r.2.sem = fun _ => 0)

def quiescent_FconvReferenceIdeal [hFconvReferenceIdeal : Cert.FconvReferenceIdeal.Facts] : Prop :=
  ∀ (m : (ℓ : Loc Cert.FconvReferenceIdeal.nD Cert.FconvReferenceIdeal.τ Cert.FconvReferenceIdeal.sig) → Buf (Elt Ideal) ℓ) (g : Dev Cert.FconvReferenceIdeal.nD → PrngReg), Pre_FconvReferenceIdeal m →
    θ_run (Cert.FconvReferenceIdeal.defs (F := Ideal)) (onTc (τ := Cert.FconvReferenceIdeal.τ) (Cert.FconvReferenceIdeal.main (F := Ideal))) ⟨m, fun _ => 0, g⟩ (fun r => (∀ c : Dev Cert.FconvReferenceIdeal.nD,
      r.2.mem ((c.tc : Thread Cert.FconvReferenceIdeal.nD Cert.FconvReferenceIdeal.τ).loc Cert.FconvReferenceIdeal.main_arg0) = m ((c.tc : Thread Cert.FconvReferenceIdeal.nD Cert.FconvReferenceIdeal.τ).loc Cert.FconvReferenceIdeal.main_arg0)
      ∧ r.2.mem ((c.tc : Thread Cert.FconvReferenceIdeal.nD Cert.FconvReferenceIdeal.τ).loc Cert.FconvReferenceIdeal.main_arg1) = m ((c.tc : Thread Cert.FconvReferenceIdeal.nD Cert.FconvReferenceIdeal.τ).loc Cert.FconvReferenceIdeal.main_arg1)
      ∧ r.2.mem ((c.tc : Thread Cert.FconvReferenceIdeal.nD Cert.FconvReferenceIdeal.τ).loc Cert.FconvReferenceIdeal.main_arg2) = m ((c.tc : Thread Cert.FconvReferenceIdeal.nD Cert.FconvReferenceIdeal.τ).loc Cert.FconvReferenceIdeal.main_arg2)
      ∧ r.2.mem ((c.tc : Thread Cert.FconvReferenceIdeal.nD Cert.FconvReferenceIdeal.τ).loc Cert.FconvReferenceIdeal.main_arg3) = m ((c.tc : Thread Cert.FconvReferenceIdeal.nD Cert.FconvReferenceIdeal.τ).loc Cert.FconvReferenceIdeal.main_arg3)
      ∧ r.2.mem ((c.tc : Thread Cert.FconvReferenceIdeal.nD Cert.FconvReferenceIdeal.τ).loc Cert.FconvReferenceIdeal.main_arg4) = m ((c.tc : Thread Cert.FconvReferenceIdeal.nD Cert.FconvReferenceIdeal.τ).loc Cert.FconvReferenceIdeal.main_arg4)
      ∧ r.2.mem ((c.tc : Thread Cert.FconvReferenceIdeal.nD Cert.FconvReferenceIdeal.τ).loc Cert.FconvReferenceIdeal.main_arg5) = m ((c.tc : Thread Cert.FconvReferenceIdeal.nD Cert.FconvReferenceIdeal.τ).loc Cert.FconvReferenceIdeal.main_arg5)
      ∧ r.2.mem ((c.tc : Thread Cert.FconvReferenceIdeal.nD Cert.FconvReferenceIdeal.τ).loc Cert.FconvReferenceIdeal.main_arg6) = m ((c.tc : Thread Cert.FconvReferenceIdeal.nD Cert.FconvReferenceIdeal.τ).loc Cert.FconvReferenceIdeal.main_arg6))
      ∧ r.2.sem = fun _ => 0)

def quiescent_FqkvKernel [hFqkvKernel : Cert.FqkvKernel.Facts] : Prop :=
  ∀ (m : (ℓ : Loc Cert.FqkvKernel.nD Cert.FqkvKernel.τ Cert.FqkvKernel.sig) → Buf (Elt Bits) ℓ) (g : Dev Cert.FqkvKernel.nD → PrngReg), Pre_FqkvKernel m →
    θ_run (Cert.FqkvKernel.defs (F := Bits)) (onTc (τ := Cert.FqkvKernel.τ) (Cert.FqkvKernel.main (F := Bits))) ⟨m, fun _ => 0, g⟩ (fun r => (∀ c : Dev Cert.FqkvKernel.nD,
      r.2.mem ((c.tc : Thread Cert.FqkvKernel.nD Cert.FqkvKernel.τ).loc Cert.FqkvKernel.main_arg0) = m ((c.tc : Thread Cert.FqkvKernel.nD Cert.FqkvKernel.τ).loc Cert.FqkvKernel.main_arg0)
      ∧ r.2.mem ((c.tc : Thread Cert.FqkvKernel.nD Cert.FqkvKernel.τ).loc Cert.FqkvKernel.main_arg1) = m ((c.tc : Thread Cert.FqkvKernel.nD Cert.FqkvKernel.τ).loc Cert.FqkvKernel.main_arg1))
      ∧ r.2.sem = fun _ => 0)

def quiescent_FqkvKernelIdeal [hFqkvKernelIdeal : Cert.FqkvKernelIdeal.Facts] : Prop :=
  ∀ (m : (ℓ : Loc Cert.FqkvKernelIdeal.nD Cert.FqkvKernelIdeal.τ Cert.FqkvKernelIdeal.sig) → Buf (Elt Ideal) ℓ) (g : Dev Cert.FqkvKernelIdeal.nD → PrngReg), Pre_FqkvKernelIdeal m →
    θ_run (Cert.FqkvKernelIdeal.defs (F := Ideal)) (onTc (τ := Cert.FqkvKernelIdeal.τ) (Cert.FqkvKernelIdeal.main (F := Ideal))) ⟨m, fun _ => 0, g⟩ (fun r => (∀ c : Dev Cert.FqkvKernelIdeal.nD,
      r.2.mem ((c.tc : Thread Cert.FqkvKernelIdeal.nD Cert.FqkvKernelIdeal.τ).loc Cert.FqkvKernelIdeal.main_arg0) = m ((c.tc : Thread Cert.FqkvKernelIdeal.nD Cert.FqkvKernelIdeal.τ).loc Cert.FqkvKernelIdeal.main_arg0)
      ∧ r.2.mem ((c.tc : Thread Cert.FqkvKernelIdeal.nD Cert.FqkvKernelIdeal.τ).loc Cert.FqkvKernelIdeal.main_arg1) = m ((c.tc : Thread Cert.FqkvKernelIdeal.nD Cert.FqkvKernelIdeal.τ).loc Cert.FqkvKernelIdeal.main_arg1))
      ∧ r.2.sem = fun _ => 0)

def quiescent_FqkvReferenceIdeal [hFqkvReferenceIdeal : Cert.FqkvReferenceIdeal.Facts] : Prop :=
  ∀ (m : (ℓ : Loc Cert.FqkvReferenceIdeal.nD Cert.FqkvReferenceIdeal.τ Cert.FqkvReferenceIdeal.sig) → Buf (Elt Ideal) ℓ) (g : Dev Cert.FqkvReferenceIdeal.nD → PrngReg), Pre_FqkvReferenceIdeal m →
    θ_run (Cert.FqkvReferenceIdeal.defs (F := Ideal)) (onTc (τ := Cert.FqkvReferenceIdeal.τ) (Cert.FqkvReferenceIdeal.main (F := Ideal))) ⟨m, fun _ => 0, g⟩ (fun r => (∀ c : Dev Cert.FqkvReferenceIdeal.nD,
      r.2.mem ((c.tc : Thread Cert.FqkvReferenceIdeal.nD Cert.FqkvReferenceIdeal.τ).loc Cert.FqkvReferenceIdeal.main_arg0) = m ((c.tc : Thread Cert.FqkvReferenceIdeal.nD Cert.FqkvReferenceIdeal.τ).loc Cert.FqkvReferenceIdeal.main_arg0)
      ∧ r.2.mem ((c.tc : Thread Cert.FqkvReferenceIdeal.nD Cert.FqkvReferenceIdeal.τ).loc Cert.FqkvReferenceIdeal.main_arg1) = m ((c.tc : Thread Cert.FqkvReferenceIdeal.nD Cert.FqkvReferenceIdeal.τ).loc Cert.FqkvReferenceIdeal.main_arg1))
      ∧ r.2.sem = fun _ => 0)

def quiescent_FscalKernel [hFscalKernel : Cert.FscalKernel.Facts] : Prop :=
  ∀ (m : (ℓ : Loc Cert.FscalKernel.nD Cert.FscalKernel.τ Cert.FscalKernel.sig) → Buf (Elt Bits) ℓ) (g : Dev Cert.FscalKernel.nD → PrngReg), Pre_FscalKernel m →
    θ_run (Cert.FscalKernel.defs (F := Bits)) (onTc (τ := Cert.FscalKernel.τ) (Cert.FscalKernel.main (F := Bits))) ⟨m, fun _ => 0, g⟩ (fun r => (∀ c : Dev Cert.FscalKernel.nD,
      r.2.mem ((c.tc : Thread Cert.FscalKernel.nD Cert.FscalKernel.τ).loc Cert.FscalKernel.main_arg0) = m ((c.tc : Thread Cert.FscalKernel.nD Cert.FscalKernel.τ).loc Cert.FscalKernel.main_arg0)
      ∧ r.2.mem ((c.tc : Thread Cert.FscalKernel.nD Cert.FscalKernel.τ).loc Cert.FscalKernel.main_arg1) = m ((c.tc : Thread Cert.FscalKernel.nD Cert.FscalKernel.τ).loc Cert.FscalKernel.main_arg1)
      ∧ r.2.mem ((c.tc : Thread Cert.FscalKernel.nD Cert.FscalKernel.τ).loc Cert.FscalKernel.main_arg2) = m ((c.tc : Thread Cert.FscalKernel.nD Cert.FscalKernel.τ).loc Cert.FscalKernel.main_arg2)
      ∧ r.2.mem ((c.tc : Thread Cert.FscalKernel.nD Cert.FscalKernel.τ).loc Cert.FscalKernel.main_arg3) = m ((c.tc : Thread Cert.FscalKernel.nD Cert.FscalKernel.τ).loc Cert.FscalKernel.main_arg3))
      ∧ r.2.sem = fun _ => 0)

def quiescent_FscalKernelIdeal [hFscalKernelIdeal : Cert.FscalKernelIdeal.Facts] : Prop :=
  ∀ (m : (ℓ : Loc Cert.FscalKernelIdeal.nD Cert.FscalKernelIdeal.τ Cert.FscalKernelIdeal.sig) → Buf (Elt Ideal) ℓ) (g : Dev Cert.FscalKernelIdeal.nD → PrngReg), Pre_FscalKernelIdeal m →
    θ_run (Cert.FscalKernelIdeal.defs (F := Ideal)) (onTc (τ := Cert.FscalKernelIdeal.τ) (Cert.FscalKernelIdeal.main (F := Ideal))) ⟨m, fun _ => 0, g⟩ (fun r => (∀ c : Dev Cert.FscalKernelIdeal.nD,
      r.2.mem ((c.tc : Thread Cert.FscalKernelIdeal.nD Cert.FscalKernelIdeal.τ).loc Cert.FscalKernelIdeal.main_arg0) = m ((c.tc : Thread Cert.FscalKernelIdeal.nD Cert.FscalKernelIdeal.τ).loc Cert.FscalKernelIdeal.main_arg0)
      ∧ r.2.mem ((c.tc : Thread Cert.FscalKernelIdeal.nD Cert.FscalKernelIdeal.τ).loc Cert.FscalKernelIdeal.main_arg1) = m ((c.tc : Thread Cert.FscalKernelIdeal.nD Cert.FscalKernelIdeal.τ).loc Cert.FscalKernelIdeal.main_arg1)
      ∧ r.2.mem ((c.tc : Thread Cert.FscalKernelIdeal.nD Cert.FscalKernelIdeal.τ).loc Cert.FscalKernelIdeal.main_arg2) = m ((c.tc : Thread Cert.FscalKernelIdeal.nD Cert.FscalKernelIdeal.τ).loc Cert.FscalKernelIdeal.main_arg2)
      ∧ r.2.mem ((c.tc : Thread Cert.FscalKernelIdeal.nD Cert.FscalKernelIdeal.τ).loc Cert.FscalKernelIdeal.main_arg3) = m ((c.tc : Thread Cert.FscalKernelIdeal.nD Cert.FscalKernelIdeal.τ).loc Cert.FscalKernelIdeal.main_arg3))
      ∧ r.2.sem = fun _ => 0)

def quiescent_FscalKernelIdeal_pre_fscal_small [hFscalKernelIdeal : Cert.FscalKernelIdeal.Facts] [hPre_fscal_small : Cert.Pre_fscal_small.Facts] : Prop :=
  ∀ (m : (ℓ : Loc Cert.FscalKernelIdeal.nD Cert.FscalKernelIdeal.τ Cert.FscalKernelIdeal.sig) → Buf (Elt Ideal) ℓ) (g : Dev Cert.FscalKernelIdeal.nD → PrngReg), Pre_FscalKernelIdeal_fscal_small m →
    θ_run (Cert.FscalKernelIdeal.defs (F := Ideal)) (onTc (τ := Cert.FscalKernelIdeal.τ) (Cert.FscalKernelIdeal.main (F := Ideal))) ⟨m, fun _ => 0, g⟩ (fun r => (∀ c : Dev Cert.FscalKernelIdeal.nD,
      r.2.mem ((c.tc : Thread Cert.FscalKernelIdeal.nD Cert.FscalKernelIdeal.τ).loc Cert.FscalKernelIdeal.main_arg0) = m ((c.tc : Thread Cert.FscalKernelIdeal.nD Cert.FscalKernelIdeal.τ).loc Cert.FscalKernelIdeal.main_arg0)
      ∧ r.2.mem ((c.tc : Thread Cert.FscalKernelIdeal.nD Cert.FscalKernelIdeal.τ).loc Cert.FscalKernelIdeal.main_arg1) = m ((c.tc : Thread Cert.FscalKernelIdeal.nD Cert.FscalKernelIdeal.τ).loc Cert.FscalKernelIdeal.main_arg1)
      ∧ r.2.mem ((c.tc : Thread Cert.FscalKernelIdeal.nD Cert.FscalKernelIdeal.τ).loc Cert.FscalKernelIdeal.main_arg2) = m ((c.tc : Thread Cert.FscalKernelIdeal.nD Cert.FscalKernelIdeal.τ).loc Cert.FscalKernelIdeal.main_arg2)
      ∧ r.2.mem ((c.tc : Thread Cert.FscalKernelIdeal.nD Cert.FscalKernelIdeal.τ).loc Cert.FscalKernelIdeal.main_arg3) = m ((c.tc : Thread Cert.FscalKernelIdeal.nD Cert.FscalKernelIdeal.τ).loc Cert.FscalKernelIdeal.main_arg3))
      ∧ r.2.sem = fun _ => 0)

def quiescent_FscalReferenceIdeal [hFscalReferenceIdeal : Cert.FscalReferenceIdeal.Facts] : Prop :=
  ∀ (m : (ℓ : Loc Cert.FscalReferenceIdeal.nD Cert.FscalReferenceIdeal.τ Cert.FscalReferenceIdeal.sig) → Buf (Elt Ideal) ℓ) (g : Dev Cert.FscalReferenceIdeal.nD → PrngReg), Pre_FscalReferenceIdeal m →
    θ_run (Cert.FscalReferenceIdeal.defs (F := Ideal)) (onTc (τ := Cert.FscalReferenceIdeal.τ) (Cert.FscalReferenceIdeal.main (F := Ideal))) ⟨m, fun _ => 0, g⟩ (fun r => (∀ c : Dev Cert.FscalReferenceIdeal.nD,
      r.2.mem ((c.tc : Thread Cert.FscalReferenceIdeal.nD Cert.FscalReferenceIdeal.τ).loc Cert.FscalReferenceIdeal.main_arg0) = m ((c.tc : Thread Cert.FscalReferenceIdeal.nD Cert.FscalReferenceIdeal.τ).loc Cert.FscalReferenceIdeal.main_arg0)
      ∧ r.2.mem ((c.tc : Thread Cert.FscalReferenceIdeal.nD Cert.FscalReferenceIdeal.τ).loc Cert.FscalReferenceIdeal.main_arg1) = m ((c.tc : Thread Cert.FscalReferenceIdeal.nD Cert.FscalReferenceIdeal.τ).loc Cert.FscalReferenceIdeal.main_arg1)
      ∧ r.2.mem ((c.tc : Thread Cert.FscalReferenceIdeal.nD Cert.FscalReferenceIdeal.τ).loc Cert.FscalReferenceIdeal.main_arg2) = m ((c.tc : Thread Cert.FscalReferenceIdeal.nD Cert.FscalReferenceIdeal.τ).loc Cert.FscalReferenceIdeal.main_arg2)
      ∧ r.2.mem ((c.tc : Thread Cert.FscalReferenceIdeal.nD Cert.FscalReferenceIdeal.τ).loc Cert.FscalReferenceIdeal.main_arg3) = m ((c.tc : Thread Cert.FscalReferenceIdeal.nD Cert.FscalReferenceIdeal.τ).loc Cert.FscalReferenceIdeal.main_arg3))
      ∧ r.2.sem = fun _ => 0)

def quiescent_FscalReferenceIdeal_pre_fscal_small [hFscalReferenceIdeal : Cert.FscalReferenceIdeal.Facts] [hPre_fscal_small : Cert.Pre_fscal_small.Facts] : Prop :=
  ∀ (m : (ℓ : Loc Cert.FscalReferenceIdeal.nD Cert.FscalReferenceIdeal.τ Cert.FscalReferenceIdeal.sig) → Buf (Elt Ideal) ℓ) (g : Dev Cert.FscalReferenceIdeal.nD → PrngReg), Pre_FscalReferenceIdeal_fscal_small m →
    θ_run (Cert.FscalReferenceIdeal.defs (F := Ideal)) (onTc (τ := Cert.FscalReferenceIdeal.τ) (Cert.FscalReferenceIdeal.main (F := Ideal))) ⟨m, fun _ => 0, g⟩ (fun r => (∀ c : Dev Cert.FscalReferenceIdeal.nD,
      r.2.mem ((c.tc : Thread Cert.FscalReferenceIdeal.nD Cert.FscalReferenceIdeal.τ).loc Cert.FscalReferenceIdeal.main_arg0) = m ((c.tc : Thread Cert.FscalReferenceIdeal.nD Cert.FscalReferenceIdeal.τ).loc Cert.FscalReferenceIdeal.main_arg0)
      ∧ r.2.mem ((c.tc : Thread Cert.FscalReferenceIdeal.nD Cert.FscalReferenceIdeal.τ).loc Cert.FscalReferenceIdeal.main_arg1) = m ((c.tc : Thread Cert.FscalReferenceIdeal.nD Cert.FscalReferenceIdeal.τ).loc Cert.FscalReferenceIdeal.main_arg1)
      ∧ r.2.mem ((c.tc : Thread Cert.FscalReferenceIdeal.nD Cert.FscalReferenceIdeal.τ).loc Cert.FscalReferenceIdeal.main_arg2) = m ((c.tc : Thread Cert.FscalReferenceIdeal.nD Cert.FscalReferenceIdeal.τ).loc Cert.FscalReferenceIdeal.main_arg2)
      ∧ r.2.mem ((c.tc : Thread Cert.FscalReferenceIdeal.nD Cert.FscalReferenceIdeal.τ).loc Cert.FscalReferenceIdeal.main_arg3) = m ((c.tc : Thread Cert.FscalReferenceIdeal.nD Cert.FscalReferenceIdeal.τ).loc Cert.FscalReferenceIdeal.main_arg3))
      ∧ r.2.sem = fun _ => 0)

def quiescent_FprojKernel [hFprojKernel : Cert.FprojKernel.Facts] : Prop :=
  ∀ (m : (ℓ : Loc Cert.FprojKernel.nD Cert.FprojKernel.τ Cert.FprojKernel.sig) → Buf (Elt Bits) ℓ) (g : Dev Cert.FprojKernel.nD → PrngReg), Pre_FprojKernel m →
    θ_run (Cert.FprojKernel.defs (F := Bits)) (onTc (τ := Cert.FprojKernel.τ) (Cert.FprojKernel.main (F := Bits))) ⟨m, fun _ => 0, g⟩ (fun r => (∀ c : Dev Cert.FprojKernel.nD,
      r.2.mem ((c.tc : Thread Cert.FprojKernel.nD Cert.FprojKernel.τ).loc Cert.FprojKernel.main_arg0) = m ((c.tc : Thread Cert.FprojKernel.nD Cert.FprojKernel.τ).loc Cert.FprojKernel.main_arg0)
      ∧ r.2.mem ((c.tc : Thread Cert.FprojKernel.nD Cert.FprojKernel.τ).loc Cert.FprojKernel.main_arg1) = m ((c.tc : Thread Cert.FprojKernel.nD Cert.FprojKernel.τ).loc Cert.FprojKernel.main_arg1)
      ∧ r.2.mem ((c.tc : Thread Cert.FprojKernel.nD Cert.FprojKernel.τ).loc Cert.FprojKernel.main_arg2) = m ((c.tc : Thread Cert.FprojKernel.nD Cert.FprojKernel.τ).loc Cert.FprojKernel.main_arg2))
      ∧ r.2.sem = fun _ => 0)

def quiescent_FprojKernelIdeal [hFprojKernelIdeal : Cert.FprojKernelIdeal.Facts] : Prop :=
  ∀ (m : (ℓ : Loc Cert.FprojKernelIdeal.nD Cert.FprojKernelIdeal.τ Cert.FprojKernelIdeal.sig) → Buf (Elt Ideal) ℓ) (g : Dev Cert.FprojKernelIdeal.nD → PrngReg), Pre_FprojKernelIdeal m →
    θ_run (Cert.FprojKernelIdeal.defs (F := Ideal)) (onTc (τ := Cert.FprojKernelIdeal.τ) (Cert.FprojKernelIdeal.main (F := Ideal))) ⟨m, fun _ => 0, g⟩ (fun r => (∀ c : Dev Cert.FprojKernelIdeal.nD,
      r.2.mem ((c.tc : Thread Cert.FprojKernelIdeal.nD Cert.FprojKernelIdeal.τ).loc Cert.FprojKernelIdeal.main_arg0) = m ((c.tc : Thread Cert.FprojKernelIdeal.nD Cert.FprojKernelIdeal.τ).loc Cert.FprojKernelIdeal.main_arg0)
      ∧ r.2.mem ((c.tc : Thread Cert.FprojKernelIdeal.nD Cert.FprojKernelIdeal.τ).loc Cert.FprojKernelIdeal.main_arg1) = m ((c.tc : Thread Cert.FprojKernelIdeal.nD Cert.FprojKernelIdeal.τ).loc Cert.FprojKernelIdeal.main_arg1)
      ∧ r.2.mem ((c.tc : Thread Cert.FprojKernelIdeal.nD Cert.FprojKernelIdeal.τ).loc Cert.FprojKernelIdeal.main_arg2) = m ((c.tc : Thread Cert.FprojKernelIdeal.nD Cert.FprojKernelIdeal.τ).loc Cert.FprojKernelIdeal.main_arg2))
      ∧ r.2.sem = fun _ => 0)

def quiescent_FprojReferenceIdeal [hFprojReferenceIdeal : Cert.FprojReferenceIdeal.Facts] : Prop :=
  ∀ (m : (ℓ : Loc Cert.FprojReferenceIdeal.nD Cert.FprojReferenceIdeal.τ Cert.FprojReferenceIdeal.sig) → Buf (Elt Ideal) ℓ) (g : Dev Cert.FprojReferenceIdeal.nD → PrngReg), Pre_FprojReferenceIdeal m →
    θ_run (Cert.FprojReferenceIdeal.defs (F := Ideal)) (onTc (τ := Cert.FprojReferenceIdeal.τ) (Cert.FprojReferenceIdeal.main (F := Ideal))) ⟨m, fun _ => 0, g⟩ (fun r => (∀ c : Dev Cert.FprojReferenceIdeal.nD,
      r.2.mem ((c.tc : Thread Cert.FprojReferenceIdeal.nD Cert.FprojReferenceIdeal.τ).loc Cert.FprojReferenceIdeal.main_arg0) = m ((c.tc : Thread Cert.FprojReferenceIdeal.nD Cert.FprojReferenceIdeal.τ).loc Cert.FprojReferenceIdeal.main_arg0)
      ∧ r.2.mem ((c.tc : Thread Cert.FprojReferenceIdeal.nD Cert.FprojReferenceIdeal.τ).loc Cert.FprojReferenceIdeal.main_arg1) = m ((c.tc : Thread Cert.FprojReferenceIdeal.nD Cert.FprojReferenceIdeal.τ).loc Cert.FprojReferenceIdeal.main_arg1)
      ∧ r.2.mem ((c.tc : Thread Cert.FprojReferenceIdeal.nD Cert.FprojReferenceIdeal.τ).loc Cert.FprojReferenceIdeal.main_arg2) = m ((c.tc : Thread Cert.FprojReferenceIdeal.nD Cert.FprojReferenceIdeal.τ).loc Cert.FprojReferenceIdeal.main_arg2))
      ∧ r.2.sem = fun _ => 0)

def quiescent_GdnKernel [hGdnKernel : Cert.GdnKernel.Facts] : Prop :=
  ∀ (m : (ℓ : Loc Cert.GdnKernel.nD Cert.GdnKernel.τ Cert.GdnKernel.sig) → Buf (Elt Bits) ℓ) (g : Dev Cert.GdnKernel.nD → PrngReg), Pre_GdnKernel m →
    θ_run (Cert.GdnKernel.defs (F := Bits)) (onTc (τ := Cert.GdnKernel.τ) (Cert.GdnKernel.main (F := Bits))) ⟨m, fun _ => 0, g⟩ (fun r => (∀ c : Dev Cert.GdnKernel.nD,
      r.2.mem ((c.tc : Thread Cert.GdnKernel.nD Cert.GdnKernel.τ).loc Cert.GdnKernel.main_arg0) = m ((c.tc : Thread Cert.GdnKernel.nD Cert.GdnKernel.τ).loc Cert.GdnKernel.main_arg0)
      ∧ r.2.mem ((c.tc : Thread Cert.GdnKernel.nD Cert.GdnKernel.τ).loc Cert.GdnKernel.main_arg1) = m ((c.tc : Thread Cert.GdnKernel.nD Cert.GdnKernel.τ).loc Cert.GdnKernel.main_arg1)
      ∧ r.2.mem ((c.tc : Thread Cert.GdnKernel.nD Cert.GdnKernel.τ).loc Cert.GdnKernel.main_arg2) = m ((c.tc : Thread Cert.GdnKernel.nD Cert.GdnKernel.τ).loc Cert.GdnKernel.main_arg2)
      ∧ r.2.mem ((c.tc : Thread Cert.GdnKernel.nD Cert.GdnKernel.τ).loc Cert.GdnKernel.main_arg3) = m ((c.tc : Thread Cert.GdnKernel.nD Cert.GdnKernel.τ).loc Cert.GdnKernel.main_arg3)
      ∧ r.2.mem ((c.tc : Thread Cert.GdnKernel.nD Cert.GdnKernel.τ).loc Cert.GdnKernel.main_arg4) = m ((c.tc : Thread Cert.GdnKernel.nD Cert.GdnKernel.τ).loc Cert.GdnKernel.main_arg4)
      ∧ r.2.mem ((c.tc : Thread Cert.GdnKernel.nD Cert.GdnKernel.τ).loc Cert.GdnKernel.main_arg5) = m ((c.tc : Thread Cert.GdnKernel.nD Cert.GdnKernel.τ).loc Cert.GdnKernel.main_arg5)
      ∧ r.2.mem ((c.tc : Thread Cert.GdnKernel.nD Cert.GdnKernel.τ).loc Cert.GdnKernel.main_arg6) = m ((c.tc : Thread Cert.GdnKernel.nD Cert.GdnKernel.τ).loc Cert.GdnKernel.main_arg6)
      ∧ r.2.mem ((c.tc : Thread Cert.GdnKernel.nD Cert.GdnKernel.τ).loc Cert.GdnKernel.main_arg7) = m ((c.tc : Thread Cert.GdnKernel.nD Cert.GdnKernel.τ).loc Cert.GdnKernel.main_arg7)
      ∧ r.2.mem ((c.tc : Thread Cert.GdnKernel.nD Cert.GdnKernel.τ).loc Cert.GdnKernel.main_arg8) = m ((c.tc : Thread Cert.GdnKernel.nD Cert.GdnKernel.τ).loc Cert.GdnKernel.main_arg8))
      ∧ r.2.sem = fun _ => 0)

def quiescent_GdnKernelIdeal [hGdnKernelIdeal : Cert.GdnKernelIdeal.Facts] : Prop :=
  ∀ (m : (ℓ : Loc Cert.GdnKernelIdeal.nD Cert.GdnKernelIdeal.τ Cert.GdnKernelIdeal.sig) → Buf (Elt Ideal) ℓ) (g : Dev Cert.GdnKernelIdeal.nD → PrngReg), Pre_GdnKernelIdeal m →
    θ_run (Cert.GdnKernelIdeal.defs (F := Ideal)) (onTc (τ := Cert.GdnKernelIdeal.τ) (Cert.GdnKernelIdeal.main (F := Ideal))) ⟨m, fun _ => 0, g⟩ (fun r => (∀ c : Dev Cert.GdnKernelIdeal.nD,
      r.2.mem ((c.tc : Thread Cert.GdnKernelIdeal.nD Cert.GdnKernelIdeal.τ).loc Cert.GdnKernelIdeal.main_arg0) = m ((c.tc : Thread Cert.GdnKernelIdeal.nD Cert.GdnKernelIdeal.τ).loc Cert.GdnKernelIdeal.main_arg0)
      ∧ r.2.mem ((c.tc : Thread Cert.GdnKernelIdeal.nD Cert.GdnKernelIdeal.τ).loc Cert.GdnKernelIdeal.main_arg1) = m ((c.tc : Thread Cert.GdnKernelIdeal.nD Cert.GdnKernelIdeal.τ).loc Cert.GdnKernelIdeal.main_arg1)
      ∧ r.2.mem ((c.tc : Thread Cert.GdnKernelIdeal.nD Cert.GdnKernelIdeal.τ).loc Cert.GdnKernelIdeal.main_arg2) = m ((c.tc : Thread Cert.GdnKernelIdeal.nD Cert.GdnKernelIdeal.τ).loc Cert.GdnKernelIdeal.main_arg2)
      ∧ r.2.mem ((c.tc : Thread Cert.GdnKernelIdeal.nD Cert.GdnKernelIdeal.τ).loc Cert.GdnKernelIdeal.main_arg3) = m ((c.tc : Thread Cert.GdnKernelIdeal.nD Cert.GdnKernelIdeal.τ).loc Cert.GdnKernelIdeal.main_arg3)
      ∧ r.2.mem ((c.tc : Thread Cert.GdnKernelIdeal.nD Cert.GdnKernelIdeal.τ).loc Cert.GdnKernelIdeal.main_arg4) = m ((c.tc : Thread Cert.GdnKernelIdeal.nD Cert.GdnKernelIdeal.τ).loc Cert.GdnKernelIdeal.main_arg4)
      ∧ r.2.mem ((c.tc : Thread Cert.GdnKernelIdeal.nD Cert.GdnKernelIdeal.τ).loc Cert.GdnKernelIdeal.main_arg5) = m ((c.tc : Thread Cert.GdnKernelIdeal.nD Cert.GdnKernelIdeal.τ).loc Cert.GdnKernelIdeal.main_arg5)
      ∧ r.2.mem ((c.tc : Thread Cert.GdnKernelIdeal.nD Cert.GdnKernelIdeal.τ).loc Cert.GdnKernelIdeal.main_arg6) = m ((c.tc : Thread Cert.GdnKernelIdeal.nD Cert.GdnKernelIdeal.τ).loc Cert.GdnKernelIdeal.main_arg6)
      ∧ r.2.mem ((c.tc : Thread Cert.GdnKernelIdeal.nD Cert.GdnKernelIdeal.τ).loc Cert.GdnKernelIdeal.main_arg7) = m ((c.tc : Thread Cert.GdnKernelIdeal.nD Cert.GdnKernelIdeal.τ).loc Cert.GdnKernelIdeal.main_arg7)
      ∧ r.2.mem ((c.tc : Thread Cert.GdnKernelIdeal.nD Cert.GdnKernelIdeal.τ).loc Cert.GdnKernelIdeal.main_arg8) = m ((c.tc : Thread Cert.GdnKernelIdeal.nD Cert.GdnKernelIdeal.τ).loc Cert.GdnKernelIdeal.main_arg8))
      ∧ r.2.sem = fun _ => 0)

def quiescent_TnKernel [hTnKernel : Cert.TnKernel.Facts] : Prop :=
  ∀ (m : (ℓ : Loc Cert.TnKernel.nD Cert.TnKernel.τ Cert.TnKernel.sig) → Buf (Elt Bits) ℓ) (g : Dev Cert.TnKernel.nD → PrngReg), Pre_TnKernel m →
    θ_run (Cert.TnKernel.defs (F := Bits)) (onTc (τ := Cert.TnKernel.τ) (Cert.TnKernel.main (F := Bits))) ⟨m, fun _ => 0, g⟩ (fun r => (∀ c : Dev Cert.TnKernel.nD,
      r.2.mem ((c.tc : Thread Cert.TnKernel.nD Cert.TnKernel.τ).loc Cert.TnKernel.main_arg0) = m ((c.tc : Thread Cert.TnKernel.nD Cert.TnKernel.τ).loc Cert.TnKernel.main_arg0)
      ∧ r.2.mem ((c.tc : Thread Cert.TnKernel.nD Cert.TnKernel.τ).loc Cert.TnKernel.main_arg1) = m ((c.tc : Thread Cert.TnKernel.nD Cert.TnKernel.τ).loc Cert.TnKernel.main_arg1))
      ∧ r.2.sem = fun _ => 0)

def quiescent_TnKernelIdeal [hTnKernelIdeal : Cert.TnKernelIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg), Pre_TnKernelIdeal m →
    θ_run (Cert.TnKernelIdeal.defs (F := Ideal)) (onTc (τ := Cert.TnKernelIdeal.τ) (Cert.TnKernelIdeal.main (F := Ideal))) ⟨m, fun _ => 0, g⟩ (fun r => (∀ c : Dev Cert.TnKernelIdeal.nD,
      r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
      ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ r.2.sem = fun _ => 0)

def quiescent_TnReferenceIdeal [hTnReferenceIdeal : Cert.TnReferenceIdeal.Facts] : Prop :=
  ∀ (m : (ℓ : Loc Cert.TnReferenceIdeal.nD Cert.TnReferenceIdeal.τ Cert.TnReferenceIdeal.sig) → Buf (Elt Ideal) ℓ) (g : Dev Cert.TnReferenceIdeal.nD → PrngReg), Pre_TnReferenceIdeal m →
    θ_run (Cert.TnReferenceIdeal.defs (F := Ideal)) (onTc (τ := Cert.TnReferenceIdeal.τ) (Cert.TnReferenceIdeal.main (F := Ideal))) ⟨m, fun _ => 0, g⟩ (fun r => (∀ c : Dev Cert.TnReferenceIdeal.nD,
      r.2.mem ((c.tc : Thread Cert.TnReferenceIdeal.nD Cert.TnReferenceIdeal.τ).loc Cert.TnReferenceIdeal.main_arg0) = m ((c.tc : Thread Cert.TnReferenceIdeal.nD Cert.TnReferenceIdeal.τ).loc Cert.TnReferenceIdeal.main_arg0)
      ∧ r.2.mem ((c.tc : Thread Cert.TnReferenceIdeal.nD Cert.TnReferenceIdeal.τ).loc Cert.TnReferenceIdeal.main_arg1) = m ((c.tc : Thread Cert.TnReferenceIdeal.nD Cert.TnReferenceIdeal.τ).loc Cert.TnReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_PackKernel [hPackKernel : Cert.PackKernel.Facts] : Prop :=
  ∀ (m : (ℓ : Loc Cert.PackKernel.nD Cert.PackKernel.τ Cert.PackKernel.sig) → Buf (Elt Bits) ℓ) (g : Dev Cert.PackKernel.nD → PrngReg), Pre_PackKernel m →
    θ_run (Cert.PackKernel.defs (F := Bits)) (onTc (τ := Cert.PackKernel.τ) (Cert.PackKernel.main (F := Bits))) ⟨m, fun _ => 0, g⟩ (fun r => (∀ c : Dev Cert.PackKernel.nD,
      r.2.mem ((c.tc : Thread Cert.PackKernel.nD Cert.PackKernel.τ).loc Cert.PackKernel.main_arg0) = m ((c.tc : Thread Cert.PackKernel.nD Cert.PackKernel.τ).loc Cert.PackKernel.main_arg0)
      ∧ r.2.mem ((c.tc : Thread Cert.PackKernel.nD Cert.PackKernel.τ).loc Cert.PackKernel.main_arg1) = m ((c.tc : Thread Cert.PackKernel.nD Cert.PackKernel.τ).loc Cert.PackKernel.main_arg1)
      ∧ r.2.mem ((c.tc : Thread Cert.PackKernel.nD Cert.PackKernel.τ).loc Cert.PackKernel.main_arg2) = m ((c.tc : Thread Cert.PackKernel.nD Cert.PackKernel.τ).loc Cert.PackKernel.main_arg2)
      ∧ r.2.mem ((c.tc : Thread Cert.PackKernel.nD Cert.PackKernel.τ).loc Cert.PackKernel.main_arg3) = m ((c.tc : Thread Cert.PackKernel.nD Cert.PackKernel.τ).loc Cert.PackKernel.main_arg3)
      ∧ r.2.mem ((c.tc : Thread Cert.PackKernel.nD Cert.PackKernel.τ).loc Cert.PackKernel.main_arg4) = m ((c.tc : Thread Cert.PackKernel.nD Cert.PackKernel.τ).loc Cert.PackKernel.main_arg4)
      ∧ r.2.mem ((c.tc : Thread Cert.PackKernel.nD Cert.PackKernel.τ).loc Cert.PackKernel.main_arg5) = m ((c.tc : Thread Cert.PackKernel.nD Cert.PackKernel.τ).loc Cert.PackKernel.main_arg5))
      ∧ r.2.sem = fun _ => 0)

def quiescent_PackKernelIdeal [hPackKernelIdeal : Cert.PackKernelIdeal.Facts] : Prop :=
  ∀ (m : (ℓ : Loc Cert.PackKernelIdeal.nD Cert.PackKernelIdeal.τ Cert.PackKernelIdeal.sig) → Buf (Elt Ideal) ℓ) (g : Dev Cert.PackKernelIdeal.nD → PrngReg), Pre_PackKernelIdeal m →
    θ_run (Cert.PackKernelIdeal.defs (F := Ideal)) (onTc (τ := Cert.PackKernelIdeal.τ) (Cert.PackKernelIdeal.main (F := Ideal))) ⟨m, fun _ => 0, g⟩ (fun r => (∀ c : Dev Cert.PackKernelIdeal.nD,
      r.2.mem ((c.tc : Thread Cert.PackKernelIdeal.nD Cert.PackKernelIdeal.τ).loc Cert.PackKernelIdeal.main_arg0) = m ((c.tc : Thread Cert.PackKernelIdeal.nD Cert.PackKernelIdeal.τ).loc Cert.PackKernelIdeal.main_arg0)
      ∧ r.2.mem ((c.tc : Thread Cert.PackKernelIdeal.nD Cert.PackKernelIdeal.τ).loc Cert.PackKernelIdeal.main_arg1) = m ((c.tc : Thread Cert.PackKernelIdeal.nD Cert.PackKernelIdeal.τ).loc Cert.PackKernelIdeal.main_arg1)
      ∧ r.2.mem ((c.tc : Thread Cert.PackKernelIdeal.nD Cert.PackKernelIdeal.τ).loc Cert.PackKernelIdeal.main_arg2) = m ((c.tc : Thread Cert.PackKernelIdeal.nD Cert.PackKernelIdeal.τ).loc Cert.PackKernelIdeal.main_arg2)
      ∧ r.2.mem ((c.tc : Thread Cert.PackKernelIdeal.nD Cert.PackKernelIdeal.τ).loc Cert.PackKernelIdeal.main_arg3) = m ((c.tc : Thread Cert.PackKernelIdeal.nD Cert.PackKernelIdeal.τ).loc Cert.PackKernelIdeal.main_arg3)
      ∧ r.2.mem ((c.tc : Thread Cert.PackKernelIdeal.nD Cert.PackKernelIdeal.τ).loc Cert.PackKernelIdeal.main_arg4) = m ((c.tc : Thread Cert.PackKernelIdeal.nD Cert.PackKernelIdeal.τ).loc Cert.PackKernelIdeal.main_arg4)
      ∧ r.2.mem ((c.tc : Thread Cert.PackKernelIdeal.nD Cert.PackKernelIdeal.τ).loc Cert.PackKernelIdeal.main_arg5) = m ((c.tc : Thread Cert.PackKernelIdeal.nD Cert.PackKernelIdeal.τ).loc Cert.PackKernelIdeal.main_arg5))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0)
      ∧ r.2.mem ((c.tc : Thread Cert.PackReferenceIdeal.nD Cert.PackReferenceIdeal.τ).loc Cert.PackReferenceIdeal.main_arg1) = m ((c.tc : Thread Cert.PackReferenceIdeal.nD Cert.PackReferenceIdeal.τ).loc Cert.PackReferenceIdeal.main_arg1)
      ∧ r.2.mem ((c.tc : Thread Cert.PackReferenceIdeal.nD Cert.PackReferenceIdeal.τ).loc Cert.PackReferenceIdeal.main_arg2) = m ((c.tc : Thread Cert.PackReferenceIdeal.nD Cert.PackReferenceIdeal.τ).loc Cert.PackReferenceIdeal.main_arg2)
      ∧ r.2.mem ((c.tc : Thread Cert.PackReferenceIdeal.nD Cert.PackReferenceIdeal.τ).loc Cert.PackReferenceIdeal.main_arg3) = m ((c.tc : Thread Cert.PackReferenceIdeal.nD Cert.PackReferenceIdeal.τ).loc Cert.PackReferenceIdeal.main_arg3)
      ∧ r.2.mem ((c.tc : Thread Cert.PackReferenceIdeal.nD Cert.PackReferenceIdeal.τ).loc Cert.PackReferenceIdeal.main_arg4) = m ((c.tc : Thread Cert.PackReferenceIdeal.nD Cert.PackReferenceIdeal.τ).loc Cert.PackReferenceIdeal.main_arg4)
      ∧ r.2.mem ((c.tc : Thread Cert.PackReferenceIdeal.nD Cert.PackReferenceIdeal.τ).loc Cert.PackReferenceIdeal.main_arg5) = m ((c.tc : Thread Cert.PackReferenceIdeal.nD Cert.PackReferenceIdeal.τ).loc Cert.PackReferenceIdeal.main_arg5))
      ∧ r.2.sem = fun _ => 0)

def quiescent_BlocksKernel [hBlocksKernel : Cert.BlocksKernel.Facts] : Prop :=
  ∀ (m : (ℓ : Loc Cert.BlocksKernel.nD Cert.BlocksKernel.τ Cert.BlocksKernel.sig) → Buf (Elt Bits) ℓ) (g : Dev Cert.BlocksKernel.nD → PrngReg), Pre_BlocksKernel m →
    θ_run (Cert.BlocksKernel.defs (F := Bits)) (onTc (τ := Cert.BlocksKernel.τ) (Cert.BlocksKernel.main (F := Bits))) ⟨m, fun _ => 0, g⟩ (fun r => (∀ c : Dev Cert.BlocksKernel.nD,
      r.2.mem ((c.tc : Thread Cert.BlocksKernel.nD Cert.BlocksKernel.τ).loc Cert.BlocksKernel.main_arg0) = m ((c.tc : Thread Cert.BlocksKernel.nD Cert.BlocksKernel.τ).loc Cert.BlocksKernel.main_arg0))
      ∧ r.2.sem = fun _ => 0)

def quiescent_BlocksKernelIdeal [hBlocksKernelIdeal : Cert.BlocksKernelIdeal.Facts] : Prop :=
  ∀ (m : (ℓ : Loc Cert.BlocksKernelIdeal.nD Cert.BlocksKernelIdeal.τ Cert.BlocksKernelIdeal.sig) → Buf (Elt Ideal) ℓ) (g : Dev Cert.BlocksKernelIdeal.nD → PrngReg), Pre_BlocksKernelIdeal m →
    θ_run (Cert.BlocksKernelIdeal.defs (F := Ideal)) (onTc (τ := Cert.BlocksKernelIdeal.τ) (Cert.BlocksKernelIdeal.main (F := Ideal))) ⟨m, fun _ => 0, g⟩ (fun r => (∀ c : Dev Cert.BlocksKernelIdeal.nD,
      r.2.mem ((c.tc : Thread Cert.BlocksKernelIdeal.nD Cert.BlocksKernelIdeal.τ).loc Cert.BlocksKernelIdeal.main_arg0) = m ((c.tc : Thread Cert.BlocksKernelIdeal.nD Cert.BlocksKernelIdeal.τ).loc Cert.BlocksKernelIdeal.main_arg0))
      ∧ r.2.sem = fun _ => 0)

def quiescent_BlocksReferenceIdeal [hBlocksReferenceIdeal : Cert.BlocksReferenceIdeal.Facts] : Prop :=
  ∀ (m : (ℓ : Loc Cert.BlocksReferenceIdeal.nD Cert.BlocksReferenceIdeal.τ Cert.BlocksReferenceIdeal.sig) → Buf (Elt Ideal) ℓ) (g : Dev Cert.BlocksReferenceIdeal.nD → PrngReg), Pre_BlocksReferenceIdeal m →
    θ_run (Cert.BlocksReferenceIdeal.defs (F := Ideal)) (onTc (τ := Cert.BlocksReferenceIdeal.τ) (Cert.BlocksReferenceIdeal.main (F := Ideal))) ⟨m, fun _ => 0, g⟩ (fun r => (∀ c : Dev Cert.BlocksReferenceIdeal.nD,
      r.2.mem ((c.tc : Thread Cert.BlocksReferenceIdeal.nD Cert.BlocksReferenceIdeal.τ).loc Cert.BlocksReferenceIdeal.main_arg0) = m ((c.tc : Thread Cert.BlocksReferenceIdeal.nD Cert.BlocksReferenceIdeal.τ).loc Cert.BlocksReferenceIdeal.main_arg0))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0)
      ∧ r.2.mem ((c.tc : Thread Cert.SumKernel.nD Cert.SumKernel.τ).loc Cert.SumKernel.main_arg1) = m ((c.tc : Thread Cert.SumKernel.nD Cert.SumKernel.τ).loc Cert.SumKernel.main_arg1))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0)
      ∧ r.2.mem ((c.tc : Thread Cert.SumKernelIdeal.nD Cert.SumKernelIdeal.τ).loc Cert.SumKernelIdeal.main_arg1) = m ((c.tc : Thread Cert.SumKernelIdeal.nD Cert.SumKernelIdeal.τ).loc Cert.SumKernelIdeal.main_arg1))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0)
      ∧ r.2.mem ((c.tc : Thread Cert.SumReferenceIdeal.nD Cert.SumReferenceIdeal.τ).loc Cert.SumReferenceIdeal.main_arg1) = m ((c.tc : Thread Cert.SumReferenceIdeal.nD Cert.SumReferenceIdeal.τ).loc Cert.SumReferenceIdeal.main_arg1))
      ∧ r.2.sem = fun _ => 0)

def preserves_Kernel_KernelIdeal : Prop :=
  True

def algebraic_KernelIdeal_ReferenceIdeal_on_gate_columns_pre_gate_finite [hKernelIdeal : Cert.KernelIdeal.Facts] [hReferenceIdeal : Cert.ReferenceIdeal.Facts] [hPre_gate_finite : Cert.Pre_gate_finite.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v2_0) i = v0 c i)
          ∧ (∀ i : (⟨2, ![2048, 8448]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v2_1) i = v1 c i)
          ∧ (∀ i : (⟨2, ![1, 128]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v2_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v55) i = v0 c i)
          ∧ (∀ i : (⟨2, ![2048, 8448]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v56) i = v1 c i)
          ∧ (∀ i : (⟨2, ![1, 128]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v50) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ConvKernel_ConvKernelIdeal : Prop :=
  True

def algebraic_ConvKernelIdeal_ConvReferenceIdeal_pre_conv_finite [hConvKernelIdeal : Cert.ConvKernelIdeal.Facts] [hConvReferenceIdeal : Cert.ConvReferenceIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_conv_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)
      ∧ m' ((c.tc : Thread Cert.ConvReferenceIdeal.nD Cert.ConvReferenceIdeal.τ).loc Cert.ConvReferenceIdeal.main_arg7) = m ((c.tc : Thread Cert.ConvKernelIdeal.nD Cert.ConvKernelIdeal.τ).loc Cert.ConvKernelIdeal.main_arg7)) →
    ∃ (v0 : (c : Dev Cert.ConvKernelIdeal.nD) → Buf (Elt Ideal) ((c.tc : Thread Cert.ConvKernelIdeal.nD Cert.ConvKernelIdeal.τ).loc Cert.ConvKernelIdeal.main_v11_0)) (v1 : (c : Dev Cert.ConvKernelIdeal.nD) → Buf (Elt Ideal) ((c.tc : Thread Cert.ConvKernelIdeal.nD Cert.ConvKernelIdeal.τ).loc Cert.ConvKernelIdeal.main_v11_1)) (v2 : (c : Dev Cert.ConvKernelIdeal.nD) → Buf (Elt Ideal) ((c.tc : Thread Cert.ConvKernelIdeal.nD Cert.ConvKernelIdeal.τ).loc Cert.ConvKernelIdeal.main_v11_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v11_0) = v0 c
          ∧ r.2.mem ((c.tc : Thread Cert.ConvKernelIdeal.nD Cert.ConvKernelIdeal.τ).loc Cert.ConvKernelIdeal.main_v11_1) = v1 c
          ∧ r.2.mem ((c.tc : Thread Cert.ConvKernelIdeal.nD Cert.ConvKernelIdeal.τ).loc Cert.ConvKernelIdeal.main_v11_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
          ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v100) = v0 c
          ∧ r.2.mem ((c.tc : Thread Cert.ConvReferenceIdeal.nD Cert.ConvReferenceIdeal.τ).loc Cert.ConvReferenceIdeal.main_v77) = v1 c
          ∧ r.2.mem ((c.tc : Thread Cert.ConvReferenceIdeal.nD Cert.ConvReferenceIdeal.τ).loc Cert.ConvReferenceIdeal.main_v48) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7))

def preserves_QkvKernel_QkvKernelIdeal : Prop :=
  True

def algebraic_QkvKernelIdeal_QkvReferenceIdeal_pre_qkv_finite [hQkvKernelIdeal : Cert.QkvKernelIdeal.Facts] [hQkvReferenceIdeal : Cert.QkvReferenceIdeal.Facts] [hPre_qkv_finite : Cert.Pre_qkv_finite.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal_qkv_finite m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)) →
    ∃ (v0 : (c : Dev Cert.QkvKernelIdeal.nD) → Buf (Elt Ideal) ((c.tc : Thread Cert.QkvKernelIdeal.nD Cert.QkvKernelIdeal.τ).loc Cert.QkvKernelIdeal.main_v1_0)) (v1 : (c : Dev Cert.QkvKernelIdeal.nD) → Buf (Elt Ideal) ((c.tc : Thread Cert.QkvKernelIdeal.nD Cert.QkvKernelIdeal.τ).loc Cert.QkvKernelIdeal.main_v1_1)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v1_0) = v0 c
          ∧ r.2.mem ((c.tc : Thread Cert.QkvKernelIdeal.nD Cert.QkvKernelIdeal.τ).loc Cert.QkvKernelIdeal.main_v1_1) = v1 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v150) = v0 c
          ∧ r.2.mem ((c.tc : Thread Cert.QkvReferenceIdeal.nD Cert.QkvReferenceIdeal.τ).loc Cert.QkvReferenceIdeal.main_v142) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_ScalKernel_ScalKernelIdeal : Prop :=
  True

def algebraic_ScalKernelIdeal_ScalReferenceIdeal_on_scal_on_pre_scal_finite [hScalKernelIdeal : Cert.ScalKernelIdeal.Facts] [hScalReferenceIdeal : Cert.ScalReferenceIdeal.Facts] [hPre_scal_finite : Cert.Pre_scal_finite.Facts] [hOn_scal_on : Cert.On_scal_on.Facts] : Prop :=
  ∀ (m : (ℓ : Loc Cert.ScalKernelIdeal.nD Cert.ScalKernelIdeal.τ Cert.ScalKernelIdeal.sig) → Buf (Elt Ideal) ℓ) (g : Dev Cert.ScalKernelIdeal.nD → PrngReg)
    (m' : (ℓ : Loc Cert.ScalReferenceIdeal.nD Cert.ScalReferenceIdeal.τ Cert.ScalReferenceIdeal.sig) → Buf (Elt Ideal) ℓ) (g' : Dev Cert.ScalReferenceIdeal.nD → PrngReg), Pre_ScalKernelIdeal_scal_finite m →
    (∀ c : Dev Cert.ScalKernelIdeal.nD,
      m' ((c.tc : Thread Cert.ScalReferenceIdeal.nD Cert.ScalReferenceIdeal.τ).loc Cert.ScalReferenceIdeal.main_arg0) = m ((c.tc : Thread Cert.ScalKernelIdeal.nD Cert.ScalKernelIdeal.τ).loc Cert.ScalKernelIdeal.main_arg0)
      ∧ m' ((c.tc : Thread Cert.ScalReferenceIdeal.nD Cert.ScalReferenceIdeal.τ).loc Cert.ScalReferenceIdeal.main_arg1) = m ((c.tc : Thread Cert.ScalKernelIdeal.nD Cert.ScalKernelIdeal.τ).loc Cert.ScalKernelIdeal.main_arg1)
      ∧ m' ((c.tc : Thread Cert.ScalReferenceIdeal.nD Cert.ScalReferenceIdeal.τ).loc Cert.ScalReferenceIdeal.main_arg2) = m ((c.tc : Thread Cert.ScalKernelIdeal.nD Cert.ScalKernelIdeal.τ).loc Cert.ScalKernelIdeal.main_arg2)
      ∧ m' ((c.tc : Thread Cert.ScalReferenceIdeal.nD Cert.ScalReferenceIdeal.τ).loc Cert.ScalReferenceIdeal.main_arg3) = m ((c.tc : Thread Cert.ScalKernelIdeal.nD Cert.ScalKernelIdeal.τ).loc Cert.ScalKernelIdeal.main_arg3)
      ∧ m' ((c.tc : Thread Cert.ScalReferenceIdeal.nD Cert.ScalReferenceIdeal.τ).loc Cert.ScalReferenceIdeal.main_arg4) = m ((c.tc : Thread Cert.ScalKernelIdeal.nD Cert.ScalKernelIdeal.τ).loc Cert.ScalKernelIdeal.main_arg4)
      ∧ m' ((c.tc : Thread Cert.ScalReferenceIdeal.nD Cert.ScalReferenceIdeal.τ).loc Cert.ScalReferenceIdeal.main_arg5) = m ((c.tc : Thread Cert.ScalKernelIdeal.nD Cert.ScalKernelIdeal.τ).loc Cert.ScalKernelIdeal.main_arg5)
      ∧ m' ((c.tc : Thread Cert.ScalReferenceIdeal.nD Cert.ScalReferenceIdeal.τ).loc Cert.ScalReferenceIdeal.main_arg6) = m ((c.tc : Thread Cert.ScalKernelIdeal.nD Cert.ScalKernelIdeal.τ).loc Cert.ScalKernelIdeal.main_arg6)
      ∧ m' ((c.tc : Thread Cert.ScalReferenceIdeal.nD Cert.ScalReferenceIdeal.τ).loc Cert.ScalReferenceIdeal.main_arg7) = m ((c.tc : Thread Cert.ScalKernelIdeal.nD Cert.ScalKernelIdeal.τ).loc Cert.ScalKernelIdeal.main_arg7)) →
    ∃ (v0 : (c : Dev Cert.ScalKernelIdeal.nD) → Buf (Elt Ideal) ((c.tc : Thread Cert.ScalKernelIdeal.nD Cert.ScalKernelIdeal.τ).loc Cert.ScalKernelIdeal.main_v10_0)) (v1 : (c : Dev Cert.ScalKernelIdeal.nD) → Buf (Elt Ideal) ((c.tc : Thread Cert.ScalKernelIdeal.nD Cert.ScalKernelIdeal.τ).loc Cert.ScalKernelIdeal.main_v10_1)),
      θ_run (Cert.ScalKernelIdeal.defs (F := Ideal)) (onTc (τ := Cert.ScalKernelIdeal.τ) (Cert.ScalKernelIdeal.main (F := Ideal))) ⟨m, fun _ => 0, g⟩ (fun r => ∀ c : Dev Cert.ScalKernelIdeal.nD,
          (∀ i : (⟨2, ![2048, 8448]⟩ : Shape).Idx, (Cert.On_scal_on.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).1 i = 1#1 → r.2.mem ((c.tc : Thread Cert.ScalKernelIdeal.nD Cert.ScalKernelIdeal.τ).loc Cert.ScalKernelIdeal.main_v10_0) i = v0 c i)
          ∧ (∀ i : (⟨2, ![8, 128]⟩ : Shape).Idx, (Cert.On_scal_on.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2 i = 1#1 → r.2.mem ((c.tc : Thread Cert.ScalKernelIdeal.nD Cert.ScalKernelIdeal.τ).loc Cert.ScalKernelIdeal.main_v10_1) i = v1 c i)
          ∧ r.2.mem ((c.tc : Thread Cert.ScalKernelIdeal.nD Cert.ScalKernelIdeal.τ).loc Cert.ScalKernelIdeal.main_arg0) = m ((c.tc : Thread Cert.ScalKernelIdeal.nD Cert.ScalKernelIdeal.τ).loc Cert.ScalKernelIdeal.main_arg0)
          ∧ r.2.mem ((c.tc : Thread Cert.ScalKernelIdeal.nD Cert.ScalKernelIdeal.τ).loc Cert.ScalKernelIdeal.main_arg1) = m ((c.tc : Thread Cert.ScalKernelIdeal.nD Cert.ScalKernelIdeal.τ).loc Cert.ScalKernelIdeal.main_arg1)
          ∧ r.2.mem ((c.tc : Thread Cert.ScalKernelIdeal.nD Cert.ScalKernelIdeal.τ).loc Cert.ScalKernelIdeal.main_arg2) = m ((c.tc : Thread Cert.ScalKernelIdeal.nD Cert.ScalKernelIdeal.τ).loc Cert.ScalKernelIdeal.main_arg2)
          ∧ r.2.mem ((c.tc : Thread Cert.ScalKernelIdeal.nD Cert.ScalKernelIdeal.τ).loc Cert.ScalKernelIdeal.main_arg3) = m ((c.tc : Thread Cert.ScalKernelIdeal.nD Cert.ScalKernelIdeal.τ).loc Cert.ScalKernelIdeal.main_arg3)
          ∧ r.2.mem ((c.tc : Thread Cert.ScalKernelIdeal.nD Cert.ScalKernelIdeal.τ).loc Cert.ScalKernelIdeal.main_arg4) = m ((c.tc : Thread Cert.ScalKernelIdeal.nD Cert.ScalKernelIdeal.τ).loc Cert.ScalKernelIdeal.main_arg4)
          ∧ r.2.mem ((c.tc : Thread Cert.ScalKernelIdeal.nD Cert.ScalKernelIdeal.τ).loc Cert.ScalKernelIdeal.main_arg5) = m ((c.tc : Thread Cert.ScalKernelIdeal.nD Cert.ScalKernelIdeal.τ).loc Cert.ScalKernelIdeal.main_arg5)
          ∧ r.2.mem ((c.tc : Thread Cert.ScalKernelIdeal.nD Cert.ScalKernelIdeal.τ).loc Cert.ScalKernelIdeal.main_arg6) = m ((c.tc : Thread Cert.ScalKernelIdeal.nD Cert.ScalKernelIdeal.τ).loc Cert.ScalKernelIdeal.main_arg6)
          ∧ r.2.mem ((c.tc : Thread Cert.ScalKernelIdeal.nD Cert.ScalKernelIdeal.τ).loc Cert.ScalKernelIdeal.main_arg7) = m ((c.tc : Thread Cert.ScalKernelIdeal.nD Cert.ScalKernelIdeal.τ).loc Cert.ScalKernelIdeal.main_arg7))
      ∧ θ_run (Cert.ScalReferenceIdeal.defs (F := Ideal)) (onTc (τ := Cert.ScalReferenceIdeal.τ) (Cert.ScalReferenceIdeal.main (F := Ideal))) ⟨m', fun _ => 0, g'⟩ (fun r => ∀ c : Dev Cert.ScalReferenceIdeal.nD,
          (∀ i : (⟨2, ![2048, 8448]⟩ : Shape).Idx, (Cert.On_scal_on.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).1 i = 1#1 → r.2.mem ((c.tc : Thread Cert.ScalReferenceIdeal.nD Cert.ScalReferenceIdeal.τ).loc Cert.ScalReferenceIdeal.main_v49) i = v0 c i)
          ∧ (∀ i : (⟨2, ![8, 128]⟩ : Shape).Idx, (Cert.On_scal_on.fn (F := Ideal) (m ((c.tc : Thread Cert.ScalKernelIdeal.nD Cert.ScalKernelIdeal.τ).loc Cert.ScalKernelIdeal.main_arg0)) (m ((c.tc : Thread Cert.ScalKernelIdeal.nD Cert.ScalKernelIdeal.τ).loc Cert.ScalKernelIdeal.main_arg1)) (m ((c.tc : Thread Cert.ScalKernelIdeal.nD Cert.ScalKernelIdeal.τ).loc Cert.ScalKernelIdeal.main_arg2)) (m ((c.tc : Thread Cert.ScalKernelIdeal.nD Cert.ScalKernelIdeal.τ).loc Cert.ScalKernelIdeal.main_arg3)) (m ((c.tc : Thread Cert.ScalKernelIdeal.nD Cert.ScalKernelIdeal.τ).loc Cert.ScalKernelIdeal.main_arg4)) (m ((c.tc : Thread Cert.ScalKernelIdeal.nD Cert.ScalKernelIdeal.τ).loc Cert.ScalKernelIdeal.main_arg5)) (m ((c.tc : Thread Cert.ScalKernelIdeal.nD Cert.ScalKernelIdeal.τ).loc Cert.ScalKernelIdeal.main_arg6)) (m ((c.tc : Thread Cert.ScalKernelIdeal.nD Cert.ScalKernelIdeal.τ).loc Cert.ScalKernelIdeal.main_arg7))).2 i = 1#1 → r.2.mem ((c.tc : Thread Cert.ScalReferenceIdeal.nD Cert.ScalReferenceIdeal.τ).loc Cert.ScalReferenceIdeal.main_v55) i = v1 c i)
          ∧ r.2.mem ((c.tc : Thread Cert.ScalReferenceIdeal.nD Cert.ScalReferenceIdeal.τ).loc Cert.ScalReferenceIdeal.main_arg0) = m' ((c.tc : Thread Cert.ScalReferenceIdeal.nD Cert.ScalReferenceIdeal.τ).loc Cert.ScalReferenceIdeal.main_arg0)
          ∧ r.2.mem ((c.tc : Thread Cert.ScalReferenceIdeal.nD Cert.ScalReferenceIdeal.τ).loc Cert.ScalReferenceIdeal.main_arg1) = m' ((c.tc : Thread Cert.ScalReferenceIdeal.nD Cert.ScalReferenceIdeal.τ).loc Cert.ScalReferenceIdeal.main_arg1)
          ∧ r.2.mem ((c.tc : Thread Cert.ScalReferenceIdeal.nD Cert.ScalReferenceIdeal.τ).loc Cert.ScalReferenceIdeal.main_arg2) = m' ((c.tc : Thread Cert.ScalReferenceIdeal.nD Cert.ScalReferenceIdeal.τ).loc Cert.ScalReferenceIdeal.main_arg2)
          ∧ r.2.mem ((c.tc : Thread Cert.ScalReferenceIdeal.nD Cert.ScalReferenceIdeal.τ).loc Cert.ScalReferenceIdeal.main_arg3) = m' ((c.tc : Thread Cert.ScalReferenceIdeal.nD Cert.ScalReferenceIdeal.τ).loc Cert.ScalReferenceIdeal.main_arg3)
          ∧ r.2.mem ((c.tc : Thread Cert.ScalReferenceIdeal.nD Cert.ScalReferenceIdeal.τ).loc Cert.ScalReferenceIdeal.main_arg4) = m' ((c.tc : Thread Cert.ScalReferenceIdeal.nD Cert.ScalReferenceIdeal.τ).loc Cert.ScalReferenceIdeal.main_arg4)
          ∧ r.2.mem ((c.tc : Thread Cert.ScalReferenceIdeal.nD Cert.ScalReferenceIdeal.τ).loc Cert.ScalReferenceIdeal.main_arg5) = m' ((c.tc : Thread Cert.ScalReferenceIdeal.nD Cert.ScalReferenceIdeal.τ).loc Cert.ScalReferenceIdeal.main_arg5)
          ∧ r.2.mem ((c.tc : Thread Cert.ScalReferenceIdeal.nD Cert.ScalReferenceIdeal.τ).loc Cert.ScalReferenceIdeal.main_arg6) = m' ((c.tc : Thread Cert.ScalReferenceIdeal.nD Cert.ScalReferenceIdeal.τ).loc Cert.ScalReferenceIdeal.main_arg6)
          ∧ r.2.mem ((c.tc : Thread Cert.ScalReferenceIdeal.nD Cert.ScalReferenceIdeal.τ).loc Cert.ScalReferenceIdeal.main_arg7) = m' ((c.tc : Thread Cert.ScalReferenceIdeal.nD Cert.ScalReferenceIdeal.τ).loc Cert.ScalReferenceIdeal.main_arg7))

def algebraic_ScalKernelIdeal_ScalReferenceIdeal_pre_scal_small [hScalKernelIdeal : Cert.ScalKernelIdeal.Facts] [hScalReferenceIdeal : Cert.ScalReferenceIdeal.Facts] [hPre_scal_small : Cert.Pre_scal_small.Facts] : Prop :=
  ∀ (m : (ℓ : Loc Cert.ScalKernelIdeal.nD Cert.ScalKernelIdeal.τ Cert.ScalKernelIdeal.sig) → Buf (Elt Ideal) ℓ) (g : Dev Cert.ScalKernelIdeal.nD → PrngReg)
    (m' : (ℓ : Loc Cert.ScalReferenceIdeal.nD Cert.ScalReferenceIdeal.τ Cert.ScalReferenceIdeal.sig) → Buf (Elt Ideal) ℓ) (g' : Dev Cert.ScalReferenceIdeal.nD → PrngReg), Pre_ScalKernelIdeal_scal_small m →
    (∀ c : Dev Cert.ScalKernelIdeal.nD,
      m' ((c.tc : Thread Cert.ScalReferenceIdeal.nD Cert.ScalReferenceIdeal.τ).loc Cert.ScalReferenceIdeal.main_arg0) = m ((c.tc : Thread Cert.ScalKernelIdeal.nD Cert.ScalKernelIdeal.τ).loc Cert.ScalKernelIdeal.main_arg0)
      ∧ m' ((c.tc : Thread Cert.ScalReferenceIdeal.nD Cert.ScalReferenceIdeal.τ).loc Cert.ScalReferenceIdeal.main_arg1) = m ((c.tc : Thread Cert.ScalKernelIdeal.nD Cert.ScalKernelIdeal.τ).loc Cert.ScalKernelIdeal.main_arg1)
      ∧ m' ((c.tc : Thread Cert.ScalReferenceIdeal.nD Cert.ScalReferenceIdeal.τ).loc Cert.ScalReferenceIdeal.main_arg2) = m ((c.tc : Thread Cert.ScalKernelIdeal.nD Cert.ScalKernelIdeal.τ).loc Cert.ScalKernelIdeal.main_arg2)
      ∧ m' ((c.tc : Thread Cert.ScalReferenceIdeal.nD Cert.ScalReferenceIdeal.τ).loc Cert.ScalReferenceIdeal.main_arg3) = m ((c.tc : Thread Cert.ScalKernelIdeal.nD Cert.ScalKernelIdeal.τ).loc Cert.ScalKernelIdeal.main_arg3)
      ∧ m' ((c.tc : Thread Cert.ScalReferenceIdeal.nD Cert.ScalReferenceIdeal.τ).loc Cert.ScalReferenceIdeal.main_arg4) = m ((c.tc : Thread Cert.ScalKernelIdeal.nD Cert.ScalKernelIdeal.τ).loc Cert.ScalKernelIdeal.main_arg4)
      ∧ m' ((c.tc : Thread Cert.ScalReferenceIdeal.nD Cert.ScalReferenceIdeal.τ).loc Cert.ScalReferenceIdeal.main_arg5) = m ((c.tc : Thread Cert.ScalKernelIdeal.nD Cert.ScalKernelIdeal.τ).loc Cert.ScalKernelIdeal.main_arg5)
      ∧ m' ((c.tc : Thread Cert.ScalReferenceIdeal.nD Cert.ScalReferenceIdeal.τ).loc Cert.ScalReferenceIdeal.main_arg6) = m ((c.tc : Thread Cert.ScalKernelIdeal.nD Cert.ScalKernelIdeal.τ).loc Cert.ScalKernelIdeal.main_arg6)
      ∧ m' ((c.tc : Thread Cert.ScalReferenceIdeal.nD Cert.ScalReferenceIdeal.τ).loc Cert.ScalReferenceIdeal.main_arg7) = m ((c.tc : Thread Cert.ScalKernelIdeal.nD Cert.ScalKernelIdeal.τ).loc Cert.ScalKernelIdeal.main_arg7)) →
    ∃ (v0 : (c : Dev Cert.ScalKernelIdeal.nD) → Buf (Elt Ideal) ((c.tc : Thread Cert.ScalKernelIdeal.nD Cert.ScalKernelIdeal.τ).loc Cert.ScalKernelIdeal.main_v10_0)) (v1 : (c : Dev Cert.ScalKernelIdeal.nD) → Buf (Elt Ideal) ((c.tc : Thread Cert.ScalKernelIdeal.nD Cert.ScalKernelIdeal.τ).loc Cert.ScalKernelIdeal.main_v10_1)),
      θ_run (Cert.ScalKernelIdeal.defs (F := Ideal)) (onTc (τ := Cert.ScalKernelIdeal.τ) (Cert.ScalKernelIdeal.main (F := Ideal))) ⟨m, fun _ => 0, g⟩ (fun r => ∀ c : Dev Cert.ScalKernelIdeal.nD,
          r.2.mem ((c.tc : Thread Cert.ScalKernelIdeal.nD Cert.ScalKernelIdeal.τ).loc Cert.ScalKernelIdeal.main_v10_0) = v0 c
          ∧ r.2.mem ((c.tc : Thread Cert.ScalKernelIdeal.nD Cert.ScalKernelIdeal.τ).loc Cert.ScalKernelIdeal.main_v10_1) = v1 c
          ∧ r.2.mem ((c.tc : Thread Cert.ScalKernelIdeal.nD Cert.ScalKernelIdeal.τ).loc Cert.ScalKernelIdeal.main_arg0) = m ((c.tc : Thread Cert.ScalKernelIdeal.nD Cert.ScalKernelIdeal.τ).loc Cert.ScalKernelIdeal.main_arg0)
          ∧ r.2.mem ((c.tc : Thread Cert.ScalKernelIdeal.nD Cert.ScalKernelIdeal.τ).loc Cert.ScalKernelIdeal.main_arg1) = m ((c.tc : Thread Cert.ScalKernelIdeal.nD Cert.ScalKernelIdeal.τ).loc Cert.ScalKernelIdeal.main_arg1)
          ∧ r.2.mem ((c.tc : Thread Cert.ScalKernelIdeal.nD Cert.ScalKernelIdeal.τ).loc Cert.ScalKernelIdeal.main_arg2) = m ((c.tc : Thread Cert.ScalKernelIdeal.nD Cert.ScalKernelIdeal.τ).loc Cert.ScalKernelIdeal.main_arg2)
          ∧ r.2.mem ((c.tc : Thread Cert.ScalKernelIdeal.nD Cert.ScalKernelIdeal.τ).loc Cert.ScalKernelIdeal.main_arg3) = m ((c.tc : Thread Cert.ScalKernelIdeal.nD Cert.ScalKernelIdeal.τ).loc Cert.ScalKernelIdeal.main_arg3)
          ∧ r.2.mem ((c.tc : Thread Cert.ScalKernelIdeal.nD Cert.ScalKernelIdeal.τ).loc Cert.ScalKernelIdeal.main_arg4) = m ((c.tc : Thread Cert.ScalKernelIdeal.nD Cert.ScalKernelIdeal.τ).loc Cert.ScalKernelIdeal.main_arg4)
          ∧ r.2.mem ((c.tc : Thread Cert.ScalKernelIdeal.nD Cert.ScalKernelIdeal.τ).loc Cert.ScalKernelIdeal.main_arg5) = m ((c.tc : Thread Cert.ScalKernelIdeal.nD Cert.ScalKernelIdeal.τ).loc Cert.ScalKernelIdeal.main_arg5)
          ∧ r.2.mem ((c.tc : Thread Cert.ScalKernelIdeal.nD Cert.ScalKernelIdeal.τ).loc Cert.ScalKernelIdeal.main_arg6) = m ((c.tc : Thread Cert.ScalKernelIdeal.nD Cert.ScalKernelIdeal.τ).loc Cert.ScalKernelIdeal.main_arg6)
          ∧ r.2.mem ((c.tc : Thread Cert.ScalKernelIdeal.nD Cert.ScalKernelIdeal.τ).loc Cert.ScalKernelIdeal.main_arg7) = m ((c.tc : Thread Cert.ScalKernelIdeal.nD Cert.ScalKernelIdeal.τ).loc Cert.ScalKernelIdeal.main_arg7))
      ∧ θ_run (Cert.ScalReferenceIdeal.defs (F := Ideal)) (onTc (τ := Cert.ScalReferenceIdeal.τ) (Cert.ScalReferenceIdeal.main (F := Ideal))) ⟨m', fun _ => 0, g'⟩ (fun r => ∀ c : Dev Cert.ScalReferenceIdeal.nD,
          r.2.mem ((c.tc : Thread Cert.ScalReferenceIdeal.nD Cert.ScalReferenceIdeal.τ).loc Cert.ScalReferenceIdeal.main_v49) = v0 c
          ∧ r.2.mem ((c.tc : Thread Cert.ScalReferenceIdeal.nD Cert.ScalReferenceIdeal.τ).loc Cert.ScalReferenceIdeal.main_v55) = v1 c
          ∧ r.2.mem ((c.tc : Thread Cert.ScalReferenceIdeal.nD Cert.ScalReferenceIdeal.τ).loc Cert.ScalReferenceIdeal.main_arg0) = m' ((c.tc : Thread Cert.ScalReferenceIdeal.nD Cert.ScalReferenceIdeal.τ).loc Cert.ScalReferenceIdeal.main_arg0)
          ∧ r.2.mem ((c.tc : Thread Cert.ScalReferenceIdeal.nD Cert.ScalReferenceIdeal.τ).loc Cert.ScalReferenceIdeal.main_arg1) = m' ((c.tc : Thread Cert.ScalReferenceIdeal.nD Cert.ScalReferenceIdeal.τ).loc Cert.ScalReferenceIdeal.main_arg1)
          ∧ r.2.mem ((c.tc : Thread Cert.ScalReferenceIdeal.nD Cert.ScalReferenceIdeal.τ).loc Cert.ScalReferenceIdeal.main_arg2) = m' ((c.tc : Thread Cert.ScalReferenceIdeal.nD Cert.ScalReferenceIdeal.τ).loc Cert.ScalReferenceIdeal.main_arg2)
          ∧ r.2.mem ((c.tc : Thread Cert.ScalReferenceIdeal.nD Cert.ScalReferenceIdeal.τ).loc Cert.ScalReferenceIdeal.main_arg3) = m' ((c.tc : Thread Cert.ScalReferenceIdeal.nD Cert.ScalReferenceIdeal.τ).loc Cert.ScalReferenceIdeal.main_arg3)
          ∧ r.2.mem ((c.tc : Thread Cert.ScalReferenceIdeal.nD Cert.ScalReferenceIdeal.τ).loc Cert.ScalReferenceIdeal.main_arg4) = m' ((c.tc : Thread Cert.ScalReferenceIdeal.nD Cert.ScalReferenceIdeal.τ).loc Cert.ScalReferenceIdeal.main_arg4)
          ∧ r.2.mem ((c.tc : Thread Cert.ScalReferenceIdeal.nD Cert.ScalReferenceIdeal.τ).loc Cert.ScalReferenceIdeal.main_arg5) = m' ((c.tc : Thread Cert.ScalReferenceIdeal.nD Cert.ScalReferenceIdeal.τ).loc Cert.ScalReferenceIdeal.main_arg5)
          ∧ r.2.mem ((c.tc : Thread Cert.ScalReferenceIdeal.nD Cert.ScalReferenceIdeal.τ).loc Cert.ScalReferenceIdeal.main_arg6) = m' ((c.tc : Thread Cert.ScalReferenceIdeal.nD Cert.ScalReferenceIdeal.τ).loc Cert.ScalReferenceIdeal.main_arg6)
          ∧ r.2.mem ((c.tc : Thread Cert.ScalReferenceIdeal.nD Cert.ScalReferenceIdeal.τ).loc Cert.ScalReferenceIdeal.main_arg7) = m' ((c.tc : Thread Cert.ScalReferenceIdeal.nD Cert.ScalReferenceIdeal.τ).loc Cert.ScalReferenceIdeal.main_arg7))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)) (v3 : (c : Dev Cert.LossKernelIdeal.nD) → Buf (Elt Ideal) ((c.tc : Thread Cert.LossKernelIdeal.nD Cert.LossKernelIdeal.τ).loc Cert.LossKernelIdeal.main_v2_3)) (v4 : (c : Dev Cert.LossKernelIdeal.nD) → Buf (Elt Ideal) ((c.tc : Thread Cert.LossKernelIdeal.nD Cert.LossKernelIdeal.τ).loc Cert.LossKernelIdeal.main_v2_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_v2_3) = v3 c
          ∧ r.2.mem ((c.tc : Thread Cert.LossKernelIdeal.nD Cert.LossKernelIdeal.τ).loc Cert.LossKernelIdeal.main_v2_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v55) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_v56) = v3 c
          ∧ r.2.mem ((c.tc : Thread Cert.LossReferenceIdeal.nD Cert.LossReferenceIdeal.τ).loc Cert.LossReferenceIdeal.main_v58) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_InputKernel_InputKernelIdeal : Prop :=
  True

def algebraic_InputKernelIdeal_InputReferenceIdeal [hInputKernelIdeal : Cert.InputKernelIdeal.Facts] [hInputReferenceIdeal : Cert.InputReferenceIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)) →
    ∃ (v0 : (c : Dev Cert.InputKernelIdeal.nD) → Buf (Elt Ideal) ((c.tc : Thread Cert.InputKernelIdeal.nD Cert.InputKernelIdeal.τ).loc Cert.InputKernelIdeal.main_v42_0)) (v1 : (c : Dev Cert.InputKernelIdeal.nD) → Buf (Elt Ideal) ((c.tc : Thread Cert.InputKernelIdeal.nD Cert.InputKernelIdeal.τ).loc Cert.InputKernelIdeal.main_v42_1)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v42_0) = v0 c
          ∧ r.2.mem ((c.tc : Thread Cert.InputKernelIdeal.nD Cert.InputKernelIdeal.τ).loc Cert.InputKernelIdeal.main_v42_1) = v1 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v39) = v0 c
          ∧ r.2.mem ((c.tc : Thread Cert.InputReferenceIdeal.nD Cert.InputReferenceIdeal.τ).loc Cert.InputReferenceIdeal.main_v40) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4))

def preserves_FgateKernel_FgateKernelIdeal : Prop :=
  True

def algebraic_FgateKernelIdeal_FgateReferenceIdeal_on_fgate_columns [hFgateKernelIdeal : Cert.FgateKernelIdeal.Facts] [hFgateReferenceIdeal : Cert.FgateReferenceIdeal.Facts] [hOn_fgate_columns : Cert.On_fgate_columns.Facts] : Prop :=
  ∀ (m : (ℓ : Loc Cert.FgateKernelIdeal.nD Cert.FgateKernelIdeal.τ Cert.FgateKernelIdeal.sig) → Buf (Elt Ideal) ℓ) (g : Dev Cert.FgateKernelIdeal.nD → PrngReg)
    (m' : (ℓ : Loc Cert.FgateReferenceIdeal.nD Cert.FgateReferenceIdeal.τ Cert.FgateReferenceIdeal.sig) → Buf (Elt Ideal) ℓ) (g' : Dev Cert.FgateReferenceIdeal.nD → PrngReg), Pre_FgateKernelIdeal m →
    (∀ c : Dev Cert.FgateKernelIdeal.nD,
      m' ((c.tc : Thread Cert.FgateReferenceIdeal.nD Cert.FgateReferenceIdeal.τ).loc Cert.FgateReferenceIdeal.main_arg0) = m ((c.tc : Thread Cert.FgateKernelIdeal.nD Cert.FgateKernelIdeal.τ).loc Cert.FgateKernelIdeal.main_arg0)
      ∧ m' ((c.tc : Thread Cert.FgateReferenceIdeal.nD Cert.FgateReferenceIdeal.τ).loc Cert.FgateReferenceIdeal.main_arg1) = m ((c.tc : Thread Cert.FgateKernelIdeal.nD Cert.FgateKernelIdeal.τ).loc Cert.FgateKernelIdeal.main_arg1)
      ∧ m' ((c.tc : Thread Cert.FgateReferenceIdeal.nD Cert.FgateReferenceIdeal.τ).loc Cert.FgateReferenceIdeal.main_arg2) = m ((c.tc : Thread Cert.FgateKernelIdeal.nD Cert.FgateKernelIdeal.τ).loc Cert.FgateKernelIdeal.main_arg2)) →
    ∃ (v0 : (c : Dev Cert.FgateKernelIdeal.nD) → Buf (Elt Ideal) ((c.tc : Thread Cert.FgateKernelIdeal.nD Cert.FgateKernelIdeal.τ).loc Cert.FgateKernelIdeal.main_v1)),
      θ_run (Cert.FgateKernelIdeal.defs (F := Ideal)) (onTc (τ := Cert.FgateKernelIdeal.τ) (Cert.FgateKernelIdeal.main (F := Ideal))) ⟨m, fun _ => 0, g⟩ (fun r => ∀ c : Dev Cert.FgateKernelIdeal.nD,
          (∀ i : (⟨2, ![2048, 2048]⟩ : Shape).Idx, (Cert.On_fgate_columns.fn (F := Ideal) (m ((c.tc : Thread Cert.FgateKernelIdeal.nD Cert.FgateKernelIdeal.τ).loc Cert.FgateKernelIdeal.main_arg0)) (m ((c.tc : Thread Cert.FgateKernelIdeal.nD Cert.FgateKernelIdeal.τ).loc Cert.FgateKernelIdeal.main_arg1)) (m ((c.tc : Thread Cert.FgateKernelIdeal.nD Cert.FgateKernelIdeal.τ).loc Cert.FgateKernelIdeal.main_arg2))) i = 1#1 → r.2.mem ((c.tc : Thread Cert.FgateKernelIdeal.nD Cert.FgateKernelIdeal.τ).loc Cert.FgateKernelIdeal.main_v1) i = v0 c i)
          ∧ r.2.mem ((c.tc : Thread Cert.FgateKernelIdeal.nD Cert.FgateKernelIdeal.τ).loc Cert.FgateKernelIdeal.main_arg0) = m ((c.tc : Thread Cert.FgateKernelIdeal.nD Cert.FgateKernelIdeal.τ).loc Cert.FgateKernelIdeal.main_arg0)
          ∧ r.2.mem ((c.tc : Thread Cert.FgateKernelIdeal.nD Cert.FgateKernelIdeal.τ).loc Cert.FgateKernelIdeal.main_arg1) = m ((c.tc : Thread Cert.FgateKernelIdeal.nD Cert.FgateKernelIdeal.τ).loc Cert.FgateKernelIdeal.main_arg1)
          ∧ r.2.mem ((c.tc : Thread Cert.FgateKernelIdeal.nD Cert.FgateKernelIdeal.τ).loc Cert.FgateKernelIdeal.main_arg2) = m ((c.tc : Thread Cert.FgateKernelIdeal.nD Cert.FgateKernelIdeal.τ).loc Cert.FgateKernelIdeal.main_arg2))
      ∧ θ_run (Cert.FgateReferenceIdeal.defs (F := Ideal)) (onTc (τ := Cert.FgateReferenceIdeal.τ) (Cert.FgateReferenceIdeal.main (F := Ideal))) ⟨m', fun _ => 0, g'⟩ (fun r => ∀ c : Dev Cert.FgateReferenceIdeal.nD,
          (∀ i : (⟨2, ![2048, 2048]⟩ : Shape).Idx, (Cert.On_fgate_columns.fn (F := Ideal) (m ((c.tc : Thread Cert.FgateKernelIdeal.nD Cert.FgateKernelIdeal.τ).loc Cert.FgateKernelIdeal.main_arg0)) (m ((c.tc : Thread Cert.FgateKernelIdeal.nD Cert.FgateKernelIdeal.τ).loc Cert.FgateKernelIdeal.main_arg1)) (m ((c.tc : Thread Cert.FgateKernelIdeal.nD Cert.FgateKernelIdeal.τ).loc Cert.FgateKernelIdeal.main_arg2))) i = 1#1 → r.2.mem ((c.tc : Thread Cert.FgateReferenceIdeal.nD Cert.FgateReferenceIdeal.τ).loc Cert.FgateReferenceIdeal.main_v22) i = v0 c i)
          ∧ r.2.mem ((c.tc : Thread Cert.FgateReferenceIdeal.nD Cert.FgateReferenceIdeal.τ).loc Cert.FgateReferenceIdeal.main_arg0) = m' ((c.tc : Thread Cert.FgateReferenceIdeal.nD Cert.FgateReferenceIdeal.τ).loc Cert.FgateReferenceIdeal.main_arg0)
          ∧ r.2.mem ((c.tc : Thread Cert.FgateReferenceIdeal.nD Cert.FgateReferenceIdeal.τ).loc Cert.FgateReferenceIdeal.main_arg1) = m' ((c.tc : Thread Cert.FgateReferenceIdeal.nD Cert.FgateReferenceIdeal.τ).loc Cert.FgateReferenceIdeal.main_arg1)
          ∧ r.2.mem ((c.tc : Thread Cert.FgateReferenceIdeal.nD Cert.FgateReferenceIdeal.τ).loc Cert.FgateReferenceIdeal.main_arg2) = m' ((c.tc : Thread Cert.FgateReferenceIdeal.nD Cert.FgateReferenceIdeal.τ).loc Cert.FgateReferenceIdeal.main_arg2))

def preserves_FconvKernel_FconvKernelIdeal : Prop :=
  True

def algebraic_FconvKernelIdeal_FconvReferenceIdeal [hFconvKernelIdeal : Cert.FconvKernelIdeal.Facts] [hFconvReferenceIdeal : Cert.FconvReferenceIdeal.Facts] : Prop :=
  ∀ (m : (ℓ : Loc Cert.FconvKernelIdeal.nD Cert.FconvKernelIdeal.τ Cert.FconvKernelIdeal.sig) → Buf (Elt Ideal) ℓ) (g : Dev Cert.FconvKernelIdeal.nD → PrngReg)
    (m' : (ℓ : Loc Cert.FconvReferenceIdeal.nD Cert.FconvReferenceIdeal.τ Cert.FconvReferenceIdeal.sig) → Buf (Elt Ideal) ℓ) (g' : Dev Cert.FconvReferenceIdeal.nD → PrngReg), Pre_FconvKernelIdeal m →
    (∀ c : Dev Cert.FconvKernelIdeal.nD,
      m' ((c.tc : Thread Cert.FconvReferenceIdeal.nD Cert.FconvReferenceIdeal.τ).loc Cert.FconvReferenceIdeal.main_arg0) = m ((c.tc : Thread Cert.FconvKernelIdeal.nD Cert.FconvKernelIdeal.τ).loc Cert.FconvKernelIdeal.main_arg0)
      ∧ m' ((c.tc : Thread Cert.FconvReferenceIdeal.nD Cert.FconvReferenceIdeal.τ).loc Cert.FconvReferenceIdeal.main_arg1) = m ((c.tc : Thread Cert.FconvKernelIdeal.nD Cert.FconvKernelIdeal.τ).loc Cert.FconvKernelIdeal.main_arg1)
      ∧ m' ((c.tc : Thread Cert.FconvReferenceIdeal.nD Cert.FconvReferenceIdeal.τ).loc Cert.FconvReferenceIdeal.main_arg2) = m ((c.tc : Thread Cert.FconvKernelIdeal.nD Cert.FconvKernelIdeal.τ).loc Cert.FconvKernelIdeal.main_arg2)
      ∧ m' ((c.tc : Thread Cert.FconvReferenceIdeal.nD Cert.FconvReferenceIdeal.τ).loc Cert.FconvReferenceIdeal.main_arg3) = m ((c.tc : Thread Cert.FconvKernelIdeal.nD Cert.FconvKernelIdeal.τ).loc Cert.FconvKernelIdeal.main_arg3)
      ∧ m' ((c.tc : Thread Cert.FconvReferenceIdeal.nD Cert.FconvReferenceIdeal.τ).loc Cert.FconvReferenceIdeal.main_arg4) = m ((c.tc : Thread Cert.FconvKernelIdeal.nD Cert.FconvKernelIdeal.τ).loc Cert.FconvKernelIdeal.main_arg4)
      ∧ m' ((c.tc : Thread Cert.FconvReferenceIdeal.nD Cert.FconvReferenceIdeal.τ).loc Cert.FconvReferenceIdeal.main_arg5) = m ((c.tc : Thread Cert.FconvKernelIdeal.nD Cert.FconvKernelIdeal.τ).loc Cert.FconvKernelIdeal.main_arg5)
      ∧ m' ((c.tc : Thread Cert.FconvReferenceIdeal.nD Cert.FconvReferenceIdeal.τ).loc Cert.FconvReferenceIdeal.main_arg6) = m ((c.tc : Thread Cert.FconvKernelIdeal.nD Cert.FconvKernelIdeal.τ).loc Cert.FconvKernelIdeal.main_arg6)) →
    ∃ (v0 : (c : Dev Cert.FconvKernelIdeal.nD) → Buf (Elt Ideal) ((c.tc : Thread Cert.FconvKernelIdeal.nD Cert.FconvKernelIdeal.τ).loc Cert.FconvKernelIdeal.main_v11)),
      θ_run (Cert.FconvKernelIdeal.defs (F := Ideal)) (onTc (τ := Cert.FconvKernelIdeal.τ) (Cert.FconvKernelIdeal.main (F := Ideal))) ⟨m, fun _ => 0, g⟩ (fun r => ∀ c : Dev Cert.FconvKernelIdeal.nD,
          r.2.mem ((c.tc : Thread Cert.FconvKernelIdeal.nD Cert.FconvKernelIdeal.τ).loc Cert.FconvKernelIdeal.main_v11) = v0 c
          ∧ r.2.mem ((c.tc : Thread Cert.FconvKernelIdeal.nD Cert.FconvKernelIdeal.τ).loc Cert.FconvKernelIdeal.main_arg0) = m ((c.tc : Thread Cert.FconvKernelIdeal.nD Cert.FconvKernelIdeal.τ).loc Cert.FconvKernelIdeal.main_arg0)
          ∧ r.2.mem ((c.tc : Thread Cert.FconvKernelIdeal.nD Cert.FconvKernelIdeal.τ).loc Cert.FconvKernelIdeal.main_arg1) = m ((c.tc : Thread Cert.FconvKernelIdeal.nD Cert.FconvKernelIdeal.τ).loc Cert.FconvKernelIdeal.main_arg1)
          ∧ r.2.mem ((c.tc : Thread Cert.FconvKernelIdeal.nD Cert.FconvKernelIdeal.τ).loc Cert.FconvKernelIdeal.main_arg2) = m ((c.tc : Thread Cert.FconvKernelIdeal.nD Cert.FconvKernelIdeal.τ).loc Cert.FconvKernelIdeal.main_arg2)
          ∧ r.2.mem ((c.tc : Thread Cert.FconvKernelIdeal.nD Cert.FconvKernelIdeal.τ).loc Cert.FconvKernelIdeal.main_arg3) = m ((c.tc : Thread Cert.FconvKernelIdeal.nD Cert.FconvKernelIdeal.τ).loc Cert.FconvKernelIdeal.main_arg3)
          ∧ r.2.mem ((c.tc : Thread Cert.FconvKernelIdeal.nD Cert.FconvKernelIdeal.τ).loc Cert.FconvKernelIdeal.main_arg4) = m ((c.tc : Thread Cert.FconvKernelIdeal.nD Cert.FconvKernelIdeal.τ).loc Cert.FconvKernelIdeal.main_arg4)
          ∧ r.2.mem ((c.tc : Thread Cert.FconvKernelIdeal.nD Cert.FconvKernelIdeal.τ).loc Cert.FconvKernelIdeal.main_arg5) = m ((c.tc : Thread Cert.FconvKernelIdeal.nD Cert.FconvKernelIdeal.τ).loc Cert.FconvKernelIdeal.main_arg5)
          ∧ r.2.mem ((c.tc : Thread Cert.FconvKernelIdeal.nD Cert.FconvKernelIdeal.τ).loc Cert.FconvKernelIdeal.main_arg6) = m ((c.tc : Thread Cert.FconvKernelIdeal.nD Cert.FconvKernelIdeal.τ).loc Cert.FconvKernelIdeal.main_arg6))
      ∧ θ_run (Cert.FconvReferenceIdeal.defs (F := Ideal)) (onTc (τ := Cert.FconvReferenceIdeal.τ) (Cert.FconvReferenceIdeal.main (F := Ideal))) ⟨m', fun _ => 0, g'⟩ (fun r => ∀ c : Dev Cert.FconvReferenceIdeal.nD,
          r.2.mem ((c.tc : Thread Cert.FconvReferenceIdeal.nD Cert.FconvReferenceIdeal.τ).loc Cert.FconvReferenceIdeal.main_v39) = v0 c
          ∧ r.2.mem ((c.tc : Thread Cert.FconvReferenceIdeal.nD Cert.FconvReferenceIdeal.τ).loc Cert.FconvReferenceIdeal.main_arg0) = m' ((c.tc : Thread Cert.FconvReferenceIdeal.nD Cert.FconvReferenceIdeal.τ).loc Cert.FconvReferenceIdeal.main_arg0)
          ∧ r.2.mem ((c.tc : Thread Cert.FconvReferenceIdeal.nD Cert.FconvReferenceIdeal.τ).loc Cert.FconvReferenceIdeal.main_arg1) = m' ((c.tc : Thread Cert.FconvReferenceIdeal.nD Cert.FconvReferenceIdeal.τ).loc Cert.FconvReferenceIdeal.main_arg1)
          ∧ r.2.mem ((c.tc : Thread Cert.FconvReferenceIdeal.nD Cert.FconvReferenceIdeal.τ).loc Cert.FconvReferenceIdeal.main_arg2) = m' ((c.tc : Thread Cert.FconvReferenceIdeal.nD Cert.FconvReferenceIdeal.τ).loc Cert.FconvReferenceIdeal.main_arg2)
          ∧ r.2.mem ((c.tc : Thread Cert.FconvReferenceIdeal.nD Cert.FconvReferenceIdeal.τ).loc Cert.FconvReferenceIdeal.main_arg3) = m' ((c.tc : Thread Cert.FconvReferenceIdeal.nD Cert.FconvReferenceIdeal.τ).loc Cert.FconvReferenceIdeal.main_arg3)
          ∧ r.2.mem ((c.tc : Thread Cert.FconvReferenceIdeal.nD Cert.FconvReferenceIdeal.τ).loc Cert.FconvReferenceIdeal.main_arg4) = m' ((c.tc : Thread Cert.FconvReferenceIdeal.nD Cert.FconvReferenceIdeal.τ).loc Cert.FconvReferenceIdeal.main_arg4)
          ∧ r.2.mem ((c.tc : Thread Cert.FconvReferenceIdeal.nD Cert.FconvReferenceIdeal.τ).loc Cert.FconvReferenceIdeal.main_arg5) = m' ((c.tc : Thread Cert.FconvReferenceIdeal.nD Cert.FconvReferenceIdeal.τ).loc Cert.FconvReferenceIdeal.main_arg5)
          ∧ r.2.mem ((c.tc : Thread Cert.FconvReferenceIdeal.nD Cert.FconvReferenceIdeal.τ).loc Cert.FconvReferenceIdeal.main_arg6) = m' ((c.tc : Thread Cert.FconvReferenceIdeal.nD Cert.FconvReferenceIdeal.τ).loc Cert.FconvReferenceIdeal.main_arg6))

def preserves_FqkvKernel_FqkvKernelIdeal : Prop :=
  True

def algebraic_FqkvKernelIdeal_FqkvReferenceIdeal [hFqkvKernelIdeal : Cert.FqkvKernelIdeal.Facts] [hFqkvReferenceIdeal : Cert.FqkvReferenceIdeal.Facts] : Prop :=
  ∀ (m : (ℓ : Loc Cert.FqkvKernelIdeal.nD Cert.FqkvKernelIdeal.τ Cert.FqkvKernelIdeal.sig) → Buf (Elt Ideal) ℓ) (g : Dev Cert.FqkvKernelIdeal.nD → PrngReg)
    (m' : (ℓ : Loc Cert.FqkvReferenceIdeal.nD Cert.FqkvReferenceIdeal.τ Cert.FqkvReferenceIdeal.sig) → Buf (Elt Ideal) ℓ) (g' : Dev Cert.FqkvReferenceIdeal.nD → PrngReg), Pre_FqkvKernelIdeal m →
    (∀ c : Dev Cert.FqkvKernelIdeal.nD,
      m' ((c.tc : Thread Cert.FqkvReferenceIdeal.nD Cert.FqkvReferenceIdeal.τ).loc Cert.FqkvReferenceIdeal.main_arg0) = m ((c.tc : Thread Cert.FqkvKernelIdeal.nD Cert.FqkvKernelIdeal.τ).loc Cert.FqkvKernelIdeal.main_arg0)
      ∧ m' ((c.tc : Thread Cert.FqkvReferenceIdeal.nD Cert.FqkvReferenceIdeal.τ).loc Cert.FqkvReferenceIdeal.main_arg1) = m ((c.tc : Thread Cert.FqkvKernelIdeal.nD Cert.FqkvKernelIdeal.τ).loc Cert.FqkvKernelIdeal.main_arg1)) →
    ∃ (v0 : (c : Dev Cert.FqkvKernelIdeal.nD) → Buf (Elt Ideal) ((c.tc : Thread Cert.FqkvKernelIdeal.nD Cert.FqkvKernelIdeal.τ).loc Cert.FqkvKernelIdeal.main_v1)),
      θ_run (Cert.FqkvKernelIdeal.defs (F := Ideal)) (onTc (τ := Cert.FqkvKernelIdeal.τ) (Cert.FqkvKernelIdeal.main (F := Ideal))) ⟨m, fun _ => 0, g⟩ (fun r => ∀ c : Dev Cert.FqkvKernelIdeal.nD,
          r.2.mem ((c.tc : Thread Cert.FqkvKernelIdeal.nD Cert.FqkvKernelIdeal.τ).loc Cert.FqkvKernelIdeal.main_v1) = v0 c
          ∧ r.2.mem ((c.tc : Thread Cert.FqkvKernelIdeal.nD Cert.FqkvKernelIdeal.τ).loc Cert.FqkvKernelIdeal.main_arg0) = m ((c.tc : Thread Cert.FqkvKernelIdeal.nD Cert.FqkvKernelIdeal.τ).loc Cert.FqkvKernelIdeal.main_arg0)
          ∧ r.2.mem ((c.tc : Thread Cert.FqkvKernelIdeal.nD Cert.FqkvKernelIdeal.τ).loc Cert.FqkvKernelIdeal.main_arg1) = m ((c.tc : Thread Cert.FqkvKernelIdeal.nD Cert.FqkvKernelIdeal.τ).loc Cert.FqkvKernelIdeal.main_arg1))
      ∧ θ_run (Cert.FqkvReferenceIdeal.defs (F := Ideal)) (onTc (τ := Cert.FqkvReferenceIdeal.τ) (Cert.FqkvReferenceIdeal.main (F := Ideal))) ⟨m', fun _ => 0, g'⟩ (fun r => ∀ c : Dev Cert.FqkvReferenceIdeal.nD,
          r.2.mem ((c.tc : Thread Cert.FqkvReferenceIdeal.nD Cert.FqkvReferenceIdeal.τ).loc Cert.FqkvReferenceIdeal.main_v60) = v0 c
          ∧ r.2.mem ((c.tc : Thread Cert.FqkvReferenceIdeal.nD Cert.FqkvReferenceIdeal.τ).loc Cert.FqkvReferenceIdeal.main_arg0) = m' ((c.tc : Thread Cert.FqkvReferenceIdeal.nD Cert.FqkvReferenceIdeal.τ).loc Cert.FqkvReferenceIdeal.main_arg0)
          ∧ r.2.mem ((c.tc : Thread Cert.FqkvReferenceIdeal.nD Cert.FqkvReferenceIdeal.τ).loc Cert.FqkvReferenceIdeal.main_arg1) = m' ((c.tc : Thread Cert.FqkvReferenceIdeal.nD Cert.FqkvReferenceIdeal.τ).loc Cert.FqkvReferenceIdeal.main_arg1))

def preserves_FscalKernel_FscalKernelIdeal : Prop :=
  True

def algebraic_FscalKernelIdeal_FscalReferenceIdeal_pre_fscal_small [hFscalKernelIdeal : Cert.FscalKernelIdeal.Facts] [hFscalReferenceIdeal : Cert.FscalReferenceIdeal.Facts] [hPre_fscal_small : Cert.Pre_fscal_small.Facts] : Prop :=
  ∀ (m : (ℓ : Loc Cert.FscalKernelIdeal.nD Cert.FscalKernelIdeal.τ Cert.FscalKernelIdeal.sig) → Buf (Elt Ideal) ℓ) (g : Dev Cert.FscalKernelIdeal.nD → PrngReg)
    (m' : (ℓ : Loc Cert.FscalReferenceIdeal.nD Cert.FscalReferenceIdeal.τ Cert.FscalReferenceIdeal.sig) → Buf (Elt Ideal) ℓ) (g' : Dev Cert.FscalReferenceIdeal.nD → PrngReg), Pre_FscalKernelIdeal_fscal_small m →
    (∀ c : Dev Cert.FscalKernelIdeal.nD,
      m' ((c.tc : Thread Cert.FscalReferenceIdeal.nD Cert.FscalReferenceIdeal.τ).loc Cert.FscalReferenceIdeal.main_arg0) = m ((c.tc : Thread Cert.FscalKernelIdeal.nD Cert.FscalKernelIdeal.τ).loc Cert.FscalKernelIdeal.main_arg0)
      ∧ m' ((c.tc : Thread Cert.FscalReferenceIdeal.nD Cert.FscalReferenceIdeal.τ).loc Cert.FscalReferenceIdeal.main_arg1) = m ((c.tc : Thread Cert.FscalKernelIdeal.nD Cert.FscalKernelIdeal.τ).loc Cert.FscalKernelIdeal.main_arg1)
      ∧ m' ((c.tc : Thread Cert.FscalReferenceIdeal.nD Cert.FscalReferenceIdeal.τ).loc Cert.FscalReferenceIdeal.main_arg2) = m ((c.tc : Thread Cert.FscalKernelIdeal.nD Cert.FscalKernelIdeal.τ).loc Cert.FscalKernelIdeal.main_arg2)
      ∧ m' ((c.tc : Thread Cert.FscalReferenceIdeal.nD Cert.FscalReferenceIdeal.τ).loc Cert.FscalReferenceIdeal.main_arg3) = m ((c.tc : Thread Cert.FscalKernelIdeal.nD Cert.FscalKernelIdeal.τ).loc Cert.FscalKernelIdeal.main_arg3)) →
    ∃ (v0 : (c : Dev Cert.FscalKernelIdeal.nD) → Buf (Elt Ideal) ((c.tc : Thread Cert.FscalKernelIdeal.nD Cert.FscalKernelIdeal.τ).loc Cert.FscalKernelIdeal.main_v4_0)) (v1 : (c : Dev Cert.FscalKernelIdeal.nD) → Buf (Elt Ideal) ((c.tc : Thread Cert.FscalKernelIdeal.nD Cert.FscalKernelIdeal.τ).loc Cert.FscalKernelIdeal.main_v4_1)),
      θ_run (Cert.FscalKernelIdeal.defs (F := Ideal)) (onTc (τ := Cert.FscalKernelIdeal.τ) (Cert.FscalKernelIdeal.main (F := Ideal))) ⟨m, fun _ => 0, g⟩ (fun r => ∀ c : Dev Cert.FscalKernelIdeal.nD,
          r.2.mem ((c.tc : Thread Cert.FscalKernelIdeal.nD Cert.FscalKernelIdeal.τ).loc Cert.FscalKernelIdeal.main_v4_0) = v0 c
          ∧ r.2.mem ((c.tc : Thread Cert.FscalKernelIdeal.nD Cert.FscalKernelIdeal.τ).loc Cert.FscalKernelIdeal.main_v4_1) = v1 c
          ∧ r.2.mem ((c.tc : Thread Cert.FscalKernelIdeal.nD Cert.FscalKernelIdeal.τ).loc Cert.FscalKernelIdeal.main_arg0) = m ((c.tc : Thread Cert.FscalKernelIdeal.nD Cert.FscalKernelIdeal.τ).loc Cert.FscalKernelIdeal.main_arg0)
          ∧ r.2.mem ((c.tc : Thread Cert.FscalKernelIdeal.nD Cert.FscalKernelIdeal.τ).loc Cert.FscalKernelIdeal.main_arg1) = m ((c.tc : Thread Cert.FscalKernelIdeal.nD Cert.FscalKernelIdeal.τ).loc Cert.FscalKernelIdeal.main_arg1)
          ∧ r.2.mem ((c.tc : Thread Cert.FscalKernelIdeal.nD Cert.FscalKernelIdeal.τ).loc Cert.FscalKernelIdeal.main_arg2) = m ((c.tc : Thread Cert.FscalKernelIdeal.nD Cert.FscalKernelIdeal.τ).loc Cert.FscalKernelIdeal.main_arg2)
          ∧ r.2.mem ((c.tc : Thread Cert.FscalKernelIdeal.nD Cert.FscalKernelIdeal.τ).loc Cert.FscalKernelIdeal.main_arg3) = m ((c.tc : Thread Cert.FscalKernelIdeal.nD Cert.FscalKernelIdeal.τ).loc Cert.FscalKernelIdeal.main_arg3))
      ∧ θ_run (Cert.FscalReferenceIdeal.defs (F := Ideal)) (onTc (τ := Cert.FscalReferenceIdeal.τ) (Cert.FscalReferenceIdeal.main (F := Ideal))) ⟨m', fun _ => 0, g'⟩ (fun r => ∀ c : Dev Cert.FscalReferenceIdeal.nD,
          r.2.mem ((c.tc : Thread Cert.FscalReferenceIdeal.nD Cert.FscalReferenceIdeal.τ).loc Cert.FscalReferenceIdeal.main_v24) = v0 c
          ∧ r.2.mem ((c.tc : Thread Cert.FscalReferenceIdeal.nD Cert.FscalReferenceIdeal.τ).loc Cert.FscalReferenceIdeal.main_v26) = v1 c
          ∧ r.2.mem ((c.tc : Thread Cert.FscalReferenceIdeal.nD Cert.FscalReferenceIdeal.τ).loc Cert.FscalReferenceIdeal.main_arg0) = m' ((c.tc : Thread Cert.FscalReferenceIdeal.nD Cert.FscalReferenceIdeal.τ).loc Cert.FscalReferenceIdeal.main_arg0)
          ∧ r.2.mem ((c.tc : Thread Cert.FscalReferenceIdeal.nD Cert.FscalReferenceIdeal.τ).loc Cert.FscalReferenceIdeal.main_arg1) = m' ((c.tc : Thread Cert.FscalReferenceIdeal.nD Cert.FscalReferenceIdeal.τ).loc Cert.FscalReferenceIdeal.main_arg1)
          ∧ r.2.mem ((c.tc : Thread Cert.FscalReferenceIdeal.nD Cert.FscalReferenceIdeal.τ).loc Cert.FscalReferenceIdeal.main_arg2) = m' ((c.tc : Thread Cert.FscalReferenceIdeal.nD Cert.FscalReferenceIdeal.τ).loc Cert.FscalReferenceIdeal.main_arg2)
          ∧ r.2.mem ((c.tc : Thread Cert.FscalReferenceIdeal.nD Cert.FscalReferenceIdeal.τ).loc Cert.FscalReferenceIdeal.main_arg3) = m' ((c.tc : Thread Cert.FscalReferenceIdeal.nD Cert.FscalReferenceIdeal.τ).loc Cert.FscalReferenceIdeal.main_arg3))

def preserves_FprojKernel_FprojKernelIdeal : Prop :=
  True

def algebraic_FprojKernelIdeal_FprojReferenceIdeal [hFprojKernelIdeal : Cert.FprojKernelIdeal.Facts] [hFprojReferenceIdeal : Cert.FprojReferenceIdeal.Facts] : Prop :=
  ∀ (m : (ℓ : Loc Cert.FprojKernelIdeal.nD Cert.FprojKernelIdeal.τ Cert.FprojKernelIdeal.sig) → Buf (Elt Ideal) ℓ) (g : Dev Cert.FprojKernelIdeal.nD → PrngReg)
    (m' : (ℓ : Loc Cert.FprojReferenceIdeal.nD Cert.FprojReferenceIdeal.τ Cert.FprojReferenceIdeal.sig) → Buf (Elt Ideal) ℓ) (g' : Dev Cert.FprojReferenceIdeal.nD → PrngReg), Pre_FprojKernelIdeal m →
    (∀ c : Dev Cert.FprojKernelIdeal.nD,
      m' ((c.tc : Thread Cert.FprojReferenceIdeal.nD Cert.FprojReferenceIdeal.τ).loc Cert.FprojReferenceIdeal.main_arg0) = m ((c.tc : Thread Cert.FprojKernelIdeal.nD Cert.FprojKernelIdeal.τ).loc Cert.FprojKernelIdeal.main_arg0)
      ∧ m' ((c.tc : Thread Cert.FprojReferenceIdeal.nD Cert.FprojReferenceIdeal.τ).loc Cert.FprojReferenceIdeal.main_arg1) = m ((c.tc : Thread Cert.FprojKernelIdeal.nD Cert.FprojKernelIdeal.τ).loc Cert.FprojKernelIdeal.main_arg1)
      ∧ m' ((c.tc : Thread Cert.FprojReferenceIdeal.nD Cert.FprojReferenceIdeal.τ).loc Cert.FprojReferenceIdeal.main_arg2) = m ((c.tc : Thread Cert.FprojKernelIdeal.nD Cert.FprojKernelIdeal.τ).loc Cert.FprojKernelIdeal.main_arg2)) →
    ∃ (v0 : (c : Dev Cert.FprojKernelIdeal.nD) → Buf (Elt Ideal) ((c.tc : Thread Cert.FprojKernelIdeal.nD Cert.FprojKernelIdeal.τ).loc Cert.FprojKernelIdeal.main_v21_0)) (v1 : (c : Dev Cert.FprojKernelIdeal.nD) → Buf (Elt Ideal) ((c.tc : Thread Cert.FprojKernelIdeal.nD Cert.FprojKernelIdeal.τ).loc Cert.FprojKernelIdeal.main_v21_1)),
      θ_run (Cert.FprojKernelIdeal.defs (F := Ideal)) (onTc (τ := Cert.FprojKernelIdeal.τ) (Cert.FprojKernelIdeal.main (F := Ideal))) ⟨m, fun _ => 0, g⟩ (fun r => ∀ c : Dev Cert.FprojKernelIdeal.nD,
          r.2.mem ((c.tc : Thread Cert.FprojKernelIdeal.nD Cert.FprojKernelIdeal.τ).loc Cert.FprojKernelIdeal.main_v21_0) = v0 c
          ∧ r.2.mem ((c.tc : Thread Cert.FprojKernelIdeal.nD Cert.FprojKernelIdeal.τ).loc Cert.FprojKernelIdeal.main_v21_1) = v1 c
          ∧ r.2.mem ((c.tc : Thread Cert.FprojKernelIdeal.nD Cert.FprojKernelIdeal.τ).loc Cert.FprojKernelIdeal.main_arg0) = m ((c.tc : Thread Cert.FprojKernelIdeal.nD Cert.FprojKernelIdeal.τ).loc Cert.FprojKernelIdeal.main_arg0)
          ∧ r.2.mem ((c.tc : Thread Cert.FprojKernelIdeal.nD Cert.FprojKernelIdeal.τ).loc Cert.FprojKernelIdeal.main_arg1) = m ((c.tc : Thread Cert.FprojKernelIdeal.nD Cert.FprojKernelIdeal.τ).loc Cert.FprojKernelIdeal.main_arg1)
          ∧ r.2.mem ((c.tc : Thread Cert.FprojKernelIdeal.nD Cert.FprojKernelIdeal.τ).loc Cert.FprojKernelIdeal.main_arg2) = m ((c.tc : Thread Cert.FprojKernelIdeal.nD Cert.FprojKernelIdeal.τ).loc Cert.FprojKernelIdeal.main_arg2))
      ∧ θ_run (Cert.FprojReferenceIdeal.defs (F := Ideal)) (onTc (τ := Cert.FprojReferenceIdeal.τ) (Cert.FprojReferenceIdeal.main (F := Ideal))) ⟨m', fun _ => 0, g'⟩ (fun r => ∀ c : Dev Cert.FprojReferenceIdeal.nD,
          r.2.mem ((c.tc : Thread Cert.FprojReferenceIdeal.nD Cert.FprojReferenceIdeal.τ).loc Cert.FprojReferenceIdeal.main_v32) = v0 c
          ∧ r.2.mem ((c.tc : Thread Cert.FprojReferenceIdeal.nD Cert.FprojReferenceIdeal.τ).loc Cert.FprojReferenceIdeal.main_v33) = v1 c
          ∧ r.2.mem ((c.tc : Thread Cert.FprojReferenceIdeal.nD Cert.FprojReferenceIdeal.τ).loc Cert.FprojReferenceIdeal.main_arg0) = m' ((c.tc : Thread Cert.FprojReferenceIdeal.nD Cert.FprojReferenceIdeal.τ).loc Cert.FprojReferenceIdeal.main_arg0)
          ∧ r.2.mem ((c.tc : Thread Cert.FprojReferenceIdeal.nD Cert.FprojReferenceIdeal.τ).loc Cert.FprojReferenceIdeal.main_arg1) = m' ((c.tc : Thread Cert.FprojReferenceIdeal.nD Cert.FprojReferenceIdeal.τ).loc Cert.FprojReferenceIdeal.main_arg1)
          ∧ r.2.mem ((c.tc : Thread Cert.FprojReferenceIdeal.nD Cert.FprojReferenceIdeal.τ).loc Cert.FprojReferenceIdeal.main_arg2) = m' ((c.tc : Thread Cert.FprojReferenceIdeal.nD Cert.FprojReferenceIdeal.τ).loc Cert.FprojReferenceIdeal.main_arg2))

def preserves_GdnKernel_GdnKernelIdeal : Prop :=
  True

def preserves_TnKernel_TnKernelIdeal : Prop :=
  True

def algebraic_TnKernelIdeal_TnReferenceIdeal [hTnKernelIdeal : Cert.TnKernelIdeal.Facts] [hTnReferenceIdeal : Cert.TnReferenceIdeal.Facts] : Prop :=
  ∀ (m : (ℓ : Loc Cert.TnKernelIdeal.nD Cert.TnKernelIdeal.τ Cert.TnKernelIdeal.sig) → Buf (Elt Ideal) ℓ) (g : Dev Cert.TnKernelIdeal.nD → PrngReg)
    (m' : (ℓ : Loc Cert.TnReferenceIdeal.nD Cert.TnReferenceIdeal.τ Cert.TnReferenceIdeal.sig) → Buf (Elt Ideal) ℓ) (g' : Dev Cert.TnReferenceIdeal.nD → PrngReg), Pre_TnKernelIdeal m →
    (∀ c : Dev Cert.TnKernelIdeal.nD,
      m' ((c.tc : Thread Cert.TnReferenceIdeal.nD Cert.TnReferenceIdeal.τ).loc Cert.TnReferenceIdeal.main_arg0) = m ((c.tc : Thread Cert.TnKernelIdeal.nD Cert.TnKernelIdeal.τ).loc Cert.TnKernelIdeal.main_arg0)
      ∧ m' ((c.tc : Thread Cert.TnReferenceIdeal.nD Cert.TnReferenceIdeal.τ).loc Cert.TnReferenceIdeal.main_arg1) = m ((c.tc : Thread Cert.TnKernelIdeal.nD Cert.TnKernelIdeal.τ).loc Cert.TnKernelIdeal.main_arg1)) →
    ∃ (v0 : (c : Dev Cert.TnKernelIdeal.nD) → Buf (Elt Ideal) ((c.tc : Thread Cert.TnKernelIdeal.nD Cert.TnKernelIdeal.τ).loc Cert.TnKernelIdeal.main_v22)),
      θ_run (Cert.TnKernelIdeal.defs (F := Ideal)) (onTc (τ := Cert.TnKernelIdeal.τ) (Cert.TnKernelIdeal.main (F := Ideal))) ⟨m, fun _ => 0, g⟩ (fun r => ∀ c : Dev Cert.TnKernelIdeal.nD,
          r.2.mem ((c.tc : Thread Cert.TnKernelIdeal.nD Cert.TnKernelIdeal.τ).loc Cert.TnKernelIdeal.main_v22) = v0 c
          ∧ r.2.mem ((c.tc : Thread Cert.TnKernelIdeal.nD Cert.TnKernelIdeal.τ).loc Cert.TnKernelIdeal.main_arg0) = m ((c.tc : Thread Cert.TnKernelIdeal.nD Cert.TnKernelIdeal.τ).loc Cert.TnKernelIdeal.main_arg0)
          ∧ r.2.mem ((c.tc : Thread Cert.TnKernelIdeal.nD Cert.TnKernelIdeal.τ).loc Cert.TnKernelIdeal.main_arg1) = m ((c.tc : Thread Cert.TnKernelIdeal.nD Cert.TnKernelIdeal.τ).loc Cert.TnKernelIdeal.main_arg1))
      ∧ θ_run (Cert.TnReferenceIdeal.defs (F := Ideal)) (onTc (τ := Cert.TnReferenceIdeal.τ) (Cert.TnReferenceIdeal.main (F := Ideal))) ⟨m', fun _ => 0, g'⟩ (fun r => ∀ c : Dev Cert.TnReferenceIdeal.nD,
          r.2.mem ((c.tc : Thread Cert.TnReferenceIdeal.nD Cert.TnReferenceIdeal.τ).loc Cert.TnReferenceIdeal.main_v21) = v0 c
          ∧ r.2.mem ((c.tc : Thread Cert.TnReferenceIdeal.nD Cert.TnReferenceIdeal.τ).loc Cert.TnReferenceIdeal.main_arg0) = m' ((c.tc : Thread Cert.TnReferenceIdeal.nD Cert.TnReferenceIdeal.τ).loc Cert.TnReferenceIdeal.main_arg0)
          ∧ r.2.mem ((c.tc : Thread Cert.TnReferenceIdeal.nD Cert.TnReferenceIdeal.τ).loc Cert.TnReferenceIdeal.main_arg1) = m' ((c.tc : Thread Cert.TnReferenceIdeal.nD Cert.TnReferenceIdeal.τ).loc Cert.TnReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v1_0)) (v1 : (c : Dev Cert.AdamKernelIdeal.nD) → Buf (Elt Ideal) ((c.tc : Thread Cert.AdamKernelIdeal.nD Cert.AdamKernelIdeal.τ).loc Cert.AdamKernelIdeal.main_v1_1)) (v2 : (c : Dev Cert.AdamKernelIdeal.nD) → Buf (Elt Ideal) ((c.tc : Thread Cert.AdamKernelIdeal.nD Cert.AdamKernelIdeal.τ).loc Cert.AdamKernelIdeal.main_v1_2)) (v3 : (c : Dev Cert.AdamKernelIdeal.nD) → Buf (Elt Ideal) ((c.tc : Thread Cert.AdamKernelIdeal.nD Cert.AdamKernelIdeal.τ).loc Cert.AdamKernelIdeal.main_v1_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v1_0) = v0 c
          ∧ r.2.mem ((c.tc : Thread Cert.AdamKernelIdeal.nD Cert.AdamKernelIdeal.τ).loc Cert.AdamKernelIdeal.main_v1_1) = v1 c
          ∧ r.2.mem ((c.tc : Thread Cert.AdamKernelIdeal.nD Cert.AdamKernelIdeal.τ).loc Cert.AdamKernelIdeal.main_v1_2) = v2 c
          ∧ r.2.mem ((c.tc : Thread Cert.AdamKernelIdeal.nD Cert.AdamKernelIdeal.τ).loc Cert.AdamKernelIdeal.main_v1_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v0) = v0 c
          ∧ r.2.mem ((c.tc : Thread Cert.AdamReferenceIdeal.nD Cert.AdamReferenceIdeal.τ).loc Cert.AdamReferenceIdeal.main_v24) = v1 c
          ∧ r.2.mem ((c.tc : Thread Cert.AdamReferenceIdeal.nD Cert.AdamReferenceIdeal.τ).loc Cert.AdamReferenceIdeal.main_v5) = v2 c
          ∧ r.2.mem ((c.tc : Thread Cert.AdamReferenceIdeal.nD Cert.AdamReferenceIdeal.τ).loc Cert.AdamReferenceIdeal.main_v11) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_PackKernel_PackKernelIdeal : Prop :=
  True

def algebraic_PackKernelIdeal_PackReferenceIdeal [hPackKernelIdeal : Cert.PackKernelIdeal.Facts] [hPackReferenceIdeal : Cert.PackReferenceIdeal.Facts] : Prop :=
  ∀ (m : (ℓ : Loc Cert.PackKernelIdeal.nD Cert.PackKernelIdeal.τ Cert.PackKernelIdeal.sig) → Buf (Elt Ideal) ℓ) (g : Dev Cert.PackKernelIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackKernelIdeal m →
    (∀ c : Dev Cert.PackKernelIdeal.nD,
      m' ((c.tc : Thread Cert.PackReferenceIdeal.nD Cert.PackReferenceIdeal.τ).loc Cert.PackReferenceIdeal.main_arg0) = m ((c.tc : Thread Cert.PackKernelIdeal.nD Cert.PackKernelIdeal.τ).loc Cert.PackKernelIdeal.main_arg0)
      ∧ m' ((c.tc : Thread Cert.PackReferenceIdeal.nD Cert.PackReferenceIdeal.τ).loc Cert.PackReferenceIdeal.main_arg1) = m ((c.tc : Thread Cert.PackKernelIdeal.nD Cert.PackKernelIdeal.τ).loc Cert.PackKernelIdeal.main_arg1)
      ∧ m' ((c.tc : Thread Cert.PackReferenceIdeal.nD Cert.PackReferenceIdeal.τ).loc Cert.PackReferenceIdeal.main_arg2) = m ((c.tc : Thread Cert.PackKernelIdeal.nD Cert.PackKernelIdeal.τ).loc Cert.PackKernelIdeal.main_arg2)
      ∧ m' ((c.tc : Thread Cert.PackReferenceIdeal.nD Cert.PackReferenceIdeal.τ).loc Cert.PackReferenceIdeal.main_arg3) = m ((c.tc : Thread Cert.PackKernelIdeal.nD Cert.PackKernelIdeal.τ).loc Cert.PackKernelIdeal.main_arg3)
      ∧ m' ((c.tc : Thread Cert.PackReferenceIdeal.nD Cert.PackReferenceIdeal.τ).loc Cert.PackReferenceIdeal.main_arg4) = m ((c.tc : Thread Cert.PackKernelIdeal.nD Cert.PackKernelIdeal.τ).loc Cert.PackKernelIdeal.main_arg4)
      ∧ m' ((c.tc : Thread Cert.PackReferenceIdeal.nD Cert.PackReferenceIdeal.τ).loc Cert.PackReferenceIdeal.main_arg5) = m ((c.tc : Thread Cert.PackKernelIdeal.nD Cert.PackKernelIdeal.τ).loc Cert.PackKernelIdeal.main_arg5)) →
    ∃ (v0 : (c : Dev Cert.PackKernelIdeal.nD) → Buf (Elt Ideal) ((c.tc : Thread Cert.PackKernelIdeal.nD Cert.PackKernelIdeal.τ).loc Cert.PackKernelIdeal.main_v1)),
      θ_run (Cert.PackKernelIdeal.defs (F := Ideal)) (onTc (τ := Cert.PackKernelIdeal.τ) (Cert.PackKernelIdeal.main (F := Ideal))) ⟨m, fun _ => 0, g⟩ (fun r => ∀ c : Dev Cert.PackKernelIdeal.nD,
          r.2.mem ((c.tc : Thread Cert.PackKernelIdeal.nD Cert.PackKernelIdeal.τ).loc Cert.PackKernelIdeal.main_v1) = v0 c
          ∧ r.2.mem ((c.tc : Thread Cert.PackKernelIdeal.nD Cert.PackKernelIdeal.τ).loc Cert.PackKernelIdeal.main_arg0) = m ((c.tc : Thread Cert.PackKernelIdeal.nD Cert.PackKernelIdeal.τ).loc Cert.PackKernelIdeal.main_arg0)
          ∧ r.2.mem ((c.tc : Thread Cert.PackKernelIdeal.nD Cert.PackKernelIdeal.τ).loc Cert.PackKernelIdeal.main_arg1) = m ((c.tc : Thread Cert.PackKernelIdeal.nD Cert.PackKernelIdeal.τ).loc Cert.PackKernelIdeal.main_arg1)
          ∧ r.2.mem ((c.tc : Thread Cert.PackKernelIdeal.nD Cert.PackKernelIdeal.τ).loc Cert.PackKernelIdeal.main_arg2) = m ((c.tc : Thread Cert.PackKernelIdeal.nD Cert.PackKernelIdeal.τ).loc Cert.PackKernelIdeal.main_arg2)
          ∧ r.2.mem ((c.tc : Thread Cert.PackKernelIdeal.nD Cert.PackKernelIdeal.τ).loc Cert.PackKernelIdeal.main_arg3) = m ((c.tc : Thread Cert.PackKernelIdeal.nD Cert.PackKernelIdeal.τ).loc Cert.PackKernelIdeal.main_arg3)
          ∧ r.2.mem ((c.tc : Thread Cert.PackKernelIdeal.nD Cert.PackKernelIdeal.τ).loc Cert.PackKernelIdeal.main_arg4) = m ((c.tc : Thread Cert.PackKernelIdeal.nD Cert.PackKernelIdeal.τ).loc Cert.PackKernelIdeal.main_arg4)
          ∧ r.2.mem ((c.tc : Thread Cert.PackKernelIdeal.nD Cert.PackKernelIdeal.τ).loc Cert.PackKernelIdeal.main_arg5) = m ((c.tc : Thread Cert.PackKernelIdeal.nD Cert.PackKernelIdeal.τ).loc Cert.PackKernelIdeal.main_arg5))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v2) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0)
          ∧ r.2.mem ((c.tc : Thread Cert.PackReferenceIdeal.nD Cert.PackReferenceIdeal.τ).loc Cert.PackReferenceIdeal.main_arg1) = m' ((c.tc : Thread Cert.PackReferenceIdeal.nD Cert.PackReferenceIdeal.τ).loc Cert.PackReferenceIdeal.main_arg1)
          ∧ r.2.mem ((c.tc : Thread Cert.PackReferenceIdeal.nD Cert.PackReferenceIdeal.τ).loc Cert.PackReferenceIdeal.main_arg2) = m' ((c.tc : Thread Cert.PackReferenceIdeal.nD Cert.PackReferenceIdeal.τ).loc Cert.PackReferenceIdeal.main_arg2)
          ∧ r.2.mem ((c.tc : Thread Cert.PackReferenceIdeal.nD Cert.PackReferenceIdeal.τ).loc Cert.PackReferenceIdeal.main_arg3) = m' ((c.tc : Thread Cert.PackReferenceIdeal.nD Cert.PackReferenceIdeal.τ).loc Cert.PackReferenceIdeal.main_arg3)
          ∧ r.2.mem ((c.tc : Thread Cert.PackReferenceIdeal.nD Cert.PackReferenceIdeal.τ).loc Cert.PackReferenceIdeal.main_arg4) = m' ((c.tc : Thread Cert.PackReferenceIdeal.nD Cert.PackReferenceIdeal.τ).loc Cert.PackReferenceIdeal.main_arg4)
          ∧ r.2.mem ((c.tc : Thread Cert.PackReferenceIdeal.nD Cert.PackReferenceIdeal.τ).loc Cert.PackReferenceIdeal.main_arg5) = m' ((c.tc : Thread Cert.PackReferenceIdeal.nD Cert.PackReferenceIdeal.τ).loc Cert.PackReferenceIdeal.main_arg5))

def preserves_BlocksKernel_BlocksKernelIdeal : Prop :=
  True

def algebraic_BlocksKernelIdeal_BlocksReferenceIdeal [hBlocksKernelIdeal : Cert.BlocksKernelIdeal.Facts] [hBlocksReferenceIdeal : Cert.BlocksReferenceIdeal.Facts] : Prop :=
  ∀ (m : (ℓ : Loc Cert.BlocksKernelIdeal.nD Cert.BlocksKernelIdeal.τ Cert.BlocksKernelIdeal.sig) → Buf (Elt Ideal) ℓ) (g : Dev Cert.BlocksKernelIdeal.nD → PrngReg)
    (m' : (ℓ : Loc Cert.BlocksReferenceIdeal.nD Cert.BlocksReferenceIdeal.τ Cert.BlocksReferenceIdeal.sig) → Buf (Elt Ideal) ℓ) (g' : Dev Cert.BlocksReferenceIdeal.nD → PrngReg), Pre_BlocksKernelIdeal m →
    (∀ c : Dev Cert.BlocksKernelIdeal.nD,
      m' ((c.tc : Thread Cert.BlocksReferenceIdeal.nD Cert.BlocksReferenceIdeal.τ).loc Cert.BlocksReferenceIdeal.main_arg0) = m ((c.tc : Thread Cert.BlocksKernelIdeal.nD Cert.BlocksKernelIdeal.τ).loc Cert.BlocksKernelIdeal.main_arg0)) →
    ∃ (v0 : (c : Dev Cert.BlocksKernelIdeal.nD) → Buf (Elt Ideal) ((c.tc : Thread Cert.BlocksKernelIdeal.nD Cert.BlocksKernelIdeal.τ).loc Cert.BlocksKernelIdeal.main_v20)),
      θ_run (Cert.BlocksKernelIdeal.defs (F := Ideal)) (onTc (τ := Cert.BlocksKernelIdeal.τ) (Cert.BlocksKernelIdeal.main (F := Ideal))) ⟨m, fun _ => 0, g⟩ (fun r => ∀ c : Dev Cert.BlocksKernelIdeal.nD,
          r.2.mem ((c.tc : Thread Cert.BlocksKernelIdeal.nD Cert.BlocksKernelIdeal.τ).loc Cert.BlocksKernelIdeal.main_v20) = v0 c
          ∧ r.2.mem ((c.tc : Thread Cert.BlocksKernelIdeal.nD Cert.BlocksKernelIdeal.τ).loc Cert.BlocksKernelIdeal.main_arg0) = m ((c.tc : Thread Cert.BlocksKernelIdeal.nD Cert.BlocksKernelIdeal.τ).loc Cert.BlocksKernelIdeal.main_arg0))
      ∧ θ_run (Cert.BlocksReferenceIdeal.defs (F := Ideal)) (onTc (τ := Cert.BlocksReferenceIdeal.τ) (Cert.BlocksReferenceIdeal.main (F := Ideal))) ⟨m', fun _ => 0, g'⟩ (fun r => ∀ c : Dev Cert.BlocksReferenceIdeal.nD,
          r.2.mem ((c.tc : Thread Cert.BlocksReferenceIdeal.nD Cert.BlocksReferenceIdeal.τ).loc Cert.BlocksReferenceIdeal.main_v2) = v0 c
          ∧ r.2.mem ((c.tc : Thread Cert.BlocksReferenceIdeal.nD Cert.BlocksReferenceIdeal.τ).loc Cert.BlocksReferenceIdeal.main_arg0) = m' ((c.tc : Thread Cert.BlocksReferenceIdeal.nD Cert.BlocksReferenceIdeal.τ).loc Cert.BlocksReferenceIdeal.main_arg0))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)
      ∧ m' ((c.tc : Thread Cert.SumReferenceIdeal.nD Cert.SumReferenceIdeal.τ).loc Cert.SumReferenceIdeal.main_arg1) = m ((c.tc : Thread Cert.SumKernelIdeal.nD Cert.SumKernelIdeal.τ).loc Cert.SumKernelIdeal.main_arg1)) →
    ∃ (v0 : (c : Dev Cert.SumKernelIdeal.nD) → Buf (Elt Ideal) ((c.tc : Thread Cert.SumKernelIdeal.nD Cert.SumKernelIdeal.τ).loc Cert.SumKernelIdeal.main_v3)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v3) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0)
          ∧ r.2.mem ((c.tc : Thread Cert.SumKernelIdeal.nD Cert.SumKernelIdeal.τ).loc Cert.SumKernelIdeal.main_arg1) = m ((c.tc : Thread Cert.SumKernelIdeal.nD Cert.SumKernelIdeal.τ).loc Cert.SumKernelIdeal.main_arg1))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v4) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0)
          ∧ r.2.mem ((c.tc : Thread Cert.SumReferenceIdeal.nD Cert.SumReferenceIdeal.τ).loc Cert.SumReferenceIdeal.main_arg1) = m' ((c.tc : Thread Cert.SumReferenceIdeal.nD Cert.SumReferenceIdeal.τ).loc Cert.SumReferenceIdeal.main_arg1))

def Claim : Prop :=
  ∃ (hKernel : Cert.Kernel.Facts) (hKernelIdeal : Cert.KernelIdeal.Facts) (hReferenceIdeal : Cert.ReferenceIdeal.Facts) (hConvKernel : Cert.ConvKernel.Facts) (hConvKernelIdeal : Cert.ConvKernelIdeal.Facts) (hConvReferenceIdeal : Cert.ConvReferenceIdeal.Facts) (hQkvKernel : Cert.QkvKernel.Facts) (hQkvKernelIdeal : Cert.QkvKernelIdeal.Facts) (hQkvReferenceIdeal : Cert.QkvReferenceIdeal.Facts) (hScalKernel : Cert.ScalKernel.Facts) (hScalKernelIdeal : Cert.ScalKernelIdeal.Facts) (hScalReferenceIdeal : Cert.ScalReferenceIdeal.Facts) (hLossKernel : Cert.LossKernel.Facts) (hLossKernelIdeal : Cert.LossKernelIdeal.Facts) (hLossReferenceIdeal : Cert.LossReferenceIdeal.Facts) (hInputKernel : Cert.InputKernel.Facts) (hInputKernelIdeal : Cert.InputKernelIdeal.Facts) (hInputReferenceIdeal : Cert.InputReferenceIdeal.Facts) (hFgateKernel : Cert.FgateKernel.Facts) (hFgateKernelIdeal : Cert.FgateKernelIdeal.Facts) (hFgateReferenceIdeal : Cert.FgateReferenceIdeal.Facts) (hFconvKernel : Cert.FconvKernel.Facts) (hFconvKernelIdeal : Cert.FconvKernelIdeal.Facts) (hFconvReferenceIdeal : Cert.FconvReferenceIdeal.Facts) (hFqkvKernel : Cert.FqkvKernel.Facts) (hFqkvKernelIdeal : Cert.FqkvKernelIdeal.Facts) (hFqkvReferenceIdeal : Cert.FqkvReferenceIdeal.Facts) (hFscalKernel : Cert.FscalKernel.Facts) (hFscalKernelIdeal : Cert.FscalKernelIdeal.Facts) (hFscalReferenceIdeal : Cert.FscalReferenceIdeal.Facts) (hFprojKernel : Cert.FprojKernel.Facts) (hFprojKernelIdeal : Cert.FprojKernelIdeal.Facts) (hFprojReferenceIdeal : Cert.FprojReferenceIdeal.Facts) (hGdnKernel : Cert.GdnKernel.Facts) (hGdnKernelIdeal : Cert.GdnKernelIdeal.Facts) (hTnKernel : Cert.TnKernel.Facts) (hTnKernelIdeal : Cert.TnKernelIdeal.Facts) (hTnReferenceIdeal : Cert.TnReferenceIdeal.Facts) (hAdamKernel : Cert.AdamKernel.Facts) (hAdamKernelIdeal : Cert.AdamKernelIdeal.Facts) (hAdamReferenceIdeal : Cert.AdamReferenceIdeal.Facts) (hPackKernel : Cert.PackKernel.Facts) (hPackKernelIdeal : Cert.PackKernelIdeal.Facts) (hPackReferenceIdeal : Cert.PackReferenceIdeal.Facts) (hBlocksKernel : Cert.BlocksKernel.Facts) (hBlocksKernelIdeal : Cert.BlocksKernelIdeal.Facts) (hBlocksReferenceIdeal : Cert.BlocksReferenceIdeal.Facts) (hSumKernel : Cert.SumKernel.Facts) (hSumKernelIdeal : Cert.SumKernelIdeal.Facts) (hSumReferenceIdeal : Cert.SumReferenceIdeal.Facts) (hPre_gate_finite : Cert.Pre_gate_finite.Facts) (hPre_conv_finite : Cert.Pre_conv_finite.Facts) (hPre_qkv_finite : Cert.Pre_qkv_finite.Facts) (hPre_scal_finite : Cert.Pre_scal_finite.Facts) (hPre_scal_small : Cert.Pre_scal_small.Facts) (hPre_fscal_small : Cert.Pre_fscal_small.Facts) (hOn_gate_columns : Cert.On_gate_columns.Facts) (hOn_scal_on : Cert.On_scal_on.Facts) (hOn_fgate_columns : Cert.On_fgate_columns.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_ConvKernel (hConvKernel := hConvKernel)
    ∧ quiescent_ConvKernelIdeal (hConvKernelIdeal := hConvKernelIdeal)
    ∧ quiescent_ConvKernelIdeal_pre_conv_finite (hConvKernelIdeal := hConvKernelIdeal) (hPre_conv_finite := hPre_conv_finite)
    ∧ quiescent_ConvReferenceIdeal (hConvReferenceIdeal := hConvReferenceIdeal)
    ∧ quiescent_ConvReferenceIdeal_pre_conv_finite (hConvReferenceIdeal := hConvReferenceIdeal) (hPre_conv_finite := hPre_conv_finite)
    ∧ quiescent_QkvKernel (hQkvKernel := hQkvKernel)
    ∧ quiescent_QkvKernelIdeal (hQkvKernelIdeal := hQkvKernelIdeal)
    ∧ quiescent_QkvKernelIdeal_pre_qkv_finite (hQkvKernelIdeal := hQkvKernelIdeal) (hPre_qkv_finite := hPre_qkv_finite)
    ∧ quiescent_QkvReferenceIdeal (hQkvReferenceIdeal := hQkvReferenceIdeal)
    ∧ quiescent_QkvReferenceIdeal_pre_qkv_finite (hQkvReferenceIdeal := hQkvReferenceIdeal) (hPre_qkv_finite := hPre_qkv_finite)
    ∧ quiescent_ScalKernel (hScalKernel := hScalKernel)
    ∧ quiescent_ScalKernelIdeal (hScalKernelIdeal := hScalKernelIdeal)
    ∧ quiescent_ScalKernelIdeal_pre_scal_finite (hScalKernelIdeal := hScalKernelIdeal) (hPre_scal_finite := hPre_scal_finite)
    ∧ quiescent_ScalKernelIdeal_pre_scal_small (hScalKernelIdeal := hScalKernelIdeal) (hPre_scal_small := hPre_scal_small)
    ∧ quiescent_ScalReferenceIdeal (hScalReferenceIdeal := hScalReferenceIdeal)
    ∧ quiescent_ScalReferenceIdeal_pre_scal_finite (hScalReferenceIdeal := hScalReferenceIdeal) (hPre_scal_finite := hPre_scal_finite)
    ∧ quiescent_ScalReferenceIdeal_pre_scal_small (hScalReferenceIdeal := hScalReferenceIdeal) (hPre_scal_small := hPre_scal_small)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_InputKernel (hInputKernel := hInputKernel)
    ∧ quiescent_InputKernelIdeal (hInputKernelIdeal := hInputKernelIdeal)
    ∧ quiescent_InputReferenceIdeal (hInputReferenceIdeal := hInputReferenceIdeal)
    ∧ quiescent_FgateKernel (hFgateKernel := hFgateKernel)
    ∧ quiescent_FgateKernelIdeal (hFgateKernelIdeal := hFgateKernelIdeal)
    ∧ quiescent_FgateReferenceIdeal (hFgateReferenceIdeal := hFgateReferenceIdeal)
    ∧ quiescent_FconvKernel (hFconvKernel := hFconvKernel)
    ∧ quiescent_FconvKernelIdeal (hFconvKernelIdeal := hFconvKernelIdeal)
    ∧ quiescent_FconvReferenceIdeal (hFconvReferenceIdeal := hFconvReferenceIdeal)
    ∧ quiescent_FqkvKernel (hFqkvKernel := hFqkvKernel)
    ∧ quiescent_FqkvKernelIdeal (hFqkvKernelIdeal := hFqkvKernelIdeal)
    ∧ quiescent_FqkvReferenceIdeal (hFqkvReferenceIdeal := hFqkvReferenceIdeal)
    ∧ quiescent_FscalKernel (hFscalKernel := hFscalKernel)
    ∧ quiescent_FscalKernelIdeal (hFscalKernelIdeal := hFscalKernelIdeal)
    ∧ quiescent_FscalKernelIdeal_pre_fscal_small (hFscalKernelIdeal := hFscalKernelIdeal) (hPre_fscal_small := hPre_fscal_small)
    ∧ quiescent_FscalReferenceIdeal (hFscalReferenceIdeal := hFscalReferenceIdeal)
    ∧ quiescent_FscalReferenceIdeal_pre_fscal_small (hFscalReferenceIdeal := hFscalReferenceIdeal) (hPre_fscal_small := hPre_fscal_small)
    ∧ quiescent_FprojKernel (hFprojKernel := hFprojKernel)
    ∧ quiescent_FprojKernelIdeal (hFprojKernelIdeal := hFprojKernelIdeal)
    ∧ quiescent_FprojReferenceIdeal (hFprojReferenceIdeal := hFprojReferenceIdeal)
    ∧ quiescent_GdnKernel (hGdnKernel := hGdnKernel)
    ∧ quiescent_GdnKernelIdeal (hGdnKernelIdeal := hGdnKernelIdeal)
    ∧ quiescent_TnKernel (hTnKernel := hTnKernel)
    ∧ quiescent_TnKernelIdeal (hTnKernelIdeal := hTnKernelIdeal)
    ∧ quiescent_TnReferenceIdeal (hTnReferenceIdeal := hTnReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_PackKernel (hPackKernel := hPackKernel)
    ∧ quiescent_PackKernelIdeal (hPackKernelIdeal := hPackKernelIdeal)
    ∧ quiescent_PackReferenceIdeal (hPackReferenceIdeal := hPackReferenceIdeal)
    ∧ quiescent_BlocksKernel (hBlocksKernel := hBlocksKernel)
    ∧ quiescent_BlocksKernelIdeal (hBlocksKernelIdeal := hBlocksKernelIdeal)
    ∧ quiescent_BlocksReferenceIdeal (hBlocksReferenceIdeal := hBlocksReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ preserves_Kernel_KernelIdeal
    ∧ algebraic_KernelIdeal_ReferenceIdeal_on_gate_columns_pre_gate_finite (hKernelIdeal := hKernelIdeal) (hReferenceIdeal := hReferenceIdeal) (hPre_gate_finite := hPre_gate_finite) (hOn_gate_columns := hOn_gate_columns)
    ∧ preserves_ConvKernel_ConvKernelIdeal
    ∧ algebraic_ConvKernelIdeal_ConvReferenceIdeal_pre_conv_finite (hConvKernelIdeal := hConvKernelIdeal) (hConvReferenceIdeal := hConvReferenceIdeal) (hPre_conv_finite := hPre_conv_finite)
    ∧ preserves_QkvKernel_QkvKernelIdeal
    ∧ algebraic_QkvKernelIdeal_QkvReferenceIdeal_pre_qkv_finite (hQkvKernelIdeal := hQkvKernelIdeal) (hQkvReferenceIdeal := hQkvReferenceIdeal) (hPre_qkv_finite := hPre_qkv_finite)
    ∧ preserves_ScalKernel_ScalKernelIdeal
    ∧ algebraic_ScalKernelIdeal_ScalReferenceIdeal_on_scal_on_pre_scal_finite (hScalKernelIdeal := hScalKernelIdeal) (hScalReferenceIdeal := hScalReferenceIdeal) (hPre_scal_finite := hPre_scal_finite) (hOn_scal_on := hOn_scal_on)
    ∧ algebraic_ScalKernelIdeal_ScalReferenceIdeal_pre_scal_small (hScalKernelIdeal := hScalKernelIdeal) (hScalReferenceIdeal := hScalReferenceIdeal) (hPre_scal_small := hPre_scal_small)
    ∧ preserves_LossKernel_LossKernelIdeal
    ∧ algebraic_LossKernelIdeal_LossReferenceIdeal (hLossKernelIdeal := hLossKernelIdeal) (hLossReferenceIdeal := hLossReferenceIdeal)
    ∧ preserves_InputKernel_InputKernelIdeal
    ∧ algebraic_InputKernelIdeal_InputReferenceIdeal (hInputKernelIdeal := hInputKernelIdeal) (hInputReferenceIdeal := hInputReferenceIdeal)
    ∧ preserves_FgateKernel_FgateKernelIdeal
    ∧ algebraic_FgateKernelIdeal_FgateReferenceIdeal_on_fgate_columns (hFgateKernelIdeal := hFgateKernelIdeal) (hFgateReferenceIdeal := hFgateReferenceIdeal) (hOn_fgate_columns := hOn_fgate_columns)
    ∧ preserves_FconvKernel_FconvKernelIdeal
    ∧ algebraic_FconvKernelIdeal_FconvReferenceIdeal (hFconvKernelIdeal := hFconvKernelIdeal) (hFconvReferenceIdeal := hFconvReferenceIdeal)
    ∧ preserves_FqkvKernel_FqkvKernelIdeal
    ∧ algebraic_FqkvKernelIdeal_FqkvReferenceIdeal (hFqkvKernelIdeal := hFqkvKernelIdeal) (hFqkvReferenceIdeal := hFqkvReferenceIdeal)
    ∧ preserves_FscalKernel_FscalKernelIdeal
    ∧ algebraic_FscalKernelIdeal_FscalReferenceIdeal_pre_fscal_small (hFscalKernelIdeal := hFscalKernelIdeal) (hFscalReferenceIdeal := hFscalReferenceIdeal) (hPre_fscal_small := hPre_fscal_small)
    ∧ preserves_FprojKernel_FprojKernelIdeal
    ∧ algebraic_FprojKernelIdeal_FprojReferenceIdeal (hFprojKernelIdeal := hFprojKernelIdeal) (hFprojReferenceIdeal := hFprojReferenceIdeal)
    ∧ preserves_GdnKernel_GdnKernelIdeal
    ∧ preserves_TnKernel_TnKernelIdeal
    ∧ algebraic_TnKernelIdeal_TnReferenceIdeal (hTnKernelIdeal := hTnKernelIdeal) (hTnReferenceIdeal := hTnReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_PackKernel_PackKernelIdeal
    ∧ algebraic_PackKernelIdeal_PackReferenceIdeal (hPackKernelIdeal := hPackKernelIdeal) (hPackReferenceIdeal := hPackReferenceIdeal)
    ∧ preserves_BlocksKernel_BlocksKernelIdeal
    ∧ algebraic_BlocksKernelIdeal_BlocksReferenceIdeal (hBlocksKernelIdeal := hBlocksKernelIdeal) (hBlocksReferenceIdeal := hBlocksReferenceIdeal)
    ∧ preserves_SumKernel_SumKernelIdeal
    ∧ algebraic_SumKernelIdeal_SumReferenceIdeal (hSumKernelIdeal := hSumKernelIdeal) (hSumReferenceIdeal := hSumReferenceIdeal)
-- ==== On_fgate_columns.lean ====
abbrev S2048x1024 : Shape := ⟨2, ![2048, 1024]⟩
abbrev S1x128 : Shape := ⟨2, ![1, 128]⟩
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x1024 .f32) (main_arg1 : FVec F S2048x1024 .f32) (main_arg2 : FVec F S1x128 .f32) : IVec S2048x2048 1 :=
  let main_v0 : IVec S2048x2048 32 := iotaInDim S2048x2048 32 1
  let main_c : IVec S_ 32 := constantI S_ 32 1024#32
  let main_v1 : IVec S2048x2048 32 := broadcastInDim S2048x2048 ![] bcast_S_S2048x2048 main_c
  let main_v2 : IVec S2048x2048 1 := cmpi .slt main_v0 main_v1
  main_v2
-- ==== On_gate_columns.lean ====
abbrev S2048x1024 : Shape := ⟨2, ![2048, 1024]⟩
abbrev S1x128 : Shape := ⟨2, ![1, 128]⟩
abbrev S2048x2048 : Shape := ⟨2, ![2048, 2048]⟩
abbrev S2048x8448 : Shape := ⟨2, ![2048, 8448]⟩
abbrev S_ : Shape := ⟨0, ![]⟩

class Facts : Prop where
  bcast_S_S2048x1024 : S_.BroadcastsInDim S2048x1024 (![] : Fin 0 → Fin S2048x1024.rank)
  bcast_S_S2048x8448 : S_.BroadcastsInDim S2048x8448 (![] : Fin 0 → Fin S2048x8448.rank)
  bcast_S_S1x128 : S_.BroadcastsInDim S1x128 (![] : Fin 0 → Fin S1x128.rank)

variable [Facts]

def fn {F : FTy → Type} [FloatOps F] (main_arg0 : FVec F S2048x1024 .f32) (main_arg1 : FVec F S2048x1024 .f32) (main_arg2 : FVec F S1x128 .f32) (main_arg3 : FVec F S2048x2048 .f32) : IVec S2048x1024 1 × IVec S2048x8448 1 × IVec S1x128 1 :=
  let main_v0 : IVec S2048x8448 32 := iotaInDim S2048x8448 32 1
  let main_c : IVec S_ 1 := constantI S_ 1 1#1
  let main_v1 : IVec S2048x1024 1 := broadcastInDim S2048x1024 ![] bcast_S_S2048x1024 main_c
  let main_c_0 : IVec S_ 32 := constantI S_ 32 3072#32
  let main_v2 : IVec S2048x8448 32 := broadcastInDim S2048x8448 ![] bcast_S_S2048x8448 main_c_0
  let main_v3 : IVec S2048x8448 1 := cmpi .sge main_v0 main_v2
  let main_c_1 : IVec S_ 32 := constantI S_ 32 4096#32
  let main_v4 : IVec S2048x8448 32 := broadcastInDim S2048x8448 ![] bcast_S_S2048x8448 main_c_1
  let main_v5 : IVec S2048x8448 1 := cmpi .slt main_v0 main_v4
  let main_v6 : IVec S2048x8448 1 := andi main_v3 main_v5
  let main_c_2 : IVec S_ 1 := constantI S_ 1 1#1
  let main_v7 : IVec S1x128 1 := broadcastInDim S1x128 ![] bcast_S_S1x128 main_c_2
  (main_v1, main_v6, main_v7)
-- ==== On_scal_on.lean ====
abbrev S2048x8 : Shape := ⟨2, ![2048, 8]⟩
abbrev S1x8 : Shape := ⟨2, ![1, 8]⟩
abbrev S32x8x64 : Shape := ⟨3, ![32, 8, 64]⟩
abbrev S2048x8448 : Shape := ⟨2, ![2048, 8448]⟩
abbrev S8x128 : Shape := ⟨2, ![8, 128]⟩
abbrev S_ : Shape := ⟨0, ![]⟩

class Facts : Prop where
  bcast_S_S2048x8448 : S_.BroadcastsInDim S2048x8448 (![] : Fin 0 → Fin S2048x8448.rank)
  bcast_S_S8x128 : S_.BroadcastsInDim S8x128 (![] : Fin 0 → Fin S8x128.rank)

variable [Facts]

def fn {F : FTy → Type} [FloatOps F] (main_arg0 : FVec F S2048x8 .f32) (main_arg1 : FVec F S2048x8 .f32) (main_arg2 : FVec F S1x8 .f32) (main_arg3 : FVec F S1x8 .f32) (main_arg4 : FVec F S2048x8 .f32) (main_arg5 : FVec F S2048x8 .f32) (main_arg6 : FVec F S32x8x64 .f32) (main_arg7 : FVec F S2048x8448 .bf16) : IVec S2048x8448 1 × IVec S8x128 1 :=
  let main_v0 : IVec S8x128 32 := iotaInDim S8x128 32 0
  let main_v1 : IVec S8x128 32 := iotaInDim S8x128 32 1
  let main_c : IVec S_ 1 := constantI S_ 1 1#1
  let main_v2 : IVec S2048x8448 1 := broadcastInDim S2048x8448 ![] bcast_S_S2048x8448 main_c
  let main_c_0 : IVec S_ 32 := constantI S_ 32 1#32
  let main_v3 : IVec S8x128 32 := broadcastInDim S8x128 ![] bcast_S_S8x128 main_c_0
  let main_v4 : IVec S8x128 1 := cmpi .sge main_v0 main_v3
  let main_c_1 : IVec S_ 32 := constantI S_ 32 8#32
  let main_v5 : IVec S8x128 32 := broadcastInDim S8x128 ![] bcast_S_S8x128 main_c_1
  let main_v6 : IVec S8x128 1 := cmpi .sge main_v1 main_v5
  let main_v7 : IVec S8x128 1 := ori main_v4 main_v6
  (main_v2, main_v7)
-- ==== Pre_conv_finite.lean ====
abbrev S2048x1024 : Shape := ⟨2, ![2048, 1024]⟩
abbrev S3x1024 : Shape := ⟨2, ![3, 1024]⟩
abbrev S1x1024 : Shape := ⟨2, ![1, 1024]⟩
abbrev S2048x2048 : Shape := ⟨2, ![2048, 2048]⟩
abbrev S2048x8448 : Shape := ⟨2, ![2048, 8448]⟩
abbrev S_ : Shape := ⟨0, ![]⟩

class Facts : Prop where
  bcast_S_S2048x1024 : S_.BroadcastsInDim S2048x1024 (![] : Fin 0 → Fin S2048x1024.rank)
  bcast_S_S3x1024 : S_.BroadcastsInDim S3x1024 (![] : Fin 0 → Fin S3x1024.rank)
  bcast_S_S1x1024 : S_.BroadcastsInDim S1x1024 (![] : Fin 0 → Fin S1x1024.rank)
  bcast_S_S2048x2048 : S_.BroadcastsInDim S2048x2048 (![] : Fin 0 → Fin S2048x2048.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S3x1024 .f32) (main_arg5 : FVec F S1x1024 .f32) (main_arg6 : FVec F S2048x2048 .f32) (main_arg7 : FVec F S2048x8448 .bf16) : IVec S2048x1024 1 × IVec S2048x1024 1 × IVec S2048x1024 1 × IVec S3x1024 1 × IVec S1x1024 1 × IVec S2048x2048 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S3x1024 .f32 := Host.absf main_arg4
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2048x2048 .f32 := Host.absf main_arg6
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  (main_v2, main_v5, main_v8, main_v11, main_v14, main_v17)
-- ==== Pre_fscal_small.lean ====
abbrev S2048x8 : Shape := ⟨2, ![2048, 8]⟩
abbrev S1x8 : Shape := ⟨2, ![1, 8]⟩
abbrev S_ : Shape := ⟨0, ![]⟩

class Facts : Prop where
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)

variable [Facts]

def fn {F : FTy → Type} [FloatOps F] (main_arg0 : FVec F S2048x8 .f32) (main_arg1 : FVec F S2048x8 .f32) (main_arg2 : FVec F S1x8 .f32) (main_arg3 : FVec F S1x8 .f32) : IVec S2048x8 1 :=
  let main_v0 : FVec F S2048x8 .f32 := broadcastInDim S2048x8 ![0, 1] bcast_S1x8_S2048x8_0_1 main_arg3
  let main_v1 : FVec F S2048x8 .f32 := addf main_arg1 main_v0
  let main_v2 : FVec F S2048x8 .f32 := Host.absf main_v1
  let main_cst : FVec F S_ .f32 := constant S_ .f32 0x40900000#32
  let main_v3 : FVec F S2048x8 .f32 := broadcastInDim S2048x8 ![] bcast_S_S2048x8 main_cst
  let main_v4 : IVec S2048x8 1 := cmpf .olt main_v2 main_v3
  main_v4
-- ==== Pre_gate_finite.lean ====
abbrev S2048x1024 : Shape := ⟨2, ![2048, 1024]⟩
abbrev S1x128 : Shape := ⟨2, ![1, 128]⟩
abbrev S2048x2048 : Shape := ⟨2, ![2048, 2048]⟩
abbrev S_ : Shape := ⟨0, ![]⟩

class Facts : Prop where
  bcast_S_S1x128 : S_.BroadcastsInDim S1x128 (![] : Fin 0 → Fin S1x128.rank)
  bcast_S_S2048x2048 : S_.BroadcastsInDim S2048x2048 (![] : Fin 0 → Fin S2048x2048.rank)

variable [Facts]

def fn {F : FTy → Type} [FloatOps F] (main_arg0 : FVec F S2048x1024 .f32) (main_arg1 : FVec F S2048x1024 .f32) (main_arg2 : FVec F S1x128 .f32) (main_arg3 : FVec F S2048x2048 .f32) : IVec S1x128 1 × IVec S2048x2048 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S2048x2048 .f32 := Host.absf main_arg3
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  (main_v2, main_v5)
-- ==== Pre_qkv_finite.lean ====
abbrev S2048x3072 : Shape := ⟨2, ![2048, 3072]⟩
abbrev S4x3072 : Shape := ⟨2, ![4, 3072]⟩
abbrev S2048x8448 : Shape := ⟨2, ![2048, 8448]⟩
abbrev S_ : Shape := ⟨0, ![]⟩

class Facts : Prop where
  bcast_S_S2048x3072 : S_.BroadcastsInDim S2048x3072 (![] : Fin 0 → Fin S2048x3072.rank)
  bcast_S_S4x3072 : S_.BroadcastsInDim S4x3072 (![] : Fin 0 → Fin S4x3072.rank)

variable [Facts]

def fn {F : FTy → Type} [FloatOps F] (main_arg0 : FVec F S2048x3072 .f32) (main_arg1 : FVec F S4x3072 .f32) (main_arg2 : FVec F S2048x3072 .f32) (main_arg3 : FVec F S2048x8448 .bf16) : IVec S2048x3072 1 × IVec S4x3072 1 × IVec S2048x3072 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S4x3072 .f32 := Host.absf main_arg1
  let main_cst_0 : FVec F S_ .f32 := constant S_ .f32 0x7F800000#32
  let main_v4 : FVec F S4x3072 .f32 := broadcastInDim S4x3072 ![] bcast_S_S4x3072 main_cst_0
  let main_v5 : IVec S4x3072 1 := cmpf .olt main_v3 main_v4
  let main_v6 : FVec F S2048x3072 .f32 := Host.absf main_arg2
  let main_cst_1 : FVec F S_ .f32 := constant S_ .f32 0x7F800000#32
  let main_v7 : FVec F S2048x3072 .f32 := broadcastInDim S2048x3072 ![] bcast_S_S2048x3072 main_cst_1
  let main_v8 : IVec S2048x3072 1 := cmpf .olt main_v6 main_v7
  (main_v2, main_v5, main_v8)
-- ==== Pre_scal_finite.lean ====
abbrev S2048x8 : Shape := ⟨2, ![2048, 8]⟩
abbrev S1x8 : Shape := ⟨2, ![1, 8]⟩
abbrev S32x8x64 : Shape := ⟨3, ![32, 8, 64]⟩
abbrev S2048x8448 : Shape := ⟨2, ![2048, 8448]⟩
abbrev S_ : Shape := ⟨0, ![]⟩

class Facts : Prop where
  bcast_S_S2048x8 : S_.BroadcastsInDim S2048x8 (![] : Fin 0 → Fin S2048x8.rank)
  bcast_S_S1x8 : S_.BroadcastsInDim S1x8 (![] : Fin 0 → Fin S1x8.rank)

variable [Facts]

def fn {F : FTy → Type} [FloatOps F] (main_arg0 : FVec F S2048x8 .f32) (main_arg1 : FVec F S2048x8 .f32) (main_arg2 : FVec F S1x8 .f32) (main_arg3 : FVec F S1x8 .f32) (main_arg4 : FVec F S2048x8 .f32) (main_arg5 : FVec F S2048x8 .f32) (main_arg6 : FVec F S32x8x64 .f32) (main_arg7 : FVec F S2048x8448 .bf16) : IVec S2048x8 1 × IVec S1x8 1 :=
  let main_v0 : FVec F S2048x8 .f32 := Host.absf main_arg1
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_v3 : FVec F S1x8 .f32 := Host.absf main_arg3
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  (main_v2, main_v5)
-- ==== Pre_scal_small.lean ====
abbrev S2048x8 : Shape := ⟨2, ![2048, 8]⟩
abbrev S1x8 : Shape := ⟨2, ![1, 8]⟩
abbrev S32x8x64 : Shape := ⟨3, ![32, 8, 64]⟩
abbrev S2048x8448 : Shape := ⟨2, ![2048, 8448]⟩
abbrev S_ : Shape := ⟨0, ![]⟩

class Facts : Prop where
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  bcast_S_S1x8 : S_.BroadcastsInDim S1x8 (![] : Fin 0 → Fin S1x8.rank)
  bcast_S_S32x8x64 : S_.BroadcastsInDim S32x8x64 (![] : Fin 0 → Fin S32x8x64.rank)

variable [Facts]

def fn {F : FTy → Type} [FloatOps F] (main_arg0 : FVec F S2048x8 .f32) (main_arg1 : FVec F S2048x8 .f32) (main_arg2 : FVec F S1x8 .f32) (main_arg3 : FVec F S1x8 .f32) (main_arg4 : FVec F S2048x8 .f32) (main_arg5 : FVec F S2048x8 .f32) (main_arg6 : FVec F S32x8x64 .f32) (main_arg7 : FVec F S2048x8448 .bf16) : IVec S2048x8 1 × IVec S1x8 1 × IVec S2048x8 1 × IVec S32x8x64 1 :=
  let main_v0 : FVec F S2048x8 .f32 := broadcastInDim S2048x8 ![0, 1] bcast_S1x8_S2048x8_0_1 main_arg3
  let main_v1 : FVec F S2048x8 .f32 := addf main_arg1 main_v0
  let main_v2 : FVec F S2048x8 .f32 := Host.absf main_v1
  let main_cst : FVec F S_ .f32 := constant S_ .f32 0x40900000#32
  let main_v3 : FVec F S2048x8 .f32 := broadcastInDim S2048x8 ![] bcast_S_S2048x8 main_cst
  let main_v4 : IVec S2048x8 1 := cmpf .olt main_v2 main_v3
  let main_v5 : FVec F S1x8 .f32 := Host.absf main_arg2
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_v8 : FVec F S2048x8 .f32 := Host.absf main_arg5
  let main_cst_1 : FVec F S_ .f32 := constant S_ .f32 0x7F800000#32
  let main_v9 : FVec F S2048x8 .f32 := broadcastInDim S2048x8 ![] bcast_S_S2048x8 main_cst_1
  let main_v10 : IVec S2048x8 1 := cmpf .olt main_v8 main_v9
  let main_v11 : FVec F S32x8x64 .f32 := Host.absf main_arg6
  let main_cst_2 : FVec F S_ .f32 := constant S_ .f32 0x7F800000#32
  let main_v12 : FVec F S32x8x64 .f32 := broadcastInDim S32x8x64 ![] bcast_S_S32x8x64 main_cst_2
  let main_v13 : IVec S32x8x64 1 := cmpf .olt main_v11 main_v12
  (main_v4, main_v7, main_v10, main_v13)
-- ==== Kernel.lean ====
abbrev S2048x1024 : Shape := ⟨2, ![2048, 1024]⟩
abbrev S1x128 : Shape := ⟨2, ![1, 128]⟩
abbrev S2048x2048 : Shape := ⟨2, ![2048, 2048]⟩
abbrev S_ : Shape := ⟨0, ![]⟩
abbrev S2048x8448 : Shape := ⟨2, ![2048, 8448]⟩
abbrev S8x128 : Shape := ⟨2, ![8, 128]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x2048, .f32⟩
  | .hbm, ⟨4, _⟩ => ⟨S_, .i32⟩
  | .hbm, ⟨5, _⟩ => ⟨S_, .f32⟩
  | .hbm, ⟨6, _⟩ => ⟨S2048x8448, .f32⟩
  | .hbm, ⟨7, _⟩ => ⟨S_, .f32⟩
  | .hbm, ⟨8, _⟩ => ⟨S8x128, .f32⟩
  | .hbm, ⟨9, _⟩ => ⟨S2048x1024, .bf16⟩
  | .hbm, ⟨10, _⟩ => ⟨S2048x8448, .bf16⟩
  | .hbm, ⟨11, _⟩ => ⟨S1x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x128, .f32⟩
  | .local _ .vmem, ⟨5, _⟩ => ⟨S2048x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S1x128 : Shape := ⟨2, ![1, 128]⟩
abbrev S2048x2048 : Shape := ⟨2, ![2048, 2048]⟩
abbrev S1x2048x8x128 : Shape := ⟨4, ![1, 2048, 8, 128]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S1x2048x1024 : Shape := ⟨3, ![1, 2048, 1024]⟩
abbrev S2048x8 : Shape := ⟨2, ![2048, 8]⟩
abbrev S2048x3072 : Shape := ⟨2, ![2048, 3072]⟩
abbrev S2048x4352 : Shape := ⟨2, ![2048, 4352]⟩
abbrev S2048x8448 : Shape := ⟨2, ![2048, 8448]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x2048, .f32⟩
  | .hbm, ⟨4, _⟩ => ⟨S1x2048x8x128, .f32⟩
  | .hbm, ⟨5, _⟩ => ⟨S128, .f32⟩
  | .hbm, ⟨6, _⟩ => ⟨S1x2048x8x128, .f32⟩
  | .hbm, ⟨7, _⟩ => ⟨S_, .f32⟩
  | .hbm, ⟨8, _⟩ => ⟨S1x2048x8, .f32⟩
  | .hbm, ⟨9, _⟩ => ⟨S1x2048x8x1, .f32⟩
  | .hbm, ⟨10, _⟩ => ⟨S_, .f32⟩
  | .hbm, ⟨11, _⟩ => ⟨S1x2048x8x1, .f32⟩
  | .hbm, ⟨12, _⟩ => ⟨S1x2048x8x1, .f32⟩
  | .hbm, ⟨13, _⟩ => ⟨S_, .f32⟩
  | .hbm, ⟨14, _⟩ => ⟨S1x2048x8x1, .f32⟩
  | .hbm, ⟨15, _⟩ => ⟨S1x2048x8x1, .f32⟩
  | .hbm, ⟨16, _⟩ => ⟨S1x2048x8x1, .f32⟩
  | .hbm, ⟨17, _⟩ => ⟨S1x2048x8x1, .f32⟩
  | .hbm, ⟨18, _⟩ => ⟨S_, .f32⟩
  | .hbm, ⟨19, _⟩ => ⟨S1x2048x8x1, .f32⟩
  | .hbm, ⟨20, _⟩ => ⟨S1x2048x8x1, .f32⟩
  | .hbm, ⟨21, _⟩ => ⟨S1x2048x8x128, .f32⟩
  | .hbm, ⟨22, _⟩ => ⟨S1x2048x8x128, .f32⟩
  | .hbm, ⟨23, _⟩ => ⟨S1x1x1x128, .f32⟩
  | .hbm, ⟨24, _⟩ => ⟨S1x2048x8x128, .f32⟩
  | .hbm, ⟨25, _⟩ => ⟨S1x2048x8x128, .f32⟩
  | .hbm, ⟨26, _⟩ => ⟨S1x2048x8x128, .f32⟩
  | .hbm, ⟨27, _⟩ => ⟨S1x2048x8x128, .f32⟩
  | .hbm, ⟨28, _⟩ => ⟨S1x2048x8x128, .f32⟩
  | .hbm, ⟨29, _⟩ => ⟨S_, .f32⟩
  | .hbm, ⟨30, _⟩ => ⟨S1x2048x8x128, .f32⟩
  | .hbm, ⟨31, _⟩ => ⟨S1x2048x8x128, .f32⟩
  | .hbm, ⟨32, _⟩ => ⟨S_, .f32⟩
  | .hbm, ⟨33, _⟩ => ⟨S1x2048x8x128, .f32⟩
  | .hbm, ⟨34, _⟩ => ⟨S1x2048x8x128, .f32⟩
  | .hbm, ⟨35, _⟩ => ⟨S_, .f32⟩
  | .hbm, ⟨36, _⟩ => ⟨S1x2048x8x128, .f32⟩
  | .hbm, ⟨37, _⟩ => ⟨S1x2048x8x128, .f32⟩
  | .hbm, ⟨38, _⟩ => ⟨S1x2048x8x128, .f32⟩
  | .hbm, ⟨39, _⟩ => ⟨S1x2048x8x128, .f32⟩
  | .hbm, ⟨40, _⟩ => ⟨S1x2048x8x128, .f32⟩
  | .hbm, ⟨41, _⟩ => ⟨S1x2048x1024, .f32⟩
  | .hbm, ⟨42, _⟩ => ⟨S2048x1024, .f32⟩
  | .hbm, ⟨43, _⟩ => ⟨S1x2048x1024, .f32⟩
  | .hbm, ⟨44, _⟩ => ⟨S1x2048x8x128, .f32⟩
  | .hbm, ⟨45, _⟩ => ⟨S1x2048x8x128, .f32⟩
  | .hbm, ⟨46, _⟩ => ⟨S1x2048x8x128, .f32⟩
  | .hbm, ⟨47, _⟩ => ⟨S1x2048x8x128, .f32⟩
  | .hbm, ⟨48, _⟩ => ⟨S1x2048x8x128, .f32⟩
  | .hbm, ⟨49, _⟩ => ⟨S1x2048x8x128, .f32⟩
  | .hbm, ⟨50, _⟩ => ⟨S1x2048x8x128, .f32⟩
  | .hbm, ⟨51, _⟩ => ⟨S2048x1024, .f32⟩
  | .hbm, ⟨52, _⟩ => ⟨S1x2048x8x128, .f32⟩
  | .hbm, ⟨53, _⟩ => ⟨S_, .f32⟩
  | .hbm, ⟨54, _⟩ => ⟨S1x128, .f32⟩
  | .hbm, ⟨55, _⟩ => ⟨S1x1x1x128, .f32⟩
  | .hbm, ⟨56, _⟩ => ⟨S1x2048x8x128, .f32⟩
  | .hbm, ⟨57, _⟩ => ⟨S1x2048x8x128, .f32⟩
  | .hbm, ⟨58, _⟩ => ⟨S_, .f32⟩
  | .hbm, ⟨59, _⟩ => ⟨S128, .f32⟩
  | .hbm, ⟨60, _⟩ => ⟨S1x2048x8x128, .f32⟩
  | .hbm, ⟨61, _⟩ => ⟨S_, .f32⟩
  | .hbm, ⟨62, _⟩ => ⟨S1x2048x8, .f32⟩
  | .hbm, ⟨63, _⟩ => ⟨S1x2048x8x1, .f32⟩
  | .hbm, ⟨64, _⟩ => ⟨S1x2048x8x128, .f32⟩
  | .hbm, ⟨65, _⟩ => ⟨S1x2048x8x128, .f32⟩
  | .hbm, ⟨66, _⟩ => ⟨S1x2048x8x1, .f32⟩
  | .hbm, ⟨67, _⟩ => ⟨S_, .f32⟩
  | .hbm, ⟨68, _⟩ => ⟨S1x2048x8x1, .f32⟩
  | .hbm, ⟨69, _⟩ => ⟨S1x2048x8x1, .f32⟩
  | .hbm, ⟨70, _⟩ => ⟨S_, .f32⟩
  | .hbm, ⟨71, _⟩ => ⟨S2048x8, .f32⟩
  | .hbm, ⟨72, _⟩ => ⟨S1x2048x8, .f32⟩
  | .hbm, ⟨73, _⟩ => ⟨S1x2048x8x128, .f32⟩
  | .hbm, ⟨74, _⟩ => ⟨S1x2048x8x128, .f32⟩
  | .hbm, ⟨75, _⟩ => ⟨S1x2048x8x128, .f32⟩
  | .hbm, ⟨76, _⟩ => ⟨S1x2048x8x128, .f32⟩
  | .hbm, ⟨77, _⟩ => ⟨S1x2048x8x128, .f32⟩
  | .hbm, ⟨78, _⟩ => ⟨S1x128, .f32⟩
  | .hbm, ⟨79, _⟩ => ⟨S2048x1024, .f32⟩
  | .hbm, ⟨80, _⟩ => ⟨S_, .f32⟩
  | .hbm, ⟨81, _⟩ => ⟨S2048x3072, .f32⟩
  | .hbm, ⟨82, _⟩ => ⟨S_, .f32⟩
  | .hbm, ⟨83, _⟩ => ⟨S2048x4352, .f32⟩
  | .hbm, ⟨84, _⟩ => ⟨S2048x8448, .f32⟩
  | .hbm, ⟨85, _⟩ => ⟨S2048x1024, .bf16⟩
  | .hbm, ⟨86, _⟩ => ⟨S2048x8448, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== ConvKernel.lean ====
abbrev S2048x1024 : Shape := ⟨2, ![2048, 1024]⟩
abbrev S3x1024 : Shape := ⟨2, ![3, 1024]⟩
abbrev S1x1024 : Shape := ⟨2, ![1, 1024]⟩
abbrev S2048x2048 : Shape := ⟨2, ![2048, 2048]⟩
abbrev S2048x8448 : Shape := ⟨2, ![2048, 8448]⟩
abbrev S2048x4x256 : Shape := ⟨3, ![2048, 4, 256]⟩
abbrev S2048x4x1x256 : Shape := ⟨4, ![2048, 4, 1, 256]⟩
abbrev S2048x4x4x256 : Shape := ⟨4, ![2048, 4, 4, 256]⟩
abbrev S2048x4096 : Shape := ⟨2, ![2048, 4096]⟩
abbrev S_ : Shape := ⟨0, ![]⟩
abbrev S3x256 : Shape := ⟨2, ![3, 256]⟩
abbrev S1x256 : Shape := ⟨2, ![1, 256]⟩
abbrev S2048x256 : Shape := ⟨2, ![2048, 256]⟩
abbrev S2048x128 : Shape := ⟨2, ![2048, 128]⟩
abbrev S1x128 : Shape := ⟨2, ![1, 128]⟩
abbrev S128 : Shape := ⟨1, ![128]⟩

abbrev nBuf : Space → Nat
  | .hbm => 24
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S1x1024, .f32⟩
  | .hbm, ⟨6, _⟩ => ⟨S2048x2048, .f32⟩
  | .hbm, ⟨7, _⟩ => ⟨S2048x8448, .bf16⟩
  | .hbm, ⟨8, _⟩ => ⟨S2048x4x256, .f32⟩
  | .hbm, ⟨9, _⟩ => ⟨S2048x4x256, .f32⟩
  | .hbm, ⟨10, _⟩ => ⟨S2048x4x256, .f32⟩
  | .hbm, ⟨11, _⟩ => ⟨S2048x4x256, .f32⟩
  | .hbm, ⟨12, _⟩ => ⟨S2048x4x1x256, .f32⟩
  | .hbm, ⟨13, _⟩ => ⟨S2048x4x1x256, .f32⟩
  | .hbm, ⟨14, _⟩ => ⟨S2048x4x1x256, .f32⟩
  | .hbm, ⟨15, _⟩ => ⟨S2048x4x1x256, .f32⟩
  | .hbm, ⟨16, _⟩ => ⟨S2048x4x4x256, .f32⟩
  | .hbm, ⟨17, _⟩ => ⟨S2048x4096, .f32⟩
  | .hbm, ⟨18, _⟩ => ⟨S_, .i32⟩
  | .hbm, ⟨19, _⟩ => ⟨S_, .f32⟩
  | .hbm, ⟨20, _⟩ => ⟨S2048x8448, .f32⟩
  | .hbm, ⟨21, _⟩ => ⟨S2048x8448, .bf16⟩
  | .hbm, ⟨22, _⟩ => ⟨S3x1024, .f32⟩
  | .hbm, ⟨23, _⟩ => ⟨S1x1024, .f32⟩
  | .local _ .vmem, ⟨0, _⟩ => ⟨S2048x1024, .f32⟩
  | .local _ .vmem, ⟨1, _⟩ => ⟨S2048x1024, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x1024, .bf16⟩
  | .local _ .vmem, ⟨9, _⟩ => ⟨S2048x1024, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvReferenceIdeal.lean ====
abbrev S2048x1024 : Shape := ⟨2, ![2048, 1024]⟩
abbrev S3x1024 : Shape := ⟨2, ![3, 1024]⟩
abbrev S1x1024 : Shape := ⟨2, ![1, 1024]⟩
abbrev S2048x2048 : Shape := ⟨2, ![2048, 2048]⟩
abbrev S2048x8448 : Shape := ⟨2, ![2048, 8448]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1024 : Shape := ⟨1, ![1024]⟩
abbrev S1x1x1024 : Shape := ⟨3, ![1, 1, 1024]⟩
abbrev S2048x4x256 : Shape := ⟨3, ![2048, 4, 256]⟩
abbrev S2048x4x1x256 : Shape := ⟨4, ![2048, 4, 1, 256]⟩
abbrev S2048x4x4x256 : Shape := ⟨4, ![2048, 4, 4, 256]⟩
abbrev S2048x4096 : Shape := ⟨2, ![2048, 4096]⟩
abbrev S2048x256 : Shape := ⟨2, ![2048, 256]⟩

abbrev nBuf : Space → Nat
  | .hbm => 145
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S3x1024, .f32⟩
  | 5 => ⟨S1x1024, .f32⟩
  | 6 => ⟨S2048x2048, .f32⟩
  | 7 => ⟨S2048x8448, .bf16⟩
  | 8 => ⟨S1x2048x1024, .f32⟩
  | 9 => ⟨S1x2048x1024, .f32⟩
  | 10 => ⟨S1x2048x1024, .f32⟩
  | 11 => ⟨S1x2048x1024, .f32⟩
  | 12 => ⟨S_, .f32⟩
  | 13 => ⟨S1x2x1024, .f32⟩
  | 14 => ⟨S1x2050x1024, .f32⟩
  | 15 => ⟨S_, .f32⟩
  | 16 => ⟨S1x2x1024, .f32⟩
  | 17 => ⟨S1x2048x1024, .f32⟩
  | 18 => ⟨S1x1024, .f32⟩
  | 19 => ⟨S1024, .f32⟩
  | 20 => ⟨S1x1x1024, .f32⟩
  | 21 => ⟨S1x2048x1024, .f32⟩
  | 22 => ⟨S1x2048x1024, .f32⟩
  | 23 => ⟨S_, .f32⟩
  | 24 => ⟨S1x2048x1024, .f32⟩
  | 25 => ⟨S1x2048x1024, .f32⟩
  | 26 => ⟨S1x2048x1024, .f32⟩
  | 27 => ⟨S1x1024, .f32⟩
  | 28 => ⟨S1024, .f32⟩
  | 29 => ⟨S1x1x1024, .f32⟩
  | 30 => ⟨S1x2048x1024, .f32⟩
  | 31 => ⟨S1x2048x1024, .f32⟩
  | 32 => ⟨S1x2048x1024, .f32⟩
  | 33 => ⟨S1x2048x1024, .f32⟩
  | 34 => ⟨S1x1024, .f32⟩
  | 35 => ⟨S1024, .f32⟩
  | 36 => ⟨S1x1x1024, .f32⟩
  | 37 => ⟨S1x2048x1024, .f32⟩
  | 38 => ⟨S1x2048x1024, .f32⟩
  | 39 => ⟨S1x2048x1024, .f32⟩
  | 40 => ⟨S1024, .f32⟩
  | 41 => ⟨S1x1x1024, .f32⟩
  | 42 => ⟨S1x2048x1024, .f32⟩
  | 43 => ⟨S1x2048x1024, .f32⟩
  | 44 => ⟨S1x2048x1024, .f32⟩
  | 45 => ⟨S1x2048x1024, .f32⟩
  | 46 => ⟨S1x2048x1024, .f32⟩
  | 47 => ⟨S1x2048x1024, .f32⟩
  | 48 => ⟨S_, .f32⟩
  | 49 => ⟨S1x2048x1024, .f32⟩
  | 50 => ⟨S1x2048x1024, .f32⟩
  | 51 => ⟨S_, .f32⟩
  | 52 => ⟨S1x2048x1024, .f32⟩
  | 53 => ⟨S1x2048x1024, .f32⟩
  | 54 => ⟨S_, .f32⟩
  | 55 => ⟨S1x2048x1024, .f32⟩
  | 56 => ⟨S1x2048x1024, .f32⟩
  | 57 => ⟨S1x2048x1024, .f32⟩
  | 58 => ⟨S1x2048x1024, .f32⟩
  | 59 => ⟨S1x2048x1024, .f32⟩
  | 60 => ⟨S2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S1x2048x1024, .f32⟩
  | 68 => ⟨S_, .f32⟩
  | 69 => ⟨S2048x1024, .f32⟩
  | 70 => ⟨S1x2048x1024, .f32⟩
  | 71 => ⟨S1x2048x1024, .f32⟩
  | 72 => ⟨S_, .f32⟩
  | 73 => ⟨S1x1024, .f32⟩
  | 74 => ⟨S1x1x1024, .f32⟩
  | 75 => ⟨S_, .f32⟩
  | 76 => ⟨S1024, .f32⟩
  | 77 => ⟨S1x1024, .f32⟩
  | 78 => ⟨S1x2048x1024, .f32⟩
  | 79 => ⟨S_, .f32⟩
  | 80 => ⟨S1x1024, .f32⟩
  | 81 => ⟨S1x1x1024, .f32⟩
  | 82 => ⟨S1x2048x1024, .f32⟩
  | 83 => ⟨S1x2048x1024, .f32⟩
  | 84 => ⟨S_, .f32⟩
  | 85 => ⟨S1024, .f32⟩
  | 86 => ⟨S1x1024, .f32⟩
  | 87 => ⟨S_, .f32⟩
  | 88 => ⟨S3x1024, .f32⟩
  | 89 => ⟨S_, .f32⟩
  | 90 => ⟨S1x2050x1024, .f32⟩
  | 91 => ⟨S1x2048x1024, .f32⟩
  | 92 => ⟨S_, .f32⟩
  | 93 => ⟨S1x1024, .f32⟩
  | 94 => ⟨S1x1x1024, .f32⟩
  | 95 => ⟨S1x2048x1024, .f32⟩
  | 96 => ⟨S1x2048x1024, .f32⟩
  | 97 => ⟨S_, .f32⟩
  | 98 => ⟨S1024, .f32⟩
  | 99 => ⟨S1x1024, .f32⟩
  | 100 => ⟨S_, .f32⟩
  | 101 => ⟨S3x1024, .f32⟩
  | 102 => ⟨S3x1024, .f32⟩
  | 103 => ⟨S_, .f32⟩
  | 104 => ⟨S1x2050x1024, .f32⟩
  | 105 => ⟨S1x2050x1024, .f32⟩
  | 106 => ⟨S1x2048x1024, .f32⟩
  | 107 => ⟨S_, .f32⟩
  | 108 => ⟨S1x1024, .f32⟩
  | 109 => ⟨S1x1x1024, .f32⟩
  | 110 => ⟨S1x2048x1024, .f32⟩
  | 111 => ⟨S1x2048x1024, .f32⟩
  | 112 => ⟨S_, .f32⟩
  | 113 => ⟨S1024, .f32⟩
  | 114 => ⟨S1x1024, .f32⟩
  | 115 => ⟨S_, .f32⟩
  | 116 => ⟨S3x1024, .f32⟩
  | 117 => ⟨S3x1024, .f32⟩
  | 118 => ⟨S_, .f32⟩
  | 119 => ⟨S1x2050x1024, .f32⟩
  | 120 => ⟨S1x2050x1024, .f32⟩
  | 121 => ⟨S1x2x1024, .f32⟩
  | 122 => ⟨S1x2048x1024, .f32⟩
  | 123 => ⟨S1x2048x1024, .f32⟩
  | 124 => ⟨S1x2048x1024, .f32⟩
  | 125 => ⟨S_, .f32⟩
  | 126 => ⟨S2048x1024, .f32⟩
  | 127 => ⟨S_, .f32⟩
  | _ => ⟨S2048x1024, .f32⟩

abbrev hbmTy0_1 (i : Nat) : BufTy := match i % 128 with
  | 0 => ⟨S2048x1024, .f32⟩
  | 1 => ⟨S_, .f32⟩
  | 2 => ⟨S2048x1024, .f32⟩
  | 3 => ⟨S2048x4x256, .f32⟩
  | 4 => ⟨S2048x4x256, .f32⟩
  | 5 => ⟨S2048x4x256, .f32⟩
  | 6 => ⟨S2048x4x256, .f32⟩
  | 7 => ⟨S2048x4x1x256, .f32⟩
  | 8 => ⟨S2048x4x1x256, .f32⟩
  | 9 => ⟨S2048x4x1x256, .f32⟩
  | 10 => ⟨S2048x4x1x256, .f32⟩
  | 11 => ⟨S2048x4x4x256, .f32⟩
  | 12 => ⟨S2048x4096, .f32⟩
  | 13 => ⟨S2048x4096, .bf16⟩
  | 14 => ⟨S2048x4096, .bf16⟩
  | 15 => ⟨S2048x256, .bf16⟩
  | 16 => ⟨S2048x8448, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v35_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v35_1 : Ref sig .tc := ⟨.hbm, 57, rfl⟩
abbrev main_v35_0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v41 : Ref sig .tc := ⟨.hbm, 67, rfl⟩
abbrev main_cst_2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_v77 : Ref sig .tc := ⟨.hbm, 117, rfl⟩
abbrev main_cst_16 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_cst_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== QkvKernel.lean ====
abbrev S2048x3072 : Shape := ⟨2, ![2048, 3072]⟩
abbrev S4x3072 : Shape := ⟨2, ![4, 3072]⟩
abbrev S2048x8448 : Shape := ⟨2, ![2048, 8448]⟩
abbrev S_ : Shape := ⟨0, ![]⟩
abbrev S2048x256 : Shape := ⟨2, ![2048, 256]⟩
abbrev S4x256 : Shape := ⟨2, ![4, 256]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 9
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S4x3072, .f32⟩
  | .hbm, ⟨2, _⟩ => ⟨S2048x3072, .f32⟩
  | .hbm, ⟨3, _⟩ => ⟨S2048x8448, .bf16⟩
  | .hbm, ⟨4, _⟩ => ⟨S_, .i32⟩
  | .hbm, ⟨5, _⟩ => ⟨S_, .f32⟩
  | .hbm, ⟨6, _⟩ => ⟨S2048x8448, .f32⟩
  | .hbm, ⟨7, _⟩ => ⟨S2048x8448, .bf16⟩
  | .hbm, ⟨8, _⟩ => ⟨S4x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S4x256, .f32⟩
  | .local _ .vmem, ⟨9, _⟩ => ⟨S4x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvReferenceIdeal.lean ====
abbrev S2048x3072 : Shape := ⟨2, ![2048, 3072]⟩
abbrev S4x3072 : Shape := ⟨2, ![4, 3072]⟩
abbrev S2048x8448 : Shape := ⟨2, ![2048, 8448]⟩
abbrev S2048x1024 : Shape := ⟨2, ![2048, 1024]⟩
abbrev S1x2048x8x128 : Shape := ⟨4, ![1, 2048, 8, 128]⟩
abbrev S1x2048x3072 : Shape := ⟨3, ![1, 2048, 3072]⟩
abbrev S_ : Shape := ⟨0, ![]⟩
abbrev S1x3x3072 : Shape := ⟨3, ![1, 3, 3072]⟩
abbrev S1x2051x3072 : Shape := ⟨3, ![1, 2051, 3072]⟩
abbrev S1x3072 : Shape := ⟨2, ![1, 3072]⟩
abbrev S3072 : Shape := ⟨1, ![3072]⟩
abbrev S1x1x3072 : Shape := ⟨3, ![1, 1, 3072]⟩
abbrev S1x2048x1024 : Shape := ⟨3, ![1, 2048, 1024]⟩
abbrev S1x2048x8 : Shape := ⟨3, ![1, 2048, 8]⟩
abbrev S1x2048x8x1 : Shape := ⟨4, ![1, 2048, 8, 1]⟩
abbrev S2048x8 : Shape := ⟨2, ![2048, 8]⟩
abbrev S2048x5376 : Shape := ⟨2, ![2048, 5376]⟩

abbrev nBuf : Space → Nat
  | .hbm => 202
  | .vmem => 0
  | .smem => 0
  | _ => 0

abbrev hbmTy0_0 (i : Nat) : BufTy := match i % 128 with
  | 0 => ⟨S2048x3072, .f32⟩
  | 1 => ⟨S4x3072, .f32⟩
  | 2 => ⟨S2048x3072, .f32⟩
  | 3 => ⟨S2048x8448, .bf16⟩
  | 4 => ⟨S2048x1024, .f32⟩
  | 5 => ⟨S1x2048x8x128, .f32⟩
  | 6 => ⟨S2048x1024, .f32⟩
  | 7 => ⟨S1x2048x8x128, .f32⟩
  | 8 => ⟨S2048x1024, .f32⟩
  | 9 => ⟨S1x2048x8x128, .f32⟩
  | 10 => ⟨S1x2048x3072, .f32⟩
  | 11 => ⟨S_, .f32⟩
  | 12 => ⟨S1x3x3072, .f32⟩
  | 13 => ⟨S1x2051x3072, .f32⟩
  | 14 => ⟨S_, .f32⟩
  | 15 => ⟨S1x3x3072, .f32⟩
  | 16 => ⟨S1x2048x3072, .f32⟩
  | 17 => ⟨S1x3072, .f32⟩
  | 18 => ⟨S3072, .f32⟩
  | 19 => ⟨S1x1x3072, .f32⟩
  | 20 => ⟨S1x2048x3072, .f32⟩
  | 21 => ⟨S1x2048x3072, .f32⟩
  | 22 => ⟨S_, .f32⟩
  | 23 => ⟨S1x2048x3072, .f32⟩
  | 24 => ⟨S1x2048x3072, .f32⟩
  | 25 => ⟨S1x2048x3072, .f32⟩
  | 26 => ⟨S1x3072, .f32⟩
  | 27 => ⟨S3072, .f32⟩
  | 28 => ⟨S1x1x3072, .f32⟩
  | 29 => ⟨S1x2048x3072, .f32⟩
  | 30 => ⟨S1x2048x3072, .f32⟩
  | 31 => ⟨S1x2048x3072, .f32⟩
  | 32 => ⟨S1x2048x3072, .f32⟩
  | 33 => ⟨S1x3072, .f32⟩
  | 34 => ⟨S3072, .f32⟩
  | 35 => ⟨S1x1x3072, .f32⟩
  | 36 => ⟨S1x2048x3072, .f32⟩
  | 37 => ⟨S1x2048x3072, .f32⟩
  | 38 => ⟨S1x2048x3072, .f32⟩
  | 39 => ⟨S1x2048x3072, .f32⟩
  | 40 => ⟨S1x3072, .f32⟩
  | 41 => ⟨S3072, .f32⟩
  | 42 => ⟨S1x1x3072, .f32⟩
  | 43 => ⟨S1x2048x3072, .f32⟩
  | 44 => ⟨S1x2048x3072, .f32⟩
  | 45 => ⟨S1x2048x3072, .f32⟩
  | 46 => ⟨S1x2048x3072, .f32⟩
  | 47 => ⟨S1x2048x3072, .f32⟩
  | 48 => ⟨S_, .f32⟩
  | 49 => ⟨S1x2048x3072, .f32⟩
  | 50 => ⟨S1x2048x3072, .f32⟩
  | 51 => ⟨S_, .f32⟩
  | 52 => ⟨S1x2048x3072, .f32⟩
  | 53 => ⟨S1x2048x3072, .f32⟩
  | 54 => ⟨S_, .f32⟩
  | 55 => ⟨S1x2048x3072, .f32⟩
  | 56 => ⟨S1x2048x3072, .f32⟩
  | 57 => ⟨S1x2048x3072, .f32⟩
  | 58 => ⟨S1x2048x3072, .f32⟩
  | 59 => ⟨S1x2048x1024, .f32⟩
  | 60 => ⟨S1x2048x1024, .f32⟩
  | 61 => ⟨S1x2048x1024, .f32⟩
  | 62 => ⟨S1x2048x8x128, .f32⟩
  | 63 => ⟨S1x2048x8x128, .f32⟩
  | 64 => ⟨S_, .f32⟩
  | 65 => ⟨S1x2048x8, .f32⟩
  | 66 => ⟨S1x2048x8x1, .f32⟩
  | 67 => ⟨S_, .f32⟩
  | 68 => ⟨S1x2048x8x1, .f32⟩
  | 69 => ⟨S1x2048x8x1, .f32⟩
  | 70 => ⟨S1x2048x8x1, .f32⟩
  | 71 => ⟨S1x2048x8x1, .f32⟩
  | 72 => ⟨S_, .f32⟩
  | 73 => ⟨S1x2048x8x1, .f32⟩
  | 74 => ⟨S1x2048x8x1, .f32⟩
  | 75 => ⟨S1x2048x8x128, .f32⟩
  | 76 => ⟨S1x2048x8x128, .f32⟩
  | 77 => ⟨S_, .f32⟩
  | 78 => ⟨S1x2048x8x128, .f32⟩
  | 79 => ⟨S1x2048x8x128, .f32⟩
  | 80 => ⟨S1x2048x8x128, .f32⟩
  | 81 => ⟨S1x2048x8x128, .f32⟩
  | 82 => ⟨S_, .f32⟩
  | 83 => ⟨S1x2048x8, .f32⟩
  | 84 => ⟨S1x2048x8x1, .f32⟩
  | 85 => ⟨S_, .f32⟩
  | 86 => ⟨S1x2048x8x1, .f32⟩
  | 87 => ⟨S1x2048x8x1, .f32⟩
  | 88 => ⟨S1x2048x8x1, .f32⟩
  | 89 => ⟨S1x2048x8x1, .f32⟩
  | 90 => ⟨S_, .f32⟩
  | 91 => ⟨S1x2048x8x1, .f32⟩
  | 92 => ⟨S1x2048x8x1, .f32⟩
  | 93 => ⟨S1x2048x8x128, .f32⟩
  | 94 => ⟨S1x2048x8x128, .f32⟩
  | 95 => ⟨S1x2048x8x128, .f32⟩
  | 96 => ⟨S1x2048x1024, .f32⟩
  | 97 => ⟨S1x2048x8x128, .f32⟩
  | 98 => ⟨S_, .f32⟩
  | 99 => ⟨S1x2048x8, .f32⟩
  | 100 => ⟨S1x2048x8x1, .f32⟩
  | 101 => ⟨S1x2048x8x128, .f32⟩
  | 102 => ⟨S1x2048x8x128, .f32⟩
  | 103 => ⟨S1x2048x8x1, .f32⟩
  | 104 => ⟨S_, .f32⟩
  | 105 => ⟨S2048x8, .f32⟩
  | 106 => ⟨S1x2048x8, .f32⟩
  | 107 => ⟨S1x2048x8x128, .f32⟩
  | 108 => ⟨S1x2048x8x128, .f32⟩
  | 109 => ⟨S1x2048x8x128, .f32⟩
  | 110 => ⟨S1x2048x8x128, .f32⟩
  | 111 => ⟨S1x2048x8x128, .f32⟩
  | 112 => ⟨S1x2048x1024, .f32⟩
  | 113 => ⟨S_, .f32⟩
  | 114 => ⟨S1x2048x8x128, .f32⟩
  | 115 => ⟨S1x2048x8x128, .f32⟩
  | 116 => ⟨S1x2048x8x128, .f32⟩
  | 117 => ⟨S_, .f32⟩
  | 118 => ⟨S1x2048x8, .f32⟩
  | 119 => ⟨S1x2048x8x1, .f32⟩
  | 120 => ⟨S1x2048x8x128, .f32⟩
  | 121 => ⟨S1x2048x8x128, .f32⟩
  | 122 => ⟨S1x2048x8x1, .f32⟩
  | 123 => ⟨S_, .f32⟩
  | 124 => ⟨S2048x8, .f32⟩
  | 125 => ⟨S1x2048x8, .f32⟩
  | 126 => ⟨S1x2048x8x128, .f32⟩
  | 127 => ⟨S1x2048x8x128, .f32⟩
  | _ => ⟨S2048x3072, .f32⟩

abbrev hbmTy0_1 (i : Nat) : BufTy := match i % 128 with
  | 0 => ⟨S1x2048x8x128, .f32⟩
  | 1 => ⟨S1x2048x8x128, .f32⟩
  | 2 => ⟨S1x2048x8x128, .f32⟩
  | 3 => ⟨S1x2048x1024, .f32⟩
  | 4 => ⟨S1x2048x3072, .f32⟩
  | 5 => ⟨S1x2048x3072, .f32⟩
  | 6 => ⟨S1x2048x3072, .f32⟩
  | 7 => ⟨S1x2048x3072, .f32⟩
  | 8 => ⟨S1x2048x3072, .f32⟩
  | 9 => ⟨S1x2048x3072, .f32⟩
  | 10 => ⟨S_, .f32⟩
  | 11 => ⟨S1x3072, .f32⟩
  | 12 => ⟨S1x1x3072, .f32⟩
  | 13 => ⟨S1x2048x3072, .f32⟩
  | 14 => ⟨S1x2048x3072, .f32⟩
  | 15 => ⟨S_, .f32⟩
  | 16 => ⟨S3072, .f32⟩
  | 17 => ⟨S1x3072, .f32⟩
  | 18 => ⟨S_, .f32⟩
  | 19 => ⟨S4x3072, .f32⟩
  | 20 => ⟨S_, .f32⟩
  | 21 => ⟨S1x2051x3072, .f32⟩
  | 22 => ⟨S1x2048x3072, .f32⟩
  | 23 => ⟨S_, .f32⟩
  | 24 => ⟨S1x3072, .f32⟩
  | 25 => ⟨S1x1x3072, .f32⟩
  | 26 => ⟨S1x2048x3072, .f32⟩
  | 27 => ⟨S1x2048x3072, .f32⟩
  | 28 => ⟨S_, .f32⟩
  | 29 => ⟨S3072, .f32⟩
  | 30 => ⟨S1x3072, .f32⟩
  | 31 => ⟨S_, .f32⟩
  | 32 => ⟨S4x3072, .f32⟩
  | 33 => ⟨S4x3072, .f32⟩
  | 34 => ⟨S_, .f32⟩
  | 35 => ⟨S1x2051x3072, .f32⟩
  | 36 => ⟨S1x2051x3072, .f32⟩
  | 37 => ⟨S1x2048x3072, .f32⟩
  | 38 => ⟨S_, .f32⟩
  | 39 => ⟨S1x3072, .f32⟩
  | 40 => ⟨S1x1x3072, .f32⟩
  | 41 => ⟨S1x2048x3072, .f32⟩
  | 42 => ⟨S1x2048x3072, .f32⟩
  | 43 => ⟨S_, .f32⟩
  | 44 => ⟨S3072, .f32⟩
  | 45 => ⟨S1x3072, .f32⟩
  | 46 => ⟨S_, .f32⟩
  | 47 => ⟨S4x3072, .f32⟩
  | 48 => ⟨S4x3072, .f32⟩
  | 49 => ⟨S_, .f32⟩
  | 50 => ⟨S1x2051x3072, .f32⟩
  | 51 => ⟨S1x2051x3072, .f32⟩
  | 52 => ⟨S1x2048x3072, .f32⟩
  | 53 => ⟨S_, .f32⟩
  | 54 => ⟨S1x3072, .f32⟩
  | 55 => ⟨S1x1x3072, .f32⟩
  | 56 => ⟨S1x2048x3072, .f32⟩
  | 57 => ⟨S1x2048x3072, .f32⟩
  | 58 => ⟨S_, .f32⟩
  | 59 => ⟨S3072, .f32⟩
  | 60 => ⟨S1x3072, .f32⟩
  | 61 => ⟨S_, .f32⟩
  | 62 => ⟨S4x3072, .f32⟩
  | 63 => ⟨S4x3072, .f32⟩
  | 64 => ⟨S_, .f32⟩
  | 65 => ⟨S1x2051x3072, .f32⟩
  | 66 => ⟨S1x2051x3072, .f32⟩
  | 67 => ⟨S1x3x3072, .f32⟩
  | 68 => ⟨S1x2048x3072, .f32⟩
  | 69 => ⟨S_, .f32⟩
  | 70 => ⟨S2048x3072, .f32⟩
  | 71 => ⟨S2048x3072, .bf16⟩
  | 72 => ⟨S2048x5376, .bf16⟩
  | 73 => ⟨S2048x8448, .bf16⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v39_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v39_1 : Ref sig .tc := ⟨.hbm, 57, rfl⟩
abbrev main_v39_0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_2 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_9 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_12 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v102 : Ref sig .tc := ⟨.hbm, 136, rfl⟩
abbrev main_v103 : Ref sig .tc := ⟨.hbm, 137, rfl⟩
abbrev main_cst_14 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_15 : Ref sig .tc := ⟨.hbm, 143, rfl⟩
abbrev main_v108 : Ref sig .tc := ⟨.hbm, 144, rfl⟩
abbrev main_v109 : Ref sig .tc := ⟨.hbm, 145, rfl⟩
abbrev main_cst_16 : Ref sig .tc := ⟨.hbm, 146, rfl⟩
abbrev main_v110 : Ref sig .tc := ⟨.hbm, 147, rfl⟩
abbrev main_cst_17 : Ref sig .tc := ⟨.hbm, 148, rfl⟩
abbrev main_v111 : Ref sig .tc := ⟨.hbm, 149, rfl⟩
abbrev main_v112 : Ref sig .tc := ⟨.hbm, 150, rfl⟩
abbrev main_cst_18 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_19 : Ref sig .tc := ⟨.hbm, 156, rfl⟩
abbrev main_v117 : Ref sig .tc := ⟨.hbm, 157, rfl⟩
abbrev main_v118 : Ref sig .tc := ⟨.hbm, 158, rfl⟩
abbrev main_cst_20 : Ref sig .tc := ⟨.hbm, 159, rfl⟩
abbrev main_v119 : Ref sig .tc := ⟨.hbm, 160, rfl⟩
abbrev main_v120 : Ref sig .tc := ⟨.hbm, 161, rfl⟩
abbrev main_cst_21 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_22 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_23 : Ref sig .tc := ⟨.hbm, 171, rfl⟩
abbrev main_v128 : Ref sig .tc := ⟨.hbm, 172, rfl⟩
abbrev main_v129 : Ref sig .tc := ⟨.hbm, 173, rfl⟩
abbrev main_cst_24 : Ref sig .tc := ⟨.hbm, 174, rfl⟩
abbrev main_v130 : Ref sig .tc := ⟨.hbm, 175, rfl⟩
abbrev main_v131 : Ref sig .tc := ⟨.hbm, 176, rfl⟩
abbrev main_cst_25 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_26 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_27 : Ref sig .tc := ⟨.hbm, 186, rfl⟩
abbrev main_v139 : Ref sig .tc := ⟨.hbm, 187, rfl⟩
abbrev main_v140 : Ref sig .tc := ⟨.hbm, 188, rfl⟩
abbrev main_cst_28 : Ref sig .tc := ⟨.hbm, 189, rfl⟩
abbrev main_v141 : Ref sig .tc := ⟨.hbm, 190, rfl⟩
abbrev main_v142 : Ref sig .tc := ⟨.hbm, 191, rfl⟩
abbrev main_cst_29 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_30 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩

abbrev nD : Nat := 1
abbrev τ : Topo := Topo.v7x

variable {F : FTy → Type} [FloatOps F]
-- ==== ScalKernel.lean ====
abbrev S2048x8 : Shape := ⟨2, ![2048, 8]⟩
abbrev S1x8 : Shape := ⟨2, ![1, 8]⟩
abbrev S32x8x64 : Shape := ⟨3, ![32, 8, 64]⟩
abbrev S2048x8448 : Shape := ⟨2, ![2048, 8448]⟩
abbrev S2048x16 : Shape := ⟨2, ![2048, 16]⟩
abbrev S_ : Shape := ⟨0, ![]⟩
abbrev S1x128 : Shape := ⟨2, ![1, 128]⟩
abbrev S2048x128 : Shape := ⟨2, ![2048, 128]⟩
abbrev S32x64x8 : Shape := ⟨3, ![32, 64, 8]⟩
abbrev S8x128 : Shape := ⟨2, ![8, 128]⟩
abbrev S2048x256 : Shape := ⟨2, ![2048, 256]⟩
abbrev S128 : Shape := ⟨1, ![128]⟩

abbrev nBuf : Space → Nat
  | .hbm => 31
  | .vmem => 7
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S2048x8, .f32⟩
  | .hbm, ⟨5, _⟩ => ⟨S2048x8, .f32⟩
  | .hbm, ⟨6, _⟩ => ⟨S32x8x64, .f32⟩
  | .hbm, ⟨7, _⟩ => ⟨S2048x8448, .bf16⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x8448, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S2048x16, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S32x64x8, .f32⟩
  | .hbm, ⟨23, _⟩ => ⟨S2048x8, .f32⟩
  | .hbm, ⟨24, _⟩ => ⟨S_, .i32⟩
  | .hbm, ⟨25, _⟩ => ⟨S_, .f32⟩
  | .hbm, ⟨26, _⟩ => ⟨S2048x128, .f32⟩
  | .hbm, ⟨27, _⟩ => ⟨S_, .f32⟩
  | .hbm, ⟨28, _⟩ => ⟨S8x128, .f32⟩
  | .hbm, ⟨29, _⟩ => ⟨S2048x8448, .bf16⟩
  | .hbm, ⟨30, _⟩ => ⟨S8x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x256, .bf16⟩
  | .local _ .vmem, ⟨6, _⟩ => ⟨S8x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_c_1 : Ref sig .tc := ⟨.hbm, 15, rfl⟩
abbrev main_call2_v0 : Ref sig .tc := ⟨.hbm, 16, rfl⟩
abbrev main_v3 : Ref sig .tc := ⟨.hbm, 17, rfl⟩
abbrev main_v4 : Ref sig .tc := ⟨.hbm, 18, rfl⟩
abbrev main_c_2 : Ref sig .tc := ⟨.hbm, 19, rfl⟩
abbrev main_call3_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_call4_v0 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c64_i32 : BitVec 32 := 64#32
  let c0_i32_0 : BitVec 32 := 0#32
  ![c0_i32.toNat, c64_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ScalReferenceIdeal.lean ====
abbrev S2048x8 : Shape := ⟨2, ![2048, 8]⟩
abbrev S1x8 : Shape := ⟨2, ![1, 8]⟩
abbrev S32x8x64 : Shape := ⟨3, ![32, 8, 64]⟩
abbrev S2048x8448 : Shape := ⟨2, ![2048, 8448]⟩
abbrev S32x64x8 : Shape := ⟨3, ![32, 64, 8]⟩
abbrev S8x32x64 : Shape := ⟨3, ![8, 32, 64]⟩
abbrev S1x8x32x64 : Shape := ⟨4, ![1, 8, 32, 64]⟩
abbrev S8 : Shape := ⟨1, ![8]⟩
abbrev S_ : Shape := ⟨0, ![]⟩
abbrev S1x32x64x8 : Shape := ⟨4, ![1, 32, 64, 8]⟩
abbrev S2048x8192 : Shape := ⟨2, ![2048, 8192]⟩
abbrev S2048x240 : Shape := ⟨2, ![2048, 240]⟩
abbrev S6x8 : Shape := ⟨2, ![6, 8]⟩
abbrev S8x8 : Shape := ⟨2, ![8, 8]⟩
abbrev S8x120 : Shape := ⟨2, ![8, 120]⟩
abbrev S8x128 : Shape := ⟨2, ![8, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S2048x8, .f32⟩
  | .hbm, ⟨5, _⟩ => ⟨S2048x8, .f32⟩
  | .hbm, ⟨6, _⟩ => ⟨S32x8x64, .f32⟩
  | .hbm, ⟨7, _⟩ => ⟨S2048x8448, .bf16⟩
  | .hbm, ⟨8, _⟩ => ⟨S32x64x8, .f32⟩
  | .hbm, ⟨9, _⟩ => ⟨S8x32x64, .f32⟩
  | .hbm, ⟨10, _⟩ => ⟨S1x8x32x64, .f32⟩
  | .hbm, ⟨11, _⟩ => ⟨S8x32x64, .f32⟩
  | .hbm, ⟨12, _⟩ => ⟨S1x8x32x64, .f32⟩
  | .hbm, ⟨13, _⟩ => ⟨S1x8x32x64, .f32⟩
  | .hbm, ⟨14, _⟩ => ⟨S8, .f32⟩
  | .hbm, ⟨15, _⟩ => ⟨S8, .f32⟩
  | .hbm, ⟨16, _⟩ => ⟨S2048x8, .f32⟩
  | .hbm, ⟨17, _⟩ => ⟨S2048x8, .f32⟩
  | .hbm, ⟨18, _⟩ => ⟨S_, .f32⟩
  | .hbm, ⟨19, _⟩ => ⟨S2048x8, .f32⟩
  | .hbm, ⟨20, _⟩ => ⟨S2048x8, .f32⟩
  | .hbm, ⟨21, _⟩ => ⟨S_, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S8, .f32⟩
  | .hbm, ⟨29, _⟩ => ⟨S8, .f32⟩
  | .hbm, ⟨30, _⟩ => ⟨S1x8, .f32⟩
  | .hbm, ⟨31, _⟩ => ⟨S2048x8, .f32⟩
  | .hbm, ⟨32, _⟩ => ⟨S2048x8, .f32⟩
  | .hbm, ⟨33, _⟩ => ⟨S_, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S2048x8, .i1⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S2048x8, .f32⟩
  | .hbm, ⟨46, _⟩ => ⟨S2048x8, .f32⟩
  | .hbm, ⟨47, _⟩ => ⟨S_, .f32⟩
  | .hbm, ⟨48, _⟩ => ⟨S2048x8, .f32⟩
  | .hbm, ⟨49, _⟩ => ⟨S2048x8, .i1⟩
  | .hbm, ⟨50, _⟩ => ⟨S_, .f32⟩
  | .hbm, ⟨51, _⟩ => ⟨S2048x8, .f32⟩
  | .hbm, ⟨52, _⟩ => ⟨S2048x8, .f32⟩
  | .hbm, ⟨53, _⟩ => ⟨S_, .f32⟩
  | .hbm, ⟨54, _⟩ => ⟨S2048x8, .f32⟩
  | .hbm, ⟨55, _⟩ => ⟨S2048x8, .i1⟩
  | .hbm, ⟨56, _⟩ => ⟨S_, .f32⟩
  | .hbm, ⟨57, _⟩ => ⟨S2048x8, .f32⟩
  | .hbm, ⟨58, _⟩ => ⟨S2048x8, .f32⟩
  | .hbm, ⟨59, _⟩ => ⟨S2048x8, .f32⟩
  | .hbm, ⟨60, _⟩ => ⟨S2048x8, .f32⟩
  | .hbm, ⟨61, _⟩ => ⟨S_, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x8, .f32⟩
  | .hbm, ⟨69, _⟩ => ⟨S2048x8, .i1⟩
  | .hbm, ⟨70, _⟩ => ⟨S_, .f32⟩
  | .hbm, ⟨71, _⟩ => ⟨S2048x8, .f32⟩
  | .hbm, ⟨72, _⟩ => ⟨S2048x8, .f32⟩
  | .hbm, ⟨73, _⟩ => ⟨S2048x8, .f32⟩
  | .hbm, ⟨74, _⟩ => ⟨S2048x8, .f32⟩
  | .hbm, ⟨75, _⟩ => ⟨S2048x8, .f32⟩
  | .hbm, ⟨76, _⟩ => ⟨S_, .f32⟩
  | .hbm, ⟨77, _⟩ => ⟨S2048x8, .f32⟩
  | .hbm, ⟨78, _⟩ => ⟨S2048x8, .f32⟩
  | .hbm, ⟨79, _⟩ => ⟨S1x8, .f32⟩
  | .hbm, ⟨80, _⟩ => ⟨S2048x8, .f32⟩
  | .hbm, ⟨81, _⟩ => ⟨S2048x8, .f32⟩
  | .hbm, ⟨82, _⟩ => ⟨S1x32x64x8, .f32⟩
  | .hbm, ⟨83, _⟩ => ⟨S1x8x32x64, .f32⟩
  | .hbm, ⟨84, _⟩ => ⟨S_, .f32⟩
  | .hbm, ⟨85, _⟩ => ⟨S_, .f32⟩
  | .hbm, ⟨86, _⟩ => ⟨S1x8x32x64, .f32⟩
  | .hbm, ⟨87, _⟩ => ⟨S_, .f32⟩
  | .hbm, ⟨88, _⟩ => ⟨S_, .f32⟩
  | .hbm, ⟨89, _⟩ => ⟨S1x8x32x64, .f32⟩
  | .hbm, ⟨90, _⟩ => ⟨S1x32x64x8, .f32⟩
  | .hbm, ⟨91, _⟩ => ⟨S2048x8, .f32⟩
  | .hbm, ⟨92, _⟩ => ⟨S2048x8, .f32⟩
  | .hbm, ⟨93, _⟩ => ⟨S2048x8, .f32⟩
  | .hbm, ⟨94, _⟩ => ⟨S2048x8, .f32⟩
  | .hbm, ⟨95, _⟩ => ⟨S_, .f32⟩
  | .hbm, ⟨96, _⟩ => ⟨S8, .f32⟩
  | .hbm, ⟨97, _⟩ => ⟨S1x8, .f32⟩
  | .hbm, ⟨98, _⟩ => ⟨S_, .f32⟩
  | .hbm, ⟨99, _⟩ => ⟨S8, .f32⟩
  | .hbm, ⟨100, _⟩ => ⟨S2048x8, .f32⟩
  | .hbm, ⟨101, _⟩ => ⟨S_, .f32⟩
  | .hbm, ⟨102, _⟩ => ⟨S8, .f32⟩
  | .hbm, ⟨103, _⟩ => ⟨S1x8, .f32⟩
  | .hbm, ⟨104, _⟩ => ⟨S_, .f32⟩
  | .hbm, ⟨105, _⟩ => ⟨S8, .f32⟩
  | .hbm, ⟨106, _⟩ => ⟨S8, .f32⟩
  | .hbm, ⟨107, _⟩ => ⟨S8, .f32⟩
  | .hbm, ⟨108, _⟩ => ⟨S2048x8, .f32⟩
  | .hbm, ⟨109, _⟩ => ⟨S2048x8192, .bf16⟩
  | .hbm, ⟨110, _⟩ => ⟨S2048x8, .bf16⟩
  | .hbm, ⟨111, _⟩ => ⟨S2048x8, .bf16⟩
  | .hbm, ⟨112, _⟩ => ⟨S_, .bf16⟩
  | .hbm, ⟨113, _⟩ => ⟨S2048x240, .bf16⟩
  | .hbm, ⟨114, _⟩ => ⟨S2048x8448, .bf16⟩
  | .hbm, ⟨115, _⟩ => ⟨S1x8, .f32⟩
  | .hbm, ⟨116, _⟩ => ⟨S1x8, .f32⟩
  | .hbm, ⟨117, _⟩ => ⟨S_, .f32⟩
  | .hbm, ⟨118, _⟩ => ⟨S6x8, .f32⟩
  | .hbm, ⟨119, _⟩ => ⟨S8x8, .f32⟩
  | .hbm, ⟨120, _⟩ => ⟨S_, .f32⟩
  | .hbm, ⟨121, _⟩ => ⟨S8x120, .f32⟩
  | .hbm, ⟨122, _⟩ => ⟨S8x128, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v22_0 : Ref sig .tc := ⟨.hbm, 46, rfl⟩
abbrev main_call0_cst_0 : Ref sig .tc := ⟨.hbm, 47, rfl⟩
abbrev main_call0_v13 : Ref sig .tc := ⟨.hbm, 48, rfl⟩
abbrev main_call0_v14 : Ref sig .tc := ⟨.hbm, 49, rfl⟩
abbrev main_call0_cst_1 : Ref sig .tc := ⟨.hbm, 50, rfl⟩
abbrev main_call0_v15 : Ref sig .tc := ⟨.hbm, 51, rfl⟩
abbrev main_call0_v16 : Ref sig .tc := ⟨.hbm, 52, rfl⟩
abbrev main_call0_cst_2 : Ref sig .tc := ⟨.hbm, 53, rfl⟩
abbrev main_call0_v17 : Ref sig .tc := ⟨.hbm, 54, rfl⟩
abbrev main_call0_v18 : Ref sig .tc := ⟨.hbm, 55, rfl⟩
abbrev main_call0_cst_3 : Ref sig .tc := ⟨.hbm, 56, rfl⟩
abbrev main_call0_v19 : Ref sig .tc := ⟨.hbm, 57, rfl⟩
abbrev main_call0_v20 : Ref sig .tc := ⟨.hbm, 58, rfl⟩
abbrev main_call0_v21 : Ref sig .tc := ⟨.hbm, 59, rfl⟩
abbrev main_v22_1 : Ref sig .tc := ⟨.hbm, 60, rfl⟩
abbrev main_call0_cst_4 : Ref sig .tc := ⟨.hbm, 61, rfl⟩
abbrev main_call0_cst_5 : Ref sig .tc := ⟨.hbm, 62, rfl⟩
abbrev main_call0_v23 : Ref sig .tc := ⟨.hbm, 63, rfl⟩
abbrev main_call0_cst_6 : Ref sig .tc := ⟨.hbm, 64, rfl⟩
abbrev main_call0_cst_7 : Ref sig .tc := ⟨.hbm, 65, rfl⟩
abbrev main_call0_v24 : Ref sig .tc := ⟨.hbm, 66, rfl⟩
abbrev main_call0_cst_8 : Ref sig .tc := ⟨.hbm, 67, rfl⟩
abbrev main_call0_v25 : Ref sig .tc := ⟨.hbm, 68, rfl⟩
abbrev main_call0_v26 : Ref sig .tc := ⟨.hbm, 69, rfl⟩
abbrev main_call0_cst_9 : Ref sig .tc := ⟨.hbm, 70, rfl⟩
abbrev main_call0_v27 : Ref sig .tc := ⟨.hbm, 71, rfl⟩
abbrev main_call0_v28 : Ref sig .tc := ⟨.hbm, 72, rfl⟩
abbrev main_call0_v29 : Ref sig .tc := ⟨.hbm, 73, rfl⟩
abbrev main_call0_v30 : Ref sig .tc := ⟨.hbm, 74, rfl⟩
abbrev main_call0_v31 : Ref sig .tc := ⟨.hbm, 75, rfl⟩
abbrev main_call0_cst_10 : Ref sig .tc := ⟨.hbm, 76, rfl⟩
abbrev main_call0_v32 : Ref sig .tc := ⟨.hbm, 77, rfl⟩
abbrev main_v22_2 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_call1_call0_cst : Ref sig .tc := ⟨.hbm, 84, rfl⟩
abbrev main_call1_call0_v0 : Ref sig .tc := ⟨.hbm, 85, rfl⟩
abbrev main_v28 : Ref sig .tc := ⟨.hbm, 86, rfl⟩
abbrev main_call2_call0_cst : Ref sig .tc := ⟨.hbm, 87, rfl⟩
abbrev main_call2_call0_v0 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_2 : Ref sig .tc := ⟨.hbm, 95, rfl⟩
abbrev main_v35 : Ref sig .tc := ⟨.hbm, 96, rfl⟩
abbrev main_v36 : Ref sig .tc := ⟨.hbm, 97, rfl⟩
abbrev main_cst_3 : Ref sig .tc := ⟨.hbm, 98, rfl⟩
abbrev main_v37 : Ref sig .tc := ⟨.hbm, 99, rfl⟩
abbrev main_v38 : Ref sig .tc := ⟨.hbm, 100, rfl⟩
abbrev main_cst_4 : Ref sig .tc := ⟨.hbm, 101, rfl⟩
abbrev main_v39 : Ref sig .tc := ⟨.hbm, 102, rfl⟩
abbrev main_v40 : Ref sig .tc := ⟨.hbm, 103, rfl⟩
abbrev main_cst_5 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_6 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_cst_7 : Ref sig .tc := ⟨.hbm, 117, rfl⟩
abbrev main_v52 : Ref sig .tc := ⟨.hbm, 118, rfl⟩
abbrev main_v53 : Ref sig .tc := ⟨.hbm, 119, rfl⟩
abbrev main_cst_8 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]
-- ==== LossKernel.lean ====
abbrev S2048x1024 : Shape := ⟨2, ![2048, 1024]⟩
abbrev S2048x2048 : Shape := ⟨2, ![2048, 2048]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x2048, .f32⟩
  | .hbm, ⟨10, _⟩ => ⟨S1x1024, .f32⟩
  | .hbm, ⟨11, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1x1024, .f32⟩
  | .local _ .vmem, ⟨15, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S2048x1024 : Shape := ⟨2, ![2048, 1024]⟩
abbrev S2048x2048 : Shape := ⟨2, ![2048, 2048]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x2048, .f32⟩
  | .hbm, ⟨77, _⟩ => ⟨S2048x1024, .bf16⟩
  | .hbm, ⟨78, _⟩ => ⟨S1x1024, .f32⟩
  | .hbm, ⟨79, _⟩ => ⟨S1x1, .f32⟩
  | .hbm, ⟨80, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== InputKernel.lean ====
abbrev S2048x1024 : Shape := ⟨2, ![2048, 1024]⟩
abbrev S1x1024 : Shape := ⟨2, ![1, 1024]⟩
abbrev S1024x8208 : Shape := ⟨2, ![1024, 8208]⟩
abbrev S2048x8208 : Shape := ⟨2, ![2048, 8208]⟩
abbrev S8208x1024 : Shape := ⟨2, ![8208, 1024]⟩
abbrev S1024x1024 : Shape := ⟨2, ![1024, 1024]⟩
abbrev S4x256x1024 : Shape := ⟨3, ![4, 256, 1024]⟩
abbrev S4x1x256x1024 : Shape := ⟨4, ![4, 1, 256, 1024]⟩
abbrev S4x4x256x1024 : Shape := ⟨4, ![4, 4, 256, 1024]⟩
abbrev S4096x1024 : Shape := ⟨2, ![4096, 1024]⟩
abbrev S16x1024 : Shape := ⟨2, ![16, 1024]⟩
abbrev S_ : Shape := ⟨0, ![]⟩
abbrev S240x1024 : Shape := ⟨2, ![240, 1024]⟩
abbrev S8448x1024 : Shape := ⟨2, ![8448, 1024]⟩
abbrev S8208x2048 : Shape := ⟨2, ![8208, 2048]⟩
abbrev S1024x2048 : Shape := ⟨2, ![1024, 2048]⟩
abbrev S4x256x2048 : Shape := ⟨3, ![4, 256, 2048]⟩
abbrev S4x1x256x2048 : Shape := ⟨4, ![4, 1, 256, 2048]⟩
abbrev S4x4x256x2048 : Shape := ⟨4, ![4, 4, 256, 2048]⟩
abbrev S4096x2048 : Shape := ⟨2, ![4096, 2048]⟩
abbrev S16x2048 : Shape := ⟨2, ![16, 2048]⟩
abbrev S240x2048 : Shape := ⟨2, ![240, 2048]⟩
abbrev S8448x2048 : Shape := ⟨2, ![8448, 2048]⟩
abbrev S2048x8448 : Shape := ⟨2, ![2048, 8448]⟩
abbrev S8x128 : Shape := ⟨2, ![8, 128]⟩
abbrev S512x8448 : Shape := ⟨2, ![512, 8448]⟩
abbrev S512x1024 : Shape := ⟨2, ![512, 1024]⟩
abbrev S7 : Shape := ⟨1, ![7]⟩
abbrev S1 : Shape := ⟨1, ![1]⟩
abbrev S1280x1024 : Shape := ⟨2, ![1280, 1024]⟩
abbrev S512x512 : Shape := ⟨2, ![512, 512]⟩
abbrev S512x2048 : Shape := ⟨2, ![512, 2048]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 52
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x8208, .f32⟩
  | .hbm, ⟨3, _⟩ => ⟨S2048x8208, .f32⟩
  | .hbm, ⟨4, _⟩ => ⟨S2048x1024, .f32⟩
  | .hbm, ⟨5, _⟩ => ⟨S8208x1024, .f32⟩
  | .hbm, ⟨6, _⟩ => ⟨S1024x1024, .f32⟩
  | .hbm, ⟨7, _⟩ => ⟨S4x256x1024, .f32⟩
  | .hbm, ⟨8, _⟩ => ⟨S1024x1024, .f32⟩
  | .hbm, ⟨9, _⟩ => ⟨S4x256x1024, .f32⟩
  | .hbm, ⟨10, _⟩ => ⟨S1024x1024, .f32⟩
  | .hbm, ⟨11, _⟩ => ⟨S4x256x1024, .f32⟩
  | .hbm, ⟨12, _⟩ => ⟨S1024x1024, .f32⟩
  | .hbm, ⟨13, _⟩ => ⟨S4x256x1024, .f32⟩
  | .hbm, ⟨14, _⟩ => ⟨S4x1x256x1024, .f32⟩
  | .hbm, ⟨15, _⟩ => ⟨S4x1x256x1024, .f32⟩
  | .hbm, ⟨16, _⟩ => ⟨S4x1x256x1024, .f32⟩
  | .hbm, ⟨17, _⟩ => ⟨S4x1x256x1024, .f32⟩
  | .hbm, ⟨18, _⟩ => ⟨S4x4x256x1024, .f32⟩
  | .hbm, ⟨19, _⟩ => ⟨S4096x1024, .f32⟩
  | .hbm, ⟨20, _⟩ => ⟨S4096x1024, .f32⟩
  | .hbm, ⟨21, _⟩ => ⟨S16x1024, .f32⟩
  | .hbm, ⟨22, _⟩ => ⟨S_, .f32⟩
  | .hbm, ⟨23, _⟩ => ⟨S240x1024, .f32⟩
  | .hbm, ⟨24, _⟩ => ⟨S8448x1024, .f32⟩
  | .hbm, ⟨25, _⟩ => ⟨S8448x1024, .bf16⟩
  | .hbm, ⟨26, _⟩ => ⟨S8208x2048, .f32⟩
  | .hbm, ⟨27, _⟩ => ⟨S1024x2048, .f32⟩
  | .hbm, ⟨28, _⟩ => ⟨S4x256x2048, .f32⟩
  | .hbm, ⟨29, _⟩ => ⟨S1024x2048, .f32⟩
  | .hbm, ⟨30, _⟩ => ⟨S4x256x2048, .f32⟩
  | .hbm, ⟨31, _⟩ => ⟨S1024x2048, .f32⟩
  | .hbm, ⟨32, _⟩ => ⟨S4x256x2048, .f32⟩
  | .hbm, ⟨33, _⟩ => ⟨S1024x2048, .f32⟩
  | .hbm, ⟨34, _⟩ => ⟨S4x256x2048, .f32⟩
  | .hbm, ⟨35, _⟩ => ⟨S4x1x256x2048, .f32⟩
  | .hbm, ⟨36, _⟩ => ⟨S4x1x256x2048, .f32⟩
  | .hbm, ⟨37, _⟩ => ⟨S4x1x256x2048, .f32⟩
  | .hbm, ⟨38, _⟩ => ⟨S4x1x256x2048, .f32⟩
  | .hbm, ⟨39, _⟩ => ⟨S4x4x256x2048, .f32⟩
  | .hbm, ⟨40, _⟩ => ⟨S4096x2048, .f32⟩
  | .hbm, ⟨41, _⟩ => ⟨S4096x2048, .f32⟩
  | .hbm, ⟨42, _⟩ => ⟨S16x2048, .f32⟩
  | .hbm, ⟨43, _⟩ => ⟨S_, .f32⟩
  | .hbm, ⟨44, _⟩ => ⟨S240x2048, .f32⟩
  | .hbm, ⟨45, _⟩ => ⟨S8448x2048, .f32⟩
  | .hbm, ⟨46, _⟩ => ⟨S2048x8448, .f32⟩
  | .hbm, ⟨47, _⟩ => ⟨S2048x8448, .bf16⟩
  | .hbm, ⟨48, _⟩ => ⟨S_, .f32⟩
  | .hbm, ⟨49, _⟩ => ⟨S8x128, .f32⟩
  | .hbm, ⟨50, _⟩ => ⟨S2048x1024, .f32⟩
  | .hbm, ⟨51, _⟩ => ⟨S1x1024, .f32⟩
  | .local _ .vmem, ⟨0, _⟩ => ⟨S512x8448, .bf16⟩
  | .local _ .vmem, ⟨1, _⟩ => ⟨S512x8448, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8448x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42_0 : Ref sig .tc := ⟨.hbm, 50, rfl⟩
abbrev main_v42_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputReferenceIdeal.lean ====
abbrev S2048x1024 : Shape := ⟨2, ![2048, 1024]⟩
abbrev S1x1024 : Shape := ⟨2, ![1, 1024]⟩
abbrev S1024x8208 : Shape := ⟨2, ![1024, 8208]⟩
abbrev S2048x8208 : Shape := ⟨2, ![2048, 8208]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x8208, .f32⟩
  | .hbm, ⟨3, _⟩ => ⟨S2048x8208, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x8208, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FgateKernel.lean ====
abbrev S2048x1024 : Shape := ⟨2, ![2048, 1024]⟩
abbrev S1x128 : Shape := ⟨2, ![1, 128]⟩
abbrev S_ : Shape := ⟨0, ![]⟩
abbrev S2048x8448 : Shape := ⟨2, ![2048, 8448]⟩
abbrev S2048x2048 : Shape := ⟨2, ![2048, 2048]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S_, .i32⟩
  | .hbm, ⟨4, _⟩ => ⟨S_, .f32⟩
  | .hbm, ⟨5, _⟩ => ⟨S2048x8448, .f32⟩
  | .hbm, ⟨6, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x128, .f32⟩
  | .local _ .vmem, ⟨5, _⟩ => ⟨S2048x256, .bf16⟩
  | .local _ .vmem, ⟨6, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FgateReferenceIdeal.lean ====
abbrev S2048x1024 : Shape := ⟨2, ![2048, 1024]⟩
abbrev S1x128 : Shape := ⟨2, ![1, 128]⟩
abbrev S1x2048x8x128 : Shape := ⟨4, ![1, 2048, 8, 128]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S1x2048x1024 : Shape := ⟨3, ![1, 2048, 1024]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S1x2048x8x128, .f32⟩
  | .hbm, ⟨4, _⟩ => ⟨S128, .f32⟩
  | .hbm, ⟨5, _⟩ => ⟨S1x2048x8x128, .f32⟩
  | .hbm, ⟨6, _⟩ => ⟨S_, .f32⟩
  | .hbm, ⟨7, _⟩ => ⟨S1x2048x8, .f32⟩
  | .hbm, ⟨8, _⟩ => ⟨S1x2048x8x1, .f32⟩
  | .hbm, ⟨9, _⟩ => ⟨S_, .f32⟩
  | .hbm, ⟨10, _⟩ => ⟨S1x2048x8x1, .f32⟩
  | .hbm, ⟨11, _⟩ => ⟨S1x2048x8x1, .f32⟩
  | .hbm, ⟨12, _⟩ => ⟨S_, .f32⟩
  | .hbm, ⟨13, _⟩ => ⟨S1x2048x8x1, .f32⟩
  | .hbm, ⟨14, _⟩ => ⟨S1x2048x8x1, .f32⟩
  | .hbm, ⟨15, _⟩ => ⟨S1x2048x8x1, .f32⟩
  | .hbm, ⟨16, _⟩ => ⟨S1x2048x8x128, .f32⟩
  | .hbm, ⟨17, _⟩ => ⟨S1x2048x8x128, .f32⟩
  | .hbm, ⟨18, _⟩ => ⟨S1x1x1x128, .f32⟩
  | .hbm, ⟨19, _⟩ => ⟨S1x2048x8x128, .f32⟩
  | .hbm, ⟨20, _⟩ => ⟨S1x2048x8x128, .f32⟩
  | .hbm, ⟨21, _⟩ => ⟨S1x2048x8x128, .f32⟩
  | .hbm, ⟨22, _⟩ => ⟨S1x2048x8x128, .f32⟩
  | .hbm, ⟨23, _⟩ => ⟨S1x2048x8x128, .f32⟩
  | .hbm, ⟨24, _⟩ => ⟨S_, .f32⟩
  | .hbm, ⟨25, _⟩ => ⟨S1x2048x8x128, .f32⟩
  | .hbm, ⟨26, _⟩ => ⟨S1x2048x8x128, .f32⟩
  | .hbm, ⟨27, _⟩ => ⟨S_, .f32⟩
  | .hbm, ⟨28, _⟩ => ⟨S1x2048x8x128, .f32⟩
  | .hbm, ⟨29, _⟩ => ⟨S1x2048x8x128, .f32⟩
  | .hbm, ⟨30, _⟩ => ⟨S1x2048x8x128, .f32⟩
  | .hbm, ⟨31, _⟩ => ⟨S1x2048x8x128, .f32⟩
  | .hbm, ⟨32, _⟩ => ⟨S1x2048x1024, .f32⟩
  | .hbm, ⟨33, _⟩ => ⟨S2048x1024, .f32⟩
  | .hbm, ⟨34, _⟩ => ⟨S2048x1024, .bf16⟩
  | .hbm, ⟨35, _⟩ => ⟨S_, .bf16⟩
  | .hbm, ⟨36, _⟩ => ⟨S2048x1024, .bf16⟩
  | .hbm, ⟨37, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== FconvKernel.lean ====
abbrev S2048x1024 : Shape := ⟨2, ![2048, 1024]⟩
abbrev S3x1024 : Shape := ⟨2, ![3, 1024]⟩
abbrev S1x1024 : Shape := ⟨2, ![1, 1024]⟩
abbrev S2048x2048 : Shape := ⟨2, ![2048, 2048]⟩
abbrev S2048x4x256 : Shape := ⟨3, ![2048, 4, 256]⟩
abbrev S2048x4x1x256 : Shape := ⟨4, ![2048, 4, 1, 256]⟩
abbrev S2048x4x4x256 : Shape := ⟨4, ![2048, 4, 4, 256]⟩
abbrev S2048x4096 : Shape := ⟨2, ![2048, 4096]⟩
abbrev S_ : Shape := ⟨0, ![]⟩
abbrev S2048x8448 : Shape := ⟨2, ![2048, 8448]⟩
abbrev S3x256 : Shape := ⟨2, ![3, 256]⟩
abbrev S1x256 : Shape := ⟨2, ![1, 256]⟩
abbrev S2048x256 : Shape := ⟨2, ![2048, 256]⟩
abbrev S2048x128 : Shape := ⟨2, ![2048, 128]⟩
abbrev S1x128 : Shape := ⟨2, ![1, 128]⟩

abbrev nBuf : Space → Nat
  | .hbm => 21
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S1x1024, .f32⟩
  | .hbm, ⟨6, _⟩ => ⟨S2048x2048, .bf16⟩
  | .hbm, ⟨7, _⟩ => ⟨S2048x4x256, .f32⟩
  | .hbm, ⟨8, _⟩ => ⟨S2048x4x256, .f32⟩
  | .hbm, ⟨9, _⟩ => ⟨S2048x4x256, .f32⟩
  | .hbm, ⟨10, _⟩ => ⟨S2048x4x256, .f32⟩
  | .hbm, ⟨11, _⟩ => ⟨S2048x4x1x256, .f32⟩
  | .hbm, ⟨12, _⟩ => ⟨S2048x4x1x256, .f32⟩
  | .hbm, ⟨13, _⟩ => ⟨S2048x4x1x256, .f32⟩
  | .hbm, ⟨14, _⟩ => ⟨S2048x4x1x256, .f32⟩
  | .hbm, ⟨15, _⟩ => ⟨S2048x4x4x256, .f32⟩
  | .hbm, ⟨16, _⟩ => ⟨S2048x4096, .f32⟩
  | .hbm, ⟨17, _⟩ => ⟨S_, .i32⟩
  | .hbm, ⟨18, _⟩ => ⟨S_, .f32⟩
  | .hbm, ⟨19, _⟩ => ⟨S2048x8448, .f32⟩
  | .hbm, ⟨20, _⟩ => ⟨S2048x2048, .bf16⟩
  | .local _ .vmem, ⟨0, _⟩ => ⟨S2048x1024, .f32⟩
  | .local _ .vmem, ⟨1, _⟩ => ⟨S2048x1024, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FconvReferenceIdeal.lean ====
abbrev S2048x1024 : Shape := ⟨2, ![2048, 1024]⟩
abbrev S3x1024 : Shape := ⟨2, ![3, 1024]⟩
abbrev S1x1024 : Shape := ⟨2, ![1, 1024]⟩
abbrev S2048x2048 : Shape := ⟨2, ![2048, 2048]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1024 : Shape := ⟨1, ![1024]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S3x1024, .f32⟩
  | .hbm, ⟨5, _⟩ => ⟨S1x1024, .f32⟩
  | .hbm, ⟨6, _⟩ => ⟨S2048x2048, .bf16⟩
  | .hbm, ⟨7, _⟩ => ⟨S1x2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2x1024, .f32⟩
  | .hbm, ⟨13, _⟩ => ⟨S1x2050x1024, .f32⟩
  | .hbm, ⟨14, _⟩ => ⟨S1x2048x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1024, .f32⟩
  | .hbm, ⟨38, _⟩ => ⟨S1x1x1024, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1x2048x1024, .f32⟩
  | .hbm, ⟨47, _⟩ => ⟨S1x2048x1024, .f32⟩
  | .hbm, ⟨48, _⟩ => ⟨S_, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S2048x1024, .f32⟩
  | .hbm, ⟨54, _⟩ => ⟨S2048x1024, .bf16⟩
  | .hbm, ⟨55, _⟩ => ⟨S2048x1024, .bf16⟩
  | .hbm, ⟨56, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== FqkvKernel.lean ====
abbrev S2048x3072 : Shape := ⟨2, ![2048, 3072]⟩
abbrev S4x3072 : Shape := ⟨2, ![4, 3072]⟩
abbrev S_ : Shape := ⟨0, ![]⟩
abbrev S2048x8448 : Shape := ⟨2, ![2048, 8448]⟩
abbrev S2048x512 : Shape := ⟨2, ![2048, 512]⟩
abbrev S4x512 : Shape := ⟨2, ![4, 512]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x3072, .f32⟩
  | .hbm, ⟨1, _⟩ => ⟨S4x3072, .f32⟩
  | .hbm, ⟨2, _⟩ => ⟨S_, .i32⟩
  | .hbm, ⟨3, _⟩ => ⟨S_, .f32⟩
  | .hbm, ⟨4, _⟩ => ⟨S2048x8448, .f32⟩
  | .hbm, ⟨5, _⟩ => ⟨S2048x3072, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S2048x512, .f32⟩
  | .local _ .vmem, ⟨5, _⟩ => ⟨S2048x512, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FqkvReferenceIdeal.lean ====
abbrev S2048x3072 : Shape := ⟨2, ![2048, 3072]⟩
abbrev S4x3072 : Shape := ⟨2, ![4, 3072]⟩
abbrev S1x2048x3072 : Shape := ⟨3, ![1, 2048, 3072]⟩
abbrev S_ : Shape := ⟨0, ![]⟩
abbrev S1x3x3072 : Shape := ⟨3, ![1, 3, 3072]⟩
abbrev S1x2051x3072 : Shape := ⟨3, ![1, 2051, 3072]⟩
abbrev S1x3072 : Shape := ⟨2, ![1, 3072]⟩
abbrev S3072 : Shape := ⟨1, ![3072]⟩
abbrev S1x1x3072 : Shape := ⟨3, ![1, 1, 3072]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S2048x1024 : Shape := ⟨2, ![2048, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S4x3072, .f32⟩
  | .hbm, ⟨2, _⟩ => ⟨S1x2048x3072, .f32⟩
  | .hbm, ⟨3, _⟩ => ⟨S_, .f32⟩
  | .hbm, ⟨4, _⟩ => ⟨S1x3x3072, .f32⟩
  | .hbm, ⟨5, _⟩ => ⟨S1x2051x3072, .f32⟩
  | .hbm, ⟨6, _⟩ => ⟨S1x2048x3072, .f32⟩
  | .hbm, ⟨7, _⟩ => ⟨S1x3072, .f32⟩
  | .hbm, ⟨8, _⟩ => ⟨S3072, .f32⟩
  | .hbm, ⟨9, _⟩ => ⟨S1x1x3072, .f32⟩
  | .hbm, ⟨10, _⟩ => ⟨S1x2048x3072, .f32⟩
  | .hbm, ⟨11, _⟩ => ⟨S1x2048x3072, .f32⟩
  | .hbm, ⟨12, _⟩ => ⟨S_, .f32⟩
  | .hbm, ⟨13, _⟩ => ⟨S1x2048x3072, .f32⟩
  | .hbm, ⟨14, _⟩ => ⟨S1x2048x3072, .f32⟩
  | .hbm, ⟨15, _⟩ => ⟨S1x2048x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S1x2048x3072, .f32⟩
  | .hbm, ⟨20, _⟩ => ⟨S1x2048x3072, .f32⟩
  | .hbm, ⟨21, _⟩ => ⟨S1x2048x3072, .f32⟩
  | .hbm, ⟨22, _⟩ => ⟨S1x2048x3072, .f32⟩
  | .hbm, ⟨23, _⟩ => ⟨S1x3072, .f32⟩
  | .hbm, ⟨24, _⟩ => ⟨S3072, .f32⟩
  | .hbm, ⟨25, _⟩ => ⟨S1x1x3072, .f32⟩
  | .hbm, ⟨26, _⟩ => ⟨S1x2048x3072, .f32⟩
  | .hbm, ⟨27, _⟩ => ⟨S1x2048x3072, .f32⟩
  | .hbm, ⟨28, _⟩ => ⟨S1x2048x3072, .f32⟩
  | .hbm, ⟨29, _⟩ => ⟨S1x2048x3072, .f32⟩
  | .hbm, ⟨30, _⟩ => ⟨S1x3072, .f32⟩
  | .hbm, ⟨31, _⟩ => ⟨S3072, .f32⟩
  | .hbm, ⟨32, _⟩ => ⟨S1x1x3072, .f32⟩
  | .hbm, ⟨33, _⟩ => ⟨S1x2048x3072, .f32⟩
  | .hbm, ⟨34, _⟩ => ⟨S1x2048x3072, .f32⟩
  | .hbm, ⟨35, _⟩ => ⟨S1x2048x3072, .f32⟩
  | .hbm, ⟨36, _⟩ => ⟨S1x2048x3072, .f32⟩
  | .hbm, ⟨37, _⟩ => ⟨S1x2048x3072, .f32⟩
  | .hbm, ⟨38, _⟩ => ⟨S_, .f32⟩
  | .hbm, ⟨39, _⟩ => ⟨S1x2048x3072, .f32⟩
  | .hbm, ⟨40, _⟩ => ⟨S1x2048x3072, .f32⟩
  | .hbm, ⟨41, _⟩ => ⟨S_, .f32⟩
  | .hbm, ⟨42, _⟩ => ⟨S1x2048x3072, .f32⟩
  | .hbm, ⟨43, _⟩ => ⟨S1x2048x3072, .f32⟩
  | .hbm, ⟨44, _⟩ => ⟨S1x2048x3072, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x8x128, .f32⟩
  | .hbm, ⟨49, _⟩ => ⟨S1x2048x8x128, .f32⟩
  | .hbm, ⟨50, _⟩ => ⟨S_, .f32⟩
  | .hbm, ⟨51, _⟩ => ⟨S1x2048x8, .f32⟩
  | .hbm, ⟨52, _⟩ => ⟨S1x2048x8x1, .f32⟩
  | .hbm, ⟨53, _⟩ => ⟨S_, .f32⟩
  | .hbm, ⟨54, _⟩ => ⟨S1x2048x8x1, .f32⟩
  | .hbm, ⟨55, _⟩ => ⟨S1x2048x8x1, .f32⟩
  | .hbm, ⟨56, _⟩ => ⟨S1x2048x8x1, .f32⟩
  | .hbm, ⟨57, _⟩ => ⟨S1x2048x8x128, .f32⟩
  | .hbm, ⟨58, _⟩ => ⟨S1x2048x8x128, .f32⟩
  | .hbm, ⟨59, _⟩ => ⟨S_, .f32⟩
  | .hbm, ⟨60, _⟩ => ⟨S1x2048x8x128, .f32⟩
  | .hbm, ⟨61, _⟩ => ⟨S1x2048x8x128, .f32⟩
  | .hbm, ⟨62, _⟩ => ⟨S1x2048x8x128, .f32⟩
  | .hbm, ⟨63, _⟩ => ⟨S1x2048x8x128, .f32⟩
  | .hbm, ⟨64, _⟩ => ⟨S_, .f32⟩
  | .hbm, ⟨65, _⟩ => ⟨S1x2048x8, .f32⟩
  | .hbm, ⟨66, _⟩ => ⟨S1x2048x8x1, .f32⟩
  | .hbm, ⟨67, _⟩ => ⟨S_, .f32⟩
  | .hbm, ⟨68, _⟩ => ⟨S1x2048x8x1, .f32⟩
  | .hbm, ⟨69, _⟩ => ⟨S1x2048x8x1, .f32⟩
  | .hbm, ⟨70, _⟩ => ⟨S1x2048x8x1, .f32⟩
  | .hbm, ⟨71, _⟩ => ⟨S1x2048x8x128, .f32⟩
  | .hbm, ⟨72, _⟩ => ⟨S1x2048x8x128, .f32⟩
  | .hbm, ⟨73, _⟩ => ⟨S1x2048x8x128, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== FscalKernel.lean ====
abbrev S2048x8 : Shape := ⟨2, ![2048, 8]⟩
abbrev S1x8 : Shape := ⟨2, ![1, 8]⟩
abbrev S2048x16 : Shape := ⟨2, ![2048, 16]⟩
abbrev S_ : Shape := ⟨0, ![]⟩
abbrev S2048x8448 : Shape := ⟨2, ![2048, 8448]⟩
abbrev S1x128 : Shape := ⟨2, ![1, 128]⟩
abbrev S2048x128 : Shape := ⟨2, ![2048, 128]⟩
abbrev S32x8x64 : Shape := ⟨3, ![32, 8, 64]⟩
abbrev S8x128 : Shape := ⟨2, ![8, 128]⟩
abbrev S64x128 : Shape := ⟨2, ![64, 128]⟩
abbrev S8x64 : Shape := ⟨2, ![8, 64]⟩
abbrev S1x8x64 : Shape := ⟨3, ![1, 8, 64]⟩

abbrev nBuf : Space → Nat
  | .hbm => 16
  | .vmem => 5
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x8448, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S2048x128, .f32⟩
  | .hbm, ⟨15, _⟩ => ⟨S32x8x64, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S32x8x64, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c64_i32 : BitVec 32 := 64#32
  let c0_i32_0 : BitVec 32 := 0#32
  ![c0_i32.toNat, c64_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FscalReferenceIdeal.lean ====
abbrev S2048x8 : Shape := ⟨2, ![2048, 8]⟩
abbrev S1x8 : Shape := ⟨2, ![1, 8]⟩
abbrev S8 : Shape := ⟨1, ![8]⟩
abbrev S_ : Shape := ⟨0, ![]⟩
abbrev S1x32x64x8 : Shape := ⟨4, ![1, 32, 64, 8]⟩
abbrev S1x8x32x64 : Shape := ⟨4, ![1, 8, 32, 64]⟩
abbrev S8x32x64 : Shape := ⟨3, ![8, 32, 64]⟩
abbrev S32x64x8 : Shape := ⟨3, ![32, 64, 8]⟩
abbrev S2048x112 : Shape := ⟨2, ![2048, 112]⟩
abbrev S2048x128 : Shape := ⟨2, ![2048, 128]⟩
abbrev S32x8x64 : Shape := ⟨3, ![32, 8, 64]⟩

abbrev nBuf : Space → Nat
  | .hbm => 49
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2048x8, .f32⟩
  | .hbm, ⟨2, _⟩ => ⟨S1x8, .f32⟩
  | .hbm, ⟨3, _⟩ => ⟨S1x8, .f32⟩
  | .hbm, ⟨4, _⟩ => ⟨S8, .f32⟩
  | .hbm, ⟨5, _⟩ => ⟨S8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S_, .f32⟩
  | .hbm, ⟨12, _⟩ => ⟨S2048x8, .f32⟩
  | .hbm, ⟨13, _⟩ => ⟨S2048x8, .f32⟩
  | .hbm, ⟨14, _⟩ => ⟨S8, .f32⟩
  | .hbm, ⟨15, _⟩ => ⟨S8, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S_, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .i1⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S1x8, .f32⟩
  | .hbm, ⟨34, _⟩ => ⟨S2048x8, .f32⟩
  | .hbm, ⟨35, _⟩ => ⟨S2048x8, .f32⟩
  | .hbm, ⟨36, _⟩ => ⟨S1x32x64x8, .f32⟩
  | .hbm, ⟨37, _⟩ => ⟨S1x8x32x64, .f32⟩
  | .hbm, ⟨38, _⟩ => ⟨S_, .f32⟩
  | .hbm, ⟨39, _⟩ => ⟨S_, .f32⟩
  | .hbm, ⟨40, _⟩ => ⟨S1x8x32x64, .f32⟩
  | .hbm, ⟨41, _⟩ => ⟨S8x32x64, .f32⟩
  | .hbm, ⟨42, _⟩ => ⟨S32x64x8, .f32⟩
  | .hbm, ⟨43, _⟩ => ⟨S2048x8, .f32⟩
  | .hbm, ⟨44, _⟩ => ⟨S_, .f32⟩
  | .hbm, ⟨45, _⟩ => ⟨S2048x112, .f32⟩
  | .hbm, ⟨46, _⟩ => ⟨S2048x128, .f32⟩
  | .hbm, ⟨47, _⟩ => ⟨S8x32x64, .f32⟩
  | .hbm, ⟨48, _⟩ => ⟨S32x8x64, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_call0_cst : Ref sig .tc := ⟨.hbm, 38, rfl⟩
abbrev main_call1_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== FprojKernel.lean ====
abbrev S2048x1024 : Shape := ⟨2, ![2048, 1024]⟩
abbrev S1x1024 : Shape := ⟨2, ![1, 1024]⟩
abbrev S1024x8208 : Shape := ⟨2, ![1024, 8208]⟩
abbrev S8208x1024 : Shape := ⟨2, ![8208, 1024]⟩
abbrev S1024x1024 : Shape := ⟨2, ![1024, 1024]⟩
abbrev S4x256x1024 : Shape := ⟨3, ![4, 256, 1024]⟩
abbrev S4x1x256x1024 : Shape := ⟨4, ![4, 1, 256, 1024]⟩
abbrev S4x4x256x1024 : Shape := ⟨4, ![4, 4, 256, 1024]⟩
abbrev S4096x1024 : Shape := ⟨2, ![4096, 1024]⟩
abbrev S16x1024 : Shape := ⟨2, ![16, 1024]⟩
abbrev S_ : Shape := ⟨0, ![]⟩
abbrev S240x1024 : Shape := ⟨2, ![240, 1024]⟩
abbrev S8448x1024 : Shape := ⟨2, ![8448, 1024]⟩
abbrev S8x128 : Shape := ⟨2, ![8, 128]⟩
abbrev S2048x8448 : Shape := ⟨2, ![2048, 8448]⟩
abbrev S768x1024 : Shape := ⟨2, ![768, 1024]⟩
abbrev S2048x768 : Shape := ⟨2, ![2048, 768]⟩
abbrev S256x1024 : Shape := ⟨2, ![256, 1024]⟩
abbrev S256 : Shape := ⟨1, ![256]⟩
abbrev S256x1 : Shape := ⟨2, ![256, 1]⟩
abbrev S256x768 : Shape := ⟨2, ![256, 768]⟩
abbrev S512x1024 : Shape := ⟨2, ![512, 1024]⟩
abbrev S512x768 : Shape := ⟨2, ![512, 768]⟩

abbrev nBuf : Space → Nat
  | .hbm => 28
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x8208, .f32⟩
  | .hbm, ⟨3, _⟩ => ⟨S8208x1024, .f32⟩
  | .hbm, ⟨4, _⟩ => ⟨S1024x1024, .f32⟩
  | .hbm, ⟨5, _⟩ => ⟨S4x256x1024, .f32⟩
  | .hbm, ⟨6, _⟩ => ⟨S1024x1024, .f32⟩
  | .hbm, ⟨7, _⟩ => ⟨S4x256x1024, .f32⟩
  | .hbm, ⟨8, _⟩ => ⟨S1024x1024, .f32⟩
  | .hbm, ⟨9, _⟩ => ⟨S4x256x1024, .f32⟩
  | .hbm, ⟨10, _⟩ => ⟨S1024x1024, .f32⟩
  | .hbm, ⟨11, _⟩ => ⟨S4x256x1024, .f32⟩
  | .hbm, ⟨12, _⟩ => ⟨S4x1x256x1024, .f32⟩
  | .hbm, ⟨13, _⟩ => ⟨S4x1x256x1024, .f32⟩
  | .hbm, ⟨14, _⟩ => ⟨S4x1x256x1024, .f32⟩
  | .hbm, ⟨15, _⟩ => ⟨S4x1x256x1024, .f32⟩
  | .hbm, ⟨16, _⟩ => ⟨S4x4x256x1024, .f32⟩
  | .hbm, ⟨17, _⟩ => ⟨S4096x1024, .f32⟩
  | .hbm, ⟨18, _⟩ => ⟨S4096x1024, .f32⟩
  | .hbm, ⟨19, _⟩ => ⟨S16x1024, .f32⟩
  | .hbm, ⟨20, _⟩ => ⟨S_, .f32⟩
  | .hbm, ⟨21, _⟩ => ⟨S240x1024, .f32⟩
  | .hbm, ⟨22, _⟩ => ⟨S8448x1024, .f32⟩
  | .hbm, ⟨23, _⟩ => ⟨S8448x1024, .bf16⟩
  | .hbm, ⟨24, _⟩ => ⟨S_, .f32⟩
  | .hbm, ⟨25, _⟩ => ⟨S8x128, .f32⟩
  | .hbm, ⟨26, _⟩ => ⟨S2048x8448, .f32⟩
  | .hbm, ⟨27, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S768x1024, .bf16⟩
  | .local _ .vmem, ⟨3, _⟩ => ⟨S768x1024, .bf16⟩
  | .local _ .vmem, ⟨4, _⟩ => ⟨S2048x768, .f32⟩
  | .local _ .vmem, ⟨5, _⟩ => ⟨S2048x768, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FprojReferenceIdeal.lean ====
abbrev S2048x1024 : Shape := ⟨2, ![2048, 1024]⟩
abbrev S1x1024 : Shape := ⟨2, ![1, 1024]⟩
abbrev S1024x8208 : Shape := ⟨2, ![1024, 8208]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x8208 : Shape := ⟨2, ![2048, 8208]⟩
abbrev S2048x4x256 : Shape := ⟨3, ![2048, 4, 256]⟩
abbrev S2048x4x1x256 : Shape := ⟨4, ![2048, 4, 1, 256]⟩
abbrev S2048x4x4x256 : Shape := ⟨4, ![2048, 4, 4, 256]⟩
abbrev S2048x4096 : Shape := ⟨2, ![2048, 4096]⟩
abbrev S2048x16 : Shape := ⟨2, ![2048, 16]⟩
abbrev S2048x240 : Shape := ⟨2, ![2048, 240]⟩
abbrev S2048x8448 : Shape := ⟨2, ![2048, 8448]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x8208, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x8208, .f32⟩
  | .hbm, ⟨21, _⟩ => ⟨S2048x1024, .f32⟩
  | .hbm, ⟨22, _⟩ => ⟨S2048x4x256, .f32⟩
  | .hbm, ⟨23, _⟩ => ⟨S2048x1024, .f32⟩
  | .hbm, ⟨24, _⟩ => ⟨S2048x4x256, .f32⟩
  | .hbm, ⟨25, _⟩ => ⟨S2048x1024, .f32⟩
  | .hbm, ⟨26, _⟩ => ⟨S2048x4x256, .f32⟩
  | .hbm, ⟨27, _⟩ => ⟨S2048x1024, .f32⟩
  | .hbm, ⟨28, _⟩ => ⟨S2048x4x256, .f32⟩
  | .hbm, ⟨29, _⟩ => ⟨S2048x4x1x256, .f32⟩
  | .hbm, ⟨30, _⟩ => ⟨S2048x4x1x256, .f32⟩
  | .hbm, ⟨31, _⟩ => ⟨S2048x4x1x256, .f32⟩
  | .hbm, ⟨32, _⟩ => ⟨S2048x4x1x256, .f32⟩
  | .hbm, ⟨33, _⟩ => ⟨S2048x4x4x256, .f32⟩
  | .hbm, ⟨34, _⟩ => ⟨S2048x4096, .f32⟩
  | .hbm, ⟨35, _⟩ => ⟨S2048x4096, .f32⟩
  | .hbm, ⟨36, _⟩ => ⟨S2048x16, .f32⟩
  | .hbm, ⟨37, _⟩ => ⟨S_, .f32⟩
  | .hbm, ⟨38, _⟩ => ⟨S2048x240, .f32⟩
  | .hbm, ⟨39, _⟩ => ⟨S2048x8448, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== GdnKernel.lean ====
abbrev S2048x3072 : Shape := ⟨2, ![2048, 3072]⟩
abbrev S2048x128 : Shape := ⟨2, ![2048, 128]⟩
abbrev S32x8x64 : Shape := ⟨3, ![32, 8, 64]⟩
abbrev S2048x1024 : Shape := ⟨2, ![2048, 1024]⟩
abbrev S32x8x64x64 : Shape := ⟨4, ![32, 8, 64, 64]⟩
abbrev S32x1024x128 : Shape := ⟨3, ![32, 1024, 128]⟩
abbrev S64x3072 : Shape := ⟨2, ![64, 3072]⟩
abbrev S64x128 : Shape := ⟨2, ![64, 128]⟩
abbrev S1x8x64 : Shape := ⟨3, ![1, 8, 64]⟩
abbrev S64x1024 : Shape := ⟨2, ![64, 1024]⟩
abbrev S1x8x64x64 : Shape := ⟨4, ![1, 8, 64, 64]⟩
abbrev S1x1024x128 : Shape := ⟨3, ![1, 1024, 128]⟩
abbrev S8x128x128 : Shape := ⟨3, ![8, 128, 128]⟩
abbrev S64 : Shape := ⟨1, ![64]⟩
abbrev S64x1 : Shape := ⟨2, ![64, 1]⟩
abbrev S1x1x64 : Shape := ⟨3, ![1, 1, 64]⟩
abbrev S1x64 : Shape := ⟨2, ![1, 64]⟩
abbrev S1 : Shape := ⟨1, ![1]⟩
abbrev S1x1 : Shape := ⟨2, ![1, 1]⟩
abbrev S64x64 : Shape := ⟨2, ![64, 64]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S64x256 : Shape := ⟨2, ![64, 256]⟩
abbrev S1x1x64x64 : Shape := ⟨4, ![1, 1, 64, 64]⟩
abbrev S128x64 : Shape := ⟨2, ![128, 64]⟩

abbrev nBuf : Space → Nat
  | .hbm => 12
  | .vmem => 25
  | .smem => 0
  | _ => 0

abbrev bufTy : (tb : Table) → Fin (tcTables nBuf tb) → BufTy
  | .hbm, ⟨0, _⟩ => ⟨S2048x3072, .f32⟩
  | .hbm, ⟨1, _⟩ => ⟨S2048x128, .f32⟩
  | .hbm, ⟨2, _⟩ => ⟨S32x8x64, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S32x8x64x64, .bf16⟩
  | .hbm, ⟨7, _⟩ => ⟨S32x1024x128, .f32⟩
  | .hbm, ⟨8, _⟩ => ⟨S2048x1024, .bf16⟩
  | .hbm, ⟨9, _⟩ => ⟨S2048x3072, .f32⟩
  | .hbm, ⟨10, _⟩ => ⟨S2048x128, .f32⟩
  | .hbm, ⟨11, _⟩ => ⟨S32x8x64, .f32⟩
  | .local _ .vmem, ⟨0, _⟩ => ⟨S64x3072, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S1x8x64, .f32⟩
  | .local _ .vmem, ⟨5, _⟩ => ⟨S1x8x64, .f32⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | .local _ .vmem, ⟨11, _⟩ => ⟨S64x1024, .bf16⟩
  | .local _ .vmem, ⟨12, _⟩ => ⟨S1x8x64x64, .bf16⟩
  | .local _ .vmem, ⟨13, _⟩ => ⟨S1x8x64x64, .bf16⟩
  | .local _ .vmem, ⟨14, _⟩ => ⟨S1x1024x128, .f32⟩
  | .local _ .vmem, ⟨15, _⟩ => ⟨S1x1024x128, .f32⟩
  | .local _ .vmem, ⟨16, _⟩ => ⟨S64x1024, .bf16⟩
  | .local _ .vmem, ⟨17, _⟩ => ⟨S64x1024, .bf16⟩
  | .local _ .vmem, ⟨18, _⟩ => ⟨S64x3072, .f32⟩
  | .local _ .vmem, ⟨19, _⟩ => ⟨S64x3072, .f32⟩
  | .local _ .vmem, ⟨20, _⟩ => ⟨S64x128, .f32⟩
  | .local _ .vmem, ⟨21, _⟩ => ⟨S64x128, .f32⟩
  | .local _ .vmem, ⟨22, _⟩ => ⟨S1x8x64, .f32⟩
  | .local _ .vmem, ⟨23, _⟩ => ⟨S1x8x64, .f32⟩
  | .local _ .vmem, ⟨24, _⟩ => ⟨S8x128x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TnKernel.lean ====
abbrev S2048x1024 : Shape := ⟨2, ![2048, 1024]⟩
abbrev S2048x8208 : Shape := ⟨2, ![2048, 8208]⟩
abbrev S8208x2048 : Shape := ⟨2, ![8208, 2048]⟩
abbrev S1024x2048 : Shape := ⟨2, ![1024, 2048]⟩
abbrev S4x256x2048 : Shape := ⟨3, ![4, 256, 2048]⟩
abbrev S4x1x256x2048 : Shape := ⟨4, ![4, 1, 256, 2048]⟩
abbrev S4x4x256x2048 : Shape := ⟨4, ![4, 4, 256, 2048]⟩
abbrev S4096x2048 : Shape := ⟨2, ![4096, 2048]⟩
abbrev S16x2048 : Shape := ⟨2, ![16, 2048]⟩
abbrev S_ : Shape := ⟨0, ![]⟩
abbrev S240x2048 : Shape := ⟨2, ![240, 2048]⟩
abbrev S8448x2048 : Shape := ⟨2, ![8448, 2048]⟩
abbrev S2048x8448 : Shape := ⟨2, ![2048, 8448]⟩
abbrev S8448x1024 : Shape := ⟨2, ![8448, 1024]⟩
abbrev S2048x768 : Shape := ⟨2, ![2048, 768]⟩
abbrev S768x1024 : Shape := ⟨2, ![768, 1024]⟩

abbrev nBuf : Space → Nat
  | .hbm => 26
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x8208, .f32⟩
  | .hbm, ⟨2, _⟩ => ⟨S8208x2048, .f32⟩
  | .hbm, ⟨3, _⟩ => ⟨S1024x2048, .f32⟩
  | .hbm, ⟨4, _⟩ => ⟨S4x256x2048, .f32⟩
  | .hbm, ⟨5, _⟩ => ⟨S1024x2048, .f32⟩
  | .hbm, ⟨6, _⟩ => ⟨S4x256x2048, .f32⟩
  | .hbm, ⟨7, _⟩ => ⟨S1024x2048, .f32⟩
  | .hbm, ⟨8, _⟩ => ⟨S4x256x2048, .f32⟩
  | .hbm, ⟨9, _⟩ => ⟨S1024x2048, .f32⟩
  | .hbm, ⟨10, _⟩ => ⟨S4x256x2048, .f32⟩
  | .hbm, ⟨11, _⟩ => ⟨S4x1x256x2048, .f32⟩
  | .hbm, ⟨12, _⟩ => ⟨S4x1x256x2048, .f32⟩
  | .hbm, ⟨13, _⟩ => ⟨S4x1x256x2048, .f32⟩
  | .hbm, ⟨14, _⟩ => ⟨S4x1x256x2048, .f32⟩
  | .hbm, ⟨15, _⟩ => ⟨S4x4x256x2048, .f32⟩
  | .hbm, ⟨16, _⟩ => ⟨S4096x2048, .f32⟩
  | .hbm, ⟨17, _⟩ => ⟨S4096x2048, .f32⟩
  | .hbm, ⟨18, _⟩ => ⟨S16x2048, .f32⟩
  | .hbm, ⟨19, _⟩ => ⟨S_, .f32⟩
  | .hbm, ⟨20, _⟩ => ⟨S240x2048, .f32⟩
  | .hbm, ⟨21, _⟩ => ⟨S8448x2048, .f32⟩
  | .hbm, ⟨22, _⟩ => ⟨S2048x8448, .f32⟩
  | .hbm, ⟨23, _⟩ => ⟨S2048x8448, .bf16⟩
  | .hbm, ⟨24, _⟩ => ⟨S2048x1024, .bf16⟩
  | .hbm, ⟨25, _⟩ => ⟨S8448x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TnReferenceIdeal.lean ====
abbrev S2048x1024 : Shape := ⟨2, ![2048, 1024]⟩
abbrev S2048x8208 : Shape := ⟨2, ![2048, 8208]⟩
abbrev S1024x2048 : Shape := ⟨2, ![1024, 2048]⟩
abbrev S1024x8208 : Shape := ⟨2, ![1024, 8208]⟩
abbrev S1024x1024 : Shape := ⟨2, ![1024, 1024]⟩
abbrev S1024x4x256 : Shape := ⟨3, ![1024, 4, 256]⟩
abbrev S1024x4x1x256 : Shape := ⟨4, ![1024, 4, 1, 256]⟩
abbrev S1024x4x4x256 : Shape := ⟨4, ![1024, 4, 4, 256]⟩
abbrev S1024x4096 : Shape := ⟨2, ![1024, 4096]⟩
abbrev S1024x16 : Shape := ⟨2, ![1024, 16]⟩
abbrev S_ : Shape := ⟨0, ![]⟩
abbrev S1024x240 : Shape := ⟨2, ![1024, 240]⟩
abbrev S1024x8448 : Shape := ⟨2, ![1024, 8448]⟩
abbrev S8448x1024 : Shape := ⟨2, ![8448, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x8208, .f32⟩
  | .hbm, ⟨2, _⟩ => ⟨S1024x2048, .f32⟩
  | .hbm, ⟨3, _⟩ => ⟨S1024x8208, .f32⟩
  | .hbm, ⟨4, _⟩ => ⟨S1024x1024, .f32⟩
  | .hbm, ⟨5, _⟩ => ⟨S1024x4x256, .f32⟩
  | .hbm, ⟨6, _⟩ => ⟨S1024x1024, .f32⟩
  | .hbm, ⟨7, _⟩ => ⟨S1024x4x256, .f32⟩
  | .hbm, ⟨8, _⟩ => ⟨S1024x1024, .f32⟩
  | .hbm, ⟨9, _⟩ => ⟨S1024x4x256, .f32⟩
  | .hbm, ⟨10, _⟩ => ⟨S1024x1024, .f32⟩
  | .hbm, ⟨11, _⟩ => ⟨S1024x4x256, .f32⟩
  | .hbm, ⟨12, _⟩ => ⟨S1024x4x1x256, .f32⟩
  | .hbm, ⟨13, _⟩ => ⟨S1024x4x1x256, .f32⟩
  | .hbm, ⟨14, _⟩ => ⟨S1024x4x1x256, .f32⟩
  | .hbm, ⟨15, _⟩ => ⟨S1024x4x1x256, .f32⟩
  | .hbm, ⟨16, _⟩ => ⟨S1024x4x4x256, .f32⟩
  | .hbm, ⟨17, _⟩ => ⟨S1024x4096, .f32⟩
  | .hbm, ⟨18, _⟩ => ⟨S1024x4096, .f32⟩
  | .hbm, ⟨19, _⟩ => ⟨S1024x16, .f32⟩
  | .hbm, ⟨20, _⟩ => ⟨S_, .f32⟩
  | .hbm, ⟨21, _⟩ => ⟨S1024x240, .f32⟩
  | .hbm, ⟨22, _⟩ => ⟨S1024x8448, .f32⟩
  | .hbm, ⟨23, _⟩ => ⟨S8448x1024, .f32⟩
  | .hbm, ⟨24, _⟩ => ⟨S8448x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== AdamKernel.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PackKernel.lean ====
abbrev S1x1024 : Shape := ⟨2, ![1, 1024]⟩
abbrev S1x128 : Shape := ⟨2, ![1, 128]⟩
abbrev S8x128 : Shape := ⟨2, ![8, 128]⟩
abbrev S_ : Shape := ⟨0, ![]⟩
abbrev S1x3584 : Shape := ⟨2, ![1, 3584]⟩

abbrev nBuf : Space → Nat
  | .hbm => 9
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S8x128, .f32⟩
  | .hbm, ⟨5, _⟩ => ⟨S1x128, .f32⟩
  | .hbm, ⟨6, _⟩ => ⟨S_, .f32⟩
  | .hbm, ⟨7, _⟩ => ⟨S8x128, .f32⟩
  | .hbm, ⟨8, _⟩ => ⟨S1x3584, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x128, .f32⟩
  | .local _ .vmem, ⟨4, _⟩ => ⟨S8x128, .f32⟩
  | .local _ .vmem, ⟨5, _⟩ => ⟨S1x128, .f32⟩
  | .local _ .vmem, ⟨6, _⟩ => ⟨S1x3584, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PackReferenceIdeal.lean ====
abbrev S1x1024 : Shape := ⟨2, ![1, 1024]⟩
abbrev S1x128 : Shape := ⟨2, ![1, 128]⟩
abbrev S8x128 : Shape := ⟨2, ![8, 128]⟩
abbrev S1x3584 : Shape := ⟨2, ![1, 3584]⟩

abbrev nBuf : Space → Nat
  | .hbm => 9
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S8x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x3584, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== BlocksKernel.lean ====
abbrev S1024x8208 : Shape := ⟨2, ![1024, 8208]⟩
abbrev S8208x1024 : Shape := ⟨2, ![8208, 1024]⟩
abbrev S1024x1024 : Shape := ⟨2, ![1024, 1024]⟩
abbrev S4x256x1024 : Shape := ⟨3, ![4, 256, 1024]⟩
abbrev S4x1x256x1024 : Shape := ⟨4, ![4, 1, 256, 1024]⟩
abbrev S4x4x256x1024 : Shape := ⟨4, ![4, 4, 256, 1024]⟩
abbrev S4096x1024 : Shape := ⟨2, ![4096, 1024]⟩
abbrev S16x1024 : Shape := ⟨2, ![16, 1024]⟩
abbrev S_ : Shape := ⟨0, ![]⟩
abbrev S240x1024 : Shape := ⟨2, ![240, 1024]⟩
abbrev S8448x1024 : Shape := ⟨2, ![8448, 1024]⟩
abbrev S8x1026x1024 : Shape := ⟨3, ![8, 1026, 1024]⟩
abbrev S8448x256 : Shape := ⟨2, ![8448, 256]⟩
abbrev S8x1026x256 : Shape := ⟨3, ![8, 1026, 256]⟩
abbrev S1026x256 : Shape := ⟨2, ![1026, 256]⟩
abbrev S1x1026x256 : Shape := ⟨3, ![1, 1026, 256]⟩
abbrev S1018x256 : Shape := ⟨2, ![1018, 256]⟩
abbrev S1x1018x256 : Shape := ⟨3, ![1, 1018, 256]⟩
abbrev S8x256 : Shape := ⟨2, ![8, 256]⟩
abbrev S1x8x256 : Shape := ⟨3, ![1, 8, 256]⟩
abbrev S256x256 : Shape := ⟨2, ![256, 256]⟩
abbrev S1x256x256 : Shape := ⟨3, ![1, 256, 256]⟩
abbrev S250x256 : Shape := ⟨2, ![250, 256]⟩
abbrev S1x250x256 : Shape := ⟨3, ![1, 250, 256]⟩
abbrev S6x256 : Shape := ⟨2, ![6, 256]⟩
abbrev S1x6x256 : Shape := ⟨3, ![1, 6, 256]⟩
abbrev S252x256 : Shape := ⟨2, ![252, 256]⟩
abbrev S1x252x256 : Shape := ⟨3, ![1, 252, 256]⟩
abbrev S4x256 : Shape := ⟨2, ![4, 256]⟩
abbrev S1x4x256 : Shape := ⟨3, ![1, 4, 256]⟩
abbrev S254x256 : Shape := ⟨2, ![254, 256]⟩
abbrev S1x254x256 : Shape := ⟨3, ![1, 254, 256]⟩
abbrev S2x256 : Shape := ⟨2, ![2, 256]⟩
abbrev S1x2x256 : Shape := ⟨3, ![1, 2, 256]⟩

abbrev nBuf : Space → Nat
  | .hbm => 23
  | .vmem => 4
  | .smem => 0
  | _ => 0

abbrev bufTy : (tb : Table) → Fin (tcTables nBuf tb) → BufTy
  | .hbm, ⟨0, _⟩ => ⟨S1024x8208, .f32⟩
  | .hbm, ⟨1, _⟩ => ⟨S8208x1024, .f32⟩
  | .hbm, ⟨2, _⟩ => ⟨S1024x1024, .f32⟩
  | .hbm, ⟨3, _⟩ => ⟨S4x256x1024, .f32⟩
  | .hbm, ⟨4, _⟩ => ⟨S1024x1024, .f32⟩
  | .hbm, ⟨5, _⟩ => ⟨S4x256x1024, .f32⟩
  | .hbm, ⟨6, _⟩ => ⟨S1024x1024, .f32⟩
  | .hbm, ⟨7, _⟩ => ⟨S4x256x1024, .f32⟩
  | .hbm, ⟨8, _⟩ => ⟨S1024x1024, .f32⟩
  | .hbm, ⟨9, _⟩ => ⟨S4x256x1024, .f32⟩
  | .hbm, ⟨10, _⟩ => ⟨S4x1x256x1024, .f32⟩
  | .hbm, ⟨11, _⟩ => ⟨S4x1x256x1024, .f32⟩
  | .hbm, ⟨12, _⟩ => ⟨S4x1x256x1024, .f32⟩
  | .hbm, ⟨13, _⟩ => ⟨S4x1x256x1024, .f32⟩
  | .hbm, ⟨14, _⟩ => ⟨S4x4x256x1024, .f32⟩
  | .hbm, ⟨15, _⟩ => ⟨S4096x1024, .f32⟩
  | .hbm, ⟨16, _⟩ => ⟨S4096x1024, .f32⟩
  | .hbm, ⟨17, _⟩ => ⟨S16x1024, .f32⟩
  | .hbm, ⟨18, _⟩ => ⟨S_, .f32⟩
  | .hbm, ⟨19, _⟩ => ⟨S240x1024, .f32⟩
  | .hbm, ⟨20, _⟩ => ⟨S8448x1024, .f32⟩
  | .hbm, ⟨21, _⟩ => ⟨S8448x1024, .bf16⟩
  | .hbm, ⟨22, _⟩ => ⟨S8x1026x1024, .bf16⟩
  | .local _ .vmem, ⟨0, _⟩ => ⟨S8448x256, .bf16⟩
  | .local _ .vmem, ⟨1, _⟩ => ⟨S8448x256, .bf16⟩
  | .local _ .vmem, ⟨2, _⟩ => ⟨S8x1026x256, .bf16⟩
  | .local _ .vmem, ⟨3, _⟩ => ⟨S8x1026x256, .bf16⟩
  | _, _ => ⟨S1024x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1026x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BlocksReferenceIdeal.lean ====
abbrev S1024x8208 : Shape := ⟨2, ![1024, 8208]⟩
abbrev S8208x1024 : Shape := ⟨2, ![8208, 1024]⟩
abbrev S8x1026x1024 : Shape := ⟨3, ![8, 1026, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8208, .f32⟩
  | .hbm, ⟨1, _⟩ => ⟨S8208x1024, .f32⟩
  | .hbm, ⟨2, _⟩ => ⟨S8x1026x1024, .f32⟩
  | .hbm, ⟨3, _⟩ => ⟨S8x1026x1024, .bf16⟩
  | _, _ => ⟨S1024x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== SumKernel.lean ====
abbrev S8x1026x1024 : Shape := ⟨3, ![8, 1026, 1024]⟩
abbrev S4x1026x1024 : Shape := ⟨3, ![4, 1026, 1024]⟩
abbrev S_ : Shape := ⟨0, ![]⟩
abbrev S1 : Shape := ⟨1, ![1]⟩
abbrev S1x1026x1024 : Shape := ⟨3, ![1, 1026, 1024]⟩

abbrev nBuf : Space → Nat
  | .hbm => 6
  | .vmem => 6
  | .smem => 1
  | _ => 0

abbrev bufTy : (tb : Table) → Fin (tcTables nBuf tb) → BufTy
  | .hbm, ⟨0, _⟩ => ⟨S8x1026x1024, .f32⟩
  | .hbm, ⟨1, _⟩ => ⟨S4x1026x1024, .f32⟩
  | .hbm, ⟨2, _⟩ => ⟨S8x1026x1024, .bf16⟩
  | .hbm, ⟨3, _⟩ => ⟨S4x1026x1024, .bf16⟩
  | .hbm, ⟨4, _⟩ => ⟨S_, .i32⟩
  | .hbm, ⟨5, _⟩ => ⟨S4x1026x1024, .bf16⟩
  | .local _ .vmem, ⟨0, _⟩ => ⟨S1x1026x1024, .bf16⟩
  | .local _ .vmem, ⟨1, _⟩ => ⟨S1x1026x1024, .bf16⟩
  | .local _ .vmem, ⟨2, _⟩ => ⟨S1x1026x1024, .bf16⟩
  | .local _ .vmem, ⟨3, _⟩ => ⟨S1x1026x1024, .bf16⟩
  | .local _ .vmem, ⟨4, _⟩ => ⟨S1x1026x1024, .bf16⟩
  | .local _ .vmem, ⟨5, _⟩ => ⟨S1x1026x1024, .bf16⟩
  | .local _ .smem, ⟨0, _⟩ => ⟨S1, .i32⟩
  | _, _ => ⟨S8x1026x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v3 : Ref sig .tc := ⟨.hbm, 5, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1026x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1026x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1026x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumReferenceIdeal.lean ====
abbrev S8x1026x1024 : Shape := ⟨3, ![8, 1026, 1024]⟩
abbrev S4x1026x1024 : Shape := ⟨3, ![4, 1026, 1024]⟩
abbrev S4x2x1026x1024 : Shape := ⟨4, ![4, 2, 1026, 1024]⟩
abbrev S4x1x1026x1024 : Shape := ⟨4, ![4, 1, 1026, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1026x1024, .f32⟩
  | .hbm, ⟨1, _⟩ => ⟨S4x1026x1024, .f32⟩
  | .hbm, ⟨2, _⟩ => ⟨S4x2x1026x1024, .f32⟩
  | .hbm, ⟨3, _⟩ => ⟨S4x1x1026x1024, .f32⟩
  | .hbm, ⟨4, _⟩ => ⟨S4x1026x1024, .f32⟩
  | .hbm, ⟨5, _⟩ => ⟨S4x1026x1024, .f32⟩
  | .hbm, ⟨6, _⟩ => ⟨S4x1026x1024, .bf16⟩
  | _, _ => ⟨S8x1026x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.GateForms.lean ====
module

public import Idealize.ShloMosaic.Lib.Pointwise

/-!
The gated headwise norm's gradients, in the form the kernel computes them, at one row and one head.
The arguments are the head's 128 lanes of the array `o` (`x`), of the gate `z`, of the cotangent `d` and
of the norm's weights `w`.
-/

@[expose] public section

noncomputable section

open Idealize.ShloMosaic

namespace Gate

/-- The reciprocal root mean square of the lanes `x`. -/
def rms (x : Fin 128 → EReal) : EReal :=
  Ideal.rsqrt (Ideal.div (∑ k, x k * x k) (Ideal.ofBits .f32 0x43000000#32) + Ideal.ofBits .f32 0x358637BD#32)

/-- The cotangent of the normed and weighted value: the output's cotangent times `silu z`. -/
def dm (z d : EReal) : EReal := d * (z * Ideal.logistic z)

/-- The gradient with respect to `o` at lane `j`. -/
def gradO (x z d w : Fin 128 → EReal) (j : Fin 128) : EReal :=
  rms x * (dm (z j) (d j) * w j
    - x j * rms x * Ideal.div (∑ k, dm (z k) (d k) * w k * (x k * rms x)) (Ideal.ofBits .f32 0x43000000#32))

/-- The gradient with respect to the gate at lane `j`. -/
def gradZ (x z d w : Fin 128 → EReal) (j : Fin 128) : EReal :=
  d j * (x j * rms x * w j) * (Ideal.logistic (z j) * (1 + z j * (1 - Ideal.logistic (z j))))

/-- One row's and one head's part of the gradient with respect to the norm's weights at lane `j`. -/
def partW (x z d : Fin 128 → EReal) (j : Fin 128) : EReal := dm (z j) (d j) * (x j * rms x)

end Gate

end
-- ==== Proof.GateKernel.lean ====
module

public import proofs.«01_k».proof.Proof.Gen.KernelIdeal.Frame
public import proofs.«01_k».proof.Proof.GateForms
public import Idealize.ShloMosaic.Lib.Pipeline.ValueKit

/-!
What the gate kernel leaves in its three result arrays, as functions of its argument arrays.
-/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Gate

open Cert.KernelIdeal Cert.KernelIdeal.Gen

variable (m : (ℓ : Loc nD τ sig) → Buf (Elt Ideal) ℓ)

/-- Where each window's block stands at a point of the grid. -/
theorem idx : ∀ t : Fin cfg0.N, win0_0.index t = ![0, t.val]
    ∧ win0_1.index t = ![0, 12 + t.val]
    ∧ win0_2.index t = ![0, 0]
    ∧ win0_3.index t = ![0, t.val]
    ∧ win0_4.index t = ![0, t.val]
    ∧ win0_5.index t = ![0, 12 + t.val]
    ∧ win0_6.index t = ![0, 0] :=
  (by decide +kernel : ∀ t : Fin grid0.N, _)

/-- The lanes of head `h`, row `r` of an array of 1024 columns. -/
def lanes (X : FVec Ideal S2048x1024 .f32) (r : Fin 2048) (h : Fin 8) (k : Fin 128) : EReal :=
  X (ix2 r ⟨h.val * 128 + k.val, by omega⟩)

/-- The lanes of head `h`, row `r` of the cotangent (its first 1024 columns of 2048). -/
def lanesD (X : FVec Ideal S2048x2048 .f32) (r : Fin 2048) (h : Fin 8) (k : Fin 128) : EReal :=
  X (ix2 r ⟨h.val * 128 + k.val, by omega⟩)

/-- The norm's weights. -/
def weights (X : FVec Ideal S1x128 .f32) (k : Fin 128) : EReal := X (ix2 0 k)

/-- The first result: the gradient with respect to `o`. -/
def resO (o z : FVec Ideal S2048x1024 .f32) (w : FVec Ideal S1x128 .f32) (d : FVec Ideal S2048x2048 .f32) :
    FVec Ideal S2048x1024 .bf16 := fun i =>
  _root_.Gate.gradO (lanes o (i 0) ⟨(i 1).val / 128, by have := (i 1).isLt; simp at this; omega⟩)
    (lanes z (i 0) ⟨(i 1).val / 128, by have := (i 1).isLt; simp at this; omega⟩)
    (lanesD d (i 0) ⟨(i 1).val / 128, by have := (i 1).isLt; simp at this; omega⟩)
    (weights w) ⟨(i 1).val % 128, by omega⟩

/-- The second result's columns 3072 to 4095: the gradient with respect to the gate. -/
def resZ (o z : FVec Ideal S2048x1024 .f32) (w : FVec Ideal S1x128 .f32) (d : FVec Ideal S2048x2048 .f32) :
    FVec Ideal S2048x8448 .bf16 := fun i =>
  _root_.Gate.gradZ (lanes o (i 0) ⟨(i 1).val / 128 % 8, by omega⟩) (lanes z (i 0) ⟨(i 1).val / 128 % 8, by omega⟩)
    (lanesD d (i 0) ⟨(i 1).val / 128 % 8, by omega⟩) (weights w) ⟨(i 1).val % 128, by omega⟩

/-- The projection the kernel reads holds the gate at columns 3072 to 4095. -/
theorem proj_at (c : Dev nD) (i : S2048x8448.Idx) (j : S2048x1024.Idx) (h0 : (i 0 : ℕ) = j 0) (h1 : (i 1 : ℕ) = 3072 + j 1) :
    V m c main_v0 i = m ((c.tc : Thread nD τ).loc main_arg1) j := by
  idx_vars i
  idx_vars j
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  have hj : (j1 : ℕ) < 1024 := j1.isLt
  have hc : 3072 ≤ (i1 : ℕ) ∧ (i1 : ℕ) - 3072 < 1024 := ⟨by rw [h1]; exact Nat.le_add_right _ _, by rw [h1, Nat.add_sub_cancel_left]; exact hj⟩
  rw [dif_pos hc]
  exact congrArg (m (c.tc.loc main_arg1)) ((ix2_inj ..).2 ⟨Fin.ext h0, Fin.ext (by simp [h1])⟩)

/-- The third result: the gradient with respect to the norm's weights, two heads at each of four points. -/
def resW (o z : FVec Ideal S2048x1024 .f32) (d : FVec Ideal S2048x2048 .f32) : FVec Ideal S1x128 .f32 := fun i =>
  ∑ p : Fin 4, ((∑ r : Fin 2048, _root_.Gate.partW (lanes o r ⟨2 * p.val, by omega⟩) (lanes z r ⟨2 * p.val, by omega⟩)
      (lanesD d r ⟨2 * p.val, by omega⟩) (i 1))
    + ∑ r : Fin 2048, _root_.Gate.partW (lanes o r ⟨2 * p.val + 1, by omega⟩) (lanes z r ⟨2 * p.val + 1, by omega⟩)
      (lanesD d r ⟨2 * p.val + 1, by omega⟩) (i 1))

end Cert.KernelIdeal.Gate

end
-- ==== Proof.GateO.lean ====
module

public import proofs.«01_k».proof.Proof.GateKernel
public import Idealize.ShloMosaic.Lib.Pipeline.ValueKit

/-!
The gate kernel's first result: the gradient with respect to `o`.
-/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Gate

open Cert.KernelIdeal Cert.KernelIdeal.Gen

variable (m : (ℓ : Loc nD τ sig) → Buf (Elt Ideal) ℓ)

set_option maxHeartbeats 1600000 in
/-- The first result after the run. -/
theorem final_4 (c : Dev nD) : (dats m 0 c).arrAt 4 (cfgs 0).N
    = resO (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp; rw [after0_4]
  by_cases h : t.val % 4 = 0
  · rw [outsAt0_A m c t h]; dsimp only; frame_out
    clear h
    canon_tiles x h
    all_goals
      open_payloads
      pointwise [k0_pay1, k0_pay3, k0_pay5, k0_pay6, k0_pay7, k0_pay8, k0_pay9, k0_pay14, k0_pay15, k0_pay16, k0_pay17, k0_pay18, k0_pay19, k0_pay20, k0_pay21, resO, lanes, lanesD, weights, _root_.Gate.gradO, _root_.Gate.rms, _root_.Gate.dm]
      blk_point [iblk, V, idx t]
      all_goals exact proj_at m c _ _ (by blk_simp [idx t] <;> (try dsimp only) <;> try omega) (by blk_simp [idx t] <;> (try dsimp only) <;> try omega)
  · rw [outsAt0_B m c t h]; dsimp only; frame_out
    clear h
    canon_tiles x h
    all_goals
      open_payloads
      pointwise [k0_pay1, k0_pay3, k0_pay5, k0_pay6, k0_pay7, k0_pay8, k0_pay9, k0_pay14, k0_pay15, k0_pay16, k0_pay17, k0_pay18, k0_pay19, k0_pay20, k0_pay21, resO, lanes, lanesD, weights, _root_.Gate.gradO, _root_.Gate.rms, _root_.Gate.dm]
      blk_point [iblk, V, idx t]
      all_goals exact proj_at m c _ _ (by blk_simp [idx t] <;> (try dsimp only) <;> try omega) (by blk_simp [idx t] <;> (try dsimp only) <;> try omega)

end Cert.KernelIdeal.Gate

end
-- ==== Proof.GateZ.lean ====
module

public import proofs.«01_k».proof.Proof.GateKernel
public import Idealize.ShloMosaic.Lib.Pipeline.ValueKit

/-!
The gate kernel's second result: the gradient with respect to the gate.
-/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Gate

open Cert.KernelIdeal Cert.KernelIdeal.Gen

variable (m : (ℓ : Loc nD τ sig) → Buf (Elt Ideal) ℓ)

set_option maxHeartbeats 1600000 in
/-- The second result after the run: the gate's gradient in its columns. -/
theorem final_5 (c : Dev nD) (i : S2048x8448.Idx) (hi : 3072 ≤ (i 1 : ℕ) ∧ (i 1 : ℕ) < 4096) :
    (dats m 0 c).arrAt 5 (cfgs 0).N i
      = resZ (m ((c.tc : Thread nD τ).loc main_arg0)) (m ((c.tc : Thread nD τ).loc main_arg1))
          (m ((c.tc : Thread nD τ).loc main_arg2)) (m ((c.tc : Thread nD τ).loc main_arg3)) i := by
  refine (congrFun ((dats m 0 c).arrAt_eq_of_coversWhere 5 (resZ (m ((c.tc : Thread nD τ).loc main_arg0))
      (m ((c.tc : Thread nD τ).loc main_arg1)) (m ((c.tc : Thread nD τ).loc main_arg2)) (m ((c.tc : Thread nD τ).loc main_arg3)))
      (P := fun i => 12 ≤ (i (1 : Fin 2) : ℕ) / 256 ∧ (i (1 : Fin 2) : ℕ) / 256 < 16)
      (fun β => 12 ≤ β (1 : Fin 2) ∧ β (1 : Fin 2) < 16) (by decide +kernel) (fun t hf y => ?_)
      (fun j => Iff.rfl)) i).trans (if_pos (by omega))
  blk_simp; rw [after0_5]
  by_cases h : t.val % 4 = 0
  · rw [outsAt0_A m c t h]; dsimp only; frame_out
    clear h
    canon_tiles x h
    all_goals
      open_payloads
      pointwise [k0_pay1, k0_pay5, k0_pay6, k0_pay7, k0_pay8, k0_pay10, k0_pay15, k0_pay16, k0_pay17, k0_pay18, k0_pay20, k0_pay21, k0_pay22, resZ, lanes, lanesD, weights, _root_.Gate.gradZ, _root_.Gate.rms]
      blk_point [iblk, V, idx t]
      all_goals exact proj_at m c _ _ (by blk_simp [idx t] <;> (try dsimp only) <;> try omega) (by blk_simp [idx t] <;> (try dsimp only) <;> try omega)
  · rw [outsAt0_B m c t h]; dsimp only; frame_out
    clear h
    canon_tiles x h
    all_goals
      open_payloads
      pointwise [k0_pay1, k0_pay5, k0_pay6, k0_pay7, k0_pay8, k0_pay10, k0_pay15, k0_pay16, k0_pay17, k0_pay18, k0_pay20, k0_pay21, k0_pay22, resZ, lanes, lanesD, weights, _root_.Gate.gradZ, _root_.Gate.rms]
      blk_point [iblk, V, idx t]
      all_goals exact proj_at m c _ _ (by blk_simp [idx t] <;> (try dsimp only) <;> try omega) (by blk_simp [idx t] <;> (try dsimp only) <;> try omega)

end Cert.KernelIdeal.Gate

end
-- ==== Proof.GateW.lean ====
module

public import proofs.«01_k».proof.Proof.GateKernel
public import Idealize.ShloMosaic.Lib.Pipeline.ValueKit

/-!
The gate kernel's third result: the gradient with respect to the norm's weights.
-/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Gate

open Cert.KernelIdeal Cert.KernelIdeal.Gen

variable (m : (ℓ : Loc nD τ sig) → Buf (Elt Ideal) ℓ)

set_option maxHeartbeats 1600000 in
/-- The third result after the run. -/
theorem final_6 (c : Dev nD) : (dats m 0 c).arrAt 6 (cfgs 0).N
    = resW (m ((c.tc : Thread nD τ).loc main_arg0)) (m ((c.tc : Thread nD τ).loc main_arg1))
        (m ((c.tc : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0)
    (fun p j => (∑ r : Fin 2048, _root_.Gate.partW (fun k => (show FVec Ideal S2048x256 .f32 from iblk m c 0 p) (ix2 r ⟨k.val, by omega⟩))
        (fun k => (show FVec Ideal S2048x256 .f32 from iblk m c 1 p) (ix2 r ⟨k.val, by omega⟩))
        (fun k => (show FVec Ideal S2048x256 .f32 from iblk m c 3 p) (ix2 r ⟨k.val, by omega⟩)) (j (1 : Fin 2)))
      + ∑ r : Fin 2048, _root_.Gate.partW (fun k => (show FVec Ideal S2048x256 .f32 from iblk m c 0 p) (ix2 r ⟨128 + k.val, by omega⟩))
        (fun k => (show FVec Ideal S2048x256 .f32 from iblk m c 1 p) (ix2 r ⟨128 + k.val, by omega⟩))
        (fun k => (show FVec Ideal S2048x256 .f32 from iblk m c 3 p) (ix2 r ⟨128 + k.val, by omega⟩)) (j (1 : Fin 2)))
    (fun t h j => by
      rw [outsAt0_A m c t h]; frame_out
      pointwise [k0_pay2, k0_pay4, k0_pay5, k0_pay6, k0_pay7, k0_pay8, k0_pay9, k0_pay11, k0_pay12, k0_pay13, k0_pay15, k0_pay16, k0_pay17, k0_pay18, k0_pay19, _root_.Gate.partW, _root_.Gate.rms, _root_.Gate.dm])
    (fun t h j => by
      rw [outsAt0_B m c t h]; frame_out
      pointwise [k0_pay2, k0_pay5, k0_pay6, k0_pay7, k0_pay8, k0_pay9, k0_pay11, k0_pay12, k0_pay13, k0_pay15, k0_pay16, k0_pay17, k0_pay18, k0_pay19, _root_.Gate.partW, _root_.Gate.rms, _root_.Gate.dm]
      exact add_assoc _ _ _)
    t ((flush0_6 t).mp hf) _, zero_add]
  pointwise [resW, lanes, lanesD, _root_.Gate.partW, _root_.Gate.rms, _root_.Gate.dm]
  refine Fin.sum_fin_congr fun s => ?_
  have hs := s.isLt
  blk_point [iblk, V, idx ⟨_, Pipeline.run_point_lt_of_flush t ((flush0_6 t).mp hf) s⟩, idx t]
  all_goals exact proj_at m c _ _ (by blk_simp [idx ⟨_, Pipeline.run_point_lt_of_flush t ((flush0_6 t).mp hf) s⟩, idx t] <;> (try dsimp only) <;> try omega) (by blk_simp [idx ⟨_, Pipeline.run_point_lt_of_flush t ((flush0_6 t).mp hf) s⟩, idx t] <;> (try dsimp only) <;> try omega)

end Cert.KernelIdeal.Gate

end
-- ==== Proof.Reals.lean ====
module

public import Idealize.ShloMosaic.PureOps.Ideal

/-!
Facts about sums and products of extended reals with one real factor.
-/

@[expose] public section

open Idealize.ShloMosaic
open scoped BigOperators

namespace Reals

/-- A product with a real factor distributes over a sum of reals, and one with a nonnegative one over any sum. -/
theorem sum_mul_coe {ι : Type*} (s : Finset ι) (f : ι → EReal) {r : ℝ} (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A sum of real numbers is a real number. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Twice a product with a real factor. -/
theorem mul_coe_add_self (y : EReal) (c : ℝ) : y * (c : EReal) + y * (c : EReal) = y * ((2 * c : ℝ) : EReal) := by
  rcases lt_trichotomy c 0 with h | h | h
  · have h2 : 2 * c < 0 := by linarith
    induction y with
    | bot => rw [EReal.bot_mul_coe_of_neg h, EReal.bot_mul_coe_of_neg h2]; rfl
    | coe y => norm_cast; ring
    | top => rw [EReal.top_mul_coe_of_neg h, EReal.top_mul_coe_of_neg h2]; rfl
  · subst h; simp
  · have h2 : 0 < 2 * c := by linarith
    induction y with
    | bot => rw [EReal.bot_mul_coe_of_pos h, EReal.bot_mul_coe_of_pos h2]; rfl
    | coe y => norm_cast; ring
    | top => rw [EReal.top_mul_coe_of_pos h, EReal.top_mul_coe_of_pos h2]; rfl

/-- A number that is neither infinity is real. -/
theorem exists_coe {x : EReal} (h : x ≠ ⊥) (h' : x ≠ ⊤) : ∃ y : ℝ, x = y := by
  induction x with
  | bot => exact absurd rfl h
  | coe y => exact ⟨y, rfl⟩
  | top => exact absurd rfl h'

/-- A square is nonnegative. -/
theorem mul_self_nonneg (x : EReal) : 0 ≤ x * x := by
  induction x with
  | bot => simp
  | coe y => rw [← EReal.coe_mul]; exact_mod_cast _root_.mul_self_nonneg y
  | top => simp

/-- A sum of squares is either infinite or a sum over reals. -/
theorem sum_sq {ι : Type*} [Fintype ι] (x : ι → EReal) :
    (∑ k, x k * x k = ⊤) ∨ ∃ y : ι → ℝ, (∀ k, x k = y k) ∧ ∑ k, x k * x k = ((∑ k, y k * y k : ℝ) : EReal) := by
  classical
  by_cases h : ∀ k, x k ≠ ⊥ ∧ x k ≠ ⊤
  · right
    choose y hy using fun k => exists_coe (h k).1 (h k).2
    refine ⟨y, hy, ?_⟩
    rw [← sum_coe]
    exact Finset.sum_congr rfl fun k _ => by rw [hy k, EReal.coe_mul]
  · left
    push Not at h
    obtain ⟨k, hk⟩ := h
    have hs : x k * x k = ⊤ := by
      by_cases hb : x k = ⊥
      · rw [hb]; rfl
      · rw [hk hb]; rfl
    have hle : x k * x k ≤ ∑ k, x k * x k :=
      Finset.single_le_sum (f := fun k => x k * x k) (fun i _ => mul_self_nonneg (x i)) (Finset.mem_univ k)
    rw [hs] at hle
    exact top_le_iff.mp hle

/-- An element whose absolute value compares below infinity is a real number. -/
theorem real_of_abs_lt {x : EReal}
    (h : BitVec.ofBool (decide (FloatOps.absf (F := Ideal) (φ := .f32) x < Ideal.ofBits .f32 0x7F800000#32)) = 1#1) : ∃ y : ℝ, x = y := by
  have hinf : Ideal.ofBits .f32 0x7F800000#32 = ⊤ := by simp [Ideal.ofBits, Ideal.ieee]
  rw [hinf] at h
  induction x with
  | bot => change BitVec.ofBool (decide (max (⊥ : EReal) (-⊥) < ⊤)) = 1#1 at h; simp at h
  | coe y => exact ⟨y, rfl⟩
  | top => change BitVec.ofBool (decide (max (⊤ : EReal) (-⊤) < ⊤)) = 1#1 at h; simp at h

/-- A value that is a real number. -/
def Is (x : EReal) : Prop := ∃ y : ℝ, x = y

theorem Is.zero : Is 0 := ⟨0, rfl⟩

theorem Is.add {x y : EReal} (hx : Is x) (hy : Is y) : Is (x + y) := by
  obtain ⟨a, rfl⟩ := hx
  obtain ⟨b, rfl⟩ := hy
  exact ⟨a + b, by norm_cast⟩

theorem Is.mul {x y : EReal} (hx : Is x) (hy : Is y) : Is (x * y) := by
  obtain ⟨a, rfl⟩ := hx
  obtain ⟨b, rfl⟩ := hy
  exact ⟨a * b, by norm_cast⟩

end Reals
-- ==== Proof.GateMath.lean ====
module

public import proofs.«01_k».proof.Proof.GateForms
public import proofs.«01_k».proof.Proof.Reals

/-!
The two ways to write the gate's gradients are equal over the extended reals.
-/

@[expose] public section

open Idealize.ShloMosaic
open scoped BigOperators

noncomputable section

namespace Gate

/-- The mean square of the lanes, with the norm's small term. -/
def ms (x : Fin 128 → EReal) : EReal :=
  Ideal.div (∑ k, x k * x k) (Ideal.ofBits .f32 0x43000000#32) + Ideal.ofBits .f32 0x358637BD#32

/-- Half of the gradient that reaches `o` through the mean square. -/
def half (x z d w : Fin 128 → EReal) : EReal :=
  Ideal.div ((∑ k, x k * (dm (z k) (d k) * w k)) * (Ideal.ofBits .f32 0xBF000000#32 * Ideal.div (rms x) (ms x)))
    (Ideal.ofBits .f32 0x43000000#32)

theorem lit_128 : Ideal.ofBits .f32 0x43000000#32 = ((128 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root mean square is zero (an infinite lane), or a positive real, and then every lane is real. -/
theorem rms_cases (x : Fin 128 → EReal) :
    (rms x = 0 ∧ Ideal.div (rms x) (ms x) = 0)
      ∨ ∃ r : ℝ, 0 < r ∧ rms x = r ∧ Ideal.div (rms x) (ms x) = ((r * r * r : ℝ) : EReal) ∧ ∃ y : Fin 128 → ℝ, ∀ k, x k = y k := by
  obtain ⟨e, he, hE⟩ := lit_eps
  have hr : rms x = Ideal.rsqrt (ms x) := rfl
  have hm : ms x = Ideal.div (∑ k, x k * x k) ((128 : ℝ) : EReal) + (e : EReal) := by rw [ms, lit_128, hE]
  rw [Ideal.div_coe (by norm_num)] at hm
  rcases Reals.sum_sq x with h | ⟨y, hy, h⟩
  · left
    have hm' : ms x = ⊤ := by
      rw [hm, h, EReal.top_mul_coe_of_pos (by norm_num)]; rfl
    rw [hr, hm']
    refine ⟨rfl, ?_⟩
    simp [Ideal.div]
  · right
    have hv : ms x = (((∑ k, y k * y k) * (1 / 128) + e : ℝ) : EReal) := by
      rw [hm, h, ← EReal.coe_mul, ← EReal.coe_add]
    have hpos : 0 < (∑ k, y k * y k) * (1 / 128) + e := by
      have : 0 ≤ ∑ k, y k * y k := Finset.sum_nonneg fun k _ => mul_self_nonneg (y k)
      positivity
    generalize (∑ k, y k * y k) * (1 / 128) + e = v at hv hpos
    have hrv : rms x = (((Real.sqrt v)⁻¹ : ℝ) : EReal) := by
      rw [hr, hv, Ideal.rsqrt_coe, if_neg (not_lt.mpr hpos.le), if_neg hpos.ne']
    have hs : 0 < Real.sqrt v := Real.sqrt_pos.mpr hpos
    refine ⟨(Real.sqrt v)⁻¹, by positivity, hrv, ?_, y, hy⟩
    rw [hrv, hv, Ideal.div_coe hpos.ne', ← EReal.coe_mul]
    congr 1
    have hvv : v = Real.sqrt v * Real.sqrt v := (Real.mul_self_sqrt hpos.le).symm
    generalize Real.sqrt v = s at hs hvv
    subst hvv
    field_simp

/-- The gradient with respect to `o`, as the chain rule through the mean square writes it. -/
theorem gradO_eq (x z d w : Fin 128 → EReal) (j : Fin 128) :
    dm (z j) (d j) * w j * rms x + x j * half x z d w + half x z d w * x j = gradO x z d w j := by
  unfold gradO half
  rcases rms_cases x with ⟨h0, h1⟩ | ⟨r, hr, hx, hd, y, hy⟩
  · rw [h1, h0, lit_128, Ideal.div_coe (by norm_num)]
    simp
  · rw [hd, hx, lit_128, lit_half, Ideal.div_coe (by norm_num), Ideal.div_coe (by norm_num), ← EReal.coe_mul]
    have hsum : ∑ k, dm (z k) (d k) * w k * (x k * (r : EReal)) = (∑ k, x k * (dm (z k) (d k) * w k)) * (r : EReal) := by
      rw [← Reals.sum_mul_coe _ _ hr.le]
      exact Finset.sum_congr rfl fun k _ => by rw [← mul_assoc, mul_comm (_ * w k)]
    rw [hsum]
    generalize ∑ k, x k * (dm (z k) (d k) * w k) = S
    generalize dm (z j) (d j) * w j = X
    have e1 : ∀ c : ℝ, x j * (S * ((c : ℝ) : EReal) * ((1 / 128 : ℝ) : EReal)) = x j * S * ((c * (1 / 128) : ℝ) : EReal) := fun c => by
      rw [EReal.coe_mul]; ac_rfl
    rw [mul_comm (S * _ * _) (x j), e1, add_assoc, Reals.mul_coe_add_self,
      EReal.mul_sub_of_nonneg_of_ne_top (by exact_mod_cast hr.le) (EReal.coe_ne_top r), mul_comm X, sub_eq_add_neg]
    congr 1
    have e2 : x j * (r : EReal) * (S * (r : EReal) * ((1 / 128 : ℝ) : EReal)) = x j * S * ((r * r * (1 / 128) : ℝ) : EReal) := by
      rw [EReal.coe_mul, EReal.coe_mul]; ac_rfl
    rw [e2, mul_left_comm (r : EReal), ← EReal.coe_mul, ← mul_neg, ← EReal.coe_neg]
    congr 2
    ring

/-- The gradient with respect to the gate, the derivative of `silu` as the chain rule writes it. -/
theorem gradZ_eq (x z d w : Fin 128 → EReal) (j : Fin 128) (D W : ℝ) (hd : d j = D) (hw : w j = W) :
    x j * rms x * w j * d j * Ideal.logistic (z j)
      + z j * (x j * rms x * w j * d j) * (Ideal.logistic (z j) * (1 - Ideal.logistic (z j))) = gradZ x z d w j := by
  unfold gradZ
  obtain ⟨u, hu⟩ : ∃ u : ℝ, x j * rms x = u := by
    rcases rms_cases x with ⟨h0, h1⟩ | ⟨r, hr, hx, -, y, hy⟩
    · exact ⟨0, by rw [h0, mul_zero]; rfl⟩
    · exact ⟨y j * r, by rw [hx, hy, EReal.coe_mul]⟩
  rw [hu, hd, hw, ← EReal.coe_mul, ← EReal.coe_mul, ← EReal.coe_mul]
  have e1 : (1 : EReal) - 1 = 0 := by rw [← EReal.coe_one, ← EReal.coe_sub, sub_self]; rfl
  induction z j with
  | bot => simp
  | coe t =>
    rw [Ideal.logistic_coe]
    norm_cast
    ring
  | top => simp [e1, mul_comm]

end Gate

end
-- ==== Proof.UnitSums.lean ====
module

public import Idealize.ShloMosaic.Lib.Pointwise
public import Idealize.ShloMosaic.PureOps.Ideal

/-!
Sums over axes of length one: the sum's only term is the element itself.
-/

@[expose] public section

open Idealize.ShloMosaic
open scoped BigOperators

namespace UnitSums

variable {n0 n1 n2 n3 : Nat}

/-- A sum over axes 0 and 3, both of length one. -/
theorem sum_0_3 (h : (⟨4, ![1, n1, n2, 1]⟩ : Shape).ReducesTo [0, 3] (⟨2, ![n1, n2]⟩ : Shape))
    (v : (⟨4, ![1, n1, n2, 1]⟩ : Shape).Idx → EReal) (init : EReal) (a : Fin n1) (b : Fin n2) :
    Ideal.hostReduceAdd h v init (ix2 a b) = init + v (ix4 0 a b 0) := by
  unfold Ideal.hostReduceAdd
  rw [Finset.sum_eq_single_of_mem (ix4 0 a b 0)]
  · rw [Finset.mem_filter]
    refine ⟨Finset.mem_univ _, ?_⟩
    funext k; apply Fin.ext
    match k with
    | ⟨0, _⟩ => rfl
    | ⟨1, _⟩ => rfl
  · intro i hi hne
    rw [Finset.mem_filter] at hi
    refine absurd ?_ hne
    funext k; apply Fin.ext
    match k with
    | ⟨0, _⟩ => have := (i 0).isLt; change (i 0).val < 1 at this; show (i 0).val = 0; omega
    | ⟨1, _⟩ => have e := congrArg Fin.val (congrFun hi.2 (0 : Fin 2)); exact e
    | ⟨2, _⟩ => have e := congrArg Fin.val (congrFun hi.2 (1 : Fin 2)); exact e
    | ⟨3, _⟩ => have := (i 3).isLt; change (i 3).val < 1 at this; show (i 3).val = 0; omega

/-- A sum over axes 0 and 1, both of length one. -/
theorem sum_0_1 (h : (⟨3, ![1, 1, n2]⟩ : Shape).ReducesTo [0, 1] (⟨1, ![n2]⟩ : Shape))
    (v : (⟨3, ![1, 1, n2]⟩ : Shape).Idx → EReal) (init : EReal) (a : Fin n2) :
    Ideal.hostReduceAdd h v init (ix1 a) = init + v (ix3 0 0 a) := by
  unfold Ideal.hostReduceAdd
  rw [Finset.sum_eq_single_of_mem (ix3 0 0 a)]
  · rw [Finset.mem_filter]
    refine ⟨Finset.mem_univ _, ?_⟩
    funext k; apply Fin.ext
    match k with
    | ⟨0, _⟩ => rfl
  · intro i hi hne
    rw [Finset.mem_filter] at hi
    refine absurd ?_ hne
    funext k; apply Fin.ext
    match k with
    | ⟨0, _⟩ => have := (i 0).isLt; change (i 0).val < 1 at this; show (i 0).val = 0; omega
    | ⟨1, _⟩ => have := (i 1).isLt; change (i 1).val < 1 at this; show (i 1).val = 0; omega
    | ⟨2, _⟩ => have e := congrArg Fin.val (congrFun hi.2 (0 : Fin 1)); exact e

/-- A sum over axes 0, 1 and 2, all of length one. -/
theorem sum_0_1_2 (h : (⟨4, ![1, 1, 1, n3]⟩ : Shape).ReducesTo [0, 1, 2] (⟨1, ![n3]⟩ : Shape))
    (v : (⟨4, ![1, 1, 1, n3]⟩ : Shape).Idx → EReal) (init : EReal) (a : Fin n3) :
    Ideal.hostReduceAdd h v init (ix1 a) = init + v (ix4 0 0 0 a) := by
  unfold Ideal.hostReduceAdd
  rw [Finset.sum_eq_single_of_mem (ix4 0 0 0 a)]
  · rw [Finset.mem_filter]
    refine ⟨Finset.mem_univ _, ?_⟩
    funext k; apply Fin.ext
    match k with
    | ⟨0, _⟩ => rfl
  · intro i hi hne
    rw [Finset.mem_filter] at hi
    refine absurd ?_ hne
    funext k; apply Fin.ext
    match k with
    | ⟨0, _⟩ => have := (i 0).isLt; change (i 0).val < 1 at this; show (i 0).val = 0; omega
    | ⟨1, _⟩ => have := (i 1).isLt; change (i 1).val < 1 at this; show (i 1).val = 0; omega
    | ⟨2, _⟩ => have := (i 2).isLt; change (i 2).val < 1 at this; show (i 2).val = 0; omega
    | ⟨3, _⟩ => have e := congrArg Fin.val (congrFun hi.2 (0 : Fin 1)); exact e

/-- A sum over axes 1 and 2. -/
theorem sum_1_2 (h : (⟨4, ![1, n1, n2, n3]⟩ : Shape).ReducesTo [1, 2] (⟨2, ![1, n3]⟩ : Shape))
    (v : (⟨4, ![1, n1, n2, n3]⟩ : Shape).Idx → EReal) (init : EReal) (a : Fin n3) :
    Ideal.hostReduceAdd h v init (ix2 0 a) = init + ∑ r : Fin n1, ∑ k : Fin n2, v (ix4 0 r k a) := by
  unfold Ideal.hostReduceAdd
  rw [Finset.sum_filter_eq_sum_of_fiber _ (fun k : Fin n1 × Fin n2 => ix4 0 k.1 k.2 a), Fintype.sum_prod_type]
  · rintro ⟨a1, b1⟩ ⟨a2, b2⟩ e
    exact Prod.ext (congrFun e (1 : Fin 4)) (congrFun e (2 : Fin 4))
  · intro i
    constructor
    · intro e
      refine ⟨(i 1, i 2), ?_⟩
      funext k; apply Fin.ext
      match k with
      | ⟨0, _⟩ => have := (i 0).isLt; change (i 0).val < 1 at this; show 0 = (i 0).val; omega
      | ⟨1, _⟩ => rfl
      | ⟨2, _⟩ => rfl
      | ⟨3, _⟩ => have e := congrArg Fin.val (congrFun e (1 : Fin 2)); exact e.symm
    · rintro ⟨k, rfl⟩
      funext b; apply Fin.ext
      match b with
      | ⟨0, _⟩ => rfl
      | ⟨1, _⟩ => rfl

end UnitSums
-- ==== Proof.GateRef.lean ====
module

public import proofs.«01_k».proof.Proof.Gen.ReferenceIdeal.Read
public import proofs.«01_k».proof.Proof.GateMath
public import proofs.«01_k».proof.Proof.UnitSums
public import Idealize.ShloMosaic.Lib.Pointwise

/-!
The gate's reference: its results read at an index.
-/

@[expose] public section

set_option maxRecDepth 16384

noncomputable section

open Idealize.ShloMosaic Idealize.ShloMosaic.TcCoe Idealize.SL.Sem
open scoped BigOperators

namespace Cert.ReferenceIdeal.Gate

open Cert.ReferenceIdeal Cert.ReferenceIdeal.Gen

variable (m : (ℓ : Loc nD τ sig) → Buf (Elt Ideal) ℓ)

open Cert.ReferenceIdeal.Read

/-- The lanes of head `h`, row `r` of an array of 1024 columns. -/
def lanes (X : FVec Ideal S2048x1024 .f32) (r : Fin 2048) (h : Fin 8) (k : Fin 128) : EReal :=
  X (ix2 r ⟨h.val * 128 + k.val, by omega⟩)

/-- The lanes of head `h`, row `r` of the cotangent (its first 1024 columns of 2048). -/
def lanesD (X : FVec Ideal S2048x2048 .f32) (r : Fin 2048) (h : Fin 8) (k : Fin 128) : EReal :=
  X (ix2 r ⟨h.val * 128 + k.val, by omega⟩)

/-- The norm's weights. -/
def weights (X : FVec Ideal S1x128 .f32) (k : Fin 128) : EReal := X (ix2 0 k)

variable (o z : FVec Ideal S2048x1024 .f32) (w : FVec Ideal S1x128 .f32) (d : FVec Ideal S2048x2048 .f32)

theorem v0_at (a : Fin 1) (r : Fin 2048) (h : Fin 8) (j : Fin 128) : val_main_v0 (F := Ideal) o (ix4 a r h j) = lanes o r h j := by
  pointwise [val_main_v0, lanes]

theorem v8_at (a : Fin 1) (r : Fin 2048) (h : Fin 8) (b : Fin 1) : val_main_v8 (F := Ideal) o (ix4 a r h b) =
   Ideal.div (∑ k, lanes o r h k * lanes o r h k) (Ideal.ofBits .f32 0x43000000#32) + Ideal.ofBits .f32 0x358637BD#32 := by
  pointwise [val_main_v8, val_main_v7, val_main_v6, val_main_v5, val_main_v4, val_main_v3, val_main_v2, v0_at, val_main_cst, val_main_cst_0, val_main_cst_1]

/-- The rows' reciprocal root mean squares. -/
theorem v9_at (a : Fin 1) (r : Fin 2048) (h : Fin 8) (b : Fin 1) :
    val_main_v9 (F := Ideal) o (ix4 a r h b) = _root_.Gate.rms (lanes o r h) := by
  pointwise [val_main_v9, v8_at, _root_.Gate.rms]

/-- The normed value. -/
theorem v14_at (a : Fin 1) (r : Fin 2048) (h : Fin 8) (j : Fin 128) :
    val_main_v14 (F := Ideal) o (ix4 a r h j) = lanes o r h j * _root_.Gate.rms (lanes o r h) := by
  pointwise [val_main_v14, val_main_v13, v9_at, v0_at]

/-- The gate. -/
theorem v18_at (a : Fin 1) (r : Fin 2048) (h : Fin 8) (j : Fin 128) :
    val_main_v18 (F := Ideal) z (ix4 a r h j) = lanes z r h j := by
  pointwise [val_main_v18, lanes]

/-- The gate's logistic. -/
theorem v19_at (a : Fin 1) (r : Fin 2048) (h : Fin 8) (j : Fin 128) :
    val_main_v19_2 (F := Ideal) z (ix4 a r h j) = Ideal.logistic (lanes z r h j) := by
  pointwise [val_main_v19_2, val_main_call0_v4, val_main_call0_v3, val_main_call0_v2, val_main_call0_v1, val_main_call0_v0,
    val_main_call0_cst, val_main_call0_cst_0, v18_at, Ideal.logistic]

/-- The cotangent. -/
theorem v24_at (a : Fin 1) (r : Fin 2048) (h : Fin 8) (j : Fin 128) :
    val_main_v24 (F := Ideal) d (ix4 a r h j) = lanesD d r h j := by
  pointwise [val_main_v24, val_main_v23, val_main_v22, lanesD]

/-- The cotangent of the normed and weighted value. -/
theorem v26_at (a : Fin 1) (r : Fin 2048) (h : Fin 8) (j : Fin 128) :
    val_main_v26 (F := Ideal) z d (ix4 a r h j) = _root_.Gate.dm (lanes z r h j) (lanesD d r h j) := by
  pointwise [val_main_v26, val_main_v19_0, v24_at, v19_at, v18_at, _root_.Gate.dm]

/-- … times the weights. -/
theorem v33_at (a : Fin 1) (r : Fin 2048) (h : Fin 8) (j : Fin 128) :
    val_main_v33 (F := Ideal) z w d (ix4 a r h j) = _root_.Gate.dm (lanes z r h j) (lanesD d r h j) * weights w j := by
  pointwise [val_main_v33, val_main_v32, val_main_v15, val_main_v1, v26_at, weights]

/-- The gradient with respect to the gate, for finite cotangents and weights. -/
theorem v28_at (i : S2048x1024.Idx) (D W : ℝ) (hD : lanesD d (i 0) ⟨(i 1).val / 128, Nat.div_lt_of_lt_mul (i 1).isLt⟩ ⟨(i 1).val % 128, Nat.mod_lt _ (by decide)⟩ = D)
    (hW : weights w ⟨(i 1).val % 128, Nat.mod_lt _ (by decide)⟩ = W) :
    val_main_v28 (F := Ideal) o z w d i
      = _root_.Gate.gradZ (lanes o (i 0) ⟨(i 1).val / 128, Nat.div_lt_of_lt_mul (i 1).isLt⟩) (lanes z (i 0) ⟨(i 1).val / 128, Nat.div_lt_of_lt_mul (i 1).isLt⟩)
          (lanesD d (i 0) ⟨(i 1).val / 128, Nat.div_lt_of_lt_mul (i 1).isLt⟩) (weights w) ⟨(i 1).val % 128, Nat.mod_lt _ (by decide)⟩ := by
  rw [← _root_.Gate.gradZ_eq _ _ _ _ _ D W hD hW]
  clear hD hW
  idx_vars i
  pointwise [val_main_v28, val_main_v27, val_main_call1_v2, val_main_call1_v1, val_main_call1_v0, val_main_v25, val_main_v17, val_main_v16, val_main_v15, val_main_v1,
    val_main_v19_1, val_main_call0_v7, val_main_call0_v6, val_main_call0_cst_1, v14_at, v19_at, v18_at, v24_at, weights]

/-- Half of the gradient through the mean square. -/
theorem v43_at (r : Fin 2048) (h : Fin 8) :
    val_main_v43 (F := Ideal) o z w d (ix2 r h) = _root_.Gate.half (lanes o r h) (lanes z r h) (lanesD d r h) (weights w) := by
  unfold val_main_v43
  rw [Host.reduceAdd_apply, Ideal.hostReduceAdd_def, UnitSums.sum_0_3]
  pointwise [val_main_v42, val_main_v41, val_main_cst_6, val_main_cst_7, val_main_v40, val_main_v37, val_main_v36, val_main_v35, val_main_v12, val_main_v11,
    val_main_v10, val_main_cst_2, val_main_cst_5, v9_at, v0_at, v8_at, v33_at, _root_.Gate.half, _root_.Gate.ms]

/-- The gradient with respect to `o`. -/
theorem v55_at (i : S2048x1024.Idx) :
    val_main_v55 (F := Ideal) o z w d i
      = _root_.Gate.gradO (lanes o (i 0) ⟨(i 1).val / 128, Nat.div_lt_of_lt_mul (i 1).isLt⟩) (lanes z (i 0) ⟨(i 1).val / 128, Nat.div_lt_of_lt_mul (i 1).isLt⟩)
          (lanesD d (i 0) ⟨(i 1).val / 128, Nat.div_lt_of_lt_mul (i 1).isLt⟩) (weights w) ⟨(i 1).val % 128, Nat.mod_lt _ (by decide)⟩ := by
  rw [← _root_.Gate.gradO_eq]
  idx_vars i
  pointwise [val_main_v55, val_main_v51, val_main_v49, val_main_v48, val_main_v47, val_main_v46, val_main_v45, val_main_v44, v43_at,
    val_main_v39, val_main_v38,
    v9_at, v0_at, v33_at]

/-- The gate's gradient stands in columns 3072 to 4095. -/
theorem v56_at (i : S2048x8448.Idx) (hi : 3072 ≤ (i 1).val ∧ (i 1).val < 4096) :
    val_main_v56 (F := Ideal) o z w d i
      = val_main_v28 (F := Ideal) o z w d (ix2 (i 0) ⟨(i 1).val - 3072, by omega⟩) := by
  idx_vars i
  obtain ⟨h0, h1⟩ := hi
  change 3072 ≤ i1.val at h0
  change i1.val < 4096 at h1
  pointwise [val_main_v56, val_main_v54]
  rw [dif_neg (show ¬ i1.val < 3072 by omega), dif_pos (show i1.val - 3072 < 1024 by omega)]

/-- The gradient with respect to the norm's weights. -/
theorem v50_at (i : S1x128.Idx) :
    val_main_v50 (F := Ideal) o z d i = ∑ r : Fin 2048, ∑ h : Fin 8, _root_.Gate.partW (lanes o r h) (lanes z r h) (lanesD d r h) (i 1) := by
  idx_vars i
  pointwise [val_main_v50]
  unfold val_main_v34
  rw [Host.reduceAdd_apply, Ideal.hostReduceAdd_def, UnitSums.sum_0_1_2]
  pointwise [val_main_v31, val_main_v30, val_main_cst_3, val_main_cst_4]
  rw [UnitSums.sum_1_2]
  pointwise [val_main_v29, v14_at, v26_at, _root_.Gate.partW]
  refine Finset.sum_congr rfl fun r _ => Finset.sum_congr rfl fun h _ => mul_comm _ _

end Cert.ReferenceIdeal.Gate

end
-- ==== Proof.GatePair.lean ====
module

public import proofs.«01_k».proof.Defs
public import proofs.«01_k».proof.Proof.Gen.Pre_gate_finite
public import proofs.«01_k».proof.Proof.Gen.On_gate_columns
public import proofs.«01_k».proof.Proof.Gen.KernelIdeal.Value
public import proofs.«01_k».proof.Proof.GateO
public import proofs.«01_k».proof.Proof.GateZ
public import proofs.«01_k».proof.Proof.GateW
public import proofs.«01_k».proof.Proof.GateRef
public import Idealize.ShloMosaic.Lib.Claim

/-!
The gate's backward call computes its reference's three results.
-/

@[expose] public section

set_option maxRecDepth 16384

noncomputable section

open Idealize.ShloMosaic Idealize.ShloMosaic.TcCoe Idealize.SL.Sem
open scoped BigOperators

namespace Cert.GatePair

open Cert.ReferenceIdeal.Read

variable (m : (ℓ : Loc Cert.KernelIdeal.nD Cert.KernelIdeal.τ Cert.KernelIdeal.sig) → Buf (Elt Ideal) ℓ) (c : Dev Cert.KernelIdeal.nD)

/-- The four arguments. -/
abbrev argO := m ((c.tc : Thread Cert.KernelIdeal.nD Cert.KernelIdeal.τ).loc Cert.KernelIdeal.main_arg0)
abbrev argZ := m ((c.tc : Thread Cert.KernelIdeal.nD Cert.KernelIdeal.τ).loc Cert.KernelIdeal.main_arg1)
abbrev argW := m ((c.tc : Thread Cert.KernelIdeal.nD Cert.KernelIdeal.τ).loc Cert.KernelIdeal.main_arg2)
abbrev argD := m ((c.tc : Thread Cert.KernelIdeal.nD Cert.KernelIdeal.τ).loc Cert.KernelIdeal.main_arg3)

/-- The norm's weights are real. -/
theorem weights_real (hp : Pre_KernelIdeal_gate_finite m) (k : Fin 128) :
    ∃ y : ℝ, Cert.ReferenceIdeal.Gate.weights (argW m c) k = y := by
  have h := congrFun (hp c).1 (ix2 0 k)
  simp only [Cert.Pre_gate_finite.fn] at h
  pointwise at h
  exact Reals.real_of_abs_lt h

/-- The cotangent is real. -/
theorem lanesD_real (hp : Pre_KernelIdeal_gate_finite m) (r : Fin 2048) (h : Fin 8) (k : Fin 128) :
    ∃ y : ℝ, Cert.ReferenceIdeal.Gate.lanesD (argD m c) r h k = y := by
  have e := congrFun (hp c).2 (ix2 r ⟨h.val * 128 + k.val, by omega⟩)
  simp only [Cert.Pre_gate_finite.fn] at e
  pointwise at e
  exact Reals.real_of_abs_lt e

set_option maxRecDepth 100000 in
/-- A column's two signed comparisons are the comparisons of its number. -/
theorem columns_of : ∀ i : Fin 8448, IntOp.andi (IntOp.cmpi CmpIPredicate.sge (BitVec.ofNat 32 i.val) 3072#32)
    (IntOp.cmpi CmpIPredicate.slt (BitVec.ofNat 32 i.val) 4096#32) = 1#1 → 3072 ≤ i.val ∧ i.val < 4096 := by
  decide +kernel

/-- The columns that the claim speaks of. -/
theorem columns (x0 x1 : FVec Ideal Cert.On_gate_columns.S2048x1024 .f32) (x2 : FVec Ideal Cert.On_gate_columns.S1x128 .f32)
    (x3 : FVec Ideal Cert.On_gate_columns.S2048x2048 .f32) (i : (⟨2, ![2048, 8448]⟩ : Shape).Idx)
    (h : (Cert.On_gate_columns.fn (F := Ideal) x0 x1 x2 x3).2.1 i = 1#1) : 3072 ≤ (i 1).val ∧ (i 1).val < 4096 := by
  idx_vars i
  simp only [Cert.On_gate_columns.fn] at h
  pointwise at h
  exact columns_of i1 h

/-- The first result. -/
theorem eq_O : (Cert.KernelIdeal.Gen.dats m 0 c).arrAt 4 Cert.KernelIdeal.cfg0.N
    = val_main_v55 (F := Ideal) (argO m c) (argZ m c) (argW m c) (argD m c) := by
  refine (Cert.KernelIdeal.Gate.final_4 m c).trans (funext fun i => ?_)
  rw [Cert.ReferenceIdeal.Gate.v55_at]
  rfl

/-- The second result at the gate's columns. -/
theorem eq_Z (hp : Pre_KernelIdeal_gate_finite m) (i : (⟨2, ![2048, 8448]⟩ : Shape).Idx) (hi : 3072 ≤ (i 1).val ∧ (i 1).val < 4096) :
    (Cert.KernelIdeal.Gen.dats m 0 c).arrAt 5 Cert.KernelIdeal.cfg0.N i
    = val_main_v56 (F := Ideal) (argO m c) (argZ m c) (argW m c) (argD m c) i := by
  rw [Cert.ReferenceIdeal.Gate.v56_at _ _ _ _ i hi]
  refine (Cert.KernelIdeal.Gate.final_5 m c i hi).trans ?_
  obtain ⟨W, hW⟩ := weights_real m c hp ⟨((i 1).val - 3072) % 128, Nat.mod_lt _ (by decide)⟩
  obtain ⟨D, hD⟩ := lanesD_real m c hp (i 0) ⟨((i 1).val - 3072) / 128, by omega⟩ ⟨((i 1).val - 3072) % 128, Nat.mod_lt _ (by decide)⟩
  rw [Cert.ReferenceIdeal.Gate.v28_at _ _ _ _ (ix2 (i 0) ⟨(i 1).val - 3072, by omega⟩) D W hD hW]
  have e1 : (i 1).val / 128 % 8 = ((i 1).val - 3072) / 128 := by omega
  have e2 : (i 1).val % 128 = ((i 1).val - 3072) % 128 := by omega
  simp only [Cert.KernelIdeal.Gate.resZ, e1, e2]
  rfl

/-- The third result. -/
theorem eq_W : (Cert.KernelIdeal.Gen.dats m 0 c).arrAt 6 Cert.KernelIdeal.cfg0.N
    = val_main_v50 (F := Ideal) (argO m c) (argZ m c) (argD m c) := by
  refine (Cert.KernelIdeal.Gate.final_6 m c).trans (funext fun i => ?_)
  rw [Cert.ReferenceIdeal.Gate.v50_at, Finset.sum_comm, Fin.sum_univ_eight, Cert.KernelIdeal.Gate.resW, Fin.sum_univ_four]
  simp only [← add_assoc]
  rfl

set_option maxHeartbeats 1600000 in
/-- The pair's claim. -/
theorem algebraic : algebraic_KernelIdeal_ReferenceIdeal_on_gate_columns_pre_gate_finite := by
  intro m g m' g' hpre hargs
  refine ⟨fun c => val_main_v55 (F := Ideal) (argO m c) (argZ m c) (argW m c) (argD m c),
    fun c => val_main_v56 (F := Ideal) (argO m c) (argZ m c) (argW m c) (argD m c),
    fun c => val_main_v50 (F := Ideal) (argO m c) (argZ m c) (argD m c), ?_, ?_⟩
  · refine (θ_run _ _ _).mono (fun r h c => ?_) (Cert.KernelIdeal.Value.run_blocks m g)
    obtain ⟨h4, h5, h6, a0, a1, a2, a3⟩ := h c
    exact ⟨fun i _ => (congrFun h4 i).trans (congrFun (eq_O m c) i),
      fun i hi => (congrFun h5 i).trans (eq_Z m c hpre i (columns _ _ _ _ i hi)),
      fun i _ => (congrFun h6 i).trans (congrFun (eq_W m c) i), a0, a1, a2, a3⟩
  · refine (θ_run _ _ _).mono (fun r h c => ?_) (Cert.ReferenceIdeal.Value.run m' g')
    obtain ⟨h4, h5, h6, a0, a1, a2, a3⟩ := h c
    obtain ⟨e0, e1, e2, e3⟩ := hargs c
    rw [val_main_v55_eq, e0, e1, e2, e3] at h4
    rw [val_main_v56_eq, e0, e1, e2, e3] at h5
    rw [val_main_v50_eq, e0, e1, e3] at h6
    exact ⟨fun i _ => congrFun h4 i, fun i _ => congrFun h5 i, fun i _ => congrFun h6 i, a0, a1, a2, a3⟩

end Cert.GatePair

end
-- ==== Proof.Idx2.lean ====
module

public import Idealize.ShloMosaic.Lib.Pointwise

/-!
An index of two axes from its two numbers.
-/

@[expose] public section

open Idealize.ShloMosaic

namespace Idx2

/-- An index is the pair of its numbers. -/
theorem emb_eq {a b : ℕ} (i : (⟨2, ![a, b]⟩ : Shape).Idx) (r : Fin a) (k : Fin b) (h0 : (i 0).val = r.val)
    (h1 : (i 1).val = k.val) : i = ix2 r k := by
  funext q
  fin_cases q
  · exact Fin.ext h0
  · exact Fin.ext h1

end Idx2
-- ==== Proof.Taps.lean ====
module

public import Idealize.ShloMosaic.Lib.Pointwise

/-!
Shifts of a column of 2048 rows, with zeros moved in: what a causal convolution and its gradient are made of.
-/

@[expose] public section

noncomputable section

open Idealize.ShloMosaic
open scoped BigOperators

namespace Taps

/-- The column moved down by `s` rows, as a kernel writes it: a rotation and a comparison of the row's number. -/
def down (s : ℕ) (u : Fin 2048 → EReal) (r : Fin 2048) : EReal :=
  Scalar.select (IntOp.cmpi CmpIPredicate.sge (BitVec.ofNat 32 r.val) (BitVec.ofNat 32 s))
    (u ⟨(r.val + 2048 - s) % 2048, Nat.mod_lt _ (by decide)⟩) 0

/-- The column moved up by `2048 - n` rows: only the first `n` rows hold something. -/
def up (n : ℕ) (u : Fin 2048 → EReal) (r : Fin 2048) : EReal :=
  Scalar.select (IntOp.cmpi CmpIPredicate.slt (BitVec.ofNat 32 r.val) (BitVec.ofNat 32 n))
    (u ⟨(r.val + 2048 - n) % 2048, Nat.mod_lt _ (by decide)⟩) 0

theorem toInt_ofNat {n : ℕ} (h : n < 2049) : (BitVec.ofNat 32 n).toInt = n := by
  rw [BitVec.toInt_eq_toNat_of_lt (by rw [BitVec.toNat_ofNat]; omega), BitVec.toNat_ofNat, Nat.mod_eq_of_lt (by omega)]

/-- Row `r` of a column moved down is row `r - s`, or zero. -/
theorem down_eq (s : ℕ) (hs : s < 2048) (u : Fin 2048 → EReal) (r : Fin 2048) :
    down s u r = if h : s ≤ r.val then u ⟨r.val - s, by omega⟩ else 0 := by
  have hr := r.isLt
  have e : IntOp.cmpi CmpIPredicate.sge (BitVec.ofNat 32 r.val) (BitVec.ofNat 32 s) = BitVec.ofBool (decide (s ≤ r.val)) := by
    simp only [IntOp.cmpi, BitVec.sle, toInt_ofNat (show s < 2049 by omega), toInt_ofNat (show r.val < 2049 by omega)]
    norm_cast
  unfold down
  rw [e]
  by_cases h : s ≤ r.val
  · rw [dif_pos h, decide_eq_true h]
    exact congrArg u (Fin.ext (by dsimp only; omega))
  · rw [dif_neg h, decide_eq_false h]
    rfl

/-- Row `r` of a column moved up by `s` is row `r + s`, or zero. -/
theorem up_eq (s n : ℕ) (hn : n + s = 2048) (hs : 0 < s) (u : Fin 2048 → EReal) (r : Fin 2048) :
    up n u r = if h : r.val + s < 2048 then u ⟨r.val + s, h⟩ else 0 := by
  have hr := r.isLt
  have e : IntOp.cmpi CmpIPredicate.slt (BitVec.ofNat 32 r.val) (BitVec.ofNat 32 n) = BitVec.ofBool (decide (r.val + s < 2048)) := by
    simp only [IntOp.cmpi, BitVec.slt, toInt_ofNat (show n < 2049 by omega), toInt_ofNat (show r.val < 2049 by omega)]
    congr 1
    rw [decide_eq_decide]
    omega
  unfold up
  rw [e]
  by_cases h : r.val + s < 2048
  · rw [dif_pos h, decide_eq_true h]
    exact congrArg u (Fin.ext (by dsimp only; omega))
  · rw [dif_neg h, decide_eq_false h]
    rfl

/-- A sum against a column moved up is the sum of the column against the other moved down. -/
theorem sum_up (s n : ℕ) (hn : n + s = 2048) (hs : 0 < s) (hs2 : s < 2048) (d u : Fin 2048 → EReal) :
    ∑ r, up n d r * u r = ∑ r, down s u r * d r := by
  have hlt : ∀ r : Fin 2048, up n d r * u r ≠ 0 → r.val + s < 2048 := fun r h => by
    by_contra hn'
    exact h (by rw [up_eq s n hn hs, dif_neg hn', zero_mul])
  refine Finset.sum_bij_ne_zero (fun r _ h => ⟨r.val + s, hlt r h⟩) (fun _ _ _ => Finset.mem_univ _)
    (fun a _ _ b _ _ e => Fin.ext (by have := congrArg Fin.val e; dsimp only at this; omega)) (fun r _ h => ?_) (fun r _ h => ?_)
  · have hle : s ≤ r.val := by
      by_contra hn'
      exact h (by rw [down_eq s hs2, dif_neg hn', zero_mul])
    have hr := r.isLt
    rw [down_eq s hs2, dif_pos hle, mul_comm] at h
    refine ⟨⟨r.val - s, by omega⟩, Finset.mem_univ _, ?_, Fin.ext (by dsimp only; omega)⟩
    rw [up_eq s n hn hs, dif_pos (by dsimp only; omega)]
    convert h using 3
    exact Fin.ext (by dsimp only; omega)
  · rw [down_eq s hs2, dif_pos (by dsimp only; omega), up_eq s n hn hs, dif_pos (hlt r h), mul_comm]
    congr 2
    exact Fin.ext (by dsimp only; omega)

end Taps

end
-- ==== Proof.ConvForms.lean ====
module

public import proofs.«01_k».proof.Proof.Taps
public import proofs.«01_k».proof.Proof.Reals

/-!
The gradients of the short gated convolution `y = b * (conv (c * h) + bias) * silu z` of one channel, in the form the
kernel computes them. The arguments are the channel's columns of the four inputs and of the cotangent `d`, the three
taps `w` and the bias.
-/

@[expose] public section

noncomputable section

open Idealize.ShloMosaic Taps
open scoped BigOperators

namespace Conv

variable (b c h z d : Fin 2048 → EReal) (w0 w1 w2 bias : EReal)

/-- The convolution's value at row `r`. -/
def value (r : Fin 2048) : EReal :=
  w2 * (c r * h r) + w1 * down 1 (fun r => c r * h r) r + w0 * down 2 (fun r => c r * h r) r + bias

/-- The cotangent of the convolution's value. -/
def cot (r : Fin 2048) : EReal := d r * b r * (z r * Ideal.logistic (z r))

/-- The cotangent of the convolution's input. -/
def cotIn (r : Fin 2048) : EReal :=
  w2 * cot b z d r + w1 * up 2047 (cot b z d) r + w0 * up 2046 (cot b z d) r

/-- The gradient with respect to `b`. -/
def gradB (r : Fin 2048) : EReal := d r * value c h w0 w1 w2 bias r * (z r * Ideal.logistic (z r))

/-- The gradient with respect to `c`. -/
def gradC (r : Fin 2048) : EReal := cotIn b z d w0 w1 w2 r * h r

/-- The gradient with respect to `h`. -/
def gradH (r : Fin 2048) : EReal := cotIn b z d w0 w1 w2 r * c r

/-- The gradient with respect to `z`. -/
def gradZ (r : Fin 2048) : EReal :=
  d r * (b r * value c h w0 w1 w2 bias r) * (Ideal.logistic (z r) * (1 + z r * (1 - Ideal.logistic (z r))))

/-- The gradient with respect to the bias. -/
def gradBias : EReal := ∑ r, cot b z d r

/-- The gradients with respect to the three taps. -/
def gradW2 : EReal := ∑ r, cot b z d r * (c r * h r)
def gradW1 : EReal := ∑ r, up 2047 (cot b z d) r * (c r * h r)
def gradW0 : EReal := ∑ r, up 2046 (cot b z d) r * (c r * h r)

/-- The derivative of `z` times its logistic, times a real number. -/
theorem silu_eq (z : EReal) (P : ℝ) : (P : EReal) * Ideal.logistic z + z * P * (Ideal.logistic z * (1 - Ideal.logistic z))
    = P * (Ideal.logistic z * (1 + z * (1 - Ideal.logistic z))) := by
  have e1 : (1 : EReal) - 1 = 0 := by rw [← EReal.coe_one, ← EReal.coe_sub, sub_self]; rfl
  induction z with
  | bot => simp
  | coe t =>
    rw [Ideal.logistic_coe]
    norm_cast
    ring
  | top => simp [e1, mul_comm]

/-! ## The three results, as arrays -/

/-- Channel `k` of an array of `n` columns, as a column. -/
def colOf {n : ℕ} (X : (⟨2, ![2048, n]⟩ : Shape).Idx → EReal) (k : Fin n) (r : Fin 2048) : EReal := X (ix2 r k)

/-- The channel that column `n` of the packed layout holds: the four inputs stand in turn, 256 columns of each. -/
def channel (n : ℕ) (h : 4096 ≤ n ∧ n < 8192) : Fin 1024 := ⟨(n - 4096) / 1024 * 256 + n % 256, by omega⟩

variable (X : Fin 4 → (⟨2, ![2048, 1024]⟩ : Shape).Idx → EReal) (W : (⟨2, ![3, 1024]⟩ : Shape).Idx → EReal)
  (B : (⟨2, ![1, 1024]⟩ : Shape).Idx → EReal) (D : (⟨2, ![2048, 2048]⟩ : Shape).Idx → EReal)
  (P : (⟨2, ![2048, 8448]⟩ : Shape).Idx → EReal)

/-- The cotangent's column of channel `k`: the second half of its columns. -/
def colD (k : Fin 1024) : Fin 2048 → EReal := colOf D ⟨1024 + k.val, by omega⟩

/-- The gradient with respect to input `g` at channel `k`. -/
def grad (g : ℕ) (k : Fin 1024) : Fin 2048 → EReal :=
  match g with
  | 0 => gradB (colOf (X 1) k) (colOf (X 2) k) (colOf (X 3) k) (colD D k) (W (ix2 0 k)) (W (ix2 1 k)) (W (ix2 2 k)) (B (ix2 0 k))
  | 1 => gradC (colOf (X 0) k) (colOf (X 2) k) (colOf (X 3) k) (colD D k) (W (ix2 0 k)) (W (ix2 1 k)) (W (ix2 2 k))
  | 2 => gradH (colOf (X 0) k) (colOf (X 1) k) (colOf (X 3) k) (colD D k) (W (ix2 0 k)) (W (ix2 1 k)) (W (ix2 2 k))
  | _ => gradZ (colOf (X 0) k) (colOf (X 1) k) (colOf (X 2) k) (colOf (X 3) k) (colD D k) (W (ix2 0 k)) (W (ix2 1 k)) (W (ix2 2 k)) (B (ix2 0 k))

/-- The first result: the gradients with respect to the four inputs in their columns, the rest as it was. -/
def resP (i : (⟨2, ![2048, 8448]⟩ : Shape).Idx) : EReal :=
  if h : 4096 ≤ (i 1).val ∧ (i 1).val < 8192 then grad X W B D ((i 1).val / 256 % 4) (channel (i 1).val h) (i 0) else P i

/-- The second result: the gradient with respect to the taps. -/
def resW (i : (⟨2, ![3, 1024]⟩ : Shape).Idx) : EReal :=
  match (i 0).val with
  | 0 => gradW0 (colOf (X 0) (i 1)) (colOf (X 1) (i 1)) (colOf (X 2) (i 1)) (colOf (X 3) (i 1)) (colD D (i 1))
  | 1 => gradW1 (colOf (X 0) (i 1)) (colOf (X 1) (i 1)) (colOf (X 2) (i 1)) (colOf (X 3) (i 1)) (colD D (i 1))
  | _ => gradW2 (colOf (X 0) (i 1)) (colOf (X 1) (i 1)) (colOf (X 2) (i 1)) (colOf (X 3) (i 1)) (colD D (i 1))

/-- The third result: the gradient with respect to the bias. -/
def resB (i : (⟨2, ![1, 1024]⟩ : Shape).Idx) : EReal :=
  gradBias (colOf (X 0) (i 1)) (colOf (X 3) (i 1)) (colD D (i 1))

/-- The first result at a column of input `g`. -/
theorem resP_at (r : Fin 2048) (n : Fin 8448) (g : ℕ) (k : Fin 1024) (hn : 4096 ≤ n.val ∧ n.val < 8192) (hg : n.val / 256 % 4 = g)
    (hk : k.val = (n.val - 4096) / 1024 * 256 + n.val % 256) : resP X W B D P (ix2 r n) = grad X W B D g k r := by
  have e : channel n.val hn = k := Fin.ext hk.symm
  unfold resP
  rw [dif_pos (show 4096 ≤ ((ix2 r n : (⟨2, ![2048, 8448]⟩ : Shape).Idx) 1).val ∧ ((ix2 r n : (⟨2, ![2048, 8448]⟩ : Shape).Idx) 1).val < 8192 from hn)]
  change grad X W B D (n.val / 256 % 4) (channel n.val hn) r = _
  rw [e, hg]

/-- The first result outside the four inputs' columns. -/
theorem resP_off (r : Fin 2048) (n : Fin 8448) (hn : ¬(4096 ≤ n.val ∧ n.val < 8192)) : resP X W B D P (ix2 r n) = P (ix2 r n) := by
  unfold resP
  exact dif_neg hn

/-- The convolution's value is real where its input, taps and bias are. -/
theorem value_real (c h : Fin 2048 → EReal) (w0 w1 w2 bias : EReal) (hc : ∀ r, Reals.Is (c r)) (hh : ∀ r, Reals.Is (h r)) (h0 : Reals.Is w0)
    (h1 : Reals.Is w1) (h2 : Reals.Is w2) (hb : Reals.Is bias) (r : Fin 2048) : Reals.Is (value c h w0 w1 w2 bias r) := by
  have hu : ∀ r, Reals.Is (c r * h r) := fun r => (hc r).mul (hh r)
  unfold value
  refine (((h2.mul (hu r)).add (h1.mul ?_)).add (h0.mul ?_)).add hb
  · rw [down_eq 1 (by omega)]
    split
    · exact hu _
    · exact Reals.Is.zero
  · rw [down_eq 2 (by omega)]
    split
    · exact hu _
    · exact Reals.Is.zero

end Conv

end
-- ==== Proof.ConvPay.lean ====
module

public import proofs.«01_k».proof.Proof.Gen.ConvKernelIdeal.Frame
public import proofs.«01_k».proof.Proof.ConvForms
public import Idealize.ShloMosaic.Lib.Pipeline.ValueKit

/-!
What the convolution's backward kernel computes for one block of 128 channels, its two halves of 256 channels read as the
same functions of the block's columns.
-/

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen

/-- Lane `l` of a block of 128 lanes, as a column. -/
def col (X : FVec Ideal S2048x128 .f32) (l : Fin 128) (r : Fin 2048) : EReal := X (ix2 r l)

variable (b c h z d : FVec Ideal S2048x128 .f32) (w0 w1 w2 bias : FVec Ideal S1x128 .f32)

theorem gradB_0 (r : Fin 2048) (l : Fin 128) {c' : Fin 2048 → EReal} (hc : col c l = c') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') {bias' : EReal} (hbias : bias (ix2 0 l) = bias') :
    k0_pay14 (F := Ideal) (k0_pay7 z) d (k0_pay9 c h w2 w1 w0) (k0_pay10 bias) (ix2 r l)
    = _root_.Conv.gradB c' h' z' d' w0' w1' w2' bias' r := by
  rw [← hc, ← hh, ← hz, ← hd, ← hw0, ← hw1, ← hw2, ← hbias]
  pointwise [k0_pay14, k0_pay13, k0_pay12, k0_pay11, k0_pay10, k0_pay9, k0_pay8, k0_pay7, k0_pay6, k0_pay5,
    _root_.Conv.gradB, _root_.Conv.value, Taps.down, col]

theorem gradB_1 (r : Fin 2048) (l : Fin 128) {c' : Fin 2048 → EReal} (hc : col c l = c') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') {bias' : EReal} (hbias : bias (ix2 0 l) = bias') :
    k0_pay34 (F := Ideal) (k0_pay27 c) (k0_pay28 h) z d w2 w1 w0 bias (ix2 r l)
    = _root_.Conv.gradB c' h' z' d' w0' w1' w2' bias' r := by
  rw [← hc, ← hh, ← hz, ← hd, ← hw0, ← hw1, ← hw2, ← hbias]
  pointwise [k0_pay34, k0_pay33, k0_pay32, k0_pay31, k0_pay30, k0_pay29, k0_pay28, k0_pay27, k0_pay26,
    _root_.Conv.gradB, _root_.Conv.value, Taps.down, col]

theorem gradC_0 (r : Fin 2048) (l : Fin 128) {b' : Fin 2048 → EReal} (hb : col b l = b') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') :
    k0_pay24 (F := Ideal) (k0_pay6 h) (k0_pay16 (k0_pay4 b) (k0_pay7 z) d) (k0_pay18 (k0_pay4 b) (k0_pay7 z) d) (k0_pay19 (k0_pay4 b) (k0_pay7 z) d) w2 w1 w0 (ix2 r l)
    = _root_.Conv.gradC b' h' z' d' w0' w1' w2' r := by
  rw [← hb, ← hh, ← hz, ← hd, ← hw0, ← hw1, ← hw2]
  pointwise [k0_pay24, k0_pay23, k0_pay19, k0_pay18, k0_pay16, k0_pay13, k0_pay12, k0_pay7, k0_pay6, k0_pay4,
    _root_.Conv.gradC, _root_.Conv.cotIn, _root_.Conv.cot, Taps.up, col]

theorem gradC_1 (r : Fin 2048) (l : Fin 128) {b' : Fin 2048 → EReal} (hb : col b l = b') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') :
    k0_pay2 (F := Ideal) (k0_pay28 h) (k0_pay38 (k0_pay26 b) d (k0_pay33 z)) (k0_pay40 (k0_pay26 b) d (k0_pay33 z)) (k0_pay41 (k0_pay26 b) d (k0_pay33 z)) w2 w1 w0 (ix2 r l)
    = _root_.Conv.gradC b' h' z' d' w0' w1' w2' r := by
  rw [← hb, ← hh, ← hz, ← hd, ← hw0, ← hw1, ← hw2]
  pointwise [k0_pay2, k0_pay1, k0_pay38, k0_pay40, k0_pay41, k0_pay33, k0_pay32, k0_pay29, k0_pay28, k0_pay26,
    _root_.Conv.gradC, _root_.Conv.cotIn, _root_.Conv.cot, Taps.up, col]

theorem gradH_0 (r : Fin 2048) (l : Fin 128) {b' : Fin 2048 → EReal} (hb : col b l = b') {c' : Fin 2048 → EReal} (hc : col c l = c') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') :
    k0_pay25 (F := Ideal) (k0_pay5 c) (k0_pay16 (k0_pay4 b) (k0_pay7 z) d) (k0_pay18 (k0_pay4 b) (k0_pay7 z) d) (k0_pay19 (k0_pay4 b) (k0_pay7 z) d) w2 w1 w0 (ix2 r l)
    = _root_.Conv.gradH b' c' z' d' w0' w1' w2' r := by
  rw [← hb, ← hc, ← hz, ← hd, ← hw0, ← hw1, ← hw2]
  pointwise [k0_pay25, k0_pay23, k0_pay19, k0_pay18, k0_pay16, k0_pay13, k0_pay12, k0_pay7, k0_pay5, k0_pay4,
    _root_.Conv.gradH, _root_.Conv.cotIn, _root_.Conv.cot, Taps.up, col]

theorem gradH_1 (r : Fin 2048) (l : Fin 128) {b' : Fin 2048 → EReal} (hb : col b l = b') {c' : Fin 2048 → EReal} (hc : col c l = c') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') :
    k0_pay3 (F := Ideal) (k0_pay27 c) (k0_pay38 (k0_pay26 b) d (k0_pay33 z)) (k0_pay40 (k0_pay26 b) d (k0_pay33 z)) (k0_pay41 (k0_pay26 b) d (k0_pay33 z)) w2 w1 w0 (ix2 r l)
    = _root_.Conv.gradH b' c' z' d' w0' w1' w2' r := by
  rw [← hb, ← hc, ← hz, ← hd, ← hw0, ← hw1, ← hw2]
  pointwise [k0_pay3, k0_pay1, k0_pay38, k0_pay40, k0_pay41, k0_pay33, k0_pay32, k0_pay29, k0_pay27, k0_pay26,
    _root_.Conv.gradH, _root_.Conv.cotIn, _root_.Conv.cot, Taps.up, col]

theorem gradZ_0 (r : Fin 2048) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') {bias' : EReal} (hbias : bias (ix2 0 l) = bias') :
    k0_pay15 (F := Ideal) (k0_pay4 b) (k0_pay7 z) d (k0_pay9 c h w2 w1 w0) (k0_pay10 bias) (ix2 r l)
    = _root_.Conv.gradZ b' c' h' z' d' w0' w1' w2' bias' r := by
  rw [← hb, ← hc, ← hh, ← hz, ← hd, ← hw0, ← hw1, ← hw2, ← hbias]
  pointwise [k0_pay15, k0_pay13, k0_pay12, k0_pay11, k0_pay10, k0_pay9, k0_pay8, k0_pay7, k0_pay6, k0_pay5, k0_pay4,
    _root_.Conv.gradZ, _root_.Conv.value, Taps.down, col]

theorem gradZ_1 (r : Fin 2048) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') {w0' : EReal} (hw0 : w0 (ix2 0 l) = w0') {w1' : EReal} (hw1 : w1 (ix2 0 l) = w1') {w2' : EReal} (hw2 : w2 (ix2 0 l) = w2') {bias' : EReal} (hbias : bias (ix2 0 l) = bias') :
    k0_pay37 (F := Ideal) (k0_pay29 z) (k0_pay32 z) (k0_pay35 (k0_pay26 b) (k0_pay27 c) (k0_pay28 h) d w2 w1 w0 bias) (k0_pay36 z) (ix2 r l)
    = _root_.Conv.gradZ b' c' h' z' d' w0' w1' w2' bias' r := by
  rw [← hb, ← hc, ← hh, ← hz, ← hd, ← hw0, ← hw1, ← hw2, ← hbias]
  pointwise [k0_pay37, k0_pay36, k0_pay35, k0_pay32, k0_pay31, k0_pay30, k0_pay29, k0_pay28, k0_pay27, k0_pay26,
    _root_.Conv.gradZ, _root_.Conv.value, Taps.down, col]

theorem gradBias_0 (q : Fin 1) (l : Fin 128) {b' : Fin 2048 → EReal} (hb : col b l = b') {z' : Fin 2048 → EReal} (hz : col z l = z') {d' : Fin 2048 → EReal} (hd : col d l = d') :
    k0_pay17 (F := Ideal) (k0_pay4 b) (k0_pay7 z) d (ix2 q l)
    = _root_.Conv.gradBias b' z' d' := by
  rw [← hb, ← hz, ← hd]
  pointwise [k0_pay17, k0_pay16, k0_pay13, k0_pay12, k0_pay7, k0_pay4,
    _root_.Conv.gradBias, _root_.Conv.cot, col]

theorem gradBias_1 (q : Fin 1) (l : Fin 128) {b' : Fin 2048 → EReal} (hb : col b l = b') {z' : Fin 2048 → EReal} (hz : col z l = z') {d' : Fin 2048 → EReal} (hd : col d l = d') :
    k0_pay39 (F := Ideal) (k0_pay26 b) d (k0_pay33 z) (ix2 q l)
    = _root_.Conv.gradBias b' z' d' := by
  rw [← hb, ← hz, ← hd]
  pointwise [k0_pay39, k0_pay38, k0_pay33, k0_pay32, k0_pay29, k0_pay26,
    _root_.Conv.gradBias, _root_.Conv.cot, col]

theorem gradW2_0 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay20 (F := Ideal) (k0_pay4 b) (k0_pay7 z) d (k0_pay8 c h) (ix2 q l)
    = _root_.Conv.gradW2 b' c' h' z' d' := by
  rw [← hb, ← hc, ← hh, ← hz, ← hd]
  pointwise [k0_pay20, k0_pay16, k0_pay13, k0_pay12, k0_pay8, k0_pay7, k0_pay6, k0_pay5, k0_pay4,
    _root_.Conv.gradW2, _root_.Conv.cot, col]

theorem gradW2_1 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay42 (F := Ideal) (k0_pay26 b) d (k0_pay30 (k0_pay27 c) (k0_pay28 h)) (k0_pay33 z) (ix2 q l)
    = _root_.Conv.gradW2 b' c' h' z' d' := by
  rw [← hb, ← hc, ← hh, ← hz, ← hd]
  pointwise [k0_pay42, k0_pay38, k0_pay33, k0_pay32, k0_pay30, k0_pay29, k0_pay28, k0_pay27, k0_pay26,
    _root_.Conv.gradW2, _root_.Conv.cot, col]

theorem gradW1_0 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay21 (F := Ideal) (k0_pay8 c h) (k0_pay18 (k0_pay4 b) (k0_pay7 z) d) (ix2 q l)
    = _root_.Conv.gradW1 b' c' h' z' d' := by
  rw [← hb, ← hc, ← hh, ← hz, ← hd]
  pointwise [k0_pay21, k0_pay18, k0_pay16, k0_pay13, k0_pay12, k0_pay8, k0_pay7, k0_pay6, k0_pay5, k0_pay4,
    _root_.Conv.gradW1, _root_.Conv.cot, Taps.up, col]

theorem gradW1_1 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay43 (F := Ideal) (k0_pay26 b) d (k0_pay30 (k0_pay27 c) (k0_pay28 h)) (k0_pay33 z) (ix2 q l)
    = _root_.Conv.gradW1 b' c' h' z' d' := by
  rw [← hb, ← hc, ← hh, ← hz, ← hd]
  pointwise [k0_pay43, k0_pay40, k0_pay38, k0_pay33, k0_pay32, k0_pay30, k0_pay29, k0_pay28, k0_pay27, k0_pay26,
    _root_.Conv.gradW1, _root_.Conv.cot, Taps.up, col]

theorem gradW0_0 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay22 (F := Ideal) (k0_pay8 c h) (k0_pay19 (k0_pay4 b) (k0_pay7 z) d) (ix2 q l)
    = _root_.Conv.gradW0 b' c' h' z' d' := by
  rw [← hb, ← hc, ← hh, ← hz, ← hd]
  pointwise [k0_pay22, k0_pay19, k0_pay16, k0_pay13, k0_pay12, k0_pay8, k0_pay7, k0_pay6, k0_pay5, k0_pay4,
    _root_.Conv.gradW0, _root_.Conv.cot, Taps.up, col]

theorem gradW0_1 (q : Fin 1) (l : Fin 128) {b' : Fin 2048 → EReal} (hb : col b l = b') {c' : Fin 2048 → EReal} (hc : col c l = c') {h' : Fin 2048 → EReal} (hh : col h l = h') {z' : Fin 2048 → EReal} (hz : col z l = z') {d' : Fin 2048 → EReal} (hd : col d l = d') :
    k0_pay44 (F := Ideal) (k0_pay26 b) d (k0_pay30 (k0_pay27 c) (k0_pay28 h)) (k0_pay33 z) (ix2 q l)
    = _root_.Conv.gradW0 b' c' h' z' d' := by
  rw [← hb, ← hc, ← hh, ← hz, ← hd]
  pointwise [k0_pay44, k0_pay41, k0_pay38, k0_pay33, k0_pay32, k0_pay30, k0_pay29, k0_pay28, k0_pay27, k0_pay26,
    _root_.Conv.gradW0, _root_.Conv.cot, Taps.up, col]

end Cert.ConvKernelIdeal.Conv

end
-- ==== Proof.ConvKernel.lean ====
module

public import proofs.«01_k».proof.Proof.Gen.ConvKernelIdeal.Frame
public import proofs.«01_k».proof.Proof.ConvPay
public import Idealize.ShloMosaic.Lib.Pipeline.ValueKit

/-!
The arrays the convolution's backward kernel reads: the projection the host lays out, and the columns of its blocks.
-/

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen

variable (m : (ℓ : Loc nD τ sig) → Buf (Elt Ideal) ℓ)

/-- The four inputs: `B`, `C`, `h` and the gate `z`. -/
def inputs (c : Dev nD) (g : Fin 4) : FVec Ideal S2048x1024 .f32 :=
  match g with
  | 0 => m ((c.tc : Thread nD τ).loc main_arg0)
  | 1 => m ((c.tc : Thread nD τ).loc main_arg1)
  | 2 => m ((c.tc : Thread nD τ).loc main_arg2)
  | 3 => m ((c.tc : Thread nD τ).loc main_arg3)

theorem inputs_at (c : Dev nD) (n : ℕ) (k : Fin 4) (h : n % 4 = k.val) (j : S2048x1024.Idx) :
    inputs m c ⟨n % 4, Nat.mod_lt _ (by decide)⟩ j = inputs m c k j := by
  have e : (⟨n % 4, Nat.mod_lt _ (by decide)⟩ : Fin 4) = k := Fin.ext h
  rw [e]

set_option maxRecDepth 200000 in
set_option maxHeartbeats 1000000 in
/-- Column `n` of the laid out projection is the channel of the input it holds. -/
theorem proj_at (c : Dev nD) (i : S2048x8448.Idx) (h : 4096 ≤ (i 1 : ℕ) ∧ (i 1 : ℕ) < 8192) :
    V m c main_v10 i = inputs m c ⟨(i 1 : ℕ) / 256 % 4, Nat.mod_lt _ (by decide)⟩ (ix2 (i 0) (_root_.Conv.channel (i 1) h)) := by
  idx_vars i
  change 4096 ≤ i1.val ∧ i1.val < 8192 at h
  generalize hr : inputs m c _ _ = rhs
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  have hc : 4096 ≤ (i1 : ℕ) ∧ (i1 : ℕ) - 4096 < 4096 := by omega
  rw [dif_pos hc]
  have e : (i1.val - 4096) / 256 % 4 = i1.val / 256 % 4 := by omega
  have e' : (i1.val - 4096) / 1024 * 256 + i1.val % 256 = (i1.val - 4096) / 1024 * 256 + (i1.val - 4096) % 256 := by omega
  have hg : i1.val / 256 % 4 = 0 ∨ i1.val / 256 % 4 = 1 ∨ i1.val / 256 % 4 = 2 ∨ i1.val / 256 % 4 = 3 := by omega
  rcases hg with hg | hg | hg | hg
  · rw [inputs_at m c _ 0 hg] at hr
    dsimp only [inputs, _root_.Conv.channel] at hr
    simp only [e'] at hr
    rw [dif_pos (by omega)]
    after_results_simp; pointwise
    exact hr
  · rw [inputs_at m c _ 1 hg] at hr
    dsimp only [inputs, _root_.Conv.channel] at hr
    simp only [e'] at hr
    rw [dif_neg (by omega), dif_pos (by omega)]
    after_results_simp; pointwise
    exact hr
  · rw [inputs_at m c _ 2 hg] at hr
    dsimp only [inputs, _root_.Conv.channel] at hr
    simp only [e'] at hr
    rw [dif_neg (by omega), dif_neg (by omega), dif_pos (by omega)]
    after_results_simp; pointwise
    exact hr
  · rw [inputs_at m c _ 3 hg] at hr
    dsimp only [inputs, _root_.Conv.channel] at hr
    simp only [e'] at hr
    rw [dif_neg (by omega), dif_neg (by omega), dif_neg (by omega)]
    after_results_simp; pointwise
    exact hr

/-- The block each window holds at a grid point. -/
theorem idx : ∀ t : Fin cfg0.N, win0_0.index t = ![0, 4 + t.val]
    ∧ win0_1.index t = ![0, t.val]
    ∧ win0_2.index t = ![0, t.val]
    ∧ win0_3.index t = ![0, 4 + t.val]
    ∧ win0_4.index t = ![0, 4 + t.val]
    ∧ win0_5.index t = ![0, t.val]
    ∧ win0_6.index t = ![0, t.val] :=
  (by decide +kernel : ∀ t : Fin grid0.N, _)

theorem lt_4 (t : Fin cfg0.N) : t.val < 4 := lt_of_lt_of_eq t.isLt N_0

/-- The projection's block at a grid point. -/
theorem X0_at (c : Dev nD) (t : Fin cfg0.N) (j : S2048x1024.Idx) : X0_0 m c t j
    = V m c main_v10 (ix2 (j 0) ⟨4096 + 1024 * t.val + (j 1).val, by
        have := (j 1).isLt; have := lt_4 t; change (j 1).val < 1024 at *; omega⟩) := by
  unfold X0_0 Pipeline.Window.fill
  rw [dif_pos (moved0_0 t j)]
  unfold iblk
  blk_point [iblk, V, idx t]

/-- A column of 128 lanes loaded from the projection's block is a channel of an input. -/
theorem col_proj (c : Dev nD) (t : Fin cfg0.N) (a : ℕ) (hb) (l : Fin 128) (g : Fin 4) (k : Fin 1024)
    (hg : (a + l.val) / 256 = g.val) (hk : k.val = 256 * t.val + (a + l.val) % 256) :
    col (View.ld (X0_0 m c t) (Rect.unit ![0, a] ![2048, 128] hb)) l = _root_.Conv.colOf (inputs m c g) k := by
  have ht := lt_4 t
  have hl := l.isLt
  have hgl := g.isLt
  funext r
  unfold col _root_.Conv.colOf
  refine (View.ld_unit_apply_of (S := S2048x1024) (X0_0 m c t) ![0, a] ![2048, 128] hb (ix2 r l) (ix2 r ⟨a + l.val, by omega⟩)
    (by intro q; fin_cases q <;> simp)).trans ?_
  refine (X0_at m c t _).trans ((proj_at m c (ix2 r (⟨4096 + 1024 * t.val + (a + l.val), by omega⟩ : Fin 8448))
    (show 4096 ≤ 4096 + 1024 * t.val + (a + l.val) ∧ 4096 + 1024 * t.val + (a + l.val) < 8192 by omega)).trans
    ((inputs_at m c ((4096 + 1024 * t.val + (a + l.val)) / 256) g ?_ _).trans ?_))
  · change (4096 + 1024 * t.val + (a + l.val)) / 256 % 4 = g.val
    omega
  · congr 2
    apply Fin.ext
    change (4096 + 1024 * t.val + (a + l.val) - 4096) / 1024 * 256 + (4096 + 1024 * t.val + (a + l.val)) % 256 = k.val
    omega

/-- A column of 128 lanes loaded from the cotangent's block. -/
theorem col_cot (c : Dev nD) (t : Fin cfg0.N) (a : ℕ) (hb) (l : Fin 128) (k : Fin 1024)
    (ha : a + l.val < 256) (hk : k.val = 256 * t.val + (a + l.val)) :
    col (View.ld (iblk m c 3 t) (Rect.unit ![0, a] ![2048, 128] hb)) l
      = _root_.Conv.colD (m ((c.tc : Thread nD τ).loc main_arg6)) k := by
  have ht := lt_4 t
  have hl := l.isLt
  funext r
  unfold col _root_.Conv.colD _root_.Conv.colOf
  refine (View.ld_unit_apply_of (S := S2048x256) (iblk m c 3 t) ![0, a] ![2048, 128] hb (ix2 r l) (ix2 r ⟨a + l.val, ha⟩)
    (by intro q; fin_cases q <;> simp)).trans ?_
  blk_point [iblk, V, idx t]

/-- A lane loaded from the taps' block. -/
theorem tap_at (c : Dev nD) (t : Fin cfg0.N) (n : ℕ) (q : Fin 3) (a : ℕ) (hb) (l : Fin 128) (k : Fin 1024)
    (ha : a + l.val < 256) (hk : k.val = 256 * t.val + (a + l.val)) (hq : q.val = n) :
    View.ld (iblk m c 1 t) (Rect.unit ![n, a] ![1, 128] hb) (ix2 (0 : Fin 1) l)
      = m ((c.tc : Thread nD τ).loc main_arg4) (ix2 q k) := by
  have ht := lt_4 t
  refine (View.ld_unit_apply_of (S := S3x256) (iblk m c 1 t) ![n, a] ![1, 128] hb (ix2 (0 : Fin 1) l) (ix2 q ⟨a + l.val, ha⟩)
    (by intro q; fin_cases q <;> simp [hq])).trans ?_
  blk_point [iblk, V, idx t]

/-- A lane loaded from the bias' block. -/
theorem bias_at (c : Dev nD) (t : Fin cfg0.N) (a : ℕ) (hb) (l : Fin 128) (k : Fin 1024)
    (ha : a + l.val < 256) (hk : k.val = 256 * t.val + (a + l.val)) :
    View.ld (iblk m c 2 t) (Rect.unit ![0, a] ![1, 128] hb) (ix2 (0 : Fin 1) l)
      = m ((c.tc : Thread nD τ).loc main_arg5) (ix2 0 k) := by
  have ht := lt_4 t
  refine (View.ld_unit_apply_of (S := S1x256) (iblk m c 2 t) ![0, a] ![1, 128] hb (ix2 (0 : Fin 1) l) (ix2 (0 : Fin 1) ⟨a + l.val, ha⟩)
    (by intro q; fin_cases q <;> simp)).trans ?_
  blk_point [iblk, V, idx t]

/-- The columns the block's first half reads at lane `l`. -/
theorem cols_0 (c : Dev nD) (t : Fin cfg0.N) (l : Fin 128) (k : Fin 1024) (hk : k.val = 256 * t.val + (0 + l.val)) :
    col (View.ld (X0_0 m c t) (Rect.unit ![0, 0] ![2048, 128] inb_S2048x1024_S2048x128_0_0)) l = _root_.Conv.colOf (inputs m c 0) k
    ∧ col (View.ld (X0_0 m c t) (Rect.unit ![0, 256] ![2048, 128] inb_S2048x1024_S2048x128_0_256)) l = _root_.Conv.colOf (inputs m c 1) k
    ∧ col (View.ld (X0_0 m c t) (Rect.unit ![0, 512] ![2048, 128] inb_S2048x1024_S2048x128_0_512)) l = _root_.Conv.colOf (inputs m c 2) k
    ∧ col (View.ld (X0_0 m c t) (Rect.unit ![0, 768] ![2048, 128] inb_S2048x1024_S2048x128_0_768)) l = _root_.Conv.colOf (inputs m c 3) k
    ∧ col (View.ld (iblk m c 3 t) (Rect.unit ![0, 0] ![2048, 128] inb_S2048x256_S2048x128_0_0)) l = _root_.Conv.colD (m ((c.tc : Thread nD τ).loc main_arg6)) k
    ∧ View.ld (iblk m c 1 t) (Rect.unit ![0, 0] ![1, 128] inb_S3x256_S1x128_0_0) (ix2 (0 : Fin 1) l) = m ((c.tc : Thread nD τ).loc main_arg4) (ix2 0 k)
    ∧ View.ld (iblk m c 1 t) (Rect.unit ![1, 0] ![1, 128] inb_S3x256_S1x128_1_0) (ix2 (0 : Fin 1) l) = m ((c.tc : Thread nD τ).loc main_arg4) (ix2 1 k)
    ∧ View.ld (iblk m c 1 t) (Rect.unit ![2, 0] ![1, 128] inb_S3x256_S1x128_2_0) (ix2 (0 : Fin 1) l) = m ((c.tc : Thread nD τ).loc main_arg4) (ix2 2 k)
    ∧ View.ld (iblk m c 2 t) (Rect.unit ![0, 0] ![1, 128] inb_S1x256_S1x128_0_0) (ix2 (0 : Fin 1) l) = m ((c.tc : Thread nD τ).loc main_arg5) (ix2 0 k) := by
  have hl := l.isLt
  exact ⟨col_proj m c t 0 _ l 0 k (by show (0 + l.val) / 256 = 0; omega) (by omega),
    col_proj m c t 256 _ l 1 k (by show (256 + l.val) / 256 = 1; omega) (by omega),
    col_proj m c t 512 _ l 2 k (by show (512 + l.val) / 256 = 2; omega) (by omega),
    col_proj m c t 768 _ l 3 k (by show (768 + l.val) / 256 = 3; omega) (by omega),
    col_cot m c t 0 _ l k (by omega) (by omega),
    tap_at m c t 0 0 0 _ l k (by omega) (by omega) rfl,
    tap_at m c t 1 1 0 _ l k (by omega) (by omega) rfl,
    tap_at m c t 2 2 0 _ l k (by omega) (by omega) rfl,
    bias_at m c t 0 _ l k (by omega) (by omega)⟩

/-- The columns the block's second half reads at lane `l`. -/
theorem cols_1 (c : Dev nD) (t : Fin cfg0.N) (l : Fin 128) (k : Fin 1024) (hk : k.val = 256 * t.val + (128 + l.val)) :
    col (View.ld (X0_0 m c t) (Rect.unit ![0, 128] ![2048, 128] inb_S2048x1024_S2048x128_0_128)) l = _root_.Conv.colOf (inputs m c 0) k
    ∧ col (View.ld (X0_0 m c t) (Rect.unit ![0, 384] ![2048, 128] inb_S2048x1024_S2048x128_0_384)) l = _root_.Conv.colOf (inputs m c 1) k
    ∧ col (View.ld (X0_0 m c t) (Rect.unit ![0, 640] ![2048, 128] inb_S2048x1024_S2048x128_0_640)) l = _root_.Conv.colOf (inputs m c 2) k
    ∧ col (View.ld (X0_0 m c t) (Rect.unit ![0, 896] ![2048, 128] inb_S2048x1024_S2048x128_0_896)) l = _root_.Conv.colOf (inputs m c 3) k
    ∧ col (View.ld (iblk m c 3 t) (Rect.unit ![0, 128] ![2048, 128] inb_S2048x256_S2048x128_0_128)) l = _root_.Conv.colD (m ((c.tc : Thread nD τ).loc main_arg6)) k
    ∧ View.ld (iblk m c 1 t) (Rect.unit ![0, 128] ![1, 128] inb_S3x256_S1x128_0_128) (ix2 (0 : Fin 1) l) = m ((c.tc : Thread nD τ).loc main_arg4) (ix2 0 k)
    ∧ View.ld (iblk m c 1 t) (Rect.unit ![1, 128] ![1, 128] inb_S3x256_S1x128_1_128) (ix2 (0 : Fin 1) l) = m ((c.tc : Thread nD τ).loc main_arg4) (ix2 1 k)
    ∧ View.ld (iblk m c 1 t) (Rect.unit ![2, 128] ![1, 128] inb_S3x256_S1x128_2_128) (ix2 (0 : Fin 1) l) = m ((c.tc : Thread nD τ).loc main_arg4) (ix2 2 k)
    ∧ View.ld (iblk m c 2 t) (Rect.unit ![0, 128] ![1, 128] inb_S1x256_S1x128_0_128) (ix2 (0 : Fin 1) l) = m ((c.tc : Thread nD τ).loc main_arg5) (ix2 0 k) := by
  have hl := l.isLt
  exact ⟨col_proj m c t 128 _ l 0 k (by show (128 + l.val) / 256 = 0; omega) (by omega),
    col_proj m c t 384 _ l 1 k (by show (384 + l.val) / 256 = 1; omega) (by omega),
    col_proj m c t 640 _ l 2 k (by show (640 + l.val) / 256 = 2; omega) (by omega),
    col_proj m c t 896 _ l 3 k (by show (896 + l.val) / 256 = 3; omega) (by omega),
    col_cot m c t 128 _ l k (by omega) (by omega),
    tap_at m c t 0 0 128 _ l k (by omega) (by omega) rfl,
    tap_at m c t 1 1 128 _ l k (by omega) (by omega) rfl,
    tap_at m c t 2 2 128 _ l k (by omega) (by omega) rfl,
    bias_at m c t 128 _ l k (by omega) (by omega)⟩

end Cert.ConvKernelIdeal.Conv

end
-- ==== Proof.ConvFinal.lean ====
module

public import proofs.«01_k».proof.Proof.Idx2
public import proofs.«01_k».proof.Proof.Gen.ConvKernelIdeal.Frame
public import proofs.«01_k».proof.Proof.ConvKernel
public import Idealize.ShloMosaic.Lib.Pipeline.ValueKit

/-!
The second and third results of the convolution's backward kernel after the run.
-/

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen
open Idx2 (emb_eq)

variable (m : (ℓ : Loc nD τ sig) → Buf (Elt Ideal) ℓ)

/-- The third result after the run: the bias' gradient. -/
theorem final_6 (c : Dev nD) : (dats m 0 c).arrAt 6 (cfgs 0).N
    = _root_.Conv.resB (inputs m c) (m ((c.tc : Thread nD τ).loc main_arg6)) := by
  refine (dats m 0 c).arrAt_eq_of_covers 6 _ (by decide +kernel) fun t hf y => ?_
  have ht := lt_4 t
  blk_simp; rw [after0_6]
  unfold outsAt0
  dsimp only; frame_out
  canon_tiles x h
  · idx_vars x
    obtain ⟨k, hk⟩ : ∃ k : Fin 1024, k.val = 256 * t.val + (128 + x1.val) := ⟨⟨256 * t.val + (128 + x1.val), by omega⟩, rfl⟩
    obtain ⟨e0, e1, e2, e3, ed, t0, t1, t2, eb⟩ := cols_1 m c t x1 k hk
    refine (gradBias_1 _ _ _ x0 x1 e0 e3 ed).trans ?_
    rw [show ((View.whole main_v11_2).slice (win0_6.rect t)).emb y = ix2 (0 : Fin 1) k from
      emb_eq _ _ _ (by blk_simp [idx t] <;> omega) (by blk_simp [idx t] <;> omega)]
    rfl
  · idx_vars x
    obtain ⟨k, hk⟩ : ∃ k : Fin 1024, k.val = 256 * t.val + (0 + x1.val) := ⟨⟨256 * t.val + (0 + x1.val), by omega⟩, rfl⟩
    obtain ⟨e0, e1, e2, e3, ed, t0, t1, t2, eb⟩ := cols_0 m c t x1 k hk
    refine (gradBias_0 _ _ _ x0 x1 e0 e3 ed).trans ?_
    rw [show ((View.whole main_v11_2).slice (win0_6.rect t)).emb y = ix2 (0 : Fin 1) k from
      emb_eq _ _ _ (by blk_simp [idx t] <;> omega) (by blk_simp [idx t] <;> omega)]
    rfl

/-- The second result after the run: the taps' gradient. -/
theorem final_5 (c : Dev nD) : (dats m 0 c).arrAt 5 (cfgs 0).N
    = _root_.Conv.resW (inputs m c) (m ((c.tc : Thread nD τ).loc main_arg6)) := by
  refine (dats m 0 c).arrAt_eq_of_covers 5 _ (by decide +kernel) fun t hf y => ?_
  have ht := lt_4 t
  blk_simp; rw [after0_5]
  unfold outsAt0
  dsimp only; frame_out
  canon_tiles x h
  · idx_vars x
    obtain ⟨k, hk⟩ : ∃ k : Fin 1024, k.val = 256 * t.val + (128 + x1.val) := ⟨⟨256 * t.val + (128 + x1.val), by omega⟩, rfl⟩
    obtain ⟨e0, e1, e2, e3, ed, t0, t1, t2, eb⟩ := cols_1 m c t x1 k hk
    refine (gradW0_1 _ _ _ _ _ x0 x1 e0 e1 e2 e3 ed).trans ?_
    rw [show ((View.whole main_v11_1).slice (win0_5.rect t)).emb y = ix2 (0 : Fin 3) k from
      emb_eq _ _ _ (by blk_simp [idx t] <;> omega) (by blk_simp [idx t] <;> omega)]
    rfl
  · idx_vars x
    obtain ⟨k, hk⟩ : ∃ k : Fin 1024, k.val = 256 * t.val + (128 + x1.val) := ⟨⟨256 * t.val + (128 + x1.val), by omega⟩, rfl⟩
    obtain ⟨e0, e1, e2, e3, ed, t0, t1, t2, eb⟩ := cols_1 m c t x1 k hk
    refine (gradW1_1 _ _ _ _ _ x0 x1 e0 e1 e2 e3 ed).trans ?_
    rw [show ((View.whole main_v11_1).slice (win0_5.rect t)).emb y = ix2 (1 : Fin 3) k from
      emb_eq _ _ _ (by blk_simp [idx t] <;> omega) (by blk_simp [idx t] <;> omega)]
    rfl
  · idx_vars x
    obtain ⟨k, hk⟩ : ∃ k : Fin 1024, k.val = 256 * t.val + (128 + x1.val) := ⟨⟨256 * t.val + (128 + x1.val), by omega⟩, rfl⟩
    obtain ⟨e0, e1, e2, e3, ed, t0, t1, t2, eb⟩ := cols_1 m c t x1 k hk
    refine (gradW2_1 _ _ _ _ _ x0 x1 e0 e1 e2 e3 ed).trans ?_
    rw [show ((View.whole main_v11_1).slice (win0_5.rect t)).emb y = ix2 (2 : Fin 3) k from
      emb_eq _ _ _ (by blk_simp [idx t] <;> omega) (by blk_simp [idx t] <;> omega)]
    rfl
  · idx_vars x
    obtain ⟨k, hk⟩ : ∃ k : Fin 1024, k.val = 256 * t.val + (0 + x1.val) := ⟨⟨256 * t.val + (0 + x1.val), by omega⟩, rfl⟩
    obtain ⟨e0, e1, e2, e3, ed, t0, t1, t2, eb⟩ := cols_0 m c t x1 k hk
    refine (gradW0_0 _ _ _ _ _ x0 x1 e0 e1 e2 e3 ed).trans ?_
    rw [show ((View.whole main_v11_1).slice (win0_5.rect t)).emb y = ix2 (0 : Fin 3) k from
      emb_eq _ _ _ (by blk_simp [idx t] <;> omega) (by blk_simp [idx t] <;> omega)]
    rfl
  · idx_vars x
    obtain ⟨k, hk⟩ : ∃ k : Fin 1024, k.val = 256 * t.val + (0 + x1.val) := ⟨⟨256 * t.val + (0 + x1.val), by omega⟩, rfl⟩
    obtain ⟨e0, e1, e2, e3, ed, t0, t1, t2, eb⟩ := cols_0 m c t x1 k hk
    refine (gradW1_0 _ _ _ _ _ x0 x1 e0 e1 e2 e3 ed).trans ?_
    rw [show ((View.whole main_v11_1).slice (win0_5.rect t)).emb y = ix2 (1 : Fin 3) k from
      emb_eq _ _ _ (by blk_simp [idx t] <;> omega) (by blk_simp [idx t] <;> omega)]
    rfl
  · idx_vars x
    obtain ⟨k, hk⟩ : ∃ k : Fin 1024, k.val = 256 * t.val + (0 + x1.val) := ⟨⟨256 * t.val + (0 + x1.val), by omega⟩, rfl⟩
    obtain ⟨e0, e1, e2, e3, ed, t0, t1, t2, eb⟩ := cols_0 m c t x1 k hk
    refine (gradW2_0 _ _ _ _ _ x0 x1 e0 e1 e2 e3 ed).trans ?_
    rw [show ((View.whole main_v11_1).slice (win0_5.rect t)).emb y = ix2 (2 : Fin 3) k from
      emb_eq _ _ _ (by blk_simp [idx t] <;> omega) (by blk_simp [idx t] <;> omega)]
    rfl

end Cert.ConvKernelIdeal.Conv

end
-- ==== Proof.ConvGrads.lean ====
module

public import proofs.«01_k».proof.Proof.Gen.ConvKernelIdeal.Frame
public import proofs.«01_k».proof.Proof.ConvFinal
public import Idealize.ShloMosaic.Lib.Pipeline.ValueKit

/-!
The first result of the convolution's backward kernel after the run.
-/

@[expose] public section

set_option maxRecDepth 16384

noncomputable section

open Idealize.ShloMosaic Idealize.ShloMosaic.TcCoe Idealize.SL.Sem
open Idealize.ShloMosaic.Pipeline (Dat)
open scoped BigOperators

namespace Cert.ConvKernelIdeal.Conv

open Cert.ConvKernelIdeal Cert.ConvKernelIdeal.Gen
open Idx2 (emb_eq)

variable (m : (ℓ : Loc nD τ sig) → Buf (Elt Ideal) ℓ)

set_option maxHeartbeats 4000000 in
/-- The first result after the run: the four inputs' gradients in their columns, the rest as the caller left it. -/
theorem final_4 (c : Dev nD) : (dats m 0 c).arrAt 4 (cfgs 0).N
    = _root_.Conv.resP (inputs m c) (m ((c.tc : Thread nD τ).loc main_arg4)) (m ((c.tc : Thread nD τ).loc main_arg5))
        (m ((c.tc : Thread nD τ).loc main_arg6)) (m ((c.tc : Thread nD τ).loc main_arg7)) := by
  have hA := (dats m 0 c).arrAt_eq_of_coversWhere 4 (_root_.Conv.resP (inputs m c) (m ((c.tc : Thread nD τ).loc main_arg4)) (m ((c.tc : Thread nD τ).loc main_arg5))
        (m ((c.tc : Thread nD τ).loc main_arg6)) (m ((c.tc : Thread nD τ).loc main_arg7)))
      (P := fun i => 4 ≤ (i (1 : Fin 2) : ℕ) / 1024 ∧ (i (1 : Fin 2) : ℕ) / 1024 < 8)
      (fun β => 4 ≤ β (1 : Fin 2) ∧ β (1 : Fin 2) < 8) (by decide +kernel) (fun t hf y => ?_)
      (fun j => Iff.rfl)
  · rw [hA]
    funext i
    by_cases hi : 4 ≤ (i (1 : Fin 2) : ℕ) / 1024 ∧ (i (1 : Fin 2) : ℕ) / 1024 < 8
    · exact if_pos hi
    · refine (if_neg hi).trans ?_
      unfold _root_.Conv.resP
      rw [dif_neg (by omega)]
      rfl
  have ht := lt_4 t
  blk_simp; rw [after0_4]
  unfold outsAt0
  dsimp only; frame_out
  canon_tiles x h
  · idx_vars x
    obtain ⟨k, hk⟩ : ∃ k : Fin 1024, k.val = 256 * t.val + (128 + x1.val) := ⟨⟨256 * t.val + (128 + x1.val), by omega⟩, rfl⟩
    obtain ⟨n, hn⟩ : ∃ n : Fin 8448, n.val = 4096 + 1024 * t.val + (640 + x1.val) :=
      ⟨⟨4096 + 1024 * t.val + (640 + x1.val), by omega⟩, rfl⟩
    obtain ⟨e0, e1, e2, e3, ed, t0, t1, t2, eb⟩ := cols_1 m c t x1 k hk
    refine (gradH_1 _ _ _ _ _ _ _ x0 x1 e0 e1 e3 ed t0 t1 t2).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 2 k (by omega) (by omega) (by omega)).symm
  · idx_vars x
    obtain ⟨k, hk⟩ : ∃ k : Fin 1024, k.val = 256 * t.val + (128 + x1.val) := ⟨⟨256 * t.val + (128 + x1.val), by omega⟩, rfl⟩
    obtain ⟨n, hn⟩ : ∃ n : Fin 8448, n.val = 4096 + 1024 * t.val + (384 + x1.val) :=
      ⟨⟨4096 + 1024 * t.val + (384 + x1.val), by omega⟩, rfl⟩
    obtain ⟨e0, e1, e2, e3, ed, t0, t1, t2, eb⟩ := cols_1 m c t x1 k hk
    refine (gradC_1 _ _ _ _ _ _ _ x0 x1 e0 e2 e3 ed t0 t1 t2).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 1 k (by omega) (by omega) (by omega)).symm
  · idx_vars x
    obtain ⟨k, hk⟩ : ∃ k : Fin 1024, k.val = 256 * t.val + (128 + x1.val) := ⟨⟨256 * t.val + (128 + x1.val), by omega⟩, rfl⟩
    obtain ⟨n, hn⟩ : ∃ n : Fin 8448, n.val = 4096 + 1024 * t.val + (896 + x1.val) :=
      ⟨⟨4096 + 1024 * t.val + (896 + x1.val), by omega⟩, rfl⟩
    obtain ⟨e0, e1, e2, e3, ed, t0, t1, t2, eb⟩ := cols_1 m c t x1 k hk
    refine (gradZ_1 _ _ _ _ _ _ _ _ _ x0 x1 e0 e1 e2 e3 ed t0 t1 t2 eb).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 3 k (by omega) (by omega) (by omega)).symm
  · idx_vars x
    obtain ⟨k, hk⟩ : ∃ k : Fin 1024, k.val = 256 * t.val + (128 + x1.val) := ⟨⟨256 * t.val + (128 + x1.val), by omega⟩, rfl⟩
    obtain ⟨n, hn⟩ : ∃ n : Fin 8448, n.val = 4096 + 1024 * t.val + (128 + x1.val) :=
      ⟨⟨4096 + 1024 * t.val + (128 + x1.val), by omega⟩, rfl⟩
    obtain ⟨e0, e1, e2, e3, ed, t0, t1, t2, eb⟩ := cols_1 m c t x1 k hk
    refine (gradB_1 _ _ _ _ _ _ _ _ x0 x1 e1 e2 e3 ed t0 t1 t2 eb).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 0 k (by omega) (by omega) (by omega)).symm
  · idx_vars x
    obtain ⟨k, hk⟩ : ∃ k : Fin 1024, k.val = 256 * t.val + (0 + x1.val) := ⟨⟨256 * t.val + (0 + x1.val), by omega⟩, rfl⟩
    obtain ⟨n, hn⟩ : ∃ n : Fin 8448, n.val = 4096 + 1024 * t.val + (512 + x1.val) :=
      ⟨⟨4096 + 1024 * t.val + (512 + x1.val), by omega⟩, rfl⟩
    obtain ⟨e0, e1, e2, e3, ed, t0, t1, t2, eb⟩ := cols_0 m c t x1 k hk
    refine (gradH_0 _ _ _ _ _ _ _ x0 x1 e0 e1 e3 ed t0 t1 t2).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 2 k (by omega) (by omega) (by omega)).symm
  · idx_vars x
    obtain ⟨k, hk⟩ : ∃ k : Fin 1024, k.val = 256 * t.val + (0 + x1.val) := ⟨⟨256 * t.val + (0 + x1.val), by omega⟩, rfl⟩
    obtain ⟨n, hn⟩ : ∃ n : Fin 8448, n.val = 4096 + 1024 * t.val + (256 + x1.val) :=
      ⟨⟨4096 + 1024 * t.val + (256 + x1.val), by omega⟩, rfl⟩
    obtain ⟨e0, e1, e2, e3, ed, t0, t1, t2, eb⟩ := cols_0 m c t x1 k hk
    refine (gradC_0 _ _ _ _ _ _ _ x0 x1 e0 e2 e3 ed t0 t1 t2).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 1 k (by omega) (by omega) (by omega)).symm
  · idx_vars x
    obtain ⟨k, hk⟩ : ∃ k : Fin 1024, k.val = 256 * t.val + (0 + x1.val) := ⟨⟨256 * t.val + (0 + x1.val), by omega⟩, rfl⟩
    obtain ⟨n, hn⟩ : ∃ n : Fin 8448, n.val = 4096 + 1024 * t.val + (768 + x1.val) :=
      ⟨⟨4096 + 1024 * t.val + (768 + x1.val), by omega⟩, rfl⟩
    obtain ⟨e0, e1, e2, e3, ed, t0, t1, t2, eb⟩ := cols_0 m c t x1 k hk
    refine (gradZ_0 _ _ _ _ _ _ _ _ _ x0 x1 e0 e1 e2 e3 ed t0 t1 t2 eb).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 3 k (by omega) (by omega) (by omega)).symm
  · idx_vars x
    obtain ⟨k, hk⟩ : ∃ k : Fin 1024, k.val = 256 * t.val + (0 + x1.val) := ⟨⟨256 * t.val + (0 + x1.val), by omega⟩, rfl⟩
    obtain ⟨n, hn⟩ : ∃ n : Fin 8448, n.val = 4096 + 1024 * t.val + (0 + x1.val) :=
      ⟨⟨4096 + 1024 * t.val + (0 + x1.val), by omega⟩, rfl⟩
    obtain ⟨e0, e1, e2, e3, ed, t0, t1, t2, eb⟩ := cols_0 m c t x1 k hk
    refine (gradB_0 _ _ _ _ _ _ _ _ x0 x1 e1 e2 e3 ed t0 t1 t2 eb).trans ?_
    rw [show ((View.whole main_v11_0).slice (win0_4.rect t)).emb y = ix2 x0 n from
      emb_eq _ _ _ (by blk_simp [idx t] at h0 ⊢ <;> omega) (by blk_simp [idx t] at h1 ⊢ <;> omega)]
    exact (_root_.Conv.resP_at _ _ _ _ _ x0 n 0 k (by omega) (by omega) (by omega)).symm

end Cert.ConvKernelIdeal.Conv

end
-- ==== Proof.ConvRef.lean ====
module

public import proofs.«01_k».proof.Proof.Gen.ConvReferenceIdeal.Read
public import proofs.«01_k».proof.Proof.ConvForms
public import proofs.«01_k».proof.Proof.UnitSums
public import Idealize.ShloMosaic.Lib.Pointwise

/-!
The convolution's reference: its values read at an index.
-/

@[expose] public section

set_option maxRecDepth 16384

noncomputable section

open Idealize.ShloMosaic Idealize.ShloMosaic.TcCoe Idealize.SL.Sem
open scoped BigOperators

namespace Cert.ConvReferenceIdeal.Conv

open Cert.ConvReferenceIdeal Cert.ConvReferenceIdeal.Gen
open Cert.ConvReferenceIdeal.Read
open _root_.Conv

variable (b c h z : FVec Ideal S2048x1024 .f32) (w : FVec Ideal S3x1024 .f32) (bias : FVec Ideal S1x1024 .f32)
  (d : FVec Ideal S2048x2048 .f32) (p : FVec Ideal S2048x8448 .bf16)

/-- The convolution's input. -/
theorem v3_at (a : Fin 1) (r : Fin 2048) (k : Fin 1024) : val_main_v3 (F := Ideal) c h (ix3 a r k) = colOf c k r * colOf h k r := by
  pointwise [val_main_v3, val_main_v1, val_main_v2, colOf]

/-- The convolution's input two rows down. -/
theorem v7_at (a : Fin 1) (r : Fin 2048) (k : Fin 1024) : val_main_v7 (F := Ideal) c h (ix3 a r k)
    = Taps.down 2 (fun r => colOf c k r * colOf h k r) r := by
  rw [Taps.down_eq 2 (by omega)]
  pointwise [val_main_v7, val_main_v5, val_main_v4, val_main_cst]
  by_cases h2 : 2 ≤ r.val
  · rw [dif_neg (by omega), dif_pos h2]
    pointwise [v3_at]
  · rw [dif_pos (by omega), dif_neg h2]

/-- The convolution's input one row down. -/
theorem v15_at (a : Fin 1) (r : Fin 2048) (k : Fin 1024) : val_main_v15 (F := Ideal) c h (ix3 a r k)
    = Taps.down 1 (fun r => colOf c k r * colOf h k r) r := by
  rw [Taps.down_eq 1 (by omega)]
  pointwise [val_main_v15, val_main_v5, val_main_v4, val_main_cst]
  by_cases h2 : 1 ≤ r.val
  · rw [dif_neg (by omega), dif_pos h2]
    pointwise [v3_at]
    have e : 1 + r.val - 2 = r.val - 1 := by omega
    simp only [e]
  · rw [dif_pos (by omega), dif_neg h2]

/-- The convolution's input. -/
theorem v22_at (a : Fin 1) (r : Fin 2048) (k : Fin 1024) : val_main_v22 (F := Ideal) c h (ix3 a r k)
    = colOf c k r * colOf h k r := by
  pointwise [val_main_v22, val_main_v5, val_main_v4, val_main_cst]
  pointwise [v3_at]

/-- The convolution's value. -/
theorem v32_at (a : Fin 1) (r : Fin 2048) (k : Fin 1024) : val_main_v32 (F := Ideal) c h w bias (ix3 a r k)
    = value (colOf c k) (colOf h k) (w (ix2 0 k)) (w (ix2 1 k)) (w (ix2 2 k)) (bias (ix2 0 k)) r := by
  have e : value (colOf c k) (colOf h k) (w (ix2 0 k)) (w (ix2 1 k)) (w (ix2 2 k)) (bias (ix2 0 k)) r
      = Taps.down 2 (fun r => colOf c k r * colOf h k r) r * w (ix2 0 k)
        + Taps.down 1 (fun r => colOf c k r * colOf h k r) r * w (ix2 1 k)
        + (colOf c k r * colOf h k r) * w (ix2 2 k) + bias (ix2 0 k) := by
    unfold value
    ac_rfl
  rw [e]
  pointwise [val_main_v32, val_main_v31, val_main_v30, val_main_v29, val_main_v28, val_main_v27, val_main_v26, val_main_v25, val_main_v24, val_main_v23,
    v22_at, val_main_v21, val_main_v20, val_main_v19, val_main_v18, val_main_v17, val_main_v16, v15_at, val_main_v14, val_main_v13, val_main_cst_1,
    val_main_v12, val_main_v11, val_main_v10, val_main_v9, val_main_v8, v7_at]

/-- The gate's logistic. -/
theorem v35_at (a : Fin 1) (r : Fin 2048) (k : Fin 1024) :
    val_main_v35_2 (F := Ideal) z (ix3 a r k) = Ideal.logistic (colOf z k r) := by
  pointwise [val_main_v35_2, val_main_call0_v4, val_main_call0_v3, val_main_call0_v2, val_main_call0_v1, val_main_call0_v0,
    val_main_call0_cst, val_main_call0_cst_0, val_main_v34, Ideal.logistic, colOf]

/-- The cotangent. -/
theorem v38_at (a : Fin 1) (r : Fin 2048) (k : Fin 1024) : val_main_v38 (F := Ideal) d (ix3 a r k) = colD d k r := by
  pointwise [val_main_v38, val_main_v37, colD, colOf]

/-- The cotangent of the convolution's value. -/
theorem v43_at (a : Fin 1) (r : Fin 2048) (k : Fin 1024) :
    val_main_v43 (F := Ideal) b z d (ix3 a r k) = cot (colOf b k) (colOf z k) (colD d k) r := by
  have e : cot (colOf b k) (colOf z k) (colD d k) r = colOf b k r * (colD d k r * (colOf z k r * Ideal.logistic (colOf z k r))) := by
    unfold cot
    ac_rfl
  rw [e]
  pointwise [val_main_v43, val_main_v40, val_main_v35_0, v35_at, v38_at, val_main_v34, val_main_v0, colOf]

/-- The gradient with respect to `b`. -/
theorem v86_at (r : Fin 2048) (k : Fin 1024) : val_main_v86 (F := Ideal) c h z w bias d (ix2 r k)
    = gradB (colOf c k) (colOf h k) (colOf z k) (colD d k) (w (ix2 0 k)) (w (ix2 1 k)) (w (ix2 2 k)) (bias (ix2 0 k)) r := by
  have e : gradB (colOf c k) (colOf h k) (colOf z k) (colD d k) (w (ix2 0 k)) (w (ix2 1 k)) (w (ix2 2 k)) (bias (ix2 0 k)) r
      = colD d k r * (colOf z k r * Ideal.logistic (colOf z k r))
        * value (colOf c k) (colOf h k) (w (ix2 0 k)) (w (ix2 1 k)) (w (ix2 2 k)) (bias (ix2 0 k)) r := by
    unfold gradB
    ac_rfl
  rw [e]
  pointwise [val_main_v86, val_main_v44, val_main_v40, val_main_v35_0, v35_at, v38_at, val_main_v34, v32_at, val_main_cst_19, colOf]
  exact Fin.sum_univ_one _

/-- The cotangent of the convolution's input. -/
theorem v81_at (a : Fin 1) (r : Fin 2048) (k : Fin 1024) : val_main_v81 (F := Ideal) b z w d (ix3 a r k)
    = cotIn (colOf b k) (colOf z k) (colD d k) (w (ix2 0 k)) (w (ix2 1 k)) (w (ix2 2 k)) r := by
  unfold cotIn
  rw [Taps.up_eq 1 2047 rfl (by omega), Taps.up_eq 2 2046 rfl (by omega)]
  pointwise [val_main_v81, val_main_v79, val_main_v78, val_main_v73, val_main_v72, val_main_v68, val_main_v67, val_main_v62, val_main_v61, val_main_v57, val_main_v53, val_main_v52,
    val_main_cst_8, val_main_cst_12, val_main_cst_16, v43_at,
    val_main_v25, val_main_v24, val_main_v23, val_main_v18, val_main_v17, val_main_v16, val_main_v10, val_main_v9, val_main_v8]
  have e1 : 2 + r.val - 1 = r.val + 1 := by omega
  have e2 : 2 + r.val = r.val + 2 := by omega
  simp only [e1, e2]
  congr 1
  · congr 1
    · exact mul_comm _ _
    · by_cases h1 : r.val + 1 < 2048
      · rw [dif_pos (by omega), dif_pos h1]
        exact mul_comm _ _
      · rw [dif_neg (by omega), dif_neg h1, mul_zero]
  · by_cases h2 : r.val + 2 < 2048
    · rw [dif_pos h2, dif_pos h2]
      exact mul_comm _ _
    · rw [dif_neg h2, dif_neg h2, mul_zero]

/-- The gradient with respect to `c`. -/
theorem v85_at (r : Fin 2048) (k : Fin 1024) : val_main_v85 (F := Ideal) b h z w d (ix2 r k)
    = gradC (colOf b k) (colOf h k) (colOf z k) (colD d k) (w (ix2 0 k)) (w (ix2 1 k)) (w (ix2 2 k)) r := by
  pointwise [val_main_v85, val_main_v83, v81_at, val_main_v2, val_main_cst_18, gradC, colOf]
  exact Fin.sum_univ_one _

/-- The gradient with respect to `h`. -/
theorem v84_at (r : Fin 2048) (k : Fin 1024) : val_main_v84 (F := Ideal) b c z w d (ix2 r k)
    = gradH (colOf b k) (colOf c k) (colOf z k) (colD d k) (w (ix2 0 k)) (w (ix2 1 k)) (w (ix2 2 k)) r := by
  unfold gradH
  rw [mul_comm]
  pointwise [val_main_v84, val_main_v82, v81_at, val_main_v1, val_main_cst_17, colOf]
  exact Fin.sum_univ_one _

/-- The gradient with respect to the bias. -/
theorem v48_at (X : Fin 4 → FVec Ideal S2048x1024 .f32) (i : S1x1024.Idx) : val_main_v48 (F := Ideal) (X 0) (X 3) d i = resB X d i := by
  unfold resB
  idx_vars i
  pointwise [val_main_v48]
  unfold val_main_v47
  rw [Host.reduceAdd_apply, Ideal.hostReduceAdd_def, UnitSums.sum_0_1]
  pointwise [val_main_v46, val_main_v45, val_main_cst_3, val_main_cst_4, v43_at, gradBias]

/-- The gradient with respect to `z`, where the cotangent of the gate is real. -/
theorem v42_at (r : Fin 2048) (k : Fin 1024) (y : ℝ)
    (hy : colD d k r * (colOf b k r * value (colOf c k) (colOf h k) (w (ix2 0 k)) (w (ix2 1 k)) (w (ix2 2 k)) (bias (ix2 0 k)) r) = y) :
    val_main_v42 (F := Ideal) b c h z w bias d (ix2 r k)
    = gradZ (colOf b k) (colOf c k) (colOf h k) (colOf z k) (colD d k) (w (ix2 0 k)) (w (ix2 1 k)) (w (ix2 2 k)) (bias (ix2 0 k)) r := by
  unfold gradZ
  rw [hy, ← silu_eq, ← hy, mul_comm (colD d k r)]
  clear hy
  pointwise [val_main_v42, val_main_v41, val_main_call1_v0, val_main_call1_v1, val_main_call1_v2, val_main_v39, val_main_v35_1, v35_at, v38_at, val_main_v34,
    val_main_v33, v32_at, val_main_v0, val_main_call0_v6, val_main_call0_v7, val_main_call0_cst_1, val_main_cst_2, colOf]
  exact Fin.sum_univ_one _

/-- The gradient with respect to the last tap. -/
theorem v55_at (a : Fin 1) (k : Fin 1024) : val_main_v55 (F := Ideal) b c h z d (ix2 a k)
    = gradW2 (colOf b k) (colOf c k) (colOf h k) (colOf z k) (colD d k) := by
  pointwise [val_main_v55]
  unfold val_main_v54
  rw [Host.reduceAdd_apply, Ideal.hostReduceAdd_def, UnitSums.sum_0_1]
  pointwise [val_main_v51, val_main_v50, val_main_v49, val_main_cst_5, val_main_cst_6, v22_at, v43_at, gradW2]
  exact Finset.sum_congr rfl fun r _ => mul_comm _ _

/-- The gradient with respect to the middle tap. -/
theorem v64_at (a : Fin 1) (k : Fin 1024) : val_main_v64 (F := Ideal) b c h z d (ix2 a k)
    = gradW1 (colOf b k) (colOf c k) (colOf h k) (colOf z k) (colD d k) := by
  unfold gradW1
  rw [Taps.sum_up 1 2047 rfl (by omega) (by omega)]
  pointwise [val_main_v64]
  unfold val_main_v63
  rw [Host.reduceAdd_apply, Ideal.hostReduceAdd_def, UnitSums.sum_0_1]
  pointwise [val_main_v60, val_main_v59, val_main_v58, val_main_cst_9, val_main_cst_10, v15_at, v43_at]

/-- The gradient with respect to the first tap. -/
theorem v75_at (a : Fin 1) (k : Fin 1024) : val_main_v75 (F := Ideal) b c h z d (ix2 a k)
    = gradW0 (colOf b k) (colOf c k) (colOf h k) (colOf z k) (colD d k) := by
  unfold gradW0
  rw [Taps.sum_up 2 2046 rfl (by omega) (by omega)]
  pointwise [val_main_v75]
  unfold val_main_v74
  rw [Host.reduceAdd_apply, Ideal.hostReduceAdd_def, UnitSums.sum_0_1]
  pointwise [val_main_v71, val_main_v70, val_main_v69, val_main_cst_13, val_main_cst_14, v7_at, v43_at]

/-- The four inputs, numbered. -/
def four (g : Fin 4) : FVec Ideal S2048x1024 .f32 :=
  match g with
  | 0 => b
  | 1 => c
  | 2 => h
  | 3 => z

/-- The gradient with respect to the taps. -/
theorem v77_at (i : S3x1024.Idx) : val_main_v77 (F := Ideal) b c h z d i = resW (four b c h z) d i := by
  idx_vars i
  fin_cases i0
  all_goals
    pointwise [val_main_v77, val_main_v76, val_main_v66, val_main_v65, val_main_v56, val_main_cst_7, val_main_cst_11, val_main_cst_15, v55_at, v64_at, v75_at]
    try rfl

/-- The gradients in the packed layout. -/
theorem v96_at (r : Fin 2048) (n : Fin 4096) (k : Fin 1024) (hk : k.val = n.val / 1024 * 256 + n.val % 256) :
    val_main_v96 (F := Ideal) b c h z w bias d (ix2 r n) =
      if n.val / 256 % 4 = 0 then val_main_v86 (F := Ideal) c h z w bias d (ix2 r k)
      else if n.val / 256 % 4 = 1 then val_main_v85 (F := Ideal) b h z w d (ix2 r k)
      else if n.val / 256 % 4 = 2 then val_main_v84 (F := Ideal) b c z w d (ix2 r k)
      else val_main_v42 (F := Ideal) b c h z w bias d (ix2 r k) := by
  rw [show k = ⟨n.val / 1024 * 256 + n.val % 256, by omega⟩ from Fin.ext hk]
  pointwise [val_main_v96, val_main_v95, val_main_v94, val_main_v93, val_main_v92, val_main_v91, val_main_v90, val_main_v89, val_main_v88, val_main_v87]
  have hg : n.val / 256 % 4 = 0 ∨ n.val / 256 % 4 = 1 ∨ n.val / 256 % 4 = 2 ∨ n.val / 256 % 4 = 3 := by omega
  rcases hg with hg | hg | hg | hg
  · rw [dif_pos (by omega), if_pos hg]
  · rw [dif_neg (by omega), dif_pos (by omega), if_neg (by omega), if_pos hg]
  · rw [dif_neg (by omega), dif_neg (by omega), dif_pos (by omega), if_neg (by omega), if_neg (by omega), if_pos hg]
  · rw [dif_neg (by omega), dif_neg (by omega), dif_neg (by omega), if_neg (by omega), if_neg (by omega), if_neg (by omega)]

/-- The first result, where the gate's cotangents are real. -/
theorem v100_at (i : S2048x8448.Idx)
    (hy : ∀ r k, ∃ y : ℝ, colD d k r * (colOf b k r * value (colOf c k) (colOf h k) (w (ix2 0 k)) (w (ix2 1 k)) (w (ix2 2 k)) (bias (ix2 0 k)) r) = y) :
    val_main_v100 (F := Ideal) b c h z w bias d p i = resP (four b c h z) w bias d p i := by
  idx_vars i
  by_cases hi : 4096 ≤ i1.val ∧ i1.val < 8192
  · rw [resP_at _ _ _ _ _ i0 i1 _ (channel i1.val hi) hi rfl rfl]
    pointwise [val_main_v100, val_main_v97]
    rw [dif_neg (by omega), dif_pos (by omega), v96_at _ _ _ _ _ _ _ _ _ (channel i1.val hi) (by dsimp only [channel]; omega)]
    have e : (i1.val - 4096) / 256 % 4 = i1.val / 256 % 4 := by omega
    simp only [e]
    have hg : i1.val / 256 % 4 = 0 ∨ i1.val / 256 % 4 = 1 ∨ i1.val / 256 % 4 = 2 ∨ i1.val / 256 % 4 = 3 := by omega
    rcases hg with hg | hg | hg | hg
    · rw [if_pos hg, hg, v86_at]
      rfl
    · rw [if_neg (by omega), if_pos hg, hg, v85_at]
      rfl
    · rw [if_neg (by omega), if_neg (by omega), if_pos hg, hg, v84_at]
      rfl
    · obtain ⟨y, hy⟩ := hy i0 (channel i1.val hi)
      rw [if_neg (by omega), if_neg (by omega), if_neg (by omega), hg, v42_at _ _ _ _ _ _ _ _ _ y hy]
      rfl
  · rw [resP_off _ _ _ _ _ i0 i1 hi]
    pointwise [val_main_v100, val_main_v98, val_main_v99]
    by_cases h0 : i1.val < 4096
    · rw [dif_pos h0]
    · have h1 := i1.isLt
      rw [dif_neg h0, dif_neg (by omega)]
      have e : (⟨8192 + (i1.val - 4096 - 4096), by omega⟩ : Fin 8448) = i1 := Fin.ext (show 8192 + (i1.val - 4096 - 4096) = i1.val by omega)
      exact congrArg (fun q => p (ix2 i0 q)) e

end Cert.ConvReferenceIdeal.Conv

end
-- ==== Proof.ConvPair.lean ====
module

public import proofs.«01_k».proof.Defs
public import proofs.«01_k».proof.Proof.Gen.Pre_conv_finite
public import proofs.«01_k».proof.Proof.Gen.ConvKernelIdeal.Value
public import proofs.«01_k».proof.Proof.ConvGrads
public import proofs.«01_k».proof.Proof.ConvRef
public import Idealize.ShloMosaic.Lib.Claim

/-!
The convolution's backward call computes its reference's three results.
-/

@[expose] public section

set_option maxRecDepth 16384

noncomputable section

open Idealize.ShloMosaic Idealize.ShloMosaic.TcCoe Idealize.SL.Sem
open scoped BigOperators

namespace Cert.ConvPair

open Cert.ConvReferenceIdeal.Read

variable (m : (ℓ : Loc Cert.ConvKernelIdeal.nD Cert.ConvKernelIdeal.τ Cert.ConvKernelIdeal.sig) → Buf (Elt Ideal) ℓ) (c : Dev Cert.ConvKernelIdeal.nD)

/-- The eight arguments. -/
abbrev argB := m ((c.tc : Thread Cert.ConvKernelIdeal.nD Cert.ConvKernelIdeal.τ).loc Cert.ConvKernelIdeal.main_arg0)
abbrev argC := m ((c.tc : Thread Cert.ConvKernelIdeal.nD Cert.ConvKernelIdeal.τ).loc Cert.ConvKernelIdeal.main_arg1)
abbrev argH := m ((c.tc : Thread Cert.ConvKernelIdeal.nD Cert.ConvKernelIdeal.τ).loc Cert.ConvKernelIdeal.main_arg2)
abbrev argZ := m ((c.tc : Thread Cert.ConvKernelIdeal.nD Cert.ConvKernelIdeal.τ).loc Cert.ConvKernelIdeal.main_arg3)
abbrev argW := m ((c.tc : Thread Cert.ConvKernelIdeal.nD Cert.ConvKernelIdeal.τ).loc Cert.ConvKernelIdeal.main_arg4)
abbrev argBias := m ((c.tc : Thread Cert.ConvKernelIdeal.nD Cert.ConvKernelIdeal.τ).loc Cert.ConvKernelIdeal.main_arg5)
abbrev argD := m ((c.tc : Thread Cert.ConvKernelIdeal.nD Cert.ConvKernelIdeal.τ).loc Cert.ConvKernelIdeal.main_arg6)
abbrev argP := m ((c.tc : Thread Cert.ConvKernelIdeal.nD Cert.ConvKernelIdeal.τ).loc Cert.ConvKernelIdeal.main_arg7)

/-- The first input is real. -/
theorem b_real (hp : Pre_ConvKernelIdeal_conv_finite m) (r : Fin 2048) (k : Fin 1024) : Reals.Is (argB m c (ix2 r k)) := by
  have h := congrFun (hp c).1 (ix2 r k)
  simp only [Cert.Pre_conv_finite.fn] at h
  pointwise at h
  exact Reals.real_of_abs_lt h

/-- The second input is real. -/
theorem c_real (hp : Pre_ConvKernelIdeal_conv_finite m) (r : Fin 2048) (k : Fin 1024) : Reals.Is (argC m c (ix2 r k)) := by
  have h := congrFun (hp c).2.1 (ix2 r k)
  simp only [Cert.Pre_conv_finite.fn] at h
  pointwise at h
  exact Reals.real_of_abs_lt h

/-- The third input is real. -/
theorem h_real (hp : Pre_ConvKernelIdeal_conv_finite m) (r : Fin 2048) (k : Fin 1024) : Reals.Is (argH m c (ix2 r k)) := by
  have h := congrFun (hp c).2.2.1 (ix2 r k)
  simp only [Cert.Pre_conv_finite.fn] at h
  pointwise at h
  exact Reals.real_of_abs_lt h

/-- The taps are real. -/
theorem w_real (hp : Pre_ConvKernelIdeal_conv_finite m) (r : Fin 3) (k : Fin 1024) : Reals.Is (argW m c (ix2 r k)) := by
  have h := congrFun (hp c).2.2.2.1 (ix2 r k)
  simp only [Cert.Pre_conv_finite.fn] at h
  pointwise at h
  exact Reals.real_of_abs_lt h

/-- The bias is real. -/
theorem bias_real (hp : Pre_ConvKernelIdeal_conv_finite m) (r : Fin 1) (k : Fin 1024) : Reals.Is (argBias m c (ix2 r k)) := by
  have h := congrFun (hp c).2.2.2.2.1 (ix2 r k)
  simp only [Cert.Pre_conv_finite.fn] at h
  pointwise at h
  exact Reals.real_of_abs_lt h

/-- The cotangent is real. -/
theorem d_real (hp : Pre_ConvKernelIdeal_conv_finite m) (r : Fin 2048) (k : Fin 2048) : Reals.Is (argD m c (ix2 r k)) := by
  have h := congrFun (hp c).2.2.2.2.2 (ix2 r k)
  simp only [Cert.Pre_conv_finite.fn] at h
  pointwise at h
  exact Reals.real_of_abs_lt h

/-- The first result. -/
theorem eq_P (hp : Pre_ConvKernelIdeal_conv_finite m) : (Cert.ConvKernelIdeal.Gen.dats m 0 c).arrAt 4 Cert.ConvKernelIdeal.cfg0.N
    = val_main_v100 (F := Ideal) (argB m c) (argC m c) (argH m c) (argZ m c) (argW m c) (argBias m c) (argD m c) (argP m c) := by
  refine (Cert.ConvKernelIdeal.Conv.final_4 m c).trans (funext fun i => ?_)
  rw [Cert.ConvReferenceIdeal.Conv.v100_at _ _ _ _ _ _ _ _ i fun r k => ?_]
  · rfl
  · exact (d_real m c hp _ _).mul ((b_real m c hp _ _).mul (_root_.Conv.value_real _ _ _ _ _ _ (fun r => c_real m c hp _ _) (fun r => h_real m c hp _ _)
      (w_real m c hp _ _) (w_real m c hp _ _) (w_real m c hp _ _) (bias_real m c hp _ _) r))

/-- The second result. -/
theorem eq_W : (Cert.ConvKernelIdeal.Gen.dats m 0 c).arrAt 5 Cert.ConvKernelIdeal.cfg0.N
    = val_main_v77 (F := Ideal) (argB m c) (argC m c) (argH m c) (argZ m c) (argD m c) := by
  refine (Cert.ConvKernelIdeal.Conv.final_5 m c).trans (funext fun i => ?_)
  rw [Cert.ConvReferenceIdeal.Conv.v77_at]
  rfl

/-- The third result. -/
theorem eq_B : (Cert.ConvKernelIdeal.Gen.dats m 0 c).arrAt 6 Cert.ConvKernelIdeal.cfg0.N
    = val_main_v48 (F := Ideal) (argB m c) (argZ m c) (argD m c) := by
  refine (Cert.ConvKernelIdeal.Conv.final_6 m c).trans (funext fun i => ?_)
  exact (Cert.ConvReferenceIdeal.Conv.v48_at (argD m c) (Cert.ConvKernelIdeal.Conv.inputs m c) i).symm

set_option maxHeartbeats 1600000 in
/-- The pair's claim. -/
theorem algebraic : algebraic_ConvKernelIdeal_ConvReferenceIdeal_pre_conv_finite := by
  intro m g m' g' hpre hargs
  refine ⟨fun c => val_main_v100 (F := Ideal) (argB m c) (argC m c) (argH m c) (argZ m c) (argW m c) (argBias m c) (argD m c) (argP m c),
    fun c => val_main_v77 (F := Ideal) (argB m c) (argC m c) (argH m c) (argZ m c) (argD m c),
    fun c => val_main_v48 (F := Ideal) (argB m c) (argZ m c) (argD m c), ?_, ?_⟩
  · refine (θ_run _ _ _).mono (fun r h c => ?_) (Cert.ConvKernelIdeal.Value.run_blocks m g)
    obtain ⟨h4, h5, h6, a0, a1, a2, a3, a4, a5, a6, a7⟩ := h c
    exact ⟨h4.trans (eq_P m c hpre), h5.trans (eq_W m c), h6.trans (eq_B m c), a0, a1, a2, a3, a4, a5, a6, a7⟩
  · refine (θ_run _ _ _).mono (fun r h c => ?_) (Cert.ConvReferenceIdeal.Value.run m' g')
    obtain ⟨h4, h5, h6, a0, a1, a2, a3, a4, a5, a6, a7⟩ := h c
    obtain ⟨e0, e1, e2, e3, e4, e5, e6, e7⟩ := hargs c
    rw [val_main_v100_eq, e0, e1, e2, e3, e4, e5, e6, e7] at h4
    rw [val_main_v77_eq, e0, e1, e2, e3, e6] at h5
    rw [val_main_v48_eq, e0, e3, e6] at h6
    exact ⟨h4, h5, h6, a0, a1, a2, a3, a4, a5, a6, a7⟩

end Cert.ConvPair

end
-- ==== Proof.QkvForms.lean ====
module

public import proofs.«01_k».proof.Proof.Taps
public import proofs.«01_k».proof.Proof.Reals

/-!
The gradients of `silu (conv x)` of one head of 128 lanes, normalised over the lanes for a query or a key, in the form the
kernel computes them. A head's input `X` and cotangent `D` are given by lane and row, the four taps `W` by tap and lane.
-/

@[expose] public section

noncomputable section

open Idealize.ShloMosaic Taps
open scoped BigOperators

namespace Qkv

variable (s : EReal) (f : BitVec 1) (W : Fin 4 → Fin 128 → EReal) (X D : Fin 128 → Fin 2048 → EReal)

/-- The convolution's value at a lane and a row. -/
def value (l : Fin 128) (r : Fin 2048) : EReal :=
  W 3 l * X l r + W 2 l * down 1 (X l) r + W 1 l * down 2 (X l) r + W 0 l * down 3 (X l) r

/-- The activation `silu` of the value. -/
def act (l : Fin 128) (r : Fin 2048) : EReal := value W X l r * Ideal.logistic (value W X l r)

/-- The sum of the squares of a row's activations, with the norm's small term. -/
def ms (r : Fin 2048) : EReal := ∑ k, act W X k r * act W X k r + Ideal.ofBits .f32 0x358637BD#32

/-- The reciprocal root of it. -/
def rn (r : Fin 2048) : EReal := Ideal.rsqrt (ms W X r)

/-- The gradient that passes the normalisation, times the scale `s`. -/
def dnorm (l : Fin 128) (r : Fin 2048) : EReal :=
  s * rn W X r * (D l r - act W X l r * (rn W X r * rn W X r * ∑ k, D k r * act W X k r))

/-- The gradient with respect to the activation: through the normalisation where the flag `f` says so. -/
def dact (l : Fin 128) (r : Fin 2048) : EReal := Scalar.select f (dnorm s W X D l r) (D l r)

/-- The gradient with respect to the convolution's value. -/
def dval (l : Fin 128) (r : Fin 2048) : EReal :=
  dact s f W X D l r * (Ideal.logistic (value W X l r) * (1 + value W X l r * (1 - Ideal.logistic (value W X l r))))

/-- The gradient with respect to the input. -/
def gradX (l : Fin 128) (r : Fin 2048) : EReal :=
  W 3 l * dval s f W X D l r + W 2 l * up 2047 (dval s f W X D l) r + W 1 l * up 2046 (dval s f W X D l) r
    + W 0 l * up 2045 (dval s f W X D l) r

/-- The gradients with respect to the taps. -/
def gradW (q : Fin 4) (l : Fin 128) : EReal :=
  match q with
  | 3 => ∑ r, dval s f W X D l r * X l r
  | 2 => ∑ r, up 2047 (dval s f W X D l) r * X l r
  | 1 => ∑ r, up 2046 (dval s f W X D l) r * X l r
  | 0 => ∑ r, up 2045 (dval s f W X D l) r * X l r

/-! ## The two results, as arrays -/

/-- Head `h` of an array of 24 heads, by lane and row. -/
def headOf (A : (⟨2, ![2048, 3072]⟩ : Shape).Idx → EReal) (h : Fin 24) (l : Fin 128) (r : Fin 2048) : EReal :=
  A (ix2 r ⟨128 * h.val + l.val, by omega⟩)

/-- Head `h` of the taps. -/
def tapsOf (A : (⟨2, ![4, 3072]⟩ : Shape).Idx → EReal) (h : Fin 24) (q : Fin 4) (l : Fin 128) : EReal :=
  A (ix2 q ⟨128 * h.val + l.val, by omega⟩)

/-- A head's scale: the queries', for the first eight heads. -/
def scale (h : Fin 24) : EReal :=
  Scalar.select (IntOp.cmpi .slt (BitVec.ofNat 32 (h.val / 2)) 4#32) (Ideal.ofBits .f32 0x3DB504F3#32) 1

/-- Whether a head is normalised: the queries and keys are. -/
def flag (h : Fin 24) : BitVec 1 := IntOp.cmpi .slt (BitVec.ofNat 32 (h.val / 2)) 8#32

variable (A : (⟨2, ![2048, 3072]⟩ : Shape).Idx → EReal) (T : (⟨2, ![4, 3072]⟩ : Shape).Idx → EReal)
  (C : (⟨2, ![2048, 3072]⟩ : Shape).Idx → EReal) (P : (⟨2, ![2048, 8448]⟩ : Shape).Idx → EReal)

/-- The gradient with respect to a head's input. -/
def headX (h : Fin 24) : Fin 128 → Fin 2048 → EReal := gradX (scale h) (flag h) (tapsOf T h) (headOf A h) (headOf C h)

/-- The gradient with respect to a head's taps. -/
def headW (h : Fin 24) : Fin 4 → Fin 128 → EReal := gradW (scale h) (flag h) (tapsOf T h) (headOf A h) (headOf C h)

/-- The first result: the input's gradient in its columns, the rest as it was. -/
def resX (i : (⟨2, ![2048, 8448]⟩ : Shape).Idx) : EReal :=
  if h : (i 1).val < 3072 then headX A T C ⟨(i 1).val / 128, by omega⟩ ⟨(i 1).val % 128, Nat.mod_lt _ (by decide)⟩ (i 0) else P i

/-- The second result: the taps' gradient. -/
def resW (i : (⟨2, ![4, 3072]⟩ : Shape).Idx) : EReal :=
  headW A T C ⟨(i 1).val / 128, by have := (i 1).isLt; change (i 1).val < 3072 at this; omega⟩ (i 0) ⟨(i 1).val % 128, Nat.mod_lt _ (by decide)⟩

/-- The first result at a lane of a head. -/
theorem resX_at (r : Fin 2048) (n : Fin 8448) (h : Fin 24) (l : Fin 128) (hn : n.val = 128 * h.val + l.val) :
    resX A T C P (ix2 r n) = headX A T C h l r := by
  have hl := l.isLt
  have hh := h.isLt
  have e1 : n.val / 128 = h.val := by omega
  have e2 : n.val % 128 = l.val := by omega
  unfold resX
  rw [dif_pos (show ((ix2 r n : (⟨2, ![2048, 8448]⟩ : Shape).Idx) 1).val < 3072 by show n.val < 3072; omega)]
  exact congrArg₂ (fun a b => headX A T C a b r) (Fin.ext e1) (Fin.ext e2)

/-- The first result outside the heads' columns. -/
theorem resX_off (r : Fin 2048) (n : Fin 8448) (hn : ¬ n.val < 3072) : resX A T C P (ix2 r n) = P (ix2 r n) := by
  unfold resX
  exact dif_neg hn

/-- The second result at a lane of a head. -/
theorem resW_at (q : Fin 4) (n : Fin 3072) (h : Fin 24) (l : Fin 128) (hn : n.val = 128 * h.val + l.val) :
    resW A T C (ix2 q n) = headW A T C h q l := by
  have hl := l.isLt
  have hh := h.isLt
  have e1 : n.val / 128 = h.val := by omega
  have e2 : n.val % 128 = l.val := by omega
  exact congrArg₂ (fun a b => headW A T C a q b) (Fin.ext e1) (Fin.ext e2)

end Qkv

end
-- ==== Proof.QkvPay.lean ====
module

public import proofs.«01_k».proof.Proof.Gen.QkvKernelIdeal.Frame
public import proofs.«01_k».proof.Proof.QkvForms
public import Idealize.ShloMosaic.Lib.Pipeline.ValueKit

/-!
What the backward kernel of the queries, keys and values computes for one head, the two heads of a block read as the same
functions of the head's lanes.
-/

@[expose] public section

set_option maxRecDepth 16384

noncomputable section

open Idealize.ShloMosaic Idealize.ShloMosaic.TcCoe Idealize.SL.Sem
open Idealize.ShloMosaic.Pipeline (Dat)
open scoped BigOperators

namespace Cert.QkvKernelIdeal.Qkv

open Cert.QkvKernelIdeal Cert.QkvKernelIdeal.Gen
open _root_.Qkv

/-- The lanes of a block of 128, by lane and row. -/
def lanes (X : FVec Ideal S2048x128 .f32) (l : Fin 128) (r : Fin 2048) : EReal := X (ix2 r l)

/-- The four taps' lanes. -/
def taps (w0 w1 w2 w3 : FVec Ideal S1x128 .f32) (q : Fin 4) (l : Fin 128) : EReal :=
  match q with
  | 0 => w0 (ix2 0 l)
  | 1 => w1 (ix2 0 l)
  | 2 => w2 (ix2 0 l)
  | 3 => w3 (ix2 0 l)

variable (a : BitVec 32) (v : Ideal .f32) (x d : FVec Ideal S2048x128 .f32) (w0 w1 w2 w3 : FVec Ideal S1x128 .f32)

/-- The value but for its last tap, in a block's first head. -/
theorem value_0 (r : Fin 2048) (l : Fin 128) :
    k0_pay3 (F := Ideal) x w3 w2 w1 (ix2 r l) + w0 (ix2 0 l) * k0_pay4 (F := Ideal) x (ix2 r l)
      = value (taps w0 w1 w2 w3) (lanes x) l r := by
  pointwise [k0_pay4, k0_pay3, k0_pay2, value, Taps.down, lanes, taps]

/-- The same in the second head. -/
theorem value_1 (r : Fin 2048) (l : Fin 128) :
    k0_pay17 (F := Ideal) x w3 w2 w1 (ix2 r l) + k0_pay19 (F := Ideal) w0 (ix2 r l) * k0_pay18 (F := Ideal) x (ix2 r l)
      = value (taps w0 w1 w2 w3) (lanes x) l r := by
  pointwise [k0_pay19, k0_pay18, k0_pay17, k0_pay16, value, Taps.down, lanes, taps]

/-- The gradient with respect to the convolution's value, in a block's first head. -/
theorem dval_0 (r : Fin 2048) (l : Fin 128) :
    k0_pay5 (F := Ideal) a v d (k0_pay3 x w3 w2 w1) w0 (k0_pay4 x) (ix2 r l)
      = dval v (IntOp.cmpi .slt a 8#32) (taps w0 w1 w2 w3) (lanes x) (lanes d) l r := by
  pointwise [k0_pay5]
  simp only [value_0]
  rfl

/-- The same in the second head. -/
theorem dval_1 (r : Fin 2048) (l : Fin 128) :
    k0_pay20 (F := Ideal) a v d (k0_pay17 x w3 w2 w1) (k0_pay18 x) (k0_pay19 w0) (ix2 r l)
      = dval v (IntOp.cmpi .slt a 8#32) (taps w0 w1 w2 w3) (lanes x) (lanes d) l r := by
  pointwise [k0_pay20]
  simp only [value_1]
  rfl

/-- The input's gradient, in the first head. -/
theorem gradX_0 (r : Fin 2048) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay15 (F := Ideal) (k0_pay14 (k0_pay5 a v d (k0_pay3 x w3 w2 w1) w0 (k0_pay4 x)) (k0_pay6 a v d (k0_pay3 x w3 w2 w1) w0 (k0_pay4 x)) (k0_pay7 a v d (k0_pay3 x w3 w2 w1) w0 (k0_pay4 x)) k0_pay8 w3 w2 w1 w0) (ix2 r l)
      = gradX s' f' W' X' D' l r := by
  rw [← hs, ← hf, ← hw, ← hx, ← hd]
  pointwise [k0_pay15, k0_pay14, k0_pay9, k0_pay8, k0_pay7, k0_pay6, dval_0, gradX, Taps.up, taps]

/-- The gradient of tap 3, in the first head. -/
theorem gradW3_0 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay10 (F := Ideal) (k0_pay2 x) (k0_pay5 a v d (k0_pay3 x w3 w2 w1) w0 (k0_pay4 x)) (ix2 r l)
      = gradW s' f' W' X' D' 3 l := by
  rw [← hs, ← hf, ← hw, ← hx, ← hd]
  pointwise [k0_pay10, k0_pay9, k0_pay8, k0_pay7, k0_pay6, k0_pay2, dval_0, gradW, Taps.up, lanes]

/-- The gradient of tap 2, in the first head. -/
theorem gradW2_0 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay11 (F := Ideal) (k0_pay2 x) (k0_pay6 a v d (k0_pay3 x w3 w2 w1) w0 (k0_pay4 x)) (ix2 r l)
      = gradW s' f' W' X' D' 2 l := by
  rw [← hs, ← hf, ← hw, ← hx, ← hd]
  pointwise [k0_pay11, k0_pay9, k0_pay8, k0_pay7, k0_pay6, k0_pay2, dval_0, gradW, Taps.up, lanes]

/-- The gradient of tap 1, in the first head. -/
theorem gradW1_0 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay12 (F := Ideal) (k0_pay2 x) (k0_pay7 a v d (k0_pay3 x w3 w2 w1) w0 (k0_pay4 x)) (ix2 r l)
      = gradW s' f' W' X' D' 1 l := by
  rw [← hs, ← hf, ← hw, ← hx, ← hd]
  pointwise [k0_pay12, k0_pay9, k0_pay8, k0_pay7, k0_pay6, k0_pay2, dval_0, gradW, Taps.up, lanes]

/-- The gradient of tap 0, in the first head. -/
theorem gradW0_0 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay13 (F := Ideal) (k0_pay2 x) (k0_pay5 a v d (k0_pay3 x w3 w2 w1) w0 (k0_pay4 x)) k0_pay8 (ix2 r l)
      = gradW s' f' W' X' D' 0 l := by
  rw [← hs, ← hf, ← hw, ← hx, ← hd]
  pointwise [k0_pay13, k0_pay9, k0_pay8, k0_pay7, k0_pay6, k0_pay2, dval_0, gradW, Taps.up, lanes]

/-- The input's gradient, in the second head. -/
theorem gradX_1 (r : Fin 2048) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay29 (F := Ideal) (k0_pay20 a v d (k0_pay17 x w3 w2 w1) (k0_pay18 x) (k0_pay19 w0)) (k0_pay21 a v d (k0_pay17 x w3 w2 w1) (k0_pay18 x) (k0_pay19 w0)) (k0_pay22 a v d (k0_pay17 x w3 w2 w1) (k0_pay18 x) (k0_pay19 w0)) k0_pay23 2045#32 w3 w2 w1 w0 (ix2 r l)
      = gradX s' f' W' X' D' l r := by
  rw [← hs, ← hf, ← hw, ← hx, ← hd]
  pointwise [k0_pay29, k0_pay24, k0_pay23, k0_pay22, k0_pay21, dval_1, gradX, Taps.up, taps]

/-- The gradient of tap 3, in the second head. -/
theorem gradW3_1 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay25 (F := Ideal) (k0_pay16 x) (k0_pay20 a v d (k0_pay17 x w3 w2 w1) (k0_pay18 x) (k0_pay19 w0)) (ix2 r l)
      = gradW s' f' W' X' D' 3 l := by
  rw [← hs, ← hf, ← hw, ← hx, ← hd]
  pointwise [k0_pay25, k0_pay24, k0_pay23, k0_pay22, k0_pay21, k0_pay16, dval_1, gradW, Taps.up, lanes]

/-- The gradient of tap 2, in the second head. -/
theorem gradW2_1 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay26 (F := Ideal) (k0_pay16 x) (k0_pay21 a v d (k0_pay17 x w3 w2 w1) (k0_pay18 x) (k0_pay19 w0)) (ix2 r l)
      = gradW s' f' W' X' D' 2 l := by
  rw [← hs, ← hf, ← hw, ← hx, ← hd]
  pointwise [k0_pay26, k0_pay24, k0_pay23, k0_pay22, k0_pay21, k0_pay16, dval_1, gradW, Taps.up, lanes]

/-- The gradient of tap 1, in the second head. -/
theorem gradW1_1 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay27 (F := Ideal) (k0_pay16 x) (k0_pay22 a v d (k0_pay17 x w3 w2 w1) (k0_pay18 x) (k0_pay19 w0)) (ix2 r l)
      = gradW s' f' W' X' D' 1 l := by
  rw [← hs, ← hf, ← hw, ← hx, ← hd]
  pointwise [k0_pay27, k0_pay24, k0_pay23, k0_pay22, k0_pay21, k0_pay16, dval_1, gradW, Taps.up, lanes]

/-- The gradient of tap 0, in the second head. -/
theorem gradW0_1 (r : Fin 1) (l : Fin 128) {s' : EReal} (hs : v = s') {f' : BitVec 1}
    (hf : IntOp.cmpi .slt a 8#32 = f') {W' : Fin 4 → Fin 128 → EReal} (hw : taps w0 w1 w2 w3 = W')
    {X' D' : Fin 128 → Fin 2048 → EReal} (hx : lanes x = X') (hd : lanes d = D') :
    k0_pay28 (F := Ideal) (k0_pay16 x) (k0_pay20 a v d (k0_pay17 x w3 w2 w1) (k0_pay18 x) (k0_pay19 w0)) k0_pay23 2045#32 (ix2 r l)
      = gradW s' f' W' X' D' 0 l := by
  rw [← hs, ← hf, ← hw, ← hx, ← hd]
  pointwise [k0_pay28, k0_pay24, k0_pay23, k0_pay22, k0_pay21, k0_pay16, dval_1, gradW, Taps.up, lanes]

end Cert.QkvKernelIdeal.Qkv

end
-- ==== Proof.QkvKernel.lean ====
module

public import proofs.«01_k».proof.Proof.Gen.QkvKernelIdeal.Frame
public import proofs.«01_k».proof.Proof.QkvPay
public import Idealize.ShloMosaic.Lib.Pipeline.ValueKit

/-!
The blocks the backward kernel of the queries, keys and values reads, as heads of its arguments.
-/

@[expose] public section

set_option maxRecDepth 16384

noncomputable section

open Idealize.ShloMosaic Idealize.ShloMosaic.TcCoe Idealize.SL.Sem
open Idealize.ShloMosaic.Pipeline (Dat)
open scoped BigOperators

namespace Cert.QkvKernelIdeal.Qkv

open Cert.QkvKernelIdeal Cert.QkvKernelIdeal.Gen
open _root_.Qkv

variable (m : (ℓ : Loc nD τ sig) → Buf (Elt Ideal) ℓ)

/-- The projection the host lays out holds the input in its first columns. -/
theorem proj_at (c : Dev nD) (r : Fin 2048) (n : Fin 8448) (k : Fin 3072) (h : k.val = n.val) :
    V m c main_v0 (ix2 r n) = m ((c.tc : Thread nD τ).loc main_arg0) (ix2 r k) := by
  rw [show k = ⟨n.val, by omega⟩ from Fin.ext h]
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]

/-- The block each window holds at a grid point, and the point's coordinate. -/
theorem idx : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ (grid0.coords t 0).val = t.val :=
  (by decide +kernel : ∀ t : Fin grid0.N, _)

theorem lt_12 (t : Fin cfg0.N) : t.val < 12 := lt_of_lt_of_eq t.isLt N_0

/-- A head loaded from the projection's block is a head of the input. -/
theorem head_x (c : Dev nD) (t : Fin cfg0.N) (a : ℕ) (hb) (h : Fin 24) (ha : 256 * t.val + a = 128 * h.val) (h2 : a ≤ 128) :
    lanes (View.ld (iblk m c 0 t) (Rect.unit ![0, a] ![2048, 128] hb)) = headOf (m ((c.tc : Thread nD τ).loc main_arg0)) h := by
  have ht := lt_12 t
  funext l r
  have hl := l.isLt
  unfold lanes headOf
  refine (View.ld_unit_apply_of (S := S2048x256) (iblk m c 0 t) ![0, a] ![2048, 128] hb (ix2 r l) (ix2 r ⟨a + l.val, by omega⟩)
    (by intro q; fin_cases q <;> simp)).trans ?_
  refine Eq.trans ?_ (proj_at m c r ⟨256 * t.val + (a + l.val), by omega⟩ _ (show 128 * h.val + l.val = _ by dsimp only; omega))
  blk_point [iblk, idx t]

/-- A head loaded from the cotangent's block. -/
theorem head_d (c : Dev nD) (t : Fin cfg0.N) (a : ℕ) (hb) (h : Fin 24) (ha : 256 * t.val + a = 128 * h.val) (h2 : a ≤ 128) :
    lanes (View.ld (iblk m c 2 t) (Rect.unit ![0, a] ![2048, 128] hb)) = headOf (m ((c.tc : Thread nD τ).loc main_arg2)) h := by
  have ht := lt_12 t
  funext l r
  have hl := l.isLt
  unfold lanes headOf
  refine (View.ld_unit_apply_of (S := S2048x256) (iblk m c 2 t) ![0, a] ![2048, 128] hb (ix2 r l) (ix2 r ⟨a + l.val, by omega⟩)
    (by intro q; fin_cases q <;> simp)).trans ?_
  simp only [← ha, Nat.add_assoc]
  blk_point [iblk, V, idx t]

/-- A lane loaded from the taps' block. -/
theorem tap_at (c : Dev nD) (t : Fin cfg0.N) (n : ℕ) (q : Fin 4) (a : ℕ) (hb) (l : Fin 128) (h : Fin 24)
    (ha : 256 * t.val + a = 128 * h.val) (h2 : a ≤ 128) (hq : q.val = n) :
    View.ld (iblk m c 1 t) (Rect.unit ![n, a] ![1, 128] hb) (ix2 (0 : Fin 1) l)
      = tapsOf (m ((c.tc : Thread nD τ).loc main_arg1)) h q l := by
  have ht := lt_12 t
  have hl := l.isLt
  unfold tapsOf
  refine (View.ld_unit_apply_of (S := S4x256) (iblk m c 1 t) ![n, a] ![1, 128] hb (ix2 (0 : Fin 1) l) (ix2 q ⟨a + l.val, by omega⟩)
    (by intro q; fin_cases q <;> simp [hq])).trans ?_
  simp only [← ha, Nat.add_assoc]
  blk_point [iblk, V, idx t]

/-- What the block's first head reads. -/
theorem reads_0 (c : Dev nD) (t : Fin cfg0.N) (h : Fin 24) (hh : h.val = 2 * t.val) :
    k0_pay1 (F := Ideal) (grid0.coords t) = scale h
    ∧ IntOp.cmpi .slt (BitVec.ofNat 32 (grid0.coords t 0).val) 8#32 = flag h
    ∧ taps (View.ld (iblk m c 1 t) (Rect.unit ![0, 0] ![1, 128] inb_S4x256_S1x128_0_0))
        (View.ld (iblk m c 1 t) (Rect.unit ![1, 0] ![1, 128] inb_S4x256_S1x128_1_0))
        (View.ld (iblk m c 1 t) (Rect.unit ![2, 0] ![1, 128] inb_S4x256_S1x128_2_0))
        (View.ld (iblk m c 1 t) (Rect.unit ![3, 0] ![1, 128] inb_S4x256_S1x128_3_0)) = tapsOf (m ((c.tc : Thread nD τ).loc main_arg1)) h
    ∧ lanes (View.ld (iblk m c 0 t) (Rect.unit ![0, 0] ![2048, 128] inb_S2048x256_S2048x128_0_0)) = headOf (m ((c.tc : Thread nD τ).loc main_arg0)) h
    ∧ lanes (View.ld (iblk m c 2 t) (Rect.unit ![0, 0] ![2048, 128] inb_S2048x256_S2048x128_0_0)) = headOf (m ((c.tc : Thread nD τ).loc main_arg2)) h := by
  have e : h.val / 2 = (grid0.coords t 0).val := by rw [(idx t).2.2.2.2.2]; omega
  refine ⟨?_, by rw [flag, e], ?_, head_x m c t 0 _ h (by omega) (by omega), head_d m c t 0 _ h (by omega) (by omega)⟩
  · rw [scale, e]
    pointwise [k0_pay1]
    rfl
  · funext q l
    fin_cases q
    · exact tap_at m c t 0 0 0 _ l h (by omega) (by omega) rfl
    · exact tap_at m c t 1 1 0 _ l h (by omega) (by omega) rfl
    · exact tap_at m c t 2 2 0 _ l h (by omega) (by omega) rfl
    · exact tap_at m c t 3 3 0 _ l h (by omega) (by omega) rfl

/-- What the block's second head reads. -/
theorem reads_1 (c : Dev nD) (t : Fin cfg0.N) (h : Fin 24) (hh : h.val = 2 * t.val + 1) :
    k0_pay1 (F := Ideal) (grid0.coords t) = scale h
    ∧ IntOp.cmpi .slt (BitVec.ofNat 32 (grid0.coords t 0).val) 8#32 = flag h
    ∧ taps (View.ld (iblk m c 1 t) (Rect.unit ![0, 128] ![1, 128] inb_S4x256_S1x128_0_128))
        (View.ld (iblk m c 1 t) (Rect.unit ![1, 128] ![1, 128] inb_S4x256_S1x128_1_128))
        (View.ld (iblk m c 1 t) (Rect.unit ![2, 128] ![1, 128] inb_S4x256_S1x128_2_128))
        (View.ld (iblk m c 1 t) (Rect.unit ![3, 128] ![1, 128] inb_S4x256_S1x128_3_128)) = tapsOf (m ((c.tc : Thread nD τ).loc main_arg1)) h
    ∧ lanes (View.ld (iblk m c 0 t) (Rect.unit ![0, 128] ![2048, 128] inb_S2048x256_S2048x128_0_128)) = headOf (m ((c.tc : Thread nD τ).loc main_arg0)) h
    ∧ lanes (View.ld (iblk m c 2 t) (Rect.unit ![0, 128] ![2048, 128] inb_S2048x256_S2048x128_0_128)) = headOf (m ((c.tc : Thread nD τ).loc main_arg2)) h := by
  have e : h.val / 2 = (grid0.coords t 0).val := by rw [(idx t).2.2.2.2.2]; omega
  refine ⟨?_, by rw [flag, e], ?_, head_x m c t 128 _ h (by omega) (by omega), head_d m c t 128 _ h (by omega) (by omega)⟩
  · rw [scale, e]
    pointwise [k0_pay1]
    rfl
  · funext q l
    fin_cases q
    · exact tap_at m c t 0 0 128 _ l h (by omega) (by omega) rfl
    · exact tap_at m c t 1 1 128 _ l h (by omega) (by omega) rfl
    · exact tap_at m c t 2 2 128 _ l h (by omega) (by omega) rfl
    · exact tap_at m c t 3 3 128 _ l h (by omega) (by omega) rfl

end Cert.QkvKernelIdeal.Qkv

end
-- ==== Proof.QkvFinal.lean ====
module

public import proofs.«01_k».proof.Proof.Idx2
public import proofs.«01_k».proof.Proof.Gen.QkvKernelIdeal.Frame
public import proofs.«01_k».proof.Proof.QkvKernel
public import Idealize.ShloMosaic.Lib.Pipeline.ValueKit

/-!
The results of the backward kernel of the queries, keys and values after the run.
-/

@[expose] public section

set_option maxRecDepth 16384

noncomputable section

open Idealize.ShloMosaic Idealize.ShloMosaic.TcCoe Idealize.SL.Sem
open Idealize.ShloMosaic.Pipeline (Dat)
open scoped BigOperators

namespace Cert.QkvKernelIdeal.Qkv

open Cert.QkvKernelIdeal Cert.QkvKernelIdeal.Gen
open Idx2 (emb_eq)
open _root_.Qkv

variable (m : (ℓ : Loc nD τ sig) → Buf (Elt Ideal) ℓ)

set_option maxHeartbeats 2000000 in
/-- The second result after the run: the taps' gradient. -/
theorem final_4 (c : Dev nD) : (dats m 0 c).arrAt 4 (cfgs 0).N
    = resW (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have ht := lt_12 t
  blk_simp; rw [after0_4]
  unfold outsAt0
  dsimp only; frame_out
  obtain ⟨k0, hk0⟩ : ∃ k : Fin 24, k.val = 2 * t.val := ⟨⟨2 * t.val, by omega⟩, rfl⟩
  obtain ⟨k1, hk1⟩ : ∃ k : Fin 24, k.val = 2 * t.val + 1 := ⟨⟨2 * t.val + 1, by omega⟩, rfl⟩
  obtain ⟨a0, f0, w0, x0', d0⟩ := reads_0 m c t k0 hk0
  obtain ⟨a1, f1, w1, x1', d1⟩ := reads_1 m c t k1 hk1
  canon_tiles x h
  · idx_vars x
    obtain ⟨n, hn⟩ : ∃ n : Fin 3072, n.val = 256 * t.val + (128 + x1.val) := ⟨⟨256 * t.val + (128 + x1.val), by omega⟩, rfl⟩
    refine (gradW0_1 _ _ _ _ _ _ _ _ x0 x1 a1 f1 w1 x1' d1).trans ?_
    rw [show ((View.whole main_v1_1).slice (win0_4.rect t)).emb y = ix2 (0 : Fin 4) n from
      emb_eq _ _ _ (by blk_simp [idx t] <;> omega) (by blk_simp [idx t] <;> omega)]
    exact (resW_at _ _ _ 0 n k1 x1 (by omega)).symm
  · idx_vars x
    obtain ⟨n, hn⟩ : ∃ n : Fin 3072, n.val = 256 * t.val + (128 + x1.val) := ⟨⟨256 * t.val + (128 + x1.val), by omega⟩, rfl⟩
    refine (gradW1_1 _ _ _ _ _ _ _ _ x0 x1 a1 f1 w1 x1' d1).trans ?_
    rw [show ((View.whole main_v1_1).slice (win0_4.rect t)).emb y = ix2 (1 : Fin 4) n from
      emb_eq _ _ _ (by blk_simp [idx t] <;> omega) (by blk_simp [idx t] <;> omega)]
    exact (resW_at _ _ _ 1 n k1 x1 (by omega)).symm
  · idx_vars x
    obtain ⟨n, hn⟩ : ∃ n : Fin 3072, n.val = 256 * t.val + (128 + x1.val) := ⟨⟨256 * t.val + (128 + x1.val), by omega⟩, rfl⟩
    refine (gradW2_1 _ _ _ _ _ _ _ _ x0 x1 a1 f1 w1 x1' d1).trans ?_
    rw [show ((View.whole main_v1_1).slice (win0_4.rect t)).emb y = ix2 (2 : Fin 4) n from
      emb_eq _ _ _ (by blk_simp [idx t] <;> omega) (by blk_simp [idx t] <;> omega)]
    exact (resW_at _ _ _ 2 n k1 x1 (by omega)).symm
  · idx_vars x
    obtain ⟨n, hn⟩ : ∃ n : Fin 3072, n.val = 256 * t.val + (128 + x1.val) := ⟨⟨256 * t.val + (128 + x1.val), by omega⟩, rfl⟩
    refine (gradW3_1 _ _ _ _ _ _ _ _ x0 x1 a1 f1 w1 x1' d1).trans ?_
    rw [show ((View.whole main_v1_1).slice (win0_4.rect t)).emb y = ix2 (3 : Fin 4) n from
      emb_eq _ _ _ (by blk_simp [idx t] <;> omega) (by blk_simp [idx t] <;> omega)]
    exact (resW_at _ _ _ 3 n k1 x1 (by omega)).symm
  · idx_vars x
    obtain ⟨n, hn⟩ : ∃ n : Fin 3072, n.val = 256 * t.val + (0 + x1.val) := ⟨⟨256 * t.val + (0 + x1.val), by omega⟩, rfl⟩
    refine (gradW0_0 _ _ _ _ _ _ _ _ x0 x1 a0 f0 w0 x0' d0).trans ?_
    rw [show ((View.whole main_v1_1).slice (win0_4.rect t)).emb y = ix2 (0 : Fin 4) n from
      emb_eq _ _ _ (by blk_simp [idx t] <;> omega) (by blk_simp [idx t] <;> omega)]
    exact (resW_at _ _ _ 0 n k0 x1 (by omega)).symm
  · idx_vars x
    obtain ⟨n, hn⟩ : ∃ n : Fin 3072, n.val = 256 * t.val + (0 + x1.val) := ⟨⟨256 * t.val + (0 + x1.val), by omega⟩, rfl⟩
    refine (gradW1_0 _ _ _ _ _ _ _ _ x0 x1 a0 f0 w0 x0' d0).trans ?_
    rw [show ((View.whole main_v1_1).slice (win0_4.rect t)).emb y = ix2 (1 : Fin 4) n from
      emb_eq _ _ _ (by blk_simp [idx t] <;> omega) (by blk_simp [idx t] <;> omega)]
    exact (resW_at _ _ _ 1 n k0 x1 (by omega)).symm
  · idx_vars x
    obtain ⟨n, hn⟩ : ∃ n : Fin 3072, n.val = 256 * t.val + (0 + x1.val) := ⟨⟨256 * t.val + (0 + x1.val), by omega⟩, rfl⟩
    refine (gradW2_0 _ _ _ _ _ _ _ _ x0 x1 a0 f0 w0 x0' d0).trans ?_
    rw [show ((View.whole main_v1_1).slice (win0_4.rect t)).emb y = ix2 (2 : Fin 4) n from
      emb_eq _ _ _ (by blk_simp [idx t] <;> omega) (by blk_simp [idx t] <;> omega)]
    exact (resW_at _ _ _ 2 n k0 x1 (by omega)).symm
  · idx_vars x
    obtain ⟨n, hn⟩ : ∃ n : Fin 3072, n.val = 256 * t.val + (0 + x1.val) := ⟨⟨256 * t.val + (0 + x1.val), by omega⟩, rfl⟩
    refine (gradW3_0 _ _ _ _ _ _ _ _ x0 x1 a0 f0 w0 x0' d0).trans ?_
    rw [show ((View.whole main_v1_1).slice (win0_4.rect t)).emb y = ix2 (3 : Fin 4) n from
      emb_eq _ _ _ (by blk_simp [idx t] <;> omega) (by blk_simp [idx t] <;> omega)]
    exact (resW_at _ _ _ 3 n k0 x1 (by omega)).symm

set_option maxHeartbeats 4000000 in
/-- The first result after the run: the input's gradient in its columns, the rest as the caller left it. -/
theorem final_3 (c : Dev nD) : (dats m 0 c).arrAt 3 (cfgs 0).N
    = resX (m ((c.tc : Thread nD τ).loc main_arg0)) (m ((c.tc : Thread nD τ).loc main_arg1)) (m ((c.tc : Thread nD τ).loc main_arg2)) (m ((c.tc : Thread nD τ).loc main_arg3)) := by
  have hA := (dats m 0 c).arrAt_eq_of_coversWhere 3 (resX (m ((c.tc : Thread nD τ).loc main_arg0)) (m ((c.tc : Thread nD τ).loc main_arg1)) (m ((c.tc : Thread nD τ).loc main_arg2)) (m ((c.tc : Thread nD τ).loc main_arg3)))
      (P := fun i => (i (1 : Fin 2) : ℕ) / 256 < 12)
      (fun β => β (1 : Fin 2) < 12) (by decide +kernel) (fun t hf y => ?_)
      (fun j => Iff.rfl)
  · rw [hA]
    funext i
    by_cases hi : (i (1 : Fin 2) : ℕ) / 256 < 12
    · exact if_pos hi
    · refine (if_neg hi).trans ?_
      unfold resX
      rw [dif_neg (by omega)]
      rfl
  have ht := lt_12 t
  blk_simp; rw [after0_3]
  unfold outsAt0
  dsimp only; frame_out
  obtain ⟨k0, hk0⟩ : ∃ k : Fin 24, k.val = 2 * t.val := ⟨⟨2 * t.val, by omega⟩, rfl⟩
  obtain ⟨k1, hk1⟩ : ∃ k : Fin 24, k.val = 2 * t.val + 1 := ⟨⟨2 * t.val + 1, by omega⟩, rfl⟩
  obtain ⟨a0, f0, w0, x0', d0⟩ := reads_0 m c t k0 hk0
  obtain ⟨a1, f1, w1, x1', d1⟩ := reads_1 m c t k1 hk1
  canon_tiles x h
  · idx_vars x
    obtain ⟨n, hn⟩ : ∃ n : Fin 8448, n.val = 256 * t.val + (128 + x1.val) := ⟨⟨256 * t.val + (128 + x1.val), by omega⟩, rfl⟩
    refine (gradX_1 _ _ _ _ _ _ _ _ x0 x1 a1 f1 w1 x1' d1).trans ?_
    rw [show ((View.whole main_v1_0).slice (win0_3.rect t)).emb y = ix2 x0 n from
      emb_eq _ _ _ (by blk_simp [idx t] at h0 ⊢ <;> omega) (by blk_simp [idx t] at h1 ⊢ <;> omega)]
    exact (resX_at _ _ _ _ x0 n k1 x1 (by omega)).symm
  · idx_vars x
    obtain ⟨n, hn⟩ : ∃ n : Fin 8448, n.val = 256 * t.val + (0 + x1.val) := ⟨⟨256 * t.val + (0 + x1.val), by omega⟩, rfl⟩
    refine (gradX_0 _ _ _ _ _ _ _ _ x0 x1 a0 f0 w0 x0' d0).trans ?_
    rw [show ((View.whole main_v1_0).slice (win0_3.rect t)).emb y = ix2 x0 n from
      emb_eq _ _ _ (by blk_simp [idx t] at h0 ⊢ <;> omega) (by blk_simp [idx t] at h1 ⊢ <;> omega)]
    exact (resX_at _ _ _ _ x0 n k0 x1 (by omega)).symm

end Cert.QkvKernelIdeal.Qkv

end
-- ==== Proof.QkvMath.lean ====
module

public import proofs.«01_k».proof.Proof.QkvForms
public import proofs.«01_k».proof.Proof.GateMath

/-!
The two ways to write a head's gradients are equal where the arguments are real.
-/

@[expose] public section

open Idealize.ShloMosaic Taps
open scoped BigOperators

noncomputable section

namespace Qkv

variable (s : EReal) (f : BitVec 1) (W : Fin 4 → Fin 128 → EReal) (X D : Fin 128 → Fin 2048 → EReal)

/-- Half of the gradient that reaches an activation through the sum of the squares. -/
def half (r : Fin 2048) : EReal :=
  (∑ k, act W X k r * (D k r * s)) * (Ideal.ofBits .f32 0xBF000000#32 * Ideal.div (rn W X r) (ms W X r))

/-- The value is real where the input and the taps are. -/
theorem value_real (hW : ∀ q l, Reals.Is (W q l)) (hX : ∀ l r, Reals.Is (X l r)) (l : Fin 128) (r : Fin 2048) :
    Reals.Is (value W X l r) := by
  have hd : ∀ s, s < 2048 → Reals.Is (down s (X l) r) := fun s hs => by
    rw [down_eq s hs]
    split
    · exact hX _ _
    · exact Reals.Is.zero
  exact ((((hW 3 l).mul (hX l r)).add ((hW 2 l).mul (hd 1 (by omega)))).add ((hW 1 l).mul (hd 2 (by omega)))).add
    ((hW 0 l).mul (hd 3 (by omega)))

/-- The activation is real where the value is. -/
theorem act_real (l : Fin 128) (r : Fin 2048) (h : Reals.Is (value W X l r)) : Reals.Is (act W X l r) := by
  obtain ⟨c, hc⟩ := h
  unfold act
  rw [hc, Ideal.logistic_coe]
  exact ⟨_, (EReal.coe_mul _ _).symm⟩

/-- A row's reciprocal root and its quotient by the sum of the squares, where the activations are real. -/
theorem rn_cases (r : Fin 2048) (h : ∀ l, Reals.Is (act W X l r)) :
    ∃ t : ℝ, rn W X r = t ∧ Ideal.div (rn W X r) (ms W X r) = ((t * t * t : ℝ) : EReal) := by
  choose y hy using h
  obtain ⟨e, he, hE⟩ := Gate.lit_eps
  have hm : ms W X r = ((∑ k, y k * y k + e : ℝ) : EReal) := by
    unfold ms
    simp only [hy, hE, ← EReal.coe_mul, Reals.sum_coe, ← EReal.coe_add]
  have hpos : 0 < ∑ k, y k * y k + e := by
    have : 0 ≤ ∑ k, y k * y k := Finset.sum_nonneg fun k _ => mul_self_nonneg (y k)
    positivity
  generalize ∑ k, y k * y k + e = v at hm hpos
  have hs : 0 < Real.sqrt v := Real.sqrt_pos.mpr hpos
  have hr : rn W X r = (((Real.sqrt v)⁻¹ : ℝ) : EReal) := by
    rw [rn, hm, Ideal.rsqrt_coe, if_neg (not_lt.mpr hpos.le), if_neg hpos.ne']
  refine ⟨(Real.sqrt v)⁻¹, hr, ?_⟩
  rw [hr, hm, Ideal.div_coe hpos.ne', ← EReal.coe_mul]
  congr 1
  have hvv : v = Real.sqrt v * Real.sqrt v := (Real.mul_self_sqrt hpos.le).symm
  generalize Real.sqrt v = s at hs hvv
  subst hvv
  field_simp

/-- The gradient through the normalisation, as the chain rule writes it. -/
theorem dnorm_eq (hs : Reals.Is s) (r : Fin 2048) (h : ∀ l, Reals.Is (act W X l r)) (hD : ∀ l, Reals.Is (D l r)) (l : Fin 128) :
    D l r * s * rn W X r + act W X l r * half s W X D r + half s W X D r * act W X l r = dnorm s W X D l r := by
  obtain ⟨t, hr, hq⟩ := rn_cases W X r h
  choose y hy using h
  choose d hd using hD
  obtain ⟨σ, hs⟩ := hs
  unfold half dnorm
  rw [hq, hr, Gate.lit_half]
  simp only [hy, hd, hs, ← EReal.coe_mul, Reals.sum_coe, ← EReal.coe_add, ← EReal.coe_sub]
  congr 1
  have e1 : ∑ k, y k * (d k * σ) = (∑ k, d k * y k) * σ := by
    rw [Finset.sum_mul]
    exact Finset.sum_congr rfl fun k _ => by ring
  rw [e1]
  ring

/-- The gradient with respect to the activation is real where the arguments are. -/
theorem dact_real (hs : Reals.Is s) (r : Fin 2048) (h : ∀ l, Reals.Is (act W X l r)) (hD : ∀ l, Reals.Is (D l r)) (l : Fin 128) :
    Reals.Is (dact s f W X D l r) := by
  have hn : Reals.Is (dnorm s W X D l r) := by
    obtain ⟨t, hr, hq⟩ := rn_cases W X r h
    choose y hy using h
    choose d hd using hD
    obtain ⟨σ, hs⟩ := hs
    unfold dnorm
    rw [hr]
    simp only [hy, hd, hs, ← EReal.coe_mul, Reals.sum_coe, ← EReal.coe_sub]
    exact ⟨_, rfl⟩
  unfold dact Scalar.select
  split
  · exact hn
  · exact hD l

/-- The gradient with respect to the value, as the chain rule through `silu` writes it. -/
theorem dval_eq (l : Fin 128) (r : Fin 2048) (h : Reals.Is (dact s f W X D l r)) :
    dact s f W X D l r * Ideal.logistic (value W X l r)
      + value W X l r * dact s f W X D l r * (Ideal.logistic (value W X l r) * (1 - Ideal.logistic (value W X l r)))
      = dval s f W X D l r := by
  obtain ⟨P, hP⟩ := h
  unfold dval
  rw [hP]
  generalize value W X l r = z
  have e1 : (1 : EReal) - 1 = 0 := by rw [← EReal.coe_one, ← EReal.coe_sub, sub_self]; rfl
  induction z with
  | bot => simp
  | coe t =>
    rw [Ideal.logistic_coe]
    norm_cast
    ring
  | top => simp [e1, mul_comm]

/-- The scale of a head is real. -/
theorem scale_real (h : Fin 24) : Reals.Is (scale h) := by
  have hq : Reals.Is (Ideal.ofBits .f32 0x3DB504F3#32) :=
    ⟨_, by simp [Ideal.ofBits, Ideal.ieee, -EReal.coe_mul]; rfl⟩
  unfold scale Scalar.select
  split
  · exact hq
  · exact ⟨1, rfl⟩

/-- The scale and the flag of a query, a key and a value. -/
theorem scale_q (h : Fin 24) (hh : h.val < 8) : scale h = Ideal.ofBits .f32 0x3DB504F3#32 := by
  have e : ∀ n < 4, IntOp.cmpi .slt (BitVec.ofNat 32 n) 4#32 = 1#1 := by decide
  rw [scale, e _ (by omega)]
  rfl

theorem scale_k (h : Fin 24) (hh : 8 ≤ h.val) : scale h = 1 := by
  have e : ∀ n < 12, 4 ≤ n → IntOp.cmpi .slt (BitVec.ofNat 32 n) 4#32 = 0#1 := by decide
  rw [scale, e _ (by omega) (by omega)]
  rfl

theorem flag_qk (h : Fin 24) (hh : h.val < 16) : flag h = 1#1 := by
  have e : ∀ n < 8, IntOp.cmpi .slt (BitVec.ofNat 32 n) 8#32 = 1#1 := by decide
  exact e _ (by omega)

theorem flag_v (h : Fin 24) (hh : 16 ≤ h.val) : flag h = 0#1 := by
  have e : ∀ n < 12, 8 ≤ n → IntOp.cmpi .slt (BitVec.ofNat 32 n) 8#32 = 0#1 := by decide
  exact e _ (by omega) (by omega)

end Qkv

end
-- ==== Proof.QkvRef.lean ====
module

public import proofs.«01_k».proof.Proof.Gen.QkvReferenceIdeal.Read
public import proofs.«01_k».proof.Proof.QkvMath
public import proofs.«01_k».proof.Proof.UnitSums
public import Idealize.ShloMosaic.Lib.Pointwise

/-!
The reference of the queries, keys and values: its values read at an index.
-/

@[expose] public section

set_option maxRecDepth 16384

noncomputable section

open Idealize.ShloMosaic Idealize.ShloMosaic.TcCoe Idealize.SL.Sem
open scoped BigOperators

namespace Cert.QkvReferenceIdeal.Qkv

open Cert.QkvReferenceIdeal Cert.QkvReferenceIdeal.Gen
open Cert.QkvReferenceIdeal.Read
open _root_.Qkv

variable (x : FVec Ideal S2048x3072 .f32) (w : FVec Ideal S4x3072 .f32) (d : FVec Ideal S2048x3072 .f32) (p : FVec Ideal S2048x8448 .bf16)

/-- Lane `l` of head `h`, as a column. -/
abbrev chan (h : Fin 24) (l : Fin 128) : Fin 3072 := ⟨128 * h.val + l.val, by omega⟩

/-- The input 3 rows down. -/
theorem v10_at (a : Fin 1) (r : Fin 2048) (h : Fin 24) (l : Fin 128) : val_main_v10 (F := Ideal) x (ix3 a r (chan h l))
    = Taps.down 3 (headOf x h l) r := by
  rw [Taps.down_eq 3 (by omega)]
  pointwise [val_main_v10, val_main_v8, val_main_v7, val_main_cst]
  by_cases h2 : 3 ≤ r.val
  · rw [dif_neg (by omega), dif_pos h2]
    pointwise [val_main_v6, headOf]
  · rw [dif_pos (by omega), dif_neg h2]

/-- The input 2 rows down. -/
theorem v18_at (a : Fin 1) (r : Fin 2048) (h : Fin 24) (l : Fin 128) : val_main_v18 (F := Ideal) x (ix3 a r (chan h l))
    = Taps.down 2 (headOf x h l) r := by
  rw [Taps.down_eq 2 (by omega)]
  pointwise [val_main_v18, val_main_v8, val_main_v7, val_main_cst]
  by_cases h2 : 2 ≤ r.val
  · rw [dif_neg (by omega), dif_pos h2]
    pointwise [val_main_v6, headOf]
    have e : 1 + r.val - 3 = r.val - 2 := by omega
    simp only [e]
  · rw [dif_pos (by omega), dif_neg h2]

/-- The input 1 rows down. -/
theorem v25_at (a : Fin 1) (r : Fin 2048) (h : Fin 24) (l : Fin 128) : val_main_v25 (F := Ideal) x (ix3 a r (chan h l))
    = Taps.down 1 (headOf x h l) r := by
  rw [Taps.down_eq 1 (by omega)]
  pointwise [val_main_v25, val_main_v8, val_main_v7, val_main_cst]
  by_cases h2 : 1 ≤ r.val
  · rw [dif_neg (by omega), dif_pos h2]
    pointwise [val_main_v6, headOf]
    have e : 2 + r.val - 3 = r.val - 1 := by omega
    simp only [e]
  · rw [dif_pos (by omega), dif_neg h2]

/-- The input. -/
theorem v32_at (a : Fin 1) (r : Fin 2048) (h : Fin 24) (l : Fin 128) : val_main_v32 (F := Ideal) x (ix3 a r (chan h l))
    = headOf x h l r := by
  pointwise [val_main_v32, val_main_v8, val_main_v7, val_main_cst]
  pointwise [val_main_v6, headOf]

/-- The convolution's value. -/
theorem v38_at (a : Fin 1) (r : Fin 2048) (h : Fin 24) (l : Fin 128) : val_main_v38 (F := Ideal) x w (ix3 a r (chan h l))
    = value (tapsOf w h) (headOf x h) l r := by
  have e : value (tapsOf w h) (headOf x h) l r
      = Taps.down 3 (headOf x h l) r * tapsOf w h 0 l + Taps.down 2 (headOf x h l) r * tapsOf w h 1 l
        + Taps.down 1 (headOf x h l) r * tapsOf w h 2 l + headOf x h l r * tapsOf w h 3 l := by
    unfold value
    ac_rfl
  rw [e]
  pointwise [val_main_v38, val_main_v37, val_main_v36, val_main_v35, val_main_v34, val_main_v33, v32_at, val_main_v31, val_main_v30,
    val_main_v29, val_main_v28, val_main_v27, val_main_v26, v25_at, val_main_v24, val_main_v23, val_main_v22, val_main_v21, val_main_v20,
    val_main_v19, v18_at, val_main_v17, val_main_v16, val_main_cst_1, val_main_v15, val_main_v14, val_main_v13, val_main_v12, val_main_v11, v10_at, tapsOf]

/-- The logistic of the value. -/
theorem v39_2_at (a : Fin 1) (r : Fin 2048) (h : Fin 24) (l : Fin 128) : val_main_v39_2 (F := Ideal) x w (ix3 a r (chan h l))
    = Ideal.logistic (value (tapsOf w h) (headOf x h) l r) := by
  pointwise [val_main_v39_2, val_main_call0_v4, val_main_call0_v3, val_main_call0_v2, val_main_call0_v1, val_main_call0_v0,
    val_main_call0_cst, val_main_call0_cst_0, v38_at, Ideal.logistic]

/-- The activation. -/
theorem v39_0_at (a : Fin 1) (r : Fin 2048) (n : Fin 3072) (h : Fin 24) (l : Fin 128) (hn : n.val = 128 * h.val + l.val) :
    val_main_v39_0 (F := Ideal) x w (ix3 a r n) = act (tapsOf w h) (headOf x h) l r := by
  rw [show n = chan h l from Fin.ext hn]
  pointwise [val_main_v39_0, v38_at, v39_2_at, act]

/-- The activation of a query. -/
theorem v43_at (a : Fin 1) (r : Fin 2048) (b : Fin 8) (l : Fin 128) (h : Fin 24) (hh : h.val = b.val + 0) :
    val_main_v43 (F := Ideal) x w (ix4 a r b l) = act (tapsOf w h) (headOf x h) l r := by
  have hl := l.isLt
  have hb := b.isLt
  pointwise [val_main_v43, val_main_v40]
  exact v39_0_at x w 0 r ⟨b.val * 128 + l.val, by omega⟩ h l (show b.val * 128 + l.val = 128 * h.val + l.val by omega)

/-- The sum of the squares of a query, with the norm's small term. -/
theorem v48_at (a : Fin 1) (r : Fin 2048) (b : Fin 8) (o : Fin 1) (h : Fin 24) (hh : h.val = b.val + 0) :
    val_main_v48 (F := Ideal) x w (ix4 a r b o) = ms (tapsOf w h) (headOf x h) r := by
  pointwise [val_main_v48, val_main_v46, val_main_v47, val_main_cst_3, val_main_v45, val_main_v44, val_main_cst_2]
  simp only [v43_at x w _ _ _ _ h hh]
  rw [ms]

/-- The activation of a key. -/
theorem v57_at (a : Fin 1) (r : Fin 2048) (b : Fin 8) (l : Fin 128) (h : Fin 24) (hh : h.val = b.val + 8) :
    val_main_v57 (F := Ideal) x w (ix4 a r b l) = act (tapsOf w h) (headOf x h) l r := by
  have hl := l.isLt
  have hb := b.isLt
  pointwise [val_main_v57, val_main_v41]
  exact v39_0_at x w 0 r ⟨1024 + (b.val * 128 + l.val), by omega⟩ h l (show 1024 + (b.val * 128 + l.val) = 128 * h.val + l.val by omega)

/-- The sum of the squares of a key, with the norm's small term. -/
theorem v62_at (a : Fin 1) (r : Fin 2048) (b : Fin 8) (o : Fin 1) (h : Fin 24) (hh : h.val = b.val + 8) :
    val_main_v62 (F := Ideal) x w (ix4 a r b o) = ms (tapsOf w h) (headOf x h) r := by
  pointwise [val_main_v62, val_main_v60, val_main_v61, val_main_cst_7, val_main_v59, val_main_v58, val_main_cst_6]
  simp only [v57_at x w _ _ _ _ h hh]
  rw [ms]

/-- The reciprocal root of a query, and its quotient times minus one half. -/
theorem v49_at (a : Fin 1) (r : Fin 2048) (b : Fin 8) (o : Fin 1) (h : Fin 24) (hh : h.val = b.val + 0) :
    val_main_v49 (F := Ideal) x w (ix4 a r b o) = rn (tapsOf w h) (headOf x h) r := by
  pointwise [val_main_v49]
  rw [v48_at x w _ _ _ _ h hh]
  rw [rn]

theorem v52_at (a : Fin 1) (r : Fin 2048) (b : Fin 8) (o : Fin 1) (h : Fin 24) (hh : h.val = b.val + 0) :
    val_main_v52 (F := Ideal) x w (ix4 a r b o)
      = Ideal.ofBits .f32 0xBF000000#32 * Ideal.div (rn (tapsOf w h) (headOf x h) r) (ms (tapsOf w h) (headOf x h) r) := by
  pointwise [val_main_v52, val_main_v51, val_main_cst_4, val_main_v50]
  rw [v48_at x w _ _ _ _ h hh, v49_at x w _ _ _ _ h hh]

/-- The reciprocal root of a key, and its quotient times minus one half. -/
theorem v63_at (a : Fin 1) (r : Fin 2048) (b : Fin 8) (o : Fin 1) (h : Fin 24) (hh : h.val = b.val + 8) :
    val_main_v63 (F := Ideal) x w (ix4 a r b o) = rn (tapsOf w h) (headOf x h) r := by
  pointwise [val_main_v63]
  rw [v62_at x w _ _ _ _ h hh]
  rw [rn]

theorem v66_at (a : Fin 1) (r : Fin 2048) (b : Fin 8) (o : Fin 1) (h : Fin 24) (hh : h.val = b.val + 8) :
    val_main_v66 (F := Ideal) x w (ix4 a r b o)
      = Ideal.ofBits .f32 0xBF000000#32 * Ideal.div (rn (tapsOf w h) (headOf x h) r) (ms (tapsOf w h) (headOf x h) r) := by
  pointwise [val_main_v66, val_main_v65, val_main_cst_8, val_main_v64]
  rw [v62_at x w _ _ _ _ h hh, v63_at x w _ _ _ _ h hh]

/-- The cotangent of a query, scaled. -/
theorem v86_at (a : Fin 1) (r : Fin 2048) (b : Fin 8) (l : Fin 128) (h : Fin 24) (hh : h.val = b.val + 0) :
    val_main_v86 (F := Ideal) d (ix4 a r b l) = headOf d h l r * Ideal.ofBits .f32 0x3DB504F3#32 := by
  have hl := l.isLt
  have hb := b.isLt
  pointwise [val_main_v86, val_main_v85, val_main_cst_11, val_main_v1, val_main_v0, headOf]
  congr 2
  exact congrArg (fun q => ix2 r q) (Fin.ext (show b.val * 128 + l.val = 128 * h.val + l.val by omega))

/-- The cotangent of a key. -/
theorem v3_at (a : Fin 1) (r : Fin 2048) (b : Fin 8) (l : Fin 128) (h : Fin 24) (hh : h.val = b.val + 8) :
    val_main_v3 (F := Ideal) d (ix4 a r b l) = headOf d h l r * 1 := by
  have hl := l.isLt
  have hb := b.isLt
  rw [mul_one]
  pointwise [val_main_v3, val_main_v2, headOf]
  exact congrArg (fun q => d (ix2 r q)) (Fin.ext (show 1024 + (b.val * 128 + l.val) = 128 * h.val + l.val by omega))

/-- Half of the gradient that reaches a query through the sum of the squares. -/
theorem v95_at (a : Fin 1) (r : Fin 2048) (b : Fin 8) (l : Fin 128) (h : Fin 24) (hh : h.val = b.val + 0) :
    val_main_v95 (F := Ideal) x w d (ix4 a r b l)
      = half (Ideal.ofBits .f32 0x3DB504F3#32) (tapsOf w h) (headOf x h) (headOf d h) r := by
  pointwise [val_main_v95, val_main_v94]
  unfold val_main_v93
  rw [Host.reduceAdd_apply, Ideal.hostReduceAdd_def, UnitSums.sum_0_3]
  pointwise [val_main_cst_13, val_main_v92, val_main_v89, val_main_v88, val_main_cst_12, val_main_v87]
  rw [v52_at x w _ _ _ _ h hh]
  simp only [v43_at x w _ _ _ _ h hh, v86_at d _ _ _ _ h hh]
  rw [half]

/-- The part of a query's gradient that does not pass the sum of the squares. -/
theorem v91_at (a : Fin 1) (r : Fin 2048) (b : Fin 8) (l : Fin 128) (h : Fin 24) (hh : h.val = b.val + 0) :
    val_main_v91 (F := Ideal) x w d (ix4 a r b l) = headOf d h l r * (Ideal.ofBits .f32 0x3DB504F3#32) * rn (tapsOf w h) (headOf x h) r := by
  rw [← v86_at d a r b l h hh, ← v49_at x w 0 r b 0 h hh]
  pointwise [val_main_v91, val_main_v90]

/-- The part that passes it, twice. -/
theorem v96_at (a : Fin 1) (r : Fin 2048) (b : Fin 8) (l : Fin 128) (h : Fin 24) (hh : h.val = b.val + 0) :
    val_main_v96 (F := Ideal) x w d (ix4 a r b l)
      = act (tapsOf w h) (headOf x h) l r * half (Ideal.ofBits .f32 0x3DB504F3#32) (tapsOf w h) (headOf x h) (headOf d h) r := by
  rw [val_main_v96_apply, v95_at x w d a r b l h hh, v43_at x w a r b l h hh]
  generalize act (tapsOf w h) (headOf x h) l r = u
  generalize half _ (tapsOf w h) (headOf x h) (headOf d h) r = u'
  rfl

theorem v98_at (a : Fin 1) (r : Fin 2048) (b : Fin 8) (l : Fin 128) (h : Fin 24) (hh : h.val = b.val + 0) :
    val_main_v98 (F := Ideal) x w d (ix4 a r b l)
      = half (Ideal.ofBits .f32 0x3DB504F3#32) (tapsOf w h) (headOf x h) (headOf d h) r * act (tapsOf w h) (headOf x h) l r := by
  rw [← v95_at x w d a r b l h hh, ← v43_at x w a r b l h hh]
  pointwise [val_main_v98]

/-- The gradient with respect to the activation of a query, as the chain rule writes it. -/
theorem v99_at (a : Fin 1) (r : Fin 2048) (b : Fin 8) (l : Fin 128) (h : Fin 24) (hh : h.val = b.val + 0) :
    val_main_v99 (F := Ideal) x w d (ix4 a r b l)
      = headOf d h l r * (Ideal.ofBits .f32 0x3DB504F3#32) * rn (tapsOf w h) (headOf x h) r
        + act (tapsOf w h) (headOf x h) l r * half (Ideal.ofBits .f32 0x3DB504F3#32) (tapsOf w h) (headOf x h) (headOf d h) r
        + half (Ideal.ofBits .f32 0x3DB504F3#32) (tapsOf w h) (headOf x h) (headOf d h) r * act (tapsOf w h) (headOf x h) l r := by
  rw [← v91_at x w d a r b l h hh, ← v96_at x w d a r b l h hh, ← v98_at x w d a r b l h hh]
  pointwise [val_main_v99, val_main_v97]

/-- Half of the gradient that reaches a key through the sum of the squares. -/
theorem v79_at (a : Fin 1) (r : Fin 2048) (b : Fin 8) (l : Fin 128) (h : Fin 24) (hh : h.val = b.val + 8) :
    val_main_v79 (F := Ideal) x w d (ix4 a r b l)
      = half (1) (tapsOf w h) (headOf x h) (headOf d h) r := by
  pointwise [val_main_v79, val_main_v78]
  unfold val_main_v77
  rw [Host.reduceAdd_apply, Ideal.hostReduceAdd_def, UnitSums.sum_0_3]
  pointwise [val_main_cst_10, val_main_v76, val_main_v73, val_main_v72, val_main_cst_9, val_main_v71]
  rw [v66_at x w _ _ _ _ h hh]
  simp only [v57_at x w _ _ _ _ h hh, v3_at d _ _ _ _ h hh]
  rw [half]

/-- The part of a key's gradient that does not pass the sum of the squares. -/
theorem v75_at (a : Fin 1) (r : Fin 2048) (b : Fin 8) (l : Fin 128) (h : Fin 24) (hh : h.val = b.val + 8) :
    val_main_v75 (F := Ideal) x w d (ix4 a r b l) = headOf d h l r * (1) * rn (tapsOf w h) (headOf x h) r := by
  rw [← v3_at d a r b l h hh, ← v63_at x w 0 r b 0 h hh]
  pointwise [val_main_v75, val_main_v74]

/-- The part that passes it, twice. -/
theorem v80_at (a : Fin 1) (r : Fin 2048) (b : Fin 8) (l : Fin 128) (h : Fin 24) (hh : h.val = b.val + 8) :
    val_main_v80 (F := Ideal) x w d (ix4 a r b l)
      = act (tapsOf w h) (headOf x h) l r * half (1) (tapsOf w h) (headOf x h) (headOf d h) r := by
  rw [val_main_v80_apply, v79_at x w d a r b l h hh, v57_at x w a r b l h hh]
  generalize act (tapsOf w h) (headOf x h) l r = u
  generalize half _ (tapsOf w h) (headOf x h) (headOf d h) r = u'
  rfl

theorem v82_at (a : Fin 1) (r : Fin 2048) (b : Fin 8) (l : Fin 128) (h : Fin 24) (hh : h.val = b.val + 8) :
    val_main_v82 (F := Ideal) x w d (ix4 a r b l)
      = half (1) (tapsOf w h) (headOf x h) (headOf d h) r * act (tapsOf w h) (headOf x h) l r := by
  rw [← v79_at x w d a r b l h hh, ← v57_at x w a r b l h hh]
  pointwise [val_main_v82]

/-- The gradient with respect to the activation of a key, as the chain rule writes it. -/
theorem v83_at (a : Fin 1) (r : Fin 2048) (b : Fin 8) (l : Fin 128) (h : Fin 24) (hh : h.val = b.val + 8) :
    val_main_v83 (F := Ideal) x w d (ix4 a r b l)
      = headOf d h l r * (1) * rn (tapsOf w h) (headOf x h) r
        + act (tapsOf w h) (headOf x h) l r * half (1) (tapsOf w h) (headOf x h) (headOf d h) r
        + half (1) (tapsOf w h) (headOf x h) (headOf d h) r * act (tapsOf w h) (headOf x h) l r := by
  rw [← v75_at x w d a r b l h hh, ← v80_at x w d a r b l h hh, ← v82_at x w d a r b l h hh]
  pointwise [val_main_v83, val_main_v81]

/-- The arguments are real. -/
def RealArgs : Prop :=
  (∀ h q l, Reals.Is (tapsOf w h q l)) ∧ (∀ h l r, Reals.Is (headOf x h l r)) ∧ ∀ h l r, Reals.Is (headOf d h l r)

variable (H : RealArgs x w d)

include H

theorem acts_real (h : Fin 24) (r : Fin 2048) (l : Fin 128) : Reals.Is (act (tapsOf w h) (headOf x h) l r) :=
  act_real _ _ l r (value_real _ _ (H.1 h) (H.2.1 h) l r)

/-- The gradient with respect to the activation of a query. -/
theorem v100_at (a : Fin 1) (r : Fin 2048) (n : Fin 1024) (h : Fin 24) (l : Fin 128) (hn : n.val = 128 * h.val + l.val) :
    val_main_v100 (F := Ideal) x w d (ix3 a r n) = dact (scale h) (flag h) (tapsOf w h) (headOf x h) (headOf d h) l r := by
  have hl := l.isLt
  have hh : h.val < 8 := by omega
  have e : dact (scale h) (flag h) (tapsOf w h) (headOf x h) (headOf d h) l r = val_main_v99 (F := Ideal) x w d (ix4 0 r ⟨h.val, hh⟩ l) := by
    rw [v99_at x w d 0 r ⟨h.val, hh⟩ l h rfl, ← scale_q h hh, dnorm_eq _ _ _ _ (scale_real h) r (acts_real x w d H h r) (fun l => H.2.2 h l r) l,
      dact, flag_qk h (by omega)]
    rfl
  rw [e]
  pointwise [val_main_v100]
  have e1 : n.val / 128 = h.val := by omega
  have e2 : n.val % 128 = l.val := by omega
  simp only [e1, e2]

/-- The gradient with respect to the activation of a key. -/
theorem v84_at (a : Fin 1) (r : Fin 2048) (n : Fin 1024) (h : Fin 24) (l : Fin 128) (hn : n.val + 1024 = 128 * h.val + l.val) :
    val_main_v84 (F := Ideal) x w d (ix3 a r n) = dact (scale h) (flag h) (tapsOf w h) (headOf x h) (headOf d h) l r := by
  have hl := l.isLt
  have hh : h.val - 8 < 8 := by omega
  have e : dact (scale h) (flag h) (tapsOf w h) (headOf x h) (headOf d h) l r = val_main_v83 (F := Ideal) x w d (ix4 0 r ⟨h.val - 8, hh⟩ l) := by
    rw [v83_at x w d 0 r ⟨h.val - 8, hh⟩ l h (show h.val = h.val - 8 + 8 by omega), ← scale_k h (by omega),
      dnorm_eq _ _ _ _ (scale_real h) r (acts_real x w d H h r) (fun l => H.2.2 h l r) l, dact, flag_qk h (by omega)]
    rfl
  rw [e]
  pointwise [val_main_v84]
  have e1 : n.val / 128 = h.val - 8 := by omega
  have e2 : n.val % 128 = l.val := by omega
  simp only [e1, e2]

omit H in
/-- The gradient with respect to the activation of a value. -/
theorem v70_at (a : Fin 1) (r : Fin 2048) (n : Fin 1024) (h : Fin 24) (l : Fin 128) (hn : n.val + 2048 = 128 * h.val + l.val) :
    val_main_v70 (F := Ideal) d (ix3 a r n) = dact (scale h) (flag h) (tapsOf w h) (headOf x h) (headOf d h) l r := by
  have hl := l.isLt
  have e : dact (scale h) (flag h) (tapsOf w h) (headOf x h) (headOf d h) l r = headOf d h l r := by
    rw [dact, flag_v h (by omega)]
    rfl
  rw [e]
  pointwise [val_main_v70, val_main_v5, val_main_v4, headOf]
  exact congrArg (fun q => d (ix2 r q)) (Fin.ext (show 2048 + n.val = 128 * h.val + l.val by omega))

/-- The gradient with respect to the activation. -/
theorem v101_at (a : Fin 1) (r : Fin 2048) (h : Fin 24) (l : Fin 128) : val_main_v101 (F := Ideal) x w d (ix3 a r (chan h l))
    = dact (scale h) (flag h) (tapsOf w h) (headOf x h) (headOf d h) l r := by
  have hl := l.isLt
  have hh := h.isLt
  pointwise [val_main_v101]
  by_cases h1 : h.val < 8
  · rw [dif_pos (by omega)]
    exact v100_at x w d H _ r _ h l rfl
  · by_cases h2 : h.val < 16
    · rw [dif_neg (by omega), dif_pos (by omega)]
      exact v84_at x w d H _ r ⟨128 * h.val + l.val - 1024, by omega⟩ h l (show 128 * h.val + l.val - 1024 + 1024 = _ by omega)
    · rw [dif_neg (by omega), dif_neg (by omega)]
      exact v70_at x w d _ r ⟨128 * h.val + l.val - 1024 - 1024, by omega⟩ h l (show 128 * h.val + l.val - 1024 - 1024 + 2048 = _ by omega)

/-- The gradient with respect to the convolution's value. -/
theorem v102_at (a : Fin 1) (r : Fin 2048) (h : Fin 24) (l : Fin 128) : val_main_v102 (F := Ideal) x w d (ix3 a r (chan h l))
    = dval (scale h) (flag h) (tapsOf w h) (headOf x h) (headOf d h) l r := by
  rw [← dval_eq _ _ _ _ _ _ _ (dact_real _ _ _ _ _ (scale_real h) r (acts_real x w d H h r) (fun l => H.2.2 h l r) l)]
  pointwise [val_main_v102, val_main_call1_v0, val_main_call1_v1, val_main_call1_v2, val_main_v39_1, val_main_call0_v7, val_main_call0_v6,
    val_main_call0_cst_1, v39_2_at, v38_at, v101_at x w d H]

set_option maxHeartbeats 1000000 in
/-- The input's gradient. -/
theorem v147_at (r : Fin 2048) (n : Fin 3072) (h : Fin 24) (l : Fin 128) (hn : n.val = 128 * h.val + l.val) :
    val_main_v147 (F := Ideal) x w d (ix2 r n) = headX x w d h l r := by
  have e : n = chan h l := Fin.ext hn
  have ed : ∀ a r, val_main_v102 (F := Ideal) x w d (ix3 a r n) = dval (scale h) (flag h) (tapsOf w h) (headOf x h) (headOf d h) l r :=
    fun a r => by rw [e]; exact v102_at x w d H a r h l
  have ew : ∀ q, tapsOf w h q l = w (ix2 q n) := fun q => by rw [e]; rfl
  unfold headX gradX
  rw [Taps.up_eq 1 2047 rfl (by omega), Taps.up_eq 2 2046 rfl (by omega), Taps.up_eq 3 2045 rfl (by omega), ew, ew, ew, ew]
  clear e
  generalize dval (scale h) (flag h) (tapsOf w h) (headOf x h) (headOf d h) l = D at ed ⊢
  pointwise [val_main_v147, val_main_cst_30]
  refine (Fin.sum_univ_one _).trans ?_
  pointwise [val_main_v146, val_main_v144, val_main_v143, val_main_v138, val_main_v137, val_main_v133, val_main_v132, val_main_v127, val_main_v126,
    val_main_v122, val_main_v121, val_main_v116, val_main_v115, val_main_v111, val_main_v107, val_main_v106, val_main_cst_17, val_main_cst_21,
    val_main_cst_25, val_main_cst_29, ed, val_main_v35, val_main_v34, val_main_v33, val_main_v28, val_main_v27, val_main_v26,
    val_main_v21, val_main_v20, val_main_v19, val_main_v13, val_main_v12, val_main_v11]
  have e1 : 3 + r.val - 2 = r.val + 1 := by omega
  have e2 : 3 + r.val - 1 = r.val + 2 := by omega
  have e3 : 3 + r.val = r.val + 3 := by omega
  simp only [e1, e2, e3]
  congr 1
  · congr 1
    · congr 1
      · exact mul_comm (G := EReal) _ _
      · by_cases h1 : r.val + 1 < 2048
        · rw [dif_pos (by omega), dif_pos h1]
          exact mul_comm (G := EReal) _ _
        · rw [dif_neg (by omega), dif_neg h1, mul_zero]
    · by_cases h2 : r.val + 2 < 2048
      · rw [dif_pos (by omega), dif_pos h2]
        exact mul_comm (G := EReal) _ _
      · rw [dif_neg (by omega), dif_neg h2, mul_zero]
  · by_cases h3 : r.val + 3 < 2048
    · rw [dif_pos h3, dif_pos h3]
      exact mul_comm (G := EReal) _ _
    · rw [dif_neg h3, dif_neg h3, mul_zero]

/-- The gradient of tap 3. -/
theorem v109_at (a : Fin 1) (h : Fin 24) (l : Fin 128) : val_main_v109 (F := Ideal) x w d (ix2 a (chan h l)) = headW x w d h 3 l := by
  unfold headW gradW
  dsimp only
  pointwise [val_main_v109]
  unfold val_main_v108
  rw [Host.reduceAdd_apply, Ideal.hostReduceAdd_def, UnitSums.sum_0_1]
  pointwise [val_main_cst_15, val_main_v105, val_main_v104, val_main_cst_14, val_main_v103, v32_at, v102_at x w d H]
  exact Finset.sum_congr rfl fun r _ => mul_comm _ _

/-- The gradient of tap 2. -/
theorem v118_at (a : Fin 1) (h : Fin 24) (l : Fin 128) : val_main_v118 (F := Ideal) x w d (ix2 a (chan h l)) = headW x w d h 2 l := by
  unfold headW gradW
  dsimp only
  rw [Taps.sum_up 1 2047 rfl (by omega) (by omega)]
  pointwise [val_main_v118]
  unfold val_main_v117
  rw [Host.reduceAdd_apply, Ideal.hostReduceAdd_def, UnitSums.sum_0_1]
  pointwise [val_main_cst_19, val_main_v114, val_main_v113, val_main_cst_18, val_main_v112, v25_at, v102_at x w d H]

/-- The gradient of tap 1. -/
theorem v129_at (a : Fin 1) (h : Fin 24) (l : Fin 128) : val_main_v129 (F := Ideal) x w d (ix2 a (chan h l)) = headW x w d h 1 l := by
  unfold headW gradW
  dsimp only
  rw [Taps.sum_up 2 2046 rfl (by omega) (by omega)]
  pointwise [val_main_v129]
  unfold val_main_v128
  rw [Host.reduceAdd_apply, Ideal.hostReduceAdd_def, UnitSums.sum_0_1]
  pointwise [val_main_cst_23, val_main_v125, val_main_v124, val_main_cst_22, val_main_v123, v18_at, v102_at x w d H]

/-- The gradient of tap 0. -/
theorem v140_at (a : Fin 1) (h : Fin 24) (l : Fin 128) : val_main_v140 (F := Ideal) x w d (ix2 a (chan h l)) = headW x w d h 0 l := by
  unfold headW gradW
  dsimp only
  rw [Taps.sum_up 3 2045 rfl (by omega) (by omega)]
  pointwise [val_main_v140]
  unfold val_main_v139
  rw [Host.reduceAdd_apply, Ideal.hostReduceAdd_def, UnitSums.sum_0_1]
  pointwise [val_main_cst_27, val_main_v136, val_main_v135, val_main_cst_26, val_main_v134, v10_at, v102_at x w d H]

/-- The second result. -/
theorem v142_at (i : S4x3072.Idx) : val_main_v142 (F := Ideal) x w d i = resW x w d i := by
  idx_vars i
  obtain ⟨h, hh⟩ : ∃ h : Fin 24, h.val = i1.val / 128 := ⟨⟨i1.val / 128, by omega⟩, rfl⟩
  obtain ⟨l, hl⟩ : ∃ l : Fin 128, l.val = i1.val % 128 := ⟨⟨i1.val % 128, by omega⟩, rfl⟩
  have e : i1 = chan h l := Fin.ext (show i1.val = 128 * h.val + l.val by omega)
  have e3 : ∀ a, val_main_v109 (F := Ideal) x w d (ix2 a i1) = headW x w d h 3 l := fun a => by rw [e]; exact v109_at x w d H a h l
  have e2 : ∀ a, val_main_v118 (F := Ideal) x w d (ix2 a i1) = headW x w d h 2 l := fun a => by rw [e]; exact v118_at x w d H a h l
  have e1 : ∀ a, val_main_v129 (F := Ideal) x w d (ix2 a i1) = headW x w d h 1 l := fun a => by rw [e]; exact v129_at x w d H a h l
  have e0 : ∀ a, val_main_v140 (F := Ideal) x w d (ix2 a i1) = headW x w d h 0 l := fun a => by rw [e]; exact v140_at x w d H a h l
  rw [resW_at x w d i0 i1 h l (by omega)]
  clear e
  pointwise [val_main_v142, val_main_v141, val_main_v131, val_main_v130, val_main_v120, val_main_v119, val_main_v110, val_main_cst_16,
    val_main_cst_20, val_main_cst_24, val_main_cst_28, e0, e1, e2, e3]
  have hq : i0 = 0 ∨ i0 = 1 ∨ i0 = 2 ∨ i0 = 3 := by omega
  rcases hq with hq | hq | hq | hq <;> subst hq <;> simp

/-- The first result. -/
theorem v150_at (i : S2048x8448.Idx) : val_main_v150 (F := Ideal) x w d p i = resX x w d p i := by
  idx_vars i
  by_cases hi : i1.val < 3072
  · obtain ⟨h, hh⟩ : ∃ h : Fin 24, h.val = i1.val / 128 := ⟨⟨i1.val / 128, by omega⟩, rfl⟩
    obtain ⟨l, hl⟩ : ∃ l : Fin 128, l.val = i1.val % 128 := ⟨⟨i1.val % 128, by omega⟩, rfl⟩
    rw [resX_at x w d p i0 i1 h l (by omega), ← v147_at x w d H i0 ⟨i1.val, hi⟩ h l (show i1.val = 128 * h.val + l.val by omega)]
    pointwise [val_main_v150, val_main_v148]
    rw [dif_pos hi]
  · rw [resX_off x w d p i0 i1 hi]
    pointwise [val_main_v150, val_main_v149]
    rw [dif_neg hi]
    exact congrArg (fun q => p (ix2 i0 q)) (Fin.ext (show 3072 + (i1.val - 3072) = i1.val by omega))

end Cert.QkvReferenceIdeal.Qkv

end
-- ==== Proof.QkvPair.lean ====
module

public import proofs.«01_k».proof.Defs
public import proofs.«01_k».proof.Proof.Gen.Pre_qkv_finite
public import proofs.«01_k».proof.Proof.Gen.QkvKernelIdeal.Value
public import proofs.«01_k».proof.Proof.QkvFinal
public import proofs.«01_k».proof.Proof.QkvRef
public import Idealize.ShloMosaic.Lib.Claim

/-!
The backward call of the queries, keys and values computes its reference's two results.
-/

@[expose] public section

set_option maxRecDepth 16384

noncomputable section

open Idealize.ShloMosaic Idealize.ShloMosaic.TcCoe Idealize.SL.Sem
open scoped BigOperators

namespace Cert.QkvPair

open Cert.QkvReferenceIdeal.Read

variable (m : (ℓ : Loc Cert.QkvKernelIdeal.nD Cert.QkvKernelIdeal.τ Cert.QkvKernelIdeal.sig) → Buf (Elt Ideal) ℓ) (c : Dev Cert.QkvKernelIdeal.nD)

/-- The four arguments. -/
abbrev argX := m ((c.tc : Thread Cert.QkvKernelIdeal.nD Cert.QkvKernelIdeal.τ).loc Cert.QkvKernelIdeal.main_arg0)
abbrev argW := m ((c.tc : Thread Cert.QkvKernelIdeal.nD Cert.QkvKernelIdeal.τ).loc Cert.QkvKernelIdeal.main_arg1)
abbrev argD := m ((c.tc : Thread Cert.QkvKernelIdeal.nD Cert.QkvKernelIdeal.τ).loc Cert.QkvKernelIdeal.main_arg2)
abbrev argP := m ((c.tc : Thread Cert.QkvKernelIdeal.nD Cert.QkvKernelIdeal.τ).loc Cert.QkvKernelIdeal.main_arg3)

/-- The input is real. -/
theorem x_real (hp : Pre_QkvKernelIdeal_qkv_finite m) (r : Fin 2048) (k : Fin 3072) : Reals.Is (argX m c (ix2 r k)) := by
  have h := congrFun (hp c).1 (ix2 r k)
  simp only [Cert.Pre_qkv_finite.fn] at h
  pointwise at h
  exact Reals.real_of_abs_lt h

/-- The taps are real. -/
theorem w_real (hp : Pre_QkvKernelIdeal_qkv_finite m) (r : Fin 4) (k : Fin 3072) : Reals.Is (argW m c (ix2 r k)) := by
  have h := congrFun (hp c).2.1 (ix2 r k)
  simp only [Cert.Pre_qkv_finite.fn] at h
  pointwise at h
  exact Reals.real_of_abs_lt h

/-- The cotangent is real. -/
theorem d_real (hp : Pre_QkvKernelIdeal_qkv_finite m) (r : Fin 2048) (k : Fin 3072) : Reals.Is (argD m c (ix2 r k)) := by
  have h := congrFun (hp c).2.2 (ix2 r k)
  simp only [Cert.Pre_qkv_finite.fn] at h
  pointwise at h
  exact Reals.real_of_abs_lt h

/-- All three, head by head. -/
theorem args_real (hp : Pre_QkvKernelIdeal_qkv_finite m) : Cert.QkvReferenceIdeal.Qkv.RealArgs (argX m c) (argW m c) (argD m c) :=
  ⟨fun _ _ _ => w_real m c hp _ _, fun _ _ _ => x_real m c hp _ _, fun _ _ _ => d_real m c hp _ _⟩

/-- The first result. -/
theorem eq_X (hp : Pre_QkvKernelIdeal_qkv_finite m) : (Cert.QkvKernelIdeal.Gen.dats m 0 c).arrAt 3 (Cert.QkvKernelIdeal.cfgs 0).N
    = val_main_v150 (F := Ideal) (argX m c) (argW m c) (argD m c) (argP m c) :=
  (Cert.QkvKernelIdeal.Qkv.final_3 m c).trans
    (funext fun i => (Cert.QkvReferenceIdeal.Qkv.v150_at (argX m c) (argW m c) (argD m c) (argP m c) (args_real m c hp) i).symm)

/-- The second result. -/
theorem eq_W (hp : Pre_QkvKernelIdeal_qkv_finite m) : (Cert.QkvKernelIdeal.Gen.dats m 0 c).arrAt 4 (Cert.QkvKernelIdeal.cfgs 0).N
    = val_main_v142 (F := Ideal) (argX m c) (argW m c) (argD m c) :=
  (Cert.QkvKernelIdeal.Qkv.final_4 m c).trans
    (funext fun i => (Cert.QkvReferenceIdeal.Qkv.v142_at (argX m c) (argW m c) (argD m c) (args_real m c hp) i).symm)

set_option maxHeartbeats 1600000 in
/-- The pair's claim. -/
theorem algebraic : algebraic_QkvKernelIdeal_QkvReferenceIdeal_pre_qkv_finite := by
  intro m g m' g' hpre hargs
  refine ⟨fun c => val_main_v150 (F := Ideal) (argX m c) (argW m c) (argD m c) (argP m c),
    fun c => val_main_v142 (F := Ideal) (argX m c) (argW m c) (argD m c), ?_, ?_⟩
  · refine (θ_run _ _ _).mono (fun r h c => ?_) (Cert.QkvKernelIdeal.Value.run_blocks m g)
    obtain ⟨h3, h4, a0, a1, a2, a3⟩ := h c
    exact ⟨h3.trans (eq_X m c hpre), h4.trans (eq_W m c hpre), a0, a1, a2, a3⟩
  · refine (θ_run _ _ _).mono (fun r h c => ?_) (Cert.QkvReferenceIdeal.Value.run m' g')
    obtain ⟨h3, h4, a0, a1, a2, a3⟩ := h c
    obtain ⟨e0, e1, e2, e3⟩ := hargs c
    rw [val_main_v150_eq] at h3
    rw [val_main_v142_eq] at h4
    have f0 : StableHlo.launchContents m' c (Proc.tc.devRef Cert.QkvReferenceIdeal.main_arg0) = argX m c := e0
    have f1 : StableHlo.launchContents m' c (Proc.tc.devRef Cert.QkvReferenceIdeal.main_arg1) = argW m c := e1
    have f2 : StableHlo.launchContents m' c (Proc.tc.devRef Cert.QkvReferenceIdeal.main_arg2) = argD m c := e2
    have f3 : StableHlo.launchContents m' c (Proc.tc.devRef Cert.QkvReferenceIdeal.main_arg3) = argP m c := e3
    rw [f0, f1, f2, f3] at h3
    rw [f0, f1, f2] at h4
    exact ⟨h3, h4, a0, a1, a2, a3⟩

end Cert.QkvPair

end
-- ==== Proof.ScalForms.lean ====
module

public import proofs.«01_k».proof.Proof.Taps
public import proofs.«01_k».proof.Proof.Reals
public import Idealize.ShloMosaic.PureOps.Ideal

/-!
The gradients of the write strength and of the cumulative log decay. A chunk has 64 rows; the gradient of a cumulative sum over a
chunk is the sum over the rest of the chunk, which the kernel builds by doubling.
-/

@[expose] public section

noncomputable section

open Idealize.ShloMosaic Taps
open scoped BigOperators

namespace Scal

/-- One doubling step of the kernel: to each row is added the row `2048 - n` further on, where that is in the same chunk. -/
def step (s n : ℕ) (u : Fin 2048 → EReal) (r : Fin 2048) : EReal :=
  u r + Scalar.select (IntOp.cmpi CmpIPredicate.slt (IntOp.addi (IntOp.andi (BitVec.ofNat 32 r.val) 63#32) (BitVec.ofNat 32 s)) 64#32)
    (u ⟨(r.val + 2048 - n) % 2048, Nat.mod_lt _ (by decide)⟩) 0

/-- The sum of the first `N` rows from row `r` on, as far as they are in the row's chunk. -/
def part (N : ℕ) (u : Fin 2048 → EReal) (r : Fin 2048) : EReal :=
  ∑ j ∈ Finset.range N, if h : r.val % 64 + j < 64 then u ⟨r.val + j, by omega⟩ else 0

/-- The kernel's six steps. -/
def rest (u : Fin 2048 → EReal) : Fin 2048 → EReal :=
  step 32 2016 (step 16 2032 (step 8 2040 (step 4 2044 (step 2 2046 (step 1 2047 u)))))

theorem row_in_chunk (r : Fin 2048) (s : ℕ) (hs : s ≤ 32) :
    IntOp.cmpi CmpIPredicate.slt (IntOp.addi (IntOp.andi (BitVec.ofNat 32 r.val) 63#32) (BitVec.ofNat 32 s)) 64#32
      = BitVec.ofBool (decide (r.val % 64 + s < 64)) := by
  have hr := r.isLt
  have e1 : IntOp.andi (BitVec.ofNat 32 r.val) 63#32 = BitVec.ofNat 32 (r.val % 64) := by
    apply BitVec.eq_of_toNat_eq
    simp only [IntOp.andi, BitVec.toNat_and, BitVec.toNat_ofNat]
    rw [show (63 % 2 ^ 32) = 2 ^ 6 - 1 from rfl, Nat.and_two_pow_sub_one_eq_mod]
    omega
  have e2 : IntOp.addi (BitVec.ofNat 32 (r.val % 64)) (BitVec.ofNat 32 s) = BitVec.ofNat 32 (r.val % 64 + s) :=
    (BitVec.ofNat_add _ _).symm
  rw [e1, e2]
  simp only [IntOp.cmpi, BitVec.slt, toInt_ofNat (show r.val % 64 + s < 2049 by omega), show ((64#32).toInt) = 64 from rfl]
  congr 1
  rw [decide_eq_decide]
  omega

/-- One step doubles the number of rows summed. -/
theorem step_part (N n : ℕ) (hn : n + N = 2048) (h0 : 0 < N) (hN : N ≤ 32) (u : Fin 2048 → EReal) :
    step N n (part N u) = part (N + N) u := by
  funext r
  have hr := r.isLt
  unfold step
  rw [row_in_chunk r N hN]
  conv_rhs => rw [part, Finset.sum_range_add]
  refine congrArg₂ (· + ·) rfl ?_
  by_cases h : r.val % 64 + N < 64
  · rw [decide_eq_true h]
    have e : (⟨(r.val + 2048 - n) % 2048, Nat.mod_lt _ (by decide)⟩ : Fin 2048) = ⟨r.val + N, by omega⟩ := Fin.ext (by dsimp only; omega)
    rw [e]
    change part N u ⟨r.val + N, _⟩ = _
    unfold part
    refine Finset.sum_congr rfl fun j _ => ?_
    dsimp only
    by_cases hj : r.val % 64 + (N + j) < 64
    · rw [dif_pos hj, dif_pos (by omega)]
      exact congrArg u (Fin.ext (by dsimp only; omega))
    · rw [dif_neg hj, dif_neg (by omega)]
  · rw [decide_eq_false h]
    change (0 : EReal) = _
    refine (Finset.sum_eq_zero fun j _ => ?_).symm
    rw [dif_neg (by omega)]

/-- The six steps sum the rest of the chunk. -/
theorem rest_eq (u : Fin 2048 → EReal) : rest u = part 64 u := by
  have h1 : part 1 u = u := by
    funext r
    have hr := r.isLt
    rw [part, Finset.sum_range_one, dif_pos (by omega)]
    rfl
  unfold rest
  conv_lhs => rw [← h1]
  rw [step_part 1 2047 rfl (by omega) (by omega), step_part 2 2046 rfl (by omega) (by omega), step_part 4 2044 rfl (by omega) (by omega),
    step_part 8 2040 rfl (by omega) (by omega), step_part 16 2032 rfl (by omega) (by omega), step_part 32 2016 rfl (by omega) (by omega)]

/-- The softplus of a real is real, and its derivative, an exponential of a difference, is the logistic function. -/
theorem exp_softplus (x : ℝ) : ∃ y : ℝ,
    max (x : EReal) 0 + Ideal.log1p (Ideal.exp (-(max (x : EReal) (-(x : EReal))))) = (y : EReal)
      ∧ Ideal.exp ((x : EReal) - (y : EReal)) = Ideal.logistic x := by
  have cmax : ∀ a b : ℝ, max (a : EReal) (b : EReal) = ((max a b : ℝ) : EReal) := fun a b =>
    (Monotone.map_max (f := fun r : ℝ => (r : EReal)) (fun _ _ h => EReal.coe_le_coe_iff.mpr h)).symm
  have hp : 0 < 1 + Real.exp (-|x|) := by positivity
  refine ⟨max x 0 + Real.log (1 + Real.exp (-|x|)), ?_, ?_⟩
  · rw [← EReal.coe_neg, cmax, ← EReal.coe_zero, cmax, ← EReal.coe_neg, Ideal.exp_coe, Ideal.log1p, ← EReal.coe_one, ← EReal.coe_add,
      Ideal.log_coe, show max x (-x) = |x| from rfl, if_neg (not_le.mpr hp), ← EReal.coe_add]
  · rw [← EReal.coe_sub, Ideal.exp_coe, Ideal.logistic_coe]
    congr 1
    rw [← sub_sub, Real.exp_sub, Real.exp_log hp]
    rcases le_total 0 x with h | h
    · rw [max_eq_left h, abs_of_nonneg h, sub_self, Real.exp_zero, one_div]
    · rw [max_eq_right h, abs_of_nonpos h, sub_zero, neg_neg, Real.exp_neg]
      have := Real.exp_pos x
      field_simp
      ring

/-! ## The two results, as arrays -/

variable (B A : (⟨2, ![2048, 8]⟩ : Shape).Idx → EReal) (E T : (⟨2, ![1, 8]⟩ : Shape).Idx → EReal)
  (D C : (⟨2, ![2048, 8]⟩ : Shape).Idx → EReal) (G : (⟨3, ![32, 8, 64]⟩ : Shape).Idx → EReal)

/-- The gradient with respect to the write strength's input, for head `h`. -/
def db (h : Fin 8) (r : Fin 2048) : EReal :=
  D (ix2 r h) * Ideal.logistic (B (ix2 r h)) * (1 - Ideal.logistic (B (ix2 r h)))

/-- The two cotangents of the cumulative log decay, together. -/
def dcum (h : Fin 8) (r : Fin 2048) : EReal :=
  C (ix2 r h) - G (ix3 (⟨r.val / 64, by omega⟩ : Fin 32) h (⟨r.val % 64, Nat.mod_lt _ (by decide)⟩ : Fin 64))

/-- The gradient with respect to the decay's input. -/
def da (h : Fin 8) (r : Fin 2048) : EReal :=
  rest (dcum C G h) r * (0 - Ideal.exp (E (ix2 0 h))) * Ideal.logistic (A (ix2 r h) + T (ix2 0 h))

/-- The first result: the gradients in their sixteen columns, zeros after them, the rest as the caller left it. -/
def resP (P : (⟨2, ![2048, 8448]⟩ : Shape).Idx → EReal) (i : (⟨2, ![2048, 8448]⟩ : Shape).Idx) : EReal :=
  if (i 1).val < 8192 then P i
  else if h : (i 1).val < 8200 then db B D ⟨(i 1).val - 8192, by omega⟩ (i 0)
  else if h : (i 1).val < 8208 then da A E T C G ⟨(i 1).val - 8200, by omega⟩ (i 0)
  else 0

/-- The second result: the first row's first eight lanes hold `u`, the second's the gradient with respect to the bias. -/
def resG (u : Fin 128 → EReal) (i : (⟨2, ![8, 128]⟩ : Shape).Idx) : EReal :=
  if h : (i 1).val < 8 then
    if (i 0).val = 0 then u (i 1) else if (i 0).val = 1 then ∑ r, da A E T C G ⟨(i 1).val, h⟩ r else 0
  else 0

theorem resP_at (P : (⟨2, ![2048, 8448]⟩ : Shape).Idx → EReal) (r : Fin 2048) (n : Fin 8448) :
    resP B A E T D C G P (ix2 r n) = if n.val < 8192 then P (ix2 r n)
      else if h : n.val < 8200 then db B D ⟨n.val - 8192, by omega⟩ r
      else if h : n.val < 8208 then da A E T C G ⟨n.val - 8200, by omega⟩ r
      else 0 := rfl

theorem resG_at (u : Fin 128 → EReal) (q : Fin 8) (n : Fin 128) :
    resG A E T C G u (ix2 q n) = if h : n.val < 8 then
      if q.val = 0 then u n else if q.val = 1 then ∑ r, da A E T C G ⟨n.val, h⟩ r else 0
      else 0 := rfl

end Scal

end
-- ==== Proof.ScalPay.lean ====
module

public import proofs.«01_k».proof.Proof.Gen.ScalKernelIdeal.Frame
public import proofs.«01_k».proof.Proof.ScalForms
public import Idealize.ShloMosaic.Lib.Pipeline.ValueKit

/-!
What the backward kernel of the write strength and the decay computes at one row and lane.
-/

@[expose] public section

set_option maxRecDepth 16384

noncomputable section

open Idealize.ShloMosaic Idealize.ShloMosaic.TcCoe Idealize.SL.Sem
open Idealize.ShloMosaic.Pipeline (Dat)
open scoped BigOperators

namespace Cert.ScalKernelIdeal.Scal

open Cert.ScalKernelIdeal Cert.ScalKernelIdeal.Gen
open _root_.Scal

/-- Whether a lane holds a head's decay: the lanes from 8 to 15 do. -/
def isDec (l : Fin 128) : BitVec 1 :=
  IntOp.andi (IntOp.cmpi CmpIPredicate.sge (BitVec.ofNat 32 l.val) 8#32) (IntOp.cmpi CmpIPredicate.slt (BitVec.ofNat 32 l.val) 16#32)

theorem isDec_eq : ∀ l : Fin 128, isDec l = BitVec.ofBool (decide (8 ≤ l.val ∧ l.val < 16)) := by
  decide +kernel

theorem isWrite_eq : ∀ l : Fin 128, IntOp.cmpi CmpIPredicate.slt (BitVec.ofNat 32 l.val) 8#32 = BitVec.ofBool (decide (l.val < 8)) := by
  decide +kernel

/-- The cotangent the doubling starts from, at one lane. -/
def start (dsc dgr : FVec Ideal S2048x128 .f32) (l : Fin 128) (r : Fin 2048) : EReal :=
  Scalar.select (isDec l) (dsc (ix2 r l) - dgr (ix2 r l)) 0

theorem steps_12 (dsc dgr : FVec Ideal S2048x128 .f32) (r : Fin 2048) (l : Fin 128) :
    k0_pay6 (F := Ideal) dsc dgr (ix2 r l) = step 2 2046 (step 1 2047 (start dsc dgr l)) r := by
  pointwise [k0_pay6, k0_pay3, k0_pay4, k0_pay5, step, start, isDec]

/-- One step of the kernel at a row and lane: the column of the lane goes one step further. -/
theorem one_step_32 (v : FVec Ideal S2048x128 .f32) (w : Fin 128 → Fin 2048 → EReal) (h : ∀ r l, v (ix2 r l) = w l r) (r : Fin 2048) (l : Fin 128) :
    addf v (select (cmpi .slt (addi k0_pay5 (broadcast S2048x128 32#32)) (broadcast S2048x128 64#32))
      (dynamicRotate 0 2016#32 none v rotates_S2048x128_d0) (broadcast S2048x128 (Scalar.ofBits (F := Ideal) .f32 0x00000000#32))) (ix2 r l)
      = step 32 2016 (w l) r := by
  pointwise [k0_pay5, step, h]

theorem one_step_16 (v : FVec Ideal S2048x128 .f32) (w : Fin 128 → Fin 2048 → EReal) (h : ∀ r l, v (ix2 r l) = w l r) (r : Fin 2048) (l : Fin 128) :
    addf v (select (cmpi .slt (addi k0_pay5 (broadcast S2048x128 16#32)) (broadcast S2048x128 64#32))
      (dynamicRotate 0 2032#32 none v rotates_S2048x128_d0) (broadcast S2048x128 (Scalar.ofBits (F := Ideal) .f32 0x00000000#32))) (ix2 r l)
      = step 16 2032 (w l) r := by
  pointwise [k0_pay5, step, h]

theorem one_step_8 (v : FVec Ideal S2048x128 .f32) (w : Fin 128 → Fin 2048 → EReal) (h : ∀ r l, v (ix2 r l) = w l r) (r : Fin 2048) (l : Fin 128) :
    addf v (select (cmpi .slt (addi k0_pay5 (broadcast S2048x128 8#32)) (broadcast S2048x128 64#32))
      (dynamicRotate 0 2040#32 none v rotates_S2048x128_d0) (broadcast S2048x128 (Scalar.ofBits (F := Ideal) .f32 0x00000000#32))) (ix2 r l)
      = step 8 2040 (w l) r := by
  pointwise [k0_pay5, step, h]

theorem one_step_4 (v : FVec Ideal S2048x128 .f32) (w : Fin 128 → Fin 2048 → EReal) (h : ∀ r l, v (ix2 r l) = w l r) (r : Fin 2048) (l : Fin 128) :
    addf v (select k0_pay7
      (dynamicRotate 0 2044#32 none v rotates_S2048x128_d0) (broadcast S2048x128 (Scalar.ofBits (F := Ideal) .f32 0x00000000#32))) (ix2 r l)
      = step 4 2044 (w l) r := by
  pointwise [k0_pay5, k0_pay7, step, h]

theorem steps_4 (v : FVec Ideal S2048x128 .f32) (w : Fin 128 → Fin 2048 → EReal) (h : ∀ r l, v (ix2 r l) = w l r) (r : Fin 2048) (l : Fin 128) :
    k0_pay8 (F := Ideal) k0_pay5 v k0_pay7 2044#32 (ix2 r l)
      = step 32 2016 (step 16 2032 (step 8 2040 (step 4 2044 (w l)))) r :=
  one_step_32 _ (fun l => step 16 2032 (step 8 2040 (step 4 2044 (w l))))
    (one_step_16 _ (fun l => step 8 2040 (step 4 2044 (w l)))
      (one_step_8 _ (fun l => step 4 2044 (w l)) (one_step_4 _ w h))) r l

/-- The six steps. -/
theorem steps_at (dsc dgr : FVec Ideal S2048x128 .f32) (r : Fin 2048) (l : Fin 128) :
    k0_pay8 (F := Ideal) k0_pay5 (k0_pay6 dsc dgr) k0_pay7 2044#32 (ix2 r l) = rest (start dsc dgr l) r := by
  exact steps_4 _ (fun l => step 2 2046 (step 1 2047 (start dsc dgr l))) (steps_12 dsc dgr) r l

theorem pay2_eq (x : FVec Ideal S2048x128 .f32) : k0_pay2 x = x := by
  funext i
  idx_vars i
  pointwise [k0_pay2]

/-- The decay's gradient at a lane. -/
theorem pay13_at (dg x : FVec Ideal S2048x128 .f32) (al dt : FVec Ideal S1x128 .f32) (r : Fin 2048) (l : Fin 128) :
    k0_pay13 (F := Ideal) dg (k0_pay9 x dt) (k0_pay10 al) (ix2 r l)
      = dg (ix2 r l) * (0 - Ideal.exp (al (ix2 0 l))) * Ideal.logistic (x (ix2 r l) + dt (ix2 0 l)) := by
  pointwise [k0_pay13, k0_pay10, k0_pay9]

/-- The first 128 columns written, at a lane of the write strength. -/
theorem pay14_write (dg x dsc : FVec Ideal S2048x128 .f32) (al dt : FVec Ideal S1x128 .f32) (r : Fin 2048) (l : Fin 128) (h : l.val < 8) :
    k0_pay14 (F := Ideal) (k0_pay2 x) (k0_pay3 dsc) (iota .tc S2048x128 32 [1] iota_S2048x128_d1_w32) k0_pay4 dg (k0_pay9 (k0_pay2 x) dt) (k0_pay10 al) (ix2 r l)
      = dsc (ix2 r l) * Ideal.logistic (x (ix2 r l)) * (1 - Ideal.logistic (x (ix2 r l))) := by
  pointwise [k0_pay14, k0_pay2, k0_pay3]
  rw [isWrite_eq, decide_eq_true h]
  rfl

/-- At a lane of the decay. -/
theorem pay14_dec (dg x dsc : FVec Ideal S2048x128 .f32) (al dt : FVec Ideal S1x128 .f32) (r : Fin 2048) (l : Fin 128) (h : 8 ≤ l.val ∧ l.val < 16) :
    k0_pay14 (F := Ideal) (k0_pay2 x) (k0_pay3 dsc) (iota .tc S2048x128 32 [1] iota_S2048x128_d1_w32) k0_pay4 dg (k0_pay9 (k0_pay2 x) dt) (k0_pay10 al) (ix2 r l)
      = dg (ix2 r l) * (0 - Ideal.exp (al (ix2 0 l))) * Ideal.logistic (x (ix2 r l) + dt (ix2 0 l)) := by
  have e := isDec_eq l
  unfold isDec at e
  pointwise [k0_pay14, k0_pay2, k0_pay3, k0_pay4]
  rw [isWrite_eq, e, decide_eq_false (by omega), decide_eq_true h]
  exact pay13_at dg x al dt r l

/-- At the other lanes. -/
theorem pay14_zero (dg x dsc : FVec Ideal S2048x128 .f32) (al dt : FVec Ideal S1x128 .f32) (r : Fin 2048) (l : Fin 128) (h : 16 ≤ l.val) :
    k0_pay14 (F := Ideal) (k0_pay2 x) (k0_pay3 dsc) (iota .tc S2048x128 32 [1] iota_S2048x128_d1_w32) k0_pay4 dg (k0_pay9 (k0_pay2 x) dt) (k0_pay10 al) (ix2 r l)
      = 0 := by
  have e := isDec_eq l
  unfold isDec at e
  pointwise [k0_pay14, k0_pay2, k0_pay3, k0_pay4]
  rw [isWrite_eq, e, decide_eq_false (by omega), decide_eq_false (by omega)]
  rfl

/-- The lane a lane of the second result reads. -/
def from_ (l : Fin 128) : Fin 128 := ⟨(l.val + 128 - 120) % 128, Nat.mod_lt _ (by decide)⟩

theorem isRow_eq : ∀ q : Fin 8, IntOp.cmpi CmpIPredicate.eq (BitVec.ofNat 32 q.val) 0#32 = BitVec.ofBool (decide (q.val = 0))
    ∧ IntOp.cmpi CmpIPredicate.eq (BitVec.ofNat 32 q.val) 1#32 = BitVec.ofBool (decide (q.val = 1)) := by
  decide +kernel

/-- The second result's first row: the column sums of `u`. -/
theorem pay1_0 (v u : FVec Ideal S2048x128 .f32) (l : Fin 128) :
    k0_pay1 (F := Ideal) k0_pay4 v u (ix2 0 l) = ∑ r : Fin 2048, u (ix2 r (from_ l)) := by
  pointwise [k0_pay1]

  rfl

/-- Its second row: the column sums of `v`. -/
theorem pay1_1 (v u : FVec Ideal S2048x128 .f32) (l : Fin 128) :
    k0_pay1 (F := Ideal) k0_pay4 v u (ix2 1 l) = ∑ r : Fin 2048, Scalar.select (isDec (from_ l)) (v (ix2 r (from_ l))) 0 := by
  pointwise [k0_pay1, k0_pay4, isDec]

  rfl

/-- Its other rows are zero. -/
theorem pay1_2 (v u : FVec Ideal S2048x128 .f32) (q : Fin 8) (hq : 2 ≤ q.val) (l : Fin 128) :
    k0_pay1 (F := Ideal) k0_pay4 v u (ix2 q l) = 0 := by
  pointwise [k0_pay1]
  rw [(isRow_eq q).1, (isRow_eq q).2, decide_eq_false (by omega), decide_eq_false (by omega)]
  rfl

/-- The decay's contribution to the first row is zero at the other lanes. -/
theorem pay16_zero (dg x78 x69 : FVec Ideal S2048x128 .f32) (v74 : FVec Ideal S1x128 .f32) (r : Fin 2048) (l : Fin 128) (h : ¬(8 ≤ l.val ∧ l.val < 16)) :
    k0_pay16 (F := Ideal) k0_pay4 dg x69 v74 x78 (ix2 r l) = 0 := by
  have e := isDec_eq l
  unfold isDec at e
  pointwise [k0_pay16, k0_pay4]
  rw [e, decide_eq_false h]
  rfl

end Cert.ScalKernelIdeal.Scal

end
-- ==== Proof.ScalKernel.lean ====
module

public import proofs.«01_k».proof.Proof.Idx2
public import proofs.«01_k».proof.Proof.Gen.ScalKernelIdeal.Frame
public import proofs.«01_k».proof.Proof.ScalPay
public import Idealize.ShloMosaic.Lib.Pipeline.ValueKit

/-!
The arrays the host lays out for the backward kernel of the write strength and the decay, and the results after its run.
-/

@[expose] public section

set_option maxRecDepth 16384

noncomputable section

open Idealize.ShloMosaic Idealize.ShloMosaic.TcCoe Idealize.SL.Sem
open Idealize.ShloMosaic.Pipeline (Dat)
open scoped BigOperators

namespace Cert.ScalKernelIdeal.Scal

open Cert.ScalKernelIdeal Cert.ScalKernelIdeal.Gen
open Idx2 (emb_eq)
open _root_.Scal

variable (m : (ℓ : Loc nD τ sig) → Buf (Elt Ideal) ℓ) (c : Dev nD)

/-- The eight arguments. -/
abbrev inB := m ((c.tc : Thread nD τ).loc main_arg0)
abbrev inA := m ((c.tc : Thread nD τ).loc main_arg1)
abbrev inE := m ((c.tc : Thread nD τ).loc main_arg2)
abbrev inT := m ((c.tc : Thread nD τ).loc main_arg3)
abbrev inD := m ((c.tc : Thread nD τ).loc main_arg4)
abbrev inC := m ((c.tc : Thread nD τ).loc main_arg5)
abbrev inG := m ((c.tc : Thread nD τ).loc main_arg6)
abbrev inP := m ((c.tc : Thread nD τ).loc main_arg7)

set_option maxRecDepth 200000 in
/-- The projection's columns of the write strength. -/
theorem proj_write (r : Fin 2048) (n : Fin 8448) (k : Fin 8) (h : n.val = 8192 + k.val) :
    V m c main_v1 (ix2 r n) = inB m c (ix2 r k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_pos (by omega)]
  simp only [h, Nat.add_sub_cancel_left]

set_option maxRecDepth 200000 in
/-- The projection's columns of the decay. -/
theorem proj_dec (r : Fin 2048) (n : Fin 8448) (k : Fin 8) (h : n.val = 8200 + k.val) :
    V m c main_v1 (ix2 r n) = inA m c (ix2 r k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_neg (by omega)]
  exact congrArg (fun q => inA m c (ix2 r q)) (Fin.ext (by dsimp only; omega))

set_option maxRecDepth 200000 in
/-- The decay's factor in its lanes. -/
theorem alog_at (l : Fin 128) (k : Fin 8) (h : l.val = 8 + k.val) :
    V m c main_v2 (ix2 0 l) = inE m c (ix2 0 k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]
  simp only [h, Nat.add_sub_cancel_left]

set_option maxRecDepth 200000 in
/-- The decay's bias in its lanes. -/
theorem bias_at (l : Fin 128) (k : Fin 8) (h : l.val = 8 + k.val) :
    V m c main_v3 (ix2 0 l) = inT m c (ix2 0 k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]
  simp only [h, Nat.add_sub_cancel_left]

set_option maxRecDepth 200000 in
/-- The cotangent of the write strength in its lanes. -/
theorem dsc_write (r : Fin 2048) (l : Fin 128) (k : Fin 8) (h : l.val = k.val) :
    V m c main_v5 (ix2 r l) = inD m c (ix2 r k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_pos (by omega)]
  after_results_simp
  simp only [h]

set_option maxRecDepth 200000 in
/-- The first cotangent of the cumulative log decay in its lanes. -/
theorem dsc_dec (r : Fin 2048) (l : Fin 128) (k : Fin 8) (h : l.val = 8 + k.val) :
    V m c main_v5 (ix2 r l) = inC m c (ix2 r k) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_neg (by omega)]
  after_results_simp
  simp only [h, Nat.add_sub_cancel_left]

set_option maxRecDepth 200000 in
/-- The second cotangent of the cumulative log decay, by row, in its lanes. -/
theorem dgr_at (r : Fin 2048) (l : Fin 128) (k : Fin 8) (h : l.val = 8 + k.val) :
    V m c main_v8 (ix2 r l) = inG m c (ix3 (⟨r.val / 64, by omega⟩ : Fin 32) k (⟨r.val % 64, Nat.mod_lt _ (by decide)⟩ : Fin 64)) := by
  have hk := k.isLt
  unfold V
  simp only [hostOps0, hostOps0_1, hostOps0_2, hostOps0_3, hostOps0_4,
    hostOps0_5, hostOps0_6, hostOps0_7, hostOps0_8, hostOps0_9, hostOps0_10,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]
  simp only [h, Nat.add_sub_cancel_left]

/-- The block each window holds at the one grid point. -/
theorem idx : ∀ t : Fin cfg0.N, win0_0.index t = ![0, 64]
    ∧ win0_1.index t = ![0, 0]
    ∧ win0_2.index t = ![0, 0]
    ∧ win0_3.index t = ![0, 0]
    ∧ win0_4.index t = ![0, 0]
    ∧ win0_5.index t = ![0, 32]
    ∧ win0_6.index t = ![0, 0] :=
  (by decide +kernel : ∀ t : Fin grid0.N, _)

/-- The five blocks. -/
abbrev bX (t : Fin cfg0.N) : FVec Ideal S2048x128 .f32 := iblk m c 0 t
abbrev bE (t : Fin cfg0.N) : FVec Ideal S1x128 .f32 := iblk m c 1 t
abbrev bT (t : Fin cfg0.N) : FVec Ideal S1x128 .f32 := iblk m c 2 t
abbrev bS (t : Fin cfg0.N) : FVec Ideal S2048x128 .f32 := iblk m c 3 t
abbrev bR (t : Fin cfg0.N) : FVec Ideal S2048x128 .f32 := iblk m c 4 t

/-- The projection's block. -/
theorem blk_x (t : Fin cfg0.N) (r : Fin 2048) (l : Fin 128) :
    bX m c t (ix2 r l) = V m c main_v1 (ix2 r (⟨8192 + l.val, by omega⟩ : Fin 8448)) := by
  blk_point [bX, bE, bT, bS, bR, iblk, idx t]

theorem blk_al (t : Fin cfg0.N) (l : Fin 128) : bE m c t (ix2 0 l) = V m c main_v2 (ix2 0 l) := by
  blk_point [bX, bE, bT, bS, bR, iblk, idx t]

theorem blk_dt (t : Fin cfg0.N) (l : Fin 128) : bT m c t (ix2 0 l) = V m c main_v3 (ix2 0 l) := by
  blk_point [bX, bE, bT, bS, bR, iblk, idx t]

theorem blk_dsc (t : Fin cfg0.N) (r : Fin 2048) (l : Fin 128) : bS m c t (ix2 r l) = V m c main_v5 (ix2 r l) := by
  blk_point [bX, bE, bT, bS, bR, iblk, idx t]

theorem blk_dgr (t : Fin cfg0.N) (r : Fin 2048) (l : Fin 128) : bR m c t (ix2 r l) = V m c main_v8 (ix2 r l) := by
  blk_point [bX, bE, bT, bS, bR, iblk, idx t]

/-- The doubling at a head's lane starts from the two cotangents together. -/
theorem start_eq (t : Fin cfg0.N) (l : Fin 128) (k : Fin 8) (h : l.val = 8 + k.val) :
    start (bS m c t) (bR m c t) l = dcum (inC m c) (inG m c) k := by
  have hk := k.isLt
  funext r
  unfold start
  rw [isDec_eq, decide_eq_true (by omega), blk_dsc, blk_dgr, dsc_dec m c r l k h, dgr_at m c r l k h]
  rfl

/-- The decay's gradient at a head's lane. -/
theorem da_at (t : Fin cfg0.N) (r : Fin 2048) (l : Fin 128) (k : Fin 8) (h : l.val = 8 + k.val) :
    k0_pay8 (F := Ideal) k0_pay5 (k0_pay6 (bS m c t) (bR m c t)) k0_pay7 2044#32 (ix2 r l) * (0 - Ideal.exp (bE m c t (ix2 0 l)))
        * Ideal.logistic (bX m c t (ix2 r l) + bT m c t (ix2 0 l))
      = da (inA m c) (inE m c) (inT m c) (inC m c) (inG m c) k r := by
  rw [steps_at, start_eq m c t l k h, blk_al, blk_dt, blk_x, alog_at m c l k h, bias_at m c l k h,
    proj_dec m c r _ k (by dsimp only; omega)]
  rfl

/-- The write strength's gradient at a head's lane. -/
theorem db_at (t : Fin cfg0.N) (r : Fin 2048) (l : Fin 128) (k : Fin 8) (h : l.val = k.val) :
    bS m c t (ix2 r l) * Ideal.logistic (bX m c t (ix2 r l)) * (1 - Ideal.logistic (bX m c t (ix2 r l)))
      = db (inB m c) (inD m c) k r := by
  rw [blk_dsc, blk_x, dsc_write m c r l k h, proj_write m c r _ k (by dsimp only; omega)]
  rfl

/-- What the second result's first row sums, by lane. -/
def firstRow (t : Fin cfg0.N) : FVec Ideal S2048x128 .f32 :=
  k0_pay16 (F := Ideal) k0_pay4 (k0_pay8 k0_pay5 (k0_pay6 (bS m c t) (bR m c t)) k0_pay7 2044#32) (k0_pay9 (k0_pay2 (bX m c t)) (bT m c t))
    (k0_pay11 (bE m c t)) (k0_pay12 (k0_pay2 (bX m c t)) (bT m c t))

/-- What its second row sums, by lane. -/
def secondRow (t : Fin cfg0.N) : FVec Ideal S2048x128 .f32 :=
  k0_pay13 (F := Ideal) (k0_pay8 k0_pay5 (k0_pay6 (bS m c t) (bR m c t)) k0_pay7 2044#32) (k0_pay9 (k0_pay2 (bX m c t)) (bT m c t)) (k0_pay10 (bE m c t))

theorem secondRow_at (t : Fin cfg0.N) (r : Fin 2048) (l : Fin 128) (k : Fin 8) (h : l.val = 8 + k.val) :
    secondRow m c t (ix2 r l) = da (inA m c) (inE m c) (inT m c) (inC m c) (inG m c) k r := by
  unfold secondRow
  rw [pay2_eq]
  exact (pay13_at _ _ _ _ r l).trans (da_at m c t r l k h)

theorem firstRow_at (t : Fin cfg0.N) (r : Fin 2048) (l : Fin 128) (h : ¬(8 ≤ l.val ∧ l.val < 16)) : firstRow m c t (ix2 r l) = 0 :=
  pay16_zero _ _ _ _ r l h

/-- The second result at a row and lane. -/
theorem row_of (v u : FVec Ideal S2048x128 .f32)
    (hv : ∀ (r : Fin 2048) (l : Fin 128) (k : Fin 8), l.val = 8 + k.val → v (ix2 r l) = da (inA m c) (inE m c) (inT m c) (inC m c) (inG m c) k r)
    (hu : ∀ (r : Fin 2048) (l : Fin 128), ¬(8 ≤ l.val ∧ l.val < 16) → u (ix2 r l) = 0) (q : Fin 8) (l : Fin 128) :
    k0_pay1 (F := Ideal) k0_pay4 v u (ix2 q l)
      = resG (inA m c) (inE m c) (inT m c) (inC m c) (inG m c) (fun l => ∑ r : Fin 2048, u (ix2 r (from_ l))) (ix2 q l) := by
  have hl' := l.isLt
  have hf' : (from_ l).val = (l.val + 128 - 120) % 128 := rfl
  unfold resG
  by_cases h2 : 2 ≤ q.val
  · rw [pay1_2 _ _ q h2]
    by_cases hl8 : l.val < 8
    · rw [dif_pos (show (ix2 q l 1).val < 8 from hl8)]
      exact ((if_neg (show ¬q.val = 0 by omega)).trans (if_neg (show ¬q.val = 1 by omega))).symm
    · rw [dif_neg (show ¬(ix2 q l 1).val < 8 from hl8)]
  · by_cases h1 : q.val = 1
    · rw [show q = 1 from Fin.ext h1, pay1_1]
      by_cases hl8 : l.val < 8
      · rw [dif_pos (show (ix2 (1 : Fin 8) l 1).val < 8 from hl8)]
        refine Eq.trans ?_ ((if_neg (show ¬(1 : ℕ) = 0 by omega)).trans (if_pos (show (1 : ℕ) = 1 by omega))).symm
        refine Finset.sum_congr rfl fun r _ => ?_
        rw [isDec_eq, decide_eq_true (by omega)]
        exact hv r (from_ l) ⟨l.val, hl8⟩ (by dsimp only; omega)
      · rw [dif_neg (show ¬(ix2 (1 : Fin 8) l 1).val < 8 from hl8)]
        refine Finset.sum_eq_zero fun r _ => ?_
        rw [isDec_eq, decide_eq_false (by omega)]
        rfl
    · rw [show q = 0 from Fin.ext (by change q.val = 0; omega), pay1_0]
      by_cases hl8 : l.val < 8
      · rw [dif_pos (show (ix2 (0 : Fin 8) l 1).val < 8 from hl8)]
        exact (if_pos rfl).symm
      · rw [dif_neg (show ¬(ix2 (0 : Fin 8) l 1).val < 8 from hl8)]
        exact Finset.sum_eq_zero fun r _ => hu r (from_ l) (by omega)

set_option maxHeartbeats 2000000 in
/-- The second result after the run: its first row holds the sums of `firstRow` in the first eight lanes. -/
theorem final_6 : ∃ t : Fin cfg0.N, (dats m 0 c).arrAt 6 (cfgs 0).N
    = resG (inA m c) (inE m c) (inT m c) (inC m c) (inG m c) (fun l => ∑ r : Fin 2048, firstRow m c t (ix2 r (from_ l))) := by
  obtain ⟨t0, ht0⟩ : ∃ t : Fin cfg0.N, t.val = 0 := ⟨⟨0, lt_of_lt_of_eq (by decide) N_0.symm⟩, rfl⟩
  refine ⟨t0, ?_⟩
  refine (dats m 0 c).arrAt_eq_of_covers 6 _ (by decide +kernel) fun t hf y => ?_
  have ht : t = t0 := Fin.ext (by have := lt_of_lt_of_eq t.isLt N_0; omega)
  subst ht
  blk_simp; rw [after0_6]
  unfold outsAt0
  dsimp only; frame_out
  obtain ⟨q, hq⟩ : ∃ q : Fin 8, q.val = (y 0).val := ⟨⟨(y 0).val, (y 0).isLt⟩, rfl⟩
  obtain ⟨l, hl⟩ : ∃ l : Fin 128, l.val = (y 1).val := ⟨⟨(y 1).val, (y 1).isLt⟩, rfl⟩
  rw [show ((View.whole main_v10_1).slice (win0_6.rect t)).emb y = ix2 q l from
      emb_eq _ _ _ (by blk_simp [idx t] <;> omega) (by blk_simp [idx t] <;> omega),
    show y = ix2 q l from emb_eq y q l hq.symm hl.symm]
  exact row_of m c (secondRow m c t) (firstRow m c t) (secondRow_at m c t) (firstRow_at m c t) q l

set_option maxHeartbeats 4000000 in
/-- The first result after the run. -/
theorem final_5 : (dats m 0 c).arrAt 5 (cfgs 0).N
    = resP (inB m c) (inA m c) (inE m c) (inT m c) (inD m c) (inC m c) (inG m c) (inP m c) := by
  have hA := (dats m 0 c).arrAt_eq_of_coversWhere 5 (resP (inB m c) (inA m c) (inE m c) (inT m c) (inD m c) (inC m c) (inG m c) (inP m c))
      (P := fun i => (i (1 : Fin 2) : ℕ) / 256 = 32)
      (fun β => β (1 : Fin 2) = 32) (by decide +kernel) (fun t hf y => ?_)
      (fun j => Iff.rfl)
  · rw [hA]
    funext i
    by_cases hi : (i (1 : Fin 2) : ℕ) / 256 = 32
    · exact if_pos hi
    · refine (if_neg hi).trans ?_
      have h8 : (i (1 : Fin 2) : ℕ) < 8448 := (i 1).isLt
      unfold resP
      rw [if_pos (by omega)]
      rfl
  blk_simp; rw [after0_5]
  unfold outsAt0
  dsimp only; frame_out
  canon_tiles x h
  · idx_vars x
    obtain ⟨n, hn⟩ : ∃ n : Fin 8448, n.val = 8192 + (128 + x1.val) := ⟨⟨8192 + (128 + x1.val), by omega⟩, rfl⟩
    rw [show ((View.whole main_v10_0).slice (win0_5.rect t)).emb y = ix2 x0 n from
      emb_eq _ _ _ (by blk_simp [idx t] at h0 ⊢ <;> omega) (by blk_simp [idx t] at h1 ⊢ <;> omega)]
    have hz : k0_pay15 (F := Ideal) (ix2 x0 x1) = 0 := by pointwise [k0_pay15]
    rw [hz]
    refine Eq.trans ?_ ((if_neg (show ¬n.val < 8192 by omega)).trans ((dif_neg (show ¬n.val < 8200 by omega)).trans
      (dif_neg (show ¬n.val < 8208 by omega)))).symm
    rfl
  · idx_vars x
    obtain ⟨n, hn⟩ : ∃ n : Fin 8448, n.val = 8192 + x1.val := ⟨⟨8192 + x1.val, by omega⟩, rfl⟩
    rw [show ((View.whole main_v10_0).slice (win0_5.rect t)).emb y = ix2 x0 n from
      emb_eq _ _ _ (by blk_simp [idx t] at h0 ⊢ <;> omega) (by blk_simp [idx t] at h1 ⊢ <;> omega)]
    refine Eq.trans ?_ (if_neg (show ¬n.val < 8192 by omega)).symm
    by_cases ha : x1.val < 8
    · refine Eq.trans ?_ (dif_pos (show n.val < 8200 by omega)).symm
      exact (pay14_write _ _ _ _ _ x0 x1 ha).trans (db_at m c t x0 x1 ⟨n.val - 8192, by omega⟩ (by dsimp only; omega))
    · refine Eq.trans ?_ (dif_neg (show ¬n.val < 8200 by omega)).symm
      by_cases hb : x1.val < 16
      · refine Eq.trans ?_ (dif_pos (show n.val < 8208 by omega)).symm
        exact (pay14_dec _ _ _ _ _ x0 x1 ⟨by omega, hb⟩).trans (da_at m c t x0 x1 ⟨n.val - 8200, by omega⟩ (by dsimp only; omega))
      · refine Eq.trans ?_ (dif_neg (show ¬n.val < 8208 by omega)).symm
        exact pay14_zero _ _ _ _ _ x0 x1 (by omega)

end Cert.ScalKernelIdeal.Scal

end
-- ==== Proof.Windows.lean ====
module

public import Idealize.ShloMosaic.Lib.Pointwise
public import Idealize.ShloMosaic.PureOps.Ideal

/-!
The sum over a window of 64 elements of the last axis, padded at the end with zeros.
-/

@[expose] public section

open Idealize.ShloMosaic
open scoped BigOperators

namespace Windows

theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The positions of a window, summed. -/
theorem foldl_window (W : Shape) (g : W.Idx → EReal) :
    (List.finRange W.numel).foldl (fun r n => r + g (W.rowMajor.symm n)) 0 = ∑ p, g p := by
  rw [foldl_add, zero_add, ← Fin.sum_univ_def]
  exact Equiv.sum_comp W.rowMajor.symm g

/-- The host's window sum, as a sum over the window's positions. -/
theorem window_sum {s t : Shape} (window strides lo hi : Fin s.rank → ℕ) (h : s.ReduceWindows window strides lo hi t)
    (x : s.Idx → EReal) (j : t.Idx) :
    Ideal.hostReduceWindowAdd window strides lo hi h x 0 j = ∑ q : (⟨s.rank, window⟩ : Shape).Idx,
      if hin : ∀ a, lo a ≤ (j (a.cast h.1.symm)).val * strides a + (q a).val
          ∧ (j (a.cast h.1.symm)).val * strides a + (q a).val - lo a < s.size a
        then x (fun a => ⟨(j (a.cast h.1.symm)).val * strides a + (q a).val - lo a, (hin a).2⟩) else 0 := by
  unfold Ideal.hostReduceWindowAdd Host.reduceWindow
  dsimp only
  convert foldl_window (⟨s.rank, window⟩ : Shape) (fun q =>
    if hin : ∀ a, lo a ≤ (j (a.cast h.1.symm)).val * strides a + (q a).val
          ∧ (j (a.cast h.1.symm)).val * strides a + (q a).val - lo a < s.size a
        then x (fun a => ⟨(j (a.cast h.1.symm)).val * strides a + (q a).val - lo a, (hin a).2⟩) else 0)

/-- The host's window sum at an element is the sum of the elements from it on, to the end of the axis. -/
theorem sum_from (h : (⟨4, ![1, 8, 32, 64]⟩ : Shape).ReduceWindows ![1, 1, 1, 64] ![1, 1, 1, 1] ![0, 0, 0, 0] ![0, 0, 0, 63] (⟨4, ![1, 8, 32, 64]⟩ : Shape))
    (x : (⟨4, ![1, 8, 32, 64]⟩ : Shape).Idx → EReal) (a : Fin 8) (b : Fin 32) (i : Fin 64) :
    Ideal.hostReduceWindowAdd ![1, 1, 1, 64] ![1, 1, 1, 1] ![0, 0, 0, 0] ![0, 0, 0, 63] h x 0 (ix4 0 a b i)
      = ∑ j : Fin 64, if hj : i.val + j.val < 64 then x (ix4 0 a b ⟨i.val + j.val, hj⟩) else 0 := by
  rw [window_sum]
  refine (sum_idx4 (n0 := 1) (n1 := 1) (n2 := 1) (n3 := 64) _).trans ?_
  simp only [Fin.sum_univ_one]
  refine Finset.sum_congr rfl fun j _ => ?_
  have hi := i.isLt
  have hj := j.isLt
  have ha := a.isLt
  have hb := b.isLt
  by_cases hc : i.val + j.val < 64
  · rw [dif_pos hc, dif_pos]
    · congr 1
      funext d
      apply Fin.ext
      match d with
      | ⟨0, _⟩ => rfl
      | ⟨1, _⟩ => show a.val * 1 + 0 - 0 = a.val; omega
      | ⟨2, _⟩ => show b.val * 1 + 0 - 0 = b.val; omega
      | ⟨3, _⟩ => show i.val * 1 + j.val - 0 = i.val + j.val; omega
    · intro d
      match d with
      | ⟨0, _⟩ => exact ⟨Nat.zero_le _, by show 0 * 1 + 0 - 0 < 1; omega⟩
      | ⟨1, _⟩ => exact ⟨Nat.zero_le _, by show a.val * 1 + 0 - 0 < 8; omega⟩
      | ⟨2, _⟩ => exact ⟨Nat.zero_le _, by show b.val * 1 + 0 - 0 < 32; omega⟩
      | ⟨3, _⟩ => exact ⟨Nat.zero_le _, by show i.val * 1 + j.val - 0 < 64; omega⟩
  · rw [dif_neg hc, dif_neg]
    intro hin
    have e := (hin 3).2
    change i.val * 1 + j.val - 0 < 64 at e
    omega

end Windows
-- ==== Proof.ScalRef.lean ====
module

public import proofs.«01_k».proof.Proof.Gen.ScalReferenceIdeal.Read
public import proofs.«01_k».proof.Proof.ScalForms
public import proofs.«01_k».proof.Proof.Windows

/-!
The reference of the write strength's and the decay's gradients, read stage by stage.
-/

@[expose] public section

set_option maxRecDepth 16384

noncomputable section

open Idealize.ShloMosaic
open scoped BigOperators

namespace Cert.ScalReferenceIdeal.Scal

open Cert.ScalReferenceIdeal Cert.ScalReferenceIdeal.Read
open _root_.Scal

variable (B A : (⟨S2048x8, .f32⟩ : BufTy).Contents (Elt Ideal)) (E T : (⟨S1x8, .f32⟩ : BufTy).Contents (Elt Ideal))
  (D C : (⟨S2048x8, .f32⟩ : BufTy).Contents (Elt Ideal)) (G : (⟨S32x8x64, .f32⟩ : BufTy).Contents (Elt Ideal))
  (P : (⟨S2048x8448, .bf16⟩ : BufTy).Contents (Elt Ideal))

/-- The cotangents of the cumulative log decay, together, by chunk and row. -/
theorem v5_at (h : Fin 8) (n : Fin 32) (i : Fin 64) (r : Fin 2048) (hr : r.val = 64 * n.val + i.val) :
    val_main_v5 (F := Ideal) C G (ix4 0 h n i) = dcum C G h r := by
  pointwise [val_main_v5, val_main_v2, val_main_v1, val_main_v0, val_main_v4, val_main_v3, dcum]
  have e0 : (⟨n.val * 64 + i.val, by omega⟩ : Fin 2048) = r := Fin.ext (by dsimp only; omega)
  have e1 : (⟨r.val / 64, by omega⟩ : Fin 32) = n := Fin.ext (by dsimp only; omega)
  have e2 : (⟨r.val % 64, by omega⟩ : Fin 64) = i := Fin.ext (by dsimp only; omega)
  rw [e0, e1, e2]

/-- Their sum over the rest of the chunk. -/
theorem v29_at (h : Fin 8) (n : Fin 32) (i : Fin 64) (r : Fin 2048) (hr : r.val = 64 * n.val + i.val) :
    val_main_v29 (F := Ideal) C G (ix4 0 h n i) = part 64 (dcum C G h) r := by
  have hi := i.isLt
  have h0 : val_main_call2_call0_v0 (F := Ideal) (Shape.Idx.first Cert.ScalReferenceIdeal.Gen.h_S_) = 0 := by
    pointwise [val_main_call2_call0_v0, val_main_call2_call0_cst]
  unfold val_main_v29
  refine Eq.trans (b := Ideal.hostReduceWindowAdd ![1, 1, 1, 64] ![1, 1, 1, 1] ![0, 0, 0, 0] ![0, 0, 0, 63]
    Cert.ScalReferenceIdeal.Gen.reduceWindows_S1x8x32x64_S1x8x32x64_w1s1p0_0_w1s1p0_0_w1s1p0_0_w64s1p0_63 (val_main_v5 (F := Ideal) C G)
    (val_main_call2_call0_v0 (F := Ideal) (Shape.Idx.first Cert.ScalReferenceIdeal.Gen.h_S_)) (ix4 0 h n i)) rfl ?_
  rw [h0, Windows.sum_from, part, Finset.sum_range]
  refine Finset.sum_congr rfl fun j _ => ?_
  by_cases hj : i.val + j.val < 64
  · rw [dif_pos hj, dif_pos (by omega)]
    exact v5_at C G h n _ _ (by dsimp only; omega)
  · rw [dif_neg hj, dif_neg (by omega)]

theorem v31_at (r : Fin 2048) (h : Fin 8) :
    val_main_v31 (F := Ideal) C G (ix2 r h) = part 64 (dcum C G h) r := by
  pointwise [val_main_v31, val_main_v30]
  exact v29_at C G h _ _ r (by dsimp only; omega)

/-- The write strength's gradient. -/
theorem v44_at (r : Fin 2048) (h : Fin 8) : val_main_v44 (F := Ideal) B D (ix2 r h) = db B D h r := by
  pointwise [val_main_v44, val_main_v16, val_main_v15, val_main_v14, val_main_v13, val_main_v12, val_main_v11, val_main_v10, val_main_v9, val_main_v8, val_main_cst, val_main_cst_0, val_main_cst_1, db]
  exact (mul_assoc (G := EReal) _ _ _).symm

/-- The derivative of the softplus, at a real argument. -/
theorem v22_at (r : Fin 2048) (h : Fin 8) (x : ℝ) (hx : A (ix2 r h) + T (ix2 0 h) = (x : EReal)) :
    val_main_v22_1 (F := Ideal) A T (ix2 r h) = Ideal.logistic (A (ix2 r h) + T (ix2 0 h)) := by
  have hinf : Ideal.ofBits .f32 0x7F800000#32 = ⊤ := by simp [Ideal.ofBits, Ideal.ieee]
  obtain ⟨y, hy, hl⟩ := exp_softplus x
  have h0 : val_main_v22_0 (F := Ideal) A T (ix2 r h) = (y : EReal) := by
    pointwise [val_main_v22_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v21, val_main_v20, val_main_v19, val_main_v7]
    rw [if_neg (fun e => e rfl), hx]
    exact hy
  pointwise [val_main_v22_1, val_main_call0_v21, val_main_call0_v20, val_main_call0_v19, val_main_call0_v18, val_main_call0_v17, val_main_call0_v16, val_main_call0_v15, val_main_call0_v14, val_main_call0_v13, val_main_v21, val_main_v20, val_main_v19, val_main_v7, val_main_call0_cst_0, val_main_call0_cst_1, val_main_call0_cst_2, val_main_call0_cst_3]
  rw [hx, h0, hinf, if_neg (EReal.coe_ne_top x), if_neg (EReal.coe_ne_top y), hl]

/-- The decay's gradient. -/
theorem v38_at (hr : ∀ (r : Fin 2048) (h : Fin 8), ∃ x : ℝ, A (ix2 r h) + T (ix2 0 h) = (x : EReal)) (r : Fin 2048) (h : Fin 8) :
    val_main_v38 (F := Ideal) A E T C G (ix2 r h) = da A E T C G h r := by
  obtain ⟨x, hx⟩ := hr r h
  have e := v22_at A T r h x hx
  have e1 := v31_at C G r h
  pointwise [val_main_v38, val_main_v33, val_main_v32, val_main_v23, val_main_v18, val_main_v17, val_main_v6]
  rw [e, e1, da, rest_eq, zero_sub]
  exact congrArg (fun q => q * _) (mul_comm (G := EReal) _ _)

/-- The bias's gradient. -/
theorem v39_at (hr : ∀ (r : Fin 2048) (h : Fin 8), ∃ x : ℝ, A (ix2 r h) + T (ix2 0 h) = (x : EReal)) (h : Fin 8) :
    val_main_v39 (F := Ideal) A E T C G (ix1 h) = ∑ r, da A E T C G h r := by
  pointwise [val_main_v39, val_main_cst_4]
  simp only [v38_at A E T C G hr]

/-- The first result. -/
theorem v49_at (hr : ∀ (r : Fin 2048) (h : Fin 8), ∃ x : ℝ, A (ix2 r h) + T (ix2 0 h) = (x : EReal)) (i : (⟨2, ![2048, 8448]⟩ : Shape).Idx) :
    val_main_v49 (F := Ideal) B A E T D C G P i = resP B A E T D C G P i := by
  idx_vars i
  have hn := i1.isLt
  have e : val_main_cst_6 (F := Ideal) ix0 = 0 := by pointwise [val_main_cst_6]
  have h44 := v44_at B D i0
  have h38 := v38_at A E T C G hr i0
  rw [resP_at]
  pointwise [val_main_v49, val_main_v48, val_main_v47, val_main_v46, val_main_v45]
  rw [e]
  by_cases h1 : i1.val < 8192
  · rw [dif_pos h1, if_pos h1]
  rw [dif_neg h1, if_neg h1]
  by_cases h2 : i1.val < 8200
  · rw [dif_pos (by omega), dif_pos h2, h44]
  rw [dif_neg (by omega), dif_neg h2]
  by_cases h3 : i1.val < 8208
  · rw [dif_pos (by omega), dif_pos h3, h38]
    exact congrArg (fun q => da A E T C G q i0) (Fin.ext (by dsimp only; omega))
  · rw [dif_neg (by omega), dif_neg h3]

/-- The second result, but for the first row's first lanes. -/
theorem v55_at (hr : ∀ (r : Fin 2048) (h : Fin 8), ∃ x : ℝ, A (ix2 r h) + T (ix2 0 h) = (x : EReal)) (u : Fin 128 → EReal)
    (q : Fin 8) (n : Fin 128) (hq : 1 ≤ q.val ∨ 8 ≤ n.val) :
    val_main_v55 (F := Ideal) A E T C G (ix2 q n) = resG A E T C G u (ix2 q n) := by
  have e5 : val_main_cst_5 (F := Ideal) (Shape.Idx.first Cert.ScalReferenceIdeal.Gen.h_S_) = 0 := by pointwise [val_main_cst_5]
  have e7 : val_main_cst_7 (F := Ideal) ix0 = 0 := by pointwise [val_main_cst_7]
  have e8 : val_main_cst_8 (F := Ideal) ix0 = 0 := by pointwise [val_main_cst_8]
  have h39 := v39_at A E T C G hr
  rw [resG_at]
  pointwise [val_main_v55, val_main_v54, val_main_v53, val_main_v52, val_main_v51, val_main_v50, val_main_v41, val_main_v40]
  rw [e5, e7, e8]
  by_cases hn : n.val < 8
  · refine (dif_pos hn).trans (Eq.trans ?_ (dif_pos hn).symm)
    refine (dif_neg (by omega)).trans (Eq.trans ?_ (if_neg (by omega)).symm)
    by_cases h1 : q.val = 1
    · refine (dif_pos (by omega)).trans (Eq.trans ?_ (if_pos h1).symm)
      rw [zero_add]
      exact (Fin.sum_univ_one _).trans (h39 _)
    · exact (dif_neg (by omega)).trans (if_neg h1).symm
  · rw [dif_neg hn, dif_neg hn]

end Cert.ScalReferenceIdeal.Scal

end
-- ==== Proof.ScalPair.lean ====
module

public import proofs.«01_k».proof.Defs
public import proofs.«01_k».proof.Proof.Gen.Pre_scal_finite
public import proofs.«01_k».proof.Proof.Gen.On_scal_on
public import proofs.«01_k».proof.Proof.Gen.ScalKernelIdeal.Value
public import proofs.«01_k».proof.Proof.ScalKernel
public import proofs.«01_k».proof.Proof.ScalRef
public import Idealize.ShloMosaic.Lib.Claim

/-!
The backward call of the write strength and the decay computes its reference's two results, but for the gradient of `A_log`.
-/

@[expose] public section

set_option maxRecDepth 16384

noncomputable section

open Idealize.ShloMosaic Idealize.ShloMosaic.TcCoe Idealize.SL.Sem
open scoped BigOperators

namespace Cert.ScalPair

open Cert.ScalReferenceIdeal.Read
open Cert.ScalKernelIdeal.Scal (inB inA inE inT inD inC inG inP)

variable (m : (ℓ : Loc Cert.ScalKernelIdeal.nD Cert.ScalKernelIdeal.τ Cert.ScalKernelIdeal.sig) → Buf (Elt Ideal) ℓ) (c : Dev Cert.ScalKernelIdeal.nD)

/-- The softplus's argument is real. -/
theorem arg_real (hp : Pre_ScalKernelIdeal_scal_finite m) (r : Fin 2048) (k : Fin 8) :
    ∃ x : ℝ, HAdd.hAdd (α := EReal) (β := EReal) (inA m c (ix2 r k)) (inT m c (ix2 0 k)) = (x : EReal) := by
  have h := congrFun (hp c).1 (ix2 r k)
  have h' := congrFun (hp c).2 (ix2 0 k)
  simp only [Cert.Pre_scal_finite.fn] at h h'
  pointwise at h
  pointwise at h'
  obtain ⟨a, ha⟩ := Reals.real_of_abs_lt h
  obtain ⟨b, hb⟩ := Reals.real_of_abs_lt h'
  exact ⟨a + b, (congrArg₂ (fun p q : EReal => p + q) ha hb).trans (EReal.coe_add a b).symm⟩

theorem mask_of : ∀ (q : Fin 8) (l : Fin 128), IntOp.ori (IntOp.cmpi CmpIPredicate.sge (BitVec.ofNat 32 q.val) 1#32)
    (IntOp.cmpi CmpIPredicate.sge (BitVec.ofNat 32 l.val) 8#32) = 1#1 → 1 ≤ q.val ∨ 8 ≤ l.val := by
  decide +kernel

/-- The elements of the second result that the claim speaks of. -/
theorem mask (x0 x1 : FVec Ideal Cert.On_scal_on.S2048x8 .f32) (x2 x3 : FVec Ideal Cert.On_scal_on.S1x8 .f32)
    (x4 x5 : FVec Ideal Cert.On_scal_on.S2048x8 .f32) (x6 : FVec Ideal Cert.On_scal_on.S32x8x64 .f32)
    (x7 : FVec Ideal Cert.On_scal_on.S2048x8448 .bf16) (q : Fin 8) (l : Fin 128)
    (h : (Cert.On_scal_on.fn (F := Ideal) x0 x1 x2 x3 x4 x5 x6 x7).2 (ix2 q l) = 1#1) : 1 ≤ q.val ∨ 8 ≤ l.val := by
  simp only [Cert.On_scal_on.fn] at h
  pointwise at h
  exact mask_of q l h

/-- The first result. -/
theorem eq_P (hp : Pre_ScalKernelIdeal_scal_finite m) : (Cert.ScalKernelIdeal.Gen.dats m 0 c).arrAt 5 (Cert.ScalKernelIdeal.cfgs 0).N
    = val_main_v49 (F := Ideal) (inB m c) (inA m c) (inE m c) (inT m c) (inD m c) (inC m c) (inG m c) (inP m c) :=
  (Cert.ScalKernelIdeal.Scal.final_5 m c).trans
    (funext fun i => (Cert.ScalReferenceIdeal.Scal.v49_at (inB m c) (inA m c) (inE m c) (inT m c) (inD m c) (inC m c) (inG m c) (inP m c)
      (arg_real m c hp) i).symm)

/-- The second result, where the claim speaks of it. -/
theorem eq_G (hp : Pre_ScalKernelIdeal_scal_finite m) (q : Fin 8) (l : Fin 128) (hq : 1 ≤ q.val ∨ 8 ≤ l.val) :
    (Cert.ScalKernelIdeal.Gen.dats m 0 c).arrAt 6 (Cert.ScalKernelIdeal.cfgs 0).N (ix2 q l)
      = val_main_v55 (F := Ideal) (inA m c) (inE m c) (inT m c) (inC m c) (inG m c) (ix2 q l) := by
  obtain ⟨t, hu⟩ := Cert.ScalKernelIdeal.Scal.final_6 m c
  exact (congrFun hu (ix2 q l)).trans
    (Cert.ScalReferenceIdeal.Scal.v55_at (inA m c) (inE m c) (inT m c) (inC m c) (inG m c) (arg_real m c hp) _ q l hq).symm

set_option maxHeartbeats 1600000 in
/-- The pair's claim. -/
theorem algebraic : algebraic_ScalKernelIdeal_ScalReferenceIdeal_on_scal_on_pre_scal_finite := by
  intro m g m' g' hpre hargs
  refine ⟨fun c => val_main_v49 (F := Ideal) (inB m c) (inA m c) (inE m c) (inT m c) (inD m c) (inC m c) (inG m c) (inP m c),
    fun c => val_main_v55 (F := Ideal) (inA m c) (inE m c) (inT m c) (inC m c) (inG m c), ?_, ?_⟩
  · refine (θ_run _ _ _).mono (fun r h c => ?_) (Cert.ScalKernelIdeal.Value.run_blocks m g)
    obtain ⟨h5, h6, a⟩ := h c
    refine ⟨fun i _ => (congrFun h5 i).trans (congrFun (eq_P m c hpre) i), fun i hi => (congrFun h6 i).trans ?_, a⟩
    idx_vars i
    exact eq_G m c hpre i0 i1 (mask _ _ _ _ _ _ _ _ i0 i1 hi)
  · refine (θ_run _ _ _).mono (fun r h c => ?_) (Cert.ScalReferenceIdeal.Value.run m' g')
    obtain ⟨h5, h6, a⟩ := h c
    obtain ⟨e0, e1, e2, e3, e4, e5, e6, e7⟩ := hargs c
    rw [val_main_v49_eq] at h5
    rw [val_main_v55_eq] at h6
    rw [e0, e1, e2, e3, e4, e5, e6, e7] at h5
    rw [e1, e2, e3, e5, e6] at h6
    exact ⟨fun i _ => congrFun h5 i, fun i _ => congrFun h6 i, a⟩

end Cert.ScalPair

end
-- ==== Proof.FscalForms.lean ====
module

public import proofs.«01_k».proof.Proof.ScalForms

/-!
The write strength and the cumulative log decay: the kernel's doubling down a chunk sums the rows so far, and its softplus is the
reference's where it takes the logarithm.
-/

@[expose] public section

noncomputable section

open Idealize.ShloMosaic Taps
open scoped BigOperators

namespace Scal

/-- One doubling step of the kernel: to each row is added the row `s` before it, where that is in the same chunk. -/
def down (s : ℕ) (u : Fin 2048 → EReal) (r : Fin 2048) : EReal :=
  u r + Scalar.select (IntOp.cmpi CmpIPredicate.sge (IntOp.andi (BitVec.ofNat 32 r.val) 63#32) (BitVec.ofNat 32 s))
    (u ⟨(r.val + 2048 - s) % 2048, Nat.mod_lt _ (by decide)⟩) 0

/-- The sum of the last `N` rows up to row `r`, as far as they are in the row's chunk. -/
def upto (N : ℕ) (u : Fin 2048 → EReal) (r : Fin 2048) : EReal :=
  ∑ j ∈ Finset.range N, if h : j ≤ r.val % 64 then u ⟨r.val - j, by omega⟩ else 0

/-- The kernel's six steps. -/
def sofar (u : Fin 2048 → EReal) : Fin 2048 → EReal :=
  down 32 (down 16 (down 8 (down 4 (down 2 (down 1 u)))))

theorem row_from (r : Fin 2048) (s : ℕ) (hs : s ≤ 32) :
    IntOp.cmpi CmpIPredicate.sge (IntOp.andi (BitVec.ofNat 32 r.val) 63#32) (BitVec.ofNat 32 s)
      = BitVec.ofBool (decide (s ≤ r.val % 64)) := by
  have hr := r.isLt
  have e1 : IntOp.andi (BitVec.ofNat 32 r.val) 63#32 = BitVec.ofNat 32 (r.val % 64) := by
    apply BitVec.eq_of_toNat_eq
    simp only [IntOp.andi, BitVec.toNat_and, BitVec.toNat_ofNat]
    rw [show (63 % 2 ^ 32) = 2 ^ 6 - 1 from rfl, Nat.and_two_pow_sub_one_eq_mod]
    omega
  rw [e1]
  simp only [IntOp.cmpi, BitVec.sle, toInt_ofNat (show r.val % 64 < 2049 by omega), toInt_ofNat (show s < 2049 by omega)]
  congr 1
  rw [decide_eq_decide]
  omega

/-- One step doubles the number of rows summed. -/
theorem down_upto (N : ℕ) (h0 : 0 < N) (hN : N ≤ 32) (u : Fin 2048 → EReal) : down N (upto N u) = upto (N + N) u := by
  funext r
  have hr := r.isLt
  unfold down
  rw [row_from r N hN]
  conv_rhs => rw [upto, Finset.sum_range_add]
  refine congrArg₂ (· + ·) rfl ?_
  by_cases h : N ≤ r.val % 64
  · rw [decide_eq_true h]
    have e : (⟨(r.val + 2048 - N) % 2048, Nat.mod_lt _ (by decide)⟩ : Fin 2048) = ⟨r.val - N, by omega⟩ := Fin.ext (by dsimp only; omega)
    rw [e]
    change upto N u ⟨r.val - N, _⟩ = _
    unfold upto
    refine Finset.sum_congr rfl fun j _ => ?_
    dsimp only
    by_cases hj : N + j ≤ r.val % 64
    · rw [dif_pos hj, dif_pos (by omega)]
      exact congrArg u (Fin.ext (by dsimp only; omega))
    · rw [dif_neg hj, dif_neg (by omega)]
  · rw [decide_eq_false h]
    change (0 : EReal) = _
    refine (Finset.sum_eq_zero fun j _ => ?_).symm
    rw [dif_neg (by omega)]

/-- The six steps sum the chunk so far. -/
theorem sofar_eq (u : Fin 2048 → EReal) : sofar u = upto 64 u := by
  have h1 : upto 1 u = u := by
    funext r
    rw [upto, Finset.sum_range_one, dif_pos (Nat.zero_le _)]
    rfl
  unfold sofar
  conv_lhs => rw [← h1]
  rw [down_upto 1 (by omega) (by omega), down_upto 2 (by omega) (by omega), down_upto 4 (by omega) (by omega),
    down_upto 8 (by omega) (by omega), down_upto 16 (by omega) (by omega), down_upto 32 (by omega) (by omega)]

/-- The softplus, by the logarithm. -/
def softplus (x : EReal) : EReal := max x 0 + Ideal.log1p (Ideal.exp (-(max x (-x))))

/-- The kernel's softplus at an element: where the exponential is small, the first terms of the logarithm's series. -/
def softplusK (x : EReal) : EReal :=
  max x 0 + Scalar.select
    (BitVec.ofBool (decide (Ideal.exp (0 - max x (-x)) < Ideal.ofBits .f32 0x3C23D70A#32)))
    (Ideal.exp (0 - max x (-x)) * (1 - Ideal.exp (0 - max x (-x)) * (Ideal.ofBits .f32 0x3F000000#32
      - Ideal.exp (0 - max x (-x)) * Ideal.ofBits .f32 0x3EAAAAAB#32)))
    (Ideal.log (1 + Ideal.exp (0 - max x (-x))))

/-- A real less than 4.5 away from zero has an exponential above the kernel's bound. -/
theorem exp_large {y : ℝ} (h : y < 9 / 2) : (10737418 / 1073741824 : ℝ) < Real.exp (-y) := by
  have h1 : (391 / 400 : ℝ) ≤ Real.exp (-(9 / 400)) := by
    have := Real.one_sub_le_exp_neg (9 / 400)
    linarith
  have h2 : (391 / 400 : ℝ) ^ 200 ≤ Real.exp (-(9 / 2)) := by
    have e : Real.exp (-(9 / 2)) = Real.exp (-(9 / 400)) ^ 200 := by
      rw [← Real.exp_nat_mul]
      congr 1
      norm_num
    rw [e]
    exact pow_le_pow_left₀ (by norm_num) h1 200
  have h3 : (10737418 / 1073741824 : ℝ) < (391 / 400 : ℝ) ^ 200 := by norm_num
  exact (h3.trans_le h2).trans (Real.exp_lt_exp.mpr (by linarith))

theorem lit_bound : Ideal.ofBits .f32 0x3C23D70A#32 = ((10737418 / 1073741824 : ℝ) : EReal) := by
  simp [Ideal.ofBits, Ideal.ieee, -EReal.coe_mul]; norm_num

theorem lit_reach : Ideal.ofBits .f32 0x40900000#32 = ((9 / 2 : ℝ) : EReal) := by
  simp [Ideal.ofBits, Ideal.ieee, -EReal.coe_mul]; norm_num

/-- The two softplus agree less than 4.5 away from zero. -/
theorem softplusK_eq {x : EReal} (h : max x (-x) < Ideal.ofBits .f32 0x40900000#32) : softplusK x = softplus x := by
  rw [lit_reach] at h
  have hx : ∃ y : ℝ, max x (-x) = (y : EReal) ∧ y < 9 / 2 := by
    induction x with
    | bot => simp at h
    | top => simp at h
    | coe x =>
      refine ⟨max x (-x), ?_, ?_⟩
      · rw [← EReal.coe_neg]
        exact (Monotone.map_max (f := fun r : ℝ => (r : EReal)) (fun _ _ h => EReal.coe_le_coe_iff.mpr h)).symm
      · rw [← EReal.coe_neg] at h
        rcases le_total x (-x) with hl | hl
        · rw [max_eq_right hl]
          rw [max_eq_right (EReal.coe_le_coe_iff.mpr hl)] at h
          exact EReal.coe_lt_coe_iff.mp h
        · rw [max_eq_left hl]
          rw [max_eq_left (EReal.coe_le_coe_iff.mpr hl)] at h
          exact EReal.coe_lt_coe_iff.mp h
  obtain ⟨y, hy, hlt⟩ := hx
  unfold softplusK softplus
  rw [hy, zero_sub, ← EReal.coe_neg, Ideal.exp_coe, lit_bound,
    decide_eq_false (not_lt.mpr (EReal.coe_le_coe_iff.mpr (exp_large hlt).le))]
  rfl

/-! ## The two results, as arrays -/

variable (B A : (⟨2, ![2048, 8]⟩ : Shape).Idx → EReal) (E T : (⟨2, ![1, 8]⟩ : Shape).Idx → EReal)

/-- The log decay of a row, for head `h`. -/
def decay (h : Fin 8) (r : Fin 2048) : EReal :=
  (0 - Ideal.exp (E (ix2 0 h))) * softplus (A (ix2 r h) + T (ix2 0 h))

/-- The first result: the write strength, the cumulative log decay beside it, zeros after them. -/
def resS (i : (⟨2, ![2048, 128]⟩ : Shape).Idx) : EReal :=
  if h : (i 1).val < 8 then Ideal.logistic (B (ix2 (i 0) ⟨(i 1).val, h⟩))
  else if h : (i 1).val < 16 then upto 64 (decay A E T ⟨(i 1).val - 8, by omega⟩) (i 0)
  else 0

/-- The second result: the cumulative log decay by chunks. -/
def resR (i : (⟨3, ![32, 8, 64]⟩ : Shape).Idx) : EReal :=
  upto 64 (decay A E T (i 1)) ⟨64 * (i 0).val + (i 2).val, by
    have h0 : (i 0).val < 32 := (i 0).isLt
    have h2 : (i 2).val < 64 := (i 2).isLt
    omega⟩

theorem resS_at (r : Fin 2048) (l : Fin 128) : resS B A E T (ix2 r l) = if h : l.val < 8 then Ideal.logistic (B (ix2 r ⟨l.val, h⟩))
    else if h : l.val < 16 then upto 64 (decay A E T ⟨l.val - 8, by omega⟩) r else 0 := rfl

end Scal

end
-- ==== Proof.ScalAlog.lean ====
module

public import proofs.«01_k».proof.Proof.Gen.Pre_scal_small
public import proofs.«01_k».proof.Proof.ScalPair
public import proofs.«01_k».proof.Proof.FscalForms

/-!
The backward call of the write strength and the decay computes all of its reference's two results, the gradient of `A_log`
among them, where the softplus's argument is less than 4.5 away from zero and `A_log` and the decay's cotangents are finite.
-/

@[expose] public section

set_option maxRecDepth 16384

noncomputable section

open Idealize.ShloMosaic Idealize.ShloMosaic.TcCoe Idealize.SL.Sem
open scoped BigOperators

namespace Scal

/-- The sum over the rest of a chunk of real numbers is real. -/
theorem rest_real {u : Fin 2048 → EReal} (h : ∀ r, ∃ y : ℝ, u r = y) (r : Fin 2048) : ∃ y : ℝ, rest u r = y := by
  choose y hy using h
  refine ⟨∑ j ∈ Finset.range 64, if h : r.val % 64 + j < 64 then y ⟨r.val + j, by omega⟩ else 0, ?_⟩
  rw [rest_eq, part, ← Reals.sum_coe]
  refine Finset.sum_congr rfl fun j _ => ?_
  by_cases hj : r.val % 64 + j < 64
  · rw [dif_pos hj, dif_pos hj, hy]
  · rw [dif_neg hj, dif_neg hj, EReal.coe_zero]

/-- A number whose absolute value is bounded is real. -/
theorem real_of_lt {x b : EReal} (h : max x (-x) < b) : ∃ y : ℝ, x = y := by
  induction x with
  | bot => simp at h
  | coe y => exact ⟨y, rfl⟩
  | top => simp at h

/-- The sum of products that the kernel forms is the factored one, over the reals. -/
theorem sum_factor {d s : Fin 2048 → EReal} {e : EReal} (hd : ∀ r, ∃ y : ℝ, d r = y) (hs : ∀ r, ∃ y : ℝ, s r = y) (he : ∃ y : ℝ, e = y) :
    ∑ r, d r * ((0 - e) * s r) = (-(∑ r, d r * s r)) * e := by
  choose d' hd using hd
  choose s' hs using hs
  obtain ⟨e', he⟩ := he
  have h1 : ∀ r, d r * ((0 - e) * s r) = ((d' r * (-e' * s' r) : ℝ) : EReal) := fun r => by
    rw [hd, hs, he, zero_sub, EReal.coe_mul, EReal.coe_mul, EReal.coe_neg]
  have h2 : ∀ r, d r * s r = ((d' r * s' r : ℝ) : EReal) := fun r => by rw [hd, hs, EReal.coe_mul]
  simp only [h1, h2]
  rw [Reals.sum_coe, Reals.sum_coe, he, ← EReal.coe_neg, ← EReal.coe_mul]
  congr 1
  rw [neg_mul, Finset.sum_mul, ← Finset.sum_neg_distrib]
  exact Finset.sum_congr rfl fun r _ => by ring

end Scal

namespace Cert.ScalKernelIdeal.Scal

open Cert.ScalKernelIdeal Cert.ScalKernelIdeal.Gen
open _root_.Scal

/-- The decay's contribution to the first row, at a lane of the decay. -/
theorem pay16_at (dg x : FVec Ideal S2048x128 .f32) (al dt : FVec Ideal S1x128 .f32) (r : Fin 2048) (l : Fin 128) (h : 8 ≤ l.val ∧ l.val < 16) :
    k0_pay16 (F := Ideal) k0_pay4 dg (k0_pay9 x dt) (k0_pay11 al) (k0_pay12 x dt) (ix2 r l)
      = dg (ix2 r l) * ((0 - Ideal.exp (al (ix2 0 l))) * softplusK (x (ix2 r l) + dt (ix2 0 l))) := by
  have e := isDec_eq l
  unfold isDec at e
  pointwise [k0_pay16, k0_pay4, k0_pay9, k0_pay10, k0_pay11, k0_pay12, softplusK]
  rw [e, decide_eq_true h]
  rfl

variable (m : (ℓ : Loc nD τ sig) → Buf (Elt Ideal) ℓ) (c : Dev nD)

/-- What the first row sums, at a head's lane. -/
theorem firstRow_dec (t : Fin cfg0.N) (r : Fin 2048) (l : Fin 128) (k : Fin 8) (h : l.val = 8 + k.val) :
    firstRow m c t (ix2 r l) = rest (dcum (inC m c) (inG m c) k) r * ((0 - Ideal.exp (inE m c (ix2 0 k)))
      * softplusK (HAdd.hAdd (α := EReal) (β := EReal) (inA m c (ix2 r k)) (inT m c (ix2 0 k)))) := by
  unfold firstRow
  rw [pay2_eq]
  refine (pay16_at _ _ _ _ r l (by omega)).trans ?_
  rw [steps_at, start_eq m c t l k h, blk_al, blk_dt, blk_x, alog_at m c l k h, bias_at m c l k h,
    proj_dec m c r _ k (by dsimp only; omega)]

end Cert.ScalKernelIdeal.Scal

namespace Cert.ScalReferenceIdeal.Scal

open Cert.ScalReferenceIdeal Cert.ScalReferenceIdeal.Read
open _root_.Scal

variable (B A : (⟨S2048x8, .f32⟩ : BufTy).Contents (Elt Ideal)) (E T : (⟨S1x8, .f32⟩ : BufTy).Contents (Elt Ideal))
  (D C : (⟨S2048x8, .f32⟩ : BufTy).Contents (Elt Ideal)) (G : (⟨S32x8x64, .f32⟩ : BufTy).Contents (Elt Ideal))

/-- The softplus. -/
theorem v22_0_at (r : Fin 2048) (h : Fin 8) : val_main_v22_0 (F := Ideal) A T (ix2 r h) = softplus (A (ix2 r h) + T (ix2 0 h)) := by
  pointwise [val_main_v22_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v21, val_main_v20, val_main_v19, val_main_v7]
  rw [if_neg (fun e => e rfl)]
  rfl

/-- The gradient of `A_log`. -/
theorem v43_at (h : Fin 8) : val_main_v43 (F := Ideal) A E T C G (ix1 h)
    = (-(∑ r, rest (dcum C G h) r * softplus (A (ix2 r h) + T (ix2 0 h)))) * Ideal.exp (E (ix2 0 h)) := by
  have e2 : val_main_cst_2 (F := Ideal) (Shape.Idx.first Cert.ScalReferenceIdeal.Gen.h_S_) = 0 := by pointwise [val_main_cst_2]
  have e3 : val_main_cst_3 (F := Ideal) (Shape.Idx.first Cert.ScalReferenceIdeal.Gen.h_S_) = 0 := by pointwise [val_main_cst_3]
  have h31 := fun r => v31_at C G r h
  have h22 := fun r => v22_0_at A T r h
  pointwise [val_main_v43, val_main_v42, val_main_v37, val_main_v36, val_main_v35, val_main_v34, val_main_v17, val_main_v6]
  rw [e2, e3, Fin.sum_univ_one, zero_add, zero_add, rest_eq]
  simp only [h31, h22]

/-- The second result's first row holds the gradient of `A_log`. -/
theorem v55_alog (n : Fin 8) (l : Fin 128) (hl : l.val = n.val) : val_main_v55 (F := Ideal) A E T C G (ix2 0 l) = val_main_v43 (F := Ideal) A E T C G (ix1 n) := by
  have hn := n.isLt
  pointwise [val_main_v55, val_main_v53, val_main_v50]
  refine (dif_pos (by omega)).trans ?_
  exact congrArg (fun q => val_main_v43 (F := Ideal) A E T C G (ix1 q)) (Fin.ext hl)

end Cert.ScalReferenceIdeal.Scal

namespace Cert.ScalAlog

open _root_.Scal
open Cert.ScalReferenceIdeal.Read
open Cert.ScalKernelIdeal.Scal (inB inA inE inT inD inC inG inP)

variable (m : (ℓ : Loc Cert.ScalKernelIdeal.nD Cert.ScalKernelIdeal.τ Cert.ScalKernelIdeal.sig) → Buf (Elt Ideal) ℓ) (c : Dev Cert.ScalKernelIdeal.nD)

/-- The softplus's argument is small. -/
theorem arg_small (hp : Pre_ScalKernelIdeal_scal_small m) (r : Fin 2048) (k : Fin 8) :
    max (HAdd.hAdd (α := EReal) (β := EReal) (inA m c (ix2 r k)) (inT m c (ix2 0 k))) (-(HAdd.hAdd (α := EReal) (β := EReal) (inA m c (ix2 r k)) (inT m c (ix2 0 k))))
      < Ideal.ofBits .f32 0x40900000#32 := by
  have h := congrFun (hp c).1 (ix2 r k)
  simp only [Cert.Pre_scal_small.fn] at h
  pointwise at h
  by_contra hc
  rw [decide_eq_false (by exact hc)] at h
  exact absurd h (by decide)

/-- So it is real. -/
theorem arg_real (hp : Pre_ScalKernelIdeal_scal_small m) (r : Fin 2048) (k : Fin 8) :
    ∃ x : ℝ, HAdd.hAdd (α := EReal) (β := EReal) (inA m c (ix2 r k)) (inT m c (ix2 0 k)) = (x : EReal) :=
  real_of_lt (arg_small m c hp r k)

/-- `A_log` is real. -/
theorem alog_real (hp : Pre_ScalKernelIdeal_scal_small m) (k : Fin 8) : ∃ x : ℝ, inE m c (ix2 0 k) = (x : EReal) := by
  have h := congrFun (hp c).2.1 (ix2 0 k)
  simp only [Cert.Pre_scal_small.fn] at h
  pointwise at h
  exact Reals.real_of_abs_lt h

/-- The decay's cotangents are real. -/
theorem dcum_real (hp : Pre_ScalKernelIdeal_scal_small m) (k : Fin 8) (r : Fin 2048) : ∃ x : ℝ, dcum (inC m c) (inG m c) k r = (x : EReal) := by
  have h := congrFun (hp c).2.2.1 (ix2 r k)
  have h' := congrFun (hp c).2.2.2 (ix3 (⟨r.val / 64, by omega⟩ : Fin 32) k (⟨r.val % 64, Nat.mod_lt _ (by decide)⟩ : Fin 64))
  simp only [Cert.Pre_scal_small.fn] at h h'
  pointwise at h
  pointwise at h'
  obtain ⟨a, ha⟩ := Reals.real_of_abs_lt h
  obtain ⟨b, hb⟩ := Reals.real_of_abs_lt h'
  exact ⟨a - b, (congrArg₂ (fun p q : EReal => p - q) ha hb).trans (EReal.coe_sub a b).symm⟩

/-- The gradient of `A_log`. -/
theorem eq_alog (hp : Pre_ScalKernelIdeal_scal_small m) (t : Fin Cert.ScalKernelIdeal.cfg0.N) (k : Fin 8) (l : Fin 128) (hl : l.val = 8 + k.val) :
    ∑ r : Fin 2048, Cert.ScalKernelIdeal.Scal.firstRow m c t (ix2 r l)
      = val_main_v43 (F := Ideal) (inA m c) (inE m c) (inT m c) (inC m c) (inG m c) (ix1 k) := by
  rw [Cert.ScalReferenceIdeal.Scal.v43_at]
  refine (Finset.sum_congr rfl fun r _ => (Cert.ScalKernelIdeal.Scal.firstRow_dec m c t r l k hl).trans ?_).trans
    (sum_factor (fun r => rest_real (dcum_real m c hp k) r) (fun r => ?_) ?_)
  · rw [softplusK_eq (arg_small m c hp r k)]
  · obtain ⟨x, hx⟩ := arg_real m c hp r k
    obtain ⟨y, hy, _⟩ := exp_softplus x
    exact ⟨y, (congrArg softplus hx).trans hy⟩
  · obtain ⟨x, hx⟩ := alog_real m c hp k
    exact ⟨Real.exp x, (congrArg Ideal.exp hx).trans (Ideal.exp_coe x)⟩

/-- The first result. -/
theorem eq_P (hp : Pre_ScalKernelIdeal_scal_small m) : (Cert.ScalKernelIdeal.Gen.dats m 0 c).arrAt 5 (Cert.ScalKernelIdeal.cfgs 0).N
    = val_main_v49 (F := Ideal) (inB m c) (inA m c) (inE m c) (inT m c) (inD m c) (inC m c) (inG m c) (inP m c) :=
  (Cert.ScalKernelIdeal.Scal.final_5 m c).trans
    (funext fun i => (Cert.ScalReferenceIdeal.Scal.v49_at (inB m c) (inA m c) (inE m c) (inT m c) (inD m c) (inC m c) (inG m c) (inP m c)
      (arg_real m c hp) i).symm)

/-- The second result. -/
theorem eq_G (hp : Pre_ScalKernelIdeal_scal_small m) : (Cert.ScalKernelIdeal.Gen.dats m 0 c).arrAt 6 (Cert.ScalKernelIdeal.cfgs 0).N
    = val_main_v55 (F := Ideal) (inA m c) (inE m c) (inT m c) (inC m c) (inG m c) := by
  obtain ⟨t, hu⟩ := Cert.ScalKernelIdeal.Scal.final_6 m c
  refine hu.trans (funext fun i => ?_)
  idx_vars i
  by_cases h : 1 ≤ i0.val ∨ 8 ≤ i1.val
  · exact (Cert.ScalReferenceIdeal.Scal.v55_at (inA m c) (inE m c) (inT m c) (inC m c) (inG m c) (arg_real m c hp) _ i0 i1 h).symm
  · have h1 : i1.val < 8 := by omega
    rw [show i0 = 0 from Fin.ext (by change i0.val = 0; omega), resG_at, dif_pos h1,
      Cert.ScalReferenceIdeal.Scal.v55_alog (inA m c) (inE m c) (inT m c) (inC m c) (inG m c) ⟨i1.val, h1⟩ i1 rfl]
    refine (if_pos rfl).trans (eq_alog m c hp t ⟨i1.val, h1⟩ _ ?_)
    change (i1.val + 128 - 120) % 128 = 8 + i1.val
    omega

set_option maxHeartbeats 1600000 in
/-- The pair's second claim. -/
theorem algebraic : algebraic_ScalKernelIdeal_ScalReferenceIdeal_pre_scal_small := by
  intro m g m' g' hpre hargs
  refine ⟨fun c => val_main_v49 (F := Ideal) (inB m c) (inA m c) (inE m c) (inT m c) (inD m c) (inC m c) (inG m c) (inP m c),
    fun c => val_main_v55 (F := Ideal) (inA m c) (inE m c) (inT m c) (inC m c) (inG m c), ?_, ?_⟩
  · refine (θ_run _ _ _).mono (fun r h c => ?_) (Cert.ScalKernelIdeal.Value.run_blocks m g)
    obtain ⟨h5, h6, a⟩ := h c
    exact ⟨h5.trans (eq_P m c hpre), h6.trans (eq_G m c hpre), a⟩
  · refine (θ_run _ _ _).mono (fun r h c => ?_) (Cert.ScalReferenceIdeal.Value.run m' g')
    obtain ⟨h5, h6, a⟩ := h c
    obtain ⟨e0, e1, e2, e3, e4, e5, e6, e7⟩ := hargs c
    rw [val_main_v49_eq] at h5
    rw [val_main_v55_eq] at h6
    rw [e0, e1, e2, e3, e4, e5, e6, e7] at h5
    rw [e1, e2, e3, e5, e6] at h6
    exact ⟨h5, h6, a⟩

end Cert.ScalAlog

end
-- ==== Proof.RowNorm.lean ====
module

public import proofs.«01_k».proof.Proof.Reals

/-!
The gradient through the norm of a row of 1024 lanes, as the kernels write it and as the chain rule writes it.
The row is `y`, the cotangent of the normed row (the weights multiplied in) is `e`.
-/

@[expose] public section

open Idealize.ShloMosaic
open scoped BigOperators

noncomputable section

namespace RowNorm

/-- The mean square of the lanes, with the norm's small term. -/
def ms (y : Fin 1024 → EReal) : EReal :=
  Ideal.div (∑ k, y k * y k) (Ideal.ofBits .f32 0x44800000#32) + Ideal.ofBits .f32 0x358637BD#32

/-- The reciprocal root mean square. -/
def rms (y : Fin 1024 → EReal) : EReal := Ideal.rsqrt (ms y)

/-- The row's gradient at lane `j`. -/
def back (y e : Fin 1024 → EReal) (j : Fin 1024) : EReal :=
  rms y * (e j - y j * rms y * Ideal.div (∑ k, e k * (y k * rms y)) (Ideal.ofBits .f32 0x44800000#32))

/-- Half of the gradient that reaches the row through the mean square. -/
def half (y e : Fin 1024 → EReal) : EReal :=
  Ideal.div ((∑ k, y k * e k) * (Ideal.ofBits .f32 0xBF000000#32 * Ideal.div (rms y) (ms y))) (Ideal.ofBits .f32 0x44800000#32)

theorem lit_1024 : Ideal.ofBits .f32 0x44800000#32 = ((1024 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root mean square is zero (an infinite lane), or a positive real, and then every lane is real. -/
theorem rms_cases (x : Fin 1024 → EReal) :
    (rms x = 0 ∧ Ideal.div (rms x) (ms x) = 0)
      ∨ ∃ r : ℝ, 0 < r ∧ rms x = r ∧ Ideal.div (rms x) (ms x) = ((r * r * r : ℝ) : EReal) ∧ ∃ y : Fin 1024 → ℝ, ∀ k, x k = y k := by
  obtain ⟨e, he, hE⟩ := lit_eps
  have hr : rms x = Ideal.rsqrt (ms x) := rfl
  have hm : ms x = Ideal.div (∑ k, x k * x k) ((1024 : ℝ) : EReal) + (e : EReal) := by rw [ms, lit_1024, hE]
  rw [Ideal.div_coe (by norm_num)] at hm
  rcases Reals.sum_sq x with h | ⟨y, hy, h⟩
  · left
    have hm' : ms x = ⊤ := by
      rw [hm, h, EReal.top_mul_coe_of_pos (by norm_num)]; rfl
    rw [hr, hm']
    refine ⟨rfl, ?_⟩
    simp [Ideal.div]
  · right
    have hv : ms x = (((∑ k, y k * y k) * (1 / 1024) + e : ℝ) : EReal) := by
      rw [hm, h, ← EReal.coe_mul, ← EReal.coe_add]
    have hpos : 0 < (∑ k, y k * y k) * (1 / 1024) + e := by
      have : 0 ≤ ∑ k, y k * y k := Finset.sum_nonneg fun k _ => mul_self_nonneg (y k)
      positivity
    generalize (∑ k, y k * y k) * (1 / 1024) + e = v at hv hpos
    have hrv : rms x = (((Real.sqrt v)⁻¹ : ℝ) : EReal) := by
      rw [hr, hv, Ideal.rsqrt_coe, if_neg (not_lt.mpr hpos.le), if_neg hpos.ne']
    have hs : 0 < Real.sqrt v := Real.sqrt_pos.mpr hpos
    refine ⟨(Real.sqrt v)⁻¹, by positivity, hrv, ?_, y, hy⟩
    rw [hrv, hv, Ideal.div_coe hpos.ne', ← EReal.coe_mul]
    congr 1
    have hvv : v = Real.sqrt v * Real.sqrt v := (Real.mul_self_sqrt hpos.le).symm
    generalize Real.sqrt v = s at hs hvv
    subst hvv
    field_simp

/-- The row's gradient, as the chain rule through the mean square writes it. -/
theorem back_eq (x e : Fin 1024 → EReal) (j : Fin 1024) :
    e j * rms x + x j * half x e + half x e * x j = back x e j := by
  unfold back half
  rcases rms_cases x with ⟨h0, h1⟩ | ⟨r, hr, hx, hd, y, hy⟩
  · rw [h1, h0, lit_1024, Ideal.div_coe (by norm_num)]
    simp
  · rw [hd, hx, lit_1024, lit_half, Ideal.div_coe (by norm_num), Ideal.div_coe (by norm_num), ← EReal.coe_mul]
    have hsum : ∑ k, e k * (x k * (r : EReal)) = (∑ k, x k * e k) * (r : EReal) := by
      rw [← Reals.sum_mul_coe _ _ hr.le]
      exact Finset.sum_congr rfl fun k _ => by rw [← mul_assoc, mul_comm (e k)]
    rw [hsum]
    generalize ∑ k, x k * e k = S
    generalize e j = X
    have e1 : ∀ c : ℝ, x j * (S * ((c : ℝ) : EReal) * ((1 / 1024 : ℝ) : EReal)) = x j * S * ((c * (1 / 1024) : ℝ) : EReal) := fun c => by
      rw [EReal.coe_mul]; ac_rfl
    rw [mul_comm (S * _ * _) (x j), e1, add_assoc, Reals.mul_coe_add_self,
      EReal.mul_sub_of_nonneg_of_ne_top (by exact_mod_cast hr.le) (EReal.coe_ne_top r), mul_comm X, sub_eq_add_neg]
    congr 1
    have e2 : x j * (r : EReal) * (S * (r : EReal) * ((1 / 1024 : ℝ) : EReal)) = x j * S * ((r * r * (1 / 1024) : ℝ) : EReal) := by
      rw [EReal.coe_mul, EReal.coe_mul]; ac_rfl
    rw [e2, mul_left_comm (r : EReal), ← EReal.coe_mul, ← mul_neg, ← EReal.coe_neg]
    congr 2
    ring

/-- A sum over 2048 rows, tile by tile of 512. -/
theorem sum_tiles (f : Fin 2048 → EReal) : ∑ r, f r = ∑ p : Fin 4, ∑ r : Fin 512, f ⟨512 * p.val + r.val, by omega⟩ := by
  rw [← Finset.sum_product' Finset.univ Finset.univ (fun (p : Fin 4) (r : Fin 512) => f ⟨512 * p.val + r.val, by omega⟩)]
  refine (Fintype.sum_equiv (finProdFinEquiv (m := 4) (n := 512)) _ _ fun x => ?_).symm
  exact congrArg f (Fin.ext (Nat.add_comm _ _))

end RowNorm

end
-- ==== Proof.LossForms.lean ====
module

public import proofs.«01_k».proof.Proof.RowNorm

/-!
The output projection with the residual, the final norm and the loss, in the form the kernel computes their gradients, at
one row: the row `x` of the residual stream, the row `g` of the mixed groups, the projection's matrix `W`, the final
norm's weights `f` and the row `t` of the target.
-/

@[expose] public section

open Idealize.ShloMosaic
open scoped BigOperators

noncomputable section

namespace Loss

variable (x : Fin 1024 → EReal) (g : Fin 2048 → EReal) (W : Fin 2048 → Fin 1024 → EReal) (f t : Fin 1024 → EReal)

/-- The residual stream's new row. -/
def out (k : Fin 1024) : EReal := x k + ∑ p, g p * W p k

/-- The normed row. -/
def normed (k : Fin 1024) : EReal := out x g W k * RowNorm.rms (out x g W)

/-- The difference from the target. -/
def diff (k : Fin 1024) : EReal := normed x g W k * f k - t k

/-- The cotangent of the weighted row. -/
def dout (k : Fin 1024) : EReal := diff x g W f t k * Ideal.ofBits .f32 0x3A800000#32

/-- The gradient with respect to the new row of the residual stream. -/
def grad (k : Fin 1024) : EReal := RowNorm.back (out x g W) (fun k => dout x g W f t k * f k) k

/-- The gradient with respect to the mixed groups. -/
def gradMix (n : Fin 2048) : EReal := ∑ k, grad x g W f t k * W n k

/-- The row's part of the gradient with respect to the final norm's weights. -/
def partW (k : Fin 1024) : EReal := dout x g W f t k * normed x g W k

/-- The sum of the row's squared differences. -/
def square : EReal := ∑ k, diff x g W f t k * diff x g W f t k

theorem square_nonneg : 0 ≤ square x g W f t := Finset.sum_nonneg fun k _ => Reals.mul_self_nonneg _

theorem lit_loss : Ideal.ofBits .f32 0x3A000000#32 = ((1 / 2048 : ℝ) : EReal) := by
  simp [Ideal.ofBits, Ideal.ieee, -EReal.coe_mul]; norm_num

theorem lit_mean : Ideal.ofBits .f32 0x3A800000#32 = ((1 / 1024 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

/-- The cotangent as the chain rule through the square and the mean writes it. -/
theorem dout_eq (d : EReal) : Ideal.div (Ideal.ofBits .f32 0x3F000000#32 * Ideal.ofBits .f32 0x3F800000#32) (Ideal.ofBits .f32 0x44800000#32)
    * (Ideal.ofBits .f32 0x40000000#32 * d) = d * Ideal.ofBits .f32 0x3A800000#32 := by
  rw [lit_half, lit_one, RowNorm.lit_1024, lit_two, lit_mean, Ideal.div_coe (by norm_num), ← EReal.coe_mul, ← EReal.coe_mul,
    ← mul_assoc, ← EReal.coe_mul, mul_comm d]
  norm_num

/-- The loss, a tile of rows after the other, is half of the sum of the rows' mean squares. -/
theorem loss_eq (s : Fin 2048 → EReal) :
    Ideal.ofBits .f32 0x3F000000#32 * ∑ r, Ideal.div (s r) (Ideal.ofBits .f32 0x44800000#32)
      = ∑ p : Fin 4, (∑ r : Fin 512, s ⟨512 * p.val + r.val, by omega⟩) * Ideal.ofBits .f32 0x3A000000#32 := by
  rw [lit_half, RowNorm.lit_1024, lit_loss]
  simp only [Ideal.div_coe (show (1024 : ℝ) ≠ 0 by norm_num)]
  rw [Reals.sum_mul_coe _ _ (by norm_num), Reals.sum_mul_coe _ _ (by norm_num), ← RowNorm.sum_tiles, mul_comm, mul_assoc, ← EReal.coe_mul]
  norm_num

end Loss

end
-- ==== Proof.LossPay.lean ====
module

public import proofs.«01_k».proof.Proof.Gen.LossKernelIdeal.Frame
public import proofs.«01_k».proof.Proof.LossForms
public import Idealize.ShloMosaic.Lib.Pipeline.ValueKit

/-!
What one grid point of the loss kernel computes from its blocks, read at an index.
-/

@[expose] public section

set_option maxRecDepth 16384

noncomputable section

open Idealize.ShloMosaic Idealize.ShloMosaic.TcCoe Idealize.SL.Sem
open scoped BigOperators

namespace Cert.LossKernelIdeal.Loss

open Cert.LossKernelIdeal Cert.LossKernelIdeal.Gen

variable (x : FVec Ideal S512x1024 .f32) (g : FVec Ideal S512x2048 .bf16) (w : FVec Ideal S2048x1024 .bf16)
  (f : FVec Ideal S1x1024 .f32) (t : FVec Ideal S512x1024 .f32)

/-- A block's row of residual stream, of mixed groups or of target; the matrix; the norm's weights. -/
abbrev rowX (r : Fin 512) (k : Fin 1024) : EReal := x (ix2 r k)
abbrev rowG (r : Fin 512) (k : Fin 2048) : EReal := g (ix2 r k)
abbrev mat (p : Fin 2048) (k : Fin 1024) : EReal := w (ix2 p k)
abbrev vec (k : Fin 1024) : EReal := f (ix2 0 k)

theorem pay8_at (r : Fin 512) (k : Fin 1024) : k0_pay8 (F := Ideal) x g w (ix2 r k) = _root_.Loss.out (rowX x r) (rowG g r) (mat w) k := by
  pointwise [k0_pay8, _root_.Loss.out]

theorem pay9_at (r : Fin 512) (u : Fin 1) :
    k0_pay9 (F := Ideal) x g w (ix2 r u) = RowNorm.rms (_root_.Loss.out (rowX x r) (rowG g r) (mat w)) := by
  pointwise [k0_pay9, pay8_at, RowNorm.rms, RowNorm.ms]

theorem pay10_at (r : Fin 512) (k : Fin 1024) :
    k0_pay10 (F := Ideal) x g w (ix2 r k) = _root_.Loss.normed (rowX x r) (rowG g r) (mat w) k := by
  pointwise [k0_pay10, pay8_at, pay9_at, _root_.Loss.normed]

theorem pay12_at (r : Fin 512) (k : Fin 1024) :
    k0_pay12 (F := Ideal) x g w f t (ix2 r k) = _root_.Loss.diff (rowX x r) (rowG g r) (mat w) (vec f) (rowX t r) k := by
  pointwise [k0_pay12, k0_pay11, pay10_at, _root_.Loss.diff]

theorem pay1_at (r : Fin 512) (k : Fin 1024) :
    k0_pay1 (F := Ideal) (k0_pay12 (F := Ideal) x g w f t) (ix2 r k) = _root_.Loss.dout (rowX x r) (rowG g r) (mat w) (vec f) (rowX t r) k := by
  pointwise [k0_pay1, pay12_at, _root_.Loss.dout]

/-- The gradient with respect to the residual stream. -/
theorem pay3_at (r : Fin 512) (k : Fin 1024) :
    k0_pay3 (F := Ideal) (k0_pay9 x g w) (k0_pay10 x g w) (k0_pay11 f) (k0_pay12 x g w f t) (ix2 r k)
      = _root_.Loss.grad (rowX x r) (rowG g r) (mat w) (vec f) (rowX t r) k := by
  pointwise [k0_pay3, k0_pay11, pay1_at, pay9_at, pay10_at, _root_.Loss.grad, RowNorm.back, _root_.Loss.normed]

/-- The gradient with respect to the mixed groups. -/
theorem pay5_at (r : Fin 512) (n : Fin 2048) :
    k0_pay5 (F := Ideal) (k0_pay9 x g w) (k0_pay10 x g w) (k0_pay11 f) (k0_pay12 x g w f t) w (ix2 r n)
      = _root_.Loss.gradMix (rowX x r) (rowG g r) (mat w) (vec f) (rowX t r) n := by
  pointwise [k0_pay5, k0_pay4, pay3_at, _root_.Loss.gradMix]

/-- A tile's part of the gradient with respect to the norm's weights, added to what the tiles before left. -/
theorem pay2_at (v : FVec Ideal S1x1024 .f32) (u : Fin 1) (k : Fin 1024) :
    k0_pay2 (F := Ideal) (k0_pay10 x g w) (k0_pay12 x g w f t) v (ix2 u k)
      = v (ix2 u k) + ∑ r : Fin 512, _root_.Loss.partW (rowX x r) (rowG g r) (mat w) (vec f) (rowX t r) k := by
  pointwise [k0_pay2, pay1_at, pay10_at, _root_.Loss.partW]

/-- A tile's part of the loss, added to what the tiles before left. -/
theorem pay13_at (v : FVec Ideal S1x128 .f32) (u : Fin 1) (k : Fin 128) :
    k0_pay13 (F := Ideal) x g w f t v (ix2 u k)
      = v (ix2 u k) + (∑ r : Fin 512, _root_.Loss.square (rowX x r) (rowG g r) (mat w) (vec f) (rowX t r)) * Ideal.ofBits .f32 0x3A000000#32 := by
  pointwise [k0_pay13, pay12_at, _root_.Loss.square]

end Cert.LossKernelIdeal.Loss

end
-- ==== Proof.LossKernel.lean ====
module

public import proofs.«01_k».proof.Proof.Idx2
public import proofs.«01_k».proof.Proof.LossPay

/-!
What the loss kernel leaves in its five result arrays, as functions of its argument arrays.
-/

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Loss

open Cert.LossKernelIdeal Cert.LossKernelIdeal.Gen
open Idx2 (emb_eq)

/-- Where each window's block stands at a point of the grid. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

section Forms

variable (X : FVec Ideal S2048x1024 .f32) (G : FVec Ideal S2048x2048 .bf16) (W : FVec Ideal S2048x1024 .f32)
  (N : FVec Ideal S1024 .f32) (T : FVec Ideal S2048x1024 .f32)

/-- A row of the residual stream, of the mixed groups, of the target; the matrix; the norm's weights. -/
abbrev lanes (r : Fin 2048) (k : Fin 1024) : EReal := X (ix2 r k)
abbrev mixed (r : Fin 2048) (k : Fin 2048) : EReal := G (ix2 r k)
abbrev matrix (p : Fin 2048) (k : Fin 1024) : EReal := W (ix2 p k)
abbrev weights (k : Fin 1024) : EReal := N (ix1 k)

/-- The gradient with respect to the residual stream. -/
def resD : S2048x1024.Idx → EReal := fun i => _root_.Loss.grad (lanes X (i 0)) (mixed G (i 0)) (matrix W) (weights N) (lanes T (i 0)) (i 1)

/-- The gradient with respect to the mixed groups. -/
def resM : FVec Ideal S2048x2048 .f32 := fun i =>
  _root_.Loss.gradMix (lanes X (i 0)) (mixed G (i 0)) (matrix W) (weights N) (lanes T (i 0)) (i 1)

/-- The gradient with respect to the final norm's weights. -/
def resW : FVec Ideal S1x1024 .f32 := fun i => ∑ p : Fin 4, ∑ r : Fin 512,
  _root_.Loss.partW (lanes X ⟨512 * p.val + r.val, by omega⟩) (mixed G ⟨512 * p.val + r.val, by omega⟩) (matrix W) (weights N)
    (lanes T ⟨512 * p.val + r.val, by omega⟩) (i 1)

/-- The loss in every lane. -/
def resL : FVec Ideal S1x128 .f32 := fun i => ∑ p : Fin 4, (∑ r : Fin 512,
  _root_.Loss.square (lanes X ⟨512 * p.val + r.val, by omega⟩) (mixed G ⟨512 * p.val + r.val, by omega⟩) (matrix W) (weights N)
    (lanes T ⟨512 * p.val + r.val, by omega⟩)) * Ideal.ofBits .f32 0x3A000000#32

end Forms

variable (m : (ℓ : Loc nD τ sig) → Buf (Elt Ideal) ℓ) (c : Dev nD)

/-- The five arguments. -/
abbrev inX : FVec Ideal S2048x1024 .f32 := m ((c.tc : Thread nD τ).loc main_arg0)
abbrev inG : FVec Ideal S2048x2048 .bf16 := m ((c.tc : Thread nD τ).loc main_arg1)
abbrev inW : FVec Ideal S2048x1024 .f32 := m ((c.tc : Thread nD τ).loc main_arg2)
abbrev inN : FVec Ideal S1024 .f32 := m ((c.tc : Thread nD τ).loc main_arg3)
abbrev inT : FVec Ideal S2048x1024 .f32 := m ((c.tc : Thread nD τ).loc main_arg4)

/-- The five blocks at a point. -/
abbrev bX (t : Fin cfg0.N) : FVec Ideal S512x1024 .f32 := iblk m c 0 t
abbrev bG (t : Fin cfg0.N) : FVec Ideal S512x2048 .bf16 := iblk m c 1 t
abbrev bW (t : Fin cfg0.N) : FVec Ideal S2048x1024 .bf16 := iblk m c 2 t
abbrev bN (t : Fin cfg0.N) : FVec Ideal S1x1024 .f32 := iblk m c 3 t
abbrev bT (t : Fin cfg0.N) : FVec Ideal S512x1024 .f32 := iblk m c 4 t

theorem row_lt (t : Fin cfg0.N) (r : Fin 512) : 512 * t.val + r.val < 2048 := by
  have := lt_of_lt_of_eq t.isLt N_0; omega

theorem bX_at (t : Fin cfg0.N) (r : Fin 512) : rowX (bX m c t) r = lanes (inX m c) ⟨512 * t.val + r.val, row_lt t r⟩ := by
  funext k
  show bX m c t (ix2 r k) = inX m c (ix2 ⟨512 * t.val + r.val, row_lt t r⟩ k)
  blk_point [bX, iblk, idx t]

theorem bG_at (t : Fin cfg0.N) (r : Fin 512) : rowG (bG m c t) r = mixed (inG m c) ⟨512 * t.val + r.val, row_lt t r⟩ := by
  funext k
  show bG m c t (ix2 r k) = inG m c (ix2 ⟨512 * t.val + r.val, row_lt t r⟩ k)
  blk_point [bG, iblk, idx t]

theorem bT_at (t : Fin cfg0.N) (r : Fin 512) : rowX (bT m c t) r = lanes (inT m c) ⟨512 * t.val + r.val, row_lt t r⟩ := by
  funext k
  show bT m c t (ix2 r k) = inT m c (ix2 ⟨512 * t.val + r.val, row_lt t r⟩ k)
  blk_point [bT, iblk, idx t]

theorem bW_at (t : Fin cfg0.N) : mat (bW m c t) = matrix (inW m c) := by
  funext p k
  show bW m c t (ix2 p k) = inW m c (ix2 p k)
  blk_point [bW, iblk, idx t]

theorem bN_at (t : Fin cfg0.N) : vec (bN m c t) = weights (inN m c) := by
  funext k
  show bN m c t (ix2 0 k) = inN m c (ix1 k)
  blk_point [bN, iblk, idx t]

/-- A row of the gradient with respect to the residual stream. -/
theorem grad_at (t : Fin cfg0.N) (q : Fin 512) (k : Fin 1024) :
    k0_pay3 (F := Ideal) (k0_pay9 (bX m c t) (bG m c t) (bW m c t)) (k0_pay10 (bX m c t) (bG m c t) (bW m c t)) (k0_pay11 (bN m c t))
        (k0_pay12 (bX m c t) (bG m c t) (bW m c t) (bN m c t) (bT m c t)) (ix2 q k)
      = resD (inX m c) (inG m c) (inW m c) (inN m c) (inT m c) (ix2 ⟨512 * t.val + q.val, row_lt t q⟩ k) := by
  rw [pay3_at, bX_at, bG_at, bW_at, bN_at, bT_at]; rfl

/-- A row of the gradient with respect to the mixed groups. -/
theorem gradMix_at (t : Fin cfg0.N) (q : Fin 512) (k : Fin 2048) :
    k0_pay5 (F := Ideal) (k0_pay9 (bX m c t) (bG m c t) (bW m c t)) (k0_pay10 (bX m c t) (bG m c t) (bW m c t)) (k0_pay11 (bN m c t))
        (k0_pay12 (bX m c t) (bG m c t) (bW m c t) (bN m c t) (bT m c t)) (bW m c t) (ix2 q k)
      = resM (inX m c) (inG m c) (inW m c) (inN m c) (inT m c) (ix2 ⟨512 * t.val + q.val, row_lt t q⟩ k) := by
  rw [pay5_at, bX_at, bG_at, bW_at, bN_at, bT_at]; rfl

set_option maxHeartbeats 1600000 in
/-- The first result after the run. -/
theorem final_5 : (dats m 0 c).arrAt 5 (cfgs 0).N = resD (inX m c) (inG m c) (inW m c) (inN m c) (inT m c) := by
  refine (dats m 0 c).arrAt_eq_of_covers 5 _ (by decide +kernel) fun t hf y => ?_
  blk_simp; rw [after0_5]
  obtain ⟨q, hq⟩ : ∃ q : Fin 512, q.val = (y 0).val := ⟨⟨(y 0).val, (y 0).isLt⟩, rfl⟩
  obtain ⟨k, hk⟩ : ∃ k : Fin 1024, k.val = (y 1).val := ⟨⟨(y 1).val, (y 1).isLt⟩, rfl⟩
  have key := grad_at m c t q k
  obtain ⟨u, hu⟩ : ∃ u : Fin 2048, u.val = 512 * t.val + q.val := ⟨⟨_, row_lt t q⟩, rfl⟩
  rw [show (⟨512 * t.val + q.val, row_lt t q⟩ : Fin 2048) = u from Fin.ext hu.symm] at key
  rw [show y = ix2 q k from emb_eq y q k hq.symm hk.symm]
  by_cases h : t.val % 4 = 0
  · rw [outsAt0_A m c t h]; dsimp only; frame_out
    exact key.trans (congrArg (resD _ _ _ _ _) (emb_eq _ _ _ (by blk_simp [idx t] <;> omega) (by blk_simp [idx t] <;> omega)).symm)
  · rw [outsAt0_B m c t h]; dsimp only; frame_out
    exact key.trans (congrArg (resD _ _ _ _ _) (emb_eq _ _ _ (by blk_simp [idx t] <;> omega) (by blk_simp [idx t] <;> omega)).symm)

set_option maxHeartbeats 1600000 in
/-- The second result: the first one's copy. -/
theorem final_6 : (dats m 0 c).arrAt 6 (cfgs 0).N = resD (inX m c) (inG m c) (inW m c) (inN m c) (inT m c) := by
  refine (dats m 0 c).arrAt_eq_of_covers 6 _ (by decide +kernel) fun t hf y => ?_
  blk_simp; rw [after0_6]
  obtain ⟨q, hq⟩ : ∃ q : Fin 512, q.val = (y 0).val := ⟨⟨(y 0).val, (y 0).isLt⟩, rfl⟩
  obtain ⟨k, hk⟩ : ∃ k : Fin 1024, k.val = (y 1).val := ⟨⟨(y 1).val, (y 1).isLt⟩, rfl⟩
  have key := grad_at m c t q k
  obtain ⟨u, hu⟩ : ∃ u : Fin 2048, u.val = 512 * t.val + q.val := ⟨⟨_, row_lt t q⟩, rfl⟩
  rw [show (⟨512 * t.val + q.val, row_lt t q⟩ : Fin 2048) = u from Fin.ext hu.symm] at key
  rw [show y = ix2 q k from emb_eq y q k hq.symm hk.symm]
  by_cases h : t.val % 4 = 0
  · rw [outsAt0_A m c t h]; dsimp only; frame_out
    exact key.trans (congrArg (resD _ _ _ _ _) (emb_eq _ _ _ (by blk_simp [idx t] <;> omega) (by blk_simp [idx t] <;> omega)).symm)
  · rw [outsAt0_B m c t h]; dsimp only; frame_out
    exact key.trans (congrArg (resD _ _ _ _ _) (emb_eq _ _ _ (by blk_simp [idx t] <;> omega) (by blk_simp [idx t] <;> omega)).symm)

set_option maxHeartbeats 1600000 in
/-- The third result. -/
theorem final_7 : (dats m 0 c).arrAt 7 (cfgs 0).N = resM (inX m c) (inG m c) (inW m c) (inN m c) (inT m c) := by
  refine (dats m 0 c).arrAt_eq_of_covers 7 _ (by decide +kernel) fun t hf y => ?_
  blk_simp; rw [after0_7]
  obtain ⟨q, hq⟩ : ∃ q : Fin 512, q.val = (y 0).val := ⟨⟨(y 0).val, (y 0).isLt⟩, rfl⟩
  obtain ⟨k, hk⟩ : ∃ k : Fin 2048, k.val = (y 1).val := ⟨⟨(y 1).val, (y 1).isLt⟩, rfl⟩
  have key := gradMix_at m c t q k
  obtain ⟨u, hu⟩ : ∃ u : Fin 2048, u.val = 512 * t.val + q.val := ⟨⟨_, row_lt t q⟩, rfl⟩
  rw [show (⟨512 * t.val + q.val, row_lt t q⟩ : Fin 2048) = u from Fin.ext hu.symm] at key
  rw [show y = ix2 q k from emb_eq y q k hq.symm hk.symm]
  by_cases h : t.val % 4 = 0
  · rw [outsAt0_A m c t h]; dsimp only; frame_out
    exact key.trans (congrArg (resM _ _ _ _ _) (emb_eq _ _ _ (by blk_simp [idx t] <;> omega) (by blk_simp [idx t] <;> omega)).symm)
  · rw [outsAt0_B m c t h]; dsimp only; frame_out
    exact key.trans (congrArg (resM _ _ _ _ _) (emb_eq _ _ _ (by blk_simp [idx t] <;> omega) (by blk_simp [idx t] <;> omega)).symm)

set_option maxHeartbeats 1600000 in
/-- The fourth result. -/
theorem final_8 : (dats m 0 c).arrAt 8 (cfgs 0).N = resW (inX m c) (inG m c) (inW m c) (inN m c) (inT m c) := by
  refine (dats m 0 c).arrAt_eq_of_covers 8 _ (by decide +kernel) fun t hf y => ?_
  blk_simp
  obtain ⟨k, hk⟩ : ∃ k : Fin 1024, k.val = (y 1).val := ⟨⟨(y 1).val, (y 1).isLt⟩, rfl⟩
  rw [show y = ix2 (0 : Fin 1) k from emb_eq y 0 k (by have := (y 0).isLt; change (y 0).val < 1 at this; exact Nat.lt_one_iff.mp this) hk.symm]
  rw [after0_8, Pipeline.eq_sum_fin_of_reset_step_apply_of_flush (fun n h => (outsAt0 m c n h).2.2.2.1) 4 (fun _ => 0)
    (fun p j => ∑ r : Fin 512, _root_.Loss.partW (rowX (bX m c p) r) (rowG (bG m c p) r) (mat (bW m c p)) (vec (bN m c p)) (rowX (bT m c p) r) (j (1 : Fin 2)))
    (fun p h j => by
      idx_vars j
      rw [outsAt0_A m c p h]; dsimp only; frame_out
      refine (pay2_at _ _ _ _ _ _ j0 j1).trans (congrArg₂ (fun a b : EReal => a + b) ?_ rfl)
      pointwise [k0_pay6])
    (fun p h j => by
      idx_vars j
      rw [outsAt0_B m c p h]; dsimp only; frame_out
      exact pay2_at _ _ _ _ _ _ j0 j1)
    t ((flush0_8 t).mp hf) _, zero_add]
  refine Eq.trans ?_ (congrArg (resW _ _ _ _ _) (emb_eq _ (0 : Fin 1) k (by blk_simp [idx t]) (by blk_simp [idx t] <;> omega))).symm
  refine Fin.sum_fin_congr fun p => ?_
  have hp : ∀ r : Fin 512, (⟨512 * (4 * (t.val / 4) + p.val) + r.val, row_lt ⟨_, Pipeline.run_point_lt_of_flush t ((flush0_8 t).mp hf) p⟩ r⟩ : Fin 2048)
      = ⟨512 * p.val + r.val, by omega⟩ := fun r => Fin.ext (by
    have := lt_of_lt_of_eq t.isLt N_0
    show 512 * (4 * (t.val / 4) + p.val) + r.val = 512 * p.val + r.val
    omega)
  refine congrArg (fun a : EReal => a) (Finset.sum_congr rfl fun r _ => by rw [bX_at, bG_at, bW_at, bN_at, bT_at]; dsimp only; rw [hp])

set_option maxHeartbeats 1600000 in
/-- The fifth result. -/
theorem final_9 : (dats m 0 c).arrAt 9 (cfgs 0).N = resL (inX m c) (inG m c) (inW m c) (inN m c) (inT m c) := by
  refine (dats m 0 c).arrAt_eq_of_covers 9 _ (by decide +kernel) fun t hf y => ?_
  blk_simp
  obtain ⟨k, hk⟩ : ∃ k : Fin 128, k.val = (y 1).val := ⟨⟨(y 1).val, (y 1).isLt⟩, rfl⟩
  rw [show y = ix2 (0 : Fin 1) k from emb_eq y 0 k (by have := (y 0).isLt; change (y 0).val < 1 at this; exact Nat.lt_one_iff.mp this) hk.symm]
  rw [after0_9, Pipeline.eq_sum_fin_of_reset_step_apply_of_flush (fun n h => (outsAt0 m c n h).2.2.2.2) 4 (fun _ => 0)
    (fun p j => (∑ r : Fin 512, _root_.Loss.square (rowX (bX m c p) r) (rowG (bG m c p) r) (mat (bW m c p)) (vec (bN m c p)) (rowX (bT m c p) r)) * Ideal.ofBits .f32 0x3A000000#32)
    (fun p h j => by
      idx_vars j
      rw [outsAt0_A m c p h]; dsimp only; frame_out
      refine (pay13_at _ _ _ _ _ _ j0 j1).trans (congrArg₂ (fun a b : EReal => a + b) ?_ rfl)
      pointwise [k0_pay7])
    (fun p h j => by
      idx_vars j
      rw [outsAt0_B m c p h]; dsimp only; frame_out
      exact pay13_at _ _ _ _ _ _ j0 j1)
    t ((flush0_9 t).mp hf) _, zero_add]
  refine Eq.trans ?_ (congrArg (resL _ _ _ _ _) (emb_eq _ (0 : Fin 1) k (by blk_simp [idx t]) (by blk_simp [idx t] <;> omega))).symm
  refine Fin.sum_fin_congr fun p => ?_
  have hp : ∀ r : Fin 512, (⟨512 * (4 * (t.val / 4) + p.val) + r.val, row_lt ⟨_, Pipeline.run_point_lt_of_flush t ((flush0_9 t).mp hf) p⟩ r⟩ : Fin 2048)
      = ⟨512 * p.val + r.val, by omega⟩ := fun r => Fin.ext (by
    have := lt_of_lt_of_eq t.isLt N_0
    show 512 * (4 * (t.val / 4) + p.val) + r.val = 512 * p.val + r.val
    omega)
  refine congrArg (fun a : EReal => a * Ideal.ofBits .f32 0x3A000000#32) ( Finset.sum_congr rfl fun r _ => by rw [bX_at, bG_at, bW_at, bN_at, bT_at]; dsimp only; rw [hp])

end Cert.LossKernelIdeal.Loss

end
-- ==== Proof.LossRef.lean ====
module

public import proofs.«01_k».proof.Proof.Gen.LossReferenceIdeal.Read
public import proofs.«01_k».proof.Proof.LossForms
public import proofs.«01_k».proof.Proof.UnitSums
public import Idealize.ShloMosaic.Lib.Pointwise

/-!
The reference of the output projection with the final norm and the loss: its values read at an index.
-/

@[expose] public section

set_option maxRecDepth 16384

noncomputable section

open Idealize.ShloMosaic Idealize.ShloMosaic.TcCoe Idealize.SL.Sem
open scoped BigOperators

namespace Cert.LossReferenceIdeal.Loss

open Cert.LossReferenceIdeal Cert.LossReferenceIdeal.Gen
open Cert.LossReferenceIdeal.Read
open _root_.Loss

variable (X : FVec Ideal S2048x1024 .f32) (G : FVec Ideal S2048x2048 .bf16) (W : FVec Ideal S2048x1024 .f32)
  (N : FVec Ideal S1024 .f32) (T : FVec Ideal S2048x1024 .f32)

/-- A row of the residual stream (or of the target), of the mixed groups; the matrix; the norm's weights. -/
abbrev lanes (r : Fin 2048) (k : Fin 1024) : EReal := X (ix2 r k)
abbrev mixed (r : Fin 2048) (k : Fin 2048) : EReal := G (ix2 r k)
abbrev matrix (p : Fin 2048) (k : Fin 1024) : EReal := W (ix2 p k)
abbrev weights (k : Fin 1024) : EReal := N (ix1 k)

/-- The residual stream's new row. -/
theorem v2_at (r : Fin 2048) (k : Fin 1024) : val_main_v2 (F := Ideal) X G W (ix2 r k) = out (lanes X r) (mixed G r) (matrix W) k := by
  pointwise [val_main_v2, val_main_v1, val_main_v0, out]

/-- The row's mean square. -/
theorem v9_at (r : Fin 2048) (u : Fin 1) : val_main_v9 (F := Ideal) X G W (ix2 r u) = RowNorm.ms (out (lanes X r) (mixed G r) (matrix W)) := by
  pointwise [val_main_v9, val_main_v8, val_main_cst_1, val_main_v7, val_main_v6, val_main_cst_0, val_main_v5, val_main_v4, val_main_cst, val_main_v3,
    v2_at, RowNorm.ms]

/-- The reciprocal root of the mean square. -/
theorem v10_at (r : Fin 2048) (u : Fin 1) : val_main_v10 (F := Ideal) X G W (ix2 r u) = RowNorm.rms (out (lanes X r) (mixed G r) (matrix W)) := by
  pointwise [val_main_v10, v9_at, RowNorm.rms]

/-- The factor of the mean square's gradient. -/
theorem v13_at (r : Fin 2048) (u : Fin 1) : val_main_v13 (F := Ideal) X G W (ix2 r u)
    = Ideal.ofBits .f32 0xBF000000#32 * Ideal.div (RowNorm.rms (out (lanes X r) (mixed G r) (matrix W))) (RowNorm.ms (out (lanes X r) (mixed G r) (matrix W))) := by
  pointwise [val_main_v13, val_main_v12, val_main_cst_2, val_main_v11, v10_at, v9_at]

/-- The normed row. -/
theorem v15_at (r : Fin 2048) (k : Fin 1024) : val_main_v15 (F := Ideal) X G W (ix2 r k) = normed (lanes X r) (mixed G r) (matrix W) k := by
  pointwise [val_main_v15, val_main_v14, v10_at, v2_at, normed]

/-- The difference from the target. -/
theorem v19_at (r : Fin 2048) (k : Fin 1024) : val_main_v19 (F := Ideal) X G W N T (ix2 r k)
    = diff (lanes X r) (mixed G r) (matrix W) (weights N) (lanes T r) k := by
  pointwise [val_main_v19, val_main_v18, val_main_v17, val_main_v16, v15_at, diff]

/-- The sum of the row's squared differences. -/
theorem v23_at (r : Fin 2048) : val_main_v23 (F := Ideal) X G W N T (ix1 r)
    = square (lanes X r) (mixed G r) (matrix W) (weights N) (lanes T r) := by
  pointwise [val_main_v23, val_main_cst_4, val_main_v20, v19_at, square]

/-- The loss in every lane. -/
theorem v58_at (u : Fin 1) (l : Fin 128) : val_main_v58 (F := Ideal) X G W N T (ix2 u l)
    = ∑ p : Fin 4, (∑ r : Fin 512, square (lanes X ⟨512 * p.val + r.val, by omega⟩) (mixed G ⟨512 * p.val + r.val, by omega⟩) (matrix W) (weights N)
        (lanes T ⟨512 * p.val + r.val, by omega⟩)) * Ideal.ofBits .f32 0x3A000000#32 := by
  refine Eq.trans ?_ (loss_eq fun r => square (lanes X r) (mixed G r) (matrix W) (weights N) (lanes T r))
  pointwise [val_main_v58, val_main_v57, val_main_v27, val_main_cst_7, val_main_v26, val_main_cst_6, val_main_v25, v23_at, val_main_v24, val_main_cst_5]

/-- The cotangent of the weighted row. -/
theorem v33_at (r : Fin 2048) (k : Fin 1024) : val_main_v33 (F := Ideal) X G W N T (ix2 r k)
    = dout (lanes X r) (mixed G r) (matrix W) (weights N) (lanes T r) k := by
  refine Eq.trans ?_ (dout_eq _)
  pointwise [val_main_v33, val_main_v32, val_main_v31, val_main_v30, val_main_cst_10, val_main_v29, val_main_v28, val_main_cst_8, val_main_cst_9,
    val_main_v22, val_main_v21, val_main_cst_3, v19_at]

/-- The gradient with respect to the final norm's weights. -/
theorem v56_at (u : Fin 1) (k : Fin 1024) : val_main_v56 (F := Ideal) X G W N T (ix2 u k)
    = ∑ p : Fin 4, ∑ r : Fin 512, partW (lanes X ⟨512 * p.val + r.val, by omega⟩) (mixed G ⟨512 * p.val + r.val, by omega⟩) (matrix W) (weights N)
        (lanes T ⟨512 * p.val + r.val, by omega⟩) k := by
  refine Eq.trans ?_ (RowNorm.sum_tiles fun r => partW (lanes X r) (mixed G r) (matrix W) (weights N) (lanes T r) k)
  pointwise [val_main_v56, val_main_v39, val_main_cst_12, val_main_v36, val_main_v35, val_main_cst_11, val_main_v34, v15_at, v33_at, partW]
  exact (Fin.sum_univ_one _).trans (Finset.sum_congr rfl fun r _ => mul_comm (G := EReal) _ _)

/-- The normed row's cotangent. -/
theorem v38_at (r : Fin 2048) (k : Fin 1024) : val_main_v38 (F := Ideal) X G W N T (ix2 r k)
    = dout (lanes X r) (mixed G r) (matrix W) (weights N) (lanes T r) k * weights N k := by
  pointwise [val_main_v38, v33_at, val_main_v37, val_main_v16]

/-- Half of the gradient through the mean square. -/
theorem v49_at (r : Fin 2048) (k : Fin 1024) : val_main_v49 (F := Ideal) X G W N T (ix2 r k)
    = RowNorm.half (out (lanes X r) (mixed G r) (matrix W)) fun k => dout (lanes X r) (mixed G r) (matrix W) (weights N) (lanes T r) k * weights N k := by
  pointwise [val_main_v49, val_main_v48, val_main_cst_15, val_main_v47, val_main_v46, val_main_cst_14, val_main_v45, val_main_v42, val_main_v41,
    val_main_cst_13, val_main_v40, v38_at, v2_at, v13_at, RowNorm.half]
  exact Fin.sum_univ_one _

/-- The gradient with respect to the residual stream. -/
theorem v53_at (r : Fin 2048) (k : Fin 1024) : val_main_v53 (F := Ideal) X G W N T (ix2 r k)
    = grad (lanes X r) (mixed G r) (matrix W) (weights N) (lanes T r) k := by
  refine Eq.trans ?_ (RowNorm.back_eq (out (lanes X r) (mixed G r) (matrix W)) (fun k => dout (lanes X r) (mixed G r) (matrix W) (weights N) (lanes T r) k * weights N k) k)
  pointwise [val_main_v53, val_main_v52, val_main_v51, val_main_v50, v49_at, val_main_v44, val_main_v43, v38_at, v10_at, v2_at]

/-- Its copy. -/
theorem v55_at (r : Fin 2048) (k : Fin 1024) : val_main_v55 (F := Ideal) X G W N T (ix2 r k)
    = grad (lanes X r) (mixed G r) (matrix W) (weights N) (lanes T r) k := by
  pointwise [val_main_v55, v53_at]

/-- The gradient with respect to the mixed groups. -/
theorem v54_at (r : Fin 2048) (n : Fin 2048) : val_main_v54 (F := Ideal) X G W N T (ix2 r n)
    = gradMix (lanes X r) (mixed G r) (matrix W) (weights N) (lanes T r) n := by
  pointwise [val_main_v54, v53_at, gradMix]

end Cert.LossReferenceIdeal.Loss

end
-- ==== Proof.LossPair.lean ====
module

public import proofs.«01_k».proof.Defs
public import proofs.«01_k».proof.Proof.Gen.LossKernelIdeal.Value
public import proofs.«01_k».proof.Proof.LossKernel
public import proofs.«01_k».proof.Proof.LossRef
public import Idealize.ShloMosaic.Lib.Claim

/-!
The call of the output projection, the final norm and the loss computes its reference's five results.
-/

@[expose] public section

set_option maxRecDepth 16384

noncomputable section

open Idealize.ShloMosaic Idealize.ShloMosaic.TcCoe Idealize.SL.Sem
open scoped BigOperators

namespace Cert.LossPair

open Cert.LossReferenceIdeal.Read
open Cert.LossKernelIdeal.Loss (inX inG inW inN inT final_5 final_6 final_7 final_8 final_9)

variable (m : (ℓ : Loc Cert.LossKernelIdeal.nD Cert.LossKernelIdeal.τ Cert.LossKernelIdeal.sig) → Buf (Elt Ideal) ℓ) (c : Dev Cert.LossKernelIdeal.nD)

/-- The gradient with respect to the residual stream. -/
theorem eq_D : (Cert.LossKernelIdeal.Gen.dats m 0 c).arrAt 5 (Cert.LossKernelIdeal.cfgs 0).N
    = val_main_v53 (F := Ideal) (inX m c) (inG m c) (inW m c) (inN m c) (inT m c) := by
  refine (final_5 m c).trans (funext fun i => ?_)
  idx_vars i
  exact (Cert.LossReferenceIdeal.Loss.v53_at (inX m c) (inG m c) (inW m c) (inN m c) (inT m c) i0 i1).symm

/-- Its copy. -/
theorem eq_C : (Cert.LossKernelIdeal.Gen.dats m 0 c).arrAt 6 (Cert.LossKernelIdeal.cfgs 0).N
    = val_main_v55 (F := Ideal) (inX m c) (inG m c) (inW m c) (inN m c) (inT m c) := by
  refine (final_6 m c).trans (funext fun i => ?_)
  idx_vars i
  exact (Cert.LossReferenceIdeal.Loss.v55_at (inX m c) (inG m c) (inW m c) (inN m c) (inT m c) i0 i1).symm

/-- The gradient with respect to the mixed groups. -/
theorem eq_M : (Cert.LossKernelIdeal.Gen.dats m 0 c).arrAt 7 (Cert.LossKernelIdeal.cfgs 0).N
    = val_main_v54 (F := Ideal) (inX m c) (inG m c) (inW m c) (inN m c) (inT m c) := by
  refine (final_7 m c).trans (funext fun i => ?_)
  idx_vars i
  exact (Cert.LossReferenceIdeal.Loss.v54_at (inX m c) (inG m c) (inW m c) (inN m c) (inT m c) i0 i1).symm

/-- The gradient with respect to the final norm's weights. -/
theorem eq_W : (Cert.LossKernelIdeal.Gen.dats m 0 c).arrAt 8 (Cert.LossKernelIdeal.cfgs 0).N
    = val_main_v56 (F := Ideal) (inX m c) (inG m c) (inW m c) (inN m c) (inT m c) := by
  refine (final_8 m c).trans (funext fun i => ?_)
  idx_vars i
  exact (Cert.LossReferenceIdeal.Loss.v56_at (inX m c) (inG m c) (inW m c) (inN m c) (inT m c) i0 i1).symm

/-- The loss. -/
theorem eq_L : (Cert.LossKernelIdeal.Gen.dats m 0 c).arrAt 9 (Cert.LossKernelIdeal.cfgs 0).N
    = val_main_v58 (F := Ideal) (inX m c) (inG m c) (inW m c) (inN m c) (inT m c) := by
  refine (final_9 m c).trans (funext fun i => ?_)
  idx_vars i
  exact (Cert.LossReferenceIdeal.Loss.v58_at (inX m c) (inG m c) (inW m c) (inN m c) (inT m c) i0 i1).symm

set_option maxHeartbeats 1600000 in
/-- The pair's claim. -/
theorem algebraic : algebraic_LossKernelIdeal_LossReferenceIdeal := by
  intro m g m' g' hpre hargs
  refine ⟨fun c => val_main_v53 (F := Ideal) (inX m c) (inG m c) (inW m c) (inN m c) (inT m c),
    fun c => val_main_v55 (F := Ideal) (inX m c) (inG m c) (inW m c) (inN m c) (inT m c),
    fun c => val_main_v54 (F := Ideal) (inX m c) (inG m c) (inW m c) (inN m c) (inT m c),
    fun c => val_main_v56 (F := Ideal) (inX m c) (inG m c) (inW m c) (inN m c) (inT m c),
    fun c => val_main_v58 (F := Ideal) (inX m c) (inG m c) (inW m c) (inN m c) (inT m c), ?_, ?_⟩
  · refine (θ_run _ _ _).mono (fun r h c => ?_) (Cert.LossKernelIdeal.Value.run_blocks m g)
    obtain ⟨h5, h6, h7, h8, h9, a⟩ := h c
    exact ⟨h5.trans (eq_D m c), h6.trans (eq_C m c), h7.trans (eq_M m c), h8.trans (eq_W m c), h9.trans (eq_L m c), a⟩
  · refine (θ_run _ _ _).mono (fun r h c => ?_) (Cert.LossReferenceIdeal.Value.run m' g')
    obtain ⟨h5, h6, h7, h8, h9, a⟩ := h c
    obtain ⟨e0, e1, e2, e3, e4⟩ := hargs c
    rw [val_main_v53_eq, e0, e1, e2, e3, e4] at h5
    rw [val_main_v55_eq, e0, e1, e2, e3, e4] at h6
    rw [val_main_v54_eq, e0, e1, e2, e3, e4] at h7
    rw [val_main_v56_eq, e0, e1, e2, e3, e4] at h8
    rw [val_main_v58_eq, e0, e1, e2, e3, e4] at h9
    exact ⟨h5, h6, h7, h8, h9, a⟩

end Cert.LossPair

end
-- ==== Proof.InputKit.lean ====
module

public import proofs.«01_k».proof.Proof.Gen.InputKernelIdeal.Frame
public import proofs.«01_k».proof.Proof.Gen.InputKernelIdeal.Skeleton

/-!
The input projection's backward call: what its run is stated over.
-/

@[expose] public section

set_option maxRecDepth 16384

noncomputable section

namespace Cert.InputKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InputKernelIdeal Cert.InputKernelIdeal.Gen

/-- What a run of the call holds. -/
abbrev Res {F : FTy → Type} := MT nD τ sig Unit (Elt F) ℕ (Pipeline.UD sig nD τ) ℕ

variable {F : FTy → Type} [FloatOps F]

variable (m : (ℓ : Loc nD τ sig) → Buf (Elt F) ℓ) (ρ : Dev nD → PrngReg)
set_option maxHeartbeats 800000 in
/-- The host's operations up to the call, on any memory. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- At every point the cotangent's buffer holds its block, whichever proof data has the arrays and leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the residual stream's buffer. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of the norm weights' buffer. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of the output gradient's buffer. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From a run that leaves the arrays as the proof data says to the arguments unchanged. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 1).trans (((dats 0 c).arrAt_in 1 rfl _).trans ((hA c 1).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c)))⟩) h

/-! ## The branch -/

/-- The branch that starts and awaits the copies of the matrix and clears the accumulator. -/
abbrev cond0_0 (i : grid0.Coords) : Prop := (Scalar.cmpi .ne (Scalar.extui (Scalar.cmpi .eq (BitVec.ofNat 32 (i 0).val) 0#32)) 0#32) = 1#1
/-- It is taken at the first point only. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The buffers -/

/-- A buffer of the first result through which its contents are stated. -/
abbrev VO0_4 : View sig .tc .vmem S512x1024 .f32 := (Memref.whole cc0_stg4_0 : Memref sig .tc .vmem S512x1024 .f32).view
/-- A buffer of the second result through which its contents are stated. -/
abbrev VO0_5 : View sig .tc .vmem S1x1024 .f32 := (Memref.whole cc0_stg5_0 : Memref sig .tc .vmem S1x1024 .f32).view
/-- The buffers the body is handed at a point, and that each is whole. -/
abbrev ms0_0 (t : Fin cfg0.N) : Memref sig .tc .vmem S512x8448 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The scratch that holds the matrix. -/
abbrev scM0_0 : Memref sig .tc .vmem S8448x1024 .bf16 := Memref.whole cc0_scratch0
/-- The same as a view. -/
abbrev VS0_0 : View sig .tc .vmem S8448x1024 .bf16 := scM0_0.view
/-- The two arrays the body is handed where they lie: the matrix and the token. -/
abbrev hbM0_0 : Memref sig .tc .hbm S8448x1024 .bf16 := Memref.whole main_v19
abbrev hbM0_1 : Memref sig .tc .hbm S8x128 .f32 := Memref.whole main_v41
/-- An array's contents on a core, and the array held whole at given contents. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (Res (F := F)) :=
  M.view.loc (c : Thread nD τ) ↦{fullShare} f

/-- The seven copies' semaphores. -/
abbrev osem0 : Fin 7 → SemLoc sig := fun j => (![SemLoc.dma 10, SemLoc.dma 11, SemLoc.dma 12, SemLoc.dma 13, SemLoc.dma 14, SemLoc.dma 15, SemLoc.dma 16] : Fin 7 → SemLoc sig) j
theorem ownSemFacts0 : Pipeline.OwnSemFacts spec0 osem0 := by decide
/-- All of them at zero, one by one. -/
theorem ownSems00_eq (c : Dev nD) :
    (Pipeline.ownSems0 (Ix := Unit) (Name := ℕ) (U := Pipeline.UD sig nD τ) (Lvl := ℕ) (Val := Elt F) (τ := τ) osem0 c : sProp (Res (F := F)))
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6] (by decide) (by decide)]; rfl
/-- The two arrays as buffers no window is over. -/
def H0 : Finset (Ref sig .tc) := {main_v19, main_v41}
theorem H0_sub : H0 ⊆ Pipeline.restRefs sig spec0 := by decide
/-- Both held at their contents when the call starts. -/
theorem hbmPts0_eq (c : Dev nD) :
    (bigSep H0 (fun b => ((c : Thread nD τ).loc b) ↦{fullShare} V m c b) : sProp (Res (F := F))) = iprop(hbPt0 c hbM0_0 (V m c main_v19) ∗ hbPt0 c hbM0_1 (V m c main_v41)) := by
  rw [BI.bigSep_eq_bigSepL_of_eq [main_v19, main_v41] (by decide) (by decide)]; rfl

/-- What the body finds beside the windows: the scratch, the register, the semaphores at zero, the two arrays. -/
theorem PhiD0_eq (c : Dev nD) :
    (Pipeline.ΦD osem0 spec0 H0 (V m) c : sProp (Res (F := F)))
      = iprop(iprop((∃ d, owns (c : Thread nD τ) scM0_0 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v19) ∗ hbPt0 c hbM0_1 (V m c main_v41))) := by
  rw [Pipeline.ΦD_eq, scopedRest0_eq, ownSems00_eq, hbmPts0_eq]; simp only [scM0_0, owns_whole]; try rfl

end Cert.InputKernelIdeal.Own

end
-- ==== Proof.InputRunA.lean ====
module

public import proofs.«01_k».proof.Proof.InputKit

/-!
The run of the body at the grid's first point.
-/

@[expose] public section

set_option maxRecDepth 16384

noncomputable section

namespace Cert.InputKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InputKernelIdeal Cert.InputKernelIdeal.Gen

variable {F : FTy → Type} [FloatOps F]

variable (m : (ℓ : Loc nD τ sig) → Buf (Elt F) ℓ) (ρ : Dev nD → PrngReg)

set_option maxHeartbeats 4000000 in
set_option sl_exec.dmaWindow true in
set_option sl_exec.dmaWindowSet true in
set_option sl_exec.dmaWindowLent true in
/-- What the body writes at the first point, as lists of pieces, with the proof that it runs: the seven copies started at once and awaited one by one before the product that needs them. -/
noncomputable def kernelRun0_A (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) :
    Σ' (L4 : List (View.Piece (Elt F) S512x1024 .f32)), Σ' (L5 : List (View.Piece (Elt F) S1x1024 .f32)), { LS0 : List (View.Piece (Elt F) S8448x1024 .bf16) //
      ∀ (W : Waits sig Unit) (K : PUnit → sProp (Res (F := F))),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_input_grad i arg1 harg1 (Memref.whole main_v19) (Memref.isWhole_whole _) arg3 harg3 arg4 harg4 arg5 harg5 (Memref.whole main_v41) (Memref.isWhole_whole _) arg7 harg7 arg8 harg8 arg9 harg9 cc0_scratch1) K } := by
  refine ⟨?_, ?_, ?_, fun W K => ?run⟩
  case run =>
    simp only [cc0_input_grad_eq_skeleton]; unfold cc0_input_grad_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hq1, Hq2, Hq3, Hq4, Hq5, Hq6, Hh0, Hh1, HW, Hk⟩
    obtain rfl := harg1.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hh0]; · iexact Hh0
    isplitl [Hh1]; · iexact Hh1
    iexists _; iexact HW

end Cert.InputKernelIdeal.Own

end
-- ==== Proof.InputRunB.lean ====
module

public import proofs.«01_k».proof.Proof.InputRunA

/-!
The run of the body at a later point.
-/

@[expose] public section

set_option maxRecDepth 16384

noncomputable section

namespace Cert.InputKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InputKernelIdeal Cert.InputKernelIdeal.Gen

variable {F : FTy → Type} [FloatOps F]

variable (m : (ℓ : Loc nD τ sig) → Buf (Elt F) ℓ) (ρ : Dev nD → PrngReg)

set_option maxHeartbeats 1000000 in
/-- What the body writes at a later point, as lists of pieces, with the proof that it runs on the scratch the first point filled. -/
noncomputable def kernelRun0_B (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) :
    Σ' (L4 : List (View.Piece (Elt F) S512x1024 .f32)), Σ' (L5 : List (View.Piece (Elt F) S1x1024 .f32)), { LS0 : List (View.Piece (Elt F) S8448x1024 .bf16) //
      ∀ (W : Waits sig Unit) (K : PUnit → sProp (Res (F := F))),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ owns (c : Thread nD τ) arg8 fullShare xo5 ∗ owns (c : Thread nD τ) arg9 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ owns (c : Thread nD τ) arg9 fullShare xs0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_input_grad i arg1 harg1 (Memref.whole main_v19) (Memref.isWhole_whole _) arg3 harg3 arg4 harg4 arg5 harg5 (Memref.whole main_v41) (Memref.isWhole_whole _) arg7 harg7 arg8 harg8 arg9 harg9 cc0_scratch1) K } := by
  refine ⟨?_, ?_, [], fun W K => ?run⟩
  case run =>
    simp only [cc0_input_grad_eq_skeleton]; unfold cc0_input_grad_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hq0, Hq1, Hq2, Hq3, Hq4, Hq5, Hq6, Hh0, Hh1, HW, Hk⟩
    obtain rfl := harg1.eq_unread hf0; obtain rfl := harg3.eq_unread hf1; obtain rfl := harg4.eq_unread hf2; obtain rfl := harg5.eq_unread hf3; obtain rfl := harg8.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; isplitr; · ipureintro; exact harg9.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hh0]; · iexact Hh0
    isplitl [Hh1]; · iexact Hh1
    iexists _; iexact HW

end Cert.InputKernelIdeal.Own

end
-- ==== Proof.InputFrame.lean ====
module

public import proofs.«01_k».proof.Proof.InputRunB
public import Idealize.ShloMosaic.Lib.Claim

/-!
The frame.
-/

@[expose] public section

set_option maxRecDepth 16384

noncomputable section

namespace Cert.InputKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InputKernelIdeal Cert.InputKernelIdeal.Gen

variable {F : FTy → Type} [FloatOps F]

variable (m : (ℓ : Loc nD τ sig) → Buf (Elt F) ℓ) (ρ : Dev nD → PrngReg)
/-- At the first point the pieces of the first result cover its block. -/
theorem cover0_A_4 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) (y : S512x1024.Idx) :
    ∃ pc ∈ (kernelRun0_A c i arg1 harg1 arg3 harg3 arg4 harg4 arg5 harg5 arg7 harg7 arg8 harg8 arg9 harg9 hc0 x0 x1 x2 x3 fh0 fh1).1, y ∈ pc.1.set :=
  View.cover_of_tiledL (kernelRun0_A c i arg1 harg1 arg3 harg3 arg4 harg4 arg5 harg5 arg7 harg7 arg8 harg8 arg9 harg9 hc0 x0 x1 x2 x3 fh0 fh1).1 S512x1024.size (by sl_kernel_rfl) y

/-- What the first point leaves in the first result's buffer. -/
def out0_A_4 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) : Vec F S512x1024 .f32 :=
  VO0_4.read (Elt F) (VO0_4.writes (Elt F) VO0_4.junk (kernelRun0_A c i arg1 harg1 arg3 harg3 arg4 harg4 arg5 harg5 arg7 harg7 arg8 harg8 arg9 harg9 hc0 x0 x1 x2 x3 fh0 fh1).1)

/-- At the first point the pieces of the second result cover its block. -/
theorem cover0_A_5 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) (y : S1x1024.Idx) :
    ∃ pc ∈ (kernelRun0_A c i arg1 harg1 arg3 harg3 arg4 harg4 arg5 harg5 arg7 harg7 arg8 harg8 arg9 harg9 hc0 x0 x1 x2 x3 fh0 fh1).2.1, y ∈ pc.1.set :=
  View.cover_of_tiledL (kernelRun0_A c i arg1 harg1 arg3 harg3 arg4 harg4 arg5 harg5 arg7 harg7 arg8 harg8 arg9 harg9 hc0 x0 x1 x2 x3 fh0 fh1).2.1 S1x1024.size (by sl_kernel_rfl) y

/-- What the first point leaves in the second result's buffer. -/
def out0_A_5 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) : Vec F S1x1024 .f32 :=
  VO0_5.read (Elt F) (VO0_5.writes (Elt F) VO0_5.junk (kernelRun0_A c i arg1 harg1 arg3 harg3 arg4 harg4 arg5 harg5 arg7 harg7 arg8 harg8 arg9 harg9 hc0 x0 x1 x2 x3 fh0 fh1).2.1)

/-- The seven copies cover the scratch. -/
theorem scover0_A_0 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) (y : S8448x1024.Idx) :
    ∃ pc ∈ (kernelRun0_A c i arg1 harg1 arg3 harg3 arg4 harg4 arg5 harg5 arg7 harg7 arg8 harg8 arg9 harg9 hc0 x0 x1 x2 x3 fh0 fh1).2.2.1, y ∈ pc.1.set :=
  View.cover_of_tiledBy (kernelRun0_A c i arg1 harg1 arg3 harg3 arg4 harg4 arg5 harg5 arg7 harg7 arg8 harg8 arg9 harg9 hc0 x0 x1 x2 x3 fh0 fh1).2.2.1 ![256, 1024] (by sl_kernel_rfl) y

/-- What the first point leaves in the scratch. -/
def sout0_A_0 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : cond0_0 i)
    (x0 : Vec F S512x8448 .bf16) (x1 : Vec F S512x1024 .f32) (x2 : Vec F S1x1024 .f32) (x3 : Vec F S512x1024 .f32) (fh0 : HbBuf0 (F := F) c hbM0_0) (fh1 : HbBuf0 (F := F) c hbM0_1) : Vec F S8448x1024 .bf16 :=
  VS0_0.read (Elt F) (VS0_0.writes (Elt F) VS0_0.junk (kernelRun0_A c i arg1 harg1 arg3 harg3 arg4 harg4 arg5 harg5 arg7 harg7 arg8 harg8 arg9 harg9 hc0 x0 x1 x2 x3 fh0 fh1).2.2.1)

/-- At a later point the pieces of the first result cover its block. -/
theorem cover0_B_4 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) (y : S512x1024.Idx) :
    ∃ pc ∈ (kernelRun0_B c i arg1 harg1 arg3 harg3 arg4 harg4 arg5 harg5 arg7 harg7 arg8 harg8 arg9 harg9 hc0 x0 x1 x2 x3 xo5 xs0 fh0 fh1).1, y ∈ pc.1.set :=
  View.cover_of_tiledL (kernelRun0_B c i arg1 harg1 arg3 harg3 arg4 harg4 arg5 harg5 arg7 harg7 arg8 harg8 arg9 harg9 hc0 x0 x1 x2 x3 xo5 xs0 fh0 fh1).1 S512x1024.size (by sl_kernel_rfl) y

/-- What a later point leaves in the first result's buffer. -/
def out0_B_4 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) : Vec F S512x1024 .f32 :=
  VO0_4.read (Elt F) (VO0_4.writes (Elt F) VO0_4.junk (kernelRun0_B c i arg1 harg1 arg3 harg3 arg4 harg4 arg5 harg5 arg7 harg7 arg8 harg8 arg9 harg9 hc0 x0 x1 x2 x3 xo5 xs0 fh0 fh1).1)

/-- At a later point the pieces of the second result cover its block. -/
theorem cover0_B_5 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) (y : S1x1024.Idx) :
    ∃ pc ∈ (kernelRun0_B c i arg1 harg1 arg3 harg3 arg4 harg4 arg5 harg5 arg7 harg7 arg8 harg8 arg9 harg9 hc0 x0 x1 x2 x3 xo5 xs0 fh0 fh1).2.1, y ∈ pc.1.set :=
  View.cover_of_tiledL (kernelRun0_B c i arg1 harg1 arg3 harg3 arg4 harg4 arg5 harg5 arg7 harg7 arg8 harg8 arg9 harg9 hc0 x0 x1 x2 x3 xo5 xs0 fh0 fh1).2.1 S1x1024.size (by sl_kernel_rfl) y

/-- What a later point leaves in the second result's buffer. -/
def out0_B_5 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) : Vec F S1x1024 .f32 :=
  VO0_5.read (Elt F) (VO0_5.writes (Elt F) VO0_5.junk (kernelRun0_B c i arg1 harg1 arg3 harg3 arg4 harg4 arg5 harg5 arg7 harg7 arg8 harg8 arg9 harg9 hc0 x0 x1 x2 x3 xo5 xs0 fh0 fh1).2.1)

/-- A later point leaves the scratch as it was. -/
def sout0_B_0 (c : Dev nD) (i : grid0.Coords) (arg1 : Memref sig .tc .vmem S512x8448 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S1x1024 .f32) (harg8 : arg8.IsWhole) (arg9 : Memref sig .tc .vmem S8448x1024 .bf16) (harg9 : arg9.IsWhole) (hc0 : ¬cond0_0 i)
    (x0 : Vec F S512x8448 .bf16) (x1 : Vec F S512x1024 .f32) (x2 : Vec F S1x1024 .f32) (x3 : Vec F S512x1024 .f32) (xo5 : Vec F S1x1024 .f32) (xs0 : Vec F S8448x1024 .bf16) (fh0 : HbBuf0 (F := F) c hbM0_0) (fh1 : HbBuf0 (F := F) c hbM0_1) : Vec F S8448x1024 .bf16 := xs0

/-! ## What the outputs hold after each point -/

/-- What the two results' buffers and the scratch hold after each point. -/
def outsAt0 (c : Dev nD) : (n : ℕ) → n < cfg0.N → Vec F S512x1024 .f32 × Vec F S1x1024 .f32 × Vec F S8448x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v19) (V m c main_v41), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v19) (V m c main_v41), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v19) (V m c main_v41))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v19) (V m c main_v41), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v19) (V m c main_v41), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v19) (V m c main_v41))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v19) (V m c main_v41), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v19) (V m c main_v41), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2 (V m c main_v19) (V m c main_v41))

/-- The same at the first point. -/
theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v19) (V m c main_v41), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v19) (V m c main_v41), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (V m c main_v19) (V m c main_v41)) := by
  obtain ⟨n, hn⟩ := t
  cases n with
  | zero => exact rfl
  | succ n => exact (dif_pos h0).trans rfl

/-- The same at a later point, over what the point before left. -/
theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v19) (V m c main_v41), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v19) (V m c main_v41), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (V m c main_v19) (V m c main_v41)) := by
  obtain ⟨n, hn⟩ := t
  cases n with
  | zero => exact (by exfalso; (try dsimp only at h0); exact absurd (Nat.zero_mod _) h0)
  | succ n => exact (dif_neg h0).trans rfl

/-- What holds beside the windows before each point: at the start anything in the scratch, then what the point before left there. -/
def PhiS (c : Dev nD) : (n : ℕ) → n ≤ cfg0.N → sProp (Res (F := F))
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v19) ∗ hbPt0 c hbM0_1 (V m c main_v41)))

theorem PhiS_zero (c : Dev nD) (n : ℕ) (h : n ≤ cfg0.N) (hz : n = 0) : PhiS m c n h = Pipeline.ΦD osem0 spec0 H0 (V m) c := by
  subst hz; rfl

/-- The same after a point. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v19) ∗ hbPt0 c hbM0_1 (V m c main_v41))) := rfl

/-- The same before a later point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v19) ∗ hbPt0 c hbM0_1 (V m c main_v41))) := by
  cases n with
  | zero => exact absurd rfl hz
  | succ n => rfl

/-! ## The proof data -/

/-- The proof data: the arrays at the start, each buffer after each point, what holds beside the windows. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- Its arrays are those the host laid out. -/
theorem A_eq (c : Dev nD) (w : Fin cfg0.W) : (dats m 0 c).A w = V m c (Pipeline.arrRef spec0 w) := by
  dsimp only [dats]

/-- What holds beside the windows when a point starts. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the second result's buffer holds what the point before left. -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.1 := by
  have hN : t.val < 4 := lt_of_lt_of_eq t.isLt (show cfg0.N = 4 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body at every point -/

/-- What the body is called with at a point, window by window. -/
def bodyPre (c : Dev nD) (t : Fin cfg0.N) : sProp (Res (F := F)) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp (Res (F := F)) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body runs at every point, by the run of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 4 := lt_of_lt_of_eq t.isLt (show cfg0.N = 4 from N_0)
  by_cases h0 : t.val % 4 = 0
  · by_cases hz : t.val = 0
    · rw [PhiS_castSucc m c t, PhiS_zero m c _ _ hz, PhiD0_eq]
      rw [outsAt0_A m c t h0]
      unfold out0_A_4 out0_A_5 sout0_A_0; (try dsimp only)
      iintro ⟨⟨HS0, Hg, ⟨Hq0, Hq1, Hq2, Hq3, Hq4, Hq5, Hq6⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t) (V m c main_v19) (V m c main_v41)).2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hh0]; · iexact Hh0
      isplitl [Hh1]; · iexact Hh1
      isplitl [HW]; · iexact HW
      iintro ⟨H0, H1, H2, H3, ⟨%e4, H4⟩, ⟨%e5, H5⟩, ⟨%es0, HS0⟩, Hq0, Hq1, Hq2, Hq3, Hq4, Hq5, Hq6, Hh0, Hh1, ⟨%W', HW'⟩⟩
      isplitl [HS0 Hg Hq0 Hq1 Hq2 Hq3 Hq4 Hq5 Hq6 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        isplitl [Hg]
        · iexact Hg
        isplitl [Hq0 Hq1 Hq2 Hq3 Hq4 Hq5 Hq6]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          iexact Hq6
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      simp only [before0_5_B m c t h0]
      unfold out0_B_4 out0_B_5 sout0_B_0; (try dsimp only)
      iintro ⟨⟨HS0, Hg, ⟨Hq0, Hq1, Hq2, Hq3, Hq4, Hq5, Hq6⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _ _ (V m c main_v19) (V m c main_v41)).2.2.2 W _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hh0]; · iexact Hh0
      isplitl [Hh1]; · iexact Hh1
      isplitl [HW]; · iexact HW
      iintro ⟨H0, H1, H2, H3, ⟨%e4, H4⟩, ⟨%e5, H5⟩, HS0, Hq0, Hq1, Hq2, Hq3, Hq4, Hq5, Hq6, Hh0, Hh1, ⟨%W', HW'⟩⟩
      isplitl [HS0 Hg Hq0 Hq1 Hq2 Hq3 Hq4 Hq5 Hq6 Hh0 Hh1]
      · isplitl [HS0]
        · iexact HS0
        isplitl [Hg]
        · iexact Hg
        isplitl [Hq0 Hq1 Hq2 Hq3 Hq4 Hq5 Hq6]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          iexact Hq6
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _ _ _ _)

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- The same at every point, as the launch wants it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The start gives what holds before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- What holds after a point gives the start's form back. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6⟩, ⟨Hh0, Hh1⟩⟩
  isplitl [HS0]
  · iexists _; iexact HS0
  isplitl [Hg]; · iexact Hg
  isplitl [Hq0 Hq1 Hq2 Hq3 Hq4 Hq5 Hq6]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 4 := N_0; omega)

/-! ## The run and the frame -/

set_option backward.isDefEq.respectTransparency.types false in
/-- Every run ends, leaves the arrays as the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends and leaves the arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends, leaves the arguments and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InputKernelIdeal.Own

end
-- ==== Proof.InputFrameBits.lean ====
module

public import proofs.«01_k».proof.Proof.InputFrame
public import proofs.«01_k».proof.InputKernel
public import proofs.«01_k».proof.Proof.Gen.InputKernel.Launch

/-!
The frame of the call as it is compiled, from the one of the call without roundings: the two are one program.
-/

@[expose] public section

set_option maxRecDepth 100000

open Idealize.ShloMosaic

namespace Cert.InputKernel.Own

variable {F : FTy → Type} [FloatOps F]

/-- The two printings of the call bind its one label to the same body. -/
theorem defs₀_eq : Cert.InputKernel.defs₀ (F := F) = Cert.InputKernelIdeal.defs₀ := by
  refine congrArg Defs.onTc (funext fun l => funext fun a => ?_)
  match l, a with
  | ⟨0, _⟩, (t, s) => rfl
  | ⟨_ + 1, h⟩, _ => exact absurd h (Nat.not_lt.2 (Nat.le_add_left _ _))

/-- So the two tables of bodies are one. -/
theorem defs_eq : Cert.InputKernel.defs (F := F) = Cert.InputKernelIdeal.defs :=
  congrArg (Pipeline.defs Cert.InputKernelIdeal.pcfgs) defs₀_eq

/-- The two host programs are one. -/
theorem main_eq : Cert.InputKernel.main (F := F) = Cert.InputKernelIdeal.main := rfl

set_option maxHeartbeats 4000000 in
/-- Every run ends, leaves the arguments and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.InputKernelIdeal.Own.frame (F := F) m ρ
  rw [← defs_eq, ← main_eq] at h
  exact h

end Cert.InputKernel.Own
-- ==== Proof.InputForms.lean ====
module

public import proofs.«01_k».proof.Proof.RowNorm

/-!
The input projection and the norm in front of it, in the form the kernel computes their gradients, at one row: the row
`x` of the residual stream, the norm's weights `f`, the cotangent `p` of the projected row, the projection's matrix `W`
and the cotangent `d` that reaches the row past the block. The kernel holds the projection's 8208 columns in an order of
its own, padded with zeros to 8448.
-/

@[expose] public section

open Idealize.ShloMosaic
open scoped BigOperators

noncomputable section

namespace Input

variable (x : Fin 1024 → EReal) (f : Fin 1024 → EReal) (p : Fin 8208 → EReal) (W : Fin 1024 → Fin 8208 → EReal) (d : Fin 1024 → EReal)

/-- The cotangent of the normed row. -/
def dnorm (k : Fin 1024) : EReal := ∑ n, p n * W k n

/-- The gradient with respect to the row. -/
def grad (k : Fin 1024) : EReal := d k + RowNorm.back x (fun k => dnorm p W k * f k) k

/-- The row's part of the gradient with respect to the norm's weights. -/
def partW (k : Fin 1024) : EReal := dnorm p W k * (x k * RowNorm.rms x)

/-- The projection's column that stands in column `n` of the padded order. -/
def col (n : ℕ) : ℕ :=
  if n < 4096 then n
  else if n < 8192 then 4112 + 1024 * (n / 256 % 4) + ((n - 4096) / 1024 * 256 + n % 256)
  else n - 4096

theorem col_lt (n : ℕ) (h : n < 8208) : col n < 8208 := by
  unfold col
  split_ifs <;> omega

/-- A row in the padded order. -/
def padded (f : Fin 8208 → EReal) (n : Fin 8448) : EReal := if h : n.val < 8208 then f ⟨col n.val, col_lt n.val h⟩ else 0

/-- The column a number of blocks, a block's input and a place in it make. -/
theorem col_block (p q r : ℕ) (hp : p < 4) (hq : q < 4) (hr : r < 256) :
    col (4096 + 1024 * p + 256 * q + r) = 4112 + 1024 * q + 256 * p + r := by
  unfold col
  rw [if_neg (by omega), if_pos (by omega)]
  have e1 : (4096 + 1024 * p + 256 * q + r) / 256 % 4 = q := by omega
  have e2 : (4096 + 1024 * p + 256 * q + r - 4096) / 1024 = p := by omega
  have e3 : (4096 + 1024 * p + 256 * q + r) % 256 = r := by omega
  rw [e1, e2, e3]
  omega

theorem block_of (n : ℕ) (h : 4096 ≤ n ∧ n < 8192) : ∃ p q r : ℕ, p < 4 ∧ q < 4 ∧ r < 256 ∧ n = 4096 + 1024 * p + 256 * q + r :=
  ⟨(n - 4096) / 1024, n / 256 % 4, n % 256, by omega, by omega, by omega, by omega⟩

theorem col_low (n : ℕ) (h : n < 4096) : col n = n := if_pos h

theorem col_high (n : ℕ) (h : 8192 ≤ n) : col n = n - 4096 := by
  unfold col
  rw [if_neg (by omega), if_neg (by omega)]

theorem col_injective {a b : ℕ} (ha : a < 8208) (hb : b < 8208) (h : col a = col b) : a = b := by
  rcases (by omega : a < 4096 ∨ (4096 ≤ a ∧ a < 8192) ∨ 8192 ≤ a) with ca | ca | ca <;>
    rcases (by omega : b < 4096 ∨ (4096 ≤ b ∧ b < 8192) ∨ 8192 ≤ b) with cb | cb | cb
  · rw [col_low a ca, col_low b cb] at h; exact h
  · obtain ⟨p, q, r, hp, hq, hr, rfl⟩ := block_of b cb
    rw [col_low a ca, col_block p q r hp hq hr] at h; omega
  · rw [col_low a ca, col_high b cb] at h; omega
  · obtain ⟨p, q, r, hp, hq, hr, rfl⟩ := block_of a ca
    rw [col_low b cb, col_block p q r hp hq hr] at h; omega
  · obtain ⟨p, q, r, hp, hq, hr, rfl⟩ := block_of a ca
    obtain ⟨p', q', r', hp', hq', hr', rfl⟩ := block_of b cb
    rw [col_block p q r hp hq hr, col_block p' q' r' hp' hq' hr'] at h; omega
  · obtain ⟨p, q, r, hp, hq, hr, rfl⟩ := block_of a ca
    rw [col_high b cb, col_block p q r hp hq hr] at h; omega
  · rw [col_high a ca, col_low b cb] at h; omega
  · obtain ⟨p, q, r, hp, hq, hr, rfl⟩ := block_of b cb
    rw [col_high a ca, col_block p q r hp hq hr] at h; omega
  · rw [col_high a ca, col_high b cb] at h; omega

theorem col_bijective : Function.Bijective (fun n : Fin 8208 => (⟨col n.val, col_lt n.val n.isLt⟩ : Fin 8208)) :=
  Finite.injective_iff_bijective.mp fun a b h => Fin.ext (col_injective a.isLt b.isLt (congrArg Fin.val h))

/-- A product of two rows does not depend on the order of the columns, and the padding adds nothing. -/
theorem sum_padded (f g : Fin 8208 → EReal) : ∑ n, padded f n * padded g n = ∑ n, f n * g n := by
  rw [show ∑ n, padded f n * padded g n = _ from Fin.sum_univ_add (a := 8208) (b := 240) fun n => padded f n * padded g n]
  rw [Finset.sum_eq_zero (s := (Finset.univ : Finset (Fin 240))) fun n _ => ?_, add_zero]
  · refine Eq.trans (Finset.sum_congr rfl fun n _ => ?_) (col_bijective.sum_comp fun k => f k * g k)
    unfold padded
    rw [dif_pos (show (Fin.castAdd 240 n).val < 8208 from n.isLt), dif_pos (show (Fin.castAdd 240 n).val < 8208 from n.isLt)]
    rfl
  · unfold padded
    rw [dif_neg (show ¬ (Fin.natAdd 8208 n).val < 8208 from by show ¬ 8208 + n.val < 8208; omega), zero_mul]

/-- A sum over the padded columns, as the kernel adds its seven pieces. -/
theorem sum_pieces (s : Fin 8448 → EReal) : ∑ n, s n =
    (((((((∑ n : Fin 512, s ⟨0 + n.val, by omega⟩) + ∑ n : Fin 512, s ⟨512 + n.val, by omega⟩) + ∑ n : Fin 1024, s ⟨1024 + n.val, by omega⟩)
      + ∑ n : Fin 1024, s ⟨2048 + n.val, by omega⟩) + ∑ n : Fin 2048, s ⟨3072 + n.val, by omega⟩)
      + ∑ n : Fin 2048, s ⟨5120 + n.val, by omega⟩) + ∑ n : Fin 1280, s ⟨7168 + n.val, by omega⟩) := by
  rw [show ∑ n, s n = _ from Fin.sum_univ_add (a := 7168) (b := 1280) s]
  rw [Fin.sum_univ_add (a := 5120) (b := 2048), Fin.sum_univ_add (a := 3072) (b := 2048), Fin.sum_univ_add (a := 2048) (b := 1024),
    Fin.sum_univ_add (a := 1024) (b := 1024), Fin.sum_univ_add (a := 512) (b := 512)]
  simp only [Nat.zero_add]
  rfl

end Input

end
-- ==== Proof.InputPay.lean ====
module

public import proofs.«01_k».proof.Proof.Gen.InputKernelIdeal.Skeleton
public import proofs.«01_k».proof.Proof.InputForms
public import Idealize.ShloMosaic.Lib.Pipeline.ValueKit

/-!
What one grid point of the input projection's backward kernel computes from its blocks, read at an index.
-/

@[expose] public section

set_option maxRecDepth 16384

noncomputable section

open Idealize.ShloMosaic Idealize.ShloMosaic.TcCoe Idealize.SL.Sem
open scoped BigOperators

namespace Cert.InputKernelIdeal.Input

open Cert.InputKernelIdeal Cert.InputKernelIdeal.Gen

/-- The seven pieces' products add up to the product over all columns: `A` the cotangent's block, `B` the matrix. -/
theorem prod_at (A : Fin 8448 → EReal) (B : Fin 8448 → EReal) (r : Fin 512) (k : Fin 1024)
    (a0 a1 : FVec Ideal S512x512 .bf16) (a2 a3 : FVec Ideal S512x1024 .bf16) (a4 a5 : FVec Ideal S512x2048 .bf16) (a6 : FVec Ideal S512x1280 .bf16)
    (b0 b1 : FVec Ideal S512x1024 .bf16) (b2 b3 : FVec Ideal S1024x1024 .bf16) (b4 b5 : FVec Ideal S2048x1024 .bf16) (b6 : FVec Ideal S1280x1024 .bf16)
    (ha0 : ∀ n : Fin 512, a0 (ix2 r n) = A ⟨0 + n.val, by omega⟩) (hb0 : ∀ n : Fin 512, b0 (ix2 n k) = B ⟨0 + n.val, by omega⟩)
    (ha1 : ∀ n : Fin 512, a1 (ix2 r n) = A ⟨512 + n.val, by omega⟩) (hb1 : ∀ n : Fin 512, b1 (ix2 n k) = B ⟨512 + n.val, by omega⟩)
    (ha2 : ∀ n : Fin 1024, a2 (ix2 r n) = A ⟨1024 + n.val, by omega⟩) (hb2 : ∀ n : Fin 1024, b2 (ix2 n k) = B ⟨1024 + n.val, by omega⟩)
    (ha3 : ∀ n : Fin 1024, a3 (ix2 r n) = A ⟨2048 + n.val, by omega⟩) (hb3 : ∀ n : Fin 1024, b3 (ix2 n k) = B ⟨2048 + n.val, by omega⟩)
    (ha4 : ∀ n : Fin 2048, a4 (ix2 r n) = A ⟨3072 + n.val, by omega⟩) (hb4 : ∀ n : Fin 2048, b4 (ix2 n k) = B ⟨3072 + n.val, by omega⟩)
    (ha5 : ∀ n : Fin 2048, a5 (ix2 r n) = A ⟨5120 + n.val, by omega⟩) (hb5 : ∀ n : Fin 2048, b5 (ix2 n k) = B ⟨5120 + n.val, by omega⟩)
    (ha6 : ∀ n : Fin 1280, a6 (ix2 r n) = A ⟨7168 + n.val, by omega⟩) (hb6 : ∀ n : Fin 1280, b6 (ix2 n k) = B ⟨7168 + n.val, by omega⟩) :
    k0_pay7 (F := Ideal) (k0_pay6 a0 b0 a1 b1 a2 b2) a3 b3 a4 b4 a5 b5 a6 b6 (ix2 r k) = ∑ n, A n * B n := by
  pointwise [k0_pay7, k0_pay6]
  rw [_root_.Input.sum_pieces]
  simp only [ha0, ha1, ha2, ha3, ha4, ha5, ha6, hb0, hb1, hb2, hb3, hb4, hb5, hb6]

variable (h : FVec Ideal S512x1024 .f32) (x : FVec Ideal S512x1024 .f32) (f : FVec Ideal S1x1024 .f32) (d : FVec Ideal S512x1024 .f32)

/-- A row of a block; the norm's weights. -/
abbrev row (r : Fin 512) (k : Fin 1024) : EReal := x (ix2 r k)
abbrev vec (k : Fin 1024) : EReal := f (ix2 0 k)

theorem pay1_at (r : Fin 512) (u : Fin 1) : k0_pay1 (F := Ideal) x (ix2 r u) = RowNorm.rms (row x r) := by
  pointwise [k0_pay1, RowNorm.rms, RowNorm.ms]

theorem pay2_at (r : Fin 512) (k : Fin 1024) : k0_pay2 (F := Ideal) x (ix2 r k) = x (ix2 r k) * RowNorm.rms (row x r) := by
  pointwise [k0_pay2, pay1_at]

/-- A tile's part of the gradient with respect to the norm's weights, added to what the tiles before left. -/
theorem pay3_at (v : FVec Ideal S1x1024 .f32) (u : Fin 1) (k : Fin 1024) :
    k0_pay3 (F := Ideal) h x v (ix2 u k) = v (ix2 u k) + ∑ r : Fin 512, h (ix2 r k) * (x (ix2 r k) * RowNorm.rms (row x r)) := by
  pointwise [k0_pay3, pay2_at]

/-- The gradient with respect to the residual stream. -/
theorem pay4_at (r : Fin 512) (k : Fin 1024) :
    k0_pay4 (F := Ideal) h x f d (ix2 r k) = d (ix2 r k) + RowNorm.back (row x r) (fun k => h (ix2 r k) * vec f k) k := by
  pointwise [k0_pay4, pay1_at, pay2_at, RowNorm.back]

end Cert.InputKernelIdeal.Input

end
-- ==== Proof.InputArrays.lean ====
module

public import proofs.«01_k».proof.Proof.InputFrame
public import proofs.«01_k».proof.Proof.InputPay
public import Idealize.ShloMosaic.Lib.Pipeline.ValueKit

/-!
The arrays the host lays out for the input projection's backward kernel: the matrix and the cotangent in the padded order
of the projection's columns.
-/

@[expose] public section

set_option maxRecDepth 16384

noncomputable section

open Idealize.ShloMosaic Idealize.ShloMosaic.TcCoe Idealize.SL.Sem
open Idealize.ShloMosaic.Pipeline (Dat)
open scoped BigOperators

namespace Cert.InputKernelIdeal.Input

open Cert.InputKernelIdeal Cert.InputKernelIdeal.Gen
open _root_.Input (padded col)

variable (m : (ℓ : Loc nD τ sig) → Buf (Elt Ideal) ℓ) (c : Dev nD)

/-- The five arguments. -/
abbrev inX : FVec Ideal S2048x1024 .f32 := m ((c.tc : Thread nD τ).loc main_arg0)
abbrev inN : FVec Ideal S1x1024 .f32 := m ((c.tc : Thread nD τ).loc main_arg1)
abbrev inW : FVec Ideal S1024x8208 .f32 := m ((c.tc : Thread nD τ).loc main_arg2)
abbrev inP : FVec Ideal S2048x8208 .f32 := m ((c.tc : Thread nD τ).loc main_arg3)
abbrev inD : FVec Ideal S2048x1024 .f32 := m ((c.tc : Thread nD τ).loc main_arg4)

set_option maxRecDepth 200000 in
set_option maxHeartbeats 4000000 in
/-- A row of the matrix as the host lays it out. -/
theorem matrix_at (n : Fin 8448) (k : Fin 1024) : V m c main_v19 (ix2 n k) = padded (fun j => inW m c (ix2 k j)) n := by
  generalize hr : padded _ _ = rhs
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  subst hr
  rcases (by omega : n.val < 4096 ∨ (4096 ≤ n.val ∧ n.val < 8192) ∨ (8192 ≤ n.val ∧ n.val < 8208) ∨ 8208 ≤ n.val) with h | h | h | h
  · rw [dif_pos (by omega)]
    after_results_simp; pointwise
    unfold padded
    rw [dif_pos (by omega)]
    simp only [_root_.Input.col_low n.val h]
  · rw [dif_neg (by omega), dif_pos (by omega)]
    after_results_simp; pointwise
    have e : col n.val = 4112 + 1024 * (n.val / 256 % 4) + ((n.val - 4096) / 1024 * 256 + n.val % 256) := by
      unfold col; rw [if_neg (by omega), if_pos (by omega)]
    unfold padded
    rw [dif_pos (show n.val < 8208 by omega)]
    have hg : n.val / 256 % 4 = 0 ∨ n.val / 256 % 4 = 1 ∨ n.val / 256 % 4 = 2 ∨ n.val / 256 % 4 = 3 := by omega
    rcases hg with hg | hg | hg | hg
    · rw [dif_pos (by omega)]
      after_results_simp; pointwise
      exact congrArg (fun j => inW m c (ix2 k j)) (Fin.ext (by dsimp only; omega))
    · rw [dif_neg (by omega), dif_pos (by omega)]
      after_results_simp; pointwise
      exact congrArg (fun j => inW m c (ix2 k j)) (Fin.ext (by dsimp only; omega))
    · rw [dif_neg (by omega), dif_neg (by omega), dif_pos (by omega)]
      after_results_simp; pointwise
      exact congrArg (fun j => inW m c (ix2 k j)) (Fin.ext (by dsimp only; omega))
    · rw [dif_neg (by omega), dif_neg (by omega), dif_neg (by omega)]
      after_results_simp; pointwise
      exact congrArg (fun j => inW m c (ix2 k j)) (Fin.ext (by dsimp only; omega))
  · rw [dif_neg (by omega), dif_neg (by omega), dif_pos (by omega)]
    after_results_simp; pointwise
    unfold padded
    rw [dif_pos (by omega)]
    simp only [_root_.Input.col_high n.val h.1]
    exact congrArg (fun j => inW m c (ix2 k j)) (Fin.ext (by dsimp only; omega))
  · rw [dif_neg (by omega), dif_neg (by omega), dif_neg (by omega)]
    after_results_simp; pointwise
    unfold padded
    rw [dif_neg (by omega)]

set_option maxRecDepth 200000 in
set_option maxHeartbeats 4000000 in
/-- A row of the projection's cotangent as the host lays it out. -/
theorem cotangent_at (r : Fin 2048) (n : Fin 8448) : V m c main_v40 (ix2 r n) = padded (fun j => inP m c (ix2 r j)) n := by
  generalize hr : padded _ _ = rhs
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  subst hr
  rcases (by omega : n.val < 4096 ∨ (4096 ≤ n.val ∧ n.val < 8192) ∨ (8192 ≤ n.val ∧ n.val < 8208) ∨ 8208 ≤ n.val) with h | h | h | h
  · rw [dif_pos (by omega)]
    after_results_simp; pointwise
    unfold padded
    rw [dif_pos (by omega)]
    simp only [_root_.Input.col_low n.val h]
  · rw [dif_neg (by omega), dif_pos (by omega)]
    after_results_simp; pointwise
    have e : col n.val = 4112 + 1024 * (n.val / 256 % 4) + ((n.val - 4096) / 1024 * 256 + n.val % 256) := by
      unfold col; rw [if_neg (by omega), if_pos (by omega)]
    unfold padded
    rw [dif_pos (show n.val < 8208 by omega)]
    have hg : n.val / 256 % 4 = 0 ∨ n.val / 256 % 4 = 1 ∨ n.val / 256 % 4 = 2 ∨ n.val / 256 % 4 = 3 := by omega
    rcases hg with hg | hg | hg | hg
    · rw [dif_pos (by omega)]
      after_results_simp; pointwise
      exact congrArg (fun j => inP m c (ix2 r j)) (Fin.ext (by dsimp only; omega))
    · rw [dif_neg (by omega), dif_pos (by omega)]
      after_results_simp; pointwise
      exact congrArg (fun j => inP m c (ix2 r j)) (Fin.ext (by dsimp only; omega))
    · rw [dif_neg (by omega), dif_neg (by omega), dif_pos (by omega)]
      after_results_simp; pointwise
      exact congrArg (fun j => inP m c (ix2 r j)) (Fin.ext (by dsimp only; omega))
    · rw [dif_neg (by omega), dif_neg (by omega), dif_neg (by omega)]
      after_results_simp; pointwise
      exact congrArg (fun j => inP m c (ix2 r j)) (Fin.ext (by dsimp only; omega))
  · rw [dif_neg (by omega), dif_neg (by omega), dif_pos (by omega)]
    after_results_simp; pointwise
    unfold padded
    rw [dif_pos (by omega)]
    simp only [_root_.Input.col_high n.val h.1]
    exact congrArg (fun j => inP m c (ix2 r j)) (Fin.ext (by dsimp only; omega))
  · rw [dif_neg (by omega), dif_neg (by omega), dif_neg (by omega)]
    after_results_simp; pointwise
    unfold padded
    rw [dif_neg (by omega)]

/-- Where each window's block stands at a point of the grid. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![0, 0] :=
  (by decide +kernel : ∀ t : Fin grid0.N, _)

/-- The four blocks at a point. -/
abbrev bP (t : Fin cfg0.N) : FVec Ideal S512x8448 .bf16 := iblk m c 0 t
abbrev bX (t : Fin cfg0.N) : FVec Ideal S512x1024 .f32 := iblk m c 1 t
abbrev bN (t : Fin cfg0.N) : FVec Ideal S1x1024 .f32 := iblk m c 2 t
abbrev bD (t : Fin cfg0.N) : FVec Ideal S512x1024 .f32 := iblk m c 3 t

theorem row_lt (t : Fin cfg0.N) (r : Fin 512) : 512 * t.val + r.val < 2048 := by
  have := lt_of_lt_of_eq t.isLt N_0; omega

theorem bP_at (t : Fin cfg0.N) (r : Fin 512) (n : Fin 8448) :
    bP m c t (ix2 r n) = padded (fun j => inP m c (ix2 ⟨512 * t.val + r.val, row_lt t r⟩ j)) n := by
  refine Eq.trans ?_ (cotangent_at m c ⟨512 * t.val + r.val, row_lt t r⟩ n)
  blk_point [bP, iblk, idx t]

theorem bX_at (t : Fin cfg0.N) (r : Fin 512) (k : Fin 1024) : bX m c t (ix2 r k) = inX m c (ix2 ⟨512 * t.val + r.val, row_lt t r⟩ k) := by
  blk_point [bX, iblk, idx t]

theorem bN_at (t : Fin cfg0.N) (k : Fin 1024) : bN m c t (ix2 0 k) = inN m c (ix2 0 k) := by
  blk_point [bN, iblk, idx t]

theorem bD_at (t : Fin cfg0.N) (r : Fin 512) (k : Fin 1024) : bD m c t (ix2 r k) = inD m c (ix2 ⟨512 * t.val + r.val, row_lt t r⟩ k) := by
  blk_point [bD, iblk, idx t]

end Cert.InputKernelIdeal.Input

end
-- ==== Proof.InputResults.lean ====
module

public import proofs.«01_k».proof.Proof.Idx2
public import proofs.«01_k».proof.Proof.InputArrays

/-!
The results of the input projection's backward kernel after its run.
-/

@[expose] public section

set_option maxRecDepth 16384

noncomputable section

open Idealize.ShloMosaic Idealize.ShloMosaic.TcCoe Idealize.SL.Sem
open Idealize.ShloMosaic.Pipeline (Dat)
open scoped BigOperators

namespace Cert.InputKernelIdeal.Input

open Cert.InputKernelIdeal Cert.InputKernelIdeal.Gen Cert.InputKernelIdeal.Own
open Idx2 (emb_eq)
open _root_.Input (padded)

variable (m : (ℓ : Loc nD τ sig) → Buf (Elt Ideal) ℓ) (c : Dev nD)

/-- A load through the rectangle of one of the writes reads the function all the writes agree with. -/
theorem load_of_mem {sig : RefSig} {κ : Kind} {sp : Space} {s : Shape} {e : EltTy} (v : View sig κ sp s e)
    (L : List (View.Piece (Elt Ideal) s e)) (G : s.Idx → Elt Ideal e) (hG : ∀ p ∈ L, ∀ x : p.1.shape.Idx, p.2 x = G (p.1.emb x)) (r : Rect s)
    (hr : ∃ p ∈ L, p.1 = r) (x : r.shape.Idx) : v.readCov L r.toLoadRect x = G (r.emb x) := by
  obtain ⟨p, hp, rfl⟩ := hr
  exact View.read_writes_apply_of_pieces v v.junk G L hG (p.1.emb x) ⟨p, hp, p.1.idx_mem x⟩

/-- The matrix and the cotangent of a row, as the sums read them. -/
abbrev matrix (k : Fin 1024) (n : Fin 8208) : EReal := inW m c (ix2 k n)
abbrev cotangent (u : Fin 2048) (n : Fin 8208) : EReal := inP m c (ix2 u n)
abbrev stream (u : Fin 2048) (k : Fin 1024) : EReal := inX m c (ix2 u k)
abbrev weights (k : Fin 1024) : EReal := inN m c (ix2 0 k)

/-- The product's seven pieces at a point, the matrix's pieces read from wherever it was copied. -/
theorem product_at (t : Fin cfg0.N)
    (b0 b1 : FVec Ideal S512x1024 .bf16) (b2 b3 : FVec Ideal S1024x1024 .bf16) (b4 b5 : FVec Ideal S2048x1024 .bf16) (b6 : FVec Ideal S1280x1024 .bf16)
    (hb0 : ∀ (n : Fin 512) k, b0 (ix2 n k) = V m c main_v19 (ix2 ⟨0 + n.val, by omega⟩ k))
    (hb1 : ∀ (n : Fin 512) k, b1 (ix2 n k) = V m c main_v19 (ix2 ⟨512 + n.val, by omega⟩ k))
    (hb2 : ∀ (n : Fin 1024) k, b2 (ix2 n k) = V m c main_v19 (ix2 ⟨1024 + n.val, by omega⟩ k))
    (hb3 : ∀ (n : Fin 1024) k, b3 (ix2 n k) = V m c main_v19 (ix2 ⟨2048 + n.val, by omega⟩ k))
    (hb4 : ∀ (n : Fin 2048) k, b4 (ix2 n k) = V m c main_v19 (ix2 ⟨3072 + n.val, by omega⟩ k))
    (hb5 : ∀ (n : Fin 2048) k, b5 (ix2 n k) = V m c main_v19 (ix2 ⟨5120 + n.val, by omega⟩ k))
    (hb6 : ∀ (n : Fin 1280) k, b6 (ix2 n k) = V m c main_v19 (ix2 ⟨7168 + n.val, by omega⟩ k))
    (r : Fin 512) (k : Fin 1024) :
    k0_pay7 (F := Ideal) (k0_pay6 (View.ld (iblk m c 0 t) (Rect.unit ![0, 0] ![512, 512] inb_S512x8448_S512x512_0_0)) b0
        (View.ld (iblk m c 0 t) (Rect.unit ![0, 512] ![512, 512] inb_S512x8448_S512x512_0_512)) b1
        (View.ld (iblk m c 0 t) (Rect.unit ![0, 1024] ![512, 1024] inb_S512x8448_S512x1024_0_1024)) b2)
        (View.ld (iblk m c 0 t) (Rect.unit ![0, 2048] ![512, 1024] inb_S512x8448_S512x1024_0_2048)) b3
        (View.ld (iblk m c 0 t) (Rect.unit ![0, 3072] ![512, 2048] inb_S512x8448_S512x2048_0_3072)) b4
        (View.ld (iblk m c 0 t) (Rect.unit ![0, 5120] ![512, 2048] inb_S512x8448_S512x2048_0_5120)) b5
        (View.ld (iblk m c 0 t) (Rect.unit ![0, 7168] ![512, 1280] inb_S512x8448_S512x1280_0_7168)) b6 (ix2 r k)
      = _root_.Input.dnorm (cotangent m c ⟨512 * t.val + r.val, row_lt t r⟩) (matrix m c) k := by
  have ha : ∀ (o w : ℕ) (hb) (n : Fin w) (ho : o + w ≤ 8448),
      View.ld (iblk m c 0 t) (Rect.unit ![0, o] ![512, w] hb) (ix2 r n)
        = padded (cotangent m c ⟨512 * t.val + r.val, row_lt t r⟩) ⟨o + n.val, by have := n.isLt; omega⟩ := fun o w hb n ho =>
    (View.ld_unit_apply_of (S := S512x8448) (iblk m c 0 t) ![0, o] ![512, w] hb (ix2 r n) (ix2 r ⟨o + n.val, by have := n.isLt; omega⟩)
      (by intro q; fin_cases q <;> simp)).trans (bP_at m c t r _)
  refine (prod_at (padded (cotangent m c ⟨512 * t.val + r.val, row_lt t r⟩)) (padded (matrix m c k)) r k
    _ _ _ _ _ _ _ _ _ _ _ _ _ _
    (fun n => ha 0 512 _ n (by omega)) (fun n => (hb0 n k).trans (matrix_at m c _ k))
    (fun n => ha 512 512 _ n (by omega)) (fun n => (hb1 n k).trans (matrix_at m c _ k))
    (fun n => ha 1024 1024 _ n (by omega)) (fun n => (hb2 n k).trans (matrix_at m c _ k))
    (fun n => ha 2048 1024 _ n (by omega)) (fun n => (hb3 n k).trans (matrix_at m c _ k))
    (fun n => ha 3072 2048 _ n (by omega)) (fun n => (hb4 n k).trans (matrix_at m c _ k))
    (fun n => ha 5120 2048 _ n (by omega)) (fun n => (hb5 n k).trans (matrix_at m c _ k))
    (fun n => ha 7168 1280 _ n (by omega)) (fun n => (hb6 n k).trans (matrix_at m c _ k))).trans ?_
  exact _root_.Input.sum_padded _ _

/-- The two results. -/
def resX : FVec Ideal S2048x1024 .f32 := fun i =>
  _root_.Input.grad (stream m c (i 0)) (weights m c) (cotangent m c (i 0)) (matrix m c) (fun k => inD m c (ix2 (i 0) k)) (i 1)
def resN : FVec Ideal S1x1024 .f32 := fun i => ∑ p : Fin 4, ∑ r : Fin 512,
  _root_.Input.partW (stream m c ⟨512 * p.val + r.val, by omega⟩) (cotangent m c ⟨512 * p.val + r.val, by omega⟩) (matrix m c) (i 1)

theorem grad_at (t : Fin cfg0.N) (H : FVec Ideal S512x1024 .f32)
    (hH : ∀ r k, H (ix2 r k) = _root_.Input.dnorm (cotangent m c ⟨512 * t.val + r.val, row_lt t r⟩) (matrix m c) k) (r : Fin 512) (k : Fin 1024) :
    k0_pay4 (F := Ideal) H (iblk m c 1 t) (iblk m c 2 t) (iblk m c 3 t) (ix2 r k) = resX m c (ix2 ⟨512 * t.val + r.val, row_lt t r⟩ k) := by
  have e1 : row (iblk m c 1 t) r = stream m c ⟨512 * t.val + r.val, row_lt t r⟩ := funext fun k => bX_at m c t r k
  have e2 : vec (iblk m c 2 t) = weights m c := funext fun k => bN_at m c t k
  rw [pay4_at, e1, e2]
  simp only [hH]
  exact congrArg₂ (fun a b : EReal => a + b) (bD_at m c t r k) rfl

theorem part_at (t : Fin cfg0.N) (H : FVec Ideal S512x1024 .f32)
    (hH : ∀ r k, H (ix2 r k) = _root_.Input.dnorm (cotangent m c ⟨512 * t.val + r.val, row_lt t r⟩) (matrix m c) k)
    (v : FVec Ideal S1x1024 .f32) (u : Fin 1) (k : Fin 1024) :
    k0_pay3 (F := Ideal) H (iblk m c 1 t) v (ix2 u k) = v (ix2 u k) + ∑ r : Fin 512,
      _root_.Input.partW (stream m c ⟨512 * t.val + r.val, row_lt t r⟩) (cotangent m c ⟨512 * t.val + r.val, row_lt t r⟩) (matrix m c) k := by
  have e1 : ∀ r, row (iblk m c 1 t) r = stream m c ⟨512 * t.val + r.val, row_lt t r⟩ := fun r => funext fun k => bX_at m c t r k
  rw [pay3_at]
  refine congrArg (fun a : EReal => v (ix2 u k) + a) (Finset.sum_congr rfl fun r _ => ?_)
  rw [hH, e1]
  exact congrArg (fun a : EReal => _root_.Input.dnorm (cotangent m c ⟨512 * t.val + r.val, row_lt t r⟩) (matrix m c) k * (a * RowNorm.rms _)) (bX_at m c t r k)

set_option maxHeartbeats 1600000 in
theorem scratch_first (t : Fin cfg0.N) (h : t.val % 4 = 0) :
    (outsAt0 m c t.val t.isLt).2.2 = V m c main_v19 := by
  funext y
  rw [outsAt0_A m c t h]; dsimp only; unfold sout0_A_0
  refine View.read_writes_apply_of_pieces _ _ _ _ ?_ y (scover0_A_0 c _ _ _ _ _ _ _ _ _ _ _ _ _ _ _ _ _ _ _ _ _ _ y)
  unfold kernelRun0_A
  dsimp only
  simp only [List.forall_mem_cons]
  exact ⟨fun _ => rfl, fun _ => rfl, fun _ => rfl, fun _ => rfl, fun _ => rfl, fun _ => rfl, fun _ => rfl, fun p hp => absurd hp List.not_mem_nil⟩

/-- The scratch after any point is the matrix. -/
theorem scratch_at (n : ℕ) (h : n < cfg0.N) : (outsAt0 m c n h).2.2 = V m c main_v19 := by
  induction n with
  | zero => exact scratch_first m c ⟨0, h⟩ rfl
  | succ n ih =>
    by_cases h4 : (n + 1) % 4 = 0
    · exact scratch_first m c ⟨n + 1, h⟩ h4
    · have e := outsAt0_B m c ⟨n + 1, h⟩ h4
      rw [show (outsAt0 m c (n + 1) h).2.2 = _ from congrArg (fun a => a.2.2) e]
      exact ih (Nat.lt_of_succ_lt h)

/-- A load of the scratch at a later point. -/
theorem load_later (X : FVec Ideal S8448x1024 .bf16) (hX : X = V m c main_v19) (hw : (Memref.whole cc0_scratch0).IsWhole) (o w : ℕ) (hb) (n : Fin w) (k : Fin 1024)
    (ho : o + w ≤ 8448) :
    View.ld (View.read (Elt Ideal) (View.whole cc0_scratch0) (hw.unread X)) (Rect.unit (s := S8448x1024) ![o, 0] ![w, 1024] hb) (ix2 n k)
      = V m c main_v19 (ix2 ⟨o + n.val, by have := n.isLt; omega⟩ k) := by
  refine (congrArg (fun Y : S8448x1024.Idx → Elt Ideal .bf16 => View.ld (e' := .bf16) Y (Rect.unit (s := S8448x1024) ![o, 0] ![w, 1024] hb) (ix2 n k))
    ((hw.read_unread X).trans hX)).trans ?_
  exact View.ld_unit_apply_of (S := S8448x1024) (V m c main_v19) ![o, 0] ![w, 1024] hb (ix2 n k) (ix2 ⟨o + n.val, by have := n.isLt; omega⟩ k)
    (by intro q; fin_cases q <;> simp)

/-- A load of the scratch at the first point, after the copies. -/
theorem load_first (L : List (View.Piece (Elt Ideal) S8448x1024 .bf16)) (hG : ∀ p ∈ L, ∀ x : p.1.shape.Idx, p.2 x = V m c main_v19 (p.1.emb x))
    (o w : ℕ) (hb) (hr : ∃ p ∈ L, p.1 = Rect.unit (s := S8448x1024) ![o, 0] ![w, 1024] hb) (n : Fin w) (k : Fin 1024) (ho : o + w ≤ 8448) :
    (View.whole cc0_scratch0).readCov L (Rect.unit (s := S8448x1024) ![o, 0] ![w, 1024] hb).toLoadRect (ix2 n k)
      = V m c main_v19 (ix2 ⟨o + n.val, by have := n.isLt; omega⟩ k) := by
  refine (load_of_mem (View.whole cc0_scratch0) L (V m c main_v19) hG _ hr (ix2 n k)).trans ?_
  exact View.ld_unit_apply_of (S := S8448x1024) (V m c main_v19) ![o, 0] ![w, 1024] hb (ix2 n k) (ix2 ⟨o + n.val, by have := n.isLt; omega⟩ k)
    (by intro q; fin_cases q <;> simp)

set_option maxHeartbeats 4000000 in
/-- The first result after the run. -/
theorem final_4 : (dats m 0 c).arrAt 4 (cfgs 0).N = resX m c := by
  refine (dats m 0 c).arrAt_eq_of_covers 4 _ (by decide +kernel) fun t hf y => ?_
  blk_simp; rw [after0_4]
  obtain ⟨q, hq⟩ : ∃ q : Fin 512, q.val = (y 0).val := ⟨⟨(y 0).val, (y 0).isLt⟩, rfl⟩
  obtain ⟨k, hk⟩ : ∃ k : Fin 1024, k.val = (y 1).val := ⟨⟨(y 1).val, (y 1).isLt⟩, rfl⟩
  have key := fun H hH => grad_at m c t H hH q k
  have last : resX m c (ix2 ⟨512 * t.val + q.val, row_lt t q⟩ k) = resX m c (((cfgs 0).win 4).blk t |>.view.emb y) := by
    obtain ⟨u, hu⟩ : ∃ u : Fin 2048, u.val = 512 * t.val + q.val := ⟨⟨_, row_lt t q⟩, rfl⟩
    rw [show (⟨512 * t.val + q.val, row_lt t q⟩ : Fin 2048) = u from Fin.ext hu.symm]
    rw [show y = ix2 q k from emb_eq y q k hq.symm hk.symm]
    exact (congrArg (resX m c) (emb_eq _ _ _ (by blk_simp [idx t] <;> omega) (by blk_simp [idx t] <;> omega)).symm)
  rw [show y = ix2 q k from emb_eq y q k hq.symm hk.symm] at last ⊢
  by_cases h : t.val % 4 = 0
  · rw [outsAt0_A m c t h]; dsimp only; frame_out
    refine (key _ (product_at m c t _ _ _ _ _ _ _ ?_ ?_ ?_ ?_ ?_ ?_ ?_)).trans last
    all_goals
      intro n k
      refine load_first m c _ ?_ _ _ _ ?_ n k (by omega)
      · repeat refine List.forall_mem_cons.mpr ⟨fun _ => rfl, ?_⟩
        exact fun p hp => absurd hp List.not_mem_nil
      · simp
  · rw [outsAt0_B m c t h]; dsimp only; frame_out
    refine (key _ (product_at m c t _ _ _ _ _ _ _ ?_ ?_ ?_ ?_ ?_ ?_ ?_)).trans last
    all_goals exact fun n k => load_later m c _ (scratch_at m c _ _) _ _ _ _ n k (by omega)

set_option maxHeartbeats 4000000 in
/-- The second result after the run. -/
theorem final_5 : (dats m 0 c).arrAt 5 (cfgs 0).N = resN m c := by
  refine (dats m 0 c).arrAt_eq_of_covers 5 _ (by decide +kernel) fun t hf y => ?_
  blk_simp
  obtain ⟨k, hk⟩ : ∃ k : Fin 1024, k.val = (y 1).val := ⟨⟨(y 1).val, (y 1).isLt⟩, rfl⟩
  rw [show y = ix2 (0 : Fin 1) k from emb_eq y 0 k (by have := (y 0).isLt; change (y 0).val < 1 at this; exact Nat.lt_one_iff.mp this) hk.symm]
  rw [after0_5, Pipeline.eq_sum_fin_of_reset_step_apply_of_flush (fun n h => (outsAt0 m c n h).2.1) 4 (fun _ => 0)
    (fun p j => ∑ r : Fin 512, _root_.Input.partW (stream m c ⟨512 * p.val + r.val, row_lt p r⟩) (cotangent m c ⟨512 * p.val + r.val, row_lt p r⟩)
      (matrix m c) (j (1 : Fin 2)))
    (fun p h j => by
      idx_vars j
      rw [outsAt0_A m c p h]; dsimp only; frame_out
      refine (part_at m c p _ (product_at m c p _ _ _ _ _ _ _ ?_ ?_ ?_ ?_ ?_ ?_ ?_) _ j0 j1).trans (congrArg₂ (fun a b : EReal => a + b) ?_ rfl)
      on_goal 8 => pointwise [k0_pay5]
      all_goals
        intro n k
        refine load_first m c _ ?_ _ _ _ ?_ n k (by omega)
        · repeat refine List.forall_mem_cons.mpr ⟨fun _ => rfl, ?_⟩
          exact fun p hp => absurd hp List.not_mem_nil
        · simp)
    (fun p h j => by
      idx_vars j
      rw [outsAt0_B m c p h]; dsimp only; frame_out
      exact part_at m c p _ (product_at m c p _ _ _ _ _ _ _
        (fun n k => load_later m c _ (scratch_at m c _ _) _ _ _ _ n k (by omega)) (fun n k => load_later m c _ (scratch_at m c _ _) _ _ _ _ n k (by omega))
        (fun n k => load_later m c _ (scratch_at m c _ _) _ _ _ _ n k (by omega)) (fun n k => load_later m c _ (scratch_at m c _ _) _ _ _ _ n k (by omega))
        (fun n k => load_later m c _ (scratch_at m c _ _) _ _ _ _ n k (by omega)) (fun n k => load_later m c _ (scratch_at m c _ _) _ _ _ _ n k (by omega))
        (fun n k => load_later m c _ (scratch_at m c _ _) _ _ _ _ n k (by omega))) _ j0 j1)
    t ((flush0_5 t).mp hf) _, zero_add]
  refine Eq.trans ?_ (congrArg (resN _ _) (emb_eq _ (0 : Fin 1) k (by blk_simp [idx t]) (by blk_simp [idx t] <;> omega))).symm
  refine Fin.sum_fin_congr fun p => ?_
  have hp : ∀ r : Fin 512, (⟨512 * (4 * (t.val / 4) + p.val) + r.val, row_lt ⟨_, Pipeline.run_point_lt_of_flush t ((flush0_5 t).mp hf) p⟩ r⟩ : Fin 2048)
      = ⟨512 * p.val + r.val, by omega⟩ := fun r => Fin.ext (by
    have := lt_of_lt_of_eq t.isLt N_0
    show 512 * (4 * (t.val / 4) + p.val) + r.val = 512 * p.val + r.val
    omega)
  refine congrArg (fun a : EReal => a) (Finset.sum_congr rfl fun r _ => by dsimp only; rw [hp])

end Cert.InputKernelIdeal.Input

end
-- ==== Proof.InputRef.lean ====
module

public import proofs.«01_k».proof.Proof.Gen.InputReferenceIdeal.Read
public import proofs.«01_k».proof.Proof.InputForms
public import proofs.«01_k».proof.Proof.UnitSums
public import Idealize.ShloMosaic.Lib.Pointwise

/-!
The reference of the input projection's gradients: its values read at an index.
-/

@[expose] public section

set_option maxRecDepth 16384

noncomputable section

open Idealize.ShloMosaic Idealize.ShloMosaic.TcCoe Idealize.SL.Sem
open scoped BigOperators

namespace Cert.InputReferenceIdeal.Input

open Cert.InputReferenceIdeal Cert.InputReferenceIdeal.Gen
open Cert.InputReferenceIdeal.Read
open _root_.Input (dnorm partW)

variable (X : FVec Ideal S2048x1024 .f32) (N : FVec Ideal S1x1024 .f32) (W : FVec Ideal S1024x8208 .f32)
  (P : FVec Ideal S2048x8208 .f32) (D : FVec Ideal S2048x1024 .f32)

/-- A row of the residual stream, of the projection's cotangent; the matrix; the norm's weights. -/
abbrev stream (u : Fin 2048) (k : Fin 1024) : EReal := X (ix2 u k)
abbrev cotangent (u : Fin 2048) (n : Fin 8208) : EReal := P (ix2 u n)
abbrev matrix (k : Fin 1024) (n : Fin 8208) : EReal := W (ix2 k n)
abbrev weights (k : Fin 1024) : EReal := N (ix2 0 k)

/-- The row's mean square. -/
theorem v7_at (r : Fin 2048) (u : Fin 1) : val_main_v7 (F := Ideal) X (ix2 r u) = RowNorm.ms (stream X r) := by
  pointwise [val_main_v7, val_main_v6, val_main_cst_1, val_main_v5, val_main_v4, val_main_cst_0, val_main_v3, val_main_v2, val_main_cst, val_main_v1,
    RowNorm.ms]

/-- The reciprocal root of the mean square. -/
theorem v8_at (r : Fin 2048) (u : Fin 1) : val_main_v8 (F := Ideal) X (ix2 r u) = RowNorm.rms (stream X r) := by
  pointwise [val_main_v8, v7_at, RowNorm.rms]

/-- The factor of the mean square's gradient. -/
theorem v11_at (r : Fin 2048) (u : Fin 1) : val_main_v11 (F := Ideal) X (ix2 r u)
    = Ideal.ofBits .f32 0xBF000000#32 * Ideal.div (RowNorm.rms (stream X r)) (RowNorm.ms (stream X r)) := by
  pointwise [val_main_v11, val_main_v10, val_main_cst_2, val_main_v9, v8_at, v7_at]

/-- The normed row. -/
theorem v13_at (r : Fin 2048) (k : Fin 1024) : val_main_v13 (F := Ideal) X (ix2 r k) = X (ix2 r k) * RowNorm.rms (stream X r) := by
  pointwise [val_main_v13, val_main_v12, v8_at]

/-- The cotangent of the normed row. -/
theorem v18_at (r : Fin 2048) (k : Fin 1024) : val_main_v18 (F := Ideal) W P (ix2 r k) = dnorm (cotangent P r) (matrix W) k := by
  pointwise [val_main_v18, dnorm]

/-- The same before the norm's weights. -/
theorem v23_at (r : Fin 2048) (k : Fin 1024) : val_main_v23 (F := Ideal) N W P (ix2 r k)
    = dnorm (cotangent P r) (matrix W) k * weights N k := by
  pointwise [val_main_v23, val_main_v22, val_main_v14, val_main_v0, v18_at]

/-- The gradient with respect to the norm's weights. -/
theorem v40_at (u : Fin 1) (k : Fin 1024) : val_main_v40 (F := Ideal) X W P (ix2 u k)
    = ∑ p : Fin 4, ∑ r : Fin 512, partW (stream X ⟨512 * p.val + r.val, by omega⟩) (cotangent P ⟨512 * p.val + r.val, by omega⟩) (matrix W) k := by
  refine Eq.trans ?_ (RowNorm.sum_tiles fun r => partW (stream X r) (cotangent P r) (matrix W) k)
  pointwise [val_main_v40, val_main_v24, val_main_cst_4, val_main_v21, val_main_v20, val_main_cst_3, val_main_v19, v13_at, v18_at, partW]
  exact (Fin.sum_univ_one _).trans (Finset.sum_congr rfl fun r _ => mul_comm (G := EReal) _ _)

/-- Half of the gradient through the mean square. -/
theorem v33_at (r : Fin 2048) : val_main_v33 (F := Ideal) X N W P (ix1 r)
    = RowNorm.half (stream X r) fun k => dnorm (cotangent P r) (matrix W) k * weights N k := by
  pointwise [val_main_v33, val_main_cst_7, val_main_v32, val_main_v31, val_main_cst_6, val_main_v30, val_main_v27, val_main_v26,
    val_main_cst_5, val_main_v25, v23_at, v11_at, RowNorm.half]
  exact Fin.sum_univ_one _

/-- The gradient with respect to the residual stream. -/
theorem v39_at (r : Fin 2048) (k : Fin 1024) : val_main_v39 (F := Ideal) X N W P D (ix2 r k)
    = _root_.Input.grad (stream X r) (weights N) (cotangent P r) (matrix W) (fun k => D (ix2 r k)) k := by
  refine Eq.trans ?_ (congrArg (fun a : EReal => HAdd.hAdd (α := EReal) (β := EReal) (D (ix2 r k)) a)
    (RowNorm.back_eq (stream X r) (fun k => dnorm (cotangent P r) (matrix W) k * weights N k) k))
  pointwise [val_main_v39, val_main_v38, val_main_v37, val_main_v36, val_main_v35, val_main_v34, val_main_v29, val_main_v28, v33_at, v23_at, v8_at]

end Cert.InputReferenceIdeal.Input

end
-- ==== Proof.InputPair.lean ====
module

public import proofs.«01_k».proof.Defs
public import proofs.«01_k».proof.Proof.InputResults
public import proofs.«01_k».proof.Proof.InputRef
public import Idealize.ShloMosaic.Lib.Claim

/-!
The input projection's backward call computes its reference's two results.
-/

@[expose] public section

set_option maxRecDepth 16384

noncomputable section

open Idealize.ShloMosaic Idealize.ShloMosaic.TcCoe Idealize.SL.Sem
open scoped BigOperators

namespace Cert.InputKernelIdeal.Run

open Cert.InputKernelIdeal Cert.InputKernelIdeal.Gen Cert.InputKernelIdeal.Own
open Idealize.ShloMosaic.Pipeline (Dat)

variable {F : FTy → Type} [FloatOps F]
variable (m : (ℓ : Loc nD τ sig) → Buf (Elt F) ℓ) (ρ : Dev nD → PrngReg)

/-- The run leaves the first result as the proof data says. -/
theorem post4 (r : PUnit × MemSt nD τ sig (Elt F)) (h : Pipeline.FramePost cfgs (dats m) 0 (V m) r) (c : Dev nD) :
    r.2.mem ((c : Thread nD τ).loc main_v42_0) = (dats m 0 c).arrAt 4 cfg0.N :=
  (h c).1 4

/-- The run leaves the second result as the proof data says. -/
theorem post5 (r : PUnit × MemSt nD τ sig (Elt F)) (h : Pipeline.FramePost cfgs (dats m) 0 (V m) r) (c : Dev nD) :
    r.2.mem ((c : Thread nD τ).loc main_v42_1) = (dats m 0 c).arrAt 5 cfg0.N :=
  (h c).1 5

/-- The run leaves the argument. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- The run leaves the argument. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- The run leaves the argument. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves the argument. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves the argument. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- The run: its two results, its arguments. -/
theorem run_blocks : θ_run defs (onTc (τ := τ) (main (F := F))) ⟨m, fun _ => 0, ρ⟩ fun r => ∀ c : Dev nD,
      r.2.mem ((c : Thread nD τ).loc main_v42_0) = (dats m 0 c).arrAt 4 cfg0.N
      ∧ r.2.mem ((c : Thread nD τ).loc main_v42_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      kept_main_arg0 m r h c,
      kept_main_arg1 m r h c,
      kept_main_arg2 m r h c,
      kept_main_arg3 m r h c,
      kept_main_arg4 m r h c⟩)
    (run_main m ρ)

end Cert.InputKernelIdeal.Run

namespace Cert.InputPair

open Cert.InputReferenceIdeal.Read
open Cert.InputKernelIdeal.Input (inX inN inW inP inD final_4 final_5)

variable (m : (ℓ : Loc Cert.InputKernelIdeal.nD Cert.InputKernelIdeal.τ Cert.InputKernelIdeal.sig) → Buf (Elt Ideal) ℓ) (c : Dev Cert.InputKernelIdeal.nD)

/-- The gradient with respect to the residual stream. -/
theorem eq_X : (Cert.InputKernelIdeal.Own.dats m 0 c).arrAt 4 (Cert.InputKernelIdeal.cfgs 0).N
    = val_main_v39 (F := Ideal) (inX m c) (inN m c) (inW m c) (inP m c) (inD m c) := by
  refine (final_4 m c).trans (funext fun i => ?_)
  idx_vars i
  exact (Cert.InputReferenceIdeal.Input.v39_at (inX m c) (inN m c) (inW m c) (inP m c) (inD m c) i0 i1).symm

/-- The gradient with respect to the norm's weights. -/
theorem eq_N : (Cert.InputKernelIdeal.Own.dats m 0 c).arrAt 5 (Cert.InputKernelIdeal.cfgs 0).N
    = val_main_v40 (F := Ideal) (inX m c) (inW m c) (inP m c) := by
  refine (final_5 m c).trans (funext fun i => ?_)
  idx_vars i
  exact (Cert.InputReferenceIdeal.Input.v40_at (inX m c) (inW m c) (inP m c) i0 i1).symm

set_option maxHeartbeats 1600000 in
/-- The pair's claim. -/
theorem algebraic : algebraic_InputKernelIdeal_InputReferenceIdeal := by
  intro m g m' g' hpre hargs
  refine ⟨fun c => val_main_v39 (F := Ideal) (inX m c) (inN m c) (inW m c) (inP m c) (inD m c),
    fun c => val_main_v40 (F := Ideal) (inX m c) (inW m c) (inP m c), ?_, ?_⟩
  · refine (θ_run _ _ _).mono (fun r h c => ?_) (Cert.InputKernelIdeal.Run.run_blocks m g)
    obtain ⟨h4, h5, a⟩ := h c
    exact ⟨h4.trans (eq_X m c), h5.trans (eq_N m c), a⟩
  · refine (θ_run _ _ _).mono (fun r h c => ?_) (Cert.InputReferenceIdeal.Value.run m' g')
    obtain ⟨h4, h5, a⟩ := h c
    obtain ⟨e0, e1, e2, e3, e4⟩ := hargs c
    rw [val_main_v39_eq, e0, e1, e2, e3, e4] at h4
    rw [val_main_v40_eq, e0, e2, e3] at h5
    exact ⟨h4, h5, a⟩

end Cert.InputPair

end
-- ==== Proof.FgatePair.lean ====
module

public import proofs.«01_k».proof.Defs
public import proofs.«01_k».proof.Proof.Gen.On_fgate_columns
public import proofs.«01_k».proof.Proof.Gen.FgateKernelIdeal.Value
public import proofs.«01_k».proof.Proof.Gen.FgateReferenceIdeal.Read
public import proofs.«01_k».proof.Proof.GateForms
public import Idealize.ShloMosaic.Lib.Claim
public import Idealize.ShloMosaic.Lib.Pipeline.ValueKit

/-!
The gate's forward call computes its reference's DeltaNet half of the mixed columns.
-/

@[expose] public section

set_option maxRecDepth 16384

noncomputable section

open Idealize.ShloMosaic Idealize.ShloMosaic.TcCoe Idealize.SL.Sem
open Idealize.ShloMosaic.Pipeline (Dat)
open scoped BigOperators

namespace Gate

/-- The normed, weighted and gated value at lane `j` of a head's lanes. -/
def value (x z w : Fin 128 → EReal) (j : Fin 128) : EReal := x j * rms x * w j * (z j * Ideal.logistic (z j))

/-- The lanes of head `h`, row `r` of an array of 1024 columns. -/
def lanes (X : (⟨2, ![2048, 1024]⟩ : Shape).Idx → EReal) (r : Fin 2048) (h : Fin 8) (k : Fin 128) : EReal :=
  X (ix2 r ⟨h.val * 128 + k.val, by omega⟩)

/-- The mixed columns' DeltaNet half: column `n` is lane `n % 128` of head `n / 128`. -/
def mixed (o z : (⟨2, ![2048, 1024]⟩ : Shape).Idx → EReal) (w : (⟨2, ![1, 128]⟩ : Shape).Idx → EReal)
    (i : (⟨2, ![2048, 2048]⟩ : Shape).Idx) : EReal :=
  value (lanes o (i 0) ⟨(i 1).val / 128 % 8, by omega⟩) (lanes z (i 0) ⟨(i 1).val / 128 % 8, by omega⟩)
    (fun k => w (ix2 0 k)) ⟨(i 1).val % 128, by omega⟩

end Gate

namespace Cert.FgateKernelIdeal.Gate

open Cert.FgateKernelIdeal Cert.FgateKernelIdeal.Gen

variable (m : (ℓ : Loc nD τ sig) → Buf (Elt Ideal) ℓ)

/-- Where each window's block stands at a point of the grid. -/
theorem idx : ∀ t : Fin cfg0.N, win0_0.index t = ![0, t.val]
    ∧ win0_1.index t = ![0, 12 + t.val]
    ∧ win0_2.index t = ![0, 0]
    ∧ win0_3.index t = ![0, t.val] :=
  (by decide +kernel : ∀ t : Fin grid0.N, _)

/-- The projection the kernel reads holds the gate at columns 3072 to 4095. -/
theorem proj_at (c : Dev nD) (i : S2048x8448.Idx) (j : S2048x1024.Idx) (h0 : (i 0 : ℕ) = j 0) (h1 : (i 1 : ℕ) = 3072 + j 1) :
    V m c main_v0 i = m ((c.tc : Thread nD τ).loc main_arg1) j := by
  idx_vars i
  idx_vars j
  unfold V
  simp only [hostOps0, hostOps0_1, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  have hj : (j1 : ℕ) < 1024 := j1.isLt
  have hc : 3072 ≤ (i1 : ℕ) ∧ (i1 : ℕ) - 3072 < 1024 := ⟨by rw [h1]; exact Nat.le_add_right _ _, by rw [h1, Nat.add_sub_cancel_left]; exact hj⟩
  rw [dif_pos hc]
  exact congrArg (m (c.tc.loc main_arg1)) ((ix2_inj ..).2 ⟨Fin.ext h0, Fin.ext (by simp [h1])⟩)

set_option maxHeartbeats 1600000 in
/-- The result's first 1024 columns after the run. -/
theorem final_3 (c : Dev nD) (i : S2048x2048.Idx) (hi : (i 1 : ℕ) < 1024) :
    (dats m 0 c).arrAt 3 (cfgs 0).N i
      = _root_.Gate.mixed (m ((c.tc : Thread nD τ).loc main_arg0)) (m ((c.tc : Thread nD τ).loc main_arg1))
          (m ((c.tc : Thread nD τ).loc main_arg2)) i := by
  refine (congrFun ((dats m 0 c).arrAt_eq_of_coversWhere 3 (_root_.Gate.mixed (m ((c.tc : Thread nD τ).loc main_arg0))
      (m ((c.tc : Thread nD τ).loc main_arg1)) (m ((c.tc : Thread nD τ).loc main_arg2)))
      (P := fun i => (i (1 : Fin 2) : ℕ) / 256 < 4)
      (fun β => β (1 : Fin 2) < 4) (by decide +kernel) (fun t hf y => ?_)
      (fun j => Iff.rfl)) i).trans (if_pos (by omega))
  blk_simp; rw [after0_3]
  frame_out
  canon_tiles x h
  all_goals
    open_payloads
    pointwise [k0_pay1, k0_pay2, k0_pay3, k0_pay4, k0_pay5, _root_.Gate.mixed, _root_.Gate.lanes, _root_.Gate.value, _root_.Gate.rms]
    blk_point [iblk, V, idx t]
    all_goals exact proj_at m c _ _ (by blk_simp [idx t] <;> (try dsimp only) <;> try omega) (by blk_simp [idx t] <;> (try dsimp only) <;> try omega)

end Cert.FgateKernelIdeal.Gate

namespace Cert.FgateReferenceIdeal.Gate

open Cert.FgateReferenceIdeal Cert.FgateReferenceIdeal.Gen Cert.FgateReferenceIdeal.Read

variable (o z : FVec Ideal S2048x1024 .f32) (w : FVec Ideal S1x128 .f32)

theorem v0_at (a : Fin 1) (r : Fin 2048) (h : Fin 8) (j : Fin 128) :
    val_main_v0 (F := Ideal) o (ix4 a r h j) = _root_.Gate.lanes o r h j := by
  pointwise [val_main_v0, _root_.Gate.lanes]

/-- The rows' reciprocal root mean squares. -/
theorem v9_at (a : Fin 1) (r : Fin 2048) (h : Fin 8) (b : Fin 1) :
    val_main_v9 (F := Ideal) o (ix4 a r h b) = _root_.Gate.rms (_root_.Gate.lanes o r h) := by
  pointwise [val_main_v9, val_main_v8, val_main_v7, val_main_v6, val_main_v5, val_main_v4, val_main_v3, val_main_v2, v0_at, val_main_cst,
    val_main_cst_0, val_main_cst_1, _root_.Gate.rms]

/-- The gate. -/
theorem v15_at (a : Fin 1) (r : Fin 2048) (h : Fin 8) (j : Fin 128) :
    val_main_v15 (F := Ideal) z (ix4 a r h j) = _root_.Gate.lanes z r h j := by
  pointwise [val_main_v15, _root_.Gate.lanes]

/-- The normed, weighted and gated value. -/
theorem v17_at (a : Fin 1) (r : Fin 2048) (h : Fin 8) (j : Fin 128) : val_main_v17 (F := Ideal) o z w (ix4 a r h j)
    = _root_.Gate.value (_root_.Gate.lanes o r h) (_root_.Gate.lanes z r h) (fun k => w (ix2 0 k)) j := by
  pointwise [val_main_v17, val_main_v16, val_main_v14, val_main_v13, val_main_v12, val_main_v11, val_main_v10, val_main_v1, v9_at, v0_at, v15_at,
    val_main_call0_v5, val_main_call0_v4, val_main_call0_v3, val_main_call0_v2, val_main_call0_v1, val_main_call0_v0, val_main_call0_cst,
    val_main_call0_cst_0, _root_.Gate.value, Ideal.logistic]

/-- The result at its first 1024 columns. -/
theorem v22_at (i : S2048x2048.Idx) (hi : (i 1).val < 1024) :
    val_main_v22 (F := Ideal) o z w i = _root_.Gate.mixed o z w i := by
  idx_vars i
  change i1.val < 1024 at hi
  have e : i1.val / 128 % 8 = i1.val / 128 := by omega
  pointwise [val_main_v22]
  rw [dif_pos hi]
  pointwise [val_main_v20, val_main_v19, val_main_v18, v17_at, _root_.Gate.mixed]
  simp only [e]

end Cert.FgateReferenceIdeal.Gate

namespace Cert.FgatePair

open Cert.FgateReferenceIdeal.Read

set_option maxRecDepth 100000 in
/-- A column's signed comparison is the comparison of its number. -/
theorem column_of : ∀ i : Fin 2048, IntOp.cmpi CmpIPredicate.slt (BitVec.ofNat 32 i.val) 1024#32 = 1#1 → i.val < 1024 := by
  decide +kernel

/-- The columns that the claim speaks of. -/
theorem columns (x0 x1 : FVec Ideal Cert.On_fgate_columns.S2048x1024 .f32) (x2 : FVec Ideal Cert.On_fgate_columns.S1x128 .f32)
    (i : (⟨2, ![2048, 2048]⟩ : Shape).Idx) (h : Cert.On_fgate_columns.fn (F := Ideal) x0 x1 x2 i = 1#1) : (i 1).val < 1024 := by
  idx_vars i
  simp only [Cert.On_fgate_columns.fn] at h
  pointwise at h
  exact column_of i1 h

set_option maxHeartbeats 1600000 in
/-- The pair's claim. -/
theorem algebraic : algebraic_FgateKernelIdeal_FgateReferenceIdeal_on_fgate_columns := by
  intro m g m' g' hpre hargs
  refine ⟨fun c => val_main_v22 (F := Ideal) (m ((c.tc : Thread Cert.FgateKernelIdeal.nD Cert.FgateKernelIdeal.τ).loc Cert.FgateKernelIdeal.main_arg0))
      (m ((c.tc : Thread Cert.FgateKernelIdeal.nD Cert.FgateKernelIdeal.τ).loc Cert.FgateKernelIdeal.main_arg1))
      (m ((c.tc : Thread Cert.FgateKernelIdeal.nD Cert.FgateKernelIdeal.τ).loc Cert.FgateKernelIdeal.main_arg2)), ?_, ?_⟩
  · refine (θ_run _ _ _).mono (fun r h c => ?_) (Cert.FgateKernelIdeal.Value.run_blocks m g)
    obtain ⟨h3, a0, a1, a2⟩ := h c
    refine ⟨fun i hi => ?_, a0, a1, a2⟩
    have hi' := columns _ _ _ i hi
    exact (congrFun h3 i).trans ((Cert.FgateKernelIdeal.Gate.final_3 m c i hi').trans (Cert.FgateReferenceIdeal.Gate.v22_at _ _ _ i hi').symm)
  · refine (θ_run _ _ _).mono (fun r h c => ?_) (Cert.FgateReferenceIdeal.Value.run m' g')
    obtain ⟨h3, a0, a1, a2⟩ := h c
    obtain ⟨e0, e1, e2⟩ := hargs c
    rw [val_main_v22_eq, e0, e1, e2] at h3
    exact ⟨fun i _ => congrFun h3 i, a0, a1, a2⟩

end Cert.FgatePair

end
-- ==== Proof.FconvKernel.lean ====
module

public import proofs.«01_k».proof.Proof.Gen.FconvKernelIdeal.Frame
public import proofs.«01_k».proof.Proof.ConvForms
public import Idealize.ShloMosaic.Lib.Pipeline.ValueKit

/-!
The arrays the convolution's forward kernel reads: the projection the host lays out, and the columns of its blocks.
-/

@[expose] public section

set_option maxRecDepth 16384

noncomputable section

open Idealize.ShloMosaic Idealize.ShloMosaic.TcCoe Idealize.SL.Sem
open Idealize.ShloMosaic.Pipeline (Dat)
open scoped BigOperators

namespace Cert.FconvKernelIdeal.Conv

open Cert.FconvKernelIdeal Cert.FconvKernelIdeal.Gen

variable (m : (ℓ : Loc nD τ sig) → Buf (Elt Ideal) ℓ)

/-- The four inputs: `B`, `C`, `h` and the gate `z`. -/
def inputs (c : Dev nD) (g : Fin 4) : FVec Ideal S2048x1024 .f32 :=
  match g with
  | 0 => m ((c.tc : Thread nD τ).loc main_arg0)
  | 1 => m ((c.tc : Thread nD τ).loc main_arg1)
  | 2 => m ((c.tc : Thread nD τ).loc main_arg2)
  | 3 => m ((c.tc : Thread nD τ).loc main_arg3)

theorem inputs_at (c : Dev nD) (n : ℕ) (k : Fin 4) (h : n % 4 = k.val) (j : S2048x1024.Idx) :
    inputs m c ⟨n % 4, Nat.mod_lt _ (by decide)⟩ j = inputs m c k j := by
  have e : (⟨n % 4, Nat.mod_lt _ (by decide)⟩ : Fin 4) = k := Fin.ext h
  rw [e]

set_option maxRecDepth 200000 in
set_option maxHeartbeats 1000000 in
/-- Column `n` of the laid out projection is the channel of the input it holds. -/
theorem proj_at (c : Dev nD) (i : S2048x8448.Idx) (h : 4096 ≤ (i 1 : ℕ) ∧ (i 1 : ℕ) < 8192) :
    V m c main_v10 i = inputs m c ⟨(i 1 : ℕ) / 256 % 4, Nat.mod_lt _ (by decide)⟩ (ix2 (i 0) (_root_.Conv.channel (i 1) h)) := by
  idx_vars i
  change 4096 ≤ i1.val ∧ i1.val < 8192 at h
  generalize hr : inputs m c _ _ = rhs
  unfold V
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  have hc : 4096 ≤ (i1 : ℕ) ∧ (i1 : ℕ) - 4096 < 4096 := by omega
  rw [dif_pos hc]
  have e : (i1.val - 4096) / 256 % 4 = i1.val / 256 % 4 := by omega
  have e' : (i1.val - 4096) / 1024 * 256 + i1.val % 256 = (i1.val - 4096) / 1024 * 256 + (i1.val - 4096) % 256 := by omega
  have hg : i1.val / 256 % 4 = 0 ∨ i1.val / 256 % 4 = 1 ∨ i1.val / 256 % 4 = 2 ∨ i1.val / 256 % 4 = 3 := by omega
  rcases hg with hg | hg | hg | hg
  · rw [inputs_at m c _ 0 hg] at hr
    dsimp only [inputs, _root_.Conv.channel] at hr
    simp only [e'] at hr
    rw [dif_pos (by omega)]
    after_results_simp; pointwise
    exact hr
  · rw [inputs_at m c _ 1 hg] at hr
    dsimp only [inputs, _root_.Conv.channel] at hr
    simp only [e'] at hr
    rw [dif_neg (by omega), dif_pos (by omega)]
    after_results_simp; pointwise
    exact hr
  · rw [inputs_at m c _ 2 hg] at hr
    dsimp only [inputs, _root_.Conv.channel] at hr
    simp only [e'] at hr
    rw [dif_neg (by omega), dif_neg (by omega), dif_pos (by omega)]
    after_results_simp; pointwise
    exact hr
  · rw [inputs_at m c _ 3 hg] at hr
    dsimp only [inputs, _root_.Conv.channel] at hr
    simp only [e'] at hr
    rw [dif_neg (by omega), dif_neg (by omega), dif_neg (by omega)]
    after_results_simp; pointwise
    exact hr

/-- The block each window holds at a grid point. -/
theorem idx : ∀ t : Fin cfg0.N, win0_0.index t = ![0, 4 + t.val]
    ∧ win0_1.index t = ![0, t.val]
    ∧ win0_2.index t = ![0, t.val]
    ∧ win0_3.index t = ![0, 4 + t.val] :=
  (by decide +kernel : ∀ t : Fin grid0.N, _)

theorem lt_4 (t : Fin cfg0.N) : t.val < 4 := lt_of_lt_of_eq t.isLt N_0

/-- Lane `l` of a block of 128 lanes, as a column. -/
def col (X : FVec Ideal S2048x128 .f32) (l : Fin 128) (r : Fin 2048) : EReal := X (ix2 r l)

/-- The projection's block at a grid point. -/
theorem X0_at (c : Dev nD) (t : Fin cfg0.N) (j : S2048x1024.Idx) : X0_0 m c t j
    = V m c main_v10 (ix2 (j 0) ⟨4096 + 1024 * t.val + (j 1).val, by
        have := (j 1).isLt; have := lt_4 t; change (j 1).val < 1024 at *; omega⟩) := by
  unfold X0_0 Pipeline.Window.fill
  rw [dif_pos (moved0_0 t j)]
  unfold iblk
  blk_point [iblk, V, idx t]

/-- A column of 128 lanes loaded from the projection's block is a channel of an input. -/
theorem col_proj (c : Dev nD) (t : Fin cfg0.N) (a : ℕ) (hb) (l : Fin 128) (g : Fin 4) (k : Fin 1024)
    (hg : (a + l.val) / 256 = g.val) (hk : k.val = 256 * t.val + (a + l.val) % 256) :
    col (View.ld (X0_0 m c t) (Rect.unit ![0, a] ![2048, 128] hb)) l = _root_.Conv.colOf (inputs m c g) k := by
  have ht := lt_4 t
  have hl := l.isLt
  have hgl := g.isLt
  funext r
  unfold col _root_.Conv.colOf
  refine (View.ld_unit_apply_of (S := S2048x1024) (X0_0 m c t) ![0, a] ![2048, 128] hb (ix2 r l) (ix2 r ⟨a + l.val, by omega⟩)
    (by intro q; fin_cases q <;> simp)).trans ?_
  refine (X0_at m c t _).trans ((proj_at m c (ix2 r (⟨4096 + 1024 * t.val + (a + l.val), by omega⟩ : Fin 8448))
    (show 4096 ≤ 4096 + 1024 * t.val + (a + l.val) ∧ 4096 + 1024 * t.val + (a + l.val) < 8192 by omega)).trans
    ((inputs_at m c ((4096 + 1024 * t.val + (a + l.val)) / 256) g ?_ _).trans ?_))
  · change (4096 + 1024 * t.val + (a + l.val)) / 256 % 4 = g.val
    omega
  · congr 2
    apply Fin.ext
    change (4096 + 1024 * t.val + (a + l.val) - 4096) / 1024 * 256 + (4096 + 1024 * t.val + (a + l.val)) % 256 = k.val
    omega

/-- A lane loaded from the taps' block. -/
theorem tap_at (c : Dev nD) (t : Fin cfg0.N) (n : ℕ) (q : Fin 3) (a : ℕ) (hb) (l : Fin 128) (k : Fin 1024)
    (ha : a + l.val < 256) (hk : k.val = 256 * t.val + (a + l.val)) (hq : q.val = n) :
    View.ld (iblk m c 1 t) (Rect.unit ![n, a] ![1, 128] hb) (ix2 (0 : Fin 1) l)
      = m ((c.tc : Thread nD τ).loc main_arg4) (ix2 q k) := by
  have ht := lt_4 t
  refine (View.ld_unit_apply_of (S := S3x256) (iblk m c 1 t) ![n, a] ![1, 128] hb (ix2 (0 : Fin 1) l) (ix2 q ⟨a + l.val, ha⟩)
    (by intro q; fin_cases q <;> simp [hq])).trans ?_
  blk_point [iblk, V, idx t]

/-- A lane loaded from the bias' block. -/
theorem bias_at (c : Dev nD) (t : Fin cfg0.N) (a : ℕ) (hb) (l : Fin 128) (k : Fin 1024)
    (ha : a + l.val < 256) (hk : k.val = 256 * t.val + (a + l.val)) :
    View.ld (iblk m c 2 t) (Rect.unit ![0, a] ![1, 128] hb) (ix2 (0 : Fin 1) l)
      = m ((c.tc : Thread nD τ).loc main_arg5) (ix2 0 k) := by
  have ht := lt_4 t
  refine (View.ld_unit_apply_of (S := S1x256) (iblk m c 2 t) ![0, a] ![1, 128] hb (ix2 (0 : Fin 1) l) (ix2 (0 : Fin 1) ⟨a + l.val, ha⟩)
    (by intro q; fin_cases q <;> simp)).trans ?_
  blk_point [iblk, V, idx t]

/-- The columns the block's first half reads at lane `l`. -/
theorem cols_0 (c : Dev nD) (t : Fin cfg0.N) (l : Fin 128) (k : Fin 1024) (hk : k.val = 256 * t.val + (0 + l.val)) :
    col (View.ld (X0_0 m c t) (Rect.unit ![0, 0] ![2048, 128] inb_S2048x1024_S2048x128_0_0)) l = _root_.Conv.colOf (inputs m c 0) k
    ∧ col (View.ld (X0_0 m c t) (Rect.unit ![0, 256] ![2048, 128] inb_S2048x1024_S2048x128_0_256)) l = _root_.Conv.colOf (inputs m c 1) k
    ∧ col (View.ld (X0_0 m c t) (Rect.unit ![0, 512] ![2048, 128] inb_S2048x1024_S2048x128_0_512)) l = _root_.Conv.colOf (inputs m c 2) k
    ∧ col (View.ld (X0_0 m c t) (Rect.unit ![0, 768] ![2048, 128] inb_S2048x1024_S2048x128_0_768)) l = _root_.Conv.colOf (inputs m c 3) k
    ∧ View.ld (iblk m c 1 t) (Rect.unit ![0, 0] ![1, 128] inb_S3x256_S1x128_0_0) (ix2 (0 : Fin 1) l) = m ((c.tc : Thread nD τ).loc main_arg4) (ix2 0 k)
    ∧ View.ld (iblk m c 1 t) (Rect.unit ![1, 0] ![1, 128] inb_S3x256_S1x128_1_0) (ix2 (0 : Fin 1) l) = m ((c.tc : Thread nD τ).loc main_arg4) (ix2 1 k)
    ∧ View.ld (iblk m c 1 t) (Rect.unit ![2, 0] ![1, 128] inb_S3x256_S1x128_2_0) (ix2 (0 : Fin 1) l) = m ((c.tc : Thread nD τ).loc main_arg4) (ix2 2 k)
    ∧ View.ld (iblk m c 2 t) (Rect.unit ![0, 0] ![1, 128] inb_S1x256_S1x128_0_0) (ix2 (0 : Fin 1) l) = m ((c.tc : Thread nD τ).loc main_arg5) (ix2 0 k) := by
  have hl := l.isLt
  exact ⟨col_proj m c t 0 _ l 0 k (by show (0 + l.val) / 256 = 0; omega) (by omega),
    col_proj m c t 256 _ l 1 k (by show (256 + l.val) / 256 = 1; omega) (by omega),
    col_proj m c t 512 _ l 2 k (by show (512 + l.val) / 256 = 2; omega) (by omega),
    col_proj m c t 768 _ l 3 k (by show (768 + l.val) / 256 = 3; omega) (by omega),
    tap_at m c t 0 0 0 _ l k (by omega) (by omega) rfl,
    tap_at m c t 1 1 0 _ l k (by omega) (by omega) rfl,
    tap_at m c t 2 2 0 _ l k (by omega) (by omega) rfl,
    bias_at m c t 0 _ l k (by omega) (by omega)⟩

/-- The columns the block's second half reads at lane `l`. -/
theorem cols_1 (c : Dev nD) (t : Fin cfg0.N) (l : Fin 128) (k : Fin 1024) (hk : k.val = 256 * t.val + (128 + l.val)) :
    col (View.ld (X0_0 m c t) (Rect.unit ![0, 128] ![2048, 128] inb_S2048x1024_S2048x128_0_128)) l = _root_.Conv.colOf (inputs m c 0) k
    ∧ col (View.ld (X0_0 m c t) (Rect.unit ![0, 384] ![2048, 128] inb_S2048x1024_S2048x128_0_384)) l = _root_.Conv.colOf (inputs m c 1) k
    ∧ col (View.ld (X0_0 m c t) (Rect.unit ![0, 640] ![2048, 128] inb_S2048x1024_S2048x128_0_640)) l = _root_.Conv.colOf (inputs m c 2) k
    ∧ col (View.ld (X0_0 m c t) (Rect.unit ![0, 896] ![2048, 128] inb_S2048x1024_S2048x128_0_896)) l = _root_.Conv.colOf (inputs m c 3) k
    ∧ View.ld (iblk m c 1 t) (Rect.unit ![0, 128] ![1, 128] inb_S3x256_S1x128_0_128) (ix2 (0 : Fin 1) l) = m ((c.tc : Thread nD τ).loc main_arg4) (ix2 0 k)
    ∧ View.ld (iblk m c 1 t) (Rect.unit ![1, 128] ![1, 128] inb_S3x256_S1x128_1_128) (ix2 (0 : Fin 1) l) = m ((c.tc : Thread nD τ).loc main_arg4) (ix2 1 k)
    ∧ View.ld (iblk m c 1 t) (Rect.unit ![2, 128] ![1, 128] inb_S3x256_S1x128_2_128) (ix2 (0 : Fin 1) l) = m ((c.tc : Thread nD τ).loc main_arg4) (ix2 2 k)
    ∧ View.ld (iblk m c 2 t) (Rect.unit ![0, 128] ![1, 128] inb_S1x256_S1x128_0_128) (ix2 (0 : Fin 1) l) = m ((c.tc : Thread nD τ).loc main_arg5) (ix2 0 k) := by
  have hl := l.isLt
  exact ⟨col_proj m c t 128 _ l 0 k (by show (128 + l.val) / 256 = 0; omega) (by omega),
    col_proj m c t 384 _ l 1 k (by show (384 + l.val) / 256 = 1; omega) (by omega),
    col_proj m c t 640 _ l 2 k (by show (640 + l.val) / 256 = 2; omega) (by omega),
    col_proj m c t 896 _ l 3 k (by show (896 + l.val) / 256 = 3; omega) (by omega),
    tap_at m c t 0 0 128 _ l k (by omega) (by omega) rfl,
    tap_at m c t 1 1 128 _ l k (by omega) (by omega) rfl,
    tap_at m c t 2 2 128 _ l k (by omega) (by omega) rfl,
    bias_at m c t 128 _ l k (by omega) (by omega)⟩

end Cert.FconvKernelIdeal.Conv

end
-- ==== Proof.FconvPair.lean ====
module

public import proofs.«01_k».proof.Defs
public import proofs.«01_k».proof.Proof.Gen.FconvKernelIdeal.Value
public import proofs.«01_k».proof.Proof.Gen.FconvReferenceIdeal.Read
public import proofs.«01_k».proof.Proof.FconvKernel
public import proofs.«01_k».proof.Proof.Idx2
public import Idealize.ShloMosaic.Lib.Claim

/-!
The short convolution's forward call computes its reference's mixed columns.
-/

@[expose] public section

set_option maxRecDepth 16384

noncomputable section

open Idealize.ShloMosaic Idealize.ShloMosaic.TcCoe Idealize.SL.Sem
open Idealize.ShloMosaic.Pipeline (Dat)
open scoped BigOperators

namespace Conv

/-- The gated value at row `r` of one channel's columns. -/
def out (b c h z : Fin 2048 → EReal) (w0 w1 w2 bias : EReal) (r : Fin 2048) : EReal :=
  b r * value c h w0 w1 w2 bias r * (z r * Ideal.logistic (z r))

/-- The mixed columns: the first half as it was, the second half's channel `k` the gated value. -/
def mixed (X : Fin 4 → (⟨2, ![2048, 1024]⟩ : Shape).Idx → EReal) (W : (⟨2, ![3, 1024]⟩ : Shape).Idx → EReal)
    (B : (⟨2, ![1, 1024]⟩ : Shape).Idx → EReal) (M : (⟨2, ![2048, 2048]⟩ : Shape).Idx → EReal)
    (i : (⟨2, ![2048, 2048]⟩ : Shape).Idx) : EReal :=
  if h : 1024 ≤ (i 1).val then
    out (colOf (X 0) ⟨(i 1).val - 1024, by have := (i 1).isLt; simp at this; omega⟩) (colOf (X 1) ⟨(i 1).val - 1024, by have := (i 1).isLt; simp at this; omega⟩)
      (colOf (X 2) ⟨(i 1).val - 1024, by have := (i 1).isLt; simp at this; omega⟩) (colOf (X 3) ⟨(i 1).val - 1024, by have := (i 1).isLt; simp at this; omega⟩)
      (W (ix2 0 ⟨(i 1).val - 1024, by have := (i 1).isLt; simp at this; omega⟩)) (W (ix2 1 ⟨(i 1).val - 1024, by have := (i 1).isLt; simp at this; omega⟩))
      (W (ix2 2 ⟨(i 1).val - 1024, by have := (i 1).isLt; simp at this; omega⟩)) (B (ix2 0 ⟨(i 1).val - 1024, by have := (i 1).isLt; simp at this; omega⟩)) (i 0)
  else M i

/-- The mixed columns at channel `k`. -/
theorem mixed_at (X : Fin 4 → (⟨2, ![2048, 1024]⟩ : Shape).Idx → EReal) (W : (⟨2, ![3, 1024]⟩ : Shape).Idx → EReal)
    (B : (⟨2, ![1, 1024]⟩ : Shape).Idx → EReal) (M : (⟨2, ![2048, 2048]⟩ : Shape).Idx → EReal) (r : Fin 2048) (n : Fin 2048)
    (k : Fin 1024) (h : n.val = 1024 + k.val) : mixed X W B M (ix2 r n)
    = out (colOf (X 0) k) (colOf (X 1) k) (colOf (X 2) k) (colOf (X 3) k) (W (ix2 0 k)) (W (ix2 1 k)) (W (ix2 2 k)) (B (ix2 0 k)) r := by
  have e : (⟨n.val - 1024, by omega⟩ : Fin 1024) = k := Fin.ext (by simp; omega)
  unfold mixed
  rw [dif_pos (show 1024 ≤ ((ix2 r n : (⟨2, ![2048, 2048]⟩ : Shape).Idx) 1).val from by change 1024 ≤ n.val; omega)]
  change out (colOf (X 0) ⟨n.val - 1024, _⟩) (colOf (X 1) ⟨n.val - 1024, _⟩) (colOf (X 2) ⟨n.val - 1024, _⟩) (colOf (X 3) ⟨n.val - 1024, _⟩)
    (W (ix2 0 ⟨n.val - 1024, _⟩)) (W (ix2 1 ⟨n.val - 1024, _⟩)) (W (ix2 2 ⟨n.val - 1024, _⟩)) (B (ix2 0 ⟨n.val - 1024, _⟩)) r = _
  rw [e]

end Conv

namespace Cert.FconvKernelIdeal.Conv

open Cert.FconvKernelIdeal Cert.FconvKernelIdeal.Gen
open Idx2 (emb_eq)

section
variable (b c h z : FVec Ideal S2048x128 .f32) (w0 w1 w2 bias : FVec Ideal S1x128 .f32)

/-- What the first half of a block stores. -/
theorem out_0 (r : Fin 2048) (l : Fin 128) {b' c' h' z' : Fin 2048 → EReal} (hb : col b l = b') (hc : col c l = c') (hh : col h l = h')
    (hz : col z l = z') {w0' w1' w2' bias' : EReal} (hw0 : w0 (ix2 0 l) = w0') (hw1 : w1 (ix2 0 l) = w1') (hw2 : w2 (ix2 0 l) = w2')
    (hbias : bias (ix2 0 l) = bias') :
    k0_pay5 (F := Ideal) (k0_pay2 z) (k0_pay3 c h w2 w1 w0 bias b) (k0_pay4 z) (ix2 r l) = _root_.Conv.out b' c' h' z' w0' w1' w2' bias' r := by
  rw [← hb, ← hc, ← hh, ← hz, ← hw0, ← hw1, ← hw2, ← hbias]
  pointwise [k0_pay5, k0_pay4, k0_pay3, k0_pay2, _root_.Conv.out, _root_.Conv.value, Taps.down, col]

/-- What the second half of a block stores. -/
theorem out_1 (r : Fin 2048) (l : Fin 128) {b' c' h' z' : Fin 2048 → EReal} (hb : col b l = b') (hc : col c l = c') (hh : col h l = h')
    (hz : col z l = z') {w0' w1' w2' bias' : EReal} (hw0 : w0 (ix2 0 l) = w0') (hw1 : w1 (ix2 0 l) = w1') (hw2 : w2 (ix2 0 l) = w2')
    (hbias : bias (ix2 0 l) = bias') :
    k0_pay1 (F := Ideal) (k0_pay6 z) (k0_pay7 c h w2 w1 w0 bias) b (ix2 r l) = _root_.Conv.out b' c' h' z' w0' w1' w2' bias' r := by
  rw [← hb, ← hc, ← hh, ← hz, ← hw0, ← hw1, ← hw2, ← hbias]
  pointwise [k0_pay1, k0_pay6, k0_pay7, _root_.Conv.out, _root_.Conv.value, Taps.down, col]
end

variable (m : (ℓ : Loc nD τ sig) → Buf (Elt Ideal) ℓ)

set_option maxHeartbeats 4000000 in
/-- The result after the run. -/
theorem final_3 (c : Dev nD) : (dats m 0 c).arrAt 3 (cfgs 0).N
    = _root_.Conv.mixed (inputs m c) (m ((c.tc : Thread nD τ).loc main_arg4)) (m ((c.tc : Thread nD τ).loc main_arg5))
        (m ((c.tc : Thread nD τ).loc main_arg6)) := by
  have hA := (dats m 0 c).arrAt_eq_of_coversWhere 3 (_root_.Conv.mixed (inputs m c) (m ((c.tc : Thread nD τ).loc main_arg4)) (m ((c.tc : Thread nD τ).loc main_arg5))
        (m ((c.tc : Thread nD τ).loc main_arg6)))
      (P := fun i => 4 ≤ (i (1 : Fin 2) : ℕ) / 256 ∧ (i (1 : Fin 2) : ℕ) / 256 < 8)
      (fun β => 4 ≤ β (1 : Fin 2) ∧ β (1 : Fin 2) < 8) (by decide +kernel) (fun t hf y => ?_)
      (fun j => Iff.rfl)
  · rw [hA]
    funext i
    by_cases hi : 4 ≤ (i (1 : Fin 2) : ℕ) / 256 ∧ (i (1 : Fin 2) : ℕ) / 256 < 8
    · exact if_pos hi
    · refine (if_neg hi).trans ?_
      have hl : (i (1 : Fin 2) : ℕ) < 2048 := (i 1).isLt
      unfold _root_.Conv.mixed
      rw [dif_neg (by omega)]
      rfl
  have ht := lt_4 t
  blk_simp; rw [after0_3]
  unfold outsAt0
  dsimp only; frame_out
  canon_tiles x h
  · idx_vars x
    obtain ⟨k, hk⟩ : ∃ k : Fin 1024, k.val = 256 * t.val + (128 + x1.val) := ⟨⟨256 * t.val + (128 + x1.val), by omega⟩, rfl⟩
    obtain ⟨n, hn⟩ : ∃ n : Fin 2048, n.val = 1024 + k.val := ⟨⟨1024 + k.val, by omega⟩, rfl⟩
    obtain ⟨e0, e1, e2, e3, t0, t1, t2, eb⟩ := cols_1 m c t x1 k hk
    refine (out_1 _ _ _ _ _ _ _ _ x0 x1 e0 e1 e2 e3 t0 t1 t2 eb).trans ?_
    rw [show ((View.whole main_v11).slice (win0_3.rect t)).emb y = ix2 x0 n from
      emb_eq _ _ _ (by blk_simp [idx t] at h0 ⊢ <;> omega) (by blk_simp [idx t] at h1 ⊢ <;> omega)]
    exact (_root_.Conv.mixed_at _ _ _ _ x0 n k hn).symm
  · idx_vars x
    obtain ⟨k, hk⟩ : ∃ k : Fin 1024, k.val = 256 * t.val + (0 + x1.val) := ⟨⟨256 * t.val + (0 + x1.val), by omega⟩, rfl⟩
    obtain ⟨n, hn⟩ : ∃ n : Fin 2048, n.val = 1024 + k.val := ⟨⟨1024 + k.val, by omega⟩, rfl⟩
    obtain ⟨e0, e1, e2, e3, t0, t1, t2, eb⟩ := cols_0 m c t x1 k hk
    refine (out_0 _ _ _ _ _ _ _ _ x0 x1 e0 e1 e2 e3 t0 t1 t2 eb).trans ?_
    rw [show ((View.whole main_v11).slice (win0_3.rect t)).emb y = ix2 x0 n from
      emb_eq _ _ _ (by blk_simp [idx t] at h0 ⊢ <;> omega) (by blk_simp [idx t] at h1 ⊢ <;> omega)]
    exact (_root_.Conv.mixed_at _ _ _ _ x0 n k hn).symm

end Cert.FconvKernelIdeal.Conv

namespace Cert.FconvReferenceIdeal.Conv

open Cert.FconvReferenceIdeal Cert.FconvReferenceIdeal.Gen
open Cert.FconvReferenceIdeal.Read
open _root_.Conv

variable (b c h z : FVec Ideal S2048x1024 .f32) (w : FVec Ideal S3x1024 .f32) (bias : FVec Ideal S1x1024 .f32)
  (M : FVec Ideal S2048x2048 .bf16)

/-- The convolution's input. -/
theorem v3_at (a : Fin 1) (r : Fin 2048) (k : Fin 1024) : val_main_v3 (F := Ideal) c h (ix3 a r k) = colOf c k r * colOf h k r := by
  pointwise [val_main_v3, val_main_v1, val_main_v2, colOf]

/-- The convolution's input two rows down. -/
theorem v6_at (a : Fin 1) (r : Fin 2048) (k : Fin 1024) : val_main_v6 (F := Ideal) c h (ix3 a r k)
    = Taps.down 2 (fun r => colOf c k r * colOf h k r) r := by
  rw [Taps.down_eq 2 (by omega)]
  pointwise [val_main_v6, val_main_v5, val_main_v4, val_main_cst]
  by_cases h2 : 2 ≤ r.val
  · rw [dif_neg (by omega), dif_pos h2]
    pointwise [v3_at]
  · rw [dif_pos (by omega), dif_neg h2]

/-- The convolution's input one row down. -/
theorem v14_at (a : Fin 1) (r : Fin 2048) (k : Fin 1024) : val_main_v14 (F := Ideal) c h (ix3 a r k)
    = Taps.down 1 (fun r => colOf c k r * colOf h k r) r := by
  rw [Taps.down_eq 1 (by omega)]
  pointwise [val_main_v14, val_main_v5, val_main_v4, val_main_cst]
  by_cases h2 : 1 ≤ r.val
  · rw [dif_neg (by omega), dif_pos h2]
    pointwise [v3_at]
    have e : 1 + r.val - 2 = r.val - 1 := by omega
    simp only [e]
  · rw [dif_pos (by omega), dif_neg h2]

/-- The convolution's input. -/
theorem v21_at (a : Fin 1) (r : Fin 2048) (k : Fin 1024) : val_main_v21 (F := Ideal) c h (ix3 a r k)
    = colOf c k r * colOf h k r := by
  pointwise [val_main_v21, val_main_v5, val_main_v4, val_main_cst]
  pointwise [v3_at]

/-- The convolution's value. -/
theorem v31_at (a : Fin 1) (r : Fin 2048) (k : Fin 1024) : val_main_v31 (F := Ideal) c h w bias (ix3 a r k)
    = value (colOf c k) (colOf h k) (w (ix2 0 k)) (w (ix2 1 k)) (w (ix2 2 k)) (bias (ix2 0 k)) r := by
  have e : value (colOf c k) (colOf h k) (w (ix2 0 k)) (w (ix2 1 k)) (w (ix2 2 k)) (bias (ix2 0 k)) r
      = Taps.down 2 (fun r => colOf c k r * colOf h k r) r * w (ix2 0 k)
        + Taps.down 1 (fun r => colOf c k r * colOf h k r) r * w (ix2 1 k)
        + (colOf c k r * colOf h k r) * w (ix2 2 k) + bias (ix2 0 k) := by
    unfold value
    ac_rfl
  rw [e]
  pointwise [val_main_v31, val_main_v30, val_main_v29, val_main_v28, val_main_v27, val_main_v26, val_main_v25, val_main_v24, val_main_v23, val_main_v22,
    v21_at, val_main_v20, val_main_v19, val_main_v18, val_main_v17, val_main_v16, val_main_v15, v14_at, val_main_v13, val_main_v12, val_main_cst_0,
    val_main_v11, val_main_v10, val_main_v9, val_main_v8, val_main_v7, v6_at]

/-- The gated value. -/
theorem v35_at (a : Fin 1) (r : Fin 2048) (k : Fin 1024) : val_main_v35 (F := Ideal) b c h z w bias (ix3 a r k)
    = out (colOf b k) (colOf c k) (colOf h k) (colOf z k) (w (ix2 0 k)) (w (ix2 1 k)) (w (ix2 2 k)) (bias (ix2 0 k)) r := by
  pointwise [val_main_v35, val_main_v34, val_main_v33, val_main_v32, v31_at, val_main_v0, val_main_call0_v5, val_main_call0_v4, val_main_call0_v3, val_main_call0_v2,
    val_main_call0_v1, val_main_call0_v0, val_main_call0_cst, val_main_call0_cst_0, Ideal.logistic, out]
  rfl

/-- The result, read at an index. -/
theorem v39_at (X : Fin 4 → FVec Ideal S2048x1024 .f32) (i : S2048x2048.Idx) :
    val_main_v39 (F := Ideal) (X 0) (X 1) (X 2) (X 3) w bias M i = mixed X w bias M i := by
  idx_vars i
  by_cases hi : i1.val < 1024
  · unfold mixed
    rw [dif_neg (show ¬ 1024 ≤ ((ix2 i0 i1 : (⟨2, ![2048, 2048]⟩ : Shape).Idx) 1).val from by change ¬ 1024 ≤ i1.val; omega)]
    pointwise [val_main_v39]
    rw [dif_pos hi]
    pointwise [val_main_v38]
  · have hl := i1.isLt
    obtain ⟨k, hk⟩ : ∃ k : Fin 1024, i1.val = 1024 + k.val := ⟨⟨i1.val - 1024, by omega⟩, by simp; omega⟩
    rw [mixed_at X w bias M i0 i1 k hk]
    pointwise [val_main_v39]
    rw [dif_neg hi]
    have e : i1.val - 1024 = k.val := by omega
    simp only [e]
    pointwise [val_main_v37, val_main_v36, v35_at]

end Cert.FconvReferenceIdeal.Conv

namespace Cert.FconvPair

open Cert.FconvReferenceIdeal.Read

variable (m : (ℓ : Loc Cert.FconvKernelIdeal.nD Cert.FconvKernelIdeal.τ Cert.FconvKernelIdeal.sig) → Buf (Elt Ideal) ℓ) (c : Dev Cert.FconvKernelIdeal.nD)

/-- The seven arguments. -/
abbrev argB := m ((c.tc : Thread Cert.FconvKernelIdeal.nD Cert.FconvKernelIdeal.τ).loc Cert.FconvKernelIdeal.main_arg0)
abbrev argC := m ((c.tc : Thread Cert.FconvKernelIdeal.nD Cert.FconvKernelIdeal.τ).loc Cert.FconvKernelIdeal.main_arg1)
abbrev argH := m ((c.tc : Thread Cert.FconvKernelIdeal.nD Cert.FconvKernelIdeal.τ).loc Cert.FconvKernelIdeal.main_arg2)
abbrev argZ := m ((c.tc : Thread Cert.FconvKernelIdeal.nD Cert.FconvKernelIdeal.τ).loc Cert.FconvKernelIdeal.main_arg3)
abbrev argW := m ((c.tc : Thread Cert.FconvKernelIdeal.nD Cert.FconvKernelIdeal.τ).loc Cert.FconvKernelIdeal.main_arg4)
abbrev argBias := m ((c.tc : Thread Cert.FconvKernelIdeal.nD Cert.FconvKernelIdeal.τ).loc Cert.FconvKernelIdeal.main_arg5)
abbrev argM := m ((c.tc : Thread Cert.FconvKernelIdeal.nD Cert.FconvKernelIdeal.τ).loc Cert.FconvKernelIdeal.main_arg6)

/-- The result. -/
theorem eq_M : (Cert.FconvKernelIdeal.Gen.dats m 0 c).arrAt 3 Cert.FconvKernelIdeal.cfg0.N
    = val_main_v39 (F := Ideal) (argB m c) (argC m c) (argH m c) (argZ m c) (argW m c) (argBias m c) (argM m c) :=
  (Cert.FconvKernelIdeal.Conv.final_3 m c).trans (funext fun i =>
    (Cert.FconvReferenceIdeal.Conv.v39_at (argW m c) (argBias m c) (argM m c) (Cert.FconvKernelIdeal.Conv.inputs m c) i).symm)

set_option maxHeartbeats 1600000 in
/-- The pair's claim. -/
theorem algebraic : algebraic_FconvKernelIdeal_FconvReferenceIdeal := by
  intro m g m' g' hpre hargs
  refine ⟨fun c => val_main_v39 (F := Ideal) (argB m c) (argC m c) (argH m c) (argZ m c) (argW m c) (argBias m c) (argM m c), ?_, ?_⟩
  · refine (θ_run _ _ _).mono (fun r h c => ?_) (Cert.FconvKernelIdeal.Value.run_blocks m g)
    obtain ⟨h3, a0, a1, a2, a3, a4, a5, a6⟩ := h c
    exact ⟨h3.trans (eq_M m c), a0, a1, a2, a3, a4, a5, a6⟩
  · refine (θ_run _ _ _).mono (fun r h c => ?_) (Cert.FconvReferenceIdeal.Value.run m' g')
    obtain ⟨h3, a0, a1, a2, a3, a4, a5, a6⟩ := h c
    obtain ⟨e0, e1, e2, e3, e4, e5, e6⟩ := hargs c
    rw [val_main_v39_eq, e0, e1, e2, e3, e4, e5, e6] at h3
    exact ⟨h3, a0, a1, a2, a3, a4, a5, a6⟩

end Cert.FconvPair

end
-- ==== Proof.FqkvKernel.lean ====
module

public import proofs.«01_k».proof.Proof.Gen.FqkvKernelIdeal.Frame
public import proofs.«01_k».proof.Proof.QkvForms
public import proofs.«01_k».proof.Proof.Idx2
public import Idealize.ShloMosaic.Lib.Pipeline.ValueKit

/-!
The blocks the forward kernel of the queries, keys and values reads, as heads of its arguments, and what it stores.
-/

@[expose] public section

set_option maxRecDepth 16384

noncomputable section

open Idealize.ShloMosaic Idealize.ShloMosaic.TcCoe Idealize.SL.Sem
open Idealize.ShloMosaic.Pipeline (Dat)
open scoped BigOperators

namespace Qkv

/-- What a head stores: the activation, normalised and scaled where the flag `f` says so. -/
def out (s : EReal) (f : BitVec 1) (W : Fin 4 → Fin 128 → EReal) (X : Fin 128 → Fin 2048 → EReal) (l : Fin 128) (r : Fin 2048) : EReal :=
  Scalar.select f (act W X l r * rn W X r * s) (act W X l r)

/-- The heads side by side. -/
def res (A : (⟨2, ![2048, 3072]⟩ : Shape).Idx → EReal) (T : (⟨2, ![4, 3072]⟩ : Shape).Idx → EReal) (i : (⟨2, ![2048, 3072]⟩ : Shape).Idx) : EReal :=
  (fun h : Fin 24 => out (scale h) (flag h) (tapsOf T h) (headOf A h))
    ⟨(i 1).val / 128, by have := (i 1).isLt; change (i 1).val < 3072 at this; omega⟩ ⟨(i 1).val % 128, Nat.mod_lt _ (by decide)⟩ (i 0)

/-- The result at a lane of a head. -/
theorem res_at (A : (⟨2, ![2048, 3072]⟩ : Shape).Idx → EReal) (T : (⟨2, ![4, 3072]⟩ : Shape).Idx → EReal) (r : Fin 2048) (n : Fin 3072)
    (h : Fin 24) (l : Fin 128) (hn : n.val = 128 * h.val + l.val) :
    res A T (ix2 r n) = out (scale h) (flag h) (tapsOf T h) (headOf A h) l r := by
  have hl := l.isLt
  have hh := h.isLt
  have e1 : n.val / 128 = h.val := by omega
  have e2 : n.val % 128 = l.val := by omega
  exact congrArg₂ (fun (a : Fin 24) b => out (scale a) (flag a) (tapsOf T a) (headOf A a) b r) (Fin.ext e1) (Fin.ext e2)

end Qkv

namespace Cert.FqkvKernelIdeal.Qkv

open Cert.FqkvKernelIdeal Cert.FqkvKernelIdeal.Gen
open _root_.Qkv
open Idx2 (emb_eq)

/-- The lanes of a block of 128, by lane and row. -/
def lanes (X : FVec Ideal S2048x128 .f32) (l : Fin 128) (r : Fin 2048) : EReal := X (ix2 r l)

/-- The four taps' lanes. -/
def taps (w0 w1 w2 w3 : FVec Ideal S1x128 .f32) (q : Fin 4) (l : Fin 128) : EReal :=
  match q with
  | 0 => w0 (ix2 0 l)
  | 1 => w1 (ix2 0 l)
  | 2 => w2 (ix2 0 l)
  | 3 => w3 (ix2 0 l)

section
variable (a : BitVec 32) (v : Ideal .f32) (x : FVec Ideal S2048x128 .f32) (w0 w1 w2 w3 : FVec Ideal S1x128 .f32)

/-- What head 0 of a block stores. -/
theorem out_0 (r : Fin 2048) (l : Fin 128) {s' : EReal} (hs : v = s') {f' : BitVec 1} (hf : IntOp.cmpi .slt a 4#32 = f')
    {W' : Fin 4 → Fin 128 → EReal} (hw : taps w0 w1 w2 w3 = W') {X' : Fin 128 → Fin 2048 → EReal} (hx : lanes x = X') :
    k0_pay4 (F := Ideal) a v (k0_pay3 x w3 w2 w1 w0) (ix2 r l)
      = out s' f' W' X' l r := by
  rw [← hs, ← hf, ← hw, ← hx]
  pointwise [k0_pay4, k0_pay3, out, rn, ms, act, value, Taps.down, lanes, taps]
  rfl

/-- What head 1 of a block stores. -/
theorem out_1 (r : Fin 2048) (l : Fin 128) {s' : EReal} (hs : v = s') {f' : BitVec 1} (hf : IntOp.cmpi .slt a 4#32 = f')
    {W' : Fin 4 → Fin 128 → EReal} (hw : taps w0 w1 w2 w3 = W') {X' : Fin 128 → Fin 2048 → EReal} (hx : lanes x = X') :
    k0_pay7 (F := Ideal) a v (k0_pay5 x) (k0_pay6 x w3 w2 w1) w0 (ix2 r l)
      = out s' f' W' X' l r := by
  rw [← hs, ← hf, ← hw, ← hx]
  pointwise [k0_pay7, k0_pay6, k0_pay5, out, rn, ms, act, value, Taps.down, lanes, taps]
  rfl

/-- What head 2 of a block stores. -/
theorem out_2 (r : Fin 2048) (l : Fin 128) {s' : EReal} (hs : v = s') {f' : BitVec 1} (hf : IntOp.cmpi .slt a 4#32 = f')
    {W' : Fin 4 → Fin 128 → EReal} (hw : taps w0 w1 w2 w3 = W') {X' : Fin 128 → Fin 2048 → EReal} (hx : lanes x = X') :
    k0_pay10 (F := Ideal) a v (k0_pay8 x) (k0_pay9 x w3 w2) w1 w0 (ix2 r l)
      = out s' f' W' X' l r := by
  rw [← hs, ← hf, ← hw, ← hx]
  pointwise [k0_pay10, k0_pay9, k0_pay8, out, rn, ms, act, value, Taps.down, lanes, taps]
  rfl

/-- What head 3 of a block stores. -/
theorem out_3 (r : Fin 2048) (l : Fin 128) {s' : EReal} (hs : v = s') {f' : BitVec 1} (hf : IntOp.cmpi .slt a 4#32 = f')
    {W' : Fin 4 → Fin 128 → EReal} (hw : taps w0 w1 w2 w3 = W') {X' : Fin 128 → Fin 2048 → EReal} (hx : lanes x = X') :
    k0_pay1 (F := Ideal) (k0_pay13 (k0_pay11 x) (k0_pay12 x w3) w2 w1 w0) (Scalar.cmpi .slt a 4#32) (k0_pay14 (k0_pay11 x) (k0_pay12 x w3) w2 w1 w0) (k0_pay15 v) (ix2 r l)
      = out s' f' W' X' l r := by
  rw [← hs, ← hf, ← hw, ← hx]
  pointwise [k0_pay1, k0_pay15, k0_pay14, k0_pay13, k0_pay12, k0_pay11, out, rn, ms, act, value, Taps.down, lanes, taps]
  rfl

end

variable (m : (ℓ : Loc nD τ sig) → Buf (Elt Ideal) ℓ)

/-- The projection the host lays out holds the input in its first columns. -/
theorem proj_at (c : Dev nD) (r : Fin 2048) (n : Fin 8448) (k : Fin 3072) (h : k.val = n.val) :
    V m c main_v0 (ix2 r n) = m ((c.tc : Thread nD τ).loc main_arg0) (ix2 r k) := by
  rw [show k = ⟨n.val, by omega⟩ from Fin.ext h]
  unfold V
  simp only [hostOps0, hostOps0_1, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]

/-- The block each window holds at a grid point, and the point's coordinate. -/
theorem idx : ∀ t : Fin cfg0.N, win0_0.index t = ![0, t.val]
    ∧ win0_1.index t = ![0, t.val]
    ∧ win0_2.index t = ![0, t.val]
    ∧ (grid0.coords t 0).val = t.val :=
  (by decide +kernel : ∀ t : Fin grid0.N, _)

theorem lt_6 (t : Fin cfg0.N) : t.val < 6 := lt_of_lt_of_eq t.isLt N_0

/-- The projection's block at a grid point. -/
theorem X0_at (c : Dev nD) (t : Fin cfg0.N) (j : S2048x512.Idx) : X0_0 m c t j
    = V m c main_v0 (ix2 (j 0) ⟨512 * t.val + (j 1).val, by
        have := (j 1).isLt; have := lt_6 t; change (j 1).val < 512 at *; omega⟩) := by
  unfold X0_0 Pipeline.Window.fill
  rw [dif_pos (moved0_0 t j)]
  unfold iblk
  blk_point [iblk, V, idx t]

/-- A head loaded from the projection's block is a head of the input. -/
theorem head_x (c : Dev nD) (t : Fin cfg0.N) (a : ℕ) (hb) (h : Fin 24) (ha : 512 * t.val + a = 128 * h.val) (h2 : a ≤ 384) :
    lanes (View.ld (X0_0 m c t) (Rect.unit ![0, a] ![2048, 128] hb)) = headOf (m ((c.tc : Thread nD τ).loc main_arg0)) h := by
  have ht := lt_6 t
  funext l r
  have hl := l.isLt
  unfold lanes headOf
  refine (View.ld_unit_apply_of (S := S2048x512) (X0_0 m c t) ![0, a] ![2048, 128] hb (ix2 r l) (ix2 r ⟨a + l.val, by omega⟩)
    (by intro q; fin_cases q <;> simp)).trans ?_
  exact (X0_at m c t _).trans (proj_at m c r ⟨512 * t.val + (a + l.val), by omega⟩ _ (show 128 * h.val + l.val = _ by dsimp only; omega))

/-- A lane loaded from the taps' block. -/
theorem tap_at (c : Dev nD) (t : Fin cfg0.N) (n : ℕ) (q : Fin 4) (a : ℕ) (hb) (l : Fin 128) (h : Fin 24)
    (ha : 512 * t.val + a = 128 * h.val) (h2 : a ≤ 384) (hq : q.val = n) :
    View.ld (iblk m c 1 t) (Rect.unit ![n, a] ![1, 128] hb) (ix2 (0 : Fin 1) l)
      = tapsOf (m ((c.tc : Thread nD τ).loc main_arg1)) h q l := by
  have ht := lt_6 t
  have hl := l.isLt
  unfold tapsOf
  refine (View.ld_unit_apply_of (S := S4x512) (iblk m c 1 t) ![n, a] ![1, 128] hb (ix2 (0 : Fin 1) l) (ix2 q ⟨a + l.val, by omega⟩)
    (by intro q; fin_cases q <;> simp [hq])).trans ?_
  simp only [← ha, Nat.add_assoc]
  blk_point [iblk, V, idx t]

/-- The flags and scales by blocks of four heads. -/
theorem flags : ∀ h : Fin 24, IntOp.cmpi .slt (BitVec.ofNat 32 (h.val / 2)) 4#32 = IntOp.cmpi .slt (BitVec.ofNat 32 (h.val / 4)) 2#32
    ∧ IntOp.cmpi .slt (BitVec.ofNat 32 (h.val / 2)) 8#32 = IntOp.cmpi .slt (BitVec.ofNat 32 (h.val / 4)) 4#32 := by decide

/-- The scale and flag of a head of a block. -/
theorem reads (t : Fin cfg0.N) (h : Fin 24) (hh : h.val / 4 = t.val) :
    k0_pay2 (F := Ideal) (grid0.coords t) = scale h
    ∧ IntOp.cmpi .slt (BitVec.ofNat 32 (grid0.coords t 0).val) 4#32 = flag h := by
  have e : h.val / 4 = (grid0.coords t 0).val := by rw [(idx t).2.2.2]; exact hh
  obtain ⟨f2, f4⟩ := flags h
  refine ⟨?_, by rw [flag, f4, e]⟩
  rw [scale, f2, e]
  pointwise [k0_pay2]
  rfl

/-- The taps head 0 of a block reads. -/
theorem taps_0 (c : Dev nD) (t : Fin cfg0.N) (h : Fin 24) (hh : h.val = 4 * t.val + 0) :
    taps (View.ld (iblk m c 1 t) (Rect.unit ![0, 0] ![1, 128] inb_S4x512_S1x128_0_0))
        (View.ld (iblk m c 1 t) (Rect.unit ![1, 0] ![1, 128] inb_S4x512_S1x128_1_0))
        (View.ld (iblk m c 1 t) (Rect.unit ![2, 0] ![1, 128] inb_S4x512_S1x128_2_0))
        (View.ld (iblk m c 1 t) (Rect.unit ![3, 0] ![1, 128] inb_S4x512_S1x128_3_0)) = tapsOf (m ((c.tc : Thread nD τ).loc main_arg1)) h := by
  funext q l
  fin_cases q
  · exact tap_at m c t 0 0 0 _ l h (by omega) (by omega) rfl
  · exact tap_at m c t 1 1 0 _ l h (by omega) (by omega) rfl
  · exact tap_at m c t 2 2 0 _ l h (by omega) (by omega) rfl
  · exact tap_at m c t 3 3 0 _ l h (by omega) (by omega) rfl

/-- The taps head 1 of a block reads. -/
theorem taps_1 (c : Dev nD) (t : Fin cfg0.N) (h : Fin 24) (hh : h.val = 4 * t.val + 1) :
    taps (View.ld (iblk m c 1 t) (Rect.unit ![0, 128] ![1, 128] inb_S4x512_S1x128_0_128))
        (View.ld (iblk m c 1 t) (Rect.unit ![1, 128] ![1, 128] inb_S4x512_S1x128_1_128))
        (View.ld (iblk m c 1 t) (Rect.unit ![2, 128] ![1, 128] inb_S4x512_S1x128_2_128))
        (View.ld (iblk m c 1 t) (Rect.unit ![3, 128] ![1, 128] inb_S4x512_S1x128_3_128)) = tapsOf (m ((c.tc : Thread nD τ).loc main_arg1)) h := by
  funext q l
  fin_cases q
  · exact tap_at m c t 0 0 128 _ l h (by omega) (by omega) rfl
  · exact tap_at m c t 1 1 128 _ l h (by omega) (by omega) rfl
  · exact tap_at m c t 2 2 128 _ l h (by omega) (by omega) rfl
  · exact tap_at m c t 3 3 128 _ l h (by omega) (by omega) rfl

/-- The taps head 2 of a block reads. -/
theorem taps_2 (c : Dev nD) (t : Fin cfg0.N) (h : Fin 24) (hh : h.val = 4 * t.val + 2) :
    taps (View.ld (iblk m c 1 t) (Rect.unit ![0, 256] ![1, 128] inb_S4x512_S1x128_0_256))
        (View.ld (iblk m c 1 t) (Rect.unit ![1, 256] ![1, 128] inb_S4x512_S1x128_1_256))
        (View.ld (iblk m c 1 t) (Rect.unit ![2, 256] ![1, 128] inb_S4x512_S1x128_2_256))
        (View.ld (iblk m c 1 t) (Rect.unit ![3, 256] ![1, 128] inb_S4x512_S1x128_3_256)) = tapsOf (m ((c.tc : Thread nD τ).loc main_arg1)) h := by
  funext q l
  fin_cases q
  · exact tap_at m c t 0 0 256 _ l h (by omega) (by omega) rfl
  · exact tap_at m c t 1 1 256 _ l h (by omega) (by omega) rfl
  · exact tap_at m c t 2 2 256 _ l h (by omega) (by omega) rfl
  · exact tap_at m c t 3 3 256 _ l h (by omega) (by omega) rfl

/-- The taps head 3 of a block reads. -/
theorem taps_3 (c : Dev nD) (t : Fin cfg0.N) (h : Fin 24) (hh : h.val = 4 * t.val + 3) :
    taps (View.ld (iblk m c 1 t) (Rect.unit ![0, 384] ![1, 128] inb_S4x512_S1x128_0_384))
        (View.ld (iblk m c 1 t) (Rect.unit ![1, 384] ![1, 128] inb_S4x512_S1x128_1_384))
        (View.ld (iblk m c 1 t) (Rect.unit ![2, 384] ![1, 128] inb_S4x512_S1x128_2_384))
        (View.ld (iblk m c 1 t) (Rect.unit ![3, 384] ![1, 128] inb_S4x512_S1x128_3_384)) = tapsOf (m ((c.tc : Thread nD τ).loc main_arg1)) h := by
  funext q l
  fin_cases q
  · exact tap_at m c t 0 0 384 _ l h (by omega) (by omega) rfl
  · exact tap_at m c t 1 1 384 _ l h (by omega) (by omega) rfl
  · exact tap_at m c t 2 2 384 _ l h (by omega) (by omega) rfl
  · exact tap_at m c t 3 3 384 _ l h (by omega) (by omega) rfl

set_option maxHeartbeats 2000000 in
/-- The result after the run. -/
theorem final_2 (c : Dev nD) : (dats m 0 c).arrAt 2 (cfgs 0).N
    = res (m ((c.tc : Thread nD τ).loc main_arg0)) (m ((c.tc : Thread nD τ).loc main_arg1)) := by
  refine (dats m 0 c).arrAt_eq_of_covers 2 _ (by decide +kernel) fun t hf y => ?_
  have ht := lt_6 t
  blk_simp; rw [after0_2]
  unfold outsAt0
  dsimp only; frame_out
  canon_tiles x h
  · idx_vars x
    obtain ⟨k, hk⟩ : ∃ k : Fin 24, k.val = 4 * t.val + 3 := ⟨⟨4 * t.val + 3, by omega⟩, rfl⟩
    obtain ⟨n, hn⟩ : ∃ n : Fin 3072, n.val = 512 * t.val + (384 + x1.val) := ⟨⟨512 * t.val + (384 + x1.val), by omega⟩, rfl⟩
    obtain ⟨hs, hf⟩ := reads t k (by omega)
    refine (out_3 _ _ _ _ _ _ _ x0 x1 hs hf (taps_3 m c t k hk) (head_x m c t 384 _ k (by omega) (by omega))).trans ?_
    rw [show ((View.whole main_v1).slice (win0_2.rect t)).emb y = ix2 x0 n from
      emb_eq _ _ _ (by blk_simp [idx t] at h0 ⊢ <;> omega) (by blk_simp [idx t] at h1 ⊢ <;> omega)]
    exact (res_at _ _ x0 n k x1 (by omega)).symm
  · idx_vars x
    obtain ⟨k, hk⟩ : ∃ k : Fin 24, k.val = 4 * t.val + 2 := ⟨⟨4 * t.val + 2, by omega⟩, rfl⟩
    obtain ⟨n, hn⟩ : ∃ n : Fin 3072, n.val = 512 * t.val + (256 + x1.val) := ⟨⟨512 * t.val + (256 + x1.val), by omega⟩, rfl⟩
    obtain ⟨hs, hf⟩ := reads t k (by omega)
    refine (out_2 _ _ _ _ _ _ _ x0 x1 hs hf (taps_2 m c t k hk) (head_x m c t 256 _ k (by omega) (by omega))).trans ?_
    rw [show ((View.whole main_v1).slice (win0_2.rect t)).emb y = ix2 x0 n from
      emb_eq _ _ _ (by blk_simp [idx t] at h0 ⊢ <;> omega) (by blk_simp [idx t] at h1 ⊢ <;> omega)]
    exact (res_at _ _ x0 n k x1 (by omega)).symm
  · idx_vars x
    obtain ⟨k, hk⟩ : ∃ k : Fin 24, k.val = 4 * t.val + 1 := ⟨⟨4 * t.val + 1, by omega⟩, rfl⟩
    obtain ⟨n, hn⟩ : ∃ n : Fin 3072, n.val = 512 * t.val + (128 + x1.val) := ⟨⟨512 * t.val + (128 + x1.val), by omega⟩, rfl⟩
    obtain ⟨hs, hf⟩ := reads t k (by omega)
    refine (out_1 _ _ _ _ _ _ _ x0 x1 hs hf (taps_1 m c t k hk) (head_x m c t 128 _ k (by omega) (by omega))).trans ?_
    rw [show ((View.whole main_v1).slice (win0_2.rect t)).emb y = ix2 x0 n from
      emb_eq _ _ _ (by blk_simp [idx t] at h0 ⊢ <;> omega) (by blk_simp [idx t] at h1 ⊢ <;> omega)]
    exact (res_at _ _ x0 n k x1 (by omega)).symm
  · idx_vars x
    obtain ⟨k, hk⟩ : ∃ k : Fin 24, k.val = 4 * t.val + 0 := ⟨⟨4 * t.val + 0, by omega⟩, rfl⟩
    obtain ⟨n, hn⟩ : ∃ n : Fin 3072, n.val = 512 * t.val + (0 + x1.val) := ⟨⟨512 * t.val + (0 + x1.val), by omega⟩, rfl⟩
    obtain ⟨hs, hf⟩ := reads t k (by omega)
    refine (out_0 _ _ _ _ _ _ _ x0 x1 hs hf (taps_0 m c t k hk) (head_x m c t 0 _ k (by omega) (by omega))).trans ?_
    rw [show ((View.whole main_v1).slice (win0_2.rect t)).emb y = ix2 x0 n from
      emb_eq _ _ _ (by blk_simp [idx t] at h0 ⊢ <;> omega) (by blk_simp [idx t] at h1 ⊢ <;> omega)]
    exact (res_at _ _ x0 n k x1 (by omega)).symm

end Cert.FqkvKernelIdeal.Qkv

end
-- ==== Proof.FqkvPair.lean ====
module

public import proofs.«01_k».proof.Defs
public import proofs.«01_k».proof.Proof.Gen.FqkvKernelIdeal.Value
public import proofs.«01_k».proof.Proof.Gen.FqkvReferenceIdeal.Read
public import proofs.«01_k».proof.Proof.FqkvKernel
public import Idealize.ShloMosaic.Lib.Claim

/-!
The forward call of the queries, keys and values computes its reference's columns.
-/

@[expose] public section

set_option maxRecDepth 16384

noncomputable section

open Idealize.ShloMosaic Idealize.ShloMosaic.TcCoe Idealize.SL.Sem
open scoped BigOperators

namespace Cert.FqkvReferenceIdeal.Qkv

open Cert.FqkvReferenceIdeal Cert.FqkvReferenceIdeal.Gen
open Cert.FqkvReferenceIdeal.Read
open _root_.Qkv

variable (x : FVec Ideal S2048x3072 .f32) (w : FVec Ideal S4x3072 .f32)

/-- Lane `l` of head `h`, as a column. -/
abbrev chan (h : Fin 24) (l : Fin 128) : Fin 3072 := ⟨128 * h.val + l.val, by omega⟩

/-- The input 3 rows down. -/
theorem v3_at (a : Fin 1) (r : Fin 2048) (h : Fin 24) (l : Fin 128) : val_main_v3 (F := Ideal) x (ix3 a r (chan h l))
    = Taps.down 3 (headOf x h l) r := by
  rw [Taps.down_eq 3 (by omega)]
  pointwise [val_main_v3, val_main_v2, val_main_v1, val_main_cst]
  by_cases h2 : 3 ≤ r.val
  · rw [dif_neg (by omega), dif_pos h2]
    pointwise [val_main_v0, headOf]
  · rw [dif_pos (by omega), dif_neg h2]

/-- The input 2 rows down. -/
theorem v11_at (a : Fin 1) (r : Fin 2048) (h : Fin 24) (l : Fin 128) : val_main_v11 (F := Ideal) x (ix3 a r (chan h l))
    = Taps.down 2 (headOf x h l) r := by
  rw [Taps.down_eq 2 (by omega)]
  pointwise [val_main_v11, val_main_v2, val_main_v1, val_main_cst]
  by_cases h2 : 2 ≤ r.val
  · rw [dif_neg (by omega), dif_pos h2]
    pointwise [val_main_v0, headOf]
    have e : 1 + r.val - 3 = r.val - 2 := by omega
    simp only [e]
  · rw [dif_pos (by omega), dif_neg h2]

/-- The input 1 rows down. -/
theorem v18_at (a : Fin 1) (r : Fin 2048) (h : Fin 24) (l : Fin 128) : val_main_v18 (F := Ideal) x (ix3 a r (chan h l))
    = Taps.down 1 (headOf x h l) r := by
  rw [Taps.down_eq 1 (by omega)]
  pointwise [val_main_v18, val_main_v2, val_main_v1, val_main_cst]
  by_cases h2 : 1 ≤ r.val
  · rw [dif_neg (by omega), dif_pos h2]
    pointwise [val_main_v0, headOf]
    have e : 2 + r.val - 3 = r.val - 1 := by omega
    simp only [e]
  · rw [dif_pos (by omega), dif_neg h2]

/-- The input. -/
theorem v25_at (a : Fin 1) (r : Fin 2048) (h : Fin 24) (l : Fin 128) : val_main_v25 (F := Ideal) x (ix3 a r (chan h l))
    = headOf x h l r := by
  pointwise [val_main_v25, val_main_v2, val_main_v1, val_main_cst]
  pointwise [val_main_v0, headOf]

/-- The convolution's value. -/
theorem v31_at (a : Fin 1) (r : Fin 2048) (h : Fin 24) (l : Fin 128) : val_main_v31 (F := Ideal) x w (ix3 a r (chan h l))
    = value (tapsOf w h) (headOf x h) l r := by
  have e : value (tapsOf w h) (headOf x h) l r
      = Taps.down 3 (headOf x h l) r * tapsOf w h 0 l + Taps.down 2 (headOf x h l) r * tapsOf w h 1 l
        + Taps.down 1 (headOf x h l) r * tapsOf w h 2 l + headOf x h l r * tapsOf w h 3 l := by
    unfold value
    ac_rfl
  rw [e]
  pointwise [val_main_v31, val_main_v30, val_main_v29, val_main_v28, val_main_v27, val_main_v26, v25_at, val_main_v24, val_main_v23,
    val_main_v22, val_main_v21, val_main_v20, val_main_v19, v18_at, val_main_v17, val_main_v16, val_main_v15, val_main_v14, val_main_v13,
    val_main_v12, v11_at, val_main_v10, val_main_v9, val_main_cst_0, val_main_v8, val_main_v7, val_main_v6, val_main_v5, val_main_v4, v3_at, tapsOf]

/-- The activation. -/
theorem v32_at (a : Fin 1) (r : Fin 2048) (n : Fin 3072) (h : Fin 24) (l : Fin 128) (hn : n.val = 128 * h.val + l.val) :
    val_main_v32 (F := Ideal) x w (ix3 a r n) = act (tapsOf w h) (headOf x h) l r := by
  rw [show n = chan h l from Fin.ext hn]
  pointwise [val_main_v32, val_main_call0_v5, val_main_call0_v4, val_main_call0_v3, val_main_call0_v2, val_main_call0_v1, val_main_call0_v0,
    val_main_call0_cst, val_main_call0_cst_0, v31_at, Ideal.logistic, act]

/-- The activation of a query. -/
theorem v36_at (a : Fin 1) (r : Fin 2048) (b : Fin 8) (l : Fin 128) (h : Fin 24) (hh : h.val = b.val + 0) :
    val_main_v36 (F := Ideal) x w (ix4 a r b l) = act (tapsOf w h) (headOf x h) l r := by
  have hl := l.isLt
  have hb := b.isLt
  pointwise [val_main_v36, val_main_v33]
  exact v32_at x w 0 r ⟨b.val * 128 + l.val, by omega⟩ h l (show b.val * 128 + l.val = 128 * h.val + l.val by omega)

/-- The reciprocal root of a query. -/
theorem v42_at (a : Fin 1) (r : Fin 2048) (b : Fin 8) (o : Fin 1) (h : Fin 24) (hh : h.val = b.val + 0) :
    val_main_v42 (F := Ideal) x w (ix4 a r b o) = rn (tapsOf w h) (headOf x h) r := by
  pointwise [val_main_v42, val_main_v41, val_main_v39, val_main_v40, val_main_cst_2, val_main_v38, val_main_v37, val_main_cst_1]
  simp only [v36_at x w _ _ _ _ h hh]
  rw [rn, ms]

/-- The activation of a key. -/
theorem v47_at (a : Fin 1) (r : Fin 2048) (b : Fin 8) (l : Fin 128) (h : Fin 24) (hh : h.val = b.val + 8) :
    val_main_v47 (F := Ideal) x w (ix4 a r b l) = act (tapsOf w h) (headOf x h) l r := by
  have hl := l.isLt
  have hb := b.isLt
  pointwise [val_main_v47, val_main_v34]
  exact v32_at x w 0 r ⟨1024 + (b.val * 128 + l.val), by omega⟩ h l (show 1024 + (b.val * 128 + l.val) = 128 * h.val + l.val by omega)

/-- The reciprocal root of a key. -/
theorem v53_at (a : Fin 1) (r : Fin 2048) (b : Fin 8) (o : Fin 1) (h : Fin 24) (hh : h.val = b.val + 8) :
    val_main_v53 (F := Ideal) x w (ix4 a r b o) = rn (tapsOf w h) (headOf x h) r := by
  pointwise [val_main_v53, val_main_v52, val_main_v50, val_main_v51, val_main_cst_5, val_main_v49, val_main_v48, val_main_cst_4]
  simp only [v47_at x w _ _ _ _ h hh]
  rw [rn, ms]

/-- The activation of a value. -/
theorem v56_at (a : Fin 1) (r : Fin 2048) (b : Fin 8) (l : Fin 128) (h : Fin 24) (hh : h.val = b.val + 16) :
    val_main_v56 (F := Ideal) x w (ix4 a r b l) = act (tapsOf w h) (headOf x h) l r := by
  have hl := l.isLt
  have hb := b.isLt
  pointwise [val_main_v56, val_main_v35]
  exact v32_at x w 0 r ⟨2048 + (b.val * 128 + l.val), by omega⟩ h l (show 2048 + (b.val * 128 + l.val) = 128 * h.val + l.val by omega)

/-- The scales and flags: the first eight heads are scaled, the first sixteen normalised. -/
theorem heads : ∀ h : Fin 24, IntOp.cmpi .slt (BitVec.ofNat 32 (h.val / 2)) 4#32 = (if h.val < 8 then 1#1 else 0#1)
    ∧ IntOp.cmpi .slt (BitVec.ofNat 32 (h.val / 2)) 8#32 = (if h.val < 16 then 1#1 else 0#1) := by decide

/-- The queries' columns. -/
theorem v57_at (r : Fin 2048) (n : Fin 1024) (h : Fin 24) (l : Fin 128) (hh : h.val < 8) (hn : n.val = 128 * h.val + l.val) :
    val_main_v57 (F := Ideal) x w (ix2 r n) = out (scale h) (flag h) (tapsOf w h) (headOf x h) l r := by
  have hl := l.isLt
  obtain ⟨b, hb⟩ : ∃ b : Fin 8, h.val = b.val + 0 := ⟨⟨h.val, hh⟩, rfl⟩
  have e1 : n.val / 128 = b.val := by omega
  have e2 : n.val % 128 = l.val := by omega
  have e3 : n.val / 1024 = 0 := by omega
  rw [out, scale, flag, (heads h).1, (heads h).2, if_pos hh, if_pos (show h.val < 16 by omega)]
  pointwise [val_main_v57, val_main_v46, val_main_v45, val_main_cst_3, val_main_v44, val_main_v43]
  simp only [e1, e2]
  exact congrArg₂ (fun (p q : EReal) => p * q * Ideal.ofBits .f32 0x3DB504F3#32) (v36_at x w _ r b l h hb) (v42_at x w _ r b _ h hb)

/-- The keys' columns. -/
theorem v58_at (r : Fin 2048) (n : Fin 1024) (h : Fin 24) (l : Fin 128) (h8 : 8 ≤ h.val) (hh : h.val < 16) (hn : 1024 + n.val = 128 * h.val + l.val) :
    val_main_v58 (F := Ideal) x w (ix2 r n) = out (scale h) (flag h) (tapsOf w h) (headOf x h) l r := by
  have hl := l.isLt
  obtain ⟨b, hb⟩ : ∃ b : Fin 8, h.val = b.val + 8 := ⟨⟨h.val - 8, by omega⟩, by simp; omega⟩
  have e1 : n.val / 128 = b.val := by omega
  have e2 : n.val % 128 = l.val := by omega
  rw [out, scale, flag, (heads h).1, (heads h).2, if_neg (show ¬ h.val < 8 by omega), if_pos (show h.val < 16 by omega)]
  refine Eq.trans ?_ (mul_one (M := EReal) _).symm
  pointwise [val_main_v58, val_main_v55, val_main_v54]
  simp only [e1, e2]
  exact congrArg₂ (fun (p q : EReal) => p * q) (v47_at x w _ r b l h hb) (v53_at x w _ r b _ h hb)

/-- The values' columns. -/
theorem v59_at (r : Fin 2048) (n : Fin 1024) (h : Fin 24) (l : Fin 128) (hh : 16 ≤ h.val) (hn : 2048 + n.val = 128 * h.val + l.val) :
    val_main_v59 (F := Ideal) x w (ix2 r n) = out (scale h) (flag h) (tapsOf w h) (headOf x h) l r := by
  have hl := l.isLt
  obtain ⟨b, hb⟩ : ∃ b : Fin 8, h.val = b.val + 16 := ⟨⟨h.val - 16, by omega⟩, by simp; omega⟩
  have e1 : n.val / 128 = b.val := by omega
  have e2 : n.val % 128 = l.val := by omega
  rw [out, scale, flag, (heads h).1, (heads h).2, if_neg (show ¬ h.val < 8 by omega), if_neg (show ¬ h.val < 16 by omega)]
  refine Eq.trans ?_ (show act (tapsOf w h) (headOf x h) l r = _ from rfl)
  pointwise [val_main_v59]
  simp only [e1, e2]
  exact v56_at x w _ r b l h hb

/-- The result, read at an index. -/
theorem v60_at (i : S2048x3072.Idx) : val_main_v60 (F := Ideal) x w i = res x w i := by
  idx_vars i
  have h1 := i1.isLt
  obtain ⟨h, hh⟩ : ∃ h : Fin 24, h.val = i1.val / 128 := ⟨⟨i1.val / 128, by omega⟩, rfl⟩
  obtain ⟨l, hl⟩ : ∃ l : Fin 128, l.val = i1.val % 128 := ⟨⟨i1.val % 128, by omega⟩, rfl⟩
  rw [res_at x w i0 i1 h l (by omega)]
  pointwise [val_main_v60]
  by_cases c1 : i1.val < 1024
  · rw [dif_pos c1]
    exact v57_at x w i0 ⟨i1.val, c1⟩ h l (by omega) (by change i1.val = _; omega)
  · rw [dif_neg c1]
    by_cases c2 : i1.val - 1024 < 1024
    · rw [dif_pos (by omega)]
      exact v58_at x w i0 ⟨i1.val - 1024, c2⟩ h l (by omega) (by omega) (by change 1024 + (i1.val - 1024) = _; omega)
    · rw [dif_neg (by omega)]
      have e : i1.val - (1024 + 1024) = i1.val - 2048 := by omega
      exact v59_at x w i0 ⟨i1.val - 2048, by omega⟩ h l (by omega) (by change 2048 + (i1.val - 2048) = _; omega)

end Cert.FqkvReferenceIdeal.Qkv

namespace Cert.FqkvPair

open Cert.FqkvReferenceIdeal.Read

variable (m : (ℓ : Loc Cert.FqkvKernelIdeal.nD Cert.FqkvKernelIdeal.τ Cert.FqkvKernelIdeal.sig) → Buf (Elt Ideal) ℓ) (c : Dev Cert.FqkvKernelIdeal.nD)

/-- The two arguments. -/
abbrev argX := m ((c.tc : Thread Cert.FqkvKernelIdeal.nD Cert.FqkvKernelIdeal.τ).loc Cert.FqkvKernelIdeal.main_arg0)
abbrev argW := m ((c.tc : Thread Cert.FqkvKernelIdeal.nD Cert.FqkvKernelIdeal.τ).loc Cert.FqkvKernelIdeal.main_arg1)

/-- The pair's claim. -/
theorem algebraic : algebraic_FqkvKernelIdeal_FqkvReferenceIdeal := by
  intro m g m' g' hpre hargs
  refine ⟨fun c => val_main_v60 (F := Ideal) (argX m c) (argW m c), ?_, ?_⟩
  · refine (θ_run _ _ _).mono (fun r h c => ?_) (Cert.FqkvKernelIdeal.Value.run_blocks m g)
    obtain ⟨h2, a0, a1⟩ := h c
    exact ⟨h2.trans ((Cert.FqkvKernelIdeal.Qkv.final_2 m c).trans (funext fun i =>
      (Cert.FqkvReferenceIdeal.Qkv.v60_at (argX m c) (argW m c) i).symm)), a0, a1⟩
  · refine (θ_run _ _ _).mono (fun r h c => ?_) (Cert.FqkvReferenceIdeal.Value.run m' g')
    obtain ⟨h2, a0, a1⟩ := h c
    obtain ⟨e0, e1⟩ := hargs c
    rw [val_main_v60_eq, e0, e1] at h2
    exact ⟨h2, a0, a1⟩

end Cert.FqkvPair

end
-- ==== Proof.FscalKernel.lean ====
module

public import Idealize.ShloMosaic.Lib.Pipeline.ReadBack
public import proofs.«01_k».proof.Proof.Idx2
public import proofs.«01_k».proof.Proof.Gen.FscalKernelIdeal.Frame
public import proofs.«01_k».proof.Proof.FscalForms
public import Idealize.ShloMosaic.Lib.Pipeline.ValueKit

/-!
What the forward kernel of the write strength and the decay computes, and its two results after the run.
-/

@[expose] public section

set_option maxRecDepth 16384

noncomputable section

open Idealize.ShloMosaic Idealize.ShloMosaic.TcCoe Idealize.SL.Sem
open Idealize.ShloMosaic.Pipeline (Dat)
open scoped BigOperators

namespace Cert.FscalKernelIdeal.Scal

open Cert.FscalKernelIdeal Cert.FscalKernelIdeal.Gen
open Idx2 (emb_eq)
open _root_.Scal

/-- Whether a lane holds a head's decay: the lanes from 8 to 15 do. -/
theorem isDec_eq : ∀ l : Fin 128, IntOp.andi (IntOp.cmpi CmpIPredicate.sge (BitVec.ofNat 32 l.val) 8#32)
    (IntOp.cmpi CmpIPredicate.slt (BitVec.ofNat 32 l.val) 16#32) = BitVec.ofBool (decide (8 ≤ l.val ∧ l.val < 16)) := by
  decide +kernel

theorem isWrite_eq : ∀ l : Fin 128, IntOp.cmpi CmpIPredicate.slt (BitVec.ofNat 32 l.val) 8#32 = BitVec.ofBool (decide (l.val < 8)) := by
  decide +kernel

/-- The log decay at a row and lane. -/
theorem pay4_at (x : FVec Ideal S2048x128 .f32) (al dt : FVec Ideal S1x128 .f32) (r : Fin 2048) (l : Fin 128) :
    k0_pay4 (F := Ideal) x al dt (ix2 r l) = (0 - Ideal.exp (al (ix2 0 l))) * softplusK (x (ix2 r l) + dt (ix2 0 l)) := by
  pointwise [k0_pay4, k0_pay2, softplusK]
  rfl

/-- The column a lane's doubling starts from. -/
def start (v : FVec Ideal S2048x128 .f32) (l : Fin 128) (r : Fin 2048) : EReal :=
  Scalar.select (BitVec.ofBool (decide (8 ≤ l.val ∧ l.val < 16))) (v (ix2 r l)) 0

/-- One step of the kernel at a row and lane: the column of the lane goes one step further. -/
theorem one_step (s : ℕ) (hs : s ≤ 32) (v : FVec Ideal S2048x128 .f32) (w : Fin 128 → Fin 2048 → EReal) (h : ∀ r l, v (ix2 r l) = w l r) (r : Fin 2048) (l : Fin 128) :
    addf v (select (cmpi .sge (andi (iota .tc S2048x128 32 [0] iota_S2048x128_d0_w32) (broadcast S2048x128 63#32)) (broadcast S2048x128 (BitVec.ofNat 32 s)))
      (dynamicRotate 0 (BitVec.ofNat 32 s) none v rotates_S2048x128_d0) (broadcast S2048x128 (Scalar.ofBits (F := Ideal) .f32 0x00000000#32))) (ix2 r l)
      = down s (w l) r := by
  have e : (BitVec.ofNat 32 s).toNat % 2048 = s := by rw [BitVec.toNat_ofNat]; omega
  pointwise [down, h, e]

/-- What the doubling starts from. -/
theorem start_at (v : FVec Ideal S2048x128 .f32) (r : Fin 2048) (l : Fin 128) :
    select k0_pay5 v (k0_pay6 (F := Ideal)) (ix2 r l) = start v l r := by
  pointwise [k0_pay5, k0_pay6, start]
  rw [isDec_eq]
  by_cases h : 8 ≤ l.val ∧ l.val < 16
  · rw [decide_eq_true h, if_pos h]; rfl
  · rw [decide_eq_false h, if_neg h]; rfl

/-- The six steps. -/
theorem pay7_at (v : FVec Ideal S2048x128 .f32) (r : Fin 2048) (l : Fin 128) :
    k0_pay7 (F := Ideal) v k0_pay5 k0_pay6 (ix2 r l) = sofar (start v l) r := by
  unfold k0_pay7
  exact one_step 32 (by omega) _ _ (one_step 16 (by omega) _ _ (one_step 8 (by omega) _ _ (one_step 4 (by omega) _ _
    (one_step 2 (by omega) _ _ (one_step 1 (by omega) _ _ (start_at v)))))) r l

/-- The first result's block. -/
theorem pay8_at (x : FVec Ideal S2048x128 .f32) (d : FVec Ideal S2048x128 .f32) (r : Fin 2048) (l : Fin 128) :
    k0_pay8 (F := Ideal) (iota .tc S2048x128 32 [1] iota_S2048x128_d1_w32) (k0_pay3 x) d 8#32 (ix2 r l)
      = if l.val < 8 then Ideal.logistic (x (ix2 r l)) else d (ix2 r l) := by
  pointwise [k0_pay8, k0_pay3, k0_pay2]
  rw [isWrite_eq]
  by_cases h : l.val < 8
  · rw [decide_eq_true h, if_pos h]; rfl
  · rw [decide_eq_false h, if_neg h]; rfl

/-- Whether a lane is head `h`'s. -/
theorem isHead_eq : ∀ (h : Fin 8) (l : Fin 128), IntOp.cmpi CmpIPredicate.eq (BitVec.ofNat 32 l.val) (IntOp.addi (BitVec.ofNat 32 h.val) 8#32)
    = BitVec.ofBool (decide (l.val = h.val + 8)) := by
  decide +kernel

/-- The selector: one at head `h`'s lane, zero elsewhere. -/
theorem pay9_at (h : Fin 8) (l : Fin 128) : k0_pay9 (F := Ideal) (ix2 h l) = if l.val = h.val + 8 then 1 else 0 := by
  pointwise [k0_pay9]
  rw [isHead_eq]
  by_cases e : l.val = h.val + 8
  · rw [decide_eq_true e, if_pos e]
    show (((1#32 : BitVec 32).toInt : ℝ) : EReal) = 1
    norm_num
  · rw [decide_eq_false e, if_neg e]
    show (((0#32 : BitVec 32).toInt : ℝ) : EReal) = 0
    norm_num

/-- The selector's product with a chunk of the first result is the transpose of the heads' lanes. -/
theorem pay1_at (v : FVec Ideal S64x128 .f32) (u : Fin 1) (h : Fin 8) (j : Fin 64) :
    k0_pay1 (F := Ideal) k0_pay9 v (ix3 u h j) = v (ix2 j ⟨8 + h.val, by omega⟩) := by
  pointwise [k0_pay1, pay9_at]
  rw [Finset.sum_eq_single (⟨8 + h.val, by omega⟩ : Fin 128) (fun q _ hq => by
    rw [if_neg (fun e => hq (Fin.ext (by dsimp only; omega))), zero_mul]) (fun hq => absurd (Finset.mem_univ _) hq),
    if_pos (by dsimp only; omega), one_mul]

variable (m : (ℓ : Loc nD τ sig) → Buf (Elt Ideal) ℓ) (c : Dev nD)

/-- The four arguments. -/
abbrev inB : FVec Ideal S2048x8 .f32 := m ((c.tc : Thread nD τ).loc main_arg0)
abbrev inA : FVec Ideal S2048x8 .f32 := m ((c.tc : Thread nD τ).loc main_arg1)
abbrev inE : FVec Ideal S1x8 .f32 := m ((c.tc : Thread nD τ).loc main_arg2)
abbrev inT : FVec Ideal S1x8 .f32 := m ((c.tc : Thread nD τ).loc main_arg3)

set_option maxRecDepth 200000 in
/-- The projection's columns of the write strength. -/
theorem proj_write (r : Fin 2048) (n : Fin 8448) (k : Fin 8) (h : n.val = 8192 + k.val) :
    V m c main_v1 (ix2 r n) = inB m c (ix2 r k) := by
  have hk := k.isLt
  unfold V
  simp only [hostOps0, hostOps0_1, hostOps0_2, hostOps0_3, hostOps0_4, hostOps0_5,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_pos (by omega)]
  simp only [h, Nat.add_sub_cancel_left]

set_option maxRecDepth 200000 in
/-- The projection's columns of the decay. -/
theorem proj_dec (r : Fin 2048) (n : Fin 8448) (k : Fin 8) (h : n.val = 8200 + k.val) :
    V m c main_v1 (ix2 r n) = inA m c (ix2 r k) := by
  have hk := k.isLt
  unfold V
  simp only [hostOps0, hostOps0_1, hostOps0_2, hostOps0_3, hostOps0_4, hostOps0_5,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega), dif_neg (by omega)]
  exact congrArg (fun q => inA m c (ix2 r q)) (Fin.ext (by dsimp only; omega))

set_option maxRecDepth 200000 in
/-- The decay's factor in its lanes. -/
theorem alog_at (l : Fin 128) (k : Fin 8) (h : l.val = 8 + k.val) :
    V m c main_v2 (ix2 0 l) = inE m c (ix2 0 k) := by
  have hk := k.isLt
  unfold V
  simp only [hostOps0, hostOps0_1, hostOps0_2, hostOps0_3, hostOps0_4, hostOps0_5,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]
  simp only [h, Nat.add_sub_cancel_left]

set_option maxRecDepth 200000 in
/-- The decay's bias in its lanes. -/
theorem bias_at (l : Fin 128) (k : Fin 8) (h : l.val = 8 + k.val) :
    V m c main_v3 (ix2 0 l) = inT m c (ix2 0 k) := by
  have hk := k.isLt
  unfold V
  simp only [hostOps0, hostOps0_1, hostOps0_2, hostOps0_3, hostOps0_4, hostOps0_5,
    List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos (by omega)]
  simp only [h, Nat.add_sub_cancel_left]

/-- The block each window holds at the one grid point. -/
theorem idx : ∀ t : Fin cfg0.N, win0_0.index t = ![0, 64] ∧ win0_1.index t = ![0, 0] ∧ win0_2.index t = ![0, 0]
    ∧ win0_3.index t = ![0, 0] ∧ win0_4.index t = ![0, 0, 0] :=
  (by decide +kernel : ∀ t : Fin grid0.N, _)

/-- The three blocks. -/
abbrev bX (t : Fin cfg0.N) : FVec Ideal S2048x128 .f32 := iblk m c 0 t
abbrev bE (t : Fin cfg0.N) : FVec Ideal S1x128 .f32 := iblk m c 1 t
abbrev bT (t : Fin cfg0.N) : FVec Ideal S1x128 .f32 := iblk m c 2 t

theorem blk_x (t : Fin cfg0.N) (r : Fin 2048) (l : Fin 128) :
    bX m c t (ix2 r l) = V m c main_v1 (ix2 r (⟨8192 + l.val, by omega⟩ : Fin 8448)) := by
  blk_point [bX, bE, bT, iblk, idx t]

theorem blk_al (t : Fin cfg0.N) (l : Fin 128) : bE m c t (ix2 0 l) = V m c main_v2 (ix2 0 l) := by
  blk_point [bX, bE, bT, iblk, idx t]

theorem blk_dt (t : Fin cfg0.N) (l : Fin 128) : bT m c t (ix2 0 l) = V m c main_v3 (ix2 0 l) := by
  blk_point [bX, bE, bT, iblk, idx t]

/-- The first result's block. -/
def blkS (t : Fin cfg0.N) : FVec Ideal S2048x128 .f32 :=
  k0_pay8 (F := Ideal) (iota .tc S2048x128 32 [1] iota_S2048x128_d1_w32) (k0_pay3 (bX m c t))
    (k0_pay7 (k0_pay4 (bX m c t) (bE m c t) (bT m c t)) k0_pay5 k0_pay6) 8#32

/-- The softplus's arguments are where the kernel takes the logarithm. -/
def Small : Prop := ∀ (r : Fin 2048) (k : Fin 8), softplusK (inA m c (ix2 r k) + inT m c (ix2 0 k)) = softplus (inA m c (ix2 r k) + inT m c (ix2 0 k))

variable (hs : Small m c)
include hs

/-- The first result at a row and lane. -/
theorem blkS_at (t : Fin cfg0.N) (r : Fin 2048) (l : Fin 128) :
    blkS m c t (ix2 r l) = resS (inB m c) (inA m c) (inE m c) (inT m c) (ix2 r l) := by
  unfold blkS
  rw [pay8_at, resS_at, pay7_at, sofar_eq]
  by_cases h : l.val < 8
  · rw [if_pos h, dif_pos h, blk_x, proj_write m c r _ ⟨l.val, h⟩ rfl]
  rw [if_neg h, dif_neg h]
  by_cases h2 : l.val < 16
  · rw [dif_pos h2]
    congr 1
    funext q
    unfold start
    rw [decide_eq_true (show 8 ≤ l.val ∧ l.val < 16 by omega)]
    refine (pay4_at _ _ _ _ _).trans ?_
    rw [blk_x, blk_al, blk_dt, proj_dec m c q _ ⟨l.val - 8, by omega⟩ (by dsimp only; omega),
      alog_at m c l ⟨l.val - 8, by omega⟩ (by dsimp only; omega), bias_at m c l ⟨l.val - 8, by omega⟩ (by dsimp only; omega), hs]
    rfl
  · rw [dif_neg h2]
    unfold upto
    refine Finset.sum_eq_zero fun j _ => ?_
    have e : ∀ q, start (k0_pay4 (F := Ideal) (bX m c t) (bE m c t) (bT m c t)) l q = 0 := fun q => by
      unfold start
      rw [decide_eq_false (show ¬(8 ≤ l.val ∧ l.val < 16) by omega)]
      rfl
    split
    · exact e _
    · rfl

set_option maxHeartbeats 2000000 in
/-- The first result after the run. -/
theorem final_3 : (dats m 0 c).arrAt 3 (cfgs 0).N = resS (inB m c) (inA m c) (inE m c) (inT m c) := by
  refine (dats m 0 c).arrAt_eq_of_covers 3 _ (by decide +kernel) fun t hf y => ?_
  blk_simp; rw [after0_3]
  unfold outsAt0
  dsimp only; frame_out
  obtain ⟨q, hq⟩ : ∃ q : Fin 2048, q.val = (y 0).val := ⟨⟨(y 0).val, (y 0).isLt⟩, rfl⟩
  obtain ⟨l, hl⟩ : ∃ l : Fin 128, l.val = (y 1).val := ⟨⟨(y 1).val, (y 1).isLt⟩, rfl⟩
  rw [show ((View.whole main_v4_0).slice (win0_3.rect t)).emb y = ix2 q l from
      emb_eq _ _ _ (by blk_simp [idx t] <;> omega) (by blk_simp [idx t] <;> omega),
    show y = ix2 q l from emb_eq y q l hq.symm hl.symm]
  exact blkS_at m c hs t q l

/-- A chunk of the second result: the selector's product with 64 rows of the first, read back. -/
theorem piece (t : Fin cfg0.N) (P : FVec Ideal S1x8x64 .f32) (o : ℕ) (inb : ∀ a, (![o, 0] : Fin 2 → ℕ) a + (![64, 128] : Fin 2 → ℕ) a ≤ S2048x128.size a)
    (inbw : ∀ a, (![0, 0] : Fin 2 → ℕ) a + S2048x128.size a ≤ S2048x128.size a)
    (hP : P = k0_pay1 k0_pay9 ((ms0_3 t).view.readCov [⟨Rect.unit ![0, 0] S2048x128.size inbw, blkS m c t⟩] (Rect.unit ![o, 0] ![64, 128] inb).toLoadRect))
    (x0 : Fin 1) (x1 : Fin 8) (x2 : Fin 64) (i : S32x8x64.Idx) (h0 : o = 64 * (i 0).val) (h1 : (i 1).val = x1.val) (h2 : (i 2).val = x2.val) :
    P (ix3 x0 x1 x2) = resR (inA m c) (inE m c) (inT m c) i := by
  have hi := (i 0).isLt
  have hb : (i 0).val < 32 := hi
  subst h0
  rw [hP, pay1_at, View.readCov_fill _ _ _ _ _ (by intro a; fin_cases a <;> rfl)]
  have e : (Rect.unit (s := S2048x128) ![64 * (i 0).val, 0] ![64, 128] inb).emb (ix2 x2 (⟨8 + x1.val, by omega⟩ : Fin 128))
      = ix2 (⟨64 * (i 0).val + x2.val, by omega⟩ : Fin 2048) (⟨8 + x1.val, by omega⟩ : Fin 128) :=
    emb_eq _ _ _ (by blk_simp <;> omega) (by blk_simp <;> omega)
  refine (congrArg (blkS m c t) e).trans ?_
  rw [blkS_at m c hs, resS_at, dif_neg (by dsimp only; omega), dif_pos (by dsimp only; omega)]
  unfold resR
  congr 1
  · funext q
    exact congrArg (fun k => decay (inA m c) (inE m c) (inT m c) k q) (Fin.ext (by dsimp only; omega))
  · exact Fin.ext (by dsimp only; omega)

set_option maxHeartbeats 4000000 in
/-- The second result after the run. -/
theorem final_4 : (dats m 0 c).arrAt 4 (cfgs 0).N = resR (inA m c) (inE m c) (inT m c) := by
  refine (dats m 0 c).arrAt_eq_of_covers 4 _ (by decide +kernel) fun t hf y => ?_
  blk_simp; rw [after0_4]
  unfold outsAt0
  dsimp only; frame_out
  canon_tiles x h
  all_goals
    idx_vars x
    refine piece m c hs t _ _ _ _ rfl x0 x1 x2 _ ?_ ?_ ?_
    all_goals
      blk_simp [idx t] at h0 h1 h2 ⊢
      try omega

end Cert.FscalKernelIdeal.Scal

end
-- ==== Proof.FscalPair.lean ====
module

public import proofs.«01_k».proof.Defs
public import proofs.«01_k».proof.Proof.Gen.Pre_fscal_small
public import proofs.«01_k».proof.Proof.Gen.FscalKernelIdeal.Value
public import proofs.«01_k».proof.Proof.Gen.FscalReferenceIdeal.Read
public import proofs.«01_k».proof.Proof.FscalKernel
public import proofs.«01_k».proof.Proof.Windows
public import Idealize.ShloMosaic.Lib.Claim

/-!
The call that computes the write strength and the cumulative log decay computes its reference's two results, where the
softplus's argument is less than 4.5 away from zero.
-/

@[expose] public section

set_option maxRecDepth 16384

noncomputable section

open Idealize.ShloMosaic Idealize.ShloMosaic.TcCoe Idealize.SL.Sem
open scoped BigOperators

namespace Cert.FscalReferenceIdeal.Scal

open Cert.FscalReferenceIdeal Cert.FscalReferenceIdeal.Read
open _root_.Scal

/-- The host's window sum at an element is the sum of the elements up to it, from the start of the axis. -/
theorem sum_to (h : (⟨4, ![1, 8, 32, 64]⟩ : Shape).ReduceWindows ![1, 1, 1, 64] ![1, 1, 1, 1] ![0, 0, 0, 63] ![0, 0, 0, 0] (⟨4, ![1, 8, 32, 64]⟩ : Shape))
    (x : (⟨4, ![1, 8, 32, 64]⟩ : Shape).Idx → EReal) (a : Fin 8) (b : Fin 32) (i : Fin 64) :
    Ideal.hostReduceWindowAdd ![1, 1, 1, 64] ![1, 1, 1, 1] ![0, 0, 0, 63] ![0, 0, 0, 0] h x 0 (ix4 0 a b i)
      = ∑ j : Fin 64, if hj : j.val ≤ i.val then x (ix4 0 a b ⟨i.val - j.val, by omega⟩) else 0 := by
  rw [Windows.window_sum]
  refine (sum_idx4 (n0 := 1) (n1 := 1) (n2 := 1) (n3 := 64) _).trans ?_
  simp only [Fin.sum_univ_one]
  refine (Equiv.sum_comp Fin.revPerm _).symm.trans (Finset.sum_congr rfl fun j _ => ?_)
  have hi := i.isLt
  have hj := j.isLt
  have ha := a.isLt
  have hb := b.isLt
  have hr : (Fin.revPerm j).val = 63 - j.val := by
    rw [Fin.revPerm_apply, Fin.val_rev]; omega
  by_cases hc : j.val ≤ i.val
  · rw [dif_pos hc, dif_pos]
    · congr 1
      funext d
      apply Fin.ext
      match d with
      | ⟨0, _⟩ => rfl
      | ⟨1, _⟩ => show a.val * 1 + 0 - 0 = a.val; omega
      | ⟨2, _⟩ => show b.val * 1 + 0 - 0 = b.val; omega
      | ⟨3, _⟩ => show i.val * 1 + (Fin.revPerm j).val - 63 = i.val - j.val; omega
    · intro d
      match d with
      | ⟨0, _⟩ => exact ⟨Nat.zero_le _, by show 0 * 1 + 0 - 0 < 1; omega⟩
      | ⟨1, _⟩ => exact ⟨Nat.zero_le _, by show a.val * 1 + 0 - 0 < 8; omega⟩
      | ⟨2, _⟩ => exact ⟨Nat.zero_le _, by show b.val * 1 + 0 - 0 < 32; omega⟩
      | ⟨3, _⟩ => exact ⟨by show 63 ≤ i.val * 1 + (Fin.revPerm j).val; omega, by show i.val * 1 + (Fin.revPerm j).val - 63 < 64; omega⟩
  · rw [dif_neg hc, dif_neg]
    intro hin
    have e := (hin 3).1
    change 63 ≤ i.val * 1 + (Fin.revPerm j).val at e
    omega

variable (B A : (⟨S2048x8, .f32⟩ : BufTy).Contents (Elt Ideal)) (E T : (⟨S1x8, .f32⟩ : BufTy).Contents (Elt Ideal))

/-- The write strength. -/
theorem v7_at (r : Fin 2048) (h : Fin 8) : val_main_v7 (F := Ideal) B (ix2 r h) = Ideal.logistic (B (ix2 r h)) := by
  pointwise [val_main_v7, val_main_v6, val_main_v5, val_main_v4, val_main_v3, val_main_v2, val_main_cst, val_main_cst_0]
  rfl

/-- The softplus. -/
theorem v13_at (r : Fin 2048) (h : Fin 8) : val_main_v13 (F := Ideal) A T (ix2 r h) = softplus (A (ix2 r h) + T (ix2 0 h)) := by
  pointwise [val_main_v13, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v12, val_main_v11, val_main_v10, val_main_v1]
  rw [if_neg (fun e => e rfl)]
  rfl

/-- The log decay, by chunk and row. -/
theorem v18_at (h : Fin 8) (n : Fin 32) (i : Fin 64) (r : Fin 2048) (hr : r.val = 64 * n.val + i.val) :
    val_main_v18 (F := Ideal) A E T (ix4 0 h n i) = decay A E T h r := by
  have e0 : (⟨n.val * 64 + i.val, by omega⟩ : Fin 2048) = r := Fin.ext (by dsimp only; omega)
  have e := v13_at A T r h
  pointwise [val_main_v18, val_main_v17, val_main_v16, val_main_v15, val_main_v14, val_main_v9, val_main_v8, val_main_v0, decay]
  rw [e0, e, zero_sub]

/-- The cumulative log decay, by chunk and row. -/
theorem v19_at (h : Fin 8) (n : Fin 32) (i : Fin 64) (r : Fin 2048) (hr : r.val = 64 * n.val + i.val) :
    val_main_v19 (F := Ideal) A E T (ix4 0 h n i) = upto 64 (decay A E T h) r := by
  have hi := i.isLt
  have h0 : val_main_call1_call0_v0 (F := Ideal) (Shape.Idx.first Cert.FscalReferenceIdeal.Gen.h_S_) = 0 := by
    pointwise [val_main_call1_call0_v0, val_main_call1_call0_cst]
  unfold val_main_v19
  refine Eq.trans (b := Ideal.hostReduceWindowAdd ![1, 1, 1, 64] ![1, 1, 1, 1] ![0, 0, 0, 63] ![0, 0, 0, 0]
    Cert.FscalReferenceIdeal.Gen.reduceWindows_S1x8x32x64_S1x8x32x64_w1s1p0_0_w1s1p0_0_w1s1p0_0_w64s1p63_0 (val_main_v18 (F := Ideal) A E T)
    (val_main_call1_call0_v0 (F := Ideal) (Shape.Idx.first Cert.FscalReferenceIdeal.Gen.h_S_)) (ix4 0 h n i)) rfl ?_
  rw [h0, sum_to, upto, Finset.sum_range]
  refine Finset.sum_congr rfl fun j _ => ?_
  by_cases hj : j.val ≤ i.val
  · rw [dif_pos hj, dif_pos (by omega)]
    exact v18_at A E T h n _ _ (by dsimp only; omega)
  · rw [dif_neg hj, dif_neg (by omega)]

/-- The first result. -/
theorem v24_at (i : (⟨2, ![2048, 128]⟩ : Shape).Idx) : val_main_v24 (F := Ideal) B A E T i = resS B A E T i := by
  idx_vars i
  have h7 := v7_at B i0
  have h19 := fun (h : Fin 8) (n : Fin 32) (q : Fin 64) (hr : i0.val = 64 * n.val + q.val) => v19_at A E T h n q i0 hr
  have e : val_main_cst_1 (F := Ideal) ix0 = 0 := by pointwise [val_main_cst_1]
  rw [resS_at]
  pointwise [val_main_v24, val_main_v23, val_main_v22, val_main_v21, val_main_v20]
  by_cases h1 : i1.val < 8
  · rw [dif_pos h1, dif_pos h1, h7]
  rw [dif_neg h1, dif_neg h1]
  by_cases h2 : i1.val < 16
  · rw [dif_pos (by omega), dif_pos h2]
    exact h19 _ _ _ (by dsimp only; omega)
  · rw [dif_neg (by omega), dif_neg h2, e]

/-- The second result. -/
theorem v26_at (i : (⟨3, ![32, 8, 64]⟩ : Shape).Idx) : val_main_v26 (F := Ideal) A E T i = resR A E T i := by
  idx_vars i
  pointwise [val_main_v26, val_main_v25]
  exact v19_at A E T _ _ _ _ rfl

end Cert.FscalReferenceIdeal.Scal

namespace Cert.FscalPair

open _root_.Scal
open Cert.FscalReferenceIdeal.Read
open Cert.FscalKernelIdeal.Scal (inB inA inE inT Small)

variable (m : (ℓ : Loc Cert.FscalKernelIdeal.nD Cert.FscalKernelIdeal.τ Cert.FscalKernelIdeal.sig) → Buf (Elt Ideal) ℓ) (c : Dev Cert.FscalKernelIdeal.nD)

/-- The precondition puts the softplus's argument where the kernel takes the logarithm. -/
theorem small (hp : Pre_FscalKernelIdeal_fscal_small m) : Small m c := by
  intro r k
  have h := congrFun (hp c) (ix2 r k)
  simp only [Cert.Pre_fscal_small.fn] at h
  pointwise at h
  apply softplusK_eq
  by_contra hc
  rw [decide_eq_false (by exact hc)] at h
  exact absurd h (by decide)

/-- The first result. -/
theorem eq_S (hp : Pre_FscalKernelIdeal_fscal_small m) : (Cert.FscalKernelIdeal.Gen.dats m 0 c).arrAt 3 (Cert.FscalKernelIdeal.cfgs 0).N
    = val_main_v24 (F := Ideal) (inB m c) (inA m c) (inE m c) (inT m c) :=
  (Cert.FscalKernelIdeal.Scal.final_3 m c (small m c hp)).trans
    (funext fun i => (Cert.FscalReferenceIdeal.Scal.v24_at (inB m c) (inA m c) (inE m c) (inT m c) i).symm)

/-- The second result. -/
theorem eq_R (hp : Pre_FscalKernelIdeal_fscal_small m) : (Cert.FscalKernelIdeal.Gen.dats m 0 c).arrAt 4 (Cert.FscalKernelIdeal.cfgs 0).N
    = val_main_v26 (F := Ideal) (inA m c) (inE m c) (inT m c) :=
  (Cert.FscalKernelIdeal.Scal.final_4 m c (small m c hp)).trans
    (funext fun i => (Cert.FscalReferenceIdeal.Scal.v26_at (inA m c) (inE m c) (inT m c) i).symm)

set_option maxHeartbeats 1600000 in
/-- The pair's claim. -/
theorem algebraic : algebraic_FscalKernelIdeal_FscalReferenceIdeal_pre_fscal_small := by
  intro m g m' g' hpre hargs
  refine ⟨fun c => val_main_v24 (F := Ideal) (inB m c) (inA m c) (inE m c) (inT m c),
    fun c => val_main_v26 (F := Ideal) (inA m c) (inE m c) (inT m c), ?_, ?_⟩
  · refine (θ_run _ _ _).mono (fun r h c => ?_) (Cert.FscalKernelIdeal.Value.run_blocks m g)
    obtain ⟨h5, h6, a⟩ := h c
    exact ⟨h5.trans (eq_S m c hpre), h6.trans (eq_R m c hpre), a⟩
  · refine (θ_run _ _ _).mono (fun r h c => ?_) (Cert.FscalReferenceIdeal.Value.run m' g')
    obtain ⟨h5, h6, a⟩ := h c
    obtain ⟨e0, e1, e2, e3⟩ := hargs c
    rw [val_main_v24_eq] at h5
    rw [val_main_v26_eq] at h6
    rw [e0, e1, e2, e3] at h5
    rw [e1, e2, e3] at h6
    exact ⟨h5, h6, a⟩

end Cert.FscalPair

end
-- ==== Proof.FprojRun.lean ====
module

public import proofs.«01_k».proof.Proof.Gen.FprojKernelIdeal.Frame
public import proofs.«01_k».proof.Proof.Gen.FprojKernelIdeal.Skeleton
public import proofs.«01_k».proof.Proof.Gen.FprojKernelIdeal.Points
public import Idealize.ShloMosaic.Lib.Pipeline.FrameBody
public import Idealize.ShloMosaic.Lib.Tactic
public import Idealize.ShloMosaic.Lib.WordCmp

/-!
The runs of the body of the input projection: at the first grid point it normalises the rows and multiplies them, at a later
one it multiplies the normalised rows, which the buffer of the second result still holds.
-/

@[expose] public section

set_option maxRecDepth 16384

noncomputable section

namespace Cert.FprojKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FprojKernelIdeal Cert.FprojKernelIdeal.Gen

variable {F : FTy → Type} [FloatOps F]

/-- The first branch is taken at the first point only. -/
theorem first_iff : ∀ t : Fin cfg0.N, k0_cond1 (grid0.coords t) = 1#1 ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [k0_cond1, e0]
    word_cmp
   : ∀ t : Fin grid0.N, k0_cond1 (grid0.coords t) = 1#1 ↔ t.val % 11 = 0)

/-- The second branch is taken at the others. -/
theorem later_iff : ∀ t : Fin cfg0.N, k0_cond2 (grid0.coords t) = 1#1 ↔ ¬t.val % 11 = 0 :=
  (fun t => by
    have ht : t.val < 11 := Nat.lt_of_lt_of_eq t.isLt N_0
    have e0 : (grid0.coords t 0).val = t.val / 1 % 11 := Pipeline.Grid.coords_val t 0 (by decide) rfl
    have key : ∀ n : ℕ, n < 11 → (Scalar.cmpi .ne (Scalar.extui (Scalar.cmpi .eq (BitVec.ofNat 32 n) 0#32 ^^^ 1#1)) 0#32 = 1#1 ↔ ¬n % 11 = 0) := by decide
    have e1 : (grid0.coords t 0).val = t.val := by rw [e0]; omega
    have := key t.val ht
    rw [← e1] at this ⊢
    exact this
   : ∀ t : Fin grid0.N, k0_cond2 (grid0.coords t) = 1#1 ↔ ¬t.val % 11 = 0)

set_option maxHeartbeats 1000000 in
/-- What the body writes at the first point, as lists of pieces for the two results, with the proof that it runs. -/
noncomputable def runFirst (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S768x1024 .bf16) (harg3 : arg3.IsWhole) (arg4 : Memref sig .tc .hbm S8x128 .f32) (harg4 : arg4.IsWhole) (arg5 : Memref sig .tc .vmem S2048x768 .f32) (harg5 : arg5.IsWhole) (arg6 : Memref sig .tc .vmem S2048x1024 .bf16) (harg6 : arg6.IsWhole) (hc1 : k0_cond1 i = 1#1) (hc2 : ¬k0_cond2 i = 1#1)
    (x0 : Vec F S2048x1024 .f32) (x1 : Vec F S1x1024 .f32) (x2 : Vec F S768x1024 .bf16) :
    Σ' (L3 : List (View.Piece (Elt F) S2048x768 .f32)), { L4 : List (View.Piece (Elt F) S2048x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_in_proj i arg1 harg1 arg2 harg2 arg3 harg3 arg4 harg4 arg5 harg5 arg6 harg6) K } := by
  refine ⟨?_, ?_, fun E K => ?run⟩
  case run =>
    simp only [cc0_in_proj_eq_skeleton]; unfold cc0_in_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- What the body writes at a later point, as a list of pieces for the first result; it leaves the buffer of the second as it found it. -/
noncomputable def runLater (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S768x1024 .bf16) (harg3 : arg3.IsWhole) (arg4 : Memref sig .tc .hbm S8x128 .f32) (harg4 : arg4.IsWhole) (arg5 : Memref sig .tc .vmem S2048x768 .f32) (harg5 : arg5.IsWhole) (arg6 : Memref sig .tc .vmem S2048x1024 .bf16) (harg6 : arg6.IsWhole) (hc1 : ¬k0_cond1 i = 1#1) (hc2 : k0_cond2 i = 1#1)
    (x0 : Vec F S2048x1024 .f32) (x1 : Vec F S1x1024 .f32) (x2 : Vec F S768x1024 .bf16) (x4 : Vec F S2048x1024 .bf16) :
    { L3 : List (View.Piece (Elt F) S2048x768 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg5 fullShare d) ∗ owns (c : Thread nD τ) arg6 fullShare x4
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ owns (c : Thread nD τ) arg6 fullShare x4) -∗ K ⟨⟩))
          ⊢ wp frame (wpE (defs₀ (F := F)) Variants.none c none) E (cc0_in_proj i arg1 harg1 arg2 harg2 arg3 harg3 arg4 harg4 arg5 harg5 arg6 harg6) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg6.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg6.read_unread _
    iexact H4

end Cert.FprojKernelIdeal.Own

end
-- ==== Proof.FprojFrame.lean ====
module

public import proofs.«01_k».proof.Proof.FprojRun
public import Idealize.ShloMosaic.Lib.Claim

/-!
The frame of the input projection. The second result's buffer is filled at the first point, left alone at the others and written
back at the last.
-/

@[expose] public section

set_option maxRecDepth 16384

noncomputable section

namespace Cert.FprojKernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FprojKernelIdeal Cert.FprojKernelIdeal.Gen

variable {F : FTy → Type} [FloatOps F]

variable (m : (ℓ : Loc nD τ sig) → Buf (Elt F) ℓ) (ρ : Dev nD → PrngReg)

/-! The windows' buffers at a point. -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)

/-- One buffer of each result, through which its contents are stated. -/
abbrev VO3 : View sig .tc .vmem S2048x768 .f32 := (Memref.whole cc0_stg3_0 : Memref sig .tc .vmem S2048x768 .f32).view
abbrev VO4 : View sig .tc .vmem S2048x1024 .bf16 := (Memref.whole cc0_stg4_0 : Memref sig .tc .vmem S2048x1024 .bf16).view

/-- The run at the first point, on the blocks it finds. -/
def first (c : Dev nD) (t : Fin cfg0.N) (h : t.val % 11 = 0) :=
  runFirst c (grid0.coords t) (ms0_0 t) (hs0_0 t) (ms0_1 t) (hs0_1 t) (ms0_2 t) (hs0_2 t) (Memref.whole main_v20) (Memref.isWhole_whole _) (ms0_3 t) (hs0_3 t) (ms0_4 t) (hs0_4 t) ((first_iff t).mpr h) (fun h' => (later_iff t).mp h' h) (iblk m c 0 t) (iblk m c 1 t) (iblk m c 2 t)

/-- The run at a later point, on the normalised rows `x4`. -/
def later (c : Dev nD) (t : Fin cfg0.N) (h : ¬t.val % 11 = 0) (x4 : Vec F S2048x1024 .bf16) :=
  runLater c (grid0.coords t) (ms0_0 t) (hs0_0 t) (ms0_1 t) (hs0_1 t) (ms0_2 t) (hs0_2 t) (Memref.whole main_v20) (Memref.isWhole_whole _) (ms0_3 t) (hs0_3 t) (ms0_4 t) (hs0_4 t) (fun h' => h ((first_iff t).mp h')) ((later_iff t).mpr h) (iblk m c 0 t) (iblk m c 1 t) (iblk m c 2 t) x4

/-- The first point. -/
abbrev point0 : Fin cfg0.N := ⟨0, by rw [show cfg0.N = 11 from N_0]; decide⟩

/-- The normalised rows, as the first point leaves them. -/
def rows (c : Dev nD) : Vec F S2048x1024 .bf16 :=
  VO4.read (Elt F) (VO4.writes (Elt F) VO4.junk (first m c point0 rfl).2.1)

/-- What a point leaves in the first result's buffer. -/
def proj (c : Dev nD) (t : Fin cfg0.N) : Vec F S2048x768 .f32 :=
  if h : t.val % 11 = 0 then VO3.read (Elt F) (VO3.writes (Elt F) VO3.junk (first m c t h).1)
  else VO3.read (Elt F) (VO3.writes (Elt F) VO3.junk (later m c t h (rows m c)).1)

/-- At the first point the pieces of the first result cover its block. -/
theorem cover_first3 (c : Dev nD) (t : Fin cfg0.N) (h : t.val % 11 = 0) (y : S2048x768.Idx) : ∃ pc ∈ (first m c t h).1, y ∈ pc.1.set :=
  View.cover_of_tiledL (first m c t h).1 S256x768.size (by sl_kernel_rfl) y

/-- At the first point the pieces of the second result cover its block. -/
theorem cover_first4 (c : Dev nD) (t : Fin cfg0.N) (h : t.val % 11 = 0) (y : S2048x1024.Idx) : ∃ pc ∈ (first m c t h).2.1, y ∈ pc.1.set :=
  View.cover_of_tiledL (first m c t h).2.1 S256x1024.size (by sl_kernel_rfl) y

/-- At a later point the pieces of the first result cover its block. -/
theorem cover_later3 (c : Dev nD) (t : Fin cfg0.N) (h : ¬t.val % 11 = 0) (x4 : Vec F S2048x1024 .bf16) (y : S2048x768.Idx) :
    ∃ pc ∈ (later m c t h x4).1, y ∈ pc.1.set :=
  View.cover_of_tiledL (later m c t h x4).1 S512x768.size (by sl_kernel_rfl) y

/-- The proof data: each input's buffer at its block, the first result's at the point's product, the second's at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => proj m c t
    | ⟨4, _⟩ => rows m c
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-! What the body leaves and finds, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = proj m c t := by dsimp only [dats]
theorem after0_4 (c : Dev nD) (t : Fin cfg0.N) : (dats m 0 c).after 4 t = rows m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The first result is written at every point. -/
theorem idle3 (t : Fin cfg0.N) : cfg0.idle 3 (cfg0.grid.coords t) = false := by
  show (!(k0_cond1 (grid0.coords t) == 1#1) && !(k0_cond2 (grid0.coords t) == 1#1)) = false
  by_cases h : t.val % 11 = 0
  · rw [(first_iff t).mpr h]; rfl
  · rw [(later_iff t).mpr h, Bool.and_eq_false_iff]; exact Or.inr rfl

/-- The second result is written at the first point, -/
theorem idle4_first (t : Fin cfg0.N) (h : t.val % 11 = 0) : cfg0.idle 4 (cfg0.grid.coords t) = false := by
  show (!(k0_cond1 (grid0.coords t) == 1#1)) = false
  rw [(first_iff t).mpr h]; rfl

/-- and at no other. -/
theorem idle4_later (t : Fin cfg0.N) (h : ¬t.val % 11 = 0) : cfg0.idle 4 (cfg0.grid.coords t) = true := by
  show (!(k0_cond1 (grid0.coords t) == 1#1)) = true
  rw [beq_false_of_ne (fun h' => h ((first_iff t).mp h'))]; rfl

/-- After the first point the second result's buffer holds the normalised rows, through all the points that leave it alone. -/
theorem before0_4 (c : Dev nD) (d) : ∀ (n : ℕ) (hn : n < cfg0.N), n ≠ 0 → (dats m 0 c).before 4 ⟨n, hn⟩ d = rows m c := by
  intro n
  induction n with
  | zero => exact fun _ h => absurd rfl h
  | succ n ih =>
    intro hn _
    have hN : n + 1 < 11 := lt_of_lt_of_eq hn (show cfg0.N = 11 from N_0)
    have hfl : (cfg0.win 4).flush ⟨n, Nat.lt_of_succ_lt hn⟩ = false :=
      Bool.eq_false_iff.mpr fun h => by have := (flush0_4 _).mp h; dsimp only at this; omega
    rw [Dat.before_of_pos _ 4 ⟨n + 1, hn⟩ (by dsimp only; omega) ((cfg0.win 4).fetch_out rfl _)]
    simp only [Nat.add_sub_cancel]
    rw [hfl, if_neg Bool.false_ne_true]
    unfold Dat.left
    by_cases h0 : n = 0
    · subst h0
      rw [idle4_first _ rfl]
      dsimp only
      unfold Dat.kept
      rw [Pipeline.fill_of_clip_none 4 _ (fun _ => rfl) d ((dats m 0 c).after 4 _), Pipeline.Window.fill_cut, after0_4]
    · rw [idle4_later _ (by dsimp only; omega)]
      exact ih (Nat.lt_of_succ_lt hn) h0

/-- What the body is called with at a point, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t ∗ (dats m 0 c).leavesExact 4 t)

/-- At every point the first result's buffer is left at the point's product. -/
theorem leaves3 (c : Dev nD) (t : Fin cfg0.N) :
    (dats m 0 c).leavesExact 3 t = owns (c : Thread nD τ) (ms0_3 t) fullShare (proj m c t) := by
  unfold Dat.leavesExact; rw [idle3, after0_3]

/-- At every point the second result's buffer may be left at the normalised rows. -/
theorem leaves4 (c : Dev nD) (t : Fin cfg0.N) :
    owns (c : Thread nD τ) (ms0_4 t) fullShare (rows m c) ⊢ (dats m 0 c).leavesExact 4 t := by
  by_cases h : t.val % 11 = 0
  · unfold Dat.leavesExact; rw [idle4_first t h, after0_4]
  · cases hf : (cfg0.win 4).flush t
    · rw [Dat.leavesExact_idle _ 4 t (idle4_later t h) hf]
      iintro H
      iexists rows m c
      rw [before0_4 m c _ t.val t.isLt (by omega)]
      iexact H
    · unfold Dat.leavesExact; rw [idle4_later t h, hf, after0_4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, leaves3]
  rw [show (dats m 0 c).Φ t.succ = (dats m 0 c).Φ t.castSucc from rfl,
    show (dats m 0 c).owesAt () t.succ = (dats m 0 c).owesAt () t.castSucc from rfl,
    after0_0, after0_1, after0_2]
  have hN : t.val < 11 := lt_of_lt_of_eq t.isLt (show cfg0.N = 11 from N_0)
  by_cases h0 : t.val % 11 = 0
  · obtain rfl : t = point0 := Fin.ext (by show t.val = 0; omega)
    iintro ⟨HΦ, Ho, ⟨%d0, H0⟩, ⟨%d1, H1⟩, ⟨%d2, H2⟩, ⟨%d3, H3⟩, ⟨%d4, H4⟩⟩
    iapply ((first m c point0 h0).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns proj; rw [dif_pos h0]; iexists _; isplitr
      swap; · iexact H3
      ipureintro; exact View.read_writes_of_cover _ _ _ _ _ (cover_first3 m c point0 h0)
    iapply (leaves4 m c point0)
    unfold owns rows; iexists _; isplitr
    swap; · iexact H4
    ipureintro; exact View.read_writes_of_cover _ _ _ _ _ (cover_first4 m c point0 h0)
  · have hb : ∀ d, (dats m 0 c).before 4 t d = rows m c := fun d => before0_4 m c d t.val t.isLt (by omega)
    simp only [hb]
    iintro ⟨HΦ, Ho, ⟨%d0, H0⟩, ⟨%d1, H1⟩, ⟨%d2, H2⟩, ⟨%d3, H3⟩, ⟨%d4, H4⟩⟩
    iapply ((later m c t h0 (rows m c)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns proj; rw [dif_neg h0]; iexists _; isplitr
      swap; · iexact H3
      ipureintro; exact View.read_writes_of_cover _ _ _ _ _ (cover_later3 m c t h0 (rows m c))
    iapply (leaves4 m c t)
    iexact H4

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends, leaves the arguments and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.FprojKernelIdeal.Own

end
-- ==== Proof.FprojFrameBits.lean ====
module

public import proofs.«01_k».proof.Proof.FprojFrame
public import proofs.«01_k».proof.FprojKernel
public import proofs.«01_k».proof.Proof.Gen.FprojKernel.Launch

/-!
The frame of the call as it is compiled, from the one of the call without roundings: the two are one program.
-/

@[expose] public section

set_option maxRecDepth 100000

open Idealize.ShloMosaic

namespace Cert.FprojKernel.Own

variable {F : FTy → Type} [FloatOps F]

/-- The two printings of the call bind its one label to the same body. -/
theorem defs₀_eq : Cert.FprojKernel.defs₀ (F := F) = Cert.FprojKernelIdeal.defs₀ := by
  refine congrArg Defs.onTc (funext fun l => funext fun a => ?_)
  match l, a with
  | ⟨0, _⟩, (t, s) => rfl
  | ⟨_ + 1, h⟩, _ => exact absurd h (Nat.not_lt.2 (Nat.le_add_left _ _))

/-- So the two tables of bodies are one. -/
theorem defs_eq : Cert.FprojKernel.defs (F := F) = Cert.FprojKernelIdeal.defs :=
  congrArg (Pipeline.defs Cert.FprojKernelIdeal.pcfgs) defs₀_eq

/-- The two host programs are one. -/
theorem main_eq : Cert.FprojKernel.main (F := F) = Cert.FprojKernelIdeal.main := rfl

set_option maxHeartbeats 4000000 in
/-- Every run ends, leaves the arguments and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Cert.FprojKernelIdeal.Own.frame (F := F) m ρ
  rw [← defs_eq, ← main_eq] at h
  exact h

end Cert.FprojKernel.Own
-- ==== Proof.FprojForms.lean ====
module

public import proofs.«01_k».proof.Proof.InputForms

/-!
The input projection and the norm in front of it at one row: the row `x` of the residual stream, the norm's weights `f`, the
projection's matrix `W`, its columns in the padded order of `Input.padded`.
-/

@[expose] public section

open Idealize.ShloMosaic
open scoped BigOperators

noncomputable section

namespace Fproj

variable (x f : Fin 1024 → EReal) (W : Fin 1024 → Fin 8208 → EReal)

/-- The normed row. -/
def normed (k : Fin 1024) : EReal := x k * RowNorm.rms x * f k

/-- The projected row, its columns in the projection's own order. -/
def row (n : Fin 8208) : EReal := ∑ k, normed x f k * W k n

/-- The product with a matrix whose columns are padded is the padded product. -/
theorem sum_padded (n : Fin 8448) : ∑ k, normed x f k * Input.padded (W k) n = Input.padded (row x f W) n := by
  unfold Input.padded
  split_ifs with h
  · rfl
  · simp only [mul_zero, Finset.sum_const_zero]

end Fproj

end
-- ==== Proof.FprojKernel.lean ====
module

public import proofs.«01_k».proof.Proof.FprojFrame
public import proofs.«01_k».proof.Proof.FprojForms
public import proofs.«01_k».proof.Proof.Idx2
public import proofs.«01_k».proof.Proof.UnitSums
public import Idealize.ShloMosaic.Lib.Pipeline.ValueKit
public import Idealize.ShloMosaic.Lib.Pointwise

/-!
The results of the input projection's kernel after its run: the normed rows, and their product with the matrix, block of columns
by block of columns.
-/

@[expose] public section

set_option maxRecDepth 16384

noncomputable section

open Idealize.ShloMosaic Idealize.ShloMosaic.TcCoe Idealize.SL.Sem
open Idealize.ShloMosaic.Pipeline (Dat)
open scoped BigOperators

namespace Cert.FprojKernelIdeal.Fproj

open Cert.FprojKernelIdeal Cert.FprojKernelIdeal.Gen Cert.FprojKernelIdeal.Own
open Idx2 (emb_eq)
open _root_.Input (padded col)
open _root_.Fproj (normed)

/-- A tile of normed rows. -/
theorem norm_at (x : FVec Ideal S256x1024 .f32) (f : FVec Ideal S1x1024 .f32) (r : Fin 256) (k : Fin 1024) :
    k0_pay8 (F := Ideal) x f (ix2 r k) = normed (fun k => x (ix2 r k)) (fun k => f (ix2 0 k)) k := by
  pointwise [k0_pay8, normed, RowNorm.rms, RowNorm.ms]

/-- A tile of normed rows times a block of the matrix. -/
theorem first_at (x : FVec Ideal S256x1024 .f32) (f : FVec Ideal S1x1024 .f32) (w : FVec Ideal S768x1024 .bf16) (r : Fin 256) (n : Fin 768) :
    k0_pay9 (F := Ideal) x f w (ix2 r n) = ∑ k, normed (fun k => x (ix2 r k)) (fun k => f (ix2 0 k)) k * (show EReal from w (ix2 n k)) := by
  pointwise [k0_pay9, norm_at]

/-- A tile of rows times a block of the matrix. -/
theorem later_at (h : FVec Ideal S512x1024 .bf16) (w : FVec Ideal S768x1024 .bf16) (r : Fin 512) (n : Fin 768) :
    k0_pay4 (F := Ideal) h w (ix2 r n) = ∑ k, HMul.hMul (α := EReal) (β := EReal) (h (ix2 r k)) (w (ix2 n k)) := by
  pointwise [k0_pay4]

variable (m : (ℓ : Loc nD τ sig) → Buf (Elt Ideal) ℓ) (c : Dev nD)

/-- The three arguments. -/
abbrev inX : FVec Ideal S2048x1024 .f32 := m ((c.tc : Thread nD τ).loc main_arg0)
abbrev inN : FVec Ideal S1x1024 .f32 := m ((c.tc : Thread nD τ).loc main_arg1)
abbrev inW : FVec Ideal S1024x8208 .f32 := m ((c.tc : Thread nD τ).loc main_arg2)

/-- A row of the residual stream, the norm's weights, the matrix. -/
abbrev stream (u : Fin 2048) (k : Fin 1024) : EReal := inX m c (ix2 u k)
abbrev weights (k : Fin 1024) : EReal := inN m c (ix2 0 k)
abbrev matrix (k : Fin 1024) (n : Fin 8208) : EReal := inW m c (ix2 k n)

set_option maxRecDepth 200000 in
set_option maxHeartbeats 4000000 in
/-- A row of the matrix as the host lays it out. -/
theorem matrix_at (n : Fin 8448) (k : Fin 1024) : V m c main_v19 (ix2 n k) = padded (fun j => inW m c (ix2 k j)) n := by
  generalize hr : padded _ _ = rhs
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  subst hr
  rcases (by omega : n.val < 4096 ∨ (4096 ≤ n.val ∧ n.val < 8192) ∨ (8192 ≤ n.val ∧ n.val < 8208) ∨ 8208 ≤ n.val) with h | h | h | h
  · rw [dif_pos (by omega)]
    after_results_simp; pointwise
    unfold padded
    rw [dif_pos (by omega)]
    simp only [_root_.Input.col_low n.val h]
  · rw [dif_neg (by omega), dif_pos (by omega)]
    after_results_simp; pointwise
    have e : col n.val = 4112 + 1024 * (n.val / 256 % 4) + ((n.val - 4096) / 1024 * 256 + n.val % 256) := by
      unfold col; rw [if_neg (by omega), if_pos (by omega)]
    unfold padded
    rw [dif_pos (show n.val < 8208 by omega)]
    have hg : n.val / 256 % 4 = 0 ∨ n.val / 256 % 4 = 1 ∨ n.val / 256 % 4 = 2 ∨ n.val / 256 % 4 = 3 := by omega
    rcases hg with hg | hg | hg | hg
    · rw [dif_pos (by omega)]
      after_results_simp; pointwise
      exact congrArg (fun j => inW m c (ix2 k j)) (Fin.ext (by dsimp only; omega))
    · rw [dif_neg (by omega), dif_pos (by omega)]
      after_results_simp; pointwise
      exact congrArg (fun j => inW m c (ix2 k j)) (Fin.ext (by dsimp only; omega))
    · rw [dif_neg (by omega), dif_neg (by omega), dif_pos (by omega)]
      after_results_simp; pointwise
      exact congrArg (fun j => inW m c (ix2 k j)) (Fin.ext (by dsimp only; omega))
    · rw [dif_neg (by omega), dif_neg (by omega), dif_neg (by omega)]
      after_results_simp; pointwise
      exact congrArg (fun j => inW m c (ix2 k j)) (Fin.ext (by dsimp only; omega))
  · rw [dif_neg (by omega), dif_neg (by omega), dif_pos (by omega)]
    after_results_simp; pointwise
    unfold padded
    rw [dif_pos (by omega)]
    simp only [_root_.Input.col_high n.val h.1]
    exact congrArg (fun j => inW m c (ix2 k j)) (Fin.ext (by dsimp only; omega))
  · rw [dif_neg (by omega), dif_neg (by omega), dif_neg (by omega)]
    after_results_simp; pointwise
    unfold padded
    rw [dif_neg (by omega)]

/-- Where each window's block stands at a point of the grid. -/
theorem idx : ∀ t : Fin cfg0.N, win0_0.index t = ![0, 0]
    ∧ win0_1.index t = ![0, 0]
    ∧ win0_2.index t = ![t.val, 0]
    ∧ win0_3.index t = ![0, t.val]
    ∧ win0_4.index t = ![0, 0] :=
  (by decide +kernel : ∀ t : Fin grid0.N, _)

/-- The three blocks at a point. -/
abbrev bX (t : Fin cfg0.N) : FVec Ideal S2048x1024 .f32 := iblk m c 0 t
abbrev bN (t : Fin cfg0.N) : FVec Ideal S1x1024 .f32 := iblk m c 1 t
abbrev bW (t : Fin cfg0.N) : FVec Ideal S768x1024 .bf16 := iblk m c 2 t

theorem col_lt (t : Fin cfg0.N) (n : Fin 768) : 768 * t.val + n.val < 8448 := by
  have := lt_of_lt_of_eq t.isLt N_0; omega

theorem bX_at (t : Fin cfg0.N) (r : Fin 2048) (k : Fin 1024) : bX m c t (ix2 r k) = inX m c (ix2 r k) := by
  blk_point [bX, iblk, idx t]

theorem bN_at (t : Fin cfg0.N) (k : Fin 1024) : bN m c t (ix2 0 k) = inN m c (ix2 0 k) := by
  blk_point [bN, iblk, idx t]

theorem bW_at (t : Fin cfg0.N) (n : Fin 768) (k : Fin 1024) :
    bW m c t (ix2 n k) = padded (matrix m c k) ⟨768 * t.val + n.val, col_lt t n⟩ := by
  refine Eq.trans ?_ (matrix_at m c ⟨768 * t.val + n.val, col_lt t n⟩ k)
  blk_point [bW, iblk, idx t]

/-- The two results. -/
def resP : FVec Ideal S2048x8448 .f32 := fun i => padded (_root_.Fproj.row (stream m c (i 0)) (weights m c) (matrix m c)) (i 1)
def resH : FVec Ideal S2048x1024 .bf16 := fun i => normed (stream m c (i 0)) (weights m c) (i 1)

/-- A block of columns of the first result. -/
def blockP (t : Fin cfg0.N) : FVec Ideal S2048x768 .f32 := fun i => resP m c (ix2 (i 0) ⟨768 * t.val + (i 1).val, col_lt t (i 1)⟩)

/-- The tiles' texts say the same. -/
theorem pays (x : FVec Ideal S256x1024 .f32) (f : FVec Ideal S1x1024 .f32) :
    k0_pay10 (F := Ideal) x f = k0_pay8 x f ∧ k0_pay12 (F := Ideal) x f = k0_pay8 x f ∧ k0_pay16 (F := Ideal) x (k0_pay14 x) k0_pay15 f = k0_pay8 x f
      ∧ k0_pay18 (F := Ideal) x f = k0_pay8 x f ∧ k0_pay20 (F := Ideal) x f = k0_pay8 x f ∧ k0_pay22 (F := Ideal) x f = k0_pay8 x f
      ∧ k0_pay2 (F := Ideal) x f = k0_pay8 x f := ⟨rfl, rfl, rfl, rfl, rfl, rfl, rfl⟩

theorem prods (x : FVec Ideal S256x1024 .f32) (f : FVec Ideal S1x1024 .f32) (w : FVec Ideal S768x1024 .bf16) :
    k0_pay11 (F := Ideal) (k0_pay10 x f) w = k0_pay9 x f w ∧ k0_pay13 (F := Ideal) x f w = k0_pay9 x f w
      ∧ k0_pay17 (F := Ideal) x (k0_pay14 x) k0_pay15 f w = k0_pay9 x f w ∧ k0_pay19 (F := Ideal) x f w = k0_pay9 x f w
      ∧ k0_pay21 (F := Ideal) x f w = k0_pay9 x f w ∧ k0_pay1 (F := Ideal) (k0_pay22 x f) w = k0_pay9 x f w
      ∧ k0_pay3 (F := Ideal) x f w = k0_pay9 x f w := ⟨rfl, rfl, rfl, rfl, rfl, rfl, rfl⟩

theorem laters (h : FVec Ideal S512x1024 .bf16) (w : FVec Ideal S768x1024 .bf16) :
    k0_pay5 (F := Ideal) h w = k0_pay4 h w ∧ k0_pay6 (F := Ideal) h w = k0_pay4 h w ∧ k0_pay7 (F := Ideal) h w = k0_pay4 h w := ⟨rfl, rfl, rfl⟩

/-- A tile of the residual stream. -/
theorem ldX (t : Fin cfg0.N) (o : ℕ) (ho : o + 256 ≤ 2048) (h1) (r : Fin 256) (k : Fin 1024) :
    View.ld (iblk m c 0 t) (Rect.unit (s := S2048x1024) ![o, 0] ![256, 1024] h1) (ix2 r k) = stream m c ⟨o + r.val, by omega⟩ k :=
  (View.ld_unit_apply_of (S := S2048x1024) (iblk m c 0 t) ![o, 0] ![256, 1024] h1 (ix2 r k) (ix2 ⟨o + r.val, by omega⟩ k)
    (by intro q; fin_cases q <;> simp)).trans (bX_at m c t _ k)

/-- A tile of the normed rows, from the blocks the first point finds. -/
theorem tileH (t : Fin cfg0.N) (o : ℕ) (ho : o + 256 ≤ 2048) (h1) (x : S256x1024.Idx) :
    k0_pay8 (F := Ideal) (View.ld (iblk m c 0 t) (Rect.unit (s := S2048x1024) ![o, 0] ![256, 1024] h1)) (iblk m c 1 t) x
      = resH m c ((Rect.unit (s := S2048x1024) ![o, 0] ![256, 1024] h1).emb x) := by
  idx_vars x
  refine (norm_at _ (bN m c t) x0 x1).trans ?_
  simp only [ldX m c t o ho, bN_at m c t]
  exact (congrArg (resH m c) (emb_eq _ ⟨o + x0.val, by omega⟩ x1 (by simp) (by simp))).symm

/-- A tile of the product, from the blocks the first point finds. -/
theorem tileP (t : Fin cfg0.N) (o : ℕ) (ho : o + 256 ≤ 2048) (h1) (h4) (x : S256x768.Idx) :
    k0_pay9 (F := Ideal) (View.ld (iblk m c 0 t) (Rect.unit (s := S2048x1024) ![o, 0] ![256, 1024] h1)) (iblk m c 1 t) (iblk m c 2 t) x
      = blockP m c t ((Rect.unit (s := S2048x768) ![o, 0] ![256, 768] h4).emb x) := by
  idx_vars x
  refine (first_at _ (bN m c t) (bW m c t) x0 x1).trans ?_
  simp only [ldX m c t o ho, bN_at m c t, bW_at m c t]
  refine (_root_.Fproj.sum_padded (stream m c ⟨o + x0.val, by omega⟩) (weights m c) (matrix m c) _).trans ?_
  exact (congrArg (blockP m c t) (emb_eq _ ⟨o + x0.val, by omega⟩ x1 (by simp) (by simp))).symm

/-- A tile of the normed rows, loaded. -/
theorem ldH (X : Vec Ideal S2048x1024 .bf16) (o : ℕ) (ho : o + 512 ≤ 2048) (h1) (r : Fin 512) (k : Fin 1024) :
    View.ld X (Rect.unit (s := S2048x1024) ![o, 0] ![512, 1024] h1) (ix2 r k) = X (ix2 ⟨o + r.val, by omega⟩ k) :=
  View.ld_unit_apply_of (S := S2048x1024) X ![o, 0] ![512, 1024] h1 (ix2 r k) (ix2 ⟨o + r.val, by omega⟩ k)
    (by intro q; fin_cases q <;> simp)

/-- A tile of the product from the normed rows, at a later point. -/
theorem tileQ (t : Fin cfg0.N) (o : ℕ) (ho : o + 512 ≤ 2048) (h1) (h4) (x : S512x768.Idx) :
    k0_pay4 (F := Ideal) (View.ld (e' := .bf16) (resH m c) (Rect.unit (s := S2048x1024) ![o, 0] ![512, 1024] h1)) (iblk m c 2 t) x
      = blockP m c t ((Rect.unit (s := S2048x768) ![o, 0] ![512, 768] h4).emb x) := by
  idx_vars x
  refine (later_at _ (bW m c t) x0 x1).trans ?_
  simp only [ldH (resH m c) o ho h1, bW_at m c t]
  refine (_root_.Fproj.sum_padded (stream m c ⟨o + x0.val, by omega⟩) (weights m c) (matrix m c) _).trans ?_
  exact (congrArg (blockP m c t) (emb_eq _ ⟨o + x0.val, by omega⟩ x1 (by simp) (by simp))).symm

/-- The rows that the first point leaves are the normed ones. -/
theorem rows_eq : rows m c = resH m c := by
  funext y
  unfold rows
  refine View.read_writes_apply_of_pieces _ _ (resH m c) _ ?_ y (cover_first4 m c point0 rfl y)
  unfold first runFirst
  dsimp only
  simp only [List.forall_mem_cons]
  frame_out
  refine ⟨fun x => ?_, fun x => ?_, fun x => ?_, fun x => ?_, fun x => ?_, fun x => ?_, fun x => ?_, fun x => ?_, fun p hp => absurd hp List.not_mem_nil⟩
  · exact (congrFun (pays _ _).2.2.2.2.2.2 x).trans (tileH m c point0 1792 (by omega) inb_S2048x1024_S256x1024_1792_0 x)
  · exact (congrFun (pays _ _).2.2.2.2.2.1 x).trans (tileH m c point0 1536 (by omega) inb_S2048x1024_S256x1024_1536_0 x)
  · exact (congrFun (pays _ _).2.2.2.2.1 x).trans (tileH m c point0 1280 (by omega) inb_S2048x1024_S256x1024_1280_0 x)
  · exact (congrFun (pays _ _).2.2.2.1 x).trans (tileH m c point0 1024 (by omega) inb_S2048x1024_S256x1024_1024_0 x)
  · exact (congrFun (pays _ _).2.2.1 x).trans (tileH m c point0 768 (by omega) inb_S2048x1024_S256x1024_768_0 x)
  · exact (congrFun (pays _ _).2.1 x).trans (tileH m c point0 512 (by omega) inb_S2048x1024_S256x1024_512_0 x)
  · exact (congrFun (pays _ _).1 x).trans (tileH m c point0 256 (by omega) inb_S2048x1024_S256x1024_256_0 x)
  · exact tileH m c point0 0 (by omega) inb_S2048x1024_S256x1024_0_0 x

/-- The block of the product that the first point leaves. -/
theorem proj_first (t : Fin cfg0.N) (h : t.val % 11 = 0) : proj m c t = blockP m c t := by
  funext y
  unfold proj
  rw [dif_pos h]
  refine View.read_writes_apply_of_pieces _ _ (blockP m c t) _ ?_ y (cover_first3 m c t h y)
  unfold first runFirst
  dsimp only
  simp only [List.forall_mem_cons]
  frame_out
  refine ⟨fun x => ?_, fun x => ?_, fun x => ?_, fun x => ?_, fun x => ?_, fun x => ?_, fun x => ?_, fun x => ?_, fun p hp => absurd hp List.not_mem_nil⟩
  · exact (congrFun (prods _ _ _).2.2.2.2.2.2 x).trans (tileP m c t 1792 (by omega) inb_S2048x1024_S256x1024_1792_0 _ x)
  · exact (congrFun (prods _ _ _).2.2.2.2.2.1 x).trans (tileP m c t 1536 (by omega) inb_S2048x1024_S256x1024_1536_0 _ x)
  · exact (congrFun (prods _ _ _).2.2.2.2.1 x).trans (tileP m c t 1280 (by omega) inb_S2048x1024_S256x1024_1280_0 _ x)
  · exact (congrFun (prods _ _ _).2.2.2.1 x).trans (tileP m c t 1024 (by omega) inb_S2048x1024_S256x1024_1024_0 _ x)
  · exact (congrFun (prods _ _ _).2.2.1 x).trans (tileP m c t 768 (by omega) inb_S2048x1024_S256x1024_768_0 _ x)
  · exact (congrFun (prods _ _ _).2.1 x).trans (tileP m c t 512 (by omega) inb_S2048x1024_S256x1024_512_0 _ x)
  · exact (congrFun (prods _ _ _).1 x).trans (tileP m c t 256 (by omega) inb_S2048x1024_S256x1024_256_0 _ x)
  · exact tileP m c t 0 (by omega) inb_S2048x1024_S256x1024_0_0 _ x

/-- The block of the product that a later point leaves. -/
theorem proj_later (t : Fin cfg0.N) (h : ¬t.val % 11 = 0) : proj m c t = blockP m c t := by
  funext y
  unfold proj
  rw [dif_neg h]
  refine View.read_writes_apply_of_pieces _ _ (blockP m c t) _ ?_ y (cover_later3 m c t h _ y)
  unfold later runLater
  dsimp only
  simp only [List.forall_mem_cons]
  rw [rows_eq]
  frame_out
  refine ⟨fun x => ?_, fun x => ?_, fun x => ?_, fun x => ?_, fun p hp => absurd hp List.not_mem_nil⟩
  · exact (congrFun (laters _ _).2.2 x).trans (tileQ m c t 1536 (by omega) inb_S2048x1024_S512x1024_1536_0 _ x)
  · exact (congrFun (laters _ _).2.1 x).trans (tileQ m c t 1024 (by omega) inb_S2048x1024_S512x1024_1024_0 _ x)
  · exact (congrFun (laters _ _).1 x).trans (tileQ m c t 512 (by omega) inb_S2048x1024_S512x1024_512_0 _ x)
  · exact tileQ m c t 0 (by omega) inb_S2048x1024_S512x1024_0_0 _ x

theorem proj_eq (t : Fin cfg0.N) : proj m c t = blockP m c t := by
  by_cases h : t.val % 11 = 0
  exacts [proj_first m c t h, proj_later m c t h]

/-- The first result after the run. -/
theorem final_3 : (dats m 0 c).arrAt 3 (cfgs 0).N = resP m c := by
  refine (dats m 0 c).arrAt_eq_of_covers 3 _ (by decide +kernel) fun t hf y => ?_
  blk_simp; rw [after0_3, proj_eq]
  obtain ⟨q, hq⟩ : ∃ q : Fin 2048, q.val = (y 0).val := ⟨⟨(y 0).val, (y 0).isLt⟩, rfl⟩
  obtain ⟨k, hk⟩ : ∃ k : Fin 768, k.val = (y 1).val := ⟨⟨(y 1).val, (y 1).isLt⟩, rfl⟩
  rw [show y = ix2 q k from emb_eq y q k hq.symm hk.symm]
  show resP m c (ix2 q ⟨768 * t.val + k.val, col_lt t k⟩) = _
  obtain ⟨u, hu⟩ : ∃ u : Fin 8448, u.val = 768 * t.val + k.val := ⟨⟨_, col_lt t k⟩, rfl⟩
  rw [show (⟨768 * t.val + k.val, col_lt t k⟩ : Fin 8448) = u from Fin.ext hu.symm]
  exact (congrArg (resP m c) (emb_eq _ _ _ (by blk_simp [idx t] <;> omega) (by blk_simp [idx t] <;> omega)).symm)

/-- The second result after the run. -/
theorem final_4 : (dats m 0 c).arrAt 4 (cfgs 0).N = resH m c := by
  refine (dats m 0 c).arrAt_eq_of_covers 4 _ (by decide +kernel) fun t hf y => ?_
  blk_simp; rw [after0_4, rows_eq]
  obtain ⟨q, hq⟩ : ∃ q : Fin 2048, q.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 q k from emb_eq y q k hq.symm hk.symm]
  exact (congrArg (resH m c) (emb_eq _ _ _ (by blk_simp [idx t] <;> omega) (by blk_simp [idx t] <;> omega)).symm)

end Cert.FprojKernelIdeal.Fproj

end
-- ==== Proof.FprojRef.lean ====
module

public import proofs.«01_k».proof.Proof.Gen.FprojReferenceIdeal.Read
public import proofs.«01_k».proof.Proof.FprojForms
public import proofs.«01_k».proof.Proof.UnitSums
public import Idealize.ShloMosaic.Lib.Pointwise

/-!
The reference of the input projection: its two results read at an index.
-/

@[expose] public section

set_option maxRecDepth 16384

noncomputable section

open Idealize.ShloMosaic Idealize.ShloMosaic.TcCoe Idealize.SL.Sem
open scoped BigOperators

namespace Cert.FprojReferenceIdeal.Fproj

open Cert.FprojReferenceIdeal Cert.FprojReferenceIdeal.Gen
open Cert.FprojReferenceIdeal.Read
open _root_.Fproj (normed row)
open _root_.Input (padded col)

variable (X : FVec Ideal S2048x1024 .f32) (N : FVec Ideal S1x1024 .f32) (W : FVec Ideal S1024x8208 .f32)

/-- A row of the residual stream, the norm's weights, the matrix. -/
abbrev stream (u : Fin 2048) (k : Fin 1024) : EReal := X (ix2 u k)
abbrev weights (k : Fin 1024) : EReal := N (ix2 0 k)
abbrev matrix (k : Fin 1024) (n : Fin 8208) : EReal := W (ix2 k n)

/-- The reciprocal root of the row's mean square. -/
theorem v8_at (r : Fin 2048) (u : Fin 1) : val_main_v8 (F := Ideal) X (ix2 r u) = RowNorm.rms (stream X r) := by
  pointwise [val_main_v8, val_main_v7, val_main_v6, val_main_cst_1, val_main_v5, val_main_v4, val_main_cst_0, val_main_v3, val_main_v2, val_main_cst,
    val_main_v1, RowNorm.rms, RowNorm.ms]

/-- The normed row. -/
theorem v13_at (r : Fin 2048) (k : Fin 1024) : val_main_v13 (F := Ideal) X N (ix2 r k) = normed (stream X r) (weights N) k := by
  pointwise [val_main_v13, val_main_v12, val_main_v11, val_main_v0, val_main_v10, val_main_v9, v8_at, normed]

/-- The second result. -/
theorem v33_at (r : Fin 2048) (k : Fin 1024) : val_main_v33 (F := Ideal) X N (ix2 r k) = normed (stream X r) (weights N) k := by
  pointwise [val_main_v33, v13_at]

/-- The projected row. -/
theorem v14_at (r : Fin 2048) (n : Fin 8208) : val_main_v14 (F := Ideal) X N W (ix2 r n) = row (stream X r) (weights N) (matrix W) n := by
  pointwise [val_main_v14, v13_at, row]

/-- The columns of the short convolution, block by block. -/
theorem v28_at (r : Fin 2048) (n : Fin 4096) (j : Fin 8208) (hj : j.val = 4112 + 1024 * (n.val / 256 % 4) + (n.val / 1024 * 256 + n.val % 256)) :
    val_main_v28 (F := Ideal) X N W (ix2 r n) = row (stream X r) (weights N) (matrix W) j := by
  refine Eq.trans ?_ (v14_at X N W r j)
  pointwise [val_main_v28, val_main_v27]
  have hg : n.val / 256 % 4 = 0 ∨ n.val / 256 % 4 = 1 ∨ n.val / 256 % 4 = 2 ∨ n.val / 256 % 4 = 3 := by omega
  rcases hg with hg | hg | hg | hg
  · rw [dif_pos (by omega)]
    pointwise [val_main_v23, val_main_v16, val_main_v15]
    exact congrArg (fun j => val_main_v14 (F := Ideal) X N W (ix2 r j)) (Fin.ext (by dsimp only; omega))
  · rw [dif_neg (by omega), dif_pos (by omega)]
    pointwise [val_main_v24, val_main_v18, val_main_v17]
    exact congrArg (fun j => val_main_v14 (F := Ideal) X N W (ix2 r j)) (Fin.ext (by dsimp only; omega))
  · rw [dif_neg (by omega), dif_neg (by omega), dif_pos (by omega)]
    pointwise [val_main_v25, val_main_v20, val_main_v19]
    exact congrArg (fun j => val_main_v14 (F := Ideal) X N W (ix2 r j)) (Fin.ext (by dsimp only; omega))
  · rw [dif_neg (by omega), dif_neg (by omega), dif_neg (by omega)]
    pointwise [val_main_v26, val_main_v22, val_main_v21]
    exact congrArg (fun j => val_main_v14 (F := Ideal) X N W (ix2 r j)) (Fin.ext (by dsimp only; omega))

/-- The first result. -/
theorem v32_at (r : Fin 2048) (n : Fin 8448) :
    val_main_v32 (F := Ideal) X N W (ix2 r n) = padded (row (stream X r) (weights N) (matrix W)) n := by
  generalize hr : padded _ _ = rhs
  pointwise [val_main_v32]
  subst hr
  unfold padded
  rcases (by omega : n.val < 4096 ∨ (4096 ≤ n.val ∧ n.val < 8192) ∨ (8192 ≤ n.val ∧ n.val < 8208) ∨ 8208 ≤ n.val) with h | h | h | h
  · rw [dif_pos (by omega), dif_pos (by omega)]
    simp only [_root_.Input.col_low n.val h]
    pointwise [val_main_v29, v14_at]
  · rw [dif_neg (by omega), dif_pos (by omega), dif_pos (by omega)]
    refine v28_at X N W r _ _ ?_
    have e : col n.val = 4112 + 1024 * (n.val / 256 % 4) + ((n.val - 4096) / 1024 * 256 + n.val % 256) := by
      unfold col; rw [if_neg (by omega), if_pos (by omega)]
    dsimp only; omega
  · rw [dif_neg (by omega), dif_neg (by omega), dif_pos (by omega), dif_pos (by omega)]
    simp only [_root_.Input.col_high n.val h.1]
    pointwise [val_main_v30, v14_at]
    exact congrArg (row (stream X r) (weights N) (matrix W)) (Fin.ext (by dsimp only; omega))
  · rw [dif_neg (by omega), dif_neg (by omega), dif_neg (by omega), dif_neg (by omega)]
    pointwise [val_main_v31, val_main_cst_2]

end Cert.FprojReferenceIdeal.Fproj

end
-- ==== Proof.FprojPair.lean ====
module

public import proofs.«01_k».proof.Defs
public import proofs.«01_k».proof.Proof.FprojKernel
public import proofs.«01_k».proof.Proof.FprojRef
public import Idealize.ShloMosaic.Lib.Claim

/-!
The input projection computes its reference's two results.
-/

@[expose] public section

set_option maxRecDepth 16384

noncomputable section

open Idealize.ShloMosaic Idealize.ShloMosaic.TcCoe Idealize.SL.Sem
open scoped BigOperators

namespace Cert.FprojKernelIdeal.Run

open Cert.FprojKernelIdeal Cert.FprojKernelIdeal.Gen Cert.FprojKernelIdeal.Own
open Idealize.ShloMosaic.Pipeline (Dat)

variable {F : FTy → Type} [FloatOps F]
variable (m : (ℓ : Loc nD τ sig) → Buf (Elt F) ℓ) (ρ : Dev nD → PrngReg)

/-- The run leaves the two results as the proof data says. -/
theorem posts (r : PUnit × MemSt nD τ sig (Elt F)) (h : Pipeline.FramePost cfgs (dats m) 0 (V m) r) (c : Dev nD) :
    r.2.mem ((c : Thread nD τ).loc main_v21_0) = (dats m 0 c).arrAt 3 cfg0.N
      ∧ r.2.mem ((c : Thread nD τ).loc main_v21_1) = (dats m 0 c).arrAt 4 cfg0.N :=
  ⟨(h c).1 3, (h c).1 4⟩

/-- The run leaves the arguments. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩

/-- The run: its two results, its arguments. -/
theorem run_blocks : θ_run defs (onTc (τ := τ) (main (F := F))) ⟨m, fun _ => 0, ρ⟩ fun r => ∀ c : Dev nD,
      r.2.mem ((c : Thread nD τ).loc main_v21_0) = (dats m 0 c).arrAt 3 cfg0.N
      ∧ r.2.mem ((c : Thread nD τ).loc main_v21_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(posts m r h c).1, (posts m r h c).2, kept m r h c⟩) (run_main m ρ)

end Cert.FprojKernelIdeal.Run

namespace Cert.FprojPair

open Cert.FprojReferenceIdeal.Read
open Cert.FprojKernelIdeal.Fproj (inX inN inW final_3 final_4)

variable (m : (ℓ : Loc Cert.FprojKernelIdeal.nD Cert.FprojKernelIdeal.τ Cert.FprojKernelIdeal.sig) → Buf (Elt Ideal) ℓ) (c : Dev Cert.FprojKernelIdeal.nD)

/-- The projection, its columns in the padded order. -/
theorem eq_P : (Cert.FprojKernelIdeal.Own.dats m 0 c).arrAt 3 (Cert.FprojKernelIdeal.cfgs 0).N
    = val_main_v32 (F := Ideal) (inX m c) (inN m c) (inW m c) := by
  refine (final_3 m c).trans (funext fun i => ?_)
  idx_vars i
  exact (Cert.FprojReferenceIdeal.Fproj.v32_at (inX m c) (inN m c) (inW m c) i0 i1).symm

/-- The normed rows. -/
theorem eq_H : (Cert.FprojKernelIdeal.Own.dats m 0 c).arrAt 4 (Cert.FprojKernelIdeal.cfgs 0).N
    = val_main_v33 (F := Ideal) (inX m c) (inN m c) := by
  refine (final_4 m c).trans (funext fun i => ?_)
  idx_vars i
  exact (Cert.FprojReferenceIdeal.Fproj.v33_at (inX m c) (inN m c) i0 i1).symm

set_option maxHeartbeats 1600000 in
/-- The pair's claim. -/
theorem algebraic : algebraic_FprojKernelIdeal_FprojReferenceIdeal := by
  intro m g m' g' hpre hargs
  refine ⟨fun c => val_main_v32 (F := Ideal) (inX m c) (inN m c) (inW m c), fun c => val_main_v33 (F := Ideal) (inX m c) (inN m c), ?_, ?_⟩
  · refine (θ_run _ _ _).mono (fun r h c => ?_) (Cert.FprojKernelIdeal.Run.run_blocks m g)
    obtain ⟨h3, h4, a⟩ := h c
    exact ⟨h3.trans (eq_P m c), h4.trans (eq_H m c), a⟩
  · refine (θ_run _ _ _).mono (fun r h c => ?_) (Cert.FprojReferenceIdeal.Value.run m' g')
    obtain ⟨h3, h4, a⟩ := h c
    obtain ⟨e0, e1, e2⟩ := hargs c
    rw [val_main_v32_eq, e0, e1, e2] at h3
    rw [val_main_v33_eq, e0, e1] at h4
    exact ⟨h3, h4, a⟩

end Cert.FprojPair

end
-- ==== Proof.TnPair.lean ====
module

public import proofs.«01_k».proof.Defs
public import proofs.«01_k».proof.Proof.Gen.TnKernelIdeal.Value
public import proofs.«01_k».proof.Proof.Gen.TnReferenceIdeal.Read
public import proofs.«01_k».proof.Proof.InputForms
public import proofs.«01_k».proof.Proof.Idx2
public import Idealize.ShloMosaic.Lib.Claim
public import Idealize.ShloMosaic.Lib.Pipeline.ValueKit

/-!
The call that computes a weight's gradient computes its reference's: the product of the normed rows, transposed, with the cotangent of
the projection, its columns in the padded order of `Input.padded`, laid out by rows.
-/

@[expose] public section

set_option maxRecDepth 16384

noncomputable section

open Idealize.ShloMosaic Idealize.ShloMosaic.TcCoe Idealize.SL.Sem
open Idealize.ShloMosaic.Pipeline (Dat)
open scoped BigOperators

namespace Tn

variable (H : Fin 2048 → Fin 1024 → EReal) (D : Fin 2048 → Fin 8208 → EReal)

/-- The gradient of the projection's weights. -/
def grad (k : Fin 1024) (n : Fin 8208) : EReal := ∑ r, H r k * D r n

/-- The product with a cotangent whose columns are padded is the padded product. -/
theorem sum_padded (k : Fin 1024) (n : Fin 8448) : ∑ r, Input.padded (D r) n * H r k = Input.padded (grad H D k) n := by
  unfold Input.padded
  split_ifs with h
  · exact Finset.sum_congr rfl fun r _ => mul_comm _ _
  · simp only [zero_mul, Finset.sum_const_zero]

end Tn

namespace Cert.TnReferenceIdeal.Tn

open Cert.TnReferenceIdeal Cert.TnReferenceIdeal.Gen
open Cert.TnReferenceIdeal.Read
open _root_.Tn (grad)
open _root_.Input (padded col)

variable (H : FVec Ideal S2048x1024 .f32) (D : FVec Ideal S2048x8208 .f32)

/-- The normed rows, the cotangent. -/
abbrev rows (r : Fin 2048) (k : Fin 1024) : EReal := H (ix2 r k)
abbrev cot (r : Fin 2048) (n : Fin 8208) : EReal := D (ix2 r n)

/-- The product. -/
theorem v1_at (k : Fin 1024) (n : Fin 8208) : val_main_v1 (F := Ideal) H D (ix2 k n) = grad (rows H) (cot D) k n := by
  pointwise [val_main_v1, val_main_v0, grad]

/-- The columns of the short convolution, block by block. -/
theorem v15_at (k : Fin 1024) (n : Fin 4096) (j : Fin 8208) (hj : j.val = 4112 + 1024 * (n.val / 256 % 4) + (n.val / 1024 * 256 + n.val % 256)) :
    val_main_v15 (F := Ideal) H D (ix2 k n) = grad (rows H) (cot D) k j := by
  refine Eq.trans ?_ (v1_at H D k j)
  pointwise [val_main_v15, val_main_v14]
  have hg : n.val / 256 % 4 = 0 ∨ n.val / 256 % 4 = 1 ∨ n.val / 256 % 4 = 2 ∨ n.val / 256 % 4 = 3 := by omega
  rcases hg with hg | hg | hg | hg
  · rw [dif_pos (by omega)]
    pointwise [val_main_v10, val_main_v3, val_main_v2]
    exact congrArg (fun j => val_main_v1 (F := Ideal) H D (ix2 k j)) (Fin.ext (by dsimp only; omega))
  · rw [dif_neg (by omega), dif_pos (by omega)]
    pointwise [val_main_v11, val_main_v5, val_main_v4]
    exact congrArg (fun j => val_main_v1 (F := Ideal) H D (ix2 k j)) (Fin.ext (by dsimp only; omega))
  · rw [dif_neg (by omega), dif_neg (by omega), dif_pos (by omega)]
    pointwise [val_main_v12, val_main_v7, val_main_v6]
    exact congrArg (fun j => val_main_v1 (F := Ideal) H D (ix2 k j)) (Fin.ext (by dsimp only; omega))
  · rw [dif_neg (by omega), dif_neg (by omega), dif_neg (by omega)]
    pointwise [val_main_v13, val_main_v9, val_main_v8]
    exact congrArg (fun j => val_main_v1 (F := Ideal) H D (ix2 k j)) (Fin.ext (by dsimp only; omega))

/-- The result. -/
theorem v21_at (n : Fin 8448) (k : Fin 1024) :
    val_main_v21 (F := Ideal) H D (ix2 n k) = padded (grad (rows H) (cot D) k) n := by
  generalize hr : padded _ _ = rhs
  pointwise [val_main_v21, val_main_v20, val_main_v19]
  subst hr
  unfold padded
  rcases (by omega : n.val < 4096 ∨ (4096 ≤ n.val ∧ n.val < 8192) ∨ (8192 ≤ n.val ∧ n.val < 8208) ∨ 8208 ≤ n.val) with h | h | h | h
  · rw [dif_pos (by omega), dif_pos (by omega)]
    simp only [_root_.Input.col_low n.val h]
    pointwise [val_main_v16, v1_at]
  · rw [dif_neg (by omega), dif_pos (by omega), dif_pos (by omega)]
    refine v15_at H D k _ _ ?_
    have e : col n.val = 4112 + 1024 * (n.val / 256 % 4) + ((n.val - 4096) / 1024 * 256 + n.val % 256) := by
      unfold col; rw [if_neg (by omega), if_pos (by omega)]
    dsimp only; omega
  · rw [dif_neg (by omega), dif_neg (by omega), dif_pos (by omega), dif_pos (by omega)]
    simp only [_root_.Input.col_high n.val h.1]
    pointwise [val_main_v17, v1_at]
    exact congrArg (grad (rows H) (cot D) k) (Fin.ext (by dsimp only; omega))
  · rw [dif_neg (by omega), dif_neg (by omega), dif_neg (by omega), dif_neg (by omega)]
    pointwise [val_main_v18, val_main_cst]

end Cert.TnReferenceIdeal.Tn

namespace Cert.TnKernelIdeal.Tn

open Cert.TnKernelIdeal Cert.TnKernelIdeal.Gen
open Idx2 (emb_eq)
open _root_.Input (padded col)
open _root_.Tn (grad)

/-- A block of the product. -/
theorem pay1_at (d : FVec Ideal S2048x768 .bf16) (h : FVec Ideal S2048x1024 .bf16) (n : Fin 768) (k : Fin 1024) :
    k0_pay1 (F := Ideal) d h (ix2 n k) = ∑ r, HMul.hMul (α := EReal) (β := EReal) (d (ix2 r n)) (h (ix2 r k)) := by
  pointwise [k0_pay1]

variable (m : (ℓ : Loc nD τ sig) → Buf (Elt Ideal) ℓ) (c : Dev nD)

/-- The two arguments. -/
abbrev inH : FVec Ideal S2048x1024 .f32 := m ((c.tc : Thread nD τ).loc main_arg0)
abbrev inD : FVec Ideal S2048x8208 .f32 := m ((c.tc : Thread nD τ).loc main_arg1)

/-- The normed rows, the cotangent. -/
abbrev rows (r : Fin 2048) (k : Fin 1024) : EReal := inH m c (ix2 r k)
abbrev cot (r : Fin 2048) (n : Fin 8208) : EReal := inD m c (ix2 r n)

/-- The normed rows as the host hands them over. -/
theorem rows_at (r : Fin 2048) (k : Fin 1024) : V m c main_v21 (ix2 r k) = inH m c (ix2 r k) := by
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise

set_option maxRecDepth 200000 in
set_option maxHeartbeats 4000000 in
/-- A row of the cotangent as the host lays it out. -/
theorem cot_at (r : Fin 2048) (n : Fin 8448) : V m c main_v20 (ix2 r n) = padded (fun j => inD m c (ix2 r j)) n := by
  generalize hr : padded _ _ = rhs
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  subst hr
  rcases (by omega : n.val < 4096 ∨ (4096 ≤ n.val ∧ n.val < 8192) ∨ (8192 ≤ n.val ∧ n.val < 8208) ∨ 8208 ≤ n.val) with h | h | h | h
  · rw [dif_pos (by omega)]
    after_results_simp; pointwise
    unfold padded
    rw [dif_pos (by omega)]
    simp only [_root_.Input.col_low n.val h]
  · rw [dif_neg (by omega), dif_pos (by omega)]
    after_results_simp; pointwise
    have e : col n.val = 4112 + 1024 * (n.val / 256 % 4) + ((n.val - 4096) / 1024 * 256 + n.val % 256) := by
      unfold col; rw [if_neg (by omega), if_pos (by omega)]
    unfold padded
    rw [dif_pos (show n.val < 8208 by omega)]
    have hg : n.val / 256 % 4 = 0 ∨ n.val / 256 % 4 = 1 ∨ n.val / 256 % 4 = 2 ∨ n.val / 256 % 4 = 3 := by omega
    rcases hg with hg | hg | hg | hg
    · rw [dif_pos (by omega)]
      after_results_simp; pointwise
      exact congrArg (fun j => inD m c (ix2 r j)) (Fin.ext (by dsimp only; omega))
    · rw [dif_neg (by omega), dif_pos (by omega)]
      after_results_simp; pointwise
      exact congrArg (fun j => inD m c (ix2 r j)) (Fin.ext (by dsimp only; omega))
    · rw [dif_neg (by omega), dif_neg (by omega), dif_pos (by omega)]
      after_results_simp; pointwise
      exact congrArg (fun j => inD m c (ix2 r j)) (Fin.ext (by dsimp only; omega))
    · rw [dif_neg (by omega), dif_neg (by omega), dif_neg (by omega)]
      after_results_simp; pointwise
      exact congrArg (fun j => inD m c (ix2 r j)) (Fin.ext (by dsimp only; omega))
  · rw [dif_neg (by omega), dif_neg (by omega), dif_pos (by omega)]
    after_results_simp; pointwise
    unfold padded
    rw [dif_pos (by omega)]
    simp only [_root_.Input.col_high n.val h.1]
    exact congrArg (fun j => inD m c (ix2 r j)) (Fin.ext (by dsimp only; omega))
  · rw [dif_neg (by omega), dif_neg (by omega), dif_neg (by omega)]
    after_results_simp; pointwise
    unfold padded
    rw [dif_neg (by omega)]

/-- Where each window's block stands at a point of the grid. -/
theorem idx : ∀ t : Fin cfg0.N, win0_0.index t = ![0, t.val]
    ∧ win0_1.index t = ![0, 0]
    ∧ win0_2.index t = ![t.val, 0] :=
  (by decide +kernel : ∀ t : Fin grid0.N, _)

/-- The two blocks at a point. -/
abbrev bD (t : Fin cfg0.N) : FVec Ideal S2048x768 .bf16 := iblk m c 0 t
abbrev bH (t : Fin cfg0.N) : FVec Ideal S2048x1024 .bf16 := iblk m c 1 t

theorem row_lt (t : Fin cfg0.N) (n : Fin 768) : 768 * t.val + n.val < 8448 := by
  have := lt_of_lt_of_eq t.isLt N_0; omega

theorem bD_at (t : Fin cfg0.N) (r : Fin 2048) (n : Fin 768) : bD m c t (ix2 r n) = padded (cot m c r) ⟨768 * t.val + n.val, row_lt t n⟩ := by
  refine Eq.trans ?_ (cot_at m c r ⟨768 * t.val + n.val, row_lt t n⟩)
  blk_point [bD, iblk, idx t]

theorem bH_at (t : Fin cfg0.N) (r : Fin 2048) (k : Fin 1024) : bH m c t (ix2 r k) = rows m c r k := by
  refine Eq.trans ?_ (rows_at m c r k)
  blk_point [bH, iblk, idx t]

/-- The result. -/
def res : FVec Ideal S8448x1024 .bf16 := fun i => padded (grad (rows m c) (cot m c) (i 1)) (i 0)

/-- The result after the run. -/
theorem final_2 : (dats m 0 c).arrAt 2 (cfgs 0).N = res m c := by
  refine (dats m 0 c).arrAt_eq_of_covers 2 _ (by decide +kernel) fun t hf y => ?_
  blk_simp; rw [after0_2]
  frame_out
  obtain ⟨n, hn⟩ : ∃ n : Fin 768, n.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 n k from emb_eq y n k hn.symm hk.symm]
  refine (pay1_at (bD m c t) (bH m c t) n k).trans ?_
  simp only [bD_at m c t, bH_at m c t]
  obtain ⟨u, hu⟩ : ∃ u : Fin 8448, u.val = 768 * t.val + n.val := ⟨⟨_, row_lt t n⟩, rfl⟩
  rw [show (⟨768 * t.val + n.val, row_lt t n⟩ : Fin 8448) = u from Fin.ext hu.symm]
  refine (_root_.Tn.sum_padded (rows m c) (cot m c) k u).trans ?_
  exact (congrArg (res m c) (emb_eq _ u k (by blk_simp [idx t] <;> omega) (by blk_simp [idx t] <;> omega)).symm)

end Cert.TnKernelIdeal.Tn

namespace Cert.TnPair

open Cert.TnReferenceIdeal.Read
open Cert.TnKernelIdeal.Tn (inH inD res final_2)

/-- The result is the reference's. -/
theorem eq_G (m : (ℓ : Loc Cert.TnKernelIdeal.nD Cert.TnKernelIdeal.τ Cert.TnKernelIdeal.sig) → Buf (Elt Ideal) ℓ) (c : Dev Cert.TnKernelIdeal.nD) :
    (Cert.TnKernelIdeal.Gen.dats m 0 c).arrAt 2 (Cert.TnKernelIdeal.cfgs 0).N = val_main_v21 (F := Ideal) (inH m c) (inD m c) := by
  refine (final_2 m c).trans (funext fun i => ?_)
  idx_vars i
  exact (Cert.TnReferenceIdeal.Tn.v21_at (inH m c) (inD m c) i0 i1).symm

/-- The pair's claim. -/
theorem algebraic : algebraic_TnKernelIdeal_TnReferenceIdeal := by
  intro m g m' g' hpre hargs
  refine ⟨fun c => val_main_v21 (F := Ideal) (inH m c) (inD m c), ?_, ?_⟩
  · refine (θ_run _ _ _).mono (fun r h c => ?_) (Cert.TnKernelIdeal.Value.run_blocks m g)
    obtain ⟨h2, a⟩ := h c
    exact ⟨h2.trans (eq_G m c), a⟩
  · refine (θ_run _ _ _).mono (fun r h c => ?_) (Cert.TnReferenceIdeal.Value.run m' g')
    obtain ⟨h2, a⟩ := h c
    obtain ⟨e0, e1⟩ := hargs c
    rw [val_main_v21_eq, e0, e1] at h2
    exact ⟨h2, a⟩

end Cert.TnPair

end
-- ==== Proof.AdamPair.lean ====
module

public import proofs.«01_k».proof.Defs
public import proofs.«01_k».proof.Proof.Gen.AdamKernelIdeal.Value
public import proofs.«01_k».proof.Proof.Gen.AdamReferenceIdeal.Read
public import proofs.«01_k».proof.Proof.Idx2
public import Idealize.ShloMosaic.Lib.Claim
public import Idealize.ShloMosaic.Lib.Pipeline.ValueKit

/-!
The optimiser's call computes its reference's four results: the gradient summed over the devices, the step of the weights and the two
new moments.
-/

@[expose] public section

set_option maxRecDepth 16384

noncomputable section

open Idealize.ShloMosaic Idealize.ShloMosaic.TcCoe Idealize.SL.Sem
open Idealize.ShloMosaic.Pipeline (Dat)
open scoped BigOperators

namespace Cert.AdamReferenceIdeal.Adam

open Cert.AdamReferenceIdeal Cert.AdamReferenceIdeal.Gen Cert.AdamReferenceIdeal.Read

variable (p : FVec Ideal S8x256x1024 .f32) (w a b : FVec Ideal S256x1024 .f32)

/-- The gradient: the eight devices' parts one after another. -/
theorem v0_at (r : Fin 256) (k : Fin 1024) : val_main_v0 (F := Ideal) p (ix2 r k)
    = p (ix3 0 r k) + p (ix3 1 r k) + p (ix3 2 r k) + p (ix3 3 r k) + p (ix3 4 r k) + p (ix3 5 r k) + p (ix3 6 r k) + p (ix3 7 r k) := by
  pointwise [val_main_v0, val_main_cst]
  simp only [Fin.sum_univ_eight]

end Cert.AdamReferenceIdeal.Adam

namespace Cert.AdamKernelIdeal.Adam

open Cert.AdamKernelIdeal Cert.AdamKernelIdeal.Gen
open Cert.AdamReferenceIdeal.Read
open Cert.AdamReferenceIdeal.Adam (v0_at)
open Idx2 (emb_eq)

variable (m : (ℓ : Loc nD τ sig) → Buf (Elt Ideal) ℓ) (c : Dev nD)

/-- The four arguments: the devices' parts of the gradient, the weights, the two moments. -/
abbrev inP : FVec Ideal S8x256x1024 .f32 := m ((c.tc : Thread nD τ).loc main_arg0)
abbrev inW : FVec Ideal S256x1024 .f32 := m ((c.tc : Thread nD τ).loc main_arg1)
abbrev inA : FVec Ideal S256x1024 .f32 := m ((c.tc : Thread nD τ).loc main_arg2)
abbrev inB : FVec Ideal S256x1024 .f32 := m ((c.tc : Thread nD τ).loc main_arg3)

/-- Where each window's block stands at a point of the grid. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The parts as the host hands them over. -/
theorem part_at (i j : S8x256x1024.Idx) (h : i = j) : V m c main_v0 i = inP m c j := by
  subst h
  unfold V
  simp only [hostOps0, List.flatten_cons, List.flatten_nil, List.cons_append, List.nil_append, List.append_nil,
    StableHlo.TRef.unary, StableHlo.TRef.toBuf, StableHlo.TRef.ofBuf, cast_eq]
  after_results_simp
  pointwise

/-- The four blocks at a point. -/
abbrev bP (t : Fin cfg0.N) : FVec Ideal S8x128x1024 .bf16 := iblk m c 0 t
abbrev bW (t : Fin cfg0.N) : FVec Ideal S128x1024 .f32 := iblk m c 1 t
abbrev bA (t : Fin cfg0.N) : FVec Ideal S128x1024 .f32 := iblk m c 2 t
abbrev bB (t : Fin cfg0.N) : FVec Ideal S128x1024 .f32 := iblk m c 3 t

/-- A row of a block in the whole array. -/
def row (t : Fin cfg0.N) (r : Fin 128) : Fin 256 := ⟨128 * t.val + r.val, by have := lt_of_lt_of_eq t.isLt N_0; omega⟩

theorem row_val (t : Fin cfg0.N) (r : Fin 128) : (row t r).val = 128 * t.val + r.val := rfl

theorem bP_at (t : Fin cfg0.N) (p : Fin 8) (r : Fin 128) (k : Fin 1024) : bP m c t (ix3 p r k) = inP m c (ix3 p (row t r) k) := by
  refine Eq.trans ?_ (part_at m c (ix3 p (row t r) k) _ rfl)
  blk_point [bP, iblk, idx t, row]

theorem bW_at (t : Fin cfg0.N) (r : Fin 128) (k : Fin 1024) : bW m c t (ix2 r k) = inW m c (ix2 (row t r) k) := by
  blk_point [bW, iblk, idx t, row]

theorem bA_at (t : Fin cfg0.N) (r : Fin 128) (k : Fin 1024) : bA m c t (ix2 r k) = inA m c (ix2 (row t r) k) := by
  blk_point [bA, iblk, idx t, row]

theorem bB_at (t : Fin cfg0.N) (r : Fin 128) (k : Fin 1024) : bB m c t (ix2 r k) = inB m c (ix2 (row t r) k) := by
  blk_point [bB, iblk, idx t, row]

/-- One device's part of a block, loaded. -/
theorem ldP (X : Vec Ideal S8x128x1024 .bf16) (p : Fin 8) (h) (r : Fin 128) (k : Fin 1024) :
    View.ld X (Rect.unit (s := S8x128x1024) ![p.val, 0, 0] ![1, 128, 1024] h) (ix3 0 r k) = X (ix3 p r k) :=
  View.ld_unit_apply_of (S := S8x128x1024) X ![p.val, 0, 0] ![1, 128, 1024] h (ix3 0 r k) (ix3 p r k)
    (by intro q; fin_cases q <;> simp)

/-- The sum of the parts at a point. -/
abbrev bG (t : Fin cfg0.N) : FVec Ideal S128x1024 .f32 := k0_pay5 (F := Ideal) (bP m c t) (bW m c t) (bA m c t) (bB m c t)

/-- The loaded parts added up. -/
theorem sum_at (X : Vec Ideal S8x128x1024 .bf16) (r : Fin 128) (k : Fin 1024) :
    k0_pay4 (F := Ideal) (View.ld X r0_0) (View.ld X r0_1) (View.ld X r0_2) (View.ld X r0_3) (View.ld X r0_4) (View.ld X r0_5)
        (View.ld X r0_6) (View.ld X r0_7) (ix2 r k)
      = (show EReal from X (ix3 0 r k)) + (show EReal from X (ix3 1 r k)) + (show EReal from X (ix3 2 r k)) + (show EReal from X (ix3 3 r k))
        + (show EReal from X (ix3 4 r k)) + (show EReal from X (ix3 5 r k)) + (show EReal from X (ix3 6 r k)) + (show EReal from X (ix3 7 r k)) := by
  rw [← ldP X 0 inb_S8x128x1024_S1x128x1024_0_0_0 r k, ← ldP X 1 inb_S8x128x1024_S1x128x1024_1_0_0 r k,
    ← ldP X 2 inb_S8x128x1024_S1x128x1024_2_0_0 r k, ← ldP X 3 inb_S8x128x1024_S1x128x1024_3_0_0 r k,
    ← ldP X 4 inb_S8x128x1024_S1x128x1024_4_0_0 r k, ← ldP X 5 inb_S8x128x1024_S1x128x1024_5_0_0 r k,
    ← ldP X 6 inb_S8x128x1024_S1x128x1024_6_0_0 r k, ← ldP X 7 inb_S8x128x1024_S1x128x1024_7_0_0 r k]
  pointwise [k0_pay4]

theorem bG_at (t : Fin cfg0.N) (r : Fin 128) (k : Fin 1024) : bG m c t (ix2 r k) = val_main_v0 (F := Ideal) (inP m c) (ix2 (row t r) k) := by
  rw [v0_at]
  refine (sum_at (bP m c t) r k).trans ?_
  simp only [bP_at m c t]

/-- The first moment, the second moment and the step at one entry of a block. -/
theorem pay1_at (g a : FVec Ideal S128x1024 .f32) (A : FVec Ideal S256x1024 .f32) (p : FVec Ideal S8x256x1024 .f32)
    (r : Fin 128) (k : Fin 1024) (u : Fin 256) (hg : g (ix2 r k) = val_main_v0 (F := Ideal) p (ix2 u k)) (ha : a (ix2 r k) = A (ix2 u k)) :
    k0_pay1 (F := Ideal) g a (FloatOps.ofBits FTy.f32 1063675494#32) (ix2 r k) = val_main_v5 (F := Ideal) p A (ix2 u k) := by
  pointwise [k0_pay1, val_main_v5, val_main_v4, val_main_v3, val_main_v2, val_main_v1, val_main_cst_0, val_main_cst_1, hg, ha]

theorem pay2_at (g b : FVec Ideal S128x1024 .f32) (B : FVec Ideal S256x1024 .f32) (p : FVec Ideal S8x256x1024 .f32)
    (r : Fin 128) (k : Fin 1024) (u : Fin 256) (hg : g (ix2 r k) = val_main_v0 (F := Ideal) p (ix2 u k)) (hb : b (ix2 r k) = B (ix2 u k)) :
    k0_pay2 (F := Ideal) g b (ix2 r k) = val_main_v11 (F := Ideal) p B (ix2 u k) := by
  pointwise [k0_pay2, val_main_v11, val_main_v10, val_main_v9, val_main_v8, val_main_v7, val_main_v6, val_main_cst_2, val_main_cst_3, hg, hb]

theorem pay3_at (g w a b : FVec Ideal S128x1024 .f32) (W A B : FVec Ideal S256x1024 .f32) (p : FVec Ideal S8x256x1024 .f32)
    (r : Fin 128) (k : Fin 1024) (u : Fin 256) (hg : g (ix2 r k) = val_main_v0 (F := Ideal) p (ix2 u k)) (hw : w (ix2 r k) = W (ix2 u k))
    (ha : a (ix2 r k) = A (ix2 u k)) (hb : b (ix2 r k) = B (ix2 u k)) :
    k0_pay3 (F := Ideal) g a (FloatOps.ofBits FTy.f32 1063675494#32) b w (ix2 r k) = val_main_v24 (F := Ideal) p W A B (ix2 u k) := by
  have h1 : k0_pay1 (F := Ideal) g a (Ideal.ofBits .f32 1063675494#32) (ix2 r k) = val_main_v5 (F := Ideal) p A (ix2 u k) := pay1_at g a A p r k u hg ha
  pointwise [k0_pay3, h1, pay2_at g b B p r k u hg hb, val_main_v24, val_main_v23, val_main_v22, val_main_v21, val_main_v20, val_main_v19,
    val_main_v18, val_main_v17, val_main_v16, val_main_v15, val_main_v14, val_main_v13, val_main_v12, val_main_cst_4, val_main_cst_5,
    val_main_cst_6, val_main_cst_7, val_main_cst_8, hw]

/-- The gradient. -/
theorem final_4 : (dats m 0 c).arrAt 4 (cfgs 0).N = val_main_v0 (F := Ideal) (inP m c) := by
  refine (dats m 0 c).arrAt_eq_of_covers 4 _ (by decide +kernel) fun t hf y => ?_
  blk_simp; rw [after0_4]
  frame_out
  obtain ⟨r, hr⟩ : ∃ r : Fin 128, r.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 r k from emb_eq y r k hr.symm hk.symm]
  refine (bG_at m c t r k).trans ?_
  exact congrArg (val_main_v0 (F := Ideal) (inP m c)) (emb_eq _ _ _ (by blk_simp [idx t, row_val] <;> omega) (by blk_simp [idx t] <;> omega)).symm

/-- The step of the weights. -/
theorem final_5 : (dats m 0 c).arrAt 5 (cfgs 0).N = val_main_v24 (F := Ideal) (inP m c) (inW m c) (inA m c) (inB m c) := by
  refine (dats m 0 c).arrAt_eq_of_covers 5 _ (by decide +kernel) fun t hf y => ?_
  blk_simp; rw [after0_5]
  frame_out
  obtain ⟨r, hr⟩ : ∃ r : Fin 128, r.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 r k from emb_eq y r k hr.symm hk.symm]
  refine (pay3_at (bG m c t) (bW m c t) (bA m c t) (bB m c t) (inW m c) (inA m c) (inB m c) (inP m c) r k (row t r)
    (bG_at m c t r k) (bW_at m c t r k) (bA_at m c t r k) (bB_at m c t r k)).trans ?_
  exact congrArg (val_main_v24 (F := Ideal) (inP m c) (inW m c) (inA m c) (inB m c)) (emb_eq _ _ _ (by blk_simp [idx t, row_val] <;> omega) (by blk_simp [idx t] <;> omega)).symm

/-- The first moment. -/
theorem final_6 : (dats m 0 c).arrAt 6 (cfgs 0).N = val_main_v5 (F := Ideal) (inP m c) (inA m c) := by
  refine (dats m 0 c).arrAt_eq_of_covers 6 _ (by decide +kernel) fun t hf y => ?_
  blk_simp; rw [after0_6]
  frame_out
  obtain ⟨r, hr⟩ : ∃ r : Fin 128, r.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 r k from emb_eq y r k hr.symm hk.symm]
  refine (pay1_at (bG m c t) (bA m c t) (inA m c) (inP m c) r k (row t r) (bG_at m c t r k) (bA_at m c t r k)).trans ?_
  exact congrArg (val_main_v5 (F := Ideal) (inP m c) (inA m c)) (emb_eq _ _ _ (by blk_simp [idx t, row_val] <;> omega) (by blk_simp [idx t] <;> omega)).symm

/-- The second moment. -/
theorem final_7 : (dats m 0 c).arrAt 7 (cfgs 0).N = val_main_v11 (F := Ideal) (inP m c) (inB m c) := by
  refine (dats m 0 c).arrAt_eq_of_covers 7 _ (by decide +kernel) fun t hf y => ?_
  blk_simp; rw [after0_7]
  frame_out
  obtain ⟨r, hr⟩ : ∃ r : Fin 128, r.val = (y 0).val := ⟨⟨(y 0).val, (y 0).isLt⟩, rfl⟩
  obtain ⟨k, hk⟩ : ∃ k : Fin 1024, k.val = (y 1).val := ⟨⟨(y 1).val, (y 1).isLt⟩, rfl⟩
  rw [show y = ix2 r k from emb_eq y r k hr.symm hk.symm]
  refine (pay2_at (bG m c t) (bB m c t) (inB m c) (inP m c) r k (row t r) (bG_at m c t r k) (bB_at m c t r k)).trans ?_
  exact congrArg (val_main_v11 (F := Ideal) (inP m c) (inB m c)) (emb_eq _ _ _ (by blk_simp [idx t, row_val] <;> omega) (by blk_simp [idx t] <;> omega)).symm

end Cert.AdamKernelIdeal.Adam

namespace Cert.AdamPair

open Cert.AdamReferenceIdeal.Read
open Cert.AdamKernelIdeal.Adam (inP inW inA inB final_4 final_5 final_6 final_7)

/-- The pair's claim. -/
theorem algebraic : algebraic_AdamKernelIdeal_AdamReferenceIdeal := by
  intro m g m' g' hpre hargs
  refine ⟨fun c => val_main_v0 (F := Ideal) (inP m c), fun c => val_main_v24 (F := Ideal) (inP m c) (inW m c) (inA m c) (inB m c),
    fun c => val_main_v5 (F := Ideal) (inP m c) (inA m c), fun c => val_main_v11 (F := Ideal) (inP m c) (inB m c), ?_, ?_⟩
  · refine (θ_run _ _ _).mono (fun r h c => ?_) (Cert.AdamKernelIdeal.Value.run_blocks m g)
    obtain ⟨h4, h5, h6, h7, a⟩ := h c
    exact ⟨h4.trans (final_4 m c), h5.trans (final_5 m c), h6.trans (final_6 m c), h7.trans (final_7 m c), a⟩
  · refine (θ_run _ _ _).mono (fun r h c => ?_) (Cert.AdamReferenceIdeal.Value.run m' g')
    obtain ⟨h4, h5, h6, h7, a⟩ := h c
    obtain ⟨e0, e1, e2, e3⟩ := hargs c
    rw [val_main_v0_eq, e0] at h4
    rw [val_main_v24_eq, e0, e1, e2, e3] at h5
    rw [val_main_v5_eq, e0, e2] at h6
    rw [val_main_v11_eq, e0, e3] at h7
    exact ⟨h4, h5, h6, h7, a⟩

end Cert.AdamPair

end
-- ==== Proof.PackPair.lean ====
module

public import proofs.«01_k».proof.Defs
public import proofs.«01_k».proof.Proof.Gen.PackKernelIdeal.Value
public import proofs.«01_k».proof.Proof.Gen.PackReferenceIdeal.Read
public import proofs.«01_k».proof.Proof.Idx2
public import Idealize.ShloMosaic.Lib.Claim
public import Idealize.ShloMosaic.Lib.Pipeline.ValueKit

/-!
The call that packs the small gradients into one row computes its reference's row: the gradients side by side.
-/

@[expose] public section

set_option maxRecDepth 16384

noncomputable section

open Idealize.ShloMosaic Idealize.ShloMosaic.TcCoe Idealize.SL.Sem
open Idealize.ShloMosaic.Pipeline (Dat)
open scoped BigOperators

namespace Cert.PackKernelIdeal.Pack

open Cert.PackKernelIdeal Cert.PackKernelIdeal.Gen
open Cert.PackReferenceIdeal.Read
open Idx2 (emb_eq)

variable (m : (ℓ : Loc nD τ sig) → Buf (Elt Ideal) ℓ) (c : Dev nD)

/-- The six arguments: the gradients of the norms and the bias, of the scalars of the gates, and the loss. -/
abbrev in0 : FVec Ideal S1x1024 .f32 := m ((c.tc : Thread nD τ).loc main_arg0)
abbrev in1 : FVec Ideal S1x1024 .f32 := m ((c.tc : Thread nD τ).loc main_arg1)
abbrev in2 : FVec Ideal S1x1024 .f32 := m ((c.tc : Thread nD τ).loc main_arg2)
abbrev in3 : FVec Ideal S1x128 .f32 := m ((c.tc : Thread nD τ).loc main_arg3)
abbrev in4 : FVec Ideal S8x128 .f32 := m ((c.tc : Thread nD τ).loc main_arg4)
abbrev in5 : FVec Ideal S1x128 .f32 := m ((c.tc : Thread nD τ).loc main_arg5)

/-- The packed row. -/
abbrev res : FVec Ideal S1x3584 .f32 := val_main_v2 (F := Ideal) (in0 m c) (in1 m c) (in2 m c) (in3 m c) (in4 m c) (in5 m c)

/-- Where each window's block stands. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The packed row at the gradients of the two norms and the bias. -/
theorem res_0 (k : Fin 1024) (u : Fin 3584) (hu : u.val = 0 + k.val) : res m c (ix2 0 u) = in0 m c (ix2 0 k) := by
  pointwise [res, val_main_v2]
  rw [dif_pos (by omega)]
  exact congrArg (fun k => in0 m c (ix2 0 k)) (Fin.ext (by dsimp only; omega))

theorem res_1 (k : Fin 1024) (u : Fin 3584) (hu : u.val = 1024 + k.val) : res m c (ix2 0 u) = in1 m c (ix2 0 k) := by
  pointwise [res, val_main_v2]
  rw [dif_neg (by omega), dif_pos (by omega)]
  exact congrArg (fun k => in1 m c (ix2 0 k)) (Fin.ext (by dsimp only; omega))

theorem res_2 (k : Fin 1024) (u : Fin 3584) (hu : u.val = 2048 + k.val) : res m c (ix2 0 u) = in2 m c (ix2 0 k) := by
  pointwise [res, val_main_v2]
  rw [dif_neg (by omega), dif_neg (by omega), dif_pos (by omega)]
  exact congrArg (fun k => in2 m c (ix2 0 k)) (Fin.ext (by dsimp only; omega))

/-- At the gradient of the heads' norm. -/
theorem res_3 (k : Fin 128) (u : Fin 3584) (hu : u.val = 3072 + k.val) : res m c (ix2 0 u) = in3 m c (ix2 0 k) := by
  pointwise [res, val_main_v2]
  rw [dif_neg (by omega), dif_neg (by omega), dif_neg (by omega), dif_pos (by omega)]
  exact congrArg (fun k => in3 m c (ix2 0 k)) (Fin.ext (by dsimp only; omega))

/-- At the two rows of scalars. -/
theorem res_4 (k : Fin 128) (u : Fin 3584) (hu : u.val = 3200 + k.val) : res m c (ix2 0 u) = in4 m c (ix2 0 k) := by
  pointwise [res, val_main_v2, val_main_v0]
  rw [dif_neg (by omega), dif_neg (by omega), dif_neg (by omega), dif_neg (by omega), dif_pos (by omega)]
  exact congrArg (fun k => in4 m c (ix2 0 k)) (Fin.ext (by dsimp only; omega))

theorem res_5 (k : Fin 128) (u : Fin 3584) (hu : u.val = 3328 + k.val) : res m c (ix2 0 u) = in4 m c (ix2 1 k) := by
  pointwise [res, val_main_v2, val_main_v1]
  rw [dif_neg (by omega), dif_neg (by omega), dif_neg (by omega), dif_neg (by omega), dif_neg (by omega), dif_pos (by omega)]
  exact congrArg (fun k => in4 m c (ix2 1 k)) (Fin.ext (by dsimp only; omega))

/-- At the loss. -/
theorem res_6 (k : Fin 128) (u : Fin 3584) (hu : u.val = 3456 + k.val) : res m c (ix2 0 u) = in5 m c (ix2 0 k) := by
  pointwise [res, val_main_v2]
  rw [dif_neg (by omega), dif_neg (by omega), dif_neg (by omega), dif_neg (by omega), dif_neg (by omega), dif_neg (by omega)]
  exact congrArg (fun k => in5 m c (ix2 0 k)) (Fin.ext (by dsimp only; omega))

/-- The blocks are the arguments. -/
theorem b0_at (t : Fin cfg0.N) (r : Fin 1) (k : Fin 1024) : (iblk m c 0 t : FVec Ideal S1x1024 .f32) (ix2 r k) = in0 m c (ix2 r k) := by
  blk_point [iblk, V, idx t]

theorem b1_at (t : Fin cfg0.N) (r : Fin 1) (k : Fin 1024) : (iblk m c 1 t : FVec Ideal S1x1024 .f32) (ix2 r k) = in1 m c (ix2 r k) := by
  blk_point [iblk, V, idx t]

theorem b2_at (t : Fin cfg0.N) (r : Fin 1) (k : Fin 1024) : (iblk m c 2 t : FVec Ideal S1x1024 .f32) (ix2 r k) = in2 m c (ix2 r k) := by
  blk_point [iblk, V, idx t]

theorem b3_at (t : Fin cfg0.N) (r : Fin 1) (k : Fin 128) : (iblk m c 3 t : FVec Ideal S1x128 .f32) (ix2 r k) = in3 m c (ix2 r k) := by
  blk_point [iblk, V, idx t]

theorem b4_at (t : Fin cfg0.N) (r : Fin 8) (k : Fin 128) : (iblk m c 4 t : FVec Ideal S8x128 .f32) (ix2 r k) = in4 m c (ix2 r k) := by
  blk_point [iblk, V, idx t]

theorem b5_at (t : Fin cfg0.N) (r : Fin 1) (k : Fin 128) : (iblk m c 5 t : FVec Ideal S1x128 .f32) (ix2 r k) = in5 m c (ix2 r k) := by
  blk_point [iblk, V, idx t]

/-- The packed row after the run. -/
theorem final_6 : (dats m 0 c).arrAt 6 (cfgs 0).N = res m c := by
  refine (dats m 0 c).arrAt_eq_of_covers 6 _ (by decide +kernel) fun t hf y => ?_
  blk_simp; rw [after0_6]
  unfold outsAt0
  frame_out
  canon_tiles x h using (View.cover_of_tiledBy _ ![1, 128] (by sl_kernel_rfl) y)
  · obtain ⟨k, hk⟩ : ∃ k : Fin 128, k.val = (x 1).val := ⟨⟨(x 1).val, x1_lt⟩, rfl⟩
    rw [show x = ix2 0 k from emb_eq x 0 k (by omega) hk.symm]
    obtain ⟨u, hu⟩ : ∃ u : Fin 3584, u.val = 3456 + k.val := ⟨⟨3456 + k.val, by omega⟩, rfl⟩
    refine Eq.trans ?_ ((res_6 m c k u hu).symm.trans (congrArg (res m c) (emb_eq _ _ _ ?_ ?_)).symm)
    · exact (congrFun (Memref.IsWhole.read_unread _ _) _).trans (b5_at m c t 0 k)
    all_goals blk_simp [idx t] at h0 h1 ⊢ <;> omega
  · obtain ⟨k, hk⟩ : ∃ k : Fin 128, k.val = (x 1).val := ⟨⟨(x 1).val, x1_lt⟩, rfl⟩
    rw [show x = ix2 0 k from emb_eq x 0 k (by omega) hk.symm]
    obtain ⟨u, hu⟩ : ∃ u : Fin 3584, u.val = 3328 + k.val := ⟨⟨3328 + k.val, by omega⟩, rfl⟩
    refine Eq.trans ?_ ((res_5 m c k u hu).symm.trans (congrArg (res m c) (emb_eq _ _ _ ?_ ?_)).symm)
    · refine (View.ld_unit_apply_of (S := S8x128) _ ![1, 0] ![1, 128] _ (ix2 0 k) (ix2 1 k) (by intro q; fin_cases q <;> simp)).trans ?_
      exact (congrFun (Memref.IsWhole.read_unread _ _) _).trans (b4_at m c t 1 k)
    all_goals blk_simp [idx t] at h0 h1 ⊢ <;> omega
  · obtain ⟨k, hk⟩ : ∃ k : Fin 128, k.val = (x 1).val := ⟨⟨(x 1).val, x1_lt⟩, rfl⟩
    rw [show x = ix2 0 k from emb_eq x 0 k (by omega) hk.symm]
    obtain ⟨u, hu⟩ : ∃ u : Fin 3584, u.val = 3200 + k.val := ⟨⟨3200 + k.val, by omega⟩, rfl⟩
    refine Eq.trans ?_ ((res_4 m c k u hu).symm.trans (congrArg (res m c) (emb_eq _ _ _ ?_ ?_)).symm)
    · refine (View.ld_unit_apply_of (S := S8x128) _ ![0, 0] ![1, 128] _ (ix2 0 k) (ix2 0 k) (by intro q; fin_cases q <;> simp)).trans ?_
      exact (congrFun (Memref.IsWhole.read_unread _ _) _).trans (b4_at m c t 0 k)
    all_goals blk_simp [idx t] at h0 h1 ⊢ <;> omega
  · obtain ⟨k, hk⟩ : ∃ k : Fin 128, k.val = (x 1).val := ⟨⟨(x 1).val, x1_lt⟩, rfl⟩
    rw [show x = ix2 0 k from emb_eq x 0 k (by omega) hk.symm]
    obtain ⟨u, hu⟩ : ∃ u : Fin 3584, u.val = 3072 + k.val := ⟨⟨3072 + k.val, by omega⟩, rfl⟩
    refine Eq.trans ?_ ((res_3 m c k u hu).symm.trans (congrArg (res m c) (emb_eq _ _ _ ?_ ?_)).symm)
    · exact (congrFun (Memref.IsWhole.read_unread _ _) _).trans (b3_at m c t 0 k)
    all_goals blk_simp [idx t] at h0 h1 ⊢ <;> omega
  · obtain ⟨k, hk⟩ : ∃ k : Fin 1024, k.val = (x 1).val := ⟨⟨(x 1).val, x1_lt⟩, rfl⟩
    rw [show x = ix2 0 k from emb_eq x 0 k (by omega) hk.symm]
    obtain ⟨u, hu⟩ : ∃ u : Fin 3584, u.val = 2048 + k.val := ⟨⟨2048 + k.val, by omega⟩, rfl⟩
    refine Eq.trans ?_ ((res_2 m c k u hu).symm.trans (congrArg (res m c) (emb_eq _ _ _ ?_ ?_)).symm)
    · exact (congrFun (Memref.IsWhole.read_unread _ _) _).trans (b2_at m c t 0 k)
    all_goals blk_simp [idx t] at h0 h1 ⊢ <;> omega
  · obtain ⟨k, hk⟩ : ∃ k : Fin 1024, k.val = (x 1).val := ⟨⟨(x 1).val, x1_lt⟩, rfl⟩
    rw [show x = ix2 0 k from emb_eq x 0 k (by omega) hk.symm]
    obtain ⟨u, hu⟩ : ∃ u : Fin 3584, u.val = 1024 + k.val := ⟨⟨1024 + k.val, by omega⟩, rfl⟩
    refine Eq.trans ?_ ((res_1 m c k u hu).symm.trans (congrArg (res m c) (emb_eq _ _ _ ?_ ?_)).symm)
    · exact (congrFun (Memref.IsWhole.read_unread _ _) _).trans (b1_at m c t 0 k)
    all_goals blk_simp [idx t] at h0 h1 ⊢ <;> omega
  · obtain ⟨k, hk⟩ : ∃ k : Fin 1024, k.val = (x 1).val := ⟨⟨(x 1).val, x1_lt⟩, rfl⟩
    rw [show x = ix2 0 k from emb_eq x 0 k (by omega) hk.symm]
    obtain ⟨u, hu⟩ : ∃ u : Fin 3584, u.val = 0 + k.val := ⟨⟨0 + k.val, by omega⟩, rfl⟩
    refine Eq.trans ?_ ((res_0 m c k u hu).symm.trans (congrArg (res m c) (emb_eq _ _ _ ?_ ?_)).symm)
    · exact (congrFun (Memref.IsWhole.read_unread _ _) _).trans (b0_at m c t 0 k)
    all_goals blk_simp [idx t] at h0 h1 ⊢ <;> omega

end Cert.PackKernelIdeal.Pack

namespace Cert.PackPair

open Cert.PackReferenceIdeal.Read
open Cert.PackKernelIdeal.Pack (res final_6)

/-- The pair's claim. -/
theorem algebraic : algebraic_PackKernelIdeal_PackReferenceIdeal := by
  intro m g m' g' hpre hargs
  refine ⟨fun c => res m c, ?_, ?_⟩
  · refine (θ_run _ _ _).mono (fun r h c => ?_) (Cert.PackKernelIdeal.Value.run_blocks m g)
    obtain ⟨h6, a⟩ := h c
    exact ⟨h6.trans (final_6 m c), a⟩
  · refine (θ_run _ _ _).mono (fun r h c => ?_) (Cert.PackReferenceIdeal.Value.run m' g')
    obtain ⟨h6, a⟩ := h c
    obtain ⟨e0, e1, e2, e3, e4, e5⟩ := hargs c
    rw [val_main_v2_eq, e0, e1, e2, e3, e4, e5] at h6
    exact ⟨h6, a⟩

end Cert.PackPair

end
-- ==== Proof.BlocksPair.lean ====
module

public import proofs.«01_k».proof.Defs
public import proofs.«01_k».proof.Proof.Gen.BlocksKernelIdeal.Value
public import proofs.«01_k».proof.Proof.Gen.BlocksReferenceIdeal.Read
public import proofs.«01_k».proof.Proof.InputForms
public import proofs.«01_k».proof.Proof.Idx2
public import Idealize.ShloMosaic.Lib.Claim
public import Idealize.ShloMosaic.Lib.Pipeline.ValueKit

/-!
The call that cuts the gradient of the input projection's weights into the devices' blocks computes its reference's: the rows of the
gradient, which it finds in the padded order of `Input.padded`, in their own order again, 1026 to a device.
-/

@[expose] public section

set_option maxRecDepth 16384

noncomputable section

open Idealize.ShloMosaic Idealize.ShloMosaic.TcCoe Idealize.SL.Sem
open Idealize.ShloMosaic.Pipeline (Dat)
open scoped BigOperators

namespace Cert.BlocksKernelIdeal.Blocks

open Cert.BlocksKernelIdeal Cert.BlocksKernelIdeal.Gen
open Cert.BlocksReferenceIdeal.Read
open Idx2 (emb_eq)
open _root_.Input (padded col)

/-- An index is the triple of its numbers. -/
theorem emb3_eq {a b d : ℕ} (i : (⟨3, ![a, b, d]⟩ : Shape).Idx) (p : Fin a) (r : Fin b) (k : Fin d) (h0 : (i 0).val = p.val)
    (h1 : (i 1).val = r.val) (h2 : (i 2).val = k.val) : i = ix3 p r k := by
  funext q
  fin_cases q
  · exact Fin.ext h0
  · exact Fin.ext h1
  · exact Fin.ext h2

variable (m : (ℓ : Loc nD τ sig) → Buf (Elt Ideal) ℓ) (c : Dev nD)

/-- The argument: the gradient. -/
abbrev inG : FVec Ideal S1024x8208 .f32 := m ((c.tc : Thread nD τ).loc main_arg0)

set_option maxRecDepth 200000 in
set_option maxHeartbeats 4000000 in
/-- A row of the gradient as the host lays it out. -/
theorem grad_at (n : Fin 8448) (k : Fin 1024) : V m c main_v19 (ix2 n k) = padded (fun j => inG m c (ix2 k j)) n := by
  generalize hr : padded _ _ = rhs
  unfold V
  simp only [hostOps0, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  subst hr
  rcases (by omega : n.val < 4096 ∨ (4096 ≤ n.val ∧ n.val < 8192) ∨ (8192 ≤ n.val ∧ n.val < 8208) ∨ 8208 ≤ n.val) with h | h | h | h
  · rw [dif_pos (by omega)]
    after_results_simp; pointwise
    unfold padded
    rw [dif_pos (by omega)]
    simp only [_root_.Input.col_low n.val h]
  · rw [dif_neg (by omega), dif_pos (by omega)]
    after_results_simp; pointwise
    have e : col n.val = 4112 + 1024 * (n.val / 256 % 4) + ((n.val - 4096) / 1024 * 256 + n.val % 256) := by
      unfold col; rw [if_neg (by omega), if_pos (by omega)]
    unfold padded
    rw [dif_pos (show n.val < 8208 by omega)]
    have hg : n.val / 256 % 4 = 0 ∨ n.val / 256 % 4 = 1 ∨ n.val / 256 % 4 = 2 ∨ n.val / 256 % 4 = 3 := by omega
    rcases hg with hg | hg | hg | hg
    · rw [dif_pos (by omega)]
      after_results_simp; pointwise
      exact congrArg (fun j => inG m c (ix2 k j)) (Fin.ext (by dsimp only; omega))
    · rw [dif_neg (by omega), dif_pos (by omega)]
      after_results_simp; pointwise
      exact congrArg (fun j => inG m c (ix2 k j)) (Fin.ext (by dsimp only; omega))
    · rw [dif_neg (by omega), dif_neg (by omega), dif_pos (by omega)]
      after_results_simp; pointwise
      exact congrArg (fun j => inG m c (ix2 k j)) (Fin.ext (by dsimp only; omega))
    · rw [dif_neg (by omega), dif_neg (by omega), dif_neg (by omega)]
      after_results_simp; pointwise
      exact congrArg (fun j => inG m c (ix2 k j)) (Fin.ext (by dsimp only; omega))
  · rw [dif_neg (by omega), dif_neg (by omega), dif_pos (by omega)]
    after_results_simp; pointwise
    unfold padded
    rw [dif_pos (by omega)]
    simp only [_root_.Input.col_high n.val h.1]
    exact congrArg (fun j => inG m c (ix2 k j)) (Fin.ext (by dsimp only; omega))
  · rw [dif_neg (by omega), dif_neg (by omega), dif_neg (by omega)]
    after_results_simp; pointwise
    unfold padded
    rw [dif_neg (by omega)]

/-- Where each window's block stands at a point of the grid. -/
theorem idx : ∀ t : Fin cfg0.N, win0_0.index t = ![0, t.val]
    ∧ win0_1.index t = ![0, 0, t.val] :=
  (by decide +kernel : ∀ t : Fin grid0.N, _)

theorem col_lt (t : Fin cfg0.N) (k : Fin 256) : 256 * t.val + k.val < 1024 := by
  have := lt_of_lt_of_eq t.isLt N_0; omega

/-- A block of the padded gradient. -/
theorem bG_at (t : Fin cfg0.N) (n : Fin 8448) (k : Fin 256) :
    (iblk m c 0 t : FVec Ideal S8448x256 .bf16) (ix2 n k) = padded (fun j => inG m c (ix2 ⟨256 * t.val + k.val, col_lt t k⟩ j)) n := by
  refine Eq.trans ?_ (grad_at m c n ⟨256 * t.val + k.val, col_lt t k⟩)
  blk_point [iblk, idx t]

/-- The blocks. -/
abbrev res : FVec Ideal S8x1026x1024 .bf16 := val_main_v2 (F := Ideal) (inG m c)

theorem res_at (d : Fin 8) (r : Fin 1026) (k : Fin 1024) (j : Fin 8208) (hj : j.val = 1026 * d.val + r.val) :
    res m c (ix3 d r k) = inG m c (ix2 k j) := by
  pointwise [res, val_main_v2, val_main_v1, val_main_v0]
  exact congrArg (fun j => inG m c (ix2 k j)) (Fin.ext (by dsimp only; omega))

/-- One segment: `w` rows of the padded gradient from row `src` on, whose own places are those of the rows of device `d`'s block from row
    `dst` on, stored there. -/
theorem piece (t : Fin cfg0.N) (src dst w : ℕ) (d : Fin 8) (h) (P : FVec Ideal ⟨3, ![1, w, 256]⟩ .bf16)
    (hP : ∀ (r : Fin w) (k : Fin 256), P (ix3 0 r k)
      = View.ld (iblk m c 0 t : Vec Ideal S8448x256 .bf16) (Rect.unit (s := S8448x256) ![src, 0] ![w, 256] h) (ix2 r k))
    (hw : dst + w ≤ 1026) (hs : src + w ≤ 8208) (hcol : ∀ r < w, col (src + r) = 1026 * d.val + dst + r)
    (x : (⟨3, ![1, w, 256]⟩ : Shape).Idx) (y : S8x1026x256.Idx) (h0 : (y 0).val = d.val + (x 0).val)
    (h1 : (y 1).val = dst + (x 1).val) (h2 : (y 2).val = (x 2).val) :
    P x = res m c (((View.whole main_v20).slice (win0_1.rect t)).emb y) := by
  have z0 : (x 0).val < 1 := (x 0).isLt
  obtain ⟨r, hr⟩ : ∃ r : Fin w, r.val = (x 1).val := ⟨⟨(x 1).val, (x 1).isLt⟩, rfl⟩
  obtain ⟨k, hk⟩ : ∃ k : Fin 256, k.val = (x 2).val := ⟨⟨(x 2).val, (x 2).isLt⟩, rfl⟩
  have ex : x = ix3 0 r k := emb3_eq x 0 r k (by show (x 0).val = 0; omega) hr.symm hk.symm
  have hr' := r.isLt
  have hd := d.isLt
  obtain ⟨u, hu⟩ : ∃ u : Fin 1026, u.val = dst + r.val := ⟨⟨dst + r.val, by omega⟩, rfl⟩
  obtain ⟨v, hv⟩ : ∃ v : Fin 1024, v.val = 256 * t.val + k.val := ⟨⟨256 * t.val + k.val, col_lt t k⟩, rfl⟩
  obtain ⟨n, hn⟩ : ∃ n : Fin 8448, n.val = src + r.val := ⟨⟨src + r.val, by omega⟩, rfl⟩
  have ey : ((View.whole main_v20).slice (win0_1.rect t)).emb y = ix3 d u v :=
    emb3_eq _ d u v (by blk_simp [idx t] <;> omega) (by blk_simp [idx t] <;> omega) (by blk_simp [idx t] <;> omega)
  rw [ex, hP r k, ey]
  refine Eq.trans ?_ (res_at m c d u v ⟨1026 * d.val + u.val, by omega⟩ rfl).symm
  refine (View.ld_unit_apply_of (S := S8448x256) _ ![src, 0] ![w, 256] h (ix2 r k) (ix2 n k)
    (by intro q; fin_cases q <;> simp [hn])).trans ((bG_at m c t n k).trans ?_)
  unfold padded
  rw [dif_pos (show n.val < 8208 by omega)]
  have e := hcol r.val hr'
  rw [← hn] at e
  exact congrArg₂ (fun k j => inG m c (ix2 k j)) (Fin.ext hv.symm) (Fin.ext (by dsimp only; omega))

/-- The blocks after the run. -/
theorem final_1 : (dats m 0 c).arrAt 1 (cfgs 0).N = res m c := by
  refine (dats m 0 c).arrAt_eq_of_covers 1 _ (by decide +kernel) fun t hf y => ?_
  blk_simp; rw [after0_1]
  unfold outsAt0
  frame_out
  canon_tiles x h using (View.cover_of_tiledBy _ ![1, 2, 256] (by sl_kernel_rfl) y)
  · exact piece m c t 7936 770 256 7 inb_S8448x256_S256x256_7936_0 _ (fun r k => by pointwise [k0_pay4]) (by omega) (by omega) (fun r hr => by unfold col; split_ifs <;> omega) x y h0 h1 h2
  · exact piece m c t 6912 514 256 7 inb_S8448x256_S256x256_6912_0 _ (fun r k => by pointwise [k0_pay3]) (by omega) (by omega) (fun r hr => by unfold col; split_ifs <;> omega) x y h0 h1 h2
  · exact piece m c t 5888 258 256 7 inb_S8448x256_S256x256_5888_0 _ (fun r k => by pointwise [k0_pay2]) (by omega) (by omega) (fun r hr => by unfold col; split_ifs <;> omega) x y h0 h1 h2
  · exact piece m c t 4864 2 256 7 inb_S8448x256_S256x256_4864_0 _ (fun r k => by pointwise [k0_pay1, k0_pay28]) (by omega) (by omega) (fun r hr => by unfold col; split_ifs <;> omega) x y h0 h1 h2
  · exact piece m c t 7934 0 2 7 inb_S8448x256_S2x256_7934_0 _ (fun r k => by pointwise [k0_pay27]) (by omega) (by omega) (fun r hr => by unfold col; split_ifs <;> omega) x y h0 (h1.trans (Nat.zero_add _).symm) h2
  · exact piece m c t 7680 772 254 6 inb_S8448x256_S254x256_7680_0 _ (fun r k => by pointwise [k0_pay26]) (by omega) (by omega) (fun r hr => by unfold col; split_ifs <;> omega) x y h0 h1 h2
  · exact piece m c t 6656 516 256 6 inb_S8448x256_S256x256_6656_0 _ (fun r k => by pointwise [k0_pay25]) (by omega) (by omega) (fun r hr => by unfold col; split_ifs <;> omega) x y h0 h1 h2
  · exact piece m c t 5632 260 256 6 inb_S8448x256_S256x256_5632_0 _ (fun r k => by pointwise [k0_pay24]) (by omega) (by omega) (fun r hr => by unfold col; split_ifs <;> omega) x y h0 h1 h2
  · exact piece m c t 4608 4 256 6 inb_S8448x256_S256x256_4608_0 _ (fun r k => by pointwise [k0_pay23]) (by omega) (by omega) (fun r hr => by unfold col; split_ifs <;> omega) x y h0 h1 h2
  · exact piece m c t 7676 0 4 6 inb_S8448x256_S4x256_7676_0 _ (fun r k => by pointwise [k0_pay22]) (by omega) (by omega) (fun r hr => by unfold col; split_ifs <;> omega) x y h0 (h1.trans (Nat.zero_add _).symm) h2
  · exact piece m c t 7424 774 252 5 inb_S8448x256_S252x256_7424_0 _ (fun r k => by pointwise [k0_pay21]) (by omega) (by omega) (fun r hr => by unfold col; split_ifs <;> omega) x y h0 h1 h2
  · exact piece m c t 6400 518 256 5 inb_S8448x256_S256x256_6400_0 _ (fun r k => by pointwise [k0_pay20]) (by omega) (by omega) (fun r hr => by unfold col; split_ifs <;> omega) x y h0 h1 h2
  · exact piece m c t 5376 262 256 5 inb_S8448x256_S256x256_5376_0 _ (fun r k => by pointwise [k0_pay19]) (by omega) (by omega) (fun r hr => by unfold col; split_ifs <;> omega) x y h0 h1 h2
  · exact piece m c t 4352 6 256 5 inb_S8448x256_S256x256_4352_0 _ (fun r k => by pointwise [k0_pay18]) (by omega) (by omega) (fun r hr => by unfold col; split_ifs <;> omega) x y h0 h1 h2
  · exact piece m c t 7418 0 6 5 inb_S8448x256_S6x256_7418_0 _ (fun r k => by pointwise [k0_pay17, k0_pay16]) (by omega) (by omega) (fun r hr => by unfold col; split_ifs <;> omega) x y h0 (h1.trans (Nat.zero_add _).symm) h2
  · exact piece m c t 7168 776 250 4 inb_S8448x256_S250x256_7168_0 _ (fun r k => by pointwise [k0_pay15]) (by omega) (by omega) (fun r hr => by unfold col; split_ifs <;> omega) x y h0 h1 h2
  · exact piece m c t 6144 520 256 4 inb_S8448x256_S256x256_6144_0 _ (fun r k => by pointwise [k0_pay14]) (by omega) (by omega) (fun r hr => by unfold col; split_ifs <;> omega) x y h0 h1 h2
  · exact piece m c t 5120 264 256 4 inb_S8448x256_S256x256_5120_0 _ (fun r k => by pointwise [k0_pay13]) (by omega) (by omega) (fun r hr => by unfold col; split_ifs <;> omega) x y h0 h1 h2
  · exact piece m c t 4096 8 256 4 inb_S8448x256_S256x256_4096_0 _ (fun r k => by pointwise [k0_pay12]) (by omega) (by omega) (fun r hr => by unfold col; split_ifs <;> omega) x y h0 h1 h2
  · exact piece m c t 8200 0 8 4 inb_S8448x256_S8x256_8200_0 _ (fun r k => by pointwise [k0_pay11, k0_pay10]) (by omega) (by omega) (fun r hr => by unfold col; split_ifs <;> omega) x y h0 (h1.trans (Nat.zero_add _).symm) h2
  · exact piece m c t 8192 1018 8 3 inb_S8448x256_S8x256_8192_0 _ (fun r k => by pointwise [k0_pay9]) (by omega) (by omega) (fun r hr => by unfold col; split_ifs <;> omega) x y h0 h1 h2
  · exact piece m c t 3078 0 1018 3 inb_S8448x256_S1018x256_3078_0 _ (fun r k => by pointwise [k0_pay8]) (by omega) (by omega) (fun r hr => by unfold col; split_ifs <;> omega) x y h0 (h1.trans (Nat.zero_add _).symm) h2
  · exact piece m c t 2052 0 1026 2 inb_S8448x256_S1026x256_2052_0 _ (fun r k => by pointwise [k0_pay7]) (by omega) (by omega) (fun r hr => by unfold col; split_ifs <;> omega) x y h0 (h1.trans (Nat.zero_add _).symm) h2
  · exact piece m c t 1026 0 1026 1 inb_S8448x256_S1026x256_1026_0 _ (fun r k => by pointwise [k0_pay6]) (by omega) (by omega) (fun r hr => by unfold col; split_ifs <;> omega) x y h0 (h1.trans (Nat.zero_add _).symm) h2
  · exact piece m c t 0 0 1026 0 inb_S8448x256_S1026x256_0_0 _ (fun r k => by pointwise [k0_pay5]) (by omega) (by omega) (fun r hr => by unfold col; split_ifs <;> omega) x y (h0.trans (Nat.zero_add _).symm) (h1.trans (Nat.zero_add _).symm) h2

end Cert.BlocksKernelIdeal.Blocks

namespace Cert.BlocksPair

open Cert.BlocksReferenceIdeal.Read
open Cert.BlocksKernelIdeal.Blocks (res final_1)

/-- The pair's claim. -/
theorem algebraic : algebraic_BlocksKernelIdeal_BlocksReferenceIdeal := by
  intro m g m' g' hpre hargs
  refine ⟨fun c => res m c, ?_, ?_⟩
  · refine (θ_run _ _ _).mono (fun r h c => ?_) (Cert.BlocksKernelIdeal.Value.run_blocks m g)
    obtain ⟨h1, a⟩ := h c
    exact ⟨h1.trans (final_1 m c), a⟩
  · refine (θ_run _ _ _).mono (fun r h c => ?_) (Cert.BlocksReferenceIdeal.Value.run m' g')
    obtain ⟨h1, a⟩ := h c
    rw [val_main_v2_eq, hargs c] at h1
    exact ⟨h1, a⟩

end Cert.BlocksPair

end
-- ==== Proof.SumPair.lean ====
module

public import proofs.«01_k».proof.Defs
public import proofs.«01_k».proof.Proof.Gen.SumKernel.Frame
public import proofs.«01_k».proof.Proof.Gen.SumKernelIdeal.Frame
public import proofs.«01_k».proof.Proof.Gen.SumReferenceIdeal.Read
public import Idealize.ShloMosaic.Lib.Claim
public import Idealize.ShloMosaic.Lib.Pipeline.ValueKit

/-!
The call that adds the other device's part of a gradient to this device's computes its reference's sum. Which blocks of the gradient it
takes stands in a table that the call is handed; here the table holds 0, so they are the blocks of even number.
-/

@[expose] public section

set_option maxRecDepth 16384

noncomputable section

open Idealize.ShloMosaic Idealize.ShloMosaic.TcCoe Idealize.SL.Sem
open Idealize.ShloMosaic.Pipeline (Dat)
open scoped BigOperators

namespace Cert.SumKernel.Sum

open Cert.SumKernel Cert.SumKernel.Gen

section

variable {F : FTy → Type} [FloatOps F] (m : (ℓ : Loc nD τ sig) → Buf (Elt F) ℓ)

/-- The table holds 0. -/
theorem tbl_eq : tbl m 0 = fun _ => 0#32 := by
  funext i
  change V m 0 main_v2 i = 0#32
  unfold V
  simp only [hostOps0, List.flatten_cons, List.flatten_nil, List.cons_append, List.nil_append, List.append_nil,
    StableHlo.TRef.nullary, StableHlo.TRef.unary, StableHlo.TRef.toBuf, StableHlo.TRef.ofBuf, cast_eq]
  after_results_simp
  pointwise

/-- The word that the first window's place is computed from. -/
theorem word : (tbl m).at 0 (Rect.unit (s := S1) ![0] S1.size inb_S1_S1_0) numel1_S1 = 0#32 :=
  congrFun (tbl_eq m) _

/-- The block of the gradient at a point of the grid: every second one. -/
theorem place (i : grid0.Coords) : cc0_transform_0 inb_S1_S1_0 numel1_S1 (tbl m) i = ![2 * (i 0).val, (i 1).val, 0] := by
  unfold cc0_transform_0
  rw [word m]
  exact (by decide +kernel : ∀ i : grid0.Coords, (![(Scalar.addi (Scalar.muli 2#32 (BitVec.ofNat 32 (i 0).val)) 0#32).toNat,
    (BitVec.ofNat 32 (i 1).val).toNat, (0#32).toNat] : Fin 3 → ℕ) = ![2 * (i 0).val, (i 1).val, 0]) i

/-- Every block lies inside its array. -/
theorem ok : Ok m := fun i => by
  rw [place m i]
  exact ⟨(by decide +kernel : ∀ i : grid0.Coords, ∀ a, ((![2 * (i 0).val, (i 1).val, 0] : Fin 3 → ℕ) a + 1) * S1x1026x1024.size a ≤ S8x1026x1024.size a) i,
    .inr (Affine.block_words_dvd (of_decide_eq_true rfl) (by decide))⟩

end

end Cert.SumKernel.Sum

namespace Cert.SumKernelIdeal.Sum

open Cert.SumKernelIdeal Cert.SumKernelIdeal.Gen

section

variable {F : FTy → Type} [FloatOps F] (m : (ℓ : Loc nD τ sig) → Buf (Elt F) ℓ)

/-- The table holds 0. -/
theorem tbl_eq : tbl m 0 = fun _ => 0#32 := by
  funext i
  change V m 0 main_v2 i = 0#32
  unfold V
  simp only [hostOps0, List.flatten_cons, List.flatten_nil, List.cons_append, List.nil_append, List.append_nil,
    StableHlo.TRef.nullary, StableHlo.TRef.unary, StableHlo.TRef.toBuf, StableHlo.TRef.ofBuf, cast_eq]
  after_results_simp
  pointwise

/-- The word that the first window's place is computed from. -/
theorem word : (tbl m).at 0 (Rect.unit (s := S1) ![0] S1.size inb_S1_S1_0) numel1_S1 = 0#32 :=
  congrFun (tbl_eq m) _

/-- The block of the gradient at a point of the grid: every second one. -/
theorem place (i : grid0.Coords) : cc0_transform_0 inb_S1_S1_0 numel1_S1 (tbl m) i = ![2 * (i 0).val, (i 1).val, 0] := by
  unfold cc0_transform_0
  rw [word m]
  exact (by decide +kernel : ∀ i : grid0.Coords, (![(Scalar.addi (Scalar.muli 2#32 (BitVec.ofNat 32 (i 0).val)) 0#32).toNat,
    (BitVec.ofNat 32 (i 1).val).toNat, (0#32).toNat] : Fin 3 → ℕ) = ![2 * (i 0).val, (i 1).val, 0]) i

/-- Every block lies inside its array. -/
theorem ok : Ok m := fun i => by
  rw [place m i]
  exact ⟨(by decide +kernel : ∀ i : grid0.Coords, ∀ a, ((![2 * (i 0).val, (i 1).val, 0] : Fin 3 → ℕ) a + 1) * S1x1026x1024.size a ≤ S8x1026x1024.size a) i,
    .inr (Affine.block_words_dvd (of_decide_eq_true rfl) (by decide))⟩

end

open Cert.SumReferenceIdeal.Read

variable (m : (ℓ : Loc nD τ sig) → Buf (Elt Ideal) ℓ) (c : Dev nD)

/-- The two arguments: this device's gradient in blocks, the other device's part. -/
abbrev inG : FVec Ideal S8x1026x1024 .f32 := m ((c.tc : Thread nD τ).loc main_arg0)
abbrev inP : FVec Ideal S4x1026x1024 .f32 := m ((c.tc : Thread nD τ).loc main_arg1)

theorem grad_at (i j : S8x1026x1024.Idx) (h : i = j) : V m c main_v0 i = inG m c j := by
  subst h
  unfold V
  simp only [hostOps0, List.flatten_cons, List.flatten_nil, List.cons_append, List.nil_append, List.append_nil,
    StableHlo.TRef.nullary, StableHlo.TRef.unary, StableHlo.TRef.toBuf, StableHlo.TRef.ofBuf, cast_eq]
  after_results_simp
  pointwise

theorem part_at (i j : S4x1026x1024.Idx) (h : i = j) : V m c main_v1 i = inP m c j := by
  subst h
  unfold V
  simp only [hostOps0, List.flatten_cons, List.flatten_nil, List.cons_append, List.nil_append, List.append_nil,
    StableHlo.TRef.nullary, StableHlo.TRef.unary, StableHlo.TRef.toBuf, StableHlo.TRef.ofBuf, cast_eq]
  after_results_simp
  pointwise

/-- The sum at one entry: the block of the gradient is the one of twice the number. -/
theorem ref_at (d : Fin 4) (r : Fin 1026) (k : Fin 1024) (e : Fin 8) (he : e.val = d.val * 2) :
    val_main_v4 (F := Ideal) (inG m c) (inP m c) (ix3 d r k)
      = (show EReal from inG m c (ix3 e r k)) + (show EReal from inP m c (ix3 d r k)) := by
  have hd := d.isLt
  have hr := r.isLt
  have hk := k.isLt
  obtain ⟨d, _⟩ := d
  obtain ⟨e, _⟩ := e
  dsimp only at he hd
  subst he
  pointwise [val_main_v4, val_main_v3, val_main_v2, val_main_v1, val_main_v0]

theorem pay_at (x y : FVec Ideal S1x1026x1024 .bf16) (i : S1x1026x1024.Idx) :
    k0_pay1 (F := Ideal) x y i = (show EReal from x i) + (show EReal from y i) := by
  pointwise [k0_pay1]

/-- An index of three axes is given by its coordinates. -/
theorem emb3_eq {a b d : ℕ} (i : (⟨3, ![a, b, d]⟩ : Shape).Idx) (p : Fin a) (r : Fin b) (k : Fin d) (h0 : (i 0).val = p.val)
    (h1 : (i 1).val = r.val) (h2 : (i 2).val = k.val) : i = ix3 p r k := by
  funext q
  fin_cases q
  · exact Fin.ext h0
  · exact Fin.ext h1
  · exact Fin.ext h2

/-- The two blocks at a point. -/
abbrev bG (t : Fin grid0.N) : FVec Ideal S1x1026x1024 .bf16 := iblk m (ok m) c 0 t
abbrev bP (t : Fin grid0.N) : FVec Ideal S1x1026x1024 .bf16 := iblk m (ok m) c 1 t

/-- Where each window's block stands at a point of the grid. -/
theorem idx (t : Fin grid0.N) : ((cfgM m (ok m)).win 0).index t = ![2 * t.val, 0, 0]
    ∧ ((cfgM m (ok m)).win 1).index t = ![t.val, 0, 0]
    ∧ ((cfgM m (ok m)).win 2).index t = ![t.val, 0, 0] := by
  refine ⟨(place m (grid0.coords t)).trans ?_, ?_, ?_⟩
  · exact (by decide +kernel : ∀ t : Fin grid0.N, (![2 * (grid0.coords t 0).val, (grid0.coords t 1).val, 0] : Fin 3 → ℕ) = ![2 * t.val, 0, 0]) t
  · exact (by decide +kernel : ∀ t : Fin grid0.N, cc0_transform_1 (grid0.coords t) = ![t.val, 0, 0]) t
  · exact (by decide +kernel : ∀ t : Fin grid0.N, cc0_transform_2 (grid0.coords t) = ![t.val, 0, 0]) t

theorem bG_at (t : Fin grid0.N) (r : Fin 1026) (k : Fin 1024) (e : Fin 8) (he : e.val = t.val * 2) :
    bG m c t (ix3 0 r k) = inG m c (ix3 e r k) := by
  obtain ⟨i0, i1, i2⟩ := idx m t
  refine grad_at m c _ _ (emb3_eq _ e r k ?_ ?_ ?_)
  · blk_simp [i0]
    exact (Nat.add_zero _).trans (by omega)
  · blk_simp [i0]
  · blk_simp [i0]

theorem bP_at (t : Fin grid0.N) (r : Fin 1026) (k : Fin 1024) (d : Fin 4) (hd : d.val = t.val) :
    bP m c t (ix3 0 r k) = inP m c (ix3 d r k) := by
  obtain ⟨i0, i1, i2⟩ := idx m t
  refine part_at m c _ _ (emb3_eq _ d r k ?_ ?_ ?_)
  · blk_simp [i1]
    exact (Nat.add_zero _).trans hd.symm
  · blk_simp [i1]
  · blk_simp [i1]

/-- Every entry of the result lies in the block of one point. -/
theorem covered (i : S4x1026x1024.Idx) : ∃ t : Fin (cfgM m (ok m)).N, ((cfgM m (ok m)).win 2).flush t = true
    ∧ ((cfgM m (ok m)).win 2).arr.view.emb i ∈ (((cfgM m (ok m)).win 2).blk t).view.set := by
  obtain ⟨t, ht⟩ : ∃ t : Fin grid0.N, t.val = (i 0).val := ⟨⟨(i 0).val, lt_of_lt_of_eq (i 0).isLt N_0.symm⟩, rfl⟩
  have h1 : (i 1).val < 1026 := (i 1).isLt
  have h2 : (i 2).val < 1024 := (i 2).isLt
  refine ⟨t, flush0_2 _ t, (((cfgM m (ok m)).win 2).emb_mem_blk_iff t i).mpr fun a => ?_⟩
  rw [(idx m t).2.2]
  fin_cases a
  · show t.val * 1 ≤ (i 0).val ∧ (i 0).val < t.val * 1 + 1
    omega
  · show 0 * 1026 ≤ (i 1).val ∧ (i 1).val < 0 * 1026 + 1026
    omega
  · show 0 * 1024 ≤ (i 2).val ∧ (i 2).val < 0 * 1024 + 1024
    omega

/-- The sum at one entry of a block. -/
theorem block (t : Fin grid0.N) (y : S1x1026x1024.Idx) : k0_pay1 (F := Ideal) (bG m c t) (bP m c t) y
    = val_main_v4 (F := Ideal) (inG m c) (inP m c) ((((cfgM m (ok m)).win 2).blk t).view.emb y) := by
  refine (pay_at _ _ y).trans ?_
  have z0 : (y 0).val < 1 := (y 0).isLt
  obtain ⟨r, hr⟩ : ∃ r : Fin 1026, r.val = (y 1).val := ⟨⟨(y 1).val, (y 1).isLt⟩, rfl⟩
  obtain ⟨k, hk⟩ : ∃ k : Fin 1024, k.val = (y 2).val := ⟨⟨(y 2).val, (y 2).isLt⟩, rfl⟩
  have ht : t.val < 4 := lt_of_lt_of_eq t.isLt N_0
  obtain ⟨d, hd⟩ : ∃ d : Fin 4, d.val = t.val := ⟨⟨t.val, ht⟩, rfl⟩
  obtain ⟨e, he⟩ : ∃ e : Fin 8, e.val = t.val * 2 := ⟨⟨t.val * 2, by omega⟩, rfl⟩
  obtain ⟨i0, i1, i2⟩ := idx m t
  have ey : y = ix3 0 r k := emb3_eq y 0 r k (by show (y 0).val = 0; omega) hr.symm hk.symm
  have ez : (((cfgM m (ok m)).win 2).blk t).view.emb y = ix3 d r k :=
    emb3_eq _ d r k (by blk_simp [i2]; omega) (by blk_simp [i2]; omega) (by blk_simp [i2]; omega)
  refine Eq.trans ?_ (congrArg (val_main_v4 (F := Ideal) (inG m c) (inP m c)) ez.symm)
  refine Eq.trans ?_ (ref_at m c d r k e (by omega)).symm
  rw [ey, bG_at m c t r k e he, bP_at m c t r k d hd]

/-- The sum after the run. -/
theorem final_2 : (dats m (ok m) 0 c).arrAt 2 (cfgM m (ok m)).N = val_main_v4 (F := Ideal) (inG m c) (inP m c) := by
  refine (dats m (ok m) 0 c).arrAt_eq_of_emb 2 _ (fun t hf y => ?_) fun i => ?_
  · blk_simp; rw [after0_2]
    unfold outsAt0
    frame_out
    refine (congrFun (congrArg₂ (k0_pay1 (F := Ideal)) (Memref.IsWhole.read_unread _ (bG m c t)) (Memref.IsWhole.read_unread _ (bP m c t))) y).trans ?_
    exact block m c t y
  · exact covered m i

end Cert.SumKernelIdeal.Sum

namespace Cert.SumPair

open Cert.SumKernelIdeal Cert.SumKernelIdeal.Gen
open Cert.SumReferenceIdeal.Read
open Cert.SumKernelIdeal.Sum (inG inP ok final_2)

/-- The pair's claim. -/
theorem algebraic : algebraic_SumKernelIdeal_SumReferenceIdeal := by
  intro m g m' g' hpre hargs
  refine ⟨fun c => val_main_v4 (F := Ideal) (inG m c) (inP m c), ?_, ?_⟩
  · refine (θ_run _ _ _).mono (fun r h c => ?_) (Cert.SumKernelIdeal.Gen.run_main m g (ok m))
    exact ⟨((h c).1 2).trans (final_2 m c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩
  · refine (θ_run _ _ _).mono (fun r h c => ?_) (Cert.SumReferenceIdeal.Value.run m' g')
    obtain ⟨h1, a⟩ := h c
    rw [val_main_v4_eq, (hargs c).1, (hargs c).2] at h1
    exact ⟨h1, a⟩

end Cert.SumPair

end
-- ==== Proof.lean ====
/- The proof of everything the statement states: for each call its programs terminate and leave their arguments, dropping the
   precision keeps nothing else, and the kernel's results are its reference's. Each pair's value claim has its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gate_finite
public import proofs.«01_k».proof.Proof.Gen.On_gate_columns
public import proofs.«01_k».proof.Proof.Gen.KernelIdeal.Value
public import proofs.«01_k».proof.Proof.Gen.InputKernel
public import proofs.«01_k».proof.Proof.Gen.InputKernel.Skeleton
public import proofs.«01_k».proof.Proof.Gen.InputKernel.Launch
public import proofs.«01_k».proof.Proof.Gen.InputKernel.Points
public import proofs.«01_k».proof.Proof.Gen.InputKernel.Frame
public import proofs.«01_k».proof.Proof.Gen.InputKernelIdeal
public import proofs.«01_k».proof.Proof.Gen.InputKernelIdeal.Skeleton
public import proofs.«01_k».proof.Proof.Gen.InputKernelIdeal.Launch
public import proofs.«01_k».proof.Proof.Gen.InputKernelIdeal.Points
public import proofs.«01_k».proof.Proof.Gen.InputKernelIdeal.Frame
public import proofs.«01_k».proof.Proof.Gen.InputReferenceIdeal
public import proofs.«01_k».proof.Proof.Gen.InputReferenceIdeal.Run
public import proofs.«01_k».proof.Proof.Gen.InputReferenceIdeal.Read
public import proofs.«01_k».proof.Proof.GatePair
public import proofs.«01_k».proof.Proof.ConvPair
public import proofs.«01_k».proof.Proof.QkvPair
public import proofs.«01_k».proof.Proof.ScalPair
public import proofs.«01_k».proof.Proof.ScalAlog
public import proofs.«01_k».proof.Proof.LossPair
public import proofs.«01_k».proof.Proof.Gen.FprojKernel
public import proofs.«01_k».proof.Proof.Gen.FprojKernel.Skeleton
public import proofs.«01_k».proof.Proof.Gen.FprojKernel.Launch
public import proofs.«01_k».proof.Proof.Gen.FprojKernel.Points
public import proofs.«01_k».proof.Proof.Gen.FprojKernel.Frame
public import proofs.«01_k».proof.Proof.Gen.FprojKernelIdeal
public import proofs.«01_k».proof.Proof.Gen.FprojKernelIdeal.Skeleton
public import proofs.«01_k».proof.Proof.Gen.FprojKernelIdeal.Launch
public import proofs.«01_k».proof.Proof.Gen.FprojKernelIdeal.Points
public import proofs.«01_k».proof.Proof.Gen.FprojKernelIdeal.Frame
public import proofs.«01_k».proof.Proof.Gen.FprojReferenceIdeal
public import proofs.«01_k».proof.Proof.Gen.FprojReferenceIdeal.Run
public import proofs.«01_k».proof.Proof.Gen.FprojReferenceIdeal.Read
public import proofs.«01_k».proof.Proof.InputFrameBits
public import proofs.«01_k».proof.Proof.InputPair
public import proofs.«01_k».proof.Proof.FgatePair
public import proofs.«01_k».proof.Proof.FconvPair
public import proofs.«01_k».proof.Proof.FqkvPair
public import proofs.«01_k».proof.Proof.FscalPair
public import proofs.«01_k».proof.Proof.FprojFrameBits
public import proofs.«01_k».proof.Proof.FprojPair
public import proofs.«01_k».proof.Proof.TnPair
public import proofs.«01_k».proof.Proof.AdamPair
public import proofs.«01_k».proof.Proof.PackPair
public import proofs.«01_k».proof.Proof.BlocksPair
public import proofs.«01_k».proof.Proof.SumPair
public import proofs.«01_k».proof.Proof.Gen.ReferenceIdeal.Run
public import proofs.«01_k».proof.Proof.Gen.ReferenceIdeal.Read
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Pre_conv_finite
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.Pre_qkv_finite
public import proofs.«01_k».proof.Proof.Gen.ScalKernel
public import proofs.«01_k».proof.Proof.Gen.ScalKernel.Skeleton
public import proofs.«01_k».proof.Proof.Gen.ScalKernel.Launch
public import proofs.«01_k».proof.Proof.Gen.ScalKernel.Points
public import proofs.«01_k».proof.Proof.Gen.ScalKernel.Frame
public import proofs.«01_k».proof.Proof.Gen.ScalKernelIdeal
public import proofs.«01_k».proof.Proof.Gen.ScalKernelIdeal.Skeleton
public import proofs.«01_k».proof.Proof.Gen.ScalKernelIdeal.Launch
public import proofs.«01_k».proof.Proof.Gen.ScalKernelIdeal.Points
public import proofs.«01_k».proof.Proof.Gen.ScalKernelIdeal.Frame
public import proofs.«01_k».proof.Proof.Gen.ScalKernelIdeal.Value
public import proofs.«01_k».proof.Proof.Gen.ScalReferenceIdeal
public import proofs.«01_k».proof.Proof.Gen.ScalReferenceIdeal.Run
public import proofs.«01_k».proof.Proof.Gen.ScalReferenceIdeal.Read
public import proofs.«01_k».proof.Proof.Gen.Pre_scal_finite
public import proofs.«01_k».proof.Proof.Gen.Pre_scal_small
public import proofs.«01_k».proof.Proof.Gen.On_scal_on
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.FgateKernel
public import proofs.«01_k».proof.Proof.Gen.FgateKernel.Skeleton
public import proofs.«01_k».proof.Proof.Gen.FgateKernel.Launch
public import proofs.«01_k».proof.Proof.Gen.FgateKernel.Points
public import proofs.«01_k».proof.Proof.Gen.FgateKernel.Frame
public import proofs.«01_k».proof.Proof.Gen.FgateKernelIdeal
public import proofs.«01_k».proof.Proof.Gen.FgateKernelIdeal.Skeleton
public import proofs.«01_k».proof.Proof.Gen.FgateKernelIdeal.Launch
public import proofs.«01_k».proof.Proof.Gen.FgateKernelIdeal.Points
public import proofs.«01_k».proof.Proof.Gen.FgateKernelIdeal.Frame
public import proofs.«01_k».proof.Proof.Gen.FgateKernelIdeal.Value
public import proofs.«01_k».proof.Proof.Gen.FgateReferenceIdeal
public import proofs.«01_k».proof.Proof.Gen.FgateReferenceIdeal.Run
public import proofs.«01_k».proof.Proof.Gen.FgateReferenceIdeal.Read
public import proofs.«01_k».proof.Proof.Gen.FconvKernel
public import proofs.«01_k».proof.Proof.Gen.FconvKernel.Skeleton
public import proofs.«01_k».proof.Proof.Gen.FconvKernel.Launch
public import proofs.«01_k».proof.Proof.Gen.FconvKernel.Points
public import proofs.«01_k».proof.Proof.Gen.FconvKernel.Frame
public import proofs.«01_k».proof.Proof.Gen.FconvKernelIdeal
public import proofs.«01_k».proof.Proof.Gen.FconvKernelIdeal.Skeleton
public import proofs.«01_k».proof.Proof.Gen.FconvKernelIdeal.Launch
public import proofs.«01_k».proof.Proof.Gen.FconvKernelIdeal.Points
public import proofs.«01_k».proof.Proof.Gen.FconvKernelIdeal.Frame
public import proofs.«01_k».proof.Proof.Gen.FconvKernelIdeal.Value
public import proofs.«01_k».proof.Proof.Gen.FconvReferenceIdeal
public import proofs.«01_k».proof.Proof.Gen.FconvReferenceIdeal.Run
public import proofs.«01_k».proof.Proof.Gen.FconvReferenceIdeal.Read
public import proofs.«01_k».proof.Proof.Gen.FqkvKernel
public import proofs.«01_k».proof.Proof.Gen.FqkvKernel.Skeleton
public import proofs.«01_k».proof.Proof.Gen.FqkvKernel.Launch
public import proofs.«01_k».proof.Proof.Gen.FqkvKernel.Points
public import proofs.«01_k».proof.Proof.Gen.FqkvKernel.Frame
public import proofs.«01_k».proof.Proof.Gen.FqkvKernelIdeal
public import proofs.«01_k».proof.Proof.Gen.FqkvKernelIdeal.Skeleton
public import proofs.«01_k».proof.Proof.Gen.FqkvKernelIdeal.Launch
public import proofs.«01_k».proof.Proof.Gen.FqkvKernelIdeal.Points
public import proofs.«01_k».proof.Proof.Gen.FqkvKernelIdeal.Frame
public import proofs.«01_k».proof.Proof.Gen.FqkvKernelIdeal.Value
public import proofs.«01_k».proof.Proof.Gen.FqkvReferenceIdeal
public import proofs.«01_k».proof.Proof.Gen.FqkvReferenceIdeal.Run
public import proofs.«01_k».proof.Proof.Gen.FqkvReferenceIdeal.Read
public import proofs.«01_k».proof.Proof.Gen.FscalKernel
public import proofs.«01_k».proof.Proof.Gen.FscalKernel.Skeleton
public import proofs.«01_k».proof.Proof.Gen.FscalKernel.Launch
public import proofs.«01_k».proof.Proof.Gen.FscalKernel.Points
public import proofs.«01_k».proof.Proof.Gen.FscalKernel.Frame
public import proofs.«01_k».proof.Proof.Gen.FscalKernelIdeal
public import proofs.«01_k».proof.Proof.Gen.FscalKernelIdeal.Skeleton
public import proofs.«01_k».proof.Proof.Gen.FscalKernelIdeal.Launch
public import proofs.«01_k».proof.Proof.Gen.FscalKernelIdeal.Points
public import proofs.«01_k».proof.Proof.Gen.FscalKernelIdeal.Frame
public import proofs.«01_k».proof.Proof.Gen.FscalKernelIdeal.Value
public import proofs.«01_k».proof.Proof.Gen.FscalReferenceIdeal
public import proofs.«01_k».proof.Proof.Gen.FscalReferenceIdeal.Run
public import proofs.«01_k».proof.Proof.Gen.FscalReferenceIdeal.Read
public import proofs.«01_k».proof.Proof.Gen.Pre_fscal_small
public import proofs.«01_k».proof.Proof.Gen.GdnKernel
public import proofs.«01_k».proof.Proof.Gen.GdnKernel.Skeleton
public import proofs.«01_k».proof.Proof.Gen.GdnKernel.Launch
public import proofs.«01_k».proof.Proof.Gen.GdnKernel.Points
public import proofs.«01_k».proof.Proof.Gen.GdnKernel.Frame
public import proofs.«01_k».proof.Proof.Gen.GdnKernelIdeal
public import proofs.«01_k».proof.Proof.Gen.GdnKernelIdeal.Skeleton
public import proofs.«01_k».proof.Proof.Gen.GdnKernelIdeal.Launch
public import proofs.«01_k».proof.Proof.Gen.GdnKernelIdeal.Points
public import proofs.«01_k».proof.Proof.Gen.GdnKernelIdeal.Frame
public import proofs.«01_k».proof.Proof.Gen.On_fgate_columns
public import proofs.«01_k».proof.Proof.Gen.TnKernel
public import proofs.«01_k».proof.Proof.Gen.TnKernel.Skeleton
public import proofs.«01_k».proof.Proof.Gen.TnKernel.Launch
public import proofs.«01_k».proof.Proof.Gen.TnKernel.Points
public import proofs.«01_k».proof.Proof.Gen.TnKernel.Frame
public import proofs.«01_k».proof.Proof.Gen.TnKernelIdeal
public import proofs.«01_k».proof.Proof.Gen.TnKernelIdeal.Skeleton
public import proofs.«01_k».proof.Proof.Gen.TnKernelIdeal.Launch
public import proofs.«01_k».proof.Proof.Gen.TnKernelIdeal.Points
public import proofs.«01_k».proof.Proof.Gen.TnKernelIdeal.Frame
public import proofs.«01_k».proof.Proof.Gen.TnKernelIdeal.Value
public import proofs.«01_k».proof.Proof.Gen.TnReferenceIdeal
public import proofs.«01_k».proof.Proof.Gen.TnReferenceIdeal.Run
public import proofs.«01_k».proof.Proof.Gen.TnReferenceIdeal.Read
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.PackKernel
public import proofs.«01_k».proof.Proof.Gen.PackKernel.Skeleton
public import proofs.«01_k».proof.Proof.Gen.PackKernel.Launch
public import proofs.«01_k».proof.Proof.Gen.PackKernel.Points
public import proofs.«01_k».proof.Proof.Gen.PackKernel.Frame
public import proofs.«01_k».proof.Proof.Gen.PackKernelIdeal
public import proofs.«01_k».proof.Proof.Gen.PackKernelIdeal.Skeleton
public import proofs.«01_k».proof.Proof.Gen.PackKernelIdeal.Launch
public import proofs.«01_k».proof.Proof.Gen.PackKernelIdeal.Points
public import proofs.«01_k».proof.Proof.Gen.PackKernelIdeal.Frame
public import proofs.«01_k».proof.Proof.Gen.PackKernelIdeal.Value
public import proofs.«01_k».proof.Proof.Gen.PackReferenceIdeal
public import proofs.«01_k».proof.Proof.Gen.PackReferenceIdeal.Run
public import proofs.«01_k».proof.Proof.Gen.PackReferenceIdeal.Read
public import proofs.«01_k».proof.Proof.Gen.BlocksKernel
public import proofs.«01_k».proof.Proof.Gen.BlocksKernel.Skeleton
public import proofs.«01_k».proof.Proof.Gen.BlocksKernel.Launch
public import proofs.«01_k».proof.Proof.Gen.BlocksKernel.Points
public import proofs.«01_k».proof.Proof.Gen.BlocksKernel.Frame
public import proofs.«01_k».proof.Proof.Gen.BlocksKernelIdeal
public import proofs.«01_k».proof.Proof.Gen.BlocksKernelIdeal.Skeleton
public import proofs.«01_k».proof.Proof.Gen.BlocksKernelIdeal.Launch
public import proofs.«01_k».proof.Proof.Gen.BlocksKernelIdeal.Points
public import proofs.«01_k».proof.Proof.Gen.BlocksKernelIdeal.Frame
public import proofs.«01_k».proof.Proof.Gen.BlocksKernelIdeal.Value
public import proofs.«01_k».proof.Proof.Gen.BlocksReferenceIdeal
public import proofs.«01_k».proof.Proof.Gen.BlocksReferenceIdeal.Run
public import proofs.«01_k».proof.Proof.Gen.BlocksReferenceIdeal.Read
public import proofs.«01_k».proof.Proof.Gen.SumKernel
public import proofs.«01_k».proof.Proof.Gen.SumKernel.Skeleton
public import proofs.«01_k».proof.Proof.Gen.SumKernel.Launch
public import proofs.«01_k».proof.Proof.Gen.SumKernel.Points
public import proofs.«01_k».proof.Proof.Gen.SumKernel.Frame
public import proofs.«01_k».proof.Proof.Gen.SumKernelIdeal
public import proofs.«01_k».proof.Proof.Gen.SumKernelIdeal.Skeleton
public import proofs.«01_k».proof.Proof.Gen.SumKernelIdeal.Launch
public import proofs.«01_k».proof.Proof.Gen.SumKernelIdeal.Points
public import proofs.«01_k».proof.Proof.Gen.SumKernelIdeal.Frame
public import proofs.«01_k».proof.Proof.Gen.SumReferenceIdeal
public import proofs.«01_k».proof.Proof.Gen.SumReferenceIdeal.Run
public import proofs.«01_k».proof.Proof.Gen.SumReferenceIdeal.Read
public import Idealize.ShloMosaic.Adequacy
public import Idealize.ShloMosaic.Init

@[expose] public section

noncomputable section

namespace Cert.Proof

open Idealize.ShloMosaic Idealize.SL.Sem Cert.Kernel

/-- The gate's reference terminates and leaves its arguments. -/
theorem frame_reference : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

/-- The convolution's reference terminates and leaves its arguments. -/
theorem frame_conv_reference : Cert.quiescent_ConvReferenceIdeal := by
  intro m g _
  exact (θ_run Cert.ConvReferenceIdeal.defs _ _).mono
    (fun r h => ⟨fun c => (h c).2.2.2, sem_eq_zero_of_no_sems (by decide) r.2⟩) (Cert.ConvReferenceIdeal.Value.run m g)

/-- The reference of the queries, keys and values terminates and leaves its arguments. -/
theorem frame_qkv_reference : Cert.quiescent_QkvReferenceIdeal := by
  intro m g _
  exact (θ_run Cert.QkvReferenceIdeal.defs _ _).mono
    (fun r h => ⟨fun c => (h c).2.2, sem_eq_zero_of_no_sems (by decide) r.2⟩) (Cert.QkvReferenceIdeal.Value.run m g)

/-- The reference of the write strength and the decay terminates and leaves its arguments. -/
theorem frame_scal_reference : Cert.quiescent_ScalReferenceIdeal := by
  intro m g _
  exact (θ_run Cert.ScalReferenceIdeal.defs _ _).mono
    (fun r h => ⟨fun c => (h c).2.2, sem_eq_zero_of_no_sems (by decide) r.2⟩) (Cert.ScalReferenceIdeal.Value.run m g)

/-- The reference of the output projection and the loss terminates and leaves its arguments. -/
theorem frame_loss_reference : Cert.quiescent_LossReferenceIdeal := by
  intro m g _
  exact (θ_run Cert.LossReferenceIdeal.defs _ _).mono
    (fun r h => ⟨fun c => (h c).2.2.2.2.2, sem_eq_zero_of_no_sems (by decide) r.2⟩) (Cert.LossReferenceIdeal.Value.run m g)

/-- The reference of the input projection's gradients terminates and leaves its arguments. -/
theorem frame_input_reference : Cert.quiescent_InputReferenceIdeal := by
  intro m g _
  exact (θ_run Cert.InputReferenceIdeal.defs _ _).mono
    (fun r h => ⟨fun c => (h c).2.2, sem_eq_zero_of_no_sems (by decide) r.2⟩) (Cert.InputReferenceIdeal.Value.run m g)

/-- The reference of the gate's forward call terminates and leaves its arguments. -/
theorem frame_fgate_reference : Cert.quiescent_FgateReferenceIdeal := by
  intro m g _
  exact (θ_run Cert.FgateReferenceIdeal.defs _ _).mono
    (fun r h => ⟨fun c => (h c).2, sem_eq_zero_of_no_sems (by decide) r.2⟩) (Cert.FgateReferenceIdeal.Value.run m g)

/-- The reference of the convolution's forward call terminates and leaves its arguments. -/
theorem frame_fconv_reference : Cert.quiescent_FconvReferenceIdeal := by
  intro m g _
  exact (θ_run Cert.FconvReferenceIdeal.defs _ _).mono
    (fun r h => ⟨fun c => (h c).2, sem_eq_zero_of_no_sems (by decide) r.2⟩) (Cert.FconvReferenceIdeal.Value.run m g)

/-- The reference of the forward call of the queries, keys and values terminates and leaves its arguments. -/
theorem frame_fqkv_reference : Cert.quiescent_FqkvReferenceIdeal := by
  intro m g _
  exact (θ_run Cert.FqkvReferenceIdeal.defs _ _).mono
    (fun r h => ⟨fun c => (h c).2, sem_eq_zero_of_no_sems (by decide) r.2⟩) (Cert.FqkvReferenceIdeal.Value.run m g)

/-- The reference of the forward call of the write strength and the decay terminates and leaves its arguments. -/
theorem frame_fscal_reference : Cert.quiescent_FscalReferenceIdeal := by
  intro m g _
  exact (θ_run Cert.FscalReferenceIdeal.defs _ _).mono
    (fun r h => ⟨fun c => (h c).2.2, sem_eq_zero_of_no_sems (by decide) r.2⟩) (Cert.FscalReferenceIdeal.Value.run m g)

/-- The reference of the input projection terminates and leaves its arguments. -/
theorem frame_fproj_reference : Cert.quiescent_FprojReferenceIdeal := by
  intro m g _
  exact (θ_run Cert.FprojReferenceIdeal.defs _ _).mono
    (fun r h => ⟨fun c => (h c).2.2, sem_eq_zero_of_no_sems (by decide) r.2⟩) (Cert.FprojReferenceIdeal.Value.run m g)

/-- The reference of a weight's gradient terminates and leaves its arguments. -/
theorem frame_tn_reference : Cert.quiescent_TnReferenceIdeal := by
  intro m g _
  exact (θ_run Cert.TnReferenceIdeal.defs _ _).mono
    (fun r h => ⟨fun c => (h c).2, sem_eq_zero_of_no_sems (by decide) r.2⟩) (Cert.TnReferenceIdeal.Value.run m g)

/-- The reference of the optimiser terminates and leaves its arguments. -/
theorem frame_adam_reference : Cert.quiescent_AdamReferenceIdeal := by
  intro m g _
  exact (θ_run Cert.AdamReferenceIdeal.defs _ _).mono
    (fun r h => ⟨fun c => (h c).2.2.2.2, sem_eq_zero_of_no_sems (by decide) r.2⟩) (Cert.AdamReferenceIdeal.Value.run m g)

/-- The reference of the packed gradients terminates and leaves its arguments. -/
theorem frame_pack_reference : Cert.quiescent_PackReferenceIdeal := by
  intro m g _
  exact (θ_run Cert.PackReferenceIdeal.defs _ _).mono
    (fun r h => ⟨fun c => (h c).2, sem_eq_zero_of_no_sems (by decide) r.2⟩) (Cert.PackReferenceIdeal.Value.run m g)

/-- The reference of the devices' blocks of a gradient terminates and leaves its arguments. -/
theorem frame_blocks_reference : Cert.quiescent_BlocksReferenceIdeal := by
  intro m g _
  exact (θ_run Cert.BlocksReferenceIdeal.defs _ _).mono
    (fun r h => ⟨fun c => (h c).2, sem_eq_zero_of_no_sems (by decide) r.2⟩) (Cert.BlocksReferenceIdeal.Value.run m g)

/-- The reference of the sum of two devices' blocks terminates and leaves its arguments. -/
theorem frame_sum_reference : Cert.quiescent_SumReferenceIdeal := by
  intro m g _
  exact (θ_run Cert.SumReferenceIdeal.defs _ _).mono
    (fun r h => ⟨fun c => (h c).2, sem_eq_zero_of_no_sems (by decide) r.2⟩) (Cert.SumReferenceIdeal.Value.run m g)

/-- Everything the statement states. -/
theorem claim : Cert.Claim := ⟨Cert.Kernel.Gen.facts, Cert.KernelIdeal.Gen.facts, Cert.ReferenceIdeal.Gen.facts,
  Cert.ConvKernel.Gen.facts, Cert.ConvKernelIdeal.Gen.facts, Cert.ConvReferenceIdeal.Gen.facts,
  Cert.QkvKernel.Gen.facts, Cert.QkvKernelIdeal.Gen.facts, Cert.QkvReferenceIdeal.Gen.facts,
  Cert.ScalKernel.Gen.facts, Cert.ScalKernelIdeal.Gen.facts, Cert.ScalReferenceIdeal.Gen.facts,
  Cert.LossKernel.Gen.facts, Cert.LossKernelIdeal.Gen.facts, Cert.LossReferenceIdeal.Gen.facts,
  Cert.InputKernel.Gen.facts, Cert.InputKernelIdeal.Gen.facts, Cert.InputReferenceIdeal.Gen.facts,
  Cert.FgateKernel.Gen.facts, Cert.FgateKernelIdeal.Gen.facts, Cert.FgateReferenceIdeal.Gen.facts,
  Cert.FconvKernel.Gen.facts, Cert.FconvKernelIdeal.Gen.facts, Cert.FconvReferenceIdeal.Gen.facts,
  Cert.FqkvKernel.Gen.facts, Cert.FqkvKernelIdeal.Gen.facts, Cert.FqkvReferenceIdeal.Gen.facts,
  Cert.FscalKernel.Gen.facts, Cert.FscalKernelIdeal.Gen.facts, Cert.FscalReferenceIdeal.Gen.facts,
  Cert.FprojKernel.Gen.facts, Cert.FprojKernelIdeal.Gen.facts, Cert.FprojReferenceIdeal.Gen.facts,
  Cert.GdnKernel.Gen.facts, Cert.GdnKernelIdeal.Gen.facts,
  Cert.TnKernel.Gen.facts, Cert.TnKernelIdeal.Gen.facts, Cert.TnReferenceIdeal.Gen.facts,
  Cert.AdamKernel.Gen.facts, Cert.AdamKernelIdeal.Gen.facts, Cert.AdamReferenceIdeal.Gen.facts,
  Cert.PackKernel.Gen.facts, Cert.PackKernelIdeal.Gen.facts, Cert.PackReferenceIdeal.Gen.facts,
  Cert.BlocksKernel.Gen.facts, Cert.BlocksKernelIdeal.Gen.facts, Cert.BlocksReferenceIdeal.Gen.facts,
  Cert.SumKernel.Gen.facts, Cert.SumKernelIdeal.Gen.facts, Cert.SumReferenceIdeal.Gen.facts,
  Cert.Pre_gate_finite.Gen.facts, Cert.Pre_conv_finite.Gen.facts, Cert.Pre_qkv_finite.Gen.facts, Cert.Pre_scal_finite.Gen.facts,
  Cert.Pre_scal_small.Gen.facts, Cert.Pre_fscal_small.Gen.facts,
  Cert.On_gate_columns.Gen.facts, Cert.On_scal_on.Gen.facts, Cert.On_fgate_columns.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.ConvKernel.Gen.frame m g, fun m g _ => Cert.ConvKernelIdeal.Gen.frame m g, fun m g _ => Cert.ConvKernelIdeal.Gen.frame m g,
  frame_conv_reference, fun m g _ => frame_conv_reference m g trivial,
  fun m g _ => Cert.QkvKernel.Gen.frame m g, fun m g _ => Cert.QkvKernelIdeal.Gen.frame m g, fun m g _ => Cert.QkvKernelIdeal.Gen.frame m g,
  frame_qkv_reference, fun m g _ => frame_qkv_reference m g trivial,
  fun m g _ => Cert.ScalKernel.Gen.frame m g, fun m g _ => Cert.ScalKernelIdeal.Gen.frame m g, fun m g _ => Cert.ScalKernelIdeal.Gen.frame m g,
  fun m g _ => Cert.ScalKernelIdeal.Gen.frame m g,
  frame_scal_reference, fun m g _ => frame_scal_reference m g trivial, fun m g _ => frame_scal_reference m g trivial,
  fun m g _ => Cert.LossKernel.Gen.frame m g, fun m g _ => Cert.LossKernelIdeal.Gen.frame m g, frame_loss_reference,
  fun m g _ => Cert.InputKernel.Own.frame m g, fun m g _ => Cert.InputKernelIdeal.Own.frame m g, frame_input_reference,
  fun m g _ => Cert.FgateKernel.Gen.frame m g, fun m g _ => Cert.FgateKernelIdeal.Gen.frame m g, frame_fgate_reference,
  fun m g _ => Cert.FconvKernel.Gen.frame m g, fun m g _ => Cert.FconvKernelIdeal.Gen.frame m g, frame_fconv_reference,
  fun m g _ => Cert.FqkvKernel.Gen.frame m g, fun m g _ => Cert.FqkvKernelIdeal.Gen.frame m g, frame_fqkv_reference,
  fun m g _ => Cert.FscalKernel.Gen.frame m g, fun m g _ => Cert.FscalKernelIdeal.Gen.frame m g, fun m g _ => Cert.FscalKernelIdeal.Gen.frame m g,
  frame_fscal_reference, fun m g _ => frame_fscal_reference m g trivial,
  fun m g _ => Cert.FprojKernel.Own.frame m g, fun m g _ => Cert.FprojKernelIdeal.Own.frame m g, frame_fproj_reference,
  fun m g _ => Cert.GdnKernel.Gen.frame m g, fun m g _ => Cert.GdnKernelIdeal.Gen.frame m g,
  fun m g _ => Cert.TnKernel.Gen.frame m g, fun m g _ => Cert.TnKernelIdeal.Gen.frame m g, frame_tn_reference,
  fun m g _ => Cert.AdamKernel.Gen.frame m g, fun m g _ => Cert.AdamKernelIdeal.Gen.frame m g, frame_adam_reference,
  fun m g _ => Cert.PackKernel.Gen.frame m g, fun m g _ => Cert.PackKernelIdeal.Gen.frame m g, frame_pack_reference,
  fun m g _ => Cert.BlocksKernel.Gen.frame m g, fun m g _ => Cert.BlocksKernelIdeal.Gen.frame m g, frame_blocks_reference,
  fun m g _ => Cert.SumKernel.Gen.frame m g (Cert.SumKernel.Sum.ok m),
  fun m g _ => Cert.SumKernelIdeal.Gen.frame m g (Cert.SumKernelIdeal.Sum.ok m), frame_sum_reference,
  trivial, Cert.GatePair.algebraic, trivial, Cert.ConvPair.algebraic,
  trivial, Cert.QkvPair.algebraic, trivial, Cert.ScalPair.algebraic, Cert.ScalAlog.algebraic,
  trivial, Cert.LossPair.algebraic,
  trivial, Cert.InputPair.algebraic,
  trivial, Cert.FgatePair.algebraic, trivial, Cert.FconvPair.algebraic, trivial, Cert.FqkvPair.algebraic,
  trivial, Cert.FscalPair.algebraic,
  trivial, Cert.FprojPair.algebraic,
  trivial,
  trivial, Cert.TnPair.algebraic, trivial, Cert.AdamPair.algebraic,
  trivial, Cert.PackPair.algebraic, trivial, Cert.BlocksPair.algebraic, trivial, Cert.SumPair.algebraic⟩

end Cert.Proof

end
